-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v2) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v263) = v0 c
          ∧ r.2.mem ((c.tc : Thread Cert.Reference3Ideal.nD Cert.Reference3Ideal.τ).loc Cert.Reference3Ideal.main_v265) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_1)) (v2 : (c : Dev Cert.Kernel4Ideal.nD) → Buf (Elt Ideal) ((c.tc : Thread Cert.Kernel4Ideal.nD Cert.Kernel4Ideal.τ).loc Cert.Kernel4Ideal.main_v36_2)) (v3 : (c : Dev Cert.Kernel4Ideal.nD) → Buf (Elt Ideal) ((c.tc : Thread Cert.Kernel4Ideal.nD Cert.Kernel4Ideal.τ).loc Cert.Kernel4Ideal.main_v36_3)) (v4 : (c : Dev Cert.Kernel4Ideal.nD) → Buf (Elt Ideal) ((c.tc : Thread Cert.Kernel4Ideal.nD Cert.Kernel4Ideal.τ).loc Cert.Kernel4Ideal.main_v36_4)) (v5 : (c : Dev Cert.Kernel4Ideal.nD) → Buf (Elt Ideal) ((c.tc : Thread Cert.Kernel4Ideal.nD Cert.Kernel4Ideal.τ).loc Cert.Kernel4Ideal.main_v36_5)) (v6 : (c : Dev Cert.Kernel4Ideal.nD) → Buf (Elt Ideal) ((c.tc : Thread Cert.Kernel4Ideal.nD Cert.Kernel4Ideal.τ).loc Cert.Kernel4Ideal.main_v36_6)) (v7 : (c : Dev Cert.Kernel4Ideal.nD) → Buf (Elt Ideal) ((c.tc : Thread Cert.Kernel4Ideal.nD Cert.Kernel4Ideal.τ).loc Cert.Kernel4Ideal.main_v36_7)) (v8 : (c : Dev Cert.Kernel4Ideal.nD) → Buf (Elt Ideal) ((c.tc : Thread Cert.Kernel4Ideal.nD Cert.Kernel4Ideal.τ).loc Cert.Kernel4Ideal.main_v36_8)) (v9 : (c : Dev Cert.Kernel4Ideal.nD) → Buf (Elt Ideal) ((c.tc : Thread Cert.Kernel4Ideal.nD Cert.Kernel4Ideal.τ).loc Cert.Kernel4Ideal.main_v36_9)) (v10 : (c : Dev Cert.Kernel4Ideal.nD) → Buf (Elt Ideal) ((c.tc : Thread Cert.Kernel4Ideal.nD Cert.Kernel4Ideal.τ).loc Cert.Kernel4Ideal.main_v36_10)) (v11 : (c : Dev Cert.Kernel4Ideal.nD) → Buf (Elt Ideal) ((c.tc : Thread Cert.Kernel4Ideal.nD Cert.Kernel4Ideal.τ).loc Cert.Kernel4Ideal.main_v36_11)) (v12 : (c : Dev Cert.Kernel4Ideal.nD) → Buf (Elt Ideal) ((c.tc : Thread Cert.Kernel4Ideal.nD Cert.Kernel4Ideal.τ).loc Cert.Kernel4Ideal.main_v36_12)) (v13 : (c : Dev Cert.Kernel4Ideal.nD) → Buf (Elt Ideal) ((c.tc : Thread Cert.Kernel4Ideal.nD Cert.Kernel4Ideal.τ).loc Cert.Kernel4Ideal.main_v36_13)) (v14 : (c : Dev Cert.Kernel4Ideal.nD) → Buf (Elt Ideal) ((c.tc : Thread Cert.Kernel4Ideal.nD Cert.Kernel4Ideal.τ).loc Cert.Kernel4Ideal.main_v36_14)) (v15 : (c : Dev Cert.Kernel4Ideal.nD) → Buf (Elt Ideal) ((c.tc : Thread Cert.Kernel4Ideal.nD Cert.Kernel4Ideal.τ).loc Cert.Kernel4Ideal.main_v36_15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_1) = v1 c
          ∧ r.2.mem ((c.tc : Thread Cert.Kernel4Ideal.nD Cert.Kernel4Ideal.τ).loc Cert.Kernel4Ideal.main_v36_2) = v2 c
          ∧ r.2.mem ((c.tc : Thread Cert.Kernel4Ideal.nD Cert.Kernel4Ideal.τ).loc Cert.Kernel4Ideal.main_v36_3) = v3 c
          ∧ r.2.mem ((c.tc : Thread Cert.Kernel4Ideal.nD Cert.Kernel4Ideal.τ).loc Cert.Kernel4Ideal.main_v36_4) = v4 c
          ∧ r.2.mem ((c.tc : Thread Cert.Kernel4Ideal.nD Cert.Kernel4Ideal.τ).loc Cert.Kernel4Ideal.main_v36_5) = v5 c
          ∧ r.2.mem ((c.tc : Thread Cert.Kernel4Ideal.nD Cert.Kernel4Ideal.τ).loc Cert.Kernel4Ideal.main_v36_6) = v6 c
          ∧ r.2.mem ((c.tc : Thread Cert.Kernel4Ideal.nD Cert.Kernel4Ideal.τ).loc Cert.Kernel4Ideal.main_v36_7) = v7 c
          ∧ r.2.mem ((c.tc : Thread Cert.Kernel4Ideal.nD Cert.Kernel4Ideal.τ).loc Cert.Kernel4Ideal.main_v36_8) = v8 c
          ∧ r.2.mem ((c.tc : Thread Cert.Kernel4Ideal.nD Cert.Kernel4Ideal.τ).loc Cert.Kernel4Ideal.main_v36_9) = v9 c
          ∧ r.2.mem ((c.tc : Thread Cert.Kernel4Ideal.nD Cert.Kernel4Ideal.τ).loc Cert.Kernel4Ideal.main_v36_10) = v10 c
          ∧ r.2.mem ((c.tc : Thread Cert.Kernel4Ideal.nD Cert.Kernel4Ideal.τ).loc Cert.Kernel4Ideal.main_v36_11) = v11 c
          ∧ r.2.mem ((c.tc : Thread Cert.Kernel4Ideal.nD Cert.Kernel4Ideal.τ).loc Cert.Kernel4Ideal.main_v36_12) = v12 c
          ∧ r.2.mem ((c.tc : Thread Cert.Kernel4Ideal.nD Cert.Kernel4Ideal.τ).loc Cert.Kernel4Ideal.main_v36_13) = v13 c
          ∧ r.2.mem ((c.tc : Thread Cert.Kernel4Ideal.nD Cert.Kernel4Ideal.τ).loc Cert.Kernel4Ideal.main_v36_14) = v14 c
          ∧ r.2.mem ((c.tc : Thread Cert.Kernel4Ideal.nD Cert.Kernel4Ideal.τ).loc Cert.Kernel4Ideal.main_v36_15) = v15 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v127) = v0 c
          ∧ r.2.mem ((c.tc : Thread Cert.Reference4Ideal.nD Cert.Reference4Ideal.τ).loc Cert.Reference4Ideal.main_v128) = v1 c
          ∧ r.2.mem ((c.tc : Thread Cert.Reference4Ideal.nD Cert.Reference4Ideal.τ).loc Cert.Reference4Ideal.main_v129) = v2 c
          ∧ r.2.mem ((c.tc : Thread Cert.Reference4Ideal.nD Cert.Reference4Ideal.τ).loc Cert.Reference4Ideal.main_v130) = v3 c
          ∧ r.2.mem ((c.tc : Thread Cert.Reference4Ideal.nD Cert.Reference4Ideal.τ).loc Cert.Reference4Ideal.main_v131) = v4 c
          ∧ r.2.mem ((c.tc : Thread Cert.Reference4Ideal.nD Cert.Reference4Ideal.τ).loc Cert.Reference4Ideal.main_v132) = v5 c
          ∧ r.2.mem ((c.tc : Thread Cert.Reference4Ideal.nD Cert.Reference4Ideal.τ).loc Cert.Reference4Ideal.main_v133) = v6 c
          ∧ r.2.mem ((c.tc : Thread Cert.Reference4Ideal.nD Cert.Reference4Ideal.τ).loc Cert.Reference4Ideal.main_v134) = v7 c
          ∧ r.2.mem ((c.tc : Thread Cert.Reference4Ideal.nD Cert.Reference4Ideal.τ).loc Cert.Reference4Ideal.main_v135) = v8 c
          ∧ r.2.mem ((c.tc : Thread Cert.Reference4Ideal.nD Cert.Reference4Ideal.τ).loc Cert.Reference4Ideal.main_v136) = v9 c
          ∧ r.2.mem ((c.tc : Thread Cert.Reference4Ideal.nD Cert.Reference4Ideal.τ).loc Cert.Reference4Ideal.main_v137) = v10 c
          ∧ r.2.mem ((c.tc : Thread Cert.Reference4Ideal.nD Cert.Reference4Ideal.τ).loc Cert.Reference4Ideal.main_v138) = v11 c
          ∧ r.2.mem ((c.tc : Thread Cert.Reference4Ideal.nD Cert.Reference4Ideal.τ).loc Cert.Reference4Ideal.main_v139) = v12 c
          ∧ r.2.mem ((c.tc : Thread Cert.Reference4Ideal.nD Cert.Reference4Ideal.τ).loc Cert.Reference4Ideal.main_v140) = v13 c
          ∧ r.2.mem ((c.tc : Thread Cert.Reference4Ideal.nD Cert.Reference4Ideal.τ).loc Cert.Reference4Ideal.main_v141) = v14 c
          ∧ r.2.mem ((c.tc : Thread Cert.Reference4Ideal.nD Cert.Reference4Ideal.τ).loc Cert.Reference4Ideal.main_v142) = v15 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8192x256 : Shape := ⟨2, ![8192, 256]⟩
abbrev S256x256 : Shape := ⟨2, ![256, 256]⟩
abbrev S_ : Shape := ⟨0, ![]⟩

class Facts : Prop where
  bitsLt_bf16_f32 : FTy.bits .bf16 < FTy.bits .f32
  bcast_S_S8192x256 : S_.BroadcastsInDim S8192x256 (![] : Fin 0 → Fin S8192x256.rank)
  bcast_S_S256x256 : S_.BroadcastsInDim S256x256 (![] : Fin 0 → Fin S256x256.rank)

variable [Facts]

def fn {F : FTy → Type} [FloatOps F] (main_arg0 : FVec F S8192x256 .bf16) (main_arg1 : FVec F S256x256 .bf16) (main_arg2 : FVec F S256x256 .bf16) (main_arg3 : FVec F S8192x256 .bf16) : IVec S8192x256 1 × IVec S256x256 1 × IVec S256x256 1 × IVec S8192x256 1 :=
  let main_v0 : FVec F S8192x256 .f32 := (extf .f32 · bitsLt_bf16_f32) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_v4 : FVec F S256x256 .f32 := (extf .f32 · bitsLt_bf16_f32) main_arg1
  let main_v5 : FVec F S256x256 .f32 := Host.absf main_v4
  let main_cst_0 : FVec F S_ .f32 := constant S_ .f32 0x7F800000#32
  let main_v6 : FVec F S256x256 .f32 := broadcastInDim S256x256 ![] bcast_S_S256x256 main_cst_0
  let main_v7 : IVec S256x256 1 := cmpf .olt main_v5 main_v6
  let main_v8 : FVec F S256x256 .f32 := (extf .f32 · bitsLt_bf16_f32) main_arg2
  let main_v9 : FVec F S256x256 .f32 := Host.absf main_v8
  let main_cst_1 : FVec F S_ .f32 := constant S_ .f32 0x7F800000#32
  let main_v10 : FVec F S256x256 .f32 := broadcastInDim S256x256 ![] bcast_S_S256x256 main_cst_1
  let main_v11 : IVec S256x256 1 := cmpf .olt main_v9 main_v10
  let main_v12 : FVec F S8192x256 .f32 := (extf .f32 · bitsLt_bf16_f32) main_arg3
  let main_v13 : FVec F S8192x256 .f32 := Host.absf main_v12
  let main_cst_2 : FVec F S_ .f32 := constant S_ .f32 0x7F800000#32
  let main_v14 : FVec F S8192x256 .f32 := broadcastInDim S8192x256 ![] bcast_S_S8192x256 main_cst_2
  let main_v15 : IVec S8192x256 1 := cmpf .olt main_v13 main_v14
  (main_v3, main_v7, main_v11, main_v15)
-- ==== Kernel.lean ====
abbrev S8192x256 : Shape := ⟨2, ![8192, 256]⟩
abbrev S256x256 : Shape := ⟨2, ![256, 256]⟩
abbrev S8192x4x64 : Shape := ⟨3, ![8192, 4, 64]⟩
abbrev S256x4x64 : Shape := ⟨3, ![256, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩
abbrev S8192x4 : Shape := ⟨2, ![8192, 4]⟩
abbrev S8192x128 : Shape := ⟨2, ![8192, 128]⟩
abbrev S1024x256 : Shape := ⟨2, ![1024, 256]⟩
abbrev S1024x128 : Shape := ⟨2, ![1024, 128]⟩
abbrev S8x8x128 : Shape := ⟨3, ![8, 8, 128]⟩
abbrev S2x128x256 : Shape := ⟨3, ![2, 128, 256]⟩
abbrev S2x128x1024 : Shape := ⟨3, ![2, 128, 1024]⟩
abbrev S256x128 : Shape := ⟨2, ![256, 128]⟩
abbrev S128x256 : Shape := ⟨2, ![128, 256]⟩
abbrev S1x128x256 : Shape := ⟨3, ![1, 128, 256]⟩
abbrev S128x128 : Shape := ⟨2, ![128, 128]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩
abbrev S1x256 : Shape := ⟨2, ![1, 256]⟩
abbrev S256x512 : Shape := ⟨2, ![256, 512]⟩
abbrev S512x128 : Shape := ⟨2, ![512, 128]⟩
abbrev S128x512 : Shape := ⟨2, ![128, 512]⟩
abbrev S512x256 : Shape := ⟨2, ![512, 256]⟩
abbrev S1x128x1024 : Shape := ⟨3, ![1, 128, 1024]⟩
abbrev S128x1024 : Shape := ⟨2, ![128, 1024]⟩

abbrev nBuf : Space → Nat
  | .hbm => 41
  | .vmem => 18
  | .smem => 0
  | _ => 0

abbrev bufTy : (tb : Table) → Fin (tcTables nBuf tb) → BufTy
  | .hbm, ⟨0, _⟩ => ⟨S8192x256, .bf16⟩
  | .hbm, ⟨1, _⟩ => ⟨S256x256, .bf16⟩
  | .hbm, ⟨2, _⟩ => ⟨S256x256, .bf16⟩
  | .hbm, ⟨3, _⟩ => ⟨S8192x256, .bf16⟩
  | .hbm, ⟨4, _⟩ => ⟨S8192x256, .f32⟩
  | .hbm, ⟨5, _⟩ => ⟨S8192x4x64, .f32⟩
  | .hbm, ⟨6, _⟩ => ⟨S256x256, .f32⟩
  | .hbm, ⟨7, _⟩ => ⟨S256x4x64, .f32⟩
  | .hbm, ⟨8, _⟩ => ⟨S4x8192x256, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S4x8192x256, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S256x256, .f32⟩
  | .hbm, ⟨21, _⟩ => ⟨S256x4x64, .f32⟩
  | .hbm, ⟨22, _⟩ => ⟨S4x64x8192, .f32⟩
  | .hbm, ⟨23, _⟩ => ⟨S8192x4x64, .f32⟩
  | .hbm, ⟨24, _⟩ => ⟨S4x8192, .f32⟩
  | .hbm, ⟨25, _⟩ => ⟨S4x8192, .f32⟩
  | .hbm, ⟨26, _⟩ => ⟨S8192x4, .f32⟩
  | .hbm, ⟨27, _⟩ => ⟨S_, .i32⟩
  | .hbm, ⟨28, _⟩ => ⟨S_, .f32⟩
  | .hbm, ⟨29, _⟩ => ⟨S8192x128, .f32⟩
  | .hbm, ⟨30, _⟩ => ⟨S8192x256, .f32⟩
  | .hbm, ⟨31, _⟩ => ⟨S8192x4x64, .f32⟩
  | .hbm, ⟨32, _⟩ => ⟨S8192x4x64, .f32⟩
  | .hbm, ⟨33, _⟩ => ⟨S_, .f32⟩
  | .hbm, ⟨34, _⟩ => ⟨S8192x4, .f32⟩
  | .hbm, ⟨35, _⟩ => ⟨S_, .i32⟩
  | .hbm, ⟨36, _⟩ => ⟨S_, .f32⟩
  | .hbm, ⟨37, _⟩ => ⟨S8192x128, .f32⟩
  | .hbm, ⟨38, _⟩ => ⟨S8192x256, .bf16⟩
  | .hbm, ⟨39, _⟩ => ⟨S256x256, .f32⟩
  | .hbm, ⟨40, _⟩ => ⟨S256x256, .f32⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S256x256, .bf16⟩
  | .local _ .vmem, ⟨4, _⟩ => ⟨S1024x256, .bf16⟩
  | .local _ .vmem, ⟨5, _⟩ => ⟨S1024x256, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | .local _ .vmem, ⟨12, _⟩ => ⟨S256x256, .f32⟩
  | .local _ .vmem, ⟨13, _⟩ => ⟨S256x256, .f32⟩
  | .local _ .vmem, ⟨14, _⟩ => ⟨S8x8x128, .f32⟩
  | .local _ .vmem, ⟨15, _⟩ => ⟨S8x8x128, .f32⟩
  | .local _ .vmem, ⟨16, _⟩ => ⟨S2x128x256, .bf16⟩
  | .local _ .vmem, ⟨17, _⟩ => ⟨S2x128x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_c_2 : Ref sig .tc := ⟨.hbm, 35, rfl⟩
abbrev main_call1_v0 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x256 : Shape := ⟨2, ![8192, 256]⟩
abbrev S256x256 : Shape := ⟨2, ![256, 256]⟩
abbrev S8192x4x64 : Shape := ⟨3, ![8192, 4, 64]⟩
abbrev S256x4x64 : Shape := ⟨3, ![256, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩

abbrev nBuf : Space → Nat
  | .hbm => 80
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x256, .bf16⟩
  | .hbm, ⟨2, _⟩ => ⟨S256x256, .bf16⟩
  | .hbm, ⟨3, _⟩ => ⟨S8192x256, .bf16⟩
  | .hbm, ⟨4, _⟩ => ⟨S8192x256, .f32⟩
  | .hbm, ⟨5, _⟩ => ⟨S256x256, .f32⟩
  | .hbm, ⟨6, _⟩ => ⟨S256x256, .f32⟩
  | .hbm, ⟨7, _⟩ => ⟨S8192x4x64, .f32⟩
  | .hbm, ⟨8, _⟩ => ⟨S256x4x64, .f32⟩
  | .hbm, ⟨9, _⟩ => ⟨S256x4x64, .f32⟩
  | .hbm, ⟨10, _⟩ => ⟨S4x8192x256, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S4x8192x256, .f32⟩
  | .hbm, ⟨15, _⟩ => ⟨S4x8192x256, .i1⟩
  | .hbm, ⟨16, _⟩ => ⟨S4x8192x256, .f32⟩
  | .hbm, ⟨17, _⟩ => ⟨S_, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192, .f32⟩
  | .hbm, ⟨36, _⟩ => ⟨S4x8192x1, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x64x8192, .f32⟩
  | .hbm, ⟨50, _⟩ => ⟨S8192x4x64, .f32⟩
  | .hbm, ⟨51, _⟩ => ⟨S8192x256, .f32⟩
  | .hbm, ⟨52, _⟩ => ⟨S8192x256, .f32⟩
  | .hbm, ⟨53, _⟩ => ⟨S8192x4x64, .f32⟩
  | .hbm, ⟨54, _⟩ => ⟨S4x64x8192, .f32⟩
  | .hbm, ⟨55, _⟩ => ⟨S4x8192x256, .f32⟩
  | .hbm, ⟨56, _⟩ => ⟨S4x64x256, .f32⟩
  | .hbm, ⟨57, _⟩ => ⟨S256x4x64, .f32⟩
  | .hbm, ⟨58, _⟩ => ⟨S4x8192x256, .f32⟩
  | .hbm, ⟨59, _⟩ => ⟨S4x8192x256, .f32⟩
  | .hbm, ⟨60, _⟩ => ⟨S4x8192x256, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S4x8192x1, .f32⟩
  | .hbm, ⟨65, _⟩ => ⟨S4x8192x256, .f32⟩
  | .hbm, ⟨66, _⟩ => ⟨S4x8192x256, .f32⟩
  | .hbm, ⟨67, _⟩ => ⟨S_, .f32⟩
  | .hbm, ⟨68, _⟩ => ⟨S4x8192, .f32⟩
  | .hbm, ⟨69, _⟩ => ⟨S4x8192x256, .f32⟩
  | .hbm, ⟨70, _⟩ => ⟨S4x8192x256, .f32⟩
  | .hbm, ⟨71, _⟩ => ⟨S4x8192x256, .f32⟩
  | .hbm, ⟨72, _⟩ => ⟨S4x256x64, .f32⟩
  | .hbm, ⟨73, _⟩ => ⟨S256x4x64, .f32⟩
  | .hbm, ⟨74, _⟩ => ⟨S4x8192x64, .f32⟩
  | .hbm, ⟨75, _⟩ => ⟨S8192x4x64, .f32⟩
  | .hbm, ⟨76, _⟩ => ⟨S256x256, .f32⟩
  | .hbm, ⟨77, _⟩ => ⟨S256x256, .f32⟩
  | .hbm, ⟨78, _⟩ => ⟨S8192x256, .f32⟩
  | .hbm, ⟨79, _⟩ => ⟨S8192x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S4x1024x768 : Shape := ⟨3, ![4, 1024, 768]⟩
abbrev S8192x3072 : Shape := ⟨2, ![8192, 3072]⟩
abbrev S8x128 : Shape := ⟨2, ![8, 128]⟩
abbrev S512x1024 : Shape := ⟨2, ![512, 1024]⟩
abbrev S512x3072 : Shape := ⟨2, ![512, 3072]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 12
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x1024x768, .bf16⟩
  | .hbm, ⟨4, _⟩ => ⟨S8192x3072, .bf16⟩
  | .hbm, ⟨5, _⟩ => ⟨S8x128, .f32⟩
  | .hbm, ⟨6, _⟩ => ⟨S8x128, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x1024x768, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S4x1024x768, .bf16⟩
  | .local _ .vmem, ⟨17, _⟩ => ⟨S512x3072, .bf16⟩
  | .local _ .vmem, ⟨18, _⟩ => ⟨S512x3072, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![14], ![false]⟩

def cc1_transform_0 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1024x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x3072 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== Reference2Ideal.lean ====
abbrev S8192x1024 : Shape := ⟨2, ![8192, 1024]⟩
abbrev S1x1024 : Shape := ⟨2, ![1, 1024]⟩
abbrev S4x1024x768 : Shape := ⟨3, ![4, 1024, 768]⟩
abbrev S8192x3072 : Shape := ⟨2, ![8192, 3072]⟩
abbrev S8x128 : Shape := ⟨2, ![8, 128]⟩
abbrev S1024x4x768 : Shape := ⟨3, ![1024, 4, 768]⟩
abbrev S1024x3072 : Shape := ⟨2, ![1024, 3072]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x1024x768, .bf16⟩
  | .hbm, ⟨4, _⟩ => ⟨S8192x3072, .bf16⟩
  | .hbm, ⟨5, _⟩ => ⟨S8x128, .f32⟩
  | .hbm, ⟨6, _⟩ => ⟨S8x128, .f32⟩
  | .hbm, ⟨7, _⟩ => ⟨S4x1024x768, .f32⟩
  | .hbm, ⟨8, _⟩ => ⟨S1024x4x768, .f32⟩
  | .hbm, ⟨9, _⟩ => ⟨S1024x3072, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x3072, .f32⟩
  | .hbm, ⟨32, _⟩ => ⟨S8192x3072, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel3.lean ====
abbrev S8192x1024 : Shape := ⟨2, ![8192, 1024]⟩
abbrev S8192x384 : Shape := ⟨2, ![8192, 384]⟩
abbrev S8192x128 : Shape := ⟨2, ![8192, 128]⟩
abbrev S8192x256 : Shape := ⟨2, ![8192, 256]⟩
abbrev S1x8192x384 : Shape := ⟨3, ![1, 8192, 384]⟩
abbrev S4x2048x384 : Shape := ⟨3, ![4, 2048, 384]⟩
abbrev S16x512x384 : Shape := ⟨3, ![16, 512, 384]⟩
abbrev S16x512x1024 : Shape := ⟨3, ![16, 512, 1024]⟩
abbrev S16x1024x512 : Shape := ⟨3, ![16, 1024, 512]⟩
abbrev S8 : Shape := ⟨1, ![8]⟩
abbrev S_ : Shape := ⟨0, ![]⟩
abbrev S48 : Shape := ⟨1, ![48]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S512 : Shape := ⟨1, ![512]⟩
abbrev S512x1 : Shape := ⟨2, ![512, 1]⟩
abbrev S512x128 : Shape := ⟨2, ![512, 128]⟩
abbrev S16 : Shape := ⟨1, ![16]⟩
abbrev S16x1 : Shape := ⟨2, ![16, 1]⟩
abbrev S16x128 : Shape := ⟨2, ![16, 128]⟩
abbrev S512x256 : Shape := ⟨2, ![512, 256]⟩
abbrev S16x256 : Shape := ⟨2, ![16, 256]⟩
abbrev S16x8x256 : Shape := ⟨3, ![16, 8, 256]⟩
abbrev S128x256 : Shape := ⟨2, ![128, 256]⟩
abbrev S8192x3072 : Shape := ⟨2, ![8192, 3072]⟩
abbrev S4x1024x768 : Shape := ⟨3, ![4, 1024, 768]⟩
abbrev S8x256 : Shape := ⟨2, ![8, 256]⟩
abbrev S1x1024x512 : Shape := ⟨3, ![1, 1024, 512]⟩
abbrev S512x384 : Shape := ⟨2, ![512, 384]⟩
abbrev S1x512x384 : Shape := ⟨3, ![1, 512, 384]⟩
abbrev S4x128x384 : Shape := ⟨3, ![4, 128, 384]⟩
abbrev S16x32x384 : Shape := ⟨3, ![16, 32, 384]⟩
abbrev S512x3072 : Shape := ⟨2, ![512, 3072]⟩
abbrev S3x512x128 : Shape := ⟨3, ![3, 512, 128]⟩
abbrev S1x1024x768 : Shape := ⟨3, ![1, 1024, 768]⟩
abbrev S1024x768 : Shape := ⟨2, ![1024, 768]⟩
abbrev S1024x512 : Shape := ⟨2, ![1024, 512]⟩
abbrev S512x768 : Shape := ⟨2, ![512, 768]⟩
abbrev S1x128x128 : Shape := ⟨3, ![1, 128, 128]⟩
abbrev S128x128 : Shape := ⟨2, ![128, 128]⟩
abbrev S1x512x128 : Shape := ⟨3, ![1, 512, 128]⟩
abbrev S1x32x128 : Shape := ⟨3, ![1, 32, 128]⟩
abbrev S32x128 : Shape := ⟨2, ![32, 128]⟩

abbrev nBuf : Space → Nat
  | .hbm => 63
  | .vmem => 46
  | .smem => 0
  | _ => 0

abbrev bufTy : (tb : Table) → Fin (tcTables nBuf tb) → BufTy
  | .hbm, ⟨0, _⟩ => ⟨S8192x1024, .bf16⟩
  | .hbm, ⟨1, _⟩ => ⟨S8192x384, .bf16⟩
  | .hbm, ⟨2, _⟩ => ⟨S8192x128, .bf16⟩
  | .hbm, ⟨3, _⟩ => ⟨S8192x128, .bf16⟩
  | .hbm, ⟨4, _⟩ => ⟨S8192x384, .bf16⟩
  | .hbm, ⟨5, _⟩ => ⟨S8192x384, .bf16⟩
  | .hbm, ⟨6, _⟩ => ⟨S8192x256, .bf16⟩
  | .hbm, ⟨7, _⟩ => ⟨S8192x256, .bf16⟩
  | .hbm, ⟨8, _⟩ => ⟨S1x8192x384, .bf16⟩
  | .hbm, ⟨9, _⟩ => ⟨S4x2048x384, .bf16⟩
  | .hbm, ⟨10, _⟩ => ⟨S16x512x384, .bf16⟩
  | .hbm, ⟨11, _⟩ => ⟨S1x8192x384, .bf16⟩
  | .hbm, ⟨12, _⟩ => ⟨S4x2048x384, .bf16⟩
  | .hbm, ⟨13, _⟩ => ⟨S16x512x384, .bf16⟩
  | .hbm, ⟨14, _⟩ => ⟨S1x8192x384, .bf16⟩
  | .hbm, ⟨15, _⟩ => ⟨S4x2048x384, .bf16⟩
  | .hbm, ⟨16, _⟩ => ⟨S16x512x384, .bf16⟩
  | .hbm, ⟨17, _⟩ => ⟨S16x512x1024, .bf16⟩
  | .hbm, ⟨18, _⟩ => ⟨S16x1024x512, .bf16⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S48, .f32⟩
  | .hbm, ⟨35, _⟩ => ⟨S64, .f32⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S512, .f32⟩
  | .hbm, ⟨41, _⟩ => ⟨S512x1, .f32⟩
  | .hbm, ⟨42, _⟩ => ⟨S512x128, .f32⟩
  | .hbm, ⟨43, _⟩ => ⟨S512x128, .f32⟩
  | .hbm, ⟨44, _⟩ => ⟨S512x128, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S16x1, .f32⟩
  | .hbm, ⟨50, _⟩ => ⟨S16x128, .f32⟩
  | .hbm, ⟨51, _⟩ => ⟨S16x128, .f32⟩
  | .hbm, ⟨52, _⟩ => ⟨S16x128, .f32⟩
  | .hbm, ⟨53, _⟩ => ⟨S512x128, .f32⟩
  | .hbm, ⟨54, _⟩ => ⟨S512x128, .f32⟩
  | .hbm, ⟨55, _⟩ => ⟨S512x256, .f32⟩
  | .hbm, ⟨56, _⟩ => ⟨S16x128, .f32⟩
  | .hbm, ⟨57, _⟩ => ⟨S16x128, .f32⟩
  | .hbm, ⟨58, _⟩ => ⟨S16x256, .f32⟩
  | .hbm, ⟨59, _⟩ => ⟨S16x8x256, .f32⟩
  | .hbm, ⟨60, _⟩ => ⟨S128x256, .f32⟩
  | .hbm, ⟨61, _⟩ => ⟨S8192x3072, .bf16⟩
  | .hbm, ⟨62, _⟩ => ⟨S4x1024x768, .f32⟩
  | .local _ .vmem, ⟨0, _⟩ => ⟨S512x256, .f32⟩
  | .local _ .vmem, ⟨1, _⟩ => ⟨S8x256, .f32⟩
  | .local _ .vmem, ⟨2, _⟩ => ⟨S8x256, .f32⟩
  | .local _ .vmem, ⟨3, _⟩ => ⟨S1x1024x512, .bf16⟩
  | .local _ .vmem, ⟨4, _⟩ => ⟨S1x1024x512, .bf16⟩
  | .local _ .vmem, ⟨5, _⟩ => ⟨S512x384, .bf16⟩
  | .local _ .vmem, ⟨6, _⟩ => ⟨S512x384, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x384, .bf16⟩
  | .local _ .vmem, ⟨12, _⟩ => ⟨S512x384, .bf16⟩
  | .local _ .vmem, ⟨13, _⟩ => ⟨S512x384, .bf16⟩
  | .local _ .vmem, ⟨14, _⟩ => ⟨S512x384, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S1x512x384, .bf16⟩
  | .local _ .vmem, ⟨20, _⟩ => ⟨S1x512x384, .bf16⟩
  | .local _ .vmem, ⟨21, _⟩ => ⟨S4x128x384, .bf16⟩
  | .local _ .vmem, ⟨22, _⟩ => ⟨S4x128x384, .bf16⟩
  | .local _ .vmem, ⟨23, _⟩ => ⟨S16x32x384, .bf16⟩
  | .local _ .vmem, ⟨24, _⟩ => ⟨S16x32x384, .bf16⟩
  | .local _ .vmem, ⟨25, _⟩ => ⟨S1x512x384, .bf16⟩
  | .local _ .vmem, ⟨26, _⟩ => ⟨S1x512x384, .bf16⟩
  | .local _ .vmem, ⟨27, _⟩ => ⟨S4x128x384, .bf16⟩
  | .local _ .vmem, ⟨28, _⟩ => ⟨S4x128x384, .bf16⟩
  | .local _ .vmem, ⟨29, _⟩ => ⟨S16x32x384, .bf16⟩
  | .local _ .vmem, ⟨30, _⟩ => ⟨S16x32x384, .bf16⟩
  | .local _ .vmem, ⟨31, _⟩ => ⟨S1x512x384, .bf16⟩
  | .local _ .vmem, ⟨32, _⟩ => ⟨S1x512x384, .bf16⟩
  | .local _ .vmem, ⟨33, _⟩ => ⟨S4x128x384, .bf16⟩
  | .local _ .vmem, ⟨34, _⟩ => ⟨S4x128x384, .bf16⟩
  | .local _ .vmem, ⟨35, _⟩ => ⟨S16x32x384, .bf16⟩
  | .local _ .vmem, ⟨36, _⟩ => ⟨S16x32x384, .bf16⟩
  | .local _ .vmem, ⟨37, _⟩ => ⟨S512x3072, .bf16⟩
  | .local _ .vmem, ⟨38, _⟩ => ⟨S512x3072, .bf16⟩
  | .local _ .vmem, ⟨39, _⟩ => ⟨S4x1024x768, .f32⟩
  | .local _ .vmem, ⟨40, _⟩ => ⟨S3x512x128, .f32⟩
  | .local _ .vmem, ⟨41, _⟩ => ⟨S3x512x128, .f32⟩
  | .local _ .vmem, ⟨42, _⟩ => ⟨S3x512x128, .f32⟩
  | .local _ .vmem, ⟨43, _⟩ => ⟨S3x512x128, .f32⟩
  | .local _ .vmem, ⟨44, _⟩ => ⟨S3x512x128, .f32⟩
  | .local _ .vmem, ⟨45, _⟩ => ⟨S3x512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_scratch5 : Ref sig .tc := ⟨.vmem, 45, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x32x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x32x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x128x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x32x384 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S4x1024x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference3Ideal.lean ====
abbrev S8192x1024 : Shape := ⟨2, ![8192, 1024]⟩
abbrev S8192x384 : Shape := ⟨2, ![8192, 384]⟩
abbrev S8192x128 : Shape := ⟨2, ![8192, 128]⟩
abbrev S8192x256 : Shape := ⟨2, ![8192, 256]⟩
abbrev S1x8192x384 : Shape := ⟨3, ![1, 8192, 384]⟩
abbrev S4x2048x384 : Shape := ⟨3, ![4, 2048, 384]⟩
abbrev S16x512x384 : Shape := ⟨3, ![16, 512, 384]⟩
abbrev S_ : Shape := ⟨0, ![]⟩
abbrev S8192x3072 : Shape := ⟨2, ![8192, 3072]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x6x64 : Shape := ⟨3, ![8192, 6, 64]⟩
abbrev S8192x6x8 : Shape := ⟨3, ![8192, 6, 8]⟩
abbrev S8192x6x48 : Shape := ⟨3, ![8192, 6, 48]⟩
abbrev S8192x2x64 : Shape := ⟨3, ![8192, 2, 64]⟩
abbrev S8192x2x8 : Shape := ⟨3, ![8192, 2, 8]⟩
abbrev S8192x2x48 : Shape := ⟨3, ![8192, 2, 48]⟩
abbrev S8192x1x384 : Shape := ⟨3, ![8192, 1, 384]⟩
abbrev S2048x4x384 : Shape := ⟨3, ![2048, 4, 384]⟩
abbrev S512x16x384 : Shape := ⟨3, ![512, 16, 384]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 311
  | .vmem => 0
  | .smem => 0
  | _ => 0

abbrev hbmTy0_0 (i : Nat) : BufTy := match i % 128 with
  | 0 => ⟨S8192x1024, .bf16⟩
  | 1 => ⟨S8192x384, .bf16⟩
  | 2 => ⟨S8192x128, .bf16⟩
  | 3 => ⟨S8192x128, .bf16⟩
  | 4 => ⟨S8192x384, .bf16⟩
  | 5 => ⟨S8192x384, .bf16⟩
  | 6 => ⟨S8192x256, .bf16⟩
  | 7 => ⟨S8192x256, .bf16⟩
  | 8 => ⟨S1x8192x384, .bf16⟩
  | 9 => ⟨S4x2048x384, .bf16⟩
  | 10 => ⟨S16x512x384, .bf16⟩
  | 11 => ⟨S1x8192x384, .bf16⟩
  | 12 => ⟨S4x2048x384, .bf16⟩
  | 13 => ⟨S16x512x384, .bf16⟩
  | 14 => ⟨S1x8192x384, .bf16⟩
  | 15 => ⟨S4x2048x384, .bf16⟩
  | 16 => ⟨S16x512x384, .bf16⟩
  | 17 => ⟨S_, .f32⟩
  | 18 => ⟨S8192x3072, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S8192, .f32⟩
  | 34 => ⟨S8192x1, .f32⟩
  | 35 => ⟨S1x8, .f32⟩
  | 36 => ⟨S8192x8, .f32⟩
  | 37 => ⟨S8192x8, .f32⟩
  | 38 => ⟨S8192x8, .f32⟩
  | 39 => ⟨S8192x8, .f32⟩
  | 40 => ⟨S8192x1x8, .f32⟩
  | 41 => ⟨S8192x8, .f32⟩
  | 42 => ⟨S8192x1x8, .f32⟩
  | 43 => ⟨S8192x384, .f32⟩
  | 44 => ⟨S8192x128, .f32⟩
  | 45 => ⟨S8192x128, .f32⟩
  | 46 => ⟨S8192x384, .f32⟩
  | 47 => ⟨S8192x384, .f32⟩
  | 48 => ⟨S8192x384, .f32⟩
  | 49 => ⟨S8192x384, .f32⟩
  | 50 => ⟨S8192x384, .f32⟩
  | 51 => ⟨S8192x256, .f32⟩
  | 52 => ⟨S8192x256, .f32⟩
  | 53 => ⟨S8192x6x64, .f32⟩
  | 54 => ⟨S8192x6x8, .f32⟩
  | 55 => ⟨S8192x6x8, .f32⟩
  | 56 => ⟨S8192x6x48, .f32⟩
  | 57 => ⟨S8192x6x8, .f32⟩
  | 58 => ⟨S8192x6x8, .f32⟩
  | 59 => ⟨S8192x6x8, .f32⟩
  | 60 => ⟨S8192x6x8, .f32⟩
  | 61 => ⟨S8192x6x8, .f32⟩
  | 62 => ⟨S8192x6x8, .f32⟩
  | 63 => ⟨S8192x6x8, .f32⟩
  | 64 => ⟨S8192x6x8, .f32⟩
  | 65 => ⟨S8192x6x8, .f32⟩
  | 66 => ⟨S8192x6x8, .f32⟩
  | 67 => ⟨S8192x6x64, .f32⟩
  | 68 => ⟨S8192x384, .f32⟩
  | 69 => ⟨S8192x6x64, .f32⟩
  | 70 => ⟨S8192x6x8, .f32⟩
  | 71 => ⟨S8192x6x8, .f32⟩
  | 72 => ⟨S8192x6x48, .f32⟩
  | 73 => ⟨S8192x6x8, .f32⟩
  | 74 => ⟨S8192x6x8, .f32⟩
  | 75 => ⟨S8192x6x8, .f32⟩
  | 76 => ⟨S8192x6x8, .f32⟩
  | 77 => ⟨S8192x6x8, .f32⟩
  | 78 => ⟨S8192x6x8, .f32⟩
  | 79 => ⟨S8192x6x8, .f32⟩
  | 80 => ⟨S8192x6x8, .f32⟩
  | 81 => ⟨S8192x6x8, .f32⟩
  | 82 => ⟨S8192x6x8, .f32⟩
  | 83 => ⟨S8192x6x64, .f32⟩
  | 84 => ⟨S8192x384, .f32⟩
  | 85 => ⟨S8192x6x64, .f32⟩
  | 86 => ⟨S8192x6x8, .f32⟩
  | 87 => ⟨S8192x6x8, .f32⟩
  | 88 => ⟨S8192x6x48, .f32⟩
  | 89 => ⟨S8192x6x8, .f32⟩
  | 90 => ⟨S8192x6x8, .f32⟩
  | 91 => ⟨S8192x6x8, .f32⟩
  | 92 => ⟨S8192x6x8, .f32⟩
  | 93 => ⟨S8192x6x8, .f32⟩
  | 94 => ⟨S8192x6x8, .f32⟩
  | 95 => ⟨S8192x6x8, .f32⟩
  | 96 => ⟨S8192x6x8, .f32⟩
  | 97 => ⟨S8192x6x8, .f32⟩
  | 98 => ⟨S8192x6x8, .f32⟩
  | 99 => ⟨S8192x6x64, .f32⟩
  | 100 => ⟨S8192x384, .f32⟩
  | 101 => ⟨S_, .f32⟩
  | 102 => ⟨S8192x384, .f32⟩
  | 103 => ⟨S8192x384, .f32⟩
  | 104 => ⟨S8192x2x64, .f32⟩
  | 105 => ⟨S8192x2x8, .f32⟩
  | 106 => ⟨S8192x2x8, .f32⟩
  | 107 => ⟨S8192x2x48, .f32⟩
  | 108 => ⟨S8192x2x8, .f32⟩
  | 109 => ⟨S8192x2x8, .f32⟩
  | 110 => ⟨S8192x2x8, .f32⟩
  | 111 => ⟨S8192x2x8, .f32⟩
  | 112 => ⟨S8192x2x8, .f32⟩
  | 113 => ⟨S8192x2x8, .f32⟩
  | 114 => ⟨S8192x2x8, .f32⟩
  | 115 => ⟨S8192x2x8, .f32⟩
  | 116 => ⟨S8192x2x8, .f32⟩
  | 117 => ⟨S8192x2x8, .f32⟩
  | 118 => ⟨S8192x2x64, .f32⟩
  | 119 => ⟨S8192x128, .f32⟩
  | 120 => ⟨S_, .f32⟩
  | 121 => ⟨S8192x256, .f32⟩
  | 122 => ⟨S8192x256, .f32⟩
  | 123 => ⟨S_, .f32⟩
  | 124 => ⟨S8192x384, .f32⟩
  | 125 => ⟨S8192x384, .f32⟩
  | 126 => ⟨S8192x1x384, .f32⟩
  | 127 => ⟨S1x8192x384, .f32⟩
  | _ => ⟨S8192x1024, .bf16⟩

abbrev hbmTy0_1 (i : Nat) : BufTy := match i % 128 with
  | 0 => ⟨S_, .f32⟩
  | 1 => ⟨S8192x384, .f32⟩
  | 2 => ⟨S8192x384, .f32⟩
  | 3 => ⟨S2048x4x384, .f32⟩
  | 4 => ⟨S4x2048x384, .f32⟩
  | 5 => ⟨S_, .f32⟩
  | 6 => ⟨S8192x384, .f32⟩
  | 7 => ⟨S8192x384, .f32⟩
  | 8 => ⟨S512x16x384, .f32⟩
  | 9 => ⟨S16x512x384, .f32⟩
  | 10 => ⟨S8192x1x384, .f32⟩
  | 11 => ⟨S1x8192x384, .f32⟩
  | 12 => ⟨S2048x4x384, .f32⟩
  | 13 => ⟨S4x2048x384, .f32⟩
  | 14 => ⟨S512x16x384, .f32⟩
  | 15 => ⟨S16x512x384, .f32⟩
  | 16 => ⟨S8192x1x384, .f32⟩
  | 17 => ⟨S1x8192x384, .f32⟩
  | 18 => ⟨S2048x4x384, .f32⟩
  | 19 => ⟨S4x2048x384, .f32⟩
  | 20 => ⟨S512x16x384, .f32⟩
  | 21 => ⟨S16x512x384, .f32⟩
  | 22 => ⟨S8192x384, .f32⟩
  | 23 => ⟨S8192x128, .f32⟩
  | 24 => ⟨S8192x128, .f32⟩
  | 25 => ⟨S8192x384, .f32⟩
  | 26 => ⟨S8192x384, .f32⟩
  | 27 => ⟨S8192x256, .f32⟩
  | 28 => ⟨S8192x256, .f32⟩
  | 29 => ⟨S1x8192x384, .f32⟩
  | 30 => ⟨S4x2048x384, .f32⟩
  | 31 => ⟨S16x512x384, .f32⟩
  | 32 => ⟨S1x8192x384, .f32⟩
  | 33 => ⟨S4x2048x384, .f32⟩
  | 34 => ⟨S16x512x384, .f32⟩
  | 35 => ⟨S1x8192x384, .f32⟩
  | 36 => ⟨S4x2048x384, .f32⟩
  | 37 => ⟨S16x512x384, .f32⟩
  | 38 => ⟨S512x16x384, .f32⟩
  | 39 => ⟨S8192x384, .f32⟩
  | 40 => ⟨S2048x4x384, .f32⟩
  | 41 => ⟨S8192x384, .f32⟩
  | 42 => ⟨S8192x384, .f32⟩
  | 43 => ⟨S8192x1x384, .f32⟩
  | 44 => ⟨S8192x384, .f32⟩
  | 45 => ⟨S8192x384, .f32⟩
  | 46 => ⟨S512x16x384, .f32⟩
  | 47 => ⟨S8192x384, .f32⟩
  | 48 => ⟨S2048x4x384, .f32⟩
  | 49 => ⟨S8192x384, .f32⟩
  | 50 => ⟨S8192x384, .f32⟩
  | 51 => ⟨S8192x1x384, .f32⟩
  | 52 => ⟨S8192x384, .f32⟩
  | 53 => ⟨S8192x384, .f32⟩
  | 54 => ⟨S512x16x384, .f32⟩
  | 55 => ⟨S8192x384, .f32⟩
  | 56 => ⟨S_, .f32⟩
  | 57 => ⟨S8192x384, .f32⟩
  | 58 => ⟨S8192x384, .f32⟩
  | 59 => ⟨S2048x4x384, .f32⟩
  | 60 => ⟨S8192x384, .f32⟩
  | 61 => ⟨S_, .f32⟩
  | 62 => ⟨S8192x384, .f32⟩
  | 63 => ⟨S8192x384, .f32⟩
  | 64 => ⟨S8192x384, .f32⟩
  | 65 => ⟨S8192x1x384, .f32⟩
  | 66 => ⟨S8192x384, .f32⟩
  | 67 => ⟨S_, .f32⟩
  | 68 => ⟨S8192x384, .f32⟩
  | 69 => ⟨S8192x384, .f32⟩
  | 70 => ⟨S8192x384, .f32⟩
  | 71 => ⟨S_, .f32⟩
  | 72 => ⟨S8192x256, .f32⟩
  | 73 => ⟨S8192x256, .f32⟩
  | 74 => ⟨S8192x2x64, .f32⟩
  | 75 => ⟨S8192x2x8, .f32⟩
  | 76 => ⟨S8192x2x8, .f32⟩
  | 77 => ⟨S8192x2x48, .f32⟩
  | 78 => ⟨S8192x2x8, .f32⟩
  | 79 => ⟨S8192x2x8, .f32⟩
  | 80 => ⟨S8192x2x8, .f32⟩
  | 81 => ⟨S8192x2x8, .f32⟩
  | 82 => ⟨S8192x2x8, .f32⟩
  | 83 => ⟨S8192x2x8, .f32⟩
  | 84 => ⟨S8192x2x8, .f32⟩
  | 85 => ⟨S8192x2x8, .f32⟩
  | 86 => ⟨S8192x2x8, .f32⟩
  | 87 => ⟨S8192x2x8, .f32⟩
  | 88 => ⟨S8192x2x8, .f32⟩
  | 89 => ⟨S_, .f32⟩
  | 90 => ⟨S8192x2x64, .f32⟩
  | 91 => ⟨S_, .f32⟩
  | 92 => ⟨S8192x2x64, .f32⟩
  | 93 => ⟨S8192x2x64, .f32⟩
  | 94 => ⟨S_, .f32⟩
  | 95 => ⟨S8192x2x64, .f32⟩
  | 96 => ⟨S8192x2x64, .f32⟩
  | 97 => ⟨S8192x128, .f32⟩
  | 98 => ⟨S_, .f32⟩
  | 99 => ⟨S8192x384, .f32⟩
  | 100 => ⟨S8192x384, .f32⟩
  | 101 => ⟨S8192x6x64, .f32⟩
  | 102 => ⟨S8192x6x8, .f32⟩
  | 103 => ⟨S8192x6x8, .f32⟩
  | 104 => ⟨S8192x6x48, .f32⟩
  | 105 => ⟨S8192x6x8, .f32⟩
  | 106 => ⟨S8192x6x8, .f32⟩
  | 107 => ⟨S8192x6x8, .f32⟩
  | 108 => ⟨S8192x6x8, .f32⟩
  | 109 => ⟨S8192x6x8, .f32⟩
  | 110 => ⟨S8192x6x8, .f32⟩
  | 111 => ⟨S8192x6x8, .f32⟩
  | 112 => ⟨S8192x6x8, .f32⟩
  | 113 => ⟨S8192x6x8, .f32⟩
  | 114 => ⟨S8192x6x8, .f32⟩
  | 115 => ⟨S8192x6x8, .f32⟩
  | 116 => ⟨S_, .f32⟩
  | 117 => ⟨S8192x6x64, .f32⟩
  | 118 => ⟨S_, .f32⟩
  | 119 => ⟨S8192x6x64, .f32⟩
  | 120 => ⟨S8192x6x64, .f32⟩
  | 121 => ⟨S_, .f32⟩
  | 122 => ⟨S8192x6x64, .f32⟩
  | 123 => ⟨S8192x6x64, .f32⟩
  | 124 => ⟨S8192x384, .f32⟩
  | 125 => ⟨S8192x6x64, .f32⟩
  | 126 => ⟨S8192x6x8, .f32⟩
  | 127 => ⟨S8192x6x8, .f32⟩
  | _ => ⟨S8192x1024, .bf16⟩

abbrev hbmTy0_2 (i : Nat) : BufTy := match i % 128 with
  | 0 => ⟨S8192x6x48, .f32⟩
  | 1 => ⟨S8192x6x8, .f32⟩
  | 2 => ⟨S8192x6x8, .f32⟩
  | 3 => ⟨S8192x6x8, .f32⟩
  | 4 => ⟨S8192x6x8, .f32⟩
  | 5 => ⟨S8192x6x8, .f32⟩
  | 6 => ⟨S8192x6x8, .f32⟩
  | 7 => ⟨S8192x6x8, .f32⟩
  | 8 => ⟨S8192x6x8, .f32⟩
  | 9 => ⟨S8192x6x8, .f32⟩
  | 10 => ⟨S8192x6x8, .f32⟩
  | 11 => ⟨S8192x6x8, .f32⟩
  | 12 => ⟨S_, .f32⟩
  | 13 => ⟨S8192x6x64, .f32⟩
  | 14 => ⟨S_, .f32⟩
  | 15 => ⟨S8192x6x64, .f32⟩
  | 16 => ⟨S8192x6x64, .f32⟩
  | 17 => ⟨S_, .f32⟩
  | 18 => ⟨S8192x6x64, .f32⟩
  | 19 => ⟨S8192x6x64, .f32⟩
  | 20 => ⟨S8192x384, .f32⟩
  | 21 => ⟨S8192x6x64, .f32⟩
  | 22 => ⟨S8192x6x8, .f32⟩
  | 23 => ⟨S8192x6x8, .f32⟩
  | 24 => ⟨S8192x6x48, .f32⟩
  | 25 => ⟨S8192x6x8, .f32⟩
  | 26 => ⟨S8192x6x8, .f32⟩
  | 27 => ⟨S8192x6x8, .f32⟩
  | 28 => ⟨S8192x6x8, .f32⟩
  | 29 => ⟨S8192x6x8, .f32⟩
  | 30 => ⟨S8192x6x8, .f32⟩
  | 31 => ⟨S8192x6x8, .f32⟩
  | 32 => ⟨S8192x6x8, .f32⟩
  | 33 => ⟨S8192x6x8, .f32⟩
  | 34 => ⟨S8192x6x8, .f32⟩
  | 35 => ⟨S8192x6x8, .f32⟩
  | 36 => ⟨S_, .f32⟩
  | 37 => ⟨S8192x6x64, .f32⟩
  | 38 => ⟨S_, .f32⟩
  | 39 => ⟨S8192x6x64, .f32⟩
  | 40 => ⟨S8192x6x64, .f32⟩
  | 41 => ⟨S_, .f32⟩
  | 42 => ⟨S8192x6x64, .f32⟩
  | 43 => ⟨S8192x6x64, .f32⟩
  | 44 => ⟨S8192x384, .f32⟩
  | 45 => ⟨S8192x3072, .f32⟩
  | 46 => ⟨S_, .f32⟩
  | 47 => ⟨S1024x3072, .f32⟩
  | 48 => ⟨S8192x1024, .f32⟩
  | 49 => ⟨S8192x3072, .f32⟩
  | 50 => ⟨S3072x1024, .f32⟩
  | 51 => ⟨S1024x3072, .f32⟩
  | 52 => ⟨S8192x3072, .bf16⟩
  | 53 => ⟨S1024x4x768, .f32⟩
  | 54 => ⟨S4x1024x768, .f32⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_cst_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_4 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_5 : Ref sig .tc := ⟨.hbm, 120, rfl⟩
abbrev main_v97 : Ref sig .tc := ⟨.hbm, 121, rfl⟩
abbrev main_v98 : Ref sig .tc := ⟨.hbm, 122, rfl⟩
abbrev main_cst_6 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_7 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_8 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_9 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_cst_10 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_cst_11 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_cst_12 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_cst_13 : Ref sig .tc := ⟨.hbm, 217, rfl⟩
abbrev main_v186 : Ref sig .tc := ⟨.hbm, 218, rfl⟩
abbrev main_cst_14 : Ref sig .tc := ⟨.hbm, 219, rfl⟩
abbrev main_v187 : Ref sig .tc := ⟨.hbm, 220, rfl⟩
abbrev main_v188 : Ref sig .tc := ⟨.hbm, 221, rfl⟩
abbrev main_cst_15 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_cst_16 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_cst_17 : Ref sig .tc := ⟨.hbm, 244, rfl⟩
abbrev main_v209 : Ref sig .tc := ⟨.hbm, 245, rfl⟩
abbrev main_cst_18 : Ref sig .tc := ⟨.hbm, 246, rfl⟩
abbrev main_v210 : Ref sig .tc := ⟨.hbm, 247, rfl⟩
abbrev main_v211 : Ref sig .tc := ⟨.hbm, 248, rfl⟩
abbrev main_cst_19 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_cst_20 : Ref sig .tc := ⟨.hbm, 268, rfl⟩
abbrev main_v230 : Ref sig .tc := ⟨.hbm, 269, rfl⟩
abbrev main_cst_21 : Ref sig .tc := ⟨.hbm, 270, rfl⟩
abbrev main_v231 : Ref sig .tc := ⟨.hbm, 271, rfl⟩
abbrev main_v232 : Ref sig .tc := ⟨.hbm, 272, rfl⟩
abbrev main_cst_22 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_cst_23 : Ref sig .tc := ⟨.hbm, 292, rfl⟩
abbrev main_v251 : Ref sig .tc := ⟨.hbm, 293, rfl⟩
abbrev main_cst_24 : Ref sig .tc := ⟨.hbm, 294, rfl⟩
abbrev main_v252 : Ref sig .tc := ⟨.hbm, 295, rfl⟩
abbrev main_v253 : Ref sig .tc := ⟨.hbm, 296, rfl⟩
abbrev main_cst_25 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_cst_26 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩

abbrev nD : Nat := 1
abbrev τ : Topo := Topo.v7x

variable {F : FTy → Type} [FloatOps F]
-- ==== Kernel4.lean ====
abbrev S8192x1024 : Shape := ⟨2, ![8192, 1024]⟩
abbrev S4x1024x768 : Shape := ⟨3, ![4, 1024, 768]⟩
abbrev S8 : Shape := ⟨1, ![8]⟩
abbrev S_ : Shape := ⟨0, ![]⟩
abbrev S48 : Shape := ⟨1, ![48]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S512 : Shape := ⟨1, ![512]⟩
abbrev S512x1 : Shape := ⟨2, ![512, 1]⟩
abbrev S512x128 : Shape := ⟨2, ![512, 128]⟩
abbrev S16 : Shape := ⟨1, ![16]⟩
abbrev S16x1 : Shape := ⟨2, ![16, 1]⟩
abbrev S16x128 : Shape := ⟨2, ![16, 128]⟩
abbrev S512x256 : Shape := ⟨2, ![512, 256]⟩
abbrev S16x256 : Shape := ⟨2, ![16, 256]⟩
abbrev S16x8x256 : Shape := ⟨3, ![16, 8, 256]⟩
abbrev S128x256 : Shape := ⟨2, ![128, 256]⟩
abbrev S8192x384 : Shape := ⟨2, ![8192, 384]⟩
abbrev S8192x128 : Shape := ⟨2, ![8192, 128]⟩
abbrev S8192x256 : Shape := ⟨2, ![8192, 256]⟩
abbrev S1x8192x384 : Shape := ⟨3, ![1, 8192, 384]⟩
abbrev S4x2048x384 : Shape := ⟨3, ![4, 2048, 384]⟩
abbrev S16x512x384 : Shape := ⟨3, ![16, 512, 384]⟩
abbrev S512x1024 : Shape := ⟨2, ![512, 1024]⟩
abbrev S8x256 : Shape := ⟨2, ![8, 256]⟩
abbrev S512x384 : Shape := ⟨2, ![512, 384]⟩
abbrev S1x512x384 : Shape := ⟨3, ![1, 512, 384]⟩
abbrev S4x128x384 : Shape := ⟨3, ![4, 128, 384]⟩
abbrev S16x32x384 : Shape := ⟨3, ![16, 32, 384]⟩
abbrev S3x512x128 : Shape := ⟨3, ![3, 512, 128]⟩
abbrev S1x1024x768 : Shape := ⟨3, ![1, 1024, 768]⟩
abbrev S1024x768 : Shape := ⟨2, ![1024, 768]⟩
abbrev S512x768 : Shape := ⟨2, ![512, 768]⟩
abbrev S1x512x128 : Shape := ⟨3, ![1, 512, 128]⟩
abbrev S128x128 : Shape := ⟨2, ![128, 128]⟩
abbrev S1x128x128 : Shape := ⟨3, ![1, 128, 128]⟩
abbrev S32x128 : Shape := ⟨2, ![32, 128]⟩
abbrev S1x32x128 : Shape := ⟨3, ![1, 32, 128]⟩

abbrev nBuf : Space → Nat
  | .hbm => 60
  | .vmem => 41
  | .smem => 0
  | _ => 0

abbrev bufTy : (tb : Table) → Fin (tcTables nBuf tb) → BufTy
  | .hbm, ⟨0, _⟩ => ⟨S8192x1024, .bf16⟩
  | .hbm, ⟨1, _⟩ => ⟨S4x1024x768, .bf16⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S48, .f32⟩
  | .hbm, ⟨18, _⟩ => ⟨S64, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S512, .f32⟩
  | .hbm, ⟨24, _⟩ => ⟨S512x1, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16x1, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S512x128, .f32⟩
  | .hbm, ⟨37, _⟩ => ⟨S512x128, .f32⟩
  | .hbm, ⟨38, _⟩ => ⟨S512x256, .f32⟩
  | .hbm, ⟨39, _⟩ => ⟨S16x128, .f32⟩
  | .hbm, ⟨40, _⟩ => ⟨S16x128, .f32⟩
  | .hbm, ⟨41, _⟩ => ⟨S16x256, .f32⟩
  | .hbm, ⟨42, _⟩ => ⟨S16x8x256, .f32⟩
  | .hbm, ⟨43, _⟩ => ⟨S128x256, .f32⟩
  | .hbm, ⟨44, _⟩ => ⟨S8192x384, .bf16⟩
  | .hbm, ⟨45, _⟩ => ⟨S8192x128, .bf16⟩
  | .hbm, ⟨46, _⟩ => ⟨S8192x128, .bf16⟩
  | .hbm, ⟨47, _⟩ => ⟨S8192x384, .bf16⟩
  | .hbm, ⟨48, _⟩ => ⟨S8192x384, .bf16⟩
  | .hbm, ⟨49, _⟩ => ⟨S8192x256, .bf16⟩
  | .hbm, ⟨50, _⟩ => ⟨S8192x256, .bf16⟩
  | .hbm, ⟨51, _⟩ => ⟨S1x8192x384, .bf16⟩
  | .hbm, ⟨52, _⟩ => ⟨S4x2048x384, .bf16⟩
  | .hbm, ⟨53, _⟩ => ⟨S16x512x384, .bf16⟩
  | .hbm, ⟨54, _⟩ => ⟨S1x8192x384, .bf16⟩
  | .hbm, ⟨55, _⟩ => ⟨S4x2048x384, .bf16⟩
  | .hbm, ⟨56, _⟩ => ⟨S16x512x384, .bf16⟩
  | .hbm, ⟨57, _⟩ => ⟨S1x8192x384, .bf16⟩
  | .hbm, ⟨58, _⟩ => ⟨S4x2048x384, .bf16⟩
  | .hbm, ⟨59, _⟩ => ⟨S16x512x384, .bf16⟩
  | .local _ .vmem, ⟨0, _⟩ => ⟨S512x1024, .bf16⟩
  | .local _ .vmem, ⟨1, _⟩ => ⟨S512x1024, .bf16⟩
  | .local _ .vmem, ⟨2, _⟩ => ⟨S4x1024x768, .bf16⟩
  | .local _ .vmem, ⟨3, _⟩ => ⟨S512x256, .f32⟩
  | .local _ .vmem, ⟨4, _⟩ => ⟨S8x256, .f32⟩
  | .local _ .vmem, ⟨5, _⟩ => ⟨S8x256, .f32⟩
  | .local _ .vmem, ⟨6, _⟩ => ⟨S512x384, .bf16⟩
  | .local _ .vmem, ⟨7, _⟩ => ⟨S512x384, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x384, .bf16⟩
  | .local _ .vmem, ⟨13, _⟩ => ⟨S512x384, .bf16⟩
  | .local _ .vmem, ⟨14, _⟩ => ⟨S512x384, .bf16⟩
  | .local _ .vmem, ⟨15, _⟩ => ⟨S512x384, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S1x512x384, .bf16⟩
  | .local _ .vmem, ⟨21, _⟩ => ⟨S1x512x384, .bf16⟩
  | .local _ .vmem, ⟨22, _⟩ => ⟨S4x128x384, .bf16⟩
  | .local _ .vmem, ⟨23, _⟩ => ⟨S4x128x384, .bf16⟩
  | .local _ .vmem, ⟨24, _⟩ => ⟨S16x32x384, .bf16⟩
  | .local _ .vmem, ⟨25, _⟩ => ⟨S16x32x384, .bf16⟩
  | .local _ .vmem, ⟨26, _⟩ => ⟨S1x512x384, .bf16⟩
  | .local _ .vmem, ⟨27, _⟩ => ⟨S1x512x384, .bf16⟩
  | .local _ .vmem, ⟨28, _⟩ => ⟨S4x128x384, .bf16⟩
  | .local _ .vmem, ⟨29, _⟩ => ⟨S4x128x384, .bf16⟩
  | .local _ .vmem, ⟨30, _⟩ => ⟨S16x32x384, .bf16⟩
  | .local _ .vmem, ⟨31, _⟩ => ⟨S16x32x384, .bf16⟩
  | .local _ .vmem, ⟨32, _⟩ => ⟨S1x512x384, .bf16⟩
  | .local _ .vmem, ⟨33, _⟩ => ⟨S1x512x384, .bf16⟩
  | .local _ .vmem, ⟨34, _⟩ => ⟨S4x128x384, .bf16⟩
  | .local _ .vmem, ⟨35, _⟩ => ⟨S4x128x384, .bf16⟩
  | .local _ .vmem, ⟨36, _⟩ => ⟨S16x32x384, .bf16⟩
  | .local _ .vmem, ⟨37, _⟩ => ⟨S16x32x384, .bf16⟩
  | .local _ .vmem, ⟨38, _⟩ => ⟨S3x512x128, .f32⟩
  | .local _ .vmem, ⟨39, _⟩ => ⟨S3x512x128, .f32⟩
  | .local _ .vmem, ⟨40, _⟩ => ⟨S3x512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev main_v36_2 : Ref sig .tc := ⟨.hbm, 46, rfl⟩
abbrev main_v36_3 : Ref sig .tc := ⟨.hbm, 47, rfl⟩
abbrev main_v36_4 : Ref sig .tc := ⟨.hbm, 48, rfl⟩
abbrev main_v36_5 : Ref sig .tc := ⟨.hbm, 49, rfl⟩
abbrev main_v36_6 : Ref sig .tc := ⟨.hbm, 50, rfl⟩
abbrev main_v36_7 : Ref sig .tc := ⟨.hbm, 51, rfl⟩
abbrev main_v36_8 : Ref sig .tc := ⟨.hbm, 52, rfl⟩
abbrev main_v36_9 : Ref sig .tc := ⟨.hbm, 53, rfl⟩
abbrev main_v36_10 : Ref sig .tc := ⟨.hbm, 54, rfl⟩
abbrev main_v36_11 : Ref sig .tc := ⟨.hbm, 55, rfl⟩
abbrev main_v36_12 : Ref sig .tc := ⟨.hbm, 56, rfl⟩
abbrev main_v36_13 : Ref sig .tc := ⟨.hbm, 57, rfl⟩
abbrev main_v36_14 : Ref sig .tc := ⟨.hbm, 58, rfl⟩
abbrev main_v36_15 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x32x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x128x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x32x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x128x384 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x32x384 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S8192x1024 : Shape := ⟨2, ![8192, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S8192x3072 : Shape := ⟨2, ![8192, 3072]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x384 : Shape := ⟨2, ![8192, 384]⟩
abbrev S8192x128 : Shape := ⟨2, ![8192, 128]⟩
abbrev S8192x256 : Shape := ⟨2, ![8192, 256]⟩
abbrev S8192x6x64 : Shape := ⟨3, ![8192, 6, 64]⟩
abbrev S8192x6x8 : Shape := ⟨3, ![8192, 6, 8]⟩
abbrev S8192x6x48 : Shape := ⟨3, ![8192, 6, 48]⟩
abbrev S8192x2x64 : Shape := ⟨3, ![8192, 2, 64]⟩
abbrev S8192x2x8 : Shape := ⟨3, ![8192, 2, 8]⟩
abbrev S8192x2x48 : Shape := ⟨3, ![8192, 2, 48]⟩
abbrev S8192x1x384 : Shape := ⟨3, ![8192, 1, 384]⟩
abbrev S1x8192x384 : Shape := ⟨3, ![1, 8192, 384]⟩
abbrev S2048x4x384 : Shape := ⟨3, ![2048, 4, 384]⟩
abbrev S4x2048x384 : Shape := ⟨3, ![4, 2048, 384]⟩
abbrev S512x16x384 : Shape := ⟨3, ![512, 16, 384]⟩
abbrev S16x512x384 : Shape := ⟨3, ![16, 512, 384]⟩

abbrev nBuf : Space → Nat
  | .hbm => 154
  | .vmem => 0
  | .smem => 0
  | _ => 0

abbrev hbmTy0_0 (i : Nat) : BufTy := match i % 128 with
  | 0 => ⟨S8192x1024, .bf16⟩
  | 1 => ⟨S4x1024x768, .bf16⟩
  | 2 => ⟨S4x1024x768, .f32⟩
  | 3 => ⟨S1024x4x768, .f32⟩
  | 4 => ⟨S1024x3072, .f32⟩
  | 5 => ⟨S8192x1024, .f32⟩
  | 6 => ⟨S8192x3072, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8192, .f32⟩
  | 22 => ⟨S8192x1, .f32⟩
  | 23 => ⟨S1x8, .f32⟩
  | 24 => ⟨S8192x8, .f32⟩
  | 25 => ⟨S8192x8, .f32⟩
  | 26 => ⟨S8192x8, .f32⟩
  | 27 => ⟨S8192x8, .f32⟩
  | 28 => ⟨S8192x1x8, .f32⟩
  | 29 => ⟨S8192x8, .f32⟩
  | 30 => ⟨S8192x1x8, .f32⟩
  | 31 => ⟨S8192x384, .f32⟩
  | 32 => ⟨S8192x128, .f32⟩
  | 33 => ⟨S8192x128, .f32⟩
  | 34 => ⟨S8192x384, .f32⟩
  | 35 => ⟨S8192x384, .f32⟩
  | 36 => ⟨S8192x384, .f32⟩
  | 37 => ⟨S8192x384, .f32⟩
  | 38 => ⟨S8192x384, .f32⟩
  | 39 => ⟨S8192x256, .f32⟩
  | 40 => ⟨S8192x256, .f32⟩
  | 41 => ⟨S8192x6x64, .f32⟩
  | 42 => ⟨S8192x6x8, .f32⟩
  | 43 => ⟨S8192x6x8, .f32⟩
  | 44 => ⟨S8192x6x48, .f32⟩
  | 45 => ⟨S8192x6x8, .f32⟩
  | 46 => ⟨S8192x6x8, .f32⟩
  | 47 => ⟨S8192x6x8, .f32⟩
  | 48 => ⟨S8192x6x8, .f32⟩
  | 49 => ⟨S8192x6x8, .f32⟩
  | 50 => ⟨S8192x6x8, .f32⟩
  | 51 => ⟨S8192x6x8, .f32⟩
  | 52 => ⟨S8192x6x8, .f32⟩
  | 53 => ⟨S8192x6x8, .f32⟩
  | 54 => ⟨S8192x6x8, .f32⟩
  | 55 => ⟨S8192x6x64, .f32⟩
  | 56 => ⟨S8192x384, .f32⟩
  | 57 => ⟨S8192x6x64, .f32⟩
  | 58 => ⟨S8192x6x8, .f32⟩
  | 59 => ⟨S8192x6x8, .f32⟩
  | 60 => ⟨S8192x6x48, .f32⟩
  | 61 => ⟨S8192x6x8, .f32⟩
  | 62 => ⟨S8192x6x8, .f32⟩
  | 63 => ⟨S8192x6x8, .f32⟩
  | 64 => ⟨S8192x6x8, .f32⟩
  | 65 => ⟨S8192x6x8, .f32⟩
  | 66 => ⟨S8192x6x8, .f32⟩
  | 67 => ⟨S8192x6x8, .f32⟩
  | 68 => ⟨S8192x6x8, .f32⟩
  | 69 => ⟨S8192x6x8, .f32⟩
  | 70 => ⟨S8192x6x8, .f32⟩
  | 71 => ⟨S8192x6x64, .f32⟩
  | 72 => ⟨S8192x384, .f32⟩
  | 73 => ⟨S8192x6x64, .f32⟩
  | 74 => ⟨S8192x6x8, .f32⟩
  | 75 => ⟨S8192x6x8, .f32⟩
  | 76 => ⟨S8192x6x48, .f32⟩
  | 77 => ⟨S8192x6x8, .f32⟩
  | 78 => ⟨S8192x6x8, .f32⟩
  | 79 => ⟨S8192x6x8, .f32⟩
  | 80 => ⟨S8192x6x8, .f32⟩
  | 81 => ⟨S8192x6x8, .f32⟩
  | 82 => ⟨S8192x6x8, .f32⟩
  | 83 => ⟨S8192x6x8, .f32⟩
  | 84 => ⟨S8192x6x8, .f32⟩
  | 85 => ⟨S8192x6x8, .f32⟩
  | 86 => ⟨S8192x6x8, .f32⟩
  | 87 => ⟨S8192x6x64, .f32⟩
  | 88 => ⟨S8192x384, .f32⟩
  | 89 => ⟨S_, .f32⟩
  | 90 => ⟨S8192x384, .f32⟩
  | 91 => ⟨S8192x384, .f32⟩
  | 92 => ⟨S8192x2x64, .f32⟩
  | 93 => ⟨S8192x2x8, .f32⟩
  | 94 => ⟨S8192x2x8, .f32⟩
  | 95 => ⟨S8192x2x48, .f32⟩
  | 96 => ⟨S8192x2x8, .f32⟩
  | 97 => ⟨S8192x2x8, .f32⟩
  | 98 => ⟨S8192x2x8, .f32⟩
  | 99 => ⟨S8192x2x8, .f32⟩
  | 100 => ⟨S8192x2x8, .f32⟩
  | 101 => ⟨S8192x2x8, .f32⟩
  | 102 => ⟨S8192x2x8, .f32⟩
  | 103 => ⟨S8192x2x8, .f32⟩
  | 104 => ⟨S8192x2x8, .f32⟩
  | 105 => ⟨S8192x2x8, .f32⟩
  | 106 => ⟨S8192x2x64, .f32⟩
  | 107 => ⟨S8192x128, .f32⟩
  | 108 => ⟨S_, .f32⟩
  | 109 => ⟨S8192x256, .f32⟩
  | 110 => ⟨S8192x256, .f32⟩
  | 111 => ⟨S_, .f32⟩
  | 112 => ⟨S8192x384, .f32⟩
  | 113 => ⟨S8192x384, .f32⟩
  | 114 => ⟨S8192x1x384, .f32⟩
  | 115 => ⟨S1x8192x384, .f32⟩
  | 116 => ⟨S_, .f32⟩
  | 117 => ⟨S8192x384, .f32⟩
  | 118 => ⟨S8192x384, .f32⟩
  | 119 => ⟨S2048x4x384, .f32⟩
  | 120 => ⟨S4x2048x384, .f32⟩
  | 121 => ⟨S_, .f32⟩
  | 122 => ⟨S8192x384, .f32⟩
  | 123 => ⟨S8192x384, .f32⟩
  | 124 => ⟨S512x16x384, .f32⟩
  | 125 => ⟨S16x512x384, .f32⟩
  | 126 => ⟨S8192x1x384, .f32⟩
  | 127 => ⟨S1x8192x384, .f32⟩
  | _ => ⟨S8192x1024, .bf16⟩

abbrev hbmTy0_1 (i : Nat) : BufTy := match i % 128 with
  | 0 => ⟨S2048x4x384, .f32⟩
  | 1 => ⟨S4x2048x384, .f32⟩
  | 2 => ⟨S512x16x384, .f32⟩
  | 3 => ⟨S16x512x384, .f32⟩
  | 4 => ⟨S8192x1x384, .f32⟩
  | 5 => ⟨S1x8192x384, .f32⟩
  | 6 => ⟨S2048x4x384, .f32⟩
  | 7 => ⟨S4x2048x384, .f32⟩
  | 8 => ⟨S512x16x384, .f32⟩
  | 9 => ⟨S16x512x384, .f32⟩
  | 10 => ⟨S8192x384, .bf16⟩
  | 11 => ⟨S8192x128, .bf16⟩
  | 12 => ⟨S8192x128, .bf16⟩
  | 13 => ⟨S8192x384, .bf16⟩
  | 14 => ⟨S8192x384, .bf16⟩
  | 15 => ⟨S8192x256, .bf16⟩
  | 16 => ⟨S8192x256, .bf16⟩
  | 17 => ⟨S1x8192x384, .bf16⟩
  | 18 => ⟨S4x2048x384, .bf16⟩
  | 19 => ⟨S16x512x384, .bf16⟩
  | 20 => ⟨S1x8192x384, .bf16⟩
  | 21 => ⟨S4x2048x384, .bf16⟩
  | 22 => ⟨S16x512x384, .bf16⟩
  | 23 => ⟨S1x8192x384, .bf16⟩
  | 24 => ⟨S4x2048x384, .bf16⟩
  | 25 => ⟨S16x512x384, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_cst_3 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_cst_4 : Ref sig .tc := ⟨.hbm, 108, rfl⟩
abbrev main_v101 : Ref sig .tc := ⟨.hbm, 109, rfl⟩
abbrev main_v102 : Ref sig .tc := ⟨.hbm, 110, rfl⟩
abbrev main_cst_5 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_cst_6 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_cst_7 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩

abbrev nD : Nat := 1
abbrev τ : Topo := Topo.v7x

variable {F : FTy → Type} [FloatOps F]
-- ==== Proof.Arrays.lean ====
module

public import proofs.«01_k».proof.Proof.Gen.KernelIdeal.Skeleton
public import Idealize.ShloMosaic.Lib.Pipeline.Value
public import Idealize.ShloMosaic.Lib.Pointwise
public import Idealize.ShloMosaic.Lib.MatmulPlain

/-! # Arrays of real numbers

The vectors the kernel works on, when every element is a real number: `up2 a b f` is the matrix whose element at row
`i` and lane `j` is the real `f i j`. One lemma per operation says what the operation makes of such matrices, so that
everything the kernel computes can be written as functions on real numbers. -/

@[expose] public section

noncomputable section

namespace Cert.MemAttn

open Cert.KernelIdeal Cert.KernelIdeal.Gen Idealize.ShloMosaic Idealize.ShloMosaic.ValueIdx

/-- The matrix of the reals `f i j`. -/
def up2 (a b : ℕ) (f : ℕ → ℕ → ℝ) : (⟨2, ![a, b]⟩ : Shape).Idx → EReal := fun y => ((f (y 0).val (y 1).val : ℝ) : EReal)

/-- The three-dimensional array of the reals `f i j k`. -/
def up3 (a b c : ℕ) (f : ℕ → ℕ → ℕ → ℝ) : (⟨3, ![a, b, c]⟩ : Shape).Idx → EReal :=
  fun y => ((f (y 0).val (y 1).val (y 2).val : ℝ) : EReal)

theorem up2_congr {a b : ℕ} {f g : ℕ → ℕ → ℝ} (h : ∀ i < a, ∀ j < b, f i j = g i j) : up2 a b f = up2 a b g := by
  funext y; unfold up2; rw [h _ (y 0).isLt _ (y 1).isLt]

theorem up3_congr {a b c : ℕ} {f g : ℕ → ℕ → ℕ → ℝ} (h : ∀ i < a, ∀ j < b, ∀ k < c, f i j k = g i j k) :
    up3 a b c f = up3 a b c g := by
  funext y; unfold up3; rw [h _ (y 0).isLt _ (y 1).isLt _ (y 2).isLt]

theorem coe_sum {ι : Type*} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem coe_sum_range (n : ℕ) (f : ℕ → ℝ) : ∑ i : Fin n, ((f i.val : ℝ) : EReal) = ((∑ i ∈ Finset.range n, f i : ℝ) : EReal) := by
  rw [coe_sum, Finset.sum_range]

/-! ## Element by element -/

section Elementwise
variable {a b : ℕ} {φ : FTy} (f g : ℕ → ℕ → ℝ)

theorem addf_up2 : addf (F := Ideal) (φ := φ) (up2 a b f) (up2 a b g) = up2 a b fun i j => f i j + g i j := by
  funext y; exact (EReal.coe_add _ _).symm
theorem subf_up2 : subf (F := Ideal) (φ := φ) (up2 a b f) (up2 a b g) = up2 a b fun i j => f i j - g i j := by
  funext y; exact (EReal.coe_sub _ _).symm
theorem mulf_up2 : mulf (F := Ideal) (φ := φ) (up2 a b f) (up2 a b g) = up2 a b fun i j => f i j * g i j := by
  funext y; exact (EReal.coe_mul _ _).symm
theorem exp_up2 : Idealize.ShloMosaic.exp (F := Ideal) (φ := φ) (up2 a b f) = up2 a b fun i j => Real.exp (f i j) := by
  funext y; pointwise; simp only [up2, Ideal.exp_coe]
theorem truncf_up2 (ψ : FTy) (h : ψ.bits < φ.bits) : truncf (F := Ideal) (φ := φ) ψ (up2 a b f) h = up2 a b f := rfl
theorem extf_up2 (ψ : FTy) (h : φ.bits < ψ.bits) : extf (F := Ideal) (φ := φ) ψ (up2 a b f) h = up2 a b f := rfl
theorem constant_zero : constant (F := Ideal) ⟨2, ![a, b]⟩ .f32 0x00000000#32 = up2 a b fun _ _ => 0 := by
  funext y; simp only [up2, constant_apply, EReal.coe_zero]; exact Ideal.ofBits_zero_f32

theorem broadcast_zero : broadcast ⟨2, ![a, b]⟩ (FloatOps.ofBits (F := Ideal) .f32 0x00000000#32) = up2 a b fun _ _ => 0 := by
  funext y; simp only [up2, broadcast_apply, EReal.coe_zero]; exact Ideal.ofBits_zero_f32

end Elementwise

/-! ## Products -/

theorem matmul_transposed {φ₁ φ₂ : FTy} (f g : ℕ → ℕ → ℝ) :
    matmul (F := Ideal) (φ₁ := φ₁) (φ₂ := φ₂) dot_S256x128_S256x128_S256x256_1_1_0_0_n_n none (up2 256 128 f) (up2 256 128 g)
      (up2 256 256 fun _ _ => 0) = up2 256 256 fun i j => ∑ k ∈ Finset.range 128, f i k * g j k := by
  funext y
  pointwise
  simp only [up2, ← EReal.coe_mul, EReal.coe_zero, zero_add]
  exact coe_sum_range 128 fun k => f (y 0).val k * g (y 1).val k

theorem matmul_joined {φ₁ φ₂ : FTy} (f g : ℕ → ℕ → ℝ) :
    matmul (F := Ideal) (φ₁ := φ₁) (φ₂ := φ₂) dot_S256x512_S512x128_S256x128_1_0_0_1_n_n none (up2 256 512 f) (up2 512 128 g)
      (up2 256 128 fun _ _ => 0) = up2 256 128 fun i j => ∑ k ∈ Finset.range 512, f i k * g k j := by
  funext y
  pointwise
  simp only [up2, ← EReal.coe_mul, EReal.coe_zero, zero_add]
  exact coe_sum_range 512 fun k => f (y 0).val k * g k (y 1).val

theorem matmul_joined_dq {φ₁ φ₂ : FTy} (f g : ℕ → ℕ → ℝ) :
    matmul (F := Ideal) (φ₁ := φ₁) (φ₂ := φ₂) dot_S128x512_S512x256_S128x256_1_0_0_1_n_n none (up2 128 512 f) (up2 512 256 g)
      (up2 128 256 fun _ _ => 0) = up2 128 256 fun i j => ∑ k ∈ Finset.range 512, f i k * g k j := by
  funext y
  pointwise
  simp only [up2, ← EReal.coe_mul, EReal.coe_zero, zero_add]
  exact coe_sum_range 512 fun k => f (y 0).val k * g k (y 1).val

theorem matmul_stat {φ₁ φ₂ : FTy} (f g : ℕ → ℕ → ℝ) :
    matmul (F := Ideal) (φ₁ := φ₁) (φ₂ := φ₂) dot_S8x128_S128x128_S8x128_1_1_0_0_n_n none (up2 8 128 f) (up2 128 128 g)
      (up2 8 128 fun _ _ => 0) = up2 8 128 fun i j => ∑ k ∈ Finset.range 128, f i k * g j k := by
  funext y
  pointwise
  simp only [up2, ← EReal.coe_mul, EReal.coe_zero, zero_add]
  exact coe_sum_range 128 fun k => f (y 0).val k * g (y 1).val k

/-! ## Changes of shape -/

theorem cast_rows {a b : ℕ} (x : (⟨2, ![a, b]⟩ : Shape).Idx → EReal) (h : (⟨2, ![a, b]⟩ : Shape).ShapeCasts ⟨2, ![a, b]⟩) :
    shapeCast ⟨2, ![a, b]⟩ x h = x := by
  funext y; simp only [shapeCast, Shape.reshapeEquiv_self, Equiv.refl_apply]

theorem cast_row (f : ℕ → ℕ → ℕ → ℝ) (h : S1x1x128.ShapeCasts S1x128) :
    shapeCast S1x128 (up3 1 1 128 f) h = up2 1 128 fun _ j => f 0 0 j := by
  funext y; pointwise; simp [up2, up3]
theorem cast_drop (f : ℕ → ℕ → ℕ → ℝ) (h : S1x128x256.ShapeCasts S128x256) :
    shapeCast S128x256 (up3 1 128 256 f) h = up2 128 256 fun i j => f 0 i j := by
  funext y; pointwise; simp [up2, up3]
theorem cast_drop_wide (f : ℕ → ℕ → ℕ → ℝ) (h : S1x128x1024.ShapeCasts S128x1024) :
    shapeCast S128x1024 (up3 1 128 1024 f) h = up2 128 1024 fun i j => f 0 i j := by
  funext y; pointwise; simp [up2, up3]
theorem cast_add (f : ℕ → ℕ → ℝ) (h : S128x256.ShapeCasts S1x128x256) :
    shapeCast S1x128x256 (up2 128 256 f) h = up3 1 128 256 fun _ i j => f i j := by
  funext y; pointwise; simp [up2, up3]
theorem cast_add_stat (f : ℕ → ℕ → ℝ) (h : S8x128.ShapeCasts S1x8x128) :
    shapeCast S1x8x128 (up2 8 128 f) h = up3 1 8 128 fun _ i j => f i j := by
  funext y; pointwise; simp [up2, up3]

theorem broadcast_row (f : ℕ → ℕ → ℝ) (h : S1x256.Broadcasts S256x256) :
    broadcastTo S256x256 (up2 1 256 f) h = up2 256 256 fun _ j => f 0 j := by
  funext y; pointwise; simp [up2]

theorem transpose_rows (f : ℕ → ℕ → ℝ) (p : List (Fin S256x128.rank)) (hp : p = [1, 0]) (h : S256x128.Transposes p S128x256) :
    transpose S128x256 p (up2 256 128 f) h = up2 128 256 fun i j => f j i := by
  subst hp
  funext y; pointwise; simp [up2]
theorem transpose_wide (f : ℕ → ℕ → ℝ) (p : List (Fin S128x1024.rank)) (hp : p = [1, 0]) (h : S128x1024.Transposes p S1024x128) :
    transpose S1024x128 p (up2 128 1024 f) h = up2 1024 128 fun i j => f j i := by
  subst hp
  funext y; pointwise; simp [up2]

/-! ## Two vectors side by side -/

/-- Two rows side by side, and so on: the concatenations with their parts as arguments. -/
def joinRow (x y : S1x128.Idx → EReal) : S1x256.Idx → EReal := concatenate S1x256 1 [⟨S1x128, x⟩, ⟨S1x128, y⟩] concatenates_S1x128_S1x128_S1x256_d1
def joinLanes (x y : S256x256.Idx → EReal) : S256x512.Idx → EReal :=
  concatenate S256x512 1 [⟨S256x256, x⟩, ⟨S256x256, y⟩] concatenates_S256x256_S256x256_S256x512_d1
def joinLanesDq (x y : S128x256.Idx → EReal) : S128x512.Idx → EReal :=
  concatenate S128x512 1 [⟨S128x256, x⟩, ⟨S128x256, y⟩] concatenates_S128x256_S128x256_S128x512_d1
def joinRows (x y : S256x128.Idx → EReal) : S512x128.Idx → EReal :=
  concatenate S512x128 0 [⟨S256x128, x⟩, ⟨S256x128, y⟩] concatenates_S256x128_S256x128_S512x128_d0
def joinRowsDq (x y : S256x256.Idx → EReal) : S512x256.Idx → EReal :=
  concatenate S512x256 0 [⟨S256x256, x⟩, ⟨S256x256, y⟩] concatenates_S256x256_S256x256_S512x256_d0

theorem join_row (x y h) : concatenate S1x256 1 [⟨S1x128, x⟩, ⟨S1x128, y⟩] h = joinRow x y := rfl
theorem join_lanes (x y h) : concatenate S256x512 1 [⟨S256x256, x⟩, ⟨S256x256, y⟩] h = joinLanes x y := rfl
theorem join_lanes_dq (x y h) : concatenate S128x512 1 [⟨S128x256, x⟩, ⟨S128x256, y⟩] h = joinLanesDq x y := rfl
theorem join_rows (x y h) : concatenate S512x128 0 [⟨S256x128, x⟩, ⟨S256x128, y⟩] h = joinRows x y := rfl
theorem join_rows_dq (x y h) : concatenate S512x256 0 [⟨S256x256, x⟩, ⟨S256x256, y⟩] h = joinRowsDq x y := rfl

theorem concat_row (f g : ℕ → ℕ → ℝ) :
    joinRow (up2 1 128 f) (up2 1 128 g) = up2 1 256 fun i j => if j < 128 then f i j else g i (j - 128) := by
  funext y
  have h0 : (y 0).val = 0 := by have := (y 0).isLt; simp at this; omega
  unfold joinRow; pointwise; simp only [up2, h0]; split <;> rfl
theorem concat_lanes (f g : ℕ → ℕ → ℝ) :
    joinLanes (up2 256 256 f) (up2 256 256 g) = up2 256 512 fun i j => if j < 256 then f i j else g i (j - 256) := by
  funext y; unfold joinLanes; pointwise; simp only [up2]; split <;> rfl
theorem concat_lanes_dq (f g : ℕ → ℕ → ℝ) :
    joinLanesDq (up2 128 256 f) (up2 128 256 g) = up2 128 512 fun i j => if j < 256 then f i j else g i (j - 256) := by
  funext y; unfold joinLanesDq; pointwise; simp only [up2]; split <;> rfl
theorem concat_rows (f g : ℕ → ℕ → ℝ) :
    joinRows (up2 256 128 f) (up2 256 128 g) = up2 512 128 fun i j => if i < 256 then f i j else g (i - 256) j := by
  funext y; unfold joinRows; pointwise; simp only [up2]; split <;> rfl
theorem concat_rows_dq (f g : ℕ → ℕ → ℝ) :
    joinRowsDq (up2 256 256 f) (up2 256 256 g) = up2 512 256 fun i j => if i < 256 then f i j else g (i - 256) j := by
  funext y; unfold joinRowsDq; pointwise; simp only [up2]; split <;> rfl

/-! ## Products of joined matrices -/

theorem sum_512 (f : ℕ → ℝ) : ∑ k ∈ Finset.range 512, f k = ∑ k ∈ Finset.range 256, f k + ∑ k ∈ Finset.range 256, f (256 + k) :=
  Finset.sum_range_add f 256 256

theorem sum_joined (f g u w : ℕ → ℝ) :
    ∑ k ∈ Finset.range 512, (if k < 256 then f k else g (k - 256)) * (if k < 256 then u k else w (k - 256))
      = ∑ k ∈ Finset.range 256, f k * u k + ∑ k ∈ Finset.range 256, g k * w k := by
  rw [sum_512]
  exact congrArg₂ (· + ·) (Finset.sum_congr rfl fun k hk => by simp only [if_pos (Finset.mem_range.1 hk)])
    (Finset.sum_congr rfl fun k hk => by simp)

theorem matmul_two {φ₁ φ₂ : FTy} (f g u w : ℕ → ℕ → ℝ) :
    matmul (F := Ideal) (φ₁ := φ₁) (φ₂ := φ₂) dot_S256x512_S512x128_S256x128_1_0_0_1_n_n none
      (joinLanes (up2 256 256 f) (up2 256 256 g)) (joinRows (up2 256 128 u) (up2 256 128 w))
      (up2 256 128 fun _ _ => 0)
    = up2 256 128 fun i j => ∑ k ∈ Finset.range 256, f i k * u k j + ∑ k ∈ Finset.range 256, g i k * w k j := by
  rw [concat_lanes, concat_rows, matmul_joined]
  exact up2_congr fun i _ j _ => sum_joined (f i) (g i) (fun k => u k j) (fun k => w k j)

theorem matmul_two_dq {φ₁ φ₂ : FTy} (f g u w : ℕ → ℕ → ℝ) :
    matmul (F := Ideal) (φ₁ := φ₁) (φ₂ := φ₂) dot_S128x512_S512x256_S128x256_1_0_0_1_n_n none
      (joinLanesDq (up2 128 256 f) (up2 128 256 g)) (joinRowsDq (up2 256 256 u) (up2 256 256 w))
      (up2 128 256 fun _ _ => 0)
    = up2 128 256 fun i j => ∑ k ∈ Finset.range 256, f i k * u k j + ∑ k ∈ Finset.range 256, g i k * w k j := by
  rw [concat_lanes_dq, concat_rows_dq, matmul_joined_dq]
  exact up2_congr fun i _ j _ => sum_joined (f i) (g i) (fun k => u k j) (fun k => w k j)

/-! ## Reading a part of a matrix -/

theorem ld_f32 (a b c d p q : ℕ) (f : ℕ → ℕ → ℝ) (h : ∀ x : Fin 2, ![p, q] x + ![c, d] x ≤ (⟨2, ![a, b]⟩ : Shape).size x) :
    View.ld (Val := Elt Ideal) (e' := .f32) (up2 a b f) (Rect.unit (s := ⟨2, ![a, b]⟩) ![p, q] ![c, d] h)
      = up2 c d fun i j => f (p + i) (q + j) := by
  funext y; pointwise; simp only [up2]; rfl

theorem ld_bf16 (a b c d p q : ℕ) (f : ℕ → ℕ → ℝ) (h : ∀ x : Fin 2, ![p, q] x + ![c, d] x ≤ (⟨2, ![a, b]⟩ : Shape).size x) :
    View.ld (Val := Elt Ideal) (e' := .bf16) (up2 a b f) (Rect.unit (s := ⟨2, ![a, b]⟩) ![p, q] ![c, d] h)
      = up2 c d fun i j => f (p + i) (q + j) := by
  funext y; pointwise; simp only [up2, up3]; rfl

theorem ld3_f32 (a b c d e g p q r : ℕ) (f : ℕ → ℕ → ℕ → ℝ) (h : ∀ x : Fin 3, ![p, q, r] x + ![d, e, g] x ≤ (⟨3, ![a, b, c]⟩ : Shape).size x) :
    View.ld (Val := Elt Ideal) (e' := .f32) (up3 a b c f) (Rect.unit (s := ⟨3, ![a, b, c]⟩) ![p, q, r] ![d, e, g] h)
      = up3 d e g fun i j k => f (p + i) (q + j) (r + k) := by
  funext y; pointwise; simp only [up2, up3]; rfl

theorem ld3_bf16 (a b c d e g p q r : ℕ) (f : ℕ → ℕ → ℕ → ℝ) (h : ∀ x : Fin 3, ![p, q, r] x + ![d, e, g] x ≤ (⟨3, ![a, b, c]⟩ : Shape).size x) :
    View.ld (Val := Elt Ideal) (e' := .bf16) (up3 a b c f) (Rect.unit (s := ⟨3, ![a, b, c]⟩) ![p, q, r] ![d, e, g] h)
      = up3 d e g fun i j k => f (p + i) (q + j) (r + k) := by
  funext y; pointwise; simp only [up2, up3]; rfl

/-! ## Keeping half of the lanes -/

/-- What a select against zero keeps: the elements where the mask is one. -/
theorem select_lanes (c : IVec S256x128 1) (P : ℕ → Prop) [DecidablePred P] (f : ℕ → ℕ → ℝ)
    (hc : ∀ y : S256x128.Idx, c y = if P (y 1).val then 1#1 else 0#1) :
    select c (up2 256 128 f) (broadcast S256x128 (FloatOps.ofBits (F := Ideal) .bf16 0x0000#16))
      = up2 256 128 fun i j => if P j then f i j else 0 := by
  funext y
  rw [select_apply, hc y]
  by_cases h : P (y 1).val <;> simp only [h, if_true, if_false, select_one, select_zero, up2]
  exact Ideal.ofBits_zero_bf16

theorem select_rows (c : IVec S128x256 1) (P : ℕ → Prop) [DecidablePred P] (f : ℕ → ℕ → ℝ)
    (hc : ∀ y : S128x256.Idx, c y = if P (y 0).val then 1#1 else 0#1) :
    select c (up2 128 256 f) (broadcast S128x256 (FloatOps.ofBits (F := Ideal) .bf16 0x0000#16))
      = up2 128 256 fun i j => if P i then f i j else 0 := by
  funext y
  rw [select_apply, hc y]
  by_cases h : P (y 0).val <;> simp only [h, if_true, if_false, select_one, select_zero, up2]
  exact Ideal.ofBits_zero_bf16

theorem low_bit : ∀ n : Fin 256, IntOp.cmpi .slt (BitVec.ofNat 32 n.val) 64#32 = if n.val < 64 then 1#1 else 0#1 := by decide
theorem high_bit : ∀ n : Fin 256, IntOp.cmpi .sge (BitVec.ofNat 32 n.val) 64#32 = if 64 ≤ n.val then 1#1 else 0#1 := by decide

theorem mask_low (y : S256x128.Idx) : k0_pay45 y = if (y 1).val < 64 then 1#1 else 0#1 := by
  have h : (y 1).val < 128 := (y 1).isLt
  unfold k0_pay45; pointwise
  exact low_bit ⟨(y 1).val, by omega⟩
theorem mask_high (y : S256x128.Idx) : k0_pay46 y = if 64 ≤ (y 1).val then 1#1 else 0#1 := by
  have h : (y 1).val < 128 := (y 1).isLt
  unfold k0_pay46; pointwise
  exact high_bit ⟨(y 1).val, by omega⟩
theorem mask_rows_low (y : S128x256.Idx) : k0_pay47 y = if (y 0).val < 64 then 1#1 else 0#1 := by
  have h : (y 0).val < 128 := (y 0).isLt
  unfold k0_pay47; pointwise
  exact low_bit ⟨(y 0).val, by omega⟩
theorem mask_rows_high (y : S128x256.Idx) : k0_pay48 y = if 64 ≤ (y 0).val then 1#1 else 0#1 := by
  have h : (y 0).val < 128 := (y 0).isLt
  unfold k0_pay48; pointwise
  exact high_bit ⟨(y 0).val, by omega⟩

theorem keep_low (f : ℕ → ℕ → ℝ) :
    select k0_pay45 (up2 256 128 f) (broadcast S256x128 (FloatOps.ofBits (F := Ideal) .bf16 0x0000#16))
      = up2 256 128 fun i j => if j < 64 then f i j else 0 := select_lanes _ _ f mask_low
theorem keep_high (f : ℕ → ℕ → ℝ) :
    select k0_pay46 (up2 256 128 f) (broadcast S256x128 (FloatOps.ofBits (F := Ideal) .bf16 0x0000#16))
      = up2 256 128 fun i j => if 64 ≤ j then f i j else 0 := select_lanes _ _ f mask_high
theorem keep_rows_low (f : ℕ → ℕ → ℝ) :
    select k0_pay47 (up2 128 256 f) (broadcast S128x256 (FloatOps.ofBits (F := Ideal) .bf16 0x0000#16))
      = up2 128 256 fun i j => if i < 64 then f i j else 0 := select_rows _ _ f mask_rows_low
theorem keep_rows_high (f : ℕ → ℕ → ℝ) :
    select k0_pay48 (up2 128 256 f) (broadcast S128x256 (FloatOps.ofBits (F := Ideal) .bf16 0x0000#16))
      = up2 128 256 fun i j => if 64 ≤ i then f i j else 0 := select_rows _ _ f mask_rows_high

/-! ## The matrix that picks the first eight columns -/

theorem eq_bit : ∀ (a : Fin 8) (b : Fin 128), (((IntOp.cmpi .eq (BitVec.ofNat 32 a.val) (BitVec.ofNat 32 b.val)).zeroExtend 32).toInt : ℤ)
    = if a.val = b.val then 1 else 0 := by decide

theorem pick_eight (a b : IVec S8x128 32) (ha : a = iota .tc S8x128 32 [0] iota_S8x128_d0_w32)
    (hb : b = iota .tc S8x128 32 [1] iota_S8x128_d1_w32) (h2 h3) :
    truncf (F := Ideal) .bf16 (sitofp .f32 (extui 32 (cmpi .eq a b) h2)) h3 = up2 8 128 fun i j => if i = j then 1 else 0 := by
  subst ha hb
  funext y
  have h : (y 0).val < 8 := (y 0).isLt
  have h' : (y 1).val < 128 := (y 1).isLt
  pointwise
  have := eq_bit ⟨(y 0).val, h⟩ ⟨(y 1).val, h'⟩
  show (((BitVec.setWidth 32 (IntOp.cmpi .eq (BitVec.ofNat 32 (y 0).val) (BitVec.ofNat 32 (y 1).val))).toInt : ℝ) : EReal) = _
  rw [show (BitVec.setWidth 32 (IntOp.cmpi .eq (BitVec.ofNat 32 (y 0).val) (BitVec.ofNat 32 (y 1).val))).toInt = _ from this]
  simp only [up2]
  split <;> simp

/-! ## Writes one over another -/

theorem canon_step {s : Shape} {e : EltTy} (off size : Fin s.rank → ℕ) (inb) (w : (Rect.unit (s := s) off size inb).shape.Idx → Elt Ideal e)
    (L : List (View.Piece (Elt Ideal) s e)) (y : s.Idx) :
    View.canon (⟨Rect.unit off size inb, w⟩ :: L) y
      = if h : ∀ a, off a ≤ (y a).val ∧ (y a).val < off a + size a then w (fun a => ⟨(y a).val - off a, by have := h a; simp; omega⟩)
        else View.canon L y := by
  split
  · next h =>
    have hy : y = (Rect.unit off size inb).emb (fun a => ⟨(y a).val - off a, by have := h a; simp; omega⟩) := by
      funext a; apply Fin.ext
      have := h a
      show _ = off a + 1 * ((y a).val - off a); omega
    conv_lhs => rw [hy]
    rw [View.canon_cons_emb]
  · next h =>
    exact View.canon_cons_of_not_mem _ _ (by rw [Rect.mem_set_unit]; exact h)

theorem canon_left {f g : ℕ → ℕ → ℝ} (inb) {L : List (View.Piece (Elt Ideal) S256x256 .f32)} (hL : View.canon L = up2 256 256 g) :
    View.canon (⟨Rect.unit (s := S256x256) ![0, 0] ![256, 128] inb, up2 256 128 f⟩ :: L)
      = up2 256 256 fun i j => if j < 128 then f i j else g i j := by
  funext y
  rw [canon_step, hL]
  by_cases h : (y 1).val < 128
  · rw [dif_pos (by rw [Fin.forall_fin_two]; exact ⟨⟨Nat.zero_le _, by simpa using (y 0).isLt⟩, ⟨Nat.zero_le _, by simpa using h⟩⟩)]
    simp [up2, h]
  · rw [dif_neg (fun hall => by have := hall 1; simp at this; omega)]
    simp [up2, h]

theorem canon_right {f g : ℕ → ℕ → ℝ} (inb) {L : List (View.Piece (Elt Ideal) S256x256 .f32)} (hL : View.canon L = up2 256 256 g) :
    View.canon (⟨Rect.unit (s := S256x256) ![0, 128] ![256, 128] inb, up2 256 128 f⟩ :: L)
      = up2 256 256 fun i j => if 128 ≤ j then f i (j - 128) else g i j := by
  funext y
  rw [canon_step, hL]
  have h1 : (y 1).val < 256 := (y 1).isLt
  by_cases h : 128 ≤ (y 1).val
  · rw [dif_pos (by rw [Fin.forall_fin_two]; exact ⟨⟨Nat.zero_le _, by simpa using (y 0).isLt⟩, ⟨by simpa using h, by simpa using h1⟩⟩)]
    simp [up2, h]
  · rw [dif_neg (fun hall => by have := hall 1; simp at this; omega)]
    simp [up2, h]

/-- A write of one row of a stack of eight rows of statistics. -/
theorem canon_stat (p : ℕ) (f : ℕ → ℕ → ℕ → ℝ) (inb) (L : List (View.Piece (Elt Ideal) S8x8x128 .f32)) (y : S8x8x128.Idx) :
    View.canon (⟨Rect.unit (s := S8x8x128) ![p, 0, 0] ![1, 8, 128] inb, up3 1 8 128 f⟩ :: L) y
      = if (y 0).val = p then ((f 0 (y 1).val (y 2).val : ℝ) : EReal) else View.canon L y := by
  rw [canon_step]
  have h1 : (y 1).val < 8 := (y 1).isLt
  have h2 : (y 2).val < 128 := (y 2).isLt
  by_cases h : (y 0).val = p
  · rw [dif_pos (by intro a; fin_cases a <;> simp <;> omega), if_pos h]
    simp [up3, h]
  · rw [dif_neg (fun hall => by have := hall 0; simp at this; omega), if_neg h]

/-- A write of 256 lanes into one half of a stack of two matrices. -/
theorem canon_part (p q : ℕ) (f : ℕ → ℕ → ℕ → ℝ) (inb) (L : List (View.Piece (Elt Ideal) S2x128x1024 .f32)) (y : S2x128x1024.Idx) :
    View.canon (⟨Rect.unit (s := S2x128x1024) ![p, 0, q] ![1, 128, 256] inb, up3 1 128 256 f⟩ :: L) y
      = if (y 0).val = p ∧ q ≤ (y 2).val ∧ (y 2).val < q + 256 then ((f 0 (y 1).val ((y 2).val - q) : ℝ) : EReal) else View.canon L y := by
  rw [canon_step]
  have h1 : (y 1).val < 128 := (y 1).isLt
  by_cases h : (y 0).val = p ∧ q ≤ (y 2).val ∧ (y 2).val < q + 256
  · rw [dif_pos (by intro a; fin_cases a <;> simp <;> omega), if_pos h]
    simp [up3, h.1]
  · rw [dif_neg (fun hall => by have := hall 0; have h2 := hall 2; simp at this h2; omega), if_neg h]

/-- A write of one half of a stack of two matrices. -/
theorem canon_half (p : ℕ) (f : ℕ → ℕ → ℕ → ℝ) (inb) (L : List (View.Piece (Elt Ideal) S2x128x256 .bf16)) (y : S2x128x256.Idx) :
    View.canon (⟨Rect.unit (s := S2x128x256) ![p, 0, 0] ![1, 128, 256] inb, up3 1 128 256 f⟩ :: L) y
      = if (y 0).val = p then ((f 0 (y 1).val (y 2).val : ℝ) : EReal) else View.canon L y := by
  rw [canon_step]
  have h1 : (y 1).val < 128 := (y 1).isLt
  have h2 : (y 2).val < 256 := (y 2).isLt
  by_cases h : (y 0).val = p
  · rw [dif_pos (by intro a; fin_cases a <;> simp <;> omega), if_pos h]
    simp [up3, h]
  · rw [dif_neg (fun hall => by have := hall 0; simp at this; omega), if_neg h]

/-- A write of 128 lanes of the gradient of q. -/
theorem canon_lanes (q : ℕ) (f : ℕ → ℕ → ℝ) (inb) (L : List (View.Piece (Elt Ideal) S1024x256 .bf16)) (y : S1024x256.Idx) :
    View.canon (⟨Rect.unit (s := S1024x256) ![0, q] ![1024, 128] inb, up2 1024 128 f⟩ :: L) y
      = if q ≤ (y 1).val ∧ (y 1).val < q + 128 then ((f (y 0).val ((y 1).val - q) : ℝ) : EReal) else View.canon L y := by
  rw [canon_step]
  have h1 : (y 0).val < 1024 := (y 0).isLt
  by_cases h : q ≤ (y 1).val ∧ (y 1).val < q + 128
  · rw [dif_pos (by intro a; fin_cases a <;> simp <;> omega), if_pos h]
    simp [up2]
  · rw [dif_neg (fun hall => by have := hall 1; simp at this; omega), if_neg h]

theorem canon_pair {f g : ℕ → ℕ → ℝ} (inb inb') :
    View.canon (Val := Elt Ideal) (e := .f32) [⟨Rect.unit (s := S256x256) ![0, 128] ![256, 128] inb, up2 256 128 f⟩,
      ⟨Rect.unit (s := S256x256) ![0, 0] ![256, 128] inb', up2 256 128 g⟩]
      = up2 256 256 fun i j => if 128 ≤ j then f i (j - 128) else g i j := by
  funext y
  have h1 : (y 1).val < 256 := (y 1).isLt
  have h0 : (y 0).val < 256 := (y 0).isLt
  rw [canon_step, canon_step]
  by_cases h : 128 ≤ (y 1).val
  · rw [dif_pos (by intro a; fin_cases a <;> simp <;> omega)]
    simp [up2, h]
  · rw [dif_neg (fun hall => by have := hall 1; simp at this; omega), dif_pos (by intro a; fin_cases a <;> simp <;> omega)]
    simp [up2, h]

theorem canon_whole {f : ℕ → ℕ → ℝ} (inb) (L : List (View.Piece (Elt Ideal) S256x256 .f32)) :
    View.canon (⟨Rect.unit (s := S256x256) ![0, 0] ![256, 256] inb, up2 256 256 f⟩ :: L) = up2 256 256 f := by
  funext y
  rw [canon_step, dif_pos (by intro a; have := (y a).isLt; fin_cases a <;> simpa using this)]
  simp [up2]

theorem readCov_ld {sig : RefSig} {κ : Kind} {sp : Space} {s : Shape} {e : EltTy} (v : View sig κ sp s e)
    (L : List (View.Piece (Elt Ideal) s e)) (off size : Fin s.rank → ℕ) (inb) :
    v.readCov L (Rect.unit off size inb).toLoadRect = View.ld (View.canon L) (Rect.unit off size inb) :=
  View.readCov_eq_canon' v L _

end Cert.MemAttn
-- ==== Proof.Spec.lean ====
module

public import proofs.«01_k».proof.Proof.Arrays

/-! # What one block of the attention gradient is

The mathematics of one grid point on real numbers: the block's rows of q (`Q`) and of the output's gradient (`D`), the
memory's keys and values (`K`, `V`), and per row and head the saved log-sum (`Ls`) and the row correction (`Dl`). -/

@[expose] public section

noncomputable section

namespace Cert.MemAttn

open Finset

/-- The product of row `i` of `X` and row `j` of `Y` over the 64 lanes of head `h`. -/
def dotHead (X Y : ℕ → ℕ → ℝ) (h i j : ℕ) : ℝ := ∑ d ∈ range 64, X i (64 * h + d) * Y j (64 * h + d)

/-- The attention weight of memory row `m` at position `s` in head `h`. -/
def prob (K Q Ls : ℕ → ℕ → ℝ) (h m s : ℕ) : ℝ := Real.exp (dotHead K Q h m s - Ls s h)

/-- The gradient of the score of memory row `m` at position `s` in head `h`. -/
def dscore (K Q V D Ls Dl : ℕ → ℕ → ℝ) (h m s : ℕ) : ℝ := prob K Q Ls h m s * (dotHead V D h m s - Dl s h)

/-- What `k` of the eight partial sums of a block have added to lane `l` of memory row `m`: 256 positions each, the even
ones to the first 128 lanes and the odd ones to the others. -/
def acc (P : ℕ → ℕ → ℕ → ℝ) (X : ℕ → ℕ → ℝ) (k m l : ℕ) : ℝ :=
  ∑ s ∈ range (256 * (if l < 128 then (k + 1) / 2 else k / 2)), P (l / 64) m s * X s l

theorem acc_eight (P X m l) : acc P X 8 m l = ∑ s ∈ range 1024, P (l / 64) m s * X s l := by unfold acc; split <;> rfl
theorem acc_zero (P X m l) : acc P X 0 m l = 0 := by unfold acc; split <;> simp

theorem dot_low (X Y : ℕ → ℝ) : ∑ k ∈ range 128, X k * (if k < 64 then Y k else 0) = ∑ d ∈ range 64, X d * Y d := by
  rw [show (128 : ℕ) = 64 + 64 from rfl, sum_range_add, sum_congr rfl (fun d hd => by rw [if_pos (mem_range.1 hd)]),
    sum_eq_zero (s := range 64) (f := fun d => X (64 + d) * _) (fun d hd => by simp), add_zero]
theorem dot_high (X Y : ℕ → ℝ) : ∑ k ∈ range 128, X k * (if 64 ≤ k then Y k else 0) = ∑ d ∈ range 64, X (64 + d) * Y (64 + d) := by
  rw [show (128 : ℕ) = 64 + 64 from rfl, sum_range_add,
    sum_eq_zero (s := range 64) (f := fun d => X d * _) (fun d hd => by rw [if_neg (by have := mem_range.1 hd; omega), mul_zero]), zero_add]
  exact sum_congr rfl fun d hd => by rw [if_pos (by omega)]

theorem pick_sum (X : ℕ → ℝ) (h : ℕ) (hh : h < 8) : ∑ k ∈ range 128, (if h = k then (1 : ℝ) else 0) * X k = X h := by
  simp only [ite_mul, one_mul, zero_mul, sum_ite_eq, mem_range]
  rw [if_pos (by omega)]

/-- The first sum takes the lanes below 64 and the second the others: together each lane's own head. -/
theorem halves_sum {j : ℕ} (hj : j < 128) (P : ℕ → ℕ → ℝ) (X : ℕ → ℝ) (p : ℕ) :
    ∑ k ∈ range 256, P (2 * p) k * (if j < 64 then X k else 0) + ∑ k ∈ range 256, P (2 * p + 1) k * (if 64 ≤ j then X k else 0)
      = ∑ k ∈ range 256, P (2 * p + j / 64) k * X k := by
  rcases Nat.lt_or_ge j 64 with h | h
  · simp [h, Nat.not_le.2 h, Nat.div_eq_of_lt h]
  · have : j / 64 = 1 := by omega
    simp [h, Nat.not_lt.2 h, this]

theorem halves_sum' {j : ℕ} (hj : j < 128) (P : ℕ → ℕ → ℝ) (X : ℕ → ℝ) (p : ℕ) :
    ∑ k ∈ range 256, (if j < 64 then X k else 0) * P (2 * p) k + ∑ k ∈ range 256, (if 64 ≤ j then X k else 0) * P (2 * p + 1) k
      = ∑ k ∈ range 256, X k * P (2 * p + j / 64) k := by
  rcases Nat.lt_or_ge j 64 with h | h
  · simp [h, Nat.not_le.2 h, Nat.div_eq_of_lt h]
  · have : j / 64 = 1 := by omega
    simp [h, Nat.not_lt.2 h, this]

/-- An even partial sum over one that has taken `2 * a` of them. -/
theorem acc_left (P : ℕ → ℕ → ℕ → ℝ) (X : ℕ → ℕ → ℝ) (z : ℝ) (a m l : ℕ) :
    (if l < 128 then z + acc P X (2 * a) m l + ∑ s ∈ range 256, P (l / 64) m (256 * a + s) * X (256 * a + s) l
      else z + acc P X (2 * a) m l) = z + acc P X (2 * a + 1) m l := by
  unfold acc
  split
  · rw [show (2 * a + 1) / 2 = a by omega, show (2 * a + 1 + 1) / 2 = a + 1 by omega, Nat.mul_add, Nat.mul_one, sum_range_add, add_assoc]
  · rw [show 2 * a / 2 = a by omega, show (2 * a + 1) / 2 = a by omega]

/-- An odd one, over `2 * a + 1`. -/
theorem acc_right (P : ℕ → ℕ → ℕ → ℝ) (X : ℕ → ℕ → ℝ) (z : ℝ) (a m l : ℕ) :
    (if 128 ≤ l then z + acc P X (2 * a + 1) m l + ∑ s ∈ range 256, P (l / 64) m (256 * a + s) * X (256 * a + s) l
      else z + acc P X (2 * a + 1) m l) = z + acc P X (2 * a + 2) m l := by
  unfold acc
  split
  · next h =>
    rw [if_neg (by omega), if_neg (by omega), show (2 * a + 1) / 2 = a by omega, show (2 * a + 2) / 2 = a + 1 by omega, Nat.mul_add,
      Nat.mul_one, sum_range_add, add_assoc]
  · next h =>
    rw [if_pos (by omega), if_pos (by omega), show (2 * a + 1 + 1) / 2 = a + 1 by omega, show (2 * a + 2 + 1) / 2 = a + 1 by omega]

theorem acc_one_low (P X m) (l : ℕ) (h : l < 128) : acc P X 1 m l = ∑ s ∈ range 256, P (l / 64) m s * X s l := by
  unfold acc; rw [if_pos h]
theorem acc_one_high (P X m) (l : ℕ) (h : 128 ≤ l) : acc P X 1 m l = 0 := by
  unfold acc; rw [if_neg (Nat.not_lt.2 h)]; simp

theorem head_shift (t : ℕ) : (128 + t) / 64 = 2 + t / 64 := by omega

/-- Eight parts of 256 columns each cover both matrices of the stack. -/
theorem eight_parts (f : ℕ → ℕ → ℝ) {p s : ℕ} (z : EReal) (hp : p < 2) (hs : s < 1024) (g0 g1 : ℕ → EReal)
    (hg0 : ∀ s, g0 s = ((f 0 s : ℝ) : EReal)) (hg1 : ∀ s, g1 s = ((f 1 s : ℝ) : EReal)) :
    (if p = 1 ∧ 768 ≤ s ∧ s < 1024 then g1 (768 + (s - 768)) else
     if p = 0 ∧ 768 ≤ s ∧ s < 1024 then g0 (768 + (s - 768)) else
     if p = 1 ∧ 512 ≤ s ∧ s < 768 then g1 (512 + (s - 512)) else
     if p = 0 ∧ 512 ≤ s ∧ s < 768 then g0 (512 + (s - 512)) else
     if p = 1 ∧ 256 ≤ s ∧ s < 512 then g1 (256 + (s - 256)) else
     if p = 0 ∧ 256 ≤ s ∧ s < 512 then g0 (256 + (s - 256)) else
     if p = 1 ∧ 0 ≤ s ∧ s < 256 then g1 (s - 0) else
     if p = 0 ∧ 0 ≤ s ∧ s < 256 then g0 (s - 0) else z) = ((f p s : ℝ) : EReal) := by
  rcases (by omega : p = 0 ∨ p = 1) with rfl | rfl
  · rw [← hg0]
    simp only [Nat.zero_ne_one, false_and, if_false, true_and]
    split_ifs <;> first | exact congrArg g0 (by omega) | omega
  · rw [← hg1]
    simp only [Nat.one_ne_zero, false_and, if_false, true_and]
    split_ifs <;> first | exact congrArg g1 (by omega) | omega

end Cert.MemAttn
-- ==== Proof.BlockA.lean ====
module

public import proofs.«01_k».proof.Proof.Spec
public import proofs.«01_k».proof.Proof.Gen.KernelIdeal.Frame

/-! # The values of a block: the first grid point -/

@[expose] public section

noncomputable section

namespace Cert.MemAttn

open Cert.KernelIdeal Cert.KernelIdeal.Gen Idealize.ShloMosaic

theorem A_HS0_8 (c : Dev nD) (arg5 : Memref sig .tc .vmem S1024x128 .f32) (harg5 : arg5.IsWhole) (Ls : ℕ → ℕ → ℝ) :
    View.canon (kernelRun0_A.sl.HS0_8 (F := Ideal) c arg5 harg5 (up2 1024 128 Ls)) =
      up3 8 8 128 fun b h x => Ls (128 * b + x) h := by
  funext y
  have h1 : (y 1).val < 8 := (y 1).isLt
  have h0 : (y 0).val < 8 := (y 0).isLt
  simp only [kernelRun0_A.sl.HS0_8, kernelRun0_A.sl.r_10, kernelRun0_A.sl.r_11, k0_pay6, k0_pay16, k0_pay24, k0_pay30, k0_pay34, k0_pay37, k0_pay39, k0_pay40, k0_pay42, k0_pay43, harg5.read_unread, addf_up2, subf_up2, matmul_stat, pick_eight, cast_add_stat, ld_f32, truncf_up2, extf_up2, constant_zero, cast_rows, readCov_ld, View.readAt_eq_ld, canon_stat, sub_self, mul_zero, Finset.sum_const_zero, add_zero, Nat.zero_add]
  simp only [pick_sum _ _ h1, up3]
  interval_cases (y 0).val <;> simp

theorem A_HS1_8 (c : Dev nD) (arg6 : Memref sig .tc .vmem S1024x128 .f32) (harg6 : arg6.IsWhole) (Dl : ℕ → ℕ → ℝ) :
    View.canon (kernelRun0_A.sl.HS1_8 (F := Ideal) c arg6 harg6 (up2 1024 128 Dl)) =
      up3 8 8 128 fun b h x => Dl (128 * b + x) h := by
  funext y
  have h1 : (y 1).val < 8 := (y 1).isLt
  have h0 : (y 0).val < 8 := (y 0).isLt
  simp only [kernelRun0_A.sl.HS1_8, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v212, k0_pay7, k0_pay8, k0_pay9, k0_pay10, k0_pay11, k0_pay12, k0_pay13, k0_pay14, k0_pay15, k0_pay17, k0_pay18, k0_pay19, k0_pay20, k0_pay21, k0_pay22, k0_pay23, k0_pay25, k0_pay26, k0_pay27, k0_pay28, k0_pay29, k0_pay31, k0_pay32, k0_pay33, k0_pay35, k0_pay36, k0_pay38, k0_pay41, k0_pay44, harg6.read_unread, addf_up2, subf_up2, matmul_stat, pick_eight, cast_add_stat, ld_f32, truncf_up2, extf_up2, constant_zero, cast_rows, readCov_ld, View.readAt_eq_ld, canon_stat, sub_self, mul_zero, Finset.sum_const_zero, add_zero, Nat.zero_add]
  simp only [pick_sum _ _ h1, up3]
  interval_cases (y 0).val <;> simp

theorem A_r_14 (c : Dev nD) (arg1 : Memref sig .tc .vmem S1024x256 .bf16) (harg1 : arg1.IsWhole) (Q : ℕ → ℕ → ℝ) :
    kernelRun0_A.sl.r_14 (F := Ideal) c arg1 harg1 (up2 1024 256 Q) =
      up2 256 128 fun s k => if k < 64 then Q (s) (k) else 0 := by
  simp only [kernelRun0_A.sl.cst_120, kernelRun0_A.sl.r_12, kernelRun0_A.sl.r_14, k0_pay49, harg1.read_unread, Nat.zero_add, ld_f32, ld_bf16, keep_low, keep_high, truncf_up2, extf_up2, constant_zero, cast_rows, readCov_ld, View.readAt_eq_ld]

theorem A_r_15 (c : Dev nD) (arg4 : Memref sig .tc .vmem S1024x256 .bf16) (harg4 : arg4.IsWhole) (D : ℕ → ℕ → ℝ) :
    kernelRun0_A.sl.r_15 (F := Ideal) c arg4 harg4 (up2 1024 256 D) =
      up2 256 128 fun s k => if k < 64 then D (s) (k) else 0 := by
  simp only [kernelRun0_A.sl.r_13, kernelRun0_A.sl.r_15, k0_pay50, harg4.read_unread, Nat.zero_add, ld_f32, ld_bf16, keep_low, keep_high, truncf_up2, extf_up2, constant_zero, cast_rows, readCov_ld, View.readAt_eq_ld]

theorem A_r_16 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_16 (F := Ideal) c arg1 harg1 arg2 harg2 (up2 1024 256 Q) (up2 256 256 K) =
      up2 256 256 fun m s => dotHead K Q 0 m (s) := by
  simp only [kernelRun0_A.sl.cst_120, kernelRun0_A.sl.r_12, kernelRun0_A.sl.r_16, k0_pay49, k0_pay51, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_17 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_17 (F := Ideal) c arg3 harg3 arg4 harg4 (up2 256 256 V) (up2 1024 256 D) =
      up2 256 256 fun m s => dotHead V D 0 m (s) := by
  simp only [kernelRun0_A.sl.r_13, kernelRun0_A.sl.r_17, k0_pay50, k0_pay52, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_30 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_30 (F := Ideal) c arg1 harg1 arg2 harg2 arg5 harg5 arg10 (up2 1024 256 Q) (up2 256 256 K) (up2 1024 128 Ls) =
      up2 256 256 fun m s => prob K Q Ls 0 m (s) := by
  simp only [kernelRun0_A.sl.r_30, kernelRun0_A.sl.v417, kernelRun0_A.sl.v419, k0_pay65, k0_pay66, A_HS0_8, A_r_16, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_31 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_31 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 0 m (s) := by
  simp only [kernelRun0_A.sl.r_31, kernelRun0_A.sl.v417, kernelRun0_A.sl.v419, kernelRun0_A.sl.v422, kernelRun0_A.sl.v424, k0_pay65, k0_pay67, A_HS0_8, A_HS1_8, A_r_16, A_r_17, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_18 (c : Dev nD) (arg1 : Memref sig .tc .vmem S1024x256 .bf16) (harg1 : arg1.IsWhole) (Q : ℕ → ℕ → ℝ) :
    kernelRun0_A.sl.r_18 (F := Ideal) c arg1 harg1 (up2 1024 256 Q) =
      up2 256 128 fun s k => if 64 ≤ k then Q (s) (k) else 0 := by
  simp only [kernelRun0_A.sl.r_12, kernelRun0_A.sl.r_18, k0_pay53, harg1.read_unread, Nat.zero_add, ld_f32, ld_bf16, keep_low, keep_high, truncf_up2, extf_up2, constant_zero, cast_rows, readCov_ld, View.readAt_eq_ld]

theorem A_r_19 (c : Dev nD) (arg4 : Memref sig .tc .vmem S1024x256 .bf16) (harg4 : arg4.IsWhole) (D : ℕ → ℕ → ℝ) :
    kernelRun0_A.sl.r_19 (F := Ideal) c arg4 harg4 (up2 1024 256 D) =
      up2 256 128 fun s k => if 64 ≤ k then D (s) (k) else 0 := by
  simp only [kernelRun0_A.sl.r_13, kernelRun0_A.sl.r_19, k0_pay54, harg4.read_unread, Nat.zero_add, ld_f32, ld_bf16, keep_low, keep_high, truncf_up2, extf_up2, constant_zero, cast_rows, readCov_ld, View.readAt_eq_ld]

theorem A_r_20 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_20 (F := Ideal) c arg1 harg1 arg2 harg2 (up2 1024 256 Q) (up2 256 256 K) =
      up2 256 256 fun m s => dotHead K Q 1 m (s) := by
  simp only [kernelRun0_A.sl.r_12, kernelRun0_A.sl.r_20, k0_pay53, k0_pay55, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_21 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_21 (F := Ideal) c arg3 harg3 arg4 harg4 (up2 256 256 V) (up2 1024 256 D) =
      up2 256 256 fun m s => dotHead V D 1 m (s) := by
  simp only [kernelRun0_A.sl.r_13, kernelRun0_A.sl.r_21, k0_pay54, k0_pay56, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_35 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_35 (F := Ideal) c arg1 harg1 arg2 harg2 arg5 harg5 arg10 (up2 1024 256 Q) (up2 256 256 K) (up2 1024 128 Ls) =
      up2 256 256 fun m s => prob K Q Ls 1 m (s) := by
  simp only [kernelRun0_A.sl.r_32, kernelRun0_A.sl.r_35, kernelRun0_A.sl.v435, kernelRun0_A.sl.v437, k0_pay68, k0_pay71, k0_pay72, A_HS0_8, A_r_20, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_36 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_36 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 1 m (s) := by
  simp only [kernelRun0_A.sl.r_32, kernelRun0_A.sl.r_33, kernelRun0_A.sl.r_34, kernelRun0_A.sl.r_36, kernelRun0_A.sl.v435, kernelRun0_A.sl.v437, kernelRun0_A.sl.v440, kernelRun0_A.sl.v442, k0_pay68, k0_pay69, k0_pay70, k0_pay71, k0_pay73, A_HS0_8, A_HS1_8, A_r_20, A_r_21, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_22 (c : Dev nD) (arg1 : Memref sig .tc .vmem S1024x256 .bf16) (harg1 : arg1.IsWhole) (Q : ℕ → ℕ → ℝ) :
    kernelRun0_A.sl.r_22 (F := Ideal) c arg1 harg1 (up2 1024 256 Q) =
      up2 256 128 fun s k => if k < 64 then Q (s) (128 + k) else 0 := by
  simp only [kernelRun0_A.sl.r_22, k0_pay57, harg1.read_unread, Nat.zero_add, ld_f32, ld_bf16, keep_low, keep_high, truncf_up2, extf_up2, constant_zero, cast_rows, readCov_ld, View.readAt_eq_ld]

theorem A_r_23 (c : Dev nD) (arg4 : Memref sig .tc .vmem S1024x256 .bf16) (harg4 : arg4.IsWhole) (D : ℕ → ℕ → ℝ) :
    kernelRun0_A.sl.r_23 (F := Ideal) c arg4 harg4 (up2 1024 256 D) =
      up2 256 128 fun s k => if k < 64 then D (s) (128 + k) else 0 := by
  simp only [kernelRun0_A.sl.r_23, k0_pay58, harg4.read_unread, Nat.zero_add, ld_f32, ld_bf16, keep_low, keep_high, truncf_up2, extf_up2, constant_zero, cast_rows, readCov_ld, View.readAt_eq_ld]

theorem A_r_24 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_24 (F := Ideal) c arg1 harg1 arg2 harg2 (up2 1024 256 Q) (up2 256 256 K) =
      up2 256 256 fun m s => dotHead K Q 2 m (s) := by
  simp only [kernelRun0_A.sl.r_24, k0_pay57, k0_pay59, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_25 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_25 (F := Ideal) c arg3 harg3 arg4 harg4 (up2 256 256 V) (up2 1024 256 D) =
      up2 256 256 fun m s => dotHead V D 2 m (s) := by
  simp only [kernelRun0_A.sl.r_25, k0_pay58, k0_pay60, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_37 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_37 (F := Ideal) c arg1 harg1 arg2 harg2 arg5 harg5 arg10 (up2 1024 256 Q) (up2 256 256 K) (up2 1024 128 Ls) =
      up2 256 256 fun m s => prob K Q Ls 2 m (s) := by
  simp only [kernelRun0_A.sl.r_37, kernelRun0_A.sl.v453, kernelRun0_A.sl.v455, k0_pay74, k0_pay75, A_HS0_8, A_r_24, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_38 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_38 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 2 m (s) := by
  simp only [kernelRun0_A.sl.r_38, kernelRun0_A.sl.v453, kernelRun0_A.sl.v455, kernelRun0_A.sl.v458, kernelRun0_A.sl.v460, k0_pay74, k0_pay76, A_HS0_8, A_HS1_8, A_r_24, A_r_25, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_26 (c : Dev nD) (arg1 : Memref sig .tc .vmem S1024x256 .bf16) (harg1 : arg1.IsWhole) (Q : ℕ → ℕ → ℝ) :
    kernelRun0_A.sl.r_26 (F := Ideal) c arg1 harg1 (up2 1024 256 Q) =
      up2 256 128 fun s k => if 64 ≤ k then Q (s) (128 + k) else 0 := by
  simp only [kernelRun0_A.sl.r_26, k0_pay61, harg1.read_unread, Nat.zero_add, ld_f32, ld_bf16, keep_low, keep_high, truncf_up2, extf_up2, constant_zero, cast_rows, readCov_ld, View.readAt_eq_ld]

theorem A_r_27 (c : Dev nD) (arg4 : Memref sig .tc .vmem S1024x256 .bf16) (harg4 : arg4.IsWhole) (D : ℕ → ℕ → ℝ) :
    kernelRun0_A.sl.r_27 (F := Ideal) c arg4 harg4 (up2 1024 256 D) =
      up2 256 128 fun s k => if 64 ≤ k then D (s) (128 + k) else 0 := by
  simp only [kernelRun0_A.sl.r_27, k0_pay62, harg4.read_unread, Nat.zero_add, ld_f32, ld_bf16, keep_low, keep_high, truncf_up2, extf_up2, constant_zero, cast_rows, readCov_ld, View.readAt_eq_ld]

theorem A_r_28 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_28 (F := Ideal) c arg1 harg1 arg2 harg2 (up2 1024 256 Q) (up2 256 256 K) =
      up2 256 256 fun m s => dotHead K Q 3 m (s) := by
  simp only [kernelRun0_A.sl.r_28, k0_pay63, A_r_26, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_29 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_29 (F := Ideal) c arg3 harg3 arg4 harg4 (up2 256 256 V) (up2 1024 256 D) =
      up2 256 256 fun m s => dotHead V D 3 m (s) := by
  simp only [kernelRun0_A.sl.r_29, k0_pay64, A_r_27, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_42 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_42 (F := Ideal) c arg1 harg1 arg2 harg2 arg5 harg5 arg10 (up2 1024 256 Q) (up2 256 256 K) (up2 1024 128 Ls) =
      up2 256 256 fun m s => prob K Q Ls 3 m (s) := by
  simp only [kernelRun0_A.sl.r_39, kernelRun0_A.sl.r_42, kernelRun0_A.sl.v471, kernelRun0_A.sl.v473, k0_pay77, k0_pay80, k0_pay81, A_HS0_8, A_r_28, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_43 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_43 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 3 m (s) := by
  simp only [kernelRun0_A.sl.r_39, kernelRun0_A.sl.r_40, kernelRun0_A.sl.r_41, kernelRun0_A.sl.r_43, kernelRun0_A.sl.v471, kernelRun0_A.sl.v473, kernelRun0_A.sl.v476, kernelRun0_A.sl.v478, k0_pay77, k0_pay78, k0_pay79, k0_pay80, k0_pay82, A_HS0_8, A_HS1_8, A_r_28, A_r_29, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_46 (c : Dev nD) (arg1 : Memref sig .tc .vmem S1024x256 .bf16) (harg1 : arg1.IsWhole) (Q : ℕ → ℕ → ℝ) :
    kernelRun0_A.sl.r_46 (F := Ideal) c arg1 harg1 (up2 1024 256 Q) =
      up2 256 128 fun s k => if k < 64 then Q (256 + s) (k) else 0 := by
  simp only [kernelRun0_A.sl.r_46, k0_pay89, harg1.read_unread, Nat.zero_add, ld_f32, ld_bf16, keep_low, keep_high, truncf_up2, extf_up2, constant_zero, cast_rows, readCov_ld, View.readAt_eq_ld]

theorem A_r_47 (c : Dev nD) (arg4 : Memref sig .tc .vmem S1024x256 .bf16) (harg4 : arg4.IsWhole) (D : ℕ → ℕ → ℝ) :
    kernelRun0_A.sl.r_47 (F := Ideal) c arg4 harg4 (up2 1024 256 D) =
      up2 256 128 fun s k => if k < 64 then D (256 + s) (k) else 0 := by
  simp only [kernelRun0_A.sl.r_47, k0_pay90, harg4.read_unread, Nat.zero_add, ld_f32, ld_bf16, keep_low, keep_high, truncf_up2, extf_up2, constant_zero, cast_rows, readCov_ld, View.readAt_eq_ld]

theorem A_r_49 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_49 (F := Ideal) c arg1 harg1 arg2 harg2 (up2 1024 256 Q) (up2 256 256 K) =
      up2 256 256 fun m s => dotHead K Q 0 m (256 + s) := by
  simp only [kernelRun0_A.sl.r_48, kernelRun0_A.sl.r_49, k0_pay91, A_r_46, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_50 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_50 (F := Ideal) c arg3 harg3 arg4 harg4 (up2 256 256 V) (up2 1024 256 D) =
      up2 256 256 fun m s => dotHead V D 0 m (256 + s) := by
  simp only [kernelRun0_A.sl.r_50, k0_pay92, A_r_47, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_64 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_64 (F := Ideal) c arg1 harg1 arg2 harg2 arg5 harg5 arg10 (up2 1024 256 Q) (up2 256 256 K) (up2 1024 128 Ls) =
      up2 256 256 fun m s => prob K Q Ls 0 m (256 + s) := by
  simp only [kernelRun0_A.sl.r_64, kernelRun0_A.sl.v577, kernelRun0_A.sl.v579, k0_pay105, k0_pay106, A_HS0_8, A_r_49, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_65 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_65 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 0 m (256 + s) := by
  simp only [kernelRun0_A.sl.r_65, kernelRun0_A.sl.v577, kernelRun0_A.sl.v579, kernelRun0_A.sl.v582, kernelRun0_A.sl.v584, k0_pay105, k0_pay107, A_HS0_8, A_HS1_8, A_r_49, A_r_50, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_51 (c : Dev nD) (arg1 : Memref sig .tc .vmem S1024x256 .bf16) (harg1 : arg1.IsWhole) (Q : ℕ → ℕ → ℝ) :
    kernelRun0_A.sl.r_51 (F := Ideal) c arg1 harg1 (up2 1024 256 Q) =
      up2 256 128 fun s k => if 64 ≤ k then Q (256 + s) (k) else 0 := by
  simp only [kernelRun0_A.sl.r_44, kernelRun0_A.sl.r_51, k0_pay93, harg1.read_unread, Nat.zero_add, ld_f32, ld_bf16, keep_low, keep_high, truncf_up2, extf_up2, constant_zero, cast_rows, readCov_ld, View.readAt_eq_ld]

theorem A_r_52 (c : Dev nD) (arg4 : Memref sig .tc .vmem S1024x256 .bf16) (harg4 : arg4.IsWhole) (D : ℕ → ℕ → ℝ) :
    kernelRun0_A.sl.r_52 (F := Ideal) c arg4 harg4 (up2 1024 256 D) =
      up2 256 128 fun s k => if 64 ≤ k then D (256 + s) (k) else 0 := by
  simp only [kernelRun0_A.sl.r_45, kernelRun0_A.sl.r_52, k0_pay94, harg4.read_unread, Nat.zero_add, ld_f32, ld_bf16, keep_low, keep_high, truncf_up2, extf_up2, constant_zero, cast_rows, readCov_ld, View.readAt_eq_ld]

theorem A_r_53 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_53 (F := Ideal) c arg1 harg1 arg2 harg2 (up2 1024 256 Q) (up2 256 256 K) =
      up2 256 256 fun m s => dotHead K Q 1 m (256 + s) := by
  simp only [kernelRun0_A.sl.r_44, kernelRun0_A.sl.r_53, k0_pay93, k0_pay95, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_54 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_54 (F := Ideal) c arg3 harg3 arg4 harg4 (up2 256 256 V) (up2 1024 256 D) =
      up2 256 256 fun m s => dotHead V D 1 m (256 + s) := by
  simp only [kernelRun0_A.sl.r_45, kernelRun0_A.sl.r_54, k0_pay94, k0_pay96, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_66 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_66 (F := Ideal) c arg1 harg1 arg2 harg2 arg5 harg5 arg10 (up2 1024 256 Q) (up2 256 256 K) (up2 1024 128 Ls) =
      up2 256 256 fun m s => prob K Q Ls 1 m (256 + s) := by
  simp only [kernelRun0_A.sl.r_66, kernelRun0_A.sl.v595, kernelRun0_A.sl.v597, k0_pay108, k0_pay109, A_HS0_8, A_r_53, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_68 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_68 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 1 m (256 + s) := by
  simp only [kernelRun0_A.sl.r_67, kernelRun0_A.sl.r_68, kernelRun0_A.sl.v595, kernelRun0_A.sl.v597, kernelRun0_A.sl.v600, kernelRun0_A.sl.v602, k0_pay108, k0_pay110, k0_pay111, A_HS0_8, A_HS1_8, A_r_53, A_r_54, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_55 (c : Dev nD) (arg1 : Memref sig .tc .vmem S1024x256 .bf16) (harg1 : arg1.IsWhole) (Q : ℕ → ℕ → ℝ) :
    kernelRun0_A.sl.r_55 (F := Ideal) c arg1 harg1 (up2 1024 256 Q) =
      up2 256 128 fun s k => if k < 64 then Q (256 + s) (128 + k) else 0 := by
  simp only [kernelRun0_A.sl.r_55, k0_pay97, harg1.read_unread, Nat.zero_add, ld_f32, ld_bf16, keep_low, keep_high, truncf_up2, extf_up2, constant_zero, cast_rows, readCov_ld, View.readAt_eq_ld]

theorem A_r_56 (c : Dev nD) (arg4 : Memref sig .tc .vmem S1024x256 .bf16) (harg4 : arg4.IsWhole) (D : ℕ → ℕ → ℝ) :
    kernelRun0_A.sl.r_56 (F := Ideal) c arg4 harg4 (up2 1024 256 D) =
      up2 256 128 fun s k => if k < 64 then D (256 + s) (128 + k) else 0 := by
  simp only [kernelRun0_A.sl.r_56, k0_pay98, harg4.read_unread, Nat.zero_add, ld_f32, ld_bf16, keep_low, keep_high, truncf_up2, extf_up2, constant_zero, cast_rows, readCov_ld, View.readAt_eq_ld]

theorem A_r_57 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_57 (F := Ideal) c arg1 harg1 arg2 harg2 (up2 1024 256 Q) (up2 256 256 K) =
      up2 256 256 fun m s => dotHead K Q 2 m (256 + s) := by
  simp only [kernelRun0_A.sl.r_57, k0_pay97, k0_pay99, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_58 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_58 (F := Ideal) c arg3 harg3 arg4 harg4 (up2 256 256 V) (up2 1024 256 D) =
      up2 256 256 fun m s => dotHead V D 2 m (256 + s) := by
  simp only [kernelRun0_A.sl.r_58, k0_pay98, k0_pay100, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_69 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_69 (F := Ideal) c arg1 harg1 arg2 harg2 arg5 harg5 arg10 (up2 1024 256 Q) (up2 256 256 K) (up2 1024 128 Ls) =
      up2 256 256 fun m s => prob K Q Ls 2 m (256 + s) := by
  simp only [kernelRun0_A.sl.r_69, kernelRun0_A.sl.v613, kernelRun0_A.sl.v615, k0_pay112, k0_pay113, A_HS0_8, A_r_57, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_70 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_70 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 2 m (256 + s) := by
  simp only [kernelRun0_A.sl.r_70, kernelRun0_A.sl.v613, kernelRun0_A.sl.v615, kernelRun0_A.sl.v618, kernelRun0_A.sl.v620, k0_pay112, k0_pay114, A_HS0_8, A_HS1_8, A_r_57, A_r_58, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_59 (c : Dev nD) (arg1 : Memref sig .tc .vmem S1024x256 .bf16) (harg1 : arg1.IsWhole) (Q : ℕ → ℕ → ℝ) :
    kernelRun0_A.sl.r_59 (F := Ideal) c arg1 harg1 (up2 1024 256 Q) =
      up2 256 128 fun s k => if 64 ≤ k then Q (256 + s) (128 + k) else 0 := by
  simp only [kernelRun0_A.sl.r_59, k0_pay101, harg1.read_unread, Nat.zero_add, ld_f32, ld_bf16, keep_low, keep_high, truncf_up2, extf_up2, constant_zero, cast_rows, readCov_ld, View.readAt_eq_ld]

theorem A_r_60 (c : Dev nD) (arg4 : Memref sig .tc .vmem S1024x256 .bf16) (harg4 : arg4.IsWhole) (D : ℕ → ℕ → ℝ) :
    kernelRun0_A.sl.r_60 (F := Ideal) c arg4 harg4 (up2 1024 256 D) =
      up2 256 128 fun s k => if 64 ≤ k then D (256 + s) (128 + k) else 0 := by
  simp only [kernelRun0_A.sl.r_60, k0_pay102, harg4.read_unread, Nat.zero_add, ld_f32, ld_bf16, keep_low, keep_high, truncf_up2, extf_up2, constant_zero, cast_rows, readCov_ld, View.readAt_eq_ld]

theorem A_r_61 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_61 (F := Ideal) c arg1 harg1 arg2 harg2 (up2 1024 256 Q) (up2 256 256 K) =
      up2 256 256 fun m s => dotHead K Q 3 m (256 + s) := by
  simp only [kernelRun0_A.sl.r_61, k0_pay101, k0_pay103, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_63 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_63 (F := Ideal) c arg3 harg3 arg4 harg4 (up2 256 256 V) (up2 1024 256 D) =
      up2 256 256 fun m s => dotHead V D 3 m (256 + s) := by
  simp only [kernelRun0_A.sl.cst_281, kernelRun0_A.sl.r_62, kernelRun0_A.sl.r_63, k0_pay104, A_r_60, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_71 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_71 (F := Ideal) c arg1 harg1 arg2 harg2 arg5 harg5 arg10 (up2 1024 256 Q) (up2 256 256 K) (up2 1024 128 Ls) =
      up2 256 256 fun m s => prob K Q Ls 3 m (256 + s) := by
  simp only [kernelRun0_A.sl.r_71, kernelRun0_A.sl.v631, kernelRun0_A.sl.v633, k0_pay115, k0_pay116, A_HS0_8, A_r_61, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_73 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_73 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 3 m (256 + s) := by
  simp only [kernelRun0_A.sl.r_72, kernelRun0_A.sl.r_73, kernelRun0_A.sl.v631, kernelRun0_A.sl.v633, kernelRun0_A.sl.v636, kernelRun0_A.sl.v638, k0_pay115, k0_pay117, k0_pay118, A_HS0_8, A_HS1_8, A_r_61, A_r_63, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_77 (c : Dev nD) (arg1 : Memref sig .tc .vmem S1024x256 .bf16) (harg1 : arg1.IsWhole) (Q : ℕ → ℕ → ℝ) :
    kernelRun0_A.sl.r_77 (F := Ideal) c arg1 harg1 (up2 1024 256 Q) =
      up2 256 128 fun s k => if k < 64 then Q (512 + s) (k) else 0 := by
  simp only [kernelRun0_A.sl.r_77, k0_pay125, harg1.read_unread, Nat.zero_add, ld_f32, ld_bf16, keep_low, keep_high, truncf_up2, extf_up2, constant_zero, cast_rows, readCov_ld, View.readAt_eq_ld]

theorem A_r_78 (c : Dev nD) (arg4 : Memref sig .tc .vmem S1024x256 .bf16) (harg4 : arg4.IsWhole) (D : ℕ → ℕ → ℝ) :
    kernelRun0_A.sl.r_78 (F := Ideal) c arg4 harg4 (up2 1024 256 D) =
      up2 256 128 fun s k => if k < 64 then D (512 + s) (k) else 0 := by
  simp only [kernelRun0_A.sl.r_78, k0_pay126, harg4.read_unread, Nat.zero_add, ld_f32, ld_bf16, keep_low, keep_high, truncf_up2, extf_up2, constant_zero, cast_rows, readCov_ld, View.readAt_eq_ld]

theorem A_r_79 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_79 (F := Ideal) c arg1 harg1 arg2 harg2 (up2 1024 256 Q) (up2 256 256 K) =
      up2 256 256 fun m s => dotHead K Q 0 m (512 + s) := by
  simp only [kernelRun0_A.sl.r_79, k0_pay125, k0_pay127, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_80 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_80 (F := Ideal) c arg3 harg3 arg4 harg4 (up2 256 256 V) (up2 1024 256 D) =
      up2 256 256 fun m s => dotHead V D 0 m (512 + s) := by
  simp only [kernelRun0_A.sl.r_80, k0_pay126, k0_pay128, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_94 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_94 (F := Ideal) c arg1 harg1 arg2 harg2 arg5 harg5 arg10 (up2 1024 256 Q) (up2 256 256 K) (up2 1024 128 Ls) =
      up2 256 256 fun m s => prob K Q Ls 0 m (512 + s) := by
  simp only [kernelRun0_A.sl.r_93, kernelRun0_A.sl.r_94, kernelRun0_A.sl.v737, kernelRun0_A.sl.v739, k0_pay141, k0_pay142, k0_pay143, A_HS0_8, A_r_79, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_95 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_95 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 0 m (512 + s) := by
  simp only [kernelRun0_A.sl.r_93, kernelRun0_A.sl.r_95, kernelRun0_A.sl.v737, kernelRun0_A.sl.v739, kernelRun0_A.sl.v742, kernelRun0_A.sl.v744, k0_pay141, k0_pay142, k0_pay144, A_HS0_8, A_HS1_8, A_r_79, A_r_80, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_81 (c : Dev nD) (arg1 : Memref sig .tc .vmem S1024x256 .bf16) (harg1 : arg1.IsWhole) (Q : ℕ → ℕ → ℝ) :
    kernelRun0_A.sl.r_81 (F := Ideal) c arg1 harg1 (up2 1024 256 Q) =
      up2 256 128 fun s k => if 64 ≤ k then Q (512 + s) (k) else 0 := by
  simp only [kernelRun0_A.sl.cst_120, kernelRun0_A.sl.r_75, kernelRun0_A.sl.r_81, k0_pay129, harg1.read_unread, Nat.zero_add, ld_f32, ld_bf16, keep_low, keep_high, truncf_up2, extf_up2, constant_zero, cast_rows, readCov_ld, View.readAt_eq_ld]

theorem A_r_82 (c : Dev nD) (arg4 : Memref sig .tc .vmem S1024x256 .bf16) (harg4 : arg4.IsWhole) (D : ℕ → ℕ → ℝ) :
    kernelRun0_A.sl.r_82 (F := Ideal) c arg4 harg4 (up2 1024 256 D) =
      up2 256 128 fun s k => if 64 ≤ k then D (512 + s) (k) else 0 := by
  simp only [kernelRun0_A.sl.r_76, kernelRun0_A.sl.r_82, k0_pay130, harg4.read_unread, Nat.zero_add, ld_f32, ld_bf16, keep_low, keep_high, truncf_up2, extf_up2, constant_zero, cast_rows, readCov_ld, View.readAt_eq_ld]

theorem A_r_83 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_83 (F := Ideal) c arg1 harg1 arg2 harg2 (up2 1024 256 Q) (up2 256 256 K) =
      up2 256 256 fun m s => dotHead K Q 1 m (512 + s) := by
  simp only [kernelRun0_A.sl.cst_120, kernelRun0_A.sl.r_75, kernelRun0_A.sl.r_83, k0_pay129, k0_pay131, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_84 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_84 (F := Ideal) c arg3 harg3 arg4 harg4 (up2 256 256 V) (up2 1024 256 D) =
      up2 256 256 fun m s => dotHead V D 1 m (512 + s) := by
  simp only [kernelRun0_A.sl.r_76, kernelRun0_A.sl.r_84, k0_pay130, k0_pay132, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_96 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_96 (F := Ideal) c arg1 harg1 arg2 harg2 arg5 harg5 arg10 (up2 1024 256 Q) (up2 256 256 K) (up2 1024 128 Ls) =
      up2 256 256 fun m s => prob K Q Ls 1 m (512 + s) := by
  simp only [kernelRun0_A.sl.r_96, kernelRun0_A.sl.v755, kernelRun0_A.sl.v757, k0_pay145, k0_pay146, A_HS0_8, A_r_83, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_97 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_97 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 1 m (512 + s) := by
  simp only [kernelRun0_A.sl.r_97, kernelRun0_A.sl.v755, kernelRun0_A.sl.v757, kernelRun0_A.sl.v760, kernelRun0_A.sl.v762, k0_pay145, k0_pay147, A_HS0_8, A_HS1_8, A_r_83, A_r_84, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_85 (c : Dev nD) (arg1 : Memref sig .tc .vmem S1024x256 .bf16) (harg1 : arg1.IsWhole) (Q : ℕ → ℕ → ℝ) :
    kernelRun0_A.sl.r_85 (F := Ideal) c arg1 harg1 (up2 1024 256 Q) =
      up2 256 128 fun s k => if k < 64 then Q (512 + s) (128 + k) else 0 := by
  simp only [kernelRun0_A.sl.r_85, k0_pay133, harg1.read_unread, Nat.zero_add, ld_f32, ld_bf16, keep_low, keep_high, truncf_up2, extf_up2, constant_zero, cast_rows, readCov_ld, View.readAt_eq_ld]

theorem A_r_86 (c : Dev nD) (arg4 : Memref sig .tc .vmem S1024x256 .bf16) (harg4 : arg4.IsWhole) (D : ℕ → ℕ → ℝ) :
    kernelRun0_A.sl.r_86 (F := Ideal) c arg4 harg4 (up2 1024 256 D) =
      up2 256 128 fun s k => if k < 64 then D (512 + s) (128 + k) else 0 := by
  simp only [kernelRun0_A.sl.r_86, k0_pay134, harg4.read_unread, Nat.zero_add, ld_f32, ld_bf16, keep_low, keep_high, truncf_up2, extf_up2, constant_zero, cast_rows, readCov_ld, View.readAt_eq_ld]

theorem A_r_87 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_87 (F := Ideal) c arg1 harg1 arg2 harg2 (up2 1024 256 Q) (up2 256 256 K) =
      up2 256 256 fun m s => dotHead K Q 2 m (512 + s) := by
  simp only [kernelRun0_A.sl.r_87, k0_pay133, k0_pay135, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_88 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_88 (F := Ideal) c arg3 harg3 arg4 harg4 (up2 256 256 V) (up2 1024 256 D) =
      up2 256 256 fun m s => dotHead V D 2 m (512 + s) := by
  simp only [kernelRun0_A.sl.r_88, k0_pay134, k0_pay136, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_99 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_99 (F := Ideal) c arg1 harg1 arg2 harg2 arg5 harg5 arg10 (up2 1024 256 Q) (up2 256 256 K) (up2 1024 128 Ls) =
      up2 256 256 fun m s => prob K Q Ls 2 m (512 + s) := by
  simp only [kernelRun0_A.sl.r_98, kernelRun0_A.sl.r_99, kernelRun0_A.sl.v773, kernelRun0_A.sl.v775, k0_pay148, k0_pay149, k0_pay150, A_HS0_8, A_r_87, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_100 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_100 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 2 m (512 + s) := by
  simp only [kernelRun0_A.sl.r_100, kernelRun0_A.sl.r_98, kernelRun0_A.sl.v773, kernelRun0_A.sl.v775, kernelRun0_A.sl.v778, kernelRun0_A.sl.v780, k0_pay148, k0_pay149, k0_pay151, A_HS0_8, A_HS1_8, A_r_87, A_r_88, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_89 (c : Dev nD) (arg1 : Memref sig .tc .vmem S1024x256 .bf16) (harg1 : arg1.IsWhole) (Q : ℕ → ℕ → ℝ) :
    kernelRun0_A.sl.r_89 (F := Ideal) c arg1 harg1 (up2 1024 256 Q) =
      up2 256 128 fun s k => if 64 ≤ k then Q (512 + s) (128 + k) else 0 := by
  simp only [kernelRun0_A.sl.r_89, k0_pay137, harg1.read_unread, Nat.zero_add, ld_f32, ld_bf16, keep_low, keep_high, truncf_up2, extf_up2, constant_zero, cast_rows, readCov_ld, View.readAt_eq_ld]

theorem A_r_90 (c : Dev nD) (arg4 : Memref sig .tc .vmem S1024x256 .bf16) (harg4 : arg4.IsWhole) (D : ℕ → ℕ → ℝ) :
    kernelRun0_A.sl.r_90 (F := Ideal) c arg4 harg4 (up2 1024 256 D) =
      up2 256 128 fun s k => if 64 ≤ k then D (512 + s) (128 + k) else 0 := by
  simp only [kernelRun0_A.sl.r_90, k0_pay138, harg4.read_unread, Nat.zero_add, ld_f32, ld_bf16, keep_low, keep_high, truncf_up2, extf_up2, constant_zero, cast_rows, readCov_ld, View.readAt_eq_ld]

theorem A_r_91 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_91 (F := Ideal) c arg1 harg1 arg2 harg2 (up2 1024 256 Q) (up2 256 256 K) =
      up2 256 256 fun m s => dotHead K Q 3 m (512 + s) := by
  simp only [kernelRun0_A.sl.r_91, k0_pay137, k0_pay139, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_92 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_92 (F := Ideal) c arg3 harg3 arg4 harg4 (up2 256 256 V) (up2 1024 256 D) =
      up2 256 256 fun m s => dotHead V D 3 m (512 + s) := by
  simp only [kernelRun0_A.sl.r_92, k0_pay138, k0_pay140, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_101 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_101 (F := Ideal) c arg1 harg1 arg2 harg2 arg5 harg5 arg10 (up2 1024 256 Q) (up2 256 256 K) (up2 1024 128 Ls) =
      up2 256 256 fun m s => prob K Q Ls 3 m (512 + s) := by
  simp only [kernelRun0_A.sl.r_101, kernelRun0_A.sl.v791, kernelRun0_A.sl.v793, k0_pay152, k0_pay153, A_HS0_8, A_r_91, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_102 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_102 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 3 m (512 + s) := by
  simp only [kernelRun0_A.sl.r_102, kernelRun0_A.sl.v791, kernelRun0_A.sl.v793, kernelRun0_A.sl.v796, kernelRun0_A.sl.v798, k0_pay152, k0_pay154, A_HS0_8, A_HS1_8, A_r_91, A_r_92, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_109 (c : Dev nD) (arg1 : Memref sig .tc .vmem S1024x256 .bf16) (harg1 : arg1.IsWhole) (Q : ℕ → ℕ → ℝ) :
    kernelRun0_A.sl.r_109 (F := Ideal) c arg1 harg1 (up2 1024 256 Q) =
      up2 256 128 fun s k => if k < 64 then Q (768 + s) (k) else 0 := by
  simp only [kernelRun0_A.sl.r_109, k0_pay167, harg1.read_unread, Nat.zero_add, ld_f32, ld_bf16, keep_low, keep_high, truncf_up2, extf_up2, constant_zero, cast_rows, readCov_ld, View.readAt_eq_ld]

theorem A_r_110 (c : Dev nD) (arg4 : Memref sig .tc .vmem S1024x256 .bf16) (harg4 : arg4.IsWhole) (D : ℕ → ℕ → ℝ) :
    kernelRun0_A.sl.r_110 (F := Ideal) c arg4 harg4 (up2 1024 256 D) =
      up2 256 128 fun s k => if k < 64 then D (768 + s) (k) else 0 := by
  simp only [kernelRun0_A.sl.r_110, k0_pay168, harg4.read_unread, Nat.zero_add, ld_f32, ld_bf16, keep_low, keep_high, truncf_up2, extf_up2, constant_zero, cast_rows, readCov_ld, View.readAt_eq_ld]

theorem A_r_111 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_111 (F := Ideal) c arg1 harg1 arg2 harg2 (up2 1024 256 Q) (up2 256 256 K) =
      up2 256 256 fun m s => dotHead K Q 0 m (768 + s) := by
  simp only [kernelRun0_A.sl.r_111, k0_pay167, k0_pay169, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_112 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_112 (F := Ideal) c arg3 harg3 arg4 harg4 (up2 256 256 V) (up2 1024 256 D) =
      up2 256 256 fun m s => dotHead V D 0 m (768 + s) := by
  simp only [kernelRun0_A.sl.r_112, k0_pay168, k0_pay170, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_126 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_126 (F := Ideal) c arg1 harg1 arg2 harg2 arg5 harg5 arg10 (up2 1024 256 Q) (up2 256 256 K) (up2 1024 128 Ls) =
      up2 256 256 fun m s => prob K Q Ls 0 m (768 + s) := by
  simp only [kernelRun0_A.sl.r_125, kernelRun0_A.sl.r_126, kernelRun0_A.sl.v897, kernelRun0_A.sl.v899, k0_pay183, k0_pay184, k0_pay185, A_HS0_8, A_r_111, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_127 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_127 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 0 m (768 + s) := by
  simp only [kernelRun0_A.sl.r_125, kernelRun0_A.sl.r_127, kernelRun0_A.sl.v897, kernelRun0_A.sl.v899, kernelRun0_A.sl.v902, kernelRun0_A.sl.v904, k0_pay183, k0_pay184, k0_pay186, A_HS0_8, A_HS1_8, A_r_111, A_r_112, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_113 (c : Dev nD) (arg1 : Memref sig .tc .vmem S1024x256 .bf16) (harg1 : arg1.IsWhole) (Q : ℕ → ℕ → ℝ) :
    kernelRun0_A.sl.r_113 (F := Ideal) c arg1 harg1 (up2 1024 256 Q) =
      up2 256 128 fun s k => if 64 ≤ k then Q (768 + s) (k) else 0 := by
  simp only [kernelRun0_A.sl.r_113, k0_pay171, harg1.read_unread, Nat.zero_add, ld_f32, ld_bf16, keep_low, keep_high, truncf_up2, extf_up2, constant_zero, cast_rows, readCov_ld, View.readAt_eq_ld]

theorem A_r_114 (c : Dev nD) (arg4 : Memref sig .tc .vmem S1024x256 .bf16) (harg4 : arg4.IsWhole) (D : ℕ → ℕ → ℝ) :
    kernelRun0_A.sl.r_114 (F := Ideal) c arg4 harg4 (up2 1024 256 D) =
      up2 256 128 fun s k => if 64 ≤ k then D (768 + s) (k) else 0 := by
  simp only [kernelRun0_A.sl.r_114, k0_pay172, harg4.read_unread, Nat.zero_add, ld_f32, ld_bf16, keep_low, keep_high, truncf_up2, extf_up2, constant_zero, cast_rows, readCov_ld, View.readAt_eq_ld]

theorem A_r_115 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_115 (F := Ideal) c arg1 harg1 arg2 harg2 (up2 1024 256 Q) (up2 256 256 K) =
      up2 256 256 fun m s => dotHead K Q 1 m (768 + s) := by
  simp only [kernelRun0_A.sl.r_115, kernelRun0_A.sl.r_48, k0_pay173, A_r_113, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_116 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_116 (F := Ideal) c arg3 harg3 arg4 harg4 (up2 256 256 V) (up2 1024 256 D) =
      up2 256 256 fun m s => dotHead V D 1 m (768 + s) := by
  simp only [kernelRun0_A.sl.r_116, k0_pay174, A_r_114, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_128 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_128 (F := Ideal) c arg1 harg1 arg2 harg2 arg5 harg5 arg10 (up2 1024 256 Q) (up2 256 256 K) (up2 1024 128 Ls) =
      up2 256 256 fun m s => prob K Q Ls 1 m (768 + s) := by
  simp only [kernelRun0_A.sl.r_128, kernelRun0_A.sl.v915, kernelRun0_A.sl.v917, k0_pay187, k0_pay188, A_HS0_8, A_r_115, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_129 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_129 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 1 m (768 + s) := by
  simp only [kernelRun0_A.sl.r_129, kernelRun0_A.sl.v915, kernelRun0_A.sl.v917, kernelRun0_A.sl.v920, kernelRun0_A.sl.v922, k0_pay187, k0_pay189, A_HS0_8, A_HS1_8, A_r_115, A_r_116, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_117 (c : Dev nD) (arg1 : Memref sig .tc .vmem S1024x256 .bf16) (harg1 : arg1.IsWhole) (Q : ℕ → ℕ → ℝ) :
    kernelRun0_A.sl.r_117 (F := Ideal) c arg1 harg1 (up2 1024 256 Q) =
      up2 256 128 fun s k => if k < 64 then Q (768 + s) (128 + k) else 0 := by
  simp only [kernelRun0_A.sl.r_117, k0_pay175, harg1.read_unread, Nat.zero_add, ld_f32, ld_bf16, keep_low, keep_high, truncf_up2, extf_up2, constant_zero, cast_rows, readCov_ld, View.readAt_eq_ld]

theorem A_r_118 (c : Dev nD) (arg4 : Memref sig .tc .vmem S1024x256 .bf16) (harg4 : arg4.IsWhole) (D : ℕ → ℕ → ℝ) :
    kernelRun0_A.sl.r_118 (F := Ideal) c arg4 harg4 (up2 1024 256 D) =
      up2 256 128 fun s k => if k < 64 then D (768 + s) (128 + k) else 0 := by
  simp only [kernelRun0_A.sl.r_118, k0_pay176, harg4.read_unread, Nat.zero_add, ld_f32, ld_bf16, keep_low, keep_high, truncf_up2, extf_up2, constant_zero, cast_rows, readCov_ld, View.readAt_eq_ld]

theorem A_r_119 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_119 (F := Ideal) c arg1 harg1 arg2 harg2 (up2 1024 256 Q) (up2 256 256 K) =
      up2 256 256 fun m s => dotHead K Q 2 m (768 + s) := by
  simp only [kernelRun0_A.sl.r_119, k0_pay175, k0_pay177, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_120 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_120 (F := Ideal) c arg3 harg3 arg4 harg4 (up2 256 256 V) (up2 1024 256 D) =
      up2 256 256 fun m s => dotHead V D 2 m (768 + s) := by
  simp only [kernelRun0_A.sl.r_120, k0_pay176, k0_pay178, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_131 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_131 (F := Ideal) c arg1 harg1 arg2 harg2 arg5 harg5 arg10 (up2 1024 256 Q) (up2 256 256 K) (up2 1024 128 Ls) =
      up2 256 256 fun m s => prob K Q Ls 2 m (768 + s) := by
  simp only [kernelRun0_A.sl.r_130, kernelRun0_A.sl.r_131, kernelRun0_A.sl.v933, kernelRun0_A.sl.v935, k0_pay190, k0_pay191, k0_pay192, A_HS0_8, A_r_119, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_132 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_132 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 2 m (768 + s) := by
  simp only [kernelRun0_A.sl.r_130, kernelRun0_A.sl.r_132, kernelRun0_A.sl.v933, kernelRun0_A.sl.v935, kernelRun0_A.sl.v938, kernelRun0_A.sl.v940, k0_pay190, k0_pay191, k0_pay193, A_HS0_8, A_HS1_8, A_r_119, A_r_120, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_121 (c : Dev nD) (arg1 : Memref sig .tc .vmem S1024x256 .bf16) (harg1 : arg1.IsWhole) (Q : ℕ → ℕ → ℝ) :
    kernelRun0_A.sl.r_121 (F := Ideal) c arg1 harg1 (up2 1024 256 Q) =
      up2 256 128 fun s k => if 64 ≤ k then Q (768 + s) (128 + k) else 0 := by
  simp only [kernelRun0_A.sl.r_121, k0_pay179, harg1.read_unread, Nat.zero_add, ld_f32, ld_bf16, keep_low, keep_high, truncf_up2, extf_up2, constant_zero, cast_rows, readCov_ld, View.readAt_eq_ld]

theorem A_r_122 (c : Dev nD) (arg4 : Memref sig .tc .vmem S1024x256 .bf16) (harg4 : arg4.IsWhole) (D : ℕ → ℕ → ℝ) :
    kernelRun0_A.sl.r_122 (F := Ideal) c arg4 harg4 (up2 1024 256 D) =
      up2 256 128 fun s k => if 64 ≤ k then D (768 + s) (128 + k) else 0 := by
  simp only [kernelRun0_A.sl.r_122, k0_pay180, harg4.read_unread, Nat.zero_add, ld_f32, ld_bf16, keep_low, keep_high, truncf_up2, extf_up2, constant_zero, cast_rows, readCov_ld, View.readAt_eq_ld]

theorem A_r_123 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_A.sl.r_123 (F := Ideal) c arg1 harg1 arg2 harg2 (up2 1024 256 Q) (up2 256 256 K) =
      up2 256 256 fun m s => dotHead K Q 3 m (768 + s) := by
  simp only [kernelRun0_A.sl.r_123, k0_pay179, k0_pay181, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_124 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_A.sl.r_124 (F := Ideal) c arg3 harg3 arg4 harg4 (up2 256 256 V) (up2 1024 256 D) =
      up2 256 256 fun m s => dotHead V D 3 m (768 + s) := by
  simp only [kernelRun0_A.sl.r_124, k0_pay180, k0_pay182, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem A_r_133 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_A.sl.r_133 (F := Ideal) c arg1 harg1 arg2 harg2 arg5 harg5 arg10 (up2 1024 256 Q) (up2 256 256 K) (up2 1024 128 Ls) =
      up2 256 256 fun m s => prob K Q Ls 3 m (768 + s) := by
  simp only [kernelRun0_A.sl.r_133, kernelRun0_A.sl.v951, kernelRun0_A.sl.v953, k0_pay194, k0_pay195, A_HS0_8, A_r_123, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_r_134 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_A.sl.r_134 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 3 m (768 + s) := by
  simp only [kernelRun0_A.sl.r_134, kernelRun0_A.sl.v951, kernelRun0_A.sl.v953, kernelRun0_A.sl.v956, kernelRun0_A.sl.v958, k0_pay194, k0_pay196, A_HS0_8, A_HS1_8, A_r_123, A_r_124, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem A_H8_1  :
    View.canon (kernelRun0_A.sl.H8_1 (F := Ideal) ) =
      up2 256 256 fun _ _ => 0 := by
  simp only [kernelRun0_A.sl.H8_1, k0_pay3, broadcast_zero, canon_whole]

theorem A_H8_2 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (arg10 : Memref sig .tc .vmem S8x8x128 .f32) (Q K D Ls : ℕ → ℕ → ℝ) :
    View.canon (kernelRun0_A.sl.H8_2 (F := Ideal) c arg1 harg1 arg2 harg2 arg4 harg4 arg5 harg5 arg9 arg10 (up2 1024 256 Q) (up2 256 256 K) (up2 1024 256 D) (up2 1024 128 Ls)) =
      up2 256 256 fun m l => 0 + acc (prob K Q Ls) D 1 m l := by
  simp only [kernelRun0_A.sl.H8_2, kernelRun0_A.sl.v489, k0_pay83, A_H8_1, A_r_15, A_r_19, A_r_30, A_r_35, harg1.read_unread, harg2.read_unread, harg4.read_unread, harg5.read_unread, addf_up2, matmul_two, join_lanes, join_rows, ld_f32, truncf_up2, extf_up2, constant_zero, cast_rows, readCov_ld, View.readAt_eq_ld]
  rw [canon_left _ (A_H8_1 )]
  refine up2_congr fun m _ l hl => ?_
  by_cases h : l < 128
  · have e := halves_sum h (fun h s => prob K Q Ls h m s) (fun s => D s l) 0
    simp only [if_pos h, acc_one_low _ _ _ _ h, Nat.zero_add, Nat.mul_zero, Nat.reduceMul, Nat.reduceAdd, Nat.add_zero, ← Nat.add_assoc] at e ⊢
    rw [e]
  · simp only [if_neg h, acc_one_high _ _ _ _ (Nat.not_lt.1 h), add_zero, Nat.zero_add, Nat.mul_zero, Nat.reduceMul, Nat.reduceAdd, Nat.add_zero, ← Nat.add_assoc]

theorem A_H8_3 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (arg10 : Memref sig .tc .vmem S8x8x128 .f32) (Q K D Ls : ℕ → ℕ → ℝ) :
    View.canon (kernelRun0_A.sl.H8_3 (F := Ideal) c arg1 harg1 arg2 harg2 arg4 harg4 arg5 harg5 arg9 arg10 (up2 1024 256 Q) (up2 256 256 K) (up2 1024 256 D) (up2 1024 128 Ls)) =
      up2 256 256 fun m l => 0 + acc (prob K Q Ls) D 2 m l := by
  simp only [kernelRun0_A.sl.H8_3, kernelRun0_A.sl.v515, k0_pay86, A_H8_2, A_r_23, A_r_27, A_r_37, A_r_42, harg1.read_unread, harg2.read_unread, harg4.read_unread, harg5.read_unread, addf_up2, matmul_two, join_lanes, join_rows, ld_f32, truncf_up2, extf_up2, constant_zero, cast_rows, readCov_ld, View.readAt_eq_ld]
  rw [canon_right _ (A_H8_2 c arg1 harg1 arg2 harg2 arg4 harg4 arg5 harg5 arg9 arg10 Q K D Ls)]
  refine up2_congr fun m _ l hl => ?_
  refine Eq.trans ?_ (acc_right (prob K Q Ls) D (0) 0 m l)
  by_cases h : 128 ≤ l
  · obtain ⟨t, rfl⟩ := Nat.exists_eq_add_of_le h
    have ht : t < 128 := by omega
    have e := halves_sum ht (fun h s => prob K Q Ls h m (s)) (fun s => D (s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H8_4 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (arg10 : Memref sig .tc .vmem S8x8x128 .f32) (Q K D Ls : ℕ → ℕ → ℝ) :
    View.canon (kernelRun0_A.sl.H8_4 (F := Ideal) c arg1 harg1 arg2 harg2 arg4 harg4 arg5 harg5 arg9 arg10 (up2 1024 256 Q) (up2 256 256 K) (up2 1024 256 D) (up2 1024 128 Ls)) =
      up2 256 256 fun m l => 0 + acc (prob K Q Ls) D 3 m l := by
  simp only [kernelRun0_A.sl.H8_4, kernelRun0_A.sl.v649, k0_pay119, A_H8_3, A_r_47, A_r_52, A_r_64, A_r_66, harg1.read_unread, harg2.read_unread, harg4.read_unread, harg5.read_unread, addf_up2, matmul_two, join_lanes, join_rows, ld_f32, truncf_up2, extf_up2, constant_zero, cast_rows, readCov_ld, View.readAt_eq_ld]
  rw [canon_left _ (A_H8_3 c arg1 harg1 arg2 harg2 arg4 harg4 arg5 harg5 arg9 arg10 Q K D Ls)]
  refine up2_congr fun m _ l hl => ?_
  refine Eq.trans ?_ (acc_left (prob K Q Ls) D (0) 1 m l)
  by_cases h : l < 128
  · have e := halves_sum h (fun h s => prob K Q Ls h m (256 + s)) (fun s => D (256 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H8_5 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (arg10 : Memref sig .tc .vmem S8x8x128 .f32) (Q K D Ls : ℕ → ℕ → ℝ) :
    View.canon (kernelRun0_A.sl.H8_5 (F := Ideal) c arg1 harg1 arg2 harg2 arg4 harg4 arg5 harg5 arg9 arg10 (up2 1024 256 Q) (up2 256 256 K) (up2 1024 256 D) (up2 1024 128 Ls)) =
      up2 256 256 fun m l => 0 + acc (prob K Q Ls) D 4 m l := by
  simp only [kernelRun0_A.sl.H8_5, kernelRun0_A.sl.r_74, kernelRun0_A.sl.v675, k0_pay122, A_H8_4, A_r_56, A_r_60, A_r_69, A_r_71, harg1.read_unread, harg2.read_unread, harg4.read_unread, harg5.read_unread, addf_up2, matmul_two, join_lanes, join_rows, ld_f32, truncf_up2, extf_up2, constant_zero, cast_rows, readCov_ld, View.readAt_eq_ld]
  rw [canon_right _ (A_H8_4 c arg1 harg1 arg2 harg2 arg4 harg4 arg5 harg5 arg9 arg10 Q K D Ls)]
  refine up2_congr fun m _ l hl => ?_
  refine Eq.trans ?_ (acc_right (prob K Q Ls) D (0) 1 m l)
  by_cases h : 128 ≤ l
  · obtain ⟨t, rfl⟩ := Nat.exists_eq_add_of_le h
    have ht : t < 128 := by omega
    have e := halves_sum ht (fun h s => prob K Q Ls h m (256 + s)) (fun s => D (256 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H8_6 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (arg10 : Memref sig .tc .vmem S8x8x128 .f32) (Q K D Ls : ℕ → ℕ → ℝ) :
    View.canon (kernelRun0_A.sl.H8_6 (F := Ideal) c arg1 harg1 arg2 harg2 arg4 harg4 arg5 harg5 arg9 arg10 (up2 1024 256 Q) (up2 256 256 K) (up2 1024 256 D) (up2 1024 128 Ls)) =
      up2 256 256 fun m l => 0 + acc (prob K Q Ls) D 5 m l := by
  simp only [kernelRun0_A.sl.H8_6, kernelRun0_A.sl.cst_458, kernelRun0_A.sl.r_103, kernelRun0_A.sl.r_104, kernelRun0_A.sl.r_105, kernelRun0_A.sl.v809, k0_pay155, k0_pay156, k0_pay157, k0_pay158, A_H8_5, A_r_78, A_r_82, A_r_94, A_r_96, harg1.read_unread, harg2.read_unread, harg4.read_unread, harg5.read_unread, addf_up2, matmul_two, join_lanes, join_rows, ld_f32, truncf_up2, extf_up2, constant_zero, cast_rows, readCov_ld, View.readAt_eq_ld]
  rw [canon_left _ (A_H8_5 c arg1 harg1 arg2 harg2 arg4 harg4 arg5 harg5 arg9 arg10 Q K D Ls)]
  refine up2_congr fun m _ l hl => ?_
  refine Eq.trans ?_ (acc_left (prob K Q Ls) D (0) 2 m l)
  by_cases h : l < 128
  · have e := halves_sum h (fun h s => prob K Q Ls h m (512 + s)) (fun s => D (512 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H8_7 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (arg10 : Memref sig .tc .vmem S8x8x128 .f32) (Q K D Ls : ℕ → ℕ → ℝ) :
    View.canon (kernelRun0_A.sl.H8_7 (F := Ideal) c arg1 harg1 arg2 harg2 arg4 harg4 arg5 harg5 arg9 arg10 (up2 1024 256 Q) (up2 256 256 K) (up2 1024 256 D) (up2 1024 128 Ls)) =
      up2 256 256 fun m l => 0 + acc (prob K Q Ls) D 6 m l := by
  simp only [kernelRun0_A.sl.H8_7, kernelRun0_A.sl.v835, k0_pay161, A_H8_6, A_r_101, A_r_86, A_r_90, A_r_99, harg1.read_unread, harg2.read_unread, harg4.read_unread, harg5.read_unread, addf_up2, matmul_two, join_lanes, join_rows, ld_f32, truncf_up2, extf_up2, constant_zero, cast_rows, readCov_ld, View.readAt_eq_ld]
  rw [canon_right _ (A_H8_6 c arg1 harg1 arg2 harg2 arg4 harg4 arg5 harg5 arg9 arg10 Q K D Ls)]
  refine up2_congr fun m _ l hl => ?_
  refine Eq.trans ?_ (acc_right (prob K Q Ls) D (0) 2 m l)
  by_cases h : 128 ≤ l
  · obtain ⟨t, rfl⟩ := Nat.exists_eq_add_of_le h
    have ht : t < 128 := by omega
    have e := halves_sum ht (fun h s => prob K Q Ls h m (512 + s)) (fun s => D (512 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H8_8 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (arg10 : Memref sig .tc .vmem S8x8x128 .f32) (Q K D Ls : ℕ → ℕ → ℝ) :
    View.canon (kernelRun0_A.sl.H8_8 (F := Ideal) c arg1 harg1 arg2 harg2 arg4 harg4 arg5 harg5 arg9 arg10 (up2 1024 256 Q) (up2 256 256 K) (up2 1024 256 D) (up2 1024 128 Ls)) =
      up2 256 256 fun m l => 0 + acc (prob K Q Ls) D 7 m l := by
  simp only [kernelRun0_A.sl.H8_8, kernelRun0_A.sl.v969, k0_pay197, A_H8_7, A_r_110, A_r_114, A_r_126, A_r_128, harg1.read_unread, harg2.read_unread, harg4.read_unread, harg5.read_unread, addf_up2, matmul_two, join_lanes, join_rows, ld_f32, truncf_up2, extf_up2, constant_zero, cast_rows, readCov_ld, View.readAt_eq_ld]
  rw [canon_left _ (A_H8_7 c arg1 harg1 arg2 harg2 arg4 harg4 arg5 harg5 arg9 arg10 Q K D Ls)]
  refine up2_congr fun m _ l hl => ?_
  refine Eq.trans ?_ (acc_left (prob K Q Ls) D (0) 3 m l)
  by_cases h : l < 128
  · have e := halves_sum h (fun h s => prob K Q Ls h m (768 + s)) (fun s => D (768 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H7_1  :
    View.canon (kernelRun0_A.sl.H7_1 (F := Ideal) ) =
      up2 256 256 fun _ _ => 0 := by
  simp only [kernelRun0_A.sl.H7_1, k0_pay2, broadcast_zero, canon_whole]

theorem A_H7_2 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (arg10 : Memref sig .tc .vmem S8x8x128 .f32) (arg11 : Memref sig .tc .vmem S8x8x128 .f32) (Q K V D Ls Dl : ℕ → ℕ → ℝ) :
    View.canon (kernelRun0_A.sl.H7_2 (F := Ideal) c arg1 harg1 arg2 harg2 arg3 harg3 arg4 harg4 arg5 harg5 arg6 harg6 arg8 arg10 arg11 (up2 1024 256 Q) (up2 256 256 K) (up2 256 256 V) (up2 1024 256 D) (up2 1024 128 Ls) (up2 1024 128 Dl)) =
      up2 256 256 fun m l => 0 + acc (dscore K Q V D Ls Dl) Q 1 m l := by
  simp only [kernelRun0_A.sl.H7_2, kernelRun0_A.sl.v496, k0_pay84, A_H7_1, A_r_14, A_r_18, A_r_31, A_r_36, harg1.read_unread, harg2.read_unread, harg3.read_unread, harg4.read_unread, harg5.read_unread, harg6.read_unread, addf_up2, matmul_two, join_lanes, join_rows, ld_f32, truncf_up2, extf_up2, constant_zero, cast_rows, readCov_ld, View.readAt_eq_ld]
  rw [canon_left _ (A_H7_1 )]
  refine up2_congr fun m _ l hl => ?_
  by_cases h : l < 128
  · have e := halves_sum h (fun h s => dscore K Q V D Ls Dl h m s) (fun s => Q s l) 0
    simp only [if_pos h, acc_one_low _ _ _ _ h, Nat.zero_add, Nat.mul_zero, Nat.reduceMul, Nat.reduceAdd, Nat.add_zero, ← Nat.add_assoc] at e ⊢
    rw [e]
  · simp only [if_neg h, acc_one_high _ _ _ _ (Nat.not_lt.1 h), add_zero, Nat.zero_add, Nat.mul_zero, Nat.reduceMul, Nat.reduceAdd, Nat.add_zero, ← Nat.add_assoc]

theorem A_H7_3 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (arg10 : Memref sig .tc .vmem S8x8x128 .f32) (arg11 : Memref sig .tc .vmem S8x8x128 .f32) (Q K V D Ls Dl : ℕ → ℕ → ℝ) :
    View.canon (kernelRun0_A.sl.H7_3 (F := Ideal) c arg1 harg1 arg2 harg2 arg3 harg3 arg4 harg4 arg5 harg5 arg6 harg6 arg8 arg10 arg11 (up2 1024 256 Q) (up2 256 256 K) (up2 256 256 V) (up2 1024 256 D) (up2 1024 128 Ls) (up2 1024 128 Dl)) =
      up2 256 256 fun m l => 0 + acc (dscore K Q V D Ls Dl) Q 2 m l := by
  simp only [kernelRun0_A.sl.H7_3, kernelRun0_A.sl.v522, k0_pay87, A_H7_2, A_r_22, A_r_26, A_r_38, A_r_43, harg1.read_unread, harg2.read_unread, harg3.read_unread, harg4.read_unread, harg5.read_unread, harg6.read_unread, addf_up2, matmul_two, join_lanes, join_rows, ld_f32, truncf_up2, extf_up2, constant_zero, cast_rows, readCov_ld, View.readAt_eq_ld]
  rw [canon_right _ (A_H7_2 c arg1 harg1 arg2 harg2 arg3 harg3 arg4 harg4 arg5 harg5 arg6 harg6 arg8 arg10 arg11 Q K V D Ls Dl)]
  refine up2_congr fun m _ l hl => ?_
  refine Eq.trans ?_ (acc_right (dscore K Q V D Ls Dl) Q (0) 0 m l)
  by_cases h : 128 ≤ l
  · obtain ⟨t, rfl⟩ := Nat.exists_eq_add_of_le h
    have ht : t < 128 := by omega
    have e := halves_sum ht (fun h s => dscore K Q V D Ls Dl h m (s)) (fun s => Q (s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H7_4 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (arg10 : Memref sig .tc .vmem S8x8x128 .f32) (arg11 : Memref sig .tc .vmem S8x8x128 .f32) (Q K V D Ls Dl : ℕ → ℕ → ℝ) :
    View.canon (kernelRun0_A.sl.H7_4 (F := Ideal) c arg1 harg1 arg2 harg2 arg3 harg3 arg4 harg4 arg5 harg5 arg6 harg6 arg8 arg10 arg11 (up2 1024 256 Q) (up2 256 256 K) (up2 256 256 V) (up2 1024 256 D) (up2 1024 128 Ls) (up2 1024 128 Dl)) =
      up2 256 256 fun m l => 0 + acc (dscore K Q V D Ls Dl) Q 3 m l := by
  simp only [kernelRun0_A.sl.H7_4, kernelRun0_A.sl.v656, k0_pay120, A_H7_3, A_r_46, A_r_51, A_r_65, A_r_68, harg1.read_unread, harg2.read_unread, harg3.read_unread, harg4.read_unread, harg5.read_unread, harg6.read_unread, addf_up2, matmul_two, join_lanes, join_rows, ld_f32, truncf_up2, extf_up2, constant_zero, cast_rows, readCov_ld, View.readAt_eq_ld]
  rw [canon_left _ (A_H7_3 c arg1 harg1 arg2 harg2 arg3 harg3 arg4 harg4 arg5 harg5 arg6 harg6 arg8 arg10 arg11 Q K V D Ls Dl)]
  refine up2_congr fun m _ l hl => ?_
  refine Eq.trans ?_ (acc_left (dscore K Q V D Ls Dl) Q (0) 1 m l)
  by_cases h : l < 128
  · have e := halves_sum h (fun h s => dscore K Q V D Ls Dl h m (256 + s)) (fun s => Q (256 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H7_5 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (arg10 : Memref sig .tc .vmem S8x8x128 .f32) (arg11 : Memref sig .tc .vmem S8x8x128 .f32) (Q K V D Ls Dl : ℕ → ℕ → ℝ) :
    View.canon (kernelRun0_A.sl.H7_5 (F := Ideal) c arg1 harg1 arg2 harg2 arg3 harg3 arg4 harg4 arg5 harg5 arg6 harg6 arg8 arg10 arg11 (up2 1024 256 Q) (up2 256 256 K) (up2 256 256 V) (up2 1024 256 D) (up2 1024 128 Ls) (up2 1024 128 Dl)) =
      up2 256 256 fun m l => 0 + acc (dscore K Q V D Ls Dl) Q 4 m l := by
  simp only [kernelRun0_A.sl.H7_5, kernelRun0_A.sl.v682, k0_pay123, A_H7_4, A_r_55, A_r_59, A_r_70, A_r_73, harg1.read_unread, harg2.read_unread, harg3.read_unread, harg4.read_unread, harg5.read_unread, harg6.read_unread, addf_up2, matmul_two, join_lanes, join_rows, ld_f32, truncf_up2, extf_up2, constant_zero, cast_rows, readCov_ld, View.readAt_eq_ld]
  rw [canon_right _ (A_H7_4 c arg1 harg1 arg2 harg2 arg3 harg3 arg4 harg4 arg5 harg5 arg6 harg6 arg8 arg10 arg11 Q K V D Ls Dl)]
  refine up2_congr fun m _ l hl => ?_
  refine Eq.trans ?_ (acc_right (dscore K Q V D Ls Dl) Q (0) 1 m l)
  by_cases h : 128 ≤ l
  · obtain ⟨t, rfl⟩ := Nat.exists_eq_add_of_le h
    have ht : t < 128 := by omega
    have e := halves_sum ht (fun h s => dscore K Q V D Ls Dl h m (256 + s)) (fun s => Q (256 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H7_6 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (arg10 : Memref sig .tc .vmem S8x8x128 .f32) (arg11 : Memref sig .tc .vmem S8x8x128 .f32) (Q K V D Ls Dl : ℕ → ℕ → ℝ) :
    View.canon (kernelRun0_A.sl.H7_6 (F := Ideal) c arg1 harg1 arg2 harg2 arg3 harg3 arg4 harg4 arg5 harg5 arg6 harg6 arg8 arg10 arg11 (up2 1024 256 Q) (up2 256 256 K) (up2 256 256 V) (up2 1024 256 D) (up2 1024 128 Ls) (up2 1024 128 Dl)) =
      up2 256 256 fun m l => 0 + acc (dscore K Q V D Ls Dl) Q 5 m l := by
  simp only [kernelRun0_A.sl.H7_6, kernelRun0_A.sl.v816, k0_pay159, A_H7_5, A_r_77, A_r_81, A_r_95, A_r_97, harg1.read_unread, harg2.read_unread, harg3.read_unread, harg4.read_unread, harg5.read_unread, harg6.read_unread, addf_up2, matmul_two, join_lanes, join_rows, ld_f32, truncf_up2, extf_up2, constant_zero, cast_rows, readCov_ld, View.readAt_eq_ld]
  rw [canon_left _ (A_H7_5 c arg1 harg1 arg2 harg2 arg3 harg3 arg4 harg4 arg5 harg5 arg6 harg6 arg8 arg10 arg11 Q K V D Ls Dl)]
  refine up2_congr fun m _ l hl => ?_
  refine Eq.trans ?_ (acc_left (dscore K Q V D Ls Dl) Q (0) 2 m l)
  by_cases h : l < 128
  · have e := halves_sum h (fun h s => dscore K Q V D Ls Dl h m (512 + s)) (fun s => Q (512 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H7_7 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (arg10 : Memref sig .tc .vmem S8x8x128 .f32) (arg11 : Memref sig .tc .vmem S8x8x128 .f32) (Q K V D Ls Dl : ℕ → ℕ → ℝ) :
    View.canon (kernelRun0_A.sl.H7_7 (F := Ideal) c arg1 harg1 arg2 harg2 arg3 harg3 arg4 harg4 arg5 harg5 arg6 harg6 arg8 arg10 arg11 (up2 1024 256 Q) (up2 256 256 K) (up2 256 256 V) (up2 1024 256 D) (up2 1024 128 Ls) (up2 1024 128 Dl)) =
      up2 256 256 fun m l => 0 + acc (dscore K Q V D Ls Dl) Q 6 m l := by
  simp only [kernelRun0_A.sl.H7_7, kernelRun0_A.sl.r_106, kernelRun0_A.sl.r_107, kernelRun0_A.sl.r_108, kernelRun0_A.sl.v842, k0_pay162, k0_pay163, k0_pay164, k0_pay165, A_H7_6, A_r_100, A_r_102, A_r_85, A_r_89, harg1.read_unread, harg2.read_unread, harg3.read_unread, harg4.read_unread, harg5.read_unread, harg6.read_unread, addf_up2, matmul_two, join_lanes, join_rows, ld_f32, truncf_up2, extf_up2, constant_zero, cast_rows, readCov_ld, View.readAt_eq_ld]
  rw [canon_right _ (A_H7_6 c arg1 harg1 arg2 harg2 arg3 harg3 arg4 harg4 arg5 harg5 arg6 harg6 arg8 arg10 arg11 Q K V D Ls Dl)]
  refine up2_congr fun m _ l hl => ?_
  refine Eq.trans ?_ (acc_right (dscore K Q V D Ls Dl) Q (0) 2 m l)
  by_cases h : 128 ≤ l
  · obtain ⟨t, rfl⟩ := Nat.exists_eq_add_of_le h
    have ht : t < 128 := by omega
    have e := halves_sum ht (fun h s => dscore K Q V D Ls Dl h m (512 + s)) (fun s => Q (512 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_H7_8 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (arg10 : Memref sig .tc .vmem S8x8x128 .f32) (arg11 : Memref sig .tc .vmem S8x8x128 .f32) (Q K V D Ls Dl : ℕ → ℕ → ℝ) :
    View.canon (kernelRun0_A.sl.H7_8 (F := Ideal) c arg1 harg1 arg2 harg2 arg3 harg3 arg4 harg4 arg5 harg5 arg6 harg6 arg8 arg10 arg11 (up2 1024 256 Q) (up2 256 256 K) (up2 256 256 V) (up2 1024 256 D) (up2 1024 128 Ls) (up2 1024 128 Dl)) =
      up2 256 256 fun m l => 0 + acc (dscore K Q V D Ls Dl) Q 7 m l := by
  simp only [kernelRun0_A.sl.H7_8, kernelRun0_A.sl.v976, k0_pay198, A_H7_7, A_r_109, A_r_113, A_r_127, A_r_129, harg1.read_unread, harg2.read_unread, harg3.read_unread, harg4.read_unread, harg5.read_unread, harg6.read_unread, addf_up2, matmul_two, join_lanes, join_rows, ld_f32, truncf_up2, extf_up2, constant_zero, cast_rows, readCov_ld, View.readAt_eq_ld]
  rw [canon_left _ (A_H7_7 c arg1 harg1 arg2 harg2 arg3 harg3 arg4 harg4 arg5 harg5 arg6 harg6 arg8 arg10 arg11 Q K V D Ls Dl)]
  refine up2_congr fun m _ l hl => ?_
  refine Eq.trans ?_ (acc_left (dscore K Q V D Ls Dl) Q (0) 3 m l)
  by_cases h : l < 128
  · have e := halves_sum h (fun h s => dscore K Q V D Ls Dl h m (768 + s)) (fun s => Q (768 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_HS2_2 (c : Dev nD) (arg2 : Memref sig .tc .vmem S256x256 .bf16) (harg2 : arg2.IsWhole) (K : ℕ → ℕ → ℝ) :
    View.canon (kernelRun0_A.sl.HS2_2 (F := Ideal) c arg2 harg2 (up2 256 256 K)) =
      up3 2 128 256 fun p d m => K m (128 * p + d) := by
  funext y
  have h0 : (y 0).val < 2 := (y 0).isLt
  simp only [kernelRun0_A.sl.HS2_2, k0_pay4, k0_pay5, harg2.read_unread, matmul_two_dq, join_lanes_dq, join_rows_dq, transpose_rows, cast_drop, cast_add, keep_rows_low, keep_rows_high, ld3_bf16, ld_bf16, truncf_up2, extf_up2, constant_zero, cast_rows, readCov_ld, View.readAt_eq_ld, canon_half, Nat.zero_add, up3]
  interval_cases (y 0).val <;> simp

theorem A_HS3_8 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (arg12 : Memref sig .tc .vmem S2x128x256 .bf16) (Q K V D Ls Dl : ℕ → ℕ → ℝ) :
    View.canon (kernelRun0_A.sl.HS3_8 (F := Ideal) c arg1 harg1 arg2 harg2 arg3 harg3 arg4 harg4 arg5 harg5 arg6 harg6 arg10 arg11 arg12 (up2 1024 256 Q) (up2 256 256 K) (up2 256 256 V) (up2 1024 256 D) (up2 1024 128 Ls) (up2 1024 128 Dl)) =
      up3 2 128 1024 fun p d s => ∑ m ∈ Finset.range 256, K m (128 * p + d) * dscore K Q V D Ls Dl (2 * p + d / 64) m s := by
  funext y
  have h0 : (y 0).val < 2 := (y 0).isLt
  have h1 : (y 1).val < 128 := (y 1).isLt
  have h2 : (y 2).val < 1024 := (y 2).isLt
  have e00 : ∀ d < 128, ∀ s, (∑ m ∈ Finset.range 256, (if d < 64 then K m (d) else 0) * dscore K Q V D Ls Dl 0 m (s)
      + ∑ m ∈ Finset.range 256, (if 64 ≤ d then K m (d) else 0) * dscore K Q V D Ls Dl 1 m (s))
      = ∑ m ∈ Finset.range 256, K m (d) * dscore K Q V D Ls Dl (0 + d / 64) m (s) := fun d hd s => by
    have e := halves_sum' hd (fun h m => dscore K Q V D Ls Dl h m (s)) (fun m => K m (d)) 0
    simpa only [Nat.zero_add, Nat.mul_zero, Nat.reduceMul, Nat.reduceAdd, Nat.add_zero, ← Nat.add_assoc] using e
  have e01 : ∀ d < 128, ∀ s, (∑ m ∈ Finset.range 256, (if d < 64 then K m (d) else 0) * dscore K Q V D Ls Dl 0 m (256 + s)
      + ∑ m ∈ Finset.range 256, (if 64 ≤ d then K m (d) else 0) * dscore K Q V D Ls Dl 1 m (256 + s))
      = ∑ m ∈ Finset.range 256, K m (d) * dscore K Q V D Ls Dl (0 + d / 64) m (256 + s) := fun d hd s => by
    have e := halves_sum' hd (fun h m => dscore K Q V D Ls Dl h m (256 + s)) (fun m => K m (d)) 0
    simpa only [Nat.zero_add, Nat.mul_zero, Nat.reduceMul, Nat.reduceAdd, Nat.add_zero, ← Nat.add_assoc] using e
  have e02 : ∀ d < 128, ∀ s, (∑ m ∈ Finset.range 256, (if d < 64 then K m (d) else 0) * dscore K Q V D Ls Dl 0 m (512 + s)
      + ∑ m ∈ Finset.range 256, (if 64 ≤ d then K m (d) else 0) * dscore K Q V D Ls Dl 1 m (512 + s))
      = ∑ m ∈ Finset.range 256, K m (d) * dscore K Q V D Ls Dl (0 + d / 64) m (512 + s) := fun d hd s => by
    have e := halves_sum' hd (fun h m => dscore K Q V D Ls Dl h m (512 + s)) (fun m => K m (d)) 0
    simpa only [Nat.zero_add, Nat.mul_zero, Nat.reduceMul, Nat.reduceAdd, Nat.add_zero, ← Nat.add_assoc] using e
  have e03 : ∀ d < 128, ∀ s, (∑ m ∈ Finset.range 256, (if d < 64 then K m (d) else 0) * dscore K Q V D Ls Dl 0 m (768 + s)
      + ∑ m ∈ Finset.range 256, (if 64 ≤ d then K m (d) else 0) * dscore K Q V D Ls Dl 1 m (768 + s))
      = ∑ m ∈ Finset.range 256, K m (d) * dscore K Q V D Ls Dl (0 + d / 64) m (768 + s) := fun d hd s => by
    have e := halves_sum' hd (fun h m => dscore K Q V D Ls Dl h m (768 + s)) (fun m => K m (d)) 0
    simpa only [Nat.zero_add, Nat.mul_zero, Nat.reduceMul, Nat.reduceAdd, Nat.add_zero, ← Nat.add_assoc] using e
  have e10 : ∀ d < 128, ∀ s, (∑ m ∈ Finset.range 256, (if d < 64 then K m (128 + d) else 0) * dscore K Q V D Ls Dl 2 m (s)
      + ∑ m ∈ Finset.range 256, (if 64 ≤ d then K m (128 + d) else 0) * dscore K Q V D Ls Dl 3 m (s))
      = ∑ m ∈ Finset.range 256, K m (128 + d) * dscore K Q V D Ls Dl (2 + d / 64) m (s) := fun d hd s => by
    have e := halves_sum' hd (fun h m => dscore K Q V D Ls Dl h m (s)) (fun m => K m (128 + d)) 1
    simpa only [Nat.zero_add, Nat.mul_zero, Nat.reduceMul, Nat.reduceAdd, Nat.add_zero, ← Nat.add_assoc] using e
  have e11 : ∀ d < 128, ∀ s, (∑ m ∈ Finset.range 256, (if d < 64 then K m (128 + d) else 0) * dscore K Q V D Ls Dl 2 m (256 + s)
      + ∑ m ∈ Finset.range 256, (if 64 ≤ d then K m (128 + d) else 0) * dscore K Q V D Ls Dl 3 m (256 + s))
      = ∑ m ∈ Finset.range 256, K m (128 + d) * dscore K Q V D Ls Dl (2 + d / 64) m (256 + s) := fun d hd s => by
    have e := halves_sum' hd (fun h m => dscore K Q V D Ls Dl h m (256 + s)) (fun m => K m (128 + d)) 1
    simpa only [Nat.zero_add, Nat.mul_zero, Nat.reduceMul, Nat.reduceAdd, Nat.add_zero, ← Nat.add_assoc] using e
  have e12 : ∀ d < 128, ∀ s, (∑ m ∈ Finset.range 256, (if d < 64 then K m (128 + d) else 0) * dscore K Q V D Ls Dl 2 m (512 + s)
      + ∑ m ∈ Finset.range 256, (if 64 ≤ d then K m (128 + d) else 0) * dscore K Q V D Ls Dl 3 m (512 + s))
      = ∑ m ∈ Finset.range 256, K m (128 + d) * dscore K Q V D Ls Dl (2 + d / 64) m (512 + s) := fun d hd s => by
    have e := halves_sum' hd (fun h m => dscore K Q V D Ls Dl h m (512 + s)) (fun m => K m (128 + d)) 1
    simpa only [Nat.zero_add, Nat.mul_zero, Nat.reduceMul, Nat.reduceAdd, Nat.add_zero, ← Nat.add_assoc] using e
  have e13 : ∀ d < 128, ∀ s, (∑ m ∈ Finset.range 256, (if d < 64 then K m (128 + d) else 0) * dscore K Q V D Ls Dl 2 m (768 + s)
      + ∑ m ∈ Finset.range 256, (if 64 ≤ d then K m (128 + d) else 0) * dscore K Q V D Ls Dl 3 m (768 + s))
      = ∑ m ∈ Finset.range 256, K m (128 + d) * dscore K Q V D Ls Dl (2 + d / 64) m (768 + s) := fun d hd s => by
    have e := halves_sum' hd (fun h m => dscore K Q V D Ls Dl h m (768 + s)) (fun m => K m (128 + d)) 1
    simpa only [Nat.zero_add, Nat.mul_zero, Nat.reduceMul, Nat.reduceAdd, Nat.add_zero, ← Nat.add_assoc] using e
  simp only [kernelRun0_A.sl.HS3_8, kernelRun0_A.sl.v503, kernelRun0_A.sl.v529, k0_pay85, k0_pay88, k0_pay121, k0_pay124, k0_pay160, k0_pay166, k0_pay199, k0_pay202, A_HS2_2, A_r_100, A_r_102, A_r_127, A_r_129, A_r_132, A_r_134, A_r_31, A_r_36, A_r_38, A_r_43, A_r_65, A_r_68, A_r_70, A_r_73, A_r_95, A_r_97, harg1.read_unread, harg2.read_unread, harg3.read_unread, harg4.read_unread, harg5.read_unread, harg6.read_unread, matmul_two_dq, join_lanes_dq, join_rows_dq, transpose_rows, cast_drop, cast_add, keep_rows_low, keep_rows_high, ld3_bf16, ld_bf16, truncf_up2, extf_up2, constant_zero, cast_rows, readCov_ld, View.readAt_eq_ld, canon_part, Nat.zero_add, Nat.mul_zero, Nat.reduceMul, Nat.reduceAdd, Nat.add_zero, ← Nat.add_assoc]
  simp only [e00 _ h1, e01 _ h1, e02 _ h1, e03 _ h1, e10 _ h1, e11 _ h1, e12 _ h1, e13 _ h1, up3]
  exact eight_parts (fun p s => ∑ m ∈ Finset.range 256, K m (128 * p + (y 1).val) * dscore K Q V D Ls Dl (2 * p + (y 1).val / 64) m s) _ h0 h2
    (fun s => ((∑ m ∈ Finset.range 256, K m (y 1).val * dscore K Q V D Ls Dl (0 + (y 1).val / 64) m s : ℝ) : EReal))
    (fun s => ((∑ m ∈ Finset.range 256, K m (128 + (y 1).val) * dscore K Q V D Ls Dl (2 + (y 1).val / 64) m s : ℝ) : EReal))
    (fun s => by simp only [Nat.zero_add, Nat.mul_zero, Nat.reduceMul, Nat.reduceAdd, Nat.add_zero, ← Nat.add_assoc]) (fun s => by simp only [Nat.zero_add, Nat.mul_zero, Nat.reduceMul, Nat.reduceAdd, Nat.add_zero, ← Nat.add_assoc])

theorem A_out0_8 (c : Dev nD) (i : grid0.Coords) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x256 .bf16) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S8x8x128 .f32) (harg11 : arg11.IsWhole) (arg12 : Memref sig .tc .vmem S2x128x256 .bf16) (harg12 : arg12.IsWhole) (arg13 : Memref sig .tc .vmem S2x128x1024 .f32) (harg13 : arg13.IsWhole) (hc0 : cond0_0 i) (Q K V D Ls Dl : ℕ → ℕ → ℝ) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl) =
      up2 256 256 fun m l => 0 + ∑ s ∈ Finset.range 1024, prob K Q Ls (l / 64) m s * D s l := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl))]
  unfold kernelRun0_A
  dsimp only
  simp only [kernelRun0_A.sl.v995, k0_pay200, A_H8_8, A_r_118, A_r_122, A_r_131, A_r_133, addf_up2, matmul_two, join_lanes, join_rows, ld_f32, truncf_up2, extf_up2, constant_zero, cast_rows, readCov_ld, View.readAt_eq_ld]
  rw [canon_right _ (A_H8_8 c arg1 harg1 arg2 harg2 arg4 harg4 arg5 harg5 arg9 arg10 Q K D Ls)]
  refine up2_congr fun m _ l hl => ?_
  rw [← acc_eight (prob K Q Ls) D m l]
  refine Eq.trans ?_ (acc_right (prob K Q Ls) D (0) 3 m l)
  by_cases h : 128 ≤ l
  · obtain ⟨t, rfl⟩ := Nat.exists_eq_add_of_le h
    have ht : t < 128 := by omega
    have e := halves_sum ht (fun h s => prob K Q Ls h m (768 + s)) (fun s => D (768 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_out0_7 (c : Dev nD) (i : grid0.Coords) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x256 .bf16) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S8x8x128 .f32) (harg11 : arg11.IsWhole) (arg12 : Memref sig .tc .vmem S2x128x256 .bf16) (harg12 : arg12.IsWhole) (arg13 : Memref sig .tc .vmem S2x128x1024 .f32) (harg13 : arg13.IsWhole) (hc0 : cond0_0 i) (Q K V D Ls Dl : ℕ → ℕ → ℝ) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl) =
      up2 256 256 fun m l => 0 + ∑ s ∈ Finset.range 1024, dscore K Q V D Ls Dl (l / 64) m s * Q s l := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl))]
  unfold kernelRun0_A
  dsimp only
  simp only [kernelRun0_A.sl.v1002, k0_pay201, A_H7_8, A_r_117, A_r_121, A_r_132, A_r_134, addf_up2, matmul_two, join_lanes, join_rows, ld_f32, truncf_up2, extf_up2, constant_zero, cast_rows, readCov_ld, View.readAt_eq_ld]
  rw [canon_right _ (A_H7_8 c arg1 harg1 arg2 harg2 arg3 harg3 arg4 harg4 arg5 harg5 arg6 harg6 arg8 arg10 arg11 Q K V D Ls Dl)]
  refine up2_congr fun m _ l hl => ?_
  rw [← acc_eight (dscore K Q V D Ls Dl) Q m l]
  refine Eq.trans ?_ (acc_right (dscore K Q V D Ls Dl) Q (0) 3 m l)
  by_cases h : 128 ≤ l
  · obtain ⟨t, rfl⟩ := Nat.exists_eq_add_of_le h
    have ht : t < 128 := by omega
    have e := halves_sum ht (fun h s => dscore K Q V D Ls Dl h m (768 + s)) (fun s => Q (768 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem A_out0_6 (c : Dev nD) (i : grid0.Coords) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x256 .bf16) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S8x8x128 .f32) (harg11 : arg11.IsWhole) (arg12 : Memref sig .tc .vmem S2x128x256 .bf16) (harg12 : arg12.IsWhole) (arg13 : Memref sig .tc .vmem S2x128x1024 .f32) (harg13 : arg13.IsWhole) (hc0 : cond0_0 i) (Q K V D Ls Dl : ℕ → ℕ → ℝ) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl) =
      up2 1024 256 fun s l => ∑ m ∈ Finset.range 256, K m l * dscore K Q V D Ls Dl (l / 64) m s := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl))]
  unfold kernelRun0_A
  dsimp only
  funext y
  have h0 : (y 0).val < 1024 := (y 0).isLt
  have h1 : (y 1).val < 256 := (y 1).isLt
  simp only [kernelRun0_A.sl.v1021, kernelRun0_A.sl.v1026, k0_pay203, k0_pay1, A_HS3_8, transpose_wide, cast_drop_wide, ld3_f32, truncf_up2, extf_up2, constant_zero, cast_rows, readCov_ld, View.readAt_eq_ld, canon_lanes, Nat.zero_add, Nat.mul_zero, Nat.reduceMul, Nat.reduceAdd, Nat.add_zero, ← Nat.add_assoc, up2]
  by_cases h : 128 ≤ (y 1).val
  · obtain ⟨t, ht⟩ := Nat.exists_eq_add_of_le h
    rw [if_pos ⟨h, h1⟩]
    simp only [ht, Nat.add_sub_cancel_left, head_shift]
  · rw [if_neg (fun hh => h hh.1), if_pos ⟨Nat.zero_le _, by omega⟩]
    simp only [Nat.sub_zero, Nat.zero_add]

theorem A_sout0_2 (c : Dev nD) (i : grid0.Coords) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x256 .bf16) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S8x8x128 .f32) (harg11 : arg11.IsWhole) (arg12 : Memref sig .tc .vmem S2x128x256 .bf16) (harg12 : arg12.IsWhole) (arg13 : Memref sig .tc .vmem S2x128x1024 .f32) (harg13 : arg13.IsWhole) (hc0 : cond0_0 i) (Q K V D Ls Dl : ℕ → ℕ → ℝ) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl) =
      up3 2 128 256 fun p d m => K m (128 * p + d) := by
  unfold sout0_A_2
  rw [View.read_writes_eq_canon _ _ _ (scover0_A_2 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl))]
  unfold kernelRun0_A
  dsimp only
  exact A_HS2_2 c arg2 harg2 K

end Cert.MemAttn
-- ==== Proof.BlockB.lean ====
module

public import proofs.«01_k».proof.Proof.Spec
public import proofs.«01_k».proof.Proof.Gen.KernelIdeal.Frame

/-! # The values of a block: the later grid points -/

@[expose] public section

noncomputable section

namespace Cert.MemAttn

open Cert.KernelIdeal Cert.KernelIdeal.Gen Idealize.ShloMosaic

theorem B_HS0_8 (c : Dev nD) (arg5 : Memref sig .tc .vmem S1024x128 .f32) (harg5 : arg5.IsWhole) (Ls : ℕ → ℕ → ℝ) :
    View.canon (kernelRun0_B.sl.HS0_8 (F := Ideal) c arg5 harg5 (up2 1024 128 Ls)) =
      up3 8 8 128 fun b h x => Ls (128 * b + x) h := by
  funext y
  have h1 : (y 1).val < 8 := (y 1).isLt
  have h0 : (y 0).val < 8 := (y 0).isLt
  simp only [kernelRun0_B.sl.HS0_8, kernelRun0_B.sl.r_10, kernelRun0_B.sl.r_11, k0_pay6, k0_pay16, k0_pay24, k0_pay30, k0_pay34, k0_pay37, k0_pay39, k0_pay40, k0_pay42, k0_pay43, harg5.read_unread, addf_up2, subf_up2, matmul_stat, pick_eight, cast_add_stat, ld_f32, truncf_up2, extf_up2, constant_zero, cast_rows, readCov_ld, View.readAt_eq_ld, canon_stat, sub_self, mul_zero, Finset.sum_const_zero, add_zero, Nat.zero_add]
  simp only [pick_sum _ _ h1, up3]
  interval_cases (y 0).val <;> simp

theorem B_HS1_8 (c : Dev nD) (arg6 : Memref sig .tc .vmem S1024x128 .f32) (harg6 : arg6.IsWhole) (Dl : ℕ → ℕ → ℝ) :
    View.canon (kernelRun0_B.sl.HS1_8 (F := Ideal) c arg6 harg6 (up2 1024 128 Dl)) =
      up3 8 8 128 fun b h x => Dl (128 * b + x) h := by
  funext y
  have h1 : (y 1).val < 8 := (y 1).isLt
  have h0 : (y 0).val < 8 := (y 0).isLt
  simp only [kernelRun0_B.sl.HS1_8, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v212, k0_pay7, k0_pay8, k0_pay9, k0_pay10, k0_pay11, k0_pay12, k0_pay13, k0_pay14, k0_pay15, k0_pay17, k0_pay18, k0_pay19, k0_pay20, k0_pay21, k0_pay22, k0_pay23, k0_pay25, k0_pay26, k0_pay27, k0_pay28, k0_pay29, k0_pay31, k0_pay32, k0_pay33, k0_pay35, k0_pay36, k0_pay38, k0_pay41, k0_pay44, harg6.read_unread, addf_up2, subf_up2, matmul_stat, pick_eight, cast_add_stat, ld_f32, truncf_up2, extf_up2, constant_zero, cast_rows, readCov_ld, View.readAt_eq_ld, canon_stat, sub_self, mul_zero, Finset.sum_const_zero, add_zero, Nat.zero_add]
  simp only [pick_sum _ _ h1, up3]
  interval_cases (y 0).val <;> simp

theorem B_r_14 (c : Dev nD) (arg1 : Memref sig .tc .vmem S1024x256 .bf16) (harg1 : arg1.IsWhole) (Q : ℕ → ℕ → ℝ) :
    kernelRun0_B.sl.r_14 (F := Ideal) c arg1 harg1 (up2 1024 256 Q) =
      up2 256 128 fun s k => if k < 64 then Q (s) (k) else 0 := by
  simp only [kernelRun0_B.sl.cst_120, kernelRun0_B.sl.r_12, kernelRun0_B.sl.r_14, k0_pay49, harg1.read_unread, Nat.zero_add, ld_f32, ld_bf16, keep_low, keep_high, truncf_up2, extf_up2, constant_zero, cast_rows, readCov_ld, View.readAt_eq_ld]

theorem B_r_15 (c : Dev nD) (arg4 : Memref sig .tc .vmem S1024x256 .bf16) (harg4 : arg4.IsWhole) (D : ℕ → ℕ → ℝ) :
    kernelRun0_B.sl.r_15 (F := Ideal) c arg4 harg4 (up2 1024 256 D) =
      up2 256 128 fun s k => if k < 64 then D (s) (k) else 0 := by
  simp only [kernelRun0_B.sl.r_13, kernelRun0_B.sl.r_15, k0_pay50, harg4.read_unread, Nat.zero_add, ld_f32, ld_bf16, keep_low, keep_high, truncf_up2, extf_up2, constant_zero, cast_rows, readCov_ld, View.readAt_eq_ld]

theorem B_r_16 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_16 (F := Ideal) c arg1 harg1 arg2 harg2 (up2 1024 256 Q) (up2 256 256 K) =
      up2 256 256 fun m s => dotHead K Q 0 m (s) := by
  simp only [kernelRun0_B.sl.cst_120, kernelRun0_B.sl.r_12, kernelRun0_B.sl.r_16, k0_pay49, k0_pay51, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_17 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_17 (F := Ideal) c arg3 harg3 arg4 harg4 (up2 256 256 V) (up2 1024 256 D) =
      up2 256 256 fun m s => dotHead V D 0 m (s) := by
  simp only [kernelRun0_B.sl.r_13, kernelRun0_B.sl.r_17, k0_pay50, k0_pay52, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_30 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_30 (F := Ideal) c arg1 harg1 arg2 harg2 arg5 harg5 arg10 (up2 1024 256 Q) (up2 256 256 K) (up2 1024 128 Ls) =
      up2 256 256 fun m s => prob K Q Ls 0 m (s) := by
  simp only [kernelRun0_B.sl.r_30, kernelRun0_B.sl.v417, kernelRun0_B.sl.v419, k0_pay65, k0_pay66, B_HS0_8, B_r_16, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_31 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_31 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 0 m (s) := by
  simp only [kernelRun0_B.sl.r_31, kernelRun0_B.sl.v417, kernelRun0_B.sl.v419, kernelRun0_B.sl.v422, kernelRun0_B.sl.v424, k0_pay65, k0_pay67, B_HS0_8, B_HS1_8, B_r_16, B_r_17, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_18 (c : Dev nD) (arg1 : Memref sig .tc .vmem S1024x256 .bf16) (harg1 : arg1.IsWhole) (Q : ℕ → ℕ → ℝ) :
    kernelRun0_B.sl.r_18 (F := Ideal) c arg1 harg1 (up2 1024 256 Q) =
      up2 256 128 fun s k => if 64 ≤ k then Q (s) (k) else 0 := by
  simp only [kernelRun0_B.sl.r_12, kernelRun0_B.sl.r_18, k0_pay53, harg1.read_unread, Nat.zero_add, ld_f32, ld_bf16, keep_low, keep_high, truncf_up2, extf_up2, constant_zero, cast_rows, readCov_ld, View.readAt_eq_ld]

theorem B_r_19 (c : Dev nD) (arg4 : Memref sig .tc .vmem S1024x256 .bf16) (harg4 : arg4.IsWhole) (D : ℕ → ℕ → ℝ) :
    kernelRun0_B.sl.r_19 (F := Ideal) c arg4 harg4 (up2 1024 256 D) =
      up2 256 128 fun s k => if 64 ≤ k then D (s) (k) else 0 := by
  simp only [kernelRun0_B.sl.r_13, kernelRun0_B.sl.r_19, k0_pay54, harg4.read_unread, Nat.zero_add, ld_f32, ld_bf16, keep_low, keep_high, truncf_up2, extf_up2, constant_zero, cast_rows, readCov_ld, View.readAt_eq_ld]

theorem B_r_20 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_20 (F := Ideal) c arg1 harg1 arg2 harg2 (up2 1024 256 Q) (up2 256 256 K) =
      up2 256 256 fun m s => dotHead K Q 1 m (s) := by
  simp only [kernelRun0_B.sl.r_12, kernelRun0_B.sl.r_20, k0_pay53, k0_pay55, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_21 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_21 (F := Ideal) c arg3 harg3 arg4 harg4 (up2 256 256 V) (up2 1024 256 D) =
      up2 256 256 fun m s => dotHead V D 1 m (s) := by
  simp only [kernelRun0_B.sl.r_13, kernelRun0_B.sl.r_21, k0_pay54, k0_pay56, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_35 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_35 (F := Ideal) c arg1 harg1 arg2 harg2 arg5 harg5 arg10 (up2 1024 256 Q) (up2 256 256 K) (up2 1024 128 Ls) =
      up2 256 256 fun m s => prob K Q Ls 1 m (s) := by
  simp only [kernelRun0_B.sl.r_32, kernelRun0_B.sl.r_35, kernelRun0_B.sl.v435, kernelRun0_B.sl.v437, k0_pay68, k0_pay71, k0_pay72, B_HS0_8, B_r_20, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_36 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_36 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 1 m (s) := by
  simp only [kernelRun0_B.sl.r_32, kernelRun0_B.sl.r_33, kernelRun0_B.sl.r_34, kernelRun0_B.sl.r_36, kernelRun0_B.sl.v435, kernelRun0_B.sl.v437, kernelRun0_B.sl.v440, kernelRun0_B.sl.v442, k0_pay68, k0_pay69, k0_pay70, k0_pay71, k0_pay73, B_HS0_8, B_HS1_8, B_r_20, B_r_21, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_22 (c : Dev nD) (arg1 : Memref sig .tc .vmem S1024x256 .bf16) (harg1 : arg1.IsWhole) (Q : ℕ → ℕ → ℝ) :
    kernelRun0_B.sl.r_22 (F := Ideal) c arg1 harg1 (up2 1024 256 Q) =
      up2 256 128 fun s k => if k < 64 then Q (s) (128 + k) else 0 := by
  simp only [kernelRun0_B.sl.r_22, k0_pay57, harg1.read_unread, Nat.zero_add, ld_f32, ld_bf16, keep_low, keep_high, truncf_up2, extf_up2, constant_zero, cast_rows, readCov_ld, View.readAt_eq_ld]

theorem B_r_23 (c : Dev nD) (arg4 : Memref sig .tc .vmem S1024x256 .bf16) (harg4 : arg4.IsWhole) (D : ℕ → ℕ → ℝ) :
    kernelRun0_B.sl.r_23 (F := Ideal) c arg4 harg4 (up2 1024 256 D) =
      up2 256 128 fun s k => if k < 64 then D (s) (128 + k) else 0 := by
  simp only [kernelRun0_B.sl.r_23, k0_pay58, harg4.read_unread, Nat.zero_add, ld_f32, ld_bf16, keep_low, keep_high, truncf_up2, extf_up2, constant_zero, cast_rows, readCov_ld, View.readAt_eq_ld]

theorem B_r_24 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_24 (F := Ideal) c arg1 harg1 arg2 harg2 (up2 1024 256 Q) (up2 256 256 K) =
      up2 256 256 fun m s => dotHead K Q 2 m (s) := by
  simp only [kernelRun0_B.sl.r_24, k0_pay57, k0_pay59, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_25 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_25 (F := Ideal) c arg3 harg3 arg4 harg4 (up2 256 256 V) (up2 1024 256 D) =
      up2 256 256 fun m s => dotHead V D 2 m (s) := by
  simp only [kernelRun0_B.sl.r_25, k0_pay58, k0_pay60, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_37 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_37 (F := Ideal) c arg1 harg1 arg2 harg2 arg5 harg5 arg10 (up2 1024 256 Q) (up2 256 256 K) (up2 1024 128 Ls) =
      up2 256 256 fun m s => prob K Q Ls 2 m (s) := by
  simp only [kernelRun0_B.sl.r_37, kernelRun0_B.sl.v453, kernelRun0_B.sl.v455, k0_pay74, k0_pay75, B_HS0_8, B_r_24, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_38 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_38 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 2 m (s) := by
  simp only [kernelRun0_B.sl.r_38, kernelRun0_B.sl.v453, kernelRun0_B.sl.v455, kernelRun0_B.sl.v458, kernelRun0_B.sl.v460, k0_pay74, k0_pay76, B_HS0_8, B_HS1_8, B_r_24, B_r_25, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_26 (c : Dev nD) (arg1 : Memref sig .tc .vmem S1024x256 .bf16) (harg1 : arg1.IsWhole) (Q : ℕ → ℕ → ℝ) :
    kernelRun0_B.sl.r_26 (F := Ideal) c arg1 harg1 (up2 1024 256 Q) =
      up2 256 128 fun s k => if 64 ≤ k then Q (s) (128 + k) else 0 := by
  simp only [kernelRun0_B.sl.r_26, k0_pay61, harg1.read_unread, Nat.zero_add, ld_f32, ld_bf16, keep_low, keep_high, truncf_up2, extf_up2, constant_zero, cast_rows, readCov_ld, View.readAt_eq_ld]

theorem B_r_27 (c : Dev nD) (arg4 : Memref sig .tc .vmem S1024x256 .bf16) (harg4 : arg4.IsWhole) (D : ℕ → ℕ → ℝ) :
    kernelRun0_B.sl.r_27 (F := Ideal) c arg4 harg4 (up2 1024 256 D) =
      up2 256 128 fun s k => if 64 ≤ k then D (s) (128 + k) else 0 := by
  simp only [kernelRun0_B.sl.r_27, k0_pay62, harg4.read_unread, Nat.zero_add, ld_f32, ld_bf16, keep_low, keep_high, truncf_up2, extf_up2, constant_zero, cast_rows, readCov_ld, View.readAt_eq_ld]

theorem B_r_28 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_28 (F := Ideal) c arg1 harg1 arg2 harg2 (up2 1024 256 Q) (up2 256 256 K) =
      up2 256 256 fun m s => dotHead K Q 3 m (s) := by
  simp only [kernelRun0_B.sl.r_28, k0_pay63, B_r_26, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_29 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_29 (F := Ideal) c arg3 harg3 arg4 harg4 (up2 256 256 V) (up2 1024 256 D) =
      up2 256 256 fun m s => dotHead V D 3 m (s) := by
  simp only [kernelRun0_B.sl.r_29, k0_pay64, B_r_27, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_42 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_42 (F := Ideal) c arg1 harg1 arg2 harg2 arg5 harg5 arg10 (up2 1024 256 Q) (up2 256 256 K) (up2 1024 128 Ls) =
      up2 256 256 fun m s => prob K Q Ls 3 m (s) := by
  simp only [kernelRun0_B.sl.r_39, kernelRun0_B.sl.r_42, kernelRun0_B.sl.v471, kernelRun0_B.sl.v473, k0_pay77, k0_pay80, k0_pay81, B_HS0_8, B_r_28, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_43 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_43 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 3 m (s) := by
  simp only [kernelRun0_B.sl.r_39, kernelRun0_B.sl.r_40, kernelRun0_B.sl.r_41, kernelRun0_B.sl.r_43, kernelRun0_B.sl.v471, kernelRun0_B.sl.v473, kernelRun0_B.sl.v476, kernelRun0_B.sl.v478, k0_pay77, k0_pay78, k0_pay79, k0_pay80, k0_pay82, B_HS0_8, B_HS1_8, B_r_28, B_r_29, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_46 (c : Dev nD) (arg1 : Memref sig .tc .vmem S1024x256 .bf16) (harg1 : arg1.IsWhole) (Q : ℕ → ℕ → ℝ) :
    kernelRun0_B.sl.r_46 (F := Ideal) c arg1 harg1 (up2 1024 256 Q) =
      up2 256 128 fun s k => if k < 64 then Q (256 + s) (k) else 0 := by
  simp only [kernelRun0_B.sl.r_46, k0_pay89, harg1.read_unread, Nat.zero_add, ld_f32, ld_bf16, keep_low, keep_high, truncf_up2, extf_up2, constant_zero, cast_rows, readCov_ld, View.readAt_eq_ld]

theorem B_r_47 (c : Dev nD) (arg4 : Memref sig .tc .vmem S1024x256 .bf16) (harg4 : arg4.IsWhole) (D : ℕ → ℕ → ℝ) :
    kernelRun0_B.sl.r_47 (F := Ideal) c arg4 harg4 (up2 1024 256 D) =
      up2 256 128 fun s k => if k < 64 then D (256 + s) (k) else 0 := by
  simp only [kernelRun0_B.sl.r_47, k0_pay90, harg4.read_unread, Nat.zero_add, ld_f32, ld_bf16, keep_low, keep_high, truncf_up2, extf_up2, constant_zero, cast_rows, readCov_ld, View.readAt_eq_ld]

theorem B_r_49 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_49 (F := Ideal) c arg1 harg1 arg2 harg2 (up2 1024 256 Q) (up2 256 256 K) =
      up2 256 256 fun m s => dotHead K Q 0 m (256 + s) := by
  simp only [kernelRun0_B.sl.r_48, kernelRun0_B.sl.r_49, k0_pay91, B_r_46, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_50 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_50 (F := Ideal) c arg3 harg3 arg4 harg4 (up2 256 256 V) (up2 1024 256 D) =
      up2 256 256 fun m s => dotHead V D 0 m (256 + s) := by
  simp only [kernelRun0_B.sl.r_50, k0_pay92, B_r_47, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_64 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_64 (F := Ideal) c arg1 harg1 arg2 harg2 arg5 harg5 arg10 (up2 1024 256 Q) (up2 256 256 K) (up2 1024 128 Ls) =
      up2 256 256 fun m s => prob K Q Ls 0 m (256 + s) := by
  simp only [kernelRun0_B.sl.r_64, kernelRun0_B.sl.v577, kernelRun0_B.sl.v579, k0_pay105, k0_pay106, B_HS0_8, B_r_49, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_65 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_65 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 0 m (256 + s) := by
  simp only [kernelRun0_B.sl.r_65, kernelRun0_B.sl.v577, kernelRun0_B.sl.v579, kernelRun0_B.sl.v582, kernelRun0_B.sl.v584, k0_pay105, k0_pay107, B_HS0_8, B_HS1_8, B_r_49, B_r_50, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_51 (c : Dev nD) (arg1 : Memref sig .tc .vmem S1024x256 .bf16) (harg1 : arg1.IsWhole) (Q : ℕ → ℕ → ℝ) :
    kernelRun0_B.sl.r_51 (F := Ideal) c arg1 harg1 (up2 1024 256 Q) =
      up2 256 128 fun s k => if 64 ≤ k then Q (256 + s) (k) else 0 := by
  simp only [kernelRun0_B.sl.r_44, kernelRun0_B.sl.r_51, k0_pay93, harg1.read_unread, Nat.zero_add, ld_f32, ld_bf16, keep_low, keep_high, truncf_up2, extf_up2, constant_zero, cast_rows, readCov_ld, View.readAt_eq_ld]

theorem B_r_52 (c : Dev nD) (arg4 : Memref sig .tc .vmem S1024x256 .bf16) (harg4 : arg4.IsWhole) (D : ℕ → ℕ → ℝ) :
    kernelRun0_B.sl.r_52 (F := Ideal) c arg4 harg4 (up2 1024 256 D) =
      up2 256 128 fun s k => if 64 ≤ k then D (256 + s) (k) else 0 := by
  simp only [kernelRun0_B.sl.r_45, kernelRun0_B.sl.r_52, k0_pay94, harg4.read_unread, Nat.zero_add, ld_f32, ld_bf16, keep_low, keep_high, truncf_up2, extf_up2, constant_zero, cast_rows, readCov_ld, View.readAt_eq_ld]

theorem B_r_53 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_53 (F := Ideal) c arg1 harg1 arg2 harg2 (up2 1024 256 Q) (up2 256 256 K) =
      up2 256 256 fun m s => dotHead K Q 1 m (256 + s) := by
  simp only [kernelRun0_B.sl.r_44, kernelRun0_B.sl.r_53, k0_pay93, k0_pay95, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_54 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_54 (F := Ideal) c arg3 harg3 arg4 harg4 (up2 256 256 V) (up2 1024 256 D) =
      up2 256 256 fun m s => dotHead V D 1 m (256 + s) := by
  simp only [kernelRun0_B.sl.r_45, kernelRun0_B.sl.r_54, k0_pay94, k0_pay96, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_66 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_66 (F := Ideal) c arg1 harg1 arg2 harg2 arg5 harg5 arg10 (up2 1024 256 Q) (up2 256 256 K) (up2 1024 128 Ls) =
      up2 256 256 fun m s => prob K Q Ls 1 m (256 + s) := by
  simp only [kernelRun0_B.sl.r_66, kernelRun0_B.sl.v595, kernelRun0_B.sl.v597, k0_pay108, k0_pay109, B_HS0_8, B_r_53, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_68 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_68 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 1 m (256 + s) := by
  simp only [kernelRun0_B.sl.r_67, kernelRun0_B.sl.r_68, kernelRun0_B.sl.v595, kernelRun0_B.sl.v597, kernelRun0_B.sl.v600, kernelRun0_B.sl.v602, k0_pay108, k0_pay110, k0_pay111, B_HS0_8, B_HS1_8, B_r_53, B_r_54, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_55 (c : Dev nD) (arg1 : Memref sig .tc .vmem S1024x256 .bf16) (harg1 : arg1.IsWhole) (Q : ℕ → ℕ → ℝ) :
    kernelRun0_B.sl.r_55 (F := Ideal) c arg1 harg1 (up2 1024 256 Q) =
      up2 256 128 fun s k => if k < 64 then Q (256 + s) (128 + k) else 0 := by
  simp only [kernelRun0_B.sl.r_55, k0_pay97, harg1.read_unread, Nat.zero_add, ld_f32, ld_bf16, keep_low, keep_high, truncf_up2, extf_up2, constant_zero, cast_rows, readCov_ld, View.readAt_eq_ld]

theorem B_r_56 (c : Dev nD) (arg4 : Memref sig .tc .vmem S1024x256 .bf16) (harg4 : arg4.IsWhole) (D : ℕ → ℕ → ℝ) :
    kernelRun0_B.sl.r_56 (F := Ideal) c arg4 harg4 (up2 1024 256 D) =
      up2 256 128 fun s k => if k < 64 then D (256 + s) (128 + k) else 0 := by
  simp only [kernelRun0_B.sl.r_56, k0_pay98, harg4.read_unread, Nat.zero_add, ld_f32, ld_bf16, keep_low, keep_high, truncf_up2, extf_up2, constant_zero, cast_rows, readCov_ld, View.readAt_eq_ld]

theorem B_r_57 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_57 (F := Ideal) c arg1 harg1 arg2 harg2 (up2 1024 256 Q) (up2 256 256 K) =
      up2 256 256 fun m s => dotHead K Q 2 m (256 + s) := by
  simp only [kernelRun0_B.sl.r_57, k0_pay97, k0_pay99, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_58 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_58 (F := Ideal) c arg3 harg3 arg4 harg4 (up2 256 256 V) (up2 1024 256 D) =
      up2 256 256 fun m s => dotHead V D 2 m (256 + s) := by
  simp only [kernelRun0_B.sl.r_58, k0_pay98, k0_pay100, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_69 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_69 (F := Ideal) c arg1 harg1 arg2 harg2 arg5 harg5 arg10 (up2 1024 256 Q) (up2 256 256 K) (up2 1024 128 Ls) =
      up2 256 256 fun m s => prob K Q Ls 2 m (256 + s) := by
  simp only [kernelRun0_B.sl.r_69, kernelRun0_B.sl.v613, kernelRun0_B.sl.v615, k0_pay112, k0_pay113, B_HS0_8, B_r_57, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_70 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_70 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 2 m (256 + s) := by
  simp only [kernelRun0_B.sl.r_70, kernelRun0_B.sl.v613, kernelRun0_B.sl.v615, kernelRun0_B.sl.v618, kernelRun0_B.sl.v620, k0_pay112, k0_pay114, B_HS0_8, B_HS1_8, B_r_57, B_r_58, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_59 (c : Dev nD) (arg1 : Memref sig .tc .vmem S1024x256 .bf16) (harg1 : arg1.IsWhole) (Q : ℕ → ℕ → ℝ) :
    kernelRun0_B.sl.r_59 (F := Ideal) c arg1 harg1 (up2 1024 256 Q) =
      up2 256 128 fun s k => if 64 ≤ k then Q (256 + s) (128 + k) else 0 := by
  simp only [kernelRun0_B.sl.r_59, k0_pay101, harg1.read_unread, Nat.zero_add, ld_f32, ld_bf16, keep_low, keep_high, truncf_up2, extf_up2, constant_zero, cast_rows, readCov_ld, View.readAt_eq_ld]

theorem B_r_60 (c : Dev nD) (arg4 : Memref sig .tc .vmem S1024x256 .bf16) (harg4 : arg4.IsWhole) (D : ℕ → ℕ → ℝ) :
    kernelRun0_B.sl.r_60 (F := Ideal) c arg4 harg4 (up2 1024 256 D) =
      up2 256 128 fun s k => if 64 ≤ k then D (256 + s) (128 + k) else 0 := by
  simp only [kernelRun0_B.sl.r_60, k0_pay102, harg4.read_unread, Nat.zero_add, ld_f32, ld_bf16, keep_low, keep_high, truncf_up2, extf_up2, constant_zero, cast_rows, readCov_ld, View.readAt_eq_ld]

theorem B_r_61 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_61 (F := Ideal) c arg1 harg1 arg2 harg2 (up2 1024 256 Q) (up2 256 256 K) =
      up2 256 256 fun m s => dotHead K Q 3 m (256 + s) := by
  simp only [kernelRun0_B.sl.r_61, k0_pay101, k0_pay103, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_63 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_63 (F := Ideal) c arg3 harg3 arg4 harg4 (up2 256 256 V) (up2 1024 256 D) =
      up2 256 256 fun m s => dotHead V D 3 m (256 + s) := by
  simp only [kernelRun0_B.sl.cst_281, kernelRun0_B.sl.r_62, kernelRun0_B.sl.r_63, k0_pay104, B_r_60, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_71 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_71 (F := Ideal) c arg1 harg1 arg2 harg2 arg5 harg5 arg10 (up2 1024 256 Q) (up2 256 256 K) (up2 1024 128 Ls) =
      up2 256 256 fun m s => prob K Q Ls 3 m (256 + s) := by
  simp only [kernelRun0_B.sl.r_71, kernelRun0_B.sl.v631, kernelRun0_B.sl.v633, k0_pay115, k0_pay116, B_HS0_8, B_r_61, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_73 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_73 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 3 m (256 + s) := by
  simp only [kernelRun0_B.sl.r_72, kernelRun0_B.sl.r_73, kernelRun0_B.sl.v631, kernelRun0_B.sl.v633, kernelRun0_B.sl.v636, kernelRun0_B.sl.v638, k0_pay115, k0_pay117, k0_pay118, B_HS0_8, B_HS1_8, B_r_61, B_r_63, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_77 (c : Dev nD) (arg1 : Memref sig .tc .vmem S1024x256 .bf16) (harg1 : arg1.IsWhole) (Q : ℕ → ℕ → ℝ) :
    kernelRun0_B.sl.r_77 (F := Ideal) c arg1 harg1 (up2 1024 256 Q) =
      up2 256 128 fun s k => if k < 64 then Q (512 + s) (k) else 0 := by
  simp only [kernelRun0_B.sl.r_77, k0_pay125, harg1.read_unread, Nat.zero_add, ld_f32, ld_bf16, keep_low, keep_high, truncf_up2, extf_up2, constant_zero, cast_rows, readCov_ld, View.readAt_eq_ld]

theorem B_r_78 (c : Dev nD) (arg4 : Memref sig .tc .vmem S1024x256 .bf16) (harg4 : arg4.IsWhole) (D : ℕ → ℕ → ℝ) :
    kernelRun0_B.sl.r_78 (F := Ideal) c arg4 harg4 (up2 1024 256 D) =
      up2 256 128 fun s k => if k < 64 then D (512 + s) (k) else 0 := by
  simp only [kernelRun0_B.sl.r_78, k0_pay126, harg4.read_unread, Nat.zero_add, ld_f32, ld_bf16, keep_low, keep_high, truncf_up2, extf_up2, constant_zero, cast_rows, readCov_ld, View.readAt_eq_ld]

theorem B_r_79 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_79 (F := Ideal) c arg1 harg1 arg2 harg2 (up2 1024 256 Q) (up2 256 256 K) =
      up2 256 256 fun m s => dotHead K Q 0 m (512 + s) := by
  simp only [kernelRun0_B.sl.r_79, k0_pay125, k0_pay127, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_80 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_80 (F := Ideal) c arg3 harg3 arg4 harg4 (up2 256 256 V) (up2 1024 256 D) =
      up2 256 256 fun m s => dotHead V D 0 m (512 + s) := by
  simp only [kernelRun0_B.sl.r_80, k0_pay126, k0_pay128, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_94 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_94 (F := Ideal) c arg1 harg1 arg2 harg2 arg5 harg5 arg10 (up2 1024 256 Q) (up2 256 256 K) (up2 1024 128 Ls) =
      up2 256 256 fun m s => prob K Q Ls 0 m (512 + s) := by
  simp only [kernelRun0_B.sl.r_93, kernelRun0_B.sl.r_94, kernelRun0_B.sl.v737, kernelRun0_B.sl.v739, k0_pay141, k0_pay142, k0_pay143, B_HS0_8, B_r_79, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_95 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_95 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 0 m (512 + s) := by
  simp only [kernelRun0_B.sl.r_93, kernelRun0_B.sl.r_95, kernelRun0_B.sl.v737, kernelRun0_B.sl.v739, kernelRun0_B.sl.v742, kernelRun0_B.sl.v744, k0_pay141, k0_pay142, k0_pay144, B_HS0_8, B_HS1_8, B_r_79, B_r_80, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_81 (c : Dev nD) (arg1 : Memref sig .tc .vmem S1024x256 .bf16) (harg1 : arg1.IsWhole) (Q : ℕ → ℕ → ℝ) :
    kernelRun0_B.sl.r_81 (F := Ideal) c arg1 harg1 (up2 1024 256 Q) =
      up2 256 128 fun s k => if 64 ≤ k then Q (512 + s) (k) else 0 := by
  simp only [kernelRun0_B.sl.cst_120, kernelRun0_B.sl.r_75, kernelRun0_B.sl.r_81, k0_pay129, harg1.read_unread, Nat.zero_add, ld_f32, ld_bf16, keep_low, keep_high, truncf_up2, extf_up2, constant_zero, cast_rows, readCov_ld, View.readAt_eq_ld]

theorem B_r_82 (c : Dev nD) (arg4 : Memref sig .tc .vmem S1024x256 .bf16) (harg4 : arg4.IsWhole) (D : ℕ → ℕ → ℝ) :
    kernelRun0_B.sl.r_82 (F := Ideal) c arg4 harg4 (up2 1024 256 D) =
      up2 256 128 fun s k => if 64 ≤ k then D (512 + s) (k) else 0 := by
  simp only [kernelRun0_B.sl.r_76, kernelRun0_B.sl.r_82, k0_pay130, harg4.read_unread, Nat.zero_add, ld_f32, ld_bf16, keep_low, keep_high, truncf_up2, extf_up2, constant_zero, cast_rows, readCov_ld, View.readAt_eq_ld]

theorem B_r_83 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_83 (F := Ideal) c arg1 harg1 arg2 harg2 (up2 1024 256 Q) (up2 256 256 K) =
      up2 256 256 fun m s => dotHead K Q 1 m (512 + s) := by
  simp only [kernelRun0_B.sl.cst_120, kernelRun0_B.sl.r_75, kernelRun0_B.sl.r_83, k0_pay129, k0_pay131, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_84 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_84 (F := Ideal) c arg3 harg3 arg4 harg4 (up2 256 256 V) (up2 1024 256 D) =
      up2 256 256 fun m s => dotHead V D 1 m (512 + s) := by
  simp only [kernelRun0_B.sl.r_76, kernelRun0_B.sl.r_84, k0_pay130, k0_pay132, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_96 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_96 (F := Ideal) c arg1 harg1 arg2 harg2 arg5 harg5 arg10 (up2 1024 256 Q) (up2 256 256 K) (up2 1024 128 Ls) =
      up2 256 256 fun m s => prob K Q Ls 1 m (512 + s) := by
  simp only [kernelRun0_B.sl.r_96, kernelRun0_B.sl.v755, kernelRun0_B.sl.v757, k0_pay145, k0_pay146, B_HS0_8, B_r_83, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_97 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_97 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 1 m (512 + s) := by
  simp only [kernelRun0_B.sl.r_97, kernelRun0_B.sl.v755, kernelRun0_B.sl.v757, kernelRun0_B.sl.v760, kernelRun0_B.sl.v762, k0_pay145, k0_pay147, B_HS0_8, B_HS1_8, B_r_83, B_r_84, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_85 (c : Dev nD) (arg1 : Memref sig .tc .vmem S1024x256 .bf16) (harg1 : arg1.IsWhole) (Q : ℕ → ℕ → ℝ) :
    kernelRun0_B.sl.r_85 (F := Ideal) c arg1 harg1 (up2 1024 256 Q) =
      up2 256 128 fun s k => if k < 64 then Q (512 + s) (128 + k) else 0 := by
  simp only [kernelRun0_B.sl.r_85, k0_pay133, harg1.read_unread, Nat.zero_add, ld_f32, ld_bf16, keep_low, keep_high, truncf_up2, extf_up2, constant_zero, cast_rows, readCov_ld, View.readAt_eq_ld]

theorem B_r_86 (c : Dev nD) (arg4 : Memref sig .tc .vmem S1024x256 .bf16) (harg4 : arg4.IsWhole) (D : ℕ → ℕ → ℝ) :
    kernelRun0_B.sl.r_86 (F := Ideal) c arg4 harg4 (up2 1024 256 D) =
      up2 256 128 fun s k => if k < 64 then D (512 + s) (128 + k) else 0 := by
  simp only [kernelRun0_B.sl.r_86, k0_pay134, harg4.read_unread, Nat.zero_add, ld_f32, ld_bf16, keep_low, keep_high, truncf_up2, extf_up2, constant_zero, cast_rows, readCov_ld, View.readAt_eq_ld]

theorem B_r_87 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_87 (F := Ideal) c arg1 harg1 arg2 harg2 (up2 1024 256 Q) (up2 256 256 K) =
      up2 256 256 fun m s => dotHead K Q 2 m (512 + s) := by
  simp only [kernelRun0_B.sl.r_87, k0_pay133, k0_pay135, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_88 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_88 (F := Ideal) c arg3 harg3 arg4 harg4 (up2 256 256 V) (up2 1024 256 D) =
      up2 256 256 fun m s => dotHead V D 2 m (512 + s) := by
  simp only [kernelRun0_B.sl.r_88, k0_pay134, k0_pay136, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_99 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_99 (F := Ideal) c arg1 harg1 arg2 harg2 arg5 harg5 arg10 (up2 1024 256 Q) (up2 256 256 K) (up2 1024 128 Ls) =
      up2 256 256 fun m s => prob K Q Ls 2 m (512 + s) := by
  simp only [kernelRun0_B.sl.r_98, kernelRun0_B.sl.r_99, kernelRun0_B.sl.v773, kernelRun0_B.sl.v775, k0_pay148, k0_pay149, k0_pay150, B_HS0_8, B_r_87, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_100 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_100 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 2 m (512 + s) := by
  simp only [kernelRun0_B.sl.r_100, kernelRun0_B.sl.r_98, kernelRun0_B.sl.v773, kernelRun0_B.sl.v775, kernelRun0_B.sl.v778, kernelRun0_B.sl.v780, k0_pay148, k0_pay149, k0_pay151, B_HS0_8, B_HS1_8, B_r_87, B_r_88, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_89 (c : Dev nD) (arg1 : Memref sig .tc .vmem S1024x256 .bf16) (harg1 : arg1.IsWhole) (Q : ℕ → ℕ → ℝ) :
    kernelRun0_B.sl.r_89 (F := Ideal) c arg1 harg1 (up2 1024 256 Q) =
      up2 256 128 fun s k => if 64 ≤ k then Q (512 + s) (128 + k) else 0 := by
  simp only [kernelRun0_B.sl.r_89, k0_pay137, harg1.read_unread, Nat.zero_add, ld_f32, ld_bf16, keep_low, keep_high, truncf_up2, extf_up2, constant_zero, cast_rows, readCov_ld, View.readAt_eq_ld]

theorem B_r_90 (c : Dev nD) (arg4 : Memref sig .tc .vmem S1024x256 .bf16) (harg4 : arg4.IsWhole) (D : ℕ → ℕ → ℝ) :
    kernelRun0_B.sl.r_90 (F := Ideal) c arg4 harg4 (up2 1024 256 D) =
      up2 256 128 fun s k => if 64 ≤ k then D (512 + s) (128 + k) else 0 := by
  simp only [kernelRun0_B.sl.r_90, k0_pay138, harg4.read_unread, Nat.zero_add, ld_f32, ld_bf16, keep_low, keep_high, truncf_up2, extf_up2, constant_zero, cast_rows, readCov_ld, View.readAt_eq_ld]

theorem B_r_91 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_91 (F := Ideal) c arg1 harg1 arg2 harg2 (up2 1024 256 Q) (up2 256 256 K) =
      up2 256 256 fun m s => dotHead K Q 3 m (512 + s) := by
  simp only [kernelRun0_B.sl.r_91, k0_pay137, k0_pay139, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_92 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_92 (F := Ideal) c arg3 harg3 arg4 harg4 (up2 256 256 V) (up2 1024 256 D) =
      up2 256 256 fun m s => dotHead V D 3 m (512 + s) := by
  simp only [kernelRun0_B.sl.r_92, k0_pay138, k0_pay140, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_101 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_101 (F := Ideal) c arg1 harg1 arg2 harg2 arg5 harg5 arg10 (up2 1024 256 Q) (up2 256 256 K) (up2 1024 128 Ls) =
      up2 256 256 fun m s => prob K Q Ls 3 m (512 + s) := by
  simp only [kernelRun0_B.sl.r_101, kernelRun0_B.sl.v791, kernelRun0_B.sl.v793, k0_pay152, k0_pay153, B_HS0_8, B_r_91, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_102 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_102 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 3 m (512 + s) := by
  simp only [kernelRun0_B.sl.r_102, kernelRun0_B.sl.v791, kernelRun0_B.sl.v793, kernelRun0_B.sl.v796, kernelRun0_B.sl.v798, k0_pay152, k0_pay154, B_HS0_8, B_HS1_8, B_r_91, B_r_92, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_109 (c : Dev nD) (arg1 : Memref sig .tc .vmem S1024x256 .bf16) (harg1 : arg1.IsWhole) (Q : ℕ → ℕ → ℝ) :
    kernelRun0_B.sl.r_109 (F := Ideal) c arg1 harg1 (up2 1024 256 Q) =
      up2 256 128 fun s k => if k < 64 then Q (768 + s) (k) else 0 := by
  simp only [kernelRun0_B.sl.r_109, k0_pay167, harg1.read_unread, Nat.zero_add, ld_f32, ld_bf16, keep_low, keep_high, truncf_up2, extf_up2, constant_zero, cast_rows, readCov_ld, View.readAt_eq_ld]

theorem B_r_110 (c : Dev nD) (arg4 : Memref sig .tc .vmem S1024x256 .bf16) (harg4 : arg4.IsWhole) (D : ℕ → ℕ → ℝ) :
    kernelRun0_B.sl.r_110 (F := Ideal) c arg4 harg4 (up2 1024 256 D) =
      up2 256 128 fun s k => if k < 64 then D (768 + s) (k) else 0 := by
  simp only [kernelRun0_B.sl.r_110, k0_pay168, harg4.read_unread, Nat.zero_add, ld_f32, ld_bf16, keep_low, keep_high, truncf_up2, extf_up2, constant_zero, cast_rows, readCov_ld, View.readAt_eq_ld]

theorem B_r_111 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_111 (F := Ideal) c arg1 harg1 arg2 harg2 (up2 1024 256 Q) (up2 256 256 K) =
      up2 256 256 fun m s => dotHead K Q 0 m (768 + s) := by
  simp only [kernelRun0_B.sl.r_111, k0_pay167, k0_pay169, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_112 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_112 (F := Ideal) c arg3 harg3 arg4 harg4 (up2 256 256 V) (up2 1024 256 D) =
      up2 256 256 fun m s => dotHead V D 0 m (768 + s) := by
  simp only [kernelRun0_B.sl.r_112, k0_pay168, k0_pay170, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_126 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_126 (F := Ideal) c arg1 harg1 arg2 harg2 arg5 harg5 arg10 (up2 1024 256 Q) (up2 256 256 K) (up2 1024 128 Ls) =
      up2 256 256 fun m s => prob K Q Ls 0 m (768 + s) := by
  simp only [kernelRun0_B.sl.r_125, kernelRun0_B.sl.r_126, kernelRun0_B.sl.v897, kernelRun0_B.sl.v899, k0_pay183, k0_pay184, k0_pay185, B_HS0_8, B_r_111, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_127 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_127 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 0 m (768 + s) := by
  simp only [kernelRun0_B.sl.r_125, kernelRun0_B.sl.r_127, kernelRun0_B.sl.v897, kernelRun0_B.sl.v899, kernelRun0_B.sl.v902, kernelRun0_B.sl.v904, k0_pay183, k0_pay184, k0_pay186, B_HS0_8, B_HS1_8, B_r_111, B_r_112, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_113 (c : Dev nD) (arg1 : Memref sig .tc .vmem S1024x256 .bf16) (harg1 : arg1.IsWhole) (Q : ℕ → ℕ → ℝ) :
    kernelRun0_B.sl.r_113 (F := Ideal) c arg1 harg1 (up2 1024 256 Q) =
      up2 256 128 fun s k => if 64 ≤ k then Q (768 + s) (k) else 0 := by
  simp only [kernelRun0_B.sl.r_113, k0_pay171, harg1.read_unread, Nat.zero_add, ld_f32, ld_bf16, keep_low, keep_high, truncf_up2, extf_up2, constant_zero, cast_rows, readCov_ld, View.readAt_eq_ld]

theorem B_r_114 (c : Dev nD) (arg4 : Memref sig .tc .vmem S1024x256 .bf16) (harg4 : arg4.IsWhole) (D : ℕ → ℕ → ℝ) :
    kernelRun0_B.sl.r_114 (F := Ideal) c arg4 harg4 (up2 1024 256 D) =
      up2 256 128 fun s k => if 64 ≤ k then D (768 + s) (k) else 0 := by
  simp only [kernelRun0_B.sl.r_114, k0_pay172, harg4.read_unread, Nat.zero_add, ld_f32, ld_bf16, keep_low, keep_high, truncf_up2, extf_up2, constant_zero, cast_rows, readCov_ld, View.readAt_eq_ld]

theorem B_r_115 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_115 (F := Ideal) c arg1 harg1 arg2 harg2 (up2 1024 256 Q) (up2 256 256 K) =
      up2 256 256 fun m s => dotHead K Q 1 m (768 + s) := by
  simp only [kernelRun0_B.sl.r_115, kernelRun0_B.sl.r_48, k0_pay173, B_r_113, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_116 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_116 (F := Ideal) c arg3 harg3 arg4 harg4 (up2 256 256 V) (up2 1024 256 D) =
      up2 256 256 fun m s => dotHead V D 1 m (768 + s) := by
  simp only [kernelRun0_B.sl.r_116, k0_pay174, B_r_114, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_128 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_128 (F := Ideal) c arg1 harg1 arg2 harg2 arg5 harg5 arg10 (up2 1024 256 Q) (up2 256 256 K) (up2 1024 128 Ls) =
      up2 256 256 fun m s => prob K Q Ls 1 m (768 + s) := by
  simp only [kernelRun0_B.sl.r_128, kernelRun0_B.sl.v915, kernelRun0_B.sl.v917, k0_pay187, k0_pay188, B_HS0_8, B_r_115, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_129 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_129 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 1 m (768 + s) := by
  simp only [kernelRun0_B.sl.r_129, kernelRun0_B.sl.v915, kernelRun0_B.sl.v917, kernelRun0_B.sl.v920, kernelRun0_B.sl.v922, k0_pay187, k0_pay189, B_HS0_8, B_HS1_8, B_r_115, B_r_116, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_117 (c : Dev nD) (arg1 : Memref sig .tc .vmem S1024x256 .bf16) (harg1 : arg1.IsWhole) (Q : ℕ → ℕ → ℝ) :
    kernelRun0_B.sl.r_117 (F := Ideal) c arg1 harg1 (up2 1024 256 Q) =
      up2 256 128 fun s k => if k < 64 then Q (768 + s) (128 + k) else 0 := by
  simp only [kernelRun0_B.sl.r_117, k0_pay175, harg1.read_unread, Nat.zero_add, ld_f32, ld_bf16, keep_low, keep_high, truncf_up2, extf_up2, constant_zero, cast_rows, readCov_ld, View.readAt_eq_ld]

theorem B_r_118 (c : Dev nD) (arg4 : Memref sig .tc .vmem S1024x256 .bf16) (harg4 : arg4.IsWhole) (D : ℕ → ℕ → ℝ) :
    kernelRun0_B.sl.r_118 (F := Ideal) c arg4 harg4 (up2 1024 256 D) =
      up2 256 128 fun s k => if k < 64 then D (768 + s) (128 + k) else 0 := by
  simp only [kernelRun0_B.sl.r_118, k0_pay176, harg4.read_unread, Nat.zero_add, ld_f32, ld_bf16, keep_low, keep_high, truncf_up2, extf_up2, constant_zero, cast_rows, readCov_ld, View.readAt_eq_ld]

theorem B_r_119 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_119 (F := Ideal) c arg1 harg1 arg2 harg2 (up2 1024 256 Q) (up2 256 256 K) =
      up2 256 256 fun m s => dotHead K Q 2 m (768 + s) := by
  simp only [kernelRun0_B.sl.r_119, k0_pay175, k0_pay177, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_120 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_120 (F := Ideal) c arg3 harg3 arg4 harg4 (up2 256 256 V) (up2 1024 256 D) =
      up2 256 256 fun m s => dotHead V D 2 m (768 + s) := by
  simp only [kernelRun0_B.sl.r_120, k0_pay176, k0_pay178, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_131 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_131 (F := Ideal) c arg1 harg1 arg2 harg2 arg5 harg5 arg10 (up2 1024 256 Q) (up2 256 256 K) (up2 1024 128 Ls) =
      up2 256 256 fun m s => prob K Q Ls 2 m (768 + s) := by
  simp only [kernelRun0_B.sl.r_130, kernelRun0_B.sl.r_131, kernelRun0_B.sl.v933, kernelRun0_B.sl.v935, k0_pay190, k0_pay191, k0_pay192, B_HS0_8, B_r_119, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_132 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_132 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 2 m (768 + s) := by
  simp only [kernelRun0_B.sl.r_130, kernelRun0_B.sl.r_132, kernelRun0_B.sl.v933, kernelRun0_B.sl.v935, kernelRun0_B.sl.v938, kernelRun0_B.sl.v940, k0_pay190, k0_pay191, k0_pay193, B_HS0_8, B_HS1_8, B_r_119, B_r_120, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_121 (c : Dev nD) (arg1 : Memref sig .tc .vmem S1024x256 .bf16) (harg1 : arg1.IsWhole) (Q : ℕ → ℕ → ℝ) :
    kernelRun0_B.sl.r_121 (F := Ideal) c arg1 harg1 (up2 1024 256 Q) =
      up2 256 128 fun s k => if 64 ≤ k then Q (768 + s) (128 + k) else 0 := by
  simp only [kernelRun0_B.sl.r_121, k0_pay179, harg1.read_unread, Nat.zero_add, ld_f32, ld_bf16, keep_low, keep_high, truncf_up2, extf_up2, constant_zero, cast_rows, readCov_ld, View.readAt_eq_ld]

theorem B_r_122 (c : Dev nD) (arg4 : Memref sig .tc .vmem S1024x256 .bf16) (harg4 : arg4.IsWhole) (D : ℕ → ℕ → ℝ) :
    kernelRun0_B.sl.r_122 (F := Ideal) c arg4 harg4 (up2 1024 256 D) =
      up2 256 128 fun s k => if 64 ≤ k then D (768 + s) (128 + k) else 0 := by
  simp only [kernelRun0_B.sl.r_122, k0_pay180, harg4.read_unread, Nat.zero_add, ld_f32, ld_bf16, keep_low, keep_high, truncf_up2, extf_up2, constant_zero, cast_rows, readCov_ld, View.readAt_eq_ld]

theorem B_r_123 (c : Dev nD) (arg1 : Memref sig .tc .vmem S1024x256 .bf16) (harg1 : arg1.IsWhole) (arg2 : Memref sig .tc .vmem S256x256 .bf16) (harg2 : arg2.IsWhole) (Q K : ℕ → ℕ → ℝ) :
    kernelRun0_B.sl.r_123 (F := Ideal) c arg1 harg1 arg2 harg2 (up2 1024 256 Q) (up2 256 256 K) =
      up2 256 256 fun m s => dotHead K Q 3 m (768 + s) := by
  simp only [kernelRun0_B.sl.r_123, k0_pay179, k0_pay181, harg1.read_unread, harg2.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_124 (c : Dev nD) (arg3 : Memref sig .tc .vmem S256x256 .bf16) (harg3 : arg3.IsWhole) (arg4 : Memref sig .tc .vmem S1024x256 .bf16) (harg4 : arg4.IsWhole) (V D : ℕ → ℕ → ℝ) :
    kernelRun0_B.sl.r_124 (F := Ideal) c arg3 harg3 arg4 harg4 (up2 256 256 V) (up2 1024 256 D) =
      up2 256 256 fun m s => dotHead V D 3 m (768 + s) := by
  simp only [kernelRun0_B.sl.r_124, k0_pay180, k0_pay182, harg3.read_unread, harg4.read_unread, matmul_transposed, ld_bf16, ld_f32, ld_bf16, keep_low, keep_high, truncf_up2, extf_up2, constant_zero, cast_rows, readCov_ld, View.readAt_eq_ld]
  refine up2_congr fun m _ s _ => ?_
  simp only [dot_low, dot_high, dotHead, Nat.zero_add, Nat.mul_zero, Nat.reduceMul, Nat.reduceAdd, Nat.add_zero, ← Nat.add_assoc]

theorem B_r_133 (c : Dev nD) (arg1 : Memref sig .tc .vmem S1024x256 .bf16) (harg1 : arg1.IsWhole) (arg2 : Memref sig .tc .vmem S256x256 .bf16) (harg2 : arg2.IsWhole) (arg5 : Memref sig .tc .vmem S1024x128 .f32) (harg5 : arg5.IsWhole) (arg10 : Memref sig .tc .vmem S8x8x128 .f32) (Q K Ls : ℕ → ℕ → ℝ) :
    kernelRun0_B.sl.r_133 (F := Ideal) c arg1 harg1 arg2 harg2 arg5 harg5 arg10 (up2 1024 256 Q) (up2 256 256 K) (up2 1024 128 Ls) =
      up2 256 256 fun m s => prob K Q Ls 3 m (768 + s) := by
  simp only [kernelRun0_B.sl.r_133, kernelRun0_B.sl.v951, kernelRun0_B.sl.v953, k0_pay194, k0_pay195, B_HS0_8, B_r_123, harg1.read_unread, harg2.read_unread, harg5.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_r_134 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (Q K V D Ls Dl : ℕ → ℕ → ℝ) :
    kernelRun0_B.sl.r_134 (F := Ideal) c arg1 harg1 arg2 harg2 arg3 harg3 arg4 harg4 arg5 harg5 arg6 harg6 arg10 arg11 (up2 1024 256 Q) (up2 256 256 K) (up2 256 256 V) (up2 1024 256 D) (up2 1024 128 Ls) (up2 1024 128 Dl) =
      up2 256 256 fun m s => dscore K Q V D Ls Dl 3 m (768 + s) := by
  simp only [kernelRun0_B.sl.r_134, kernelRun0_B.sl.v951, kernelRun0_B.sl.v953, kernelRun0_B.sl.v956, kernelRun0_B.sl.v958, k0_pay194, k0_pay196, B_HS0_8, B_HS1_8, B_r_123, B_r_124, harg1.read_unread, harg2.read_unread, harg3.read_unread, harg4.read_unread, harg5.read_unread, harg6.read_unread, subf_up2, mulf_up2, exp_up2, cast_row, broadcast_row, join_row, concat_row, ld3_f32, truncf_up2, extf_up2, constant_zero, cast_rows, readCov_ld, View.readAt_eq_ld]
  refine up2_congr fun m _ s _ => ?_
  rcases Nat.lt_or_ge s 128 with h | h
  · simp only [if_pos h, prob, dscore, Nat.zero_add, Nat.mul_zero, Nat.reduceMul, Nat.reduceAdd, Nat.add_zero, ← Nat.add_assoc]
  · obtain ⟨t, rfl⟩ := Nat.exists_eq_add_of_le h
    simp only [if_neg (Nat.not_lt.2 h), Nat.add_sub_cancel_left, prob, dscore, Nat.zero_add, Nat.mul_zero, Nat.reduceMul, Nat.reduceAdd, Nat.add_zero, ← Nat.add_assoc]

theorem B_H8_2 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (harg9 : arg9.IsWhole) (arg10 : Memref sig .tc .vmem S8x8x128 .f32) (Q K D Ls P8 : ℕ → ℕ → ℝ) :
    View.canon (kernelRun0_B.sl.H8_2 (F := Ideal) c arg1 harg1 arg2 harg2 arg4 harg4 arg5 harg5 arg9 harg9 arg10 (up2 1024 256 Q) (up2 256 256 K) (up2 1024 256 D) (up2 1024 128 Ls) (up2 256 256 P8)) =
      up2 256 256 fun m l => P8 m l + acc (prob K Q Ls) D 2 m l := by
  simp only [kernelRun0_B.sl.H8_2, kernelRun0_B.sl.v515, k0_pay83, k0_pay86, B_r_15, B_r_19, B_r_23, B_r_27, B_r_30, B_r_35, B_r_37, B_r_42, harg1.read_unread, harg2.read_unread, harg4.read_unread, harg5.read_unread, harg9.read_unread, addf_up2, matmul_two, join_lanes, join_rows, ld_f32, truncf_up2, extf_up2, constant_zero, cast_rows, readCov_ld, View.readAt_eq_ld, canon_pair]
  refine up2_congr fun m _ l hl => ?_
  refine Eq.trans ?_ (acc_right (prob K Q Ls) D (P8 m l) 0 m l)
  by_cases h : 128 ≤ l
  · obtain ⟨t, rfl⟩ := Nat.exists_eq_add_of_le h
    have ht : t < 128 := by omega
    have e := halves_sum ht (fun h s => prob K Q Ls h m s) (fun s => D s (128 + t)) 1
    simp only [if_pos h, Nat.add_sub_cancel_left, head_shift, acc_one_high _ _ _ _ h, add_zero, Nat.zero_add, Nat.mul_zero, Nat.reduceMul, Nat.reduceAdd, Nat.add_zero, ← Nat.add_assoc] at e ⊢
    rw [e]
  · have h' : l < 128 := by omega
    have e := halves_sum h' (fun h s => prob K Q Ls h m s) (fun s => D s l) 0
    simp only [if_neg h, acc_one_low _ _ _ _ h', Nat.zero_add, Nat.mul_zero, Nat.reduceMul, Nat.reduceAdd, Nat.add_zero, ← Nat.add_assoc] at e ⊢
    rw [e]

theorem B_H8_3 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (harg9 : arg9.IsWhole) (arg10 : Memref sig .tc .vmem S8x8x128 .f32) (Q K D Ls P8 : ℕ → ℕ → ℝ) :
    View.canon (kernelRun0_B.sl.H8_3 (F := Ideal) c arg1 harg1 arg2 harg2 arg4 harg4 arg5 harg5 arg9 harg9 arg10 (up2 1024 256 Q) (up2 256 256 K) (up2 1024 256 D) (up2 1024 128 Ls) (up2 256 256 P8)) =
      up2 256 256 fun m l => P8 m l + acc (prob K Q Ls) D 3 m l := by
  simp only [kernelRun0_B.sl.H8_3, kernelRun0_B.sl.v649, k0_pay119, B_H8_2, B_r_47, B_r_52, B_r_64, B_r_66, harg1.read_unread, harg2.read_unread, harg4.read_unread, harg5.read_unread, harg9.read_unread, addf_up2, matmul_two, join_lanes, join_rows, ld_f32, truncf_up2, extf_up2, constant_zero, cast_rows, readCov_ld, View.readAt_eq_ld]
  rw [canon_left _ (B_H8_2 c arg1 harg1 arg2 harg2 arg4 harg4 arg5 harg5 arg9 harg9 arg10 Q K D Ls P8)]
  refine up2_congr fun m _ l hl => ?_
  refine Eq.trans ?_ (acc_left (prob K Q Ls) D (P8 m l) 1 m l)
  by_cases h : l < 128
  · have e := halves_sum h (fun h s => prob K Q Ls h m (256 + s)) (fun s => D (256 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_H8_4 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (harg9 : arg9.IsWhole) (arg10 : Memref sig .tc .vmem S8x8x128 .f32) (Q K D Ls P8 : ℕ → ℕ → ℝ) :
    View.canon (kernelRun0_B.sl.H8_4 (F := Ideal) c arg1 harg1 arg2 harg2 arg4 harg4 arg5 harg5 arg9 harg9 arg10 (up2 1024 256 Q) (up2 256 256 K) (up2 1024 256 D) (up2 1024 128 Ls) (up2 256 256 P8)) =
      up2 256 256 fun m l => P8 m l + acc (prob K Q Ls) D 4 m l := by
  simp only [kernelRun0_B.sl.H8_4, kernelRun0_B.sl.r_74, kernelRun0_B.sl.v675, k0_pay122, B_H8_3, B_r_56, B_r_60, B_r_69, B_r_71, harg1.read_unread, harg2.read_unread, harg4.read_unread, harg5.read_unread, harg9.read_unread, addf_up2, matmul_two, join_lanes, join_rows, ld_f32, truncf_up2, extf_up2, constant_zero, cast_rows, readCov_ld, View.readAt_eq_ld]
  rw [canon_right _ (B_H8_3 c arg1 harg1 arg2 harg2 arg4 harg4 arg5 harg5 arg9 harg9 arg10 Q K D Ls P8)]
  refine up2_congr fun m _ l hl => ?_
  refine Eq.trans ?_ (acc_right (prob K Q Ls) D (P8 m l) 1 m l)
  by_cases h : 128 ≤ l
  · obtain ⟨t, rfl⟩ := Nat.exists_eq_add_of_le h
    have ht : t < 128 := by omega
    have e := halves_sum ht (fun h s => prob K Q Ls h m (256 + s)) (fun s => D (256 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_H8_5 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (harg9 : arg9.IsWhole) (arg10 : Memref sig .tc .vmem S8x8x128 .f32) (Q K D Ls P8 : ℕ → ℕ → ℝ) :
    View.canon (kernelRun0_B.sl.H8_5 (F := Ideal) c arg1 harg1 arg2 harg2 arg4 harg4 arg5 harg5 arg9 harg9 arg10 (up2 1024 256 Q) (up2 256 256 K) (up2 1024 256 D) (up2 1024 128 Ls) (up2 256 256 P8)) =
      up2 256 256 fun m l => P8 m l + acc (prob K Q Ls) D 5 m l := by
  simp only [kernelRun0_B.sl.H8_5, kernelRun0_B.sl.cst_458, kernelRun0_B.sl.r_103, kernelRun0_B.sl.r_104, kernelRun0_B.sl.r_105, kernelRun0_B.sl.v809, k0_pay155, k0_pay156, k0_pay157, k0_pay158, B_H8_4, B_r_78, B_r_82, B_r_94, B_r_96, harg1.read_unread, harg2.read_unread, harg4.read_unread, harg5.read_unread, harg9.read_unread, addf_up2, matmul_two, join_lanes, join_rows, ld_f32, truncf_up2, extf_up2, constant_zero, cast_rows, readCov_ld, View.readAt_eq_ld]
  rw [canon_left _ (B_H8_4 c arg1 harg1 arg2 harg2 arg4 harg4 arg5 harg5 arg9 harg9 arg10 Q K D Ls P8)]
  refine up2_congr fun m _ l hl => ?_
  refine Eq.trans ?_ (acc_left (prob K Q Ls) D (P8 m l) 2 m l)
  by_cases h : l < 128
  · have e := halves_sum h (fun h s => prob K Q Ls h m (512 + s)) (fun s => D (512 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_H8_6 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (harg9 : arg9.IsWhole) (arg10 : Memref sig .tc .vmem S8x8x128 .f32) (Q K D Ls P8 : ℕ → ℕ → ℝ) :
    View.canon (kernelRun0_B.sl.H8_6 (F := Ideal) c arg1 harg1 arg2 harg2 arg4 harg4 arg5 harg5 arg9 harg9 arg10 (up2 1024 256 Q) (up2 256 256 K) (up2 1024 256 D) (up2 1024 128 Ls) (up2 256 256 P8)) =
      up2 256 256 fun m l => P8 m l + acc (prob K Q Ls) D 6 m l := by
  simp only [kernelRun0_B.sl.H8_6, kernelRun0_B.sl.v835, k0_pay161, B_H8_5, B_r_101, B_r_86, B_r_90, B_r_99, harg1.read_unread, harg2.read_unread, harg4.read_unread, harg5.read_unread, harg9.read_unread, addf_up2, matmul_two, join_lanes, join_rows, ld_f32, truncf_up2, extf_up2, constant_zero, cast_rows, readCov_ld, View.readAt_eq_ld]
  rw [canon_right _ (B_H8_5 c arg1 harg1 arg2 harg2 arg4 harg4 arg5 harg5 arg9 harg9 arg10 Q K D Ls P8)]
  refine up2_congr fun m _ l hl => ?_
  refine Eq.trans ?_ (acc_right (prob K Q Ls) D (P8 m l) 2 m l)
  by_cases h : 128 ≤ l
  · obtain ⟨t, rfl⟩ := Nat.exists_eq_add_of_le h
    have ht : t < 128 := by omega
    have e := halves_sum ht (fun h s => prob K Q Ls h m (512 + s)) (fun s => D (512 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_H8_7 (c : Dev nD) (arg1 : Memref sig .tc .vmem S1024x256 .bf16) (harg1 : arg1.IsWhole) (arg2 : Memref sig .tc .vmem S256x256 .bf16) (harg2 : arg2.IsWhole) (arg4 : Memref sig .tc .vmem S1024x256 .bf16) (harg4 : arg4.IsWhole) (arg5 : Memref sig .tc .vmem S1024x128 .f32) (harg5 : arg5.IsWhole) (arg9 : Memref sig .tc .vmem S256x256 .f32) (harg9 : arg9.IsWhole) (arg10 : Memref sig .tc .vmem S8x8x128 .f32) (Q K D Ls P8 : ℕ → ℕ → ℝ) :
    View.canon (kernelRun0_B.sl.H8_7 (F := Ideal) c arg1 harg1 arg2 harg2 arg4 harg4 arg5 harg5 arg9 harg9 arg10 (up2 1024 256 Q) (up2 256 256 K) (up2 1024 256 D) (up2 1024 128 Ls) (up2 256 256 P8)) =
      up2 256 256 fun m l => P8 m l + acc (prob K Q Ls) D 7 m l := by
  simp only [kernelRun0_B.sl.H8_7, kernelRun0_B.sl.v969, k0_pay197, B_H8_6, B_r_110, B_r_114, B_r_126, B_r_128, harg1.read_unread, harg2.read_unread, harg4.read_unread, harg5.read_unread, harg9.read_unread, addf_up2, matmul_two, join_lanes, join_rows, ld_f32, truncf_up2, extf_up2, constant_zero, cast_rows, readCov_ld, View.readAt_eq_ld]
  rw [canon_left _ (B_H8_6 c arg1 harg1 arg2 harg2 arg4 harg4 arg5 harg5 arg9 harg9 arg10 Q K D Ls P8)]
  refine up2_congr fun m _ l hl => ?_
  refine Eq.trans ?_ (acc_left (prob K Q Ls) D (P8 m l) 3 m l)
  by_cases h : l < 128
  · have e := halves_sum h (fun h s => prob K Q Ls h m (768 + s)) (fun s => D (768 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_H7_2 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (harg8 : arg8.IsWhole) (arg10 : Memref sig .tc .vmem S8x8x128 .f32) (arg11 : Memref sig .tc .vmem S8x8x128 .f32) (Q K V D Ls Dl P7 : ℕ → ℕ → ℝ) :
    View.canon (kernelRun0_B.sl.H7_2 (F := Ideal) c arg1 harg1 arg2 harg2 arg3 harg3 arg4 harg4 arg5 harg5 arg6 harg6 arg8 harg8 arg10 arg11 (up2 1024 256 Q) (up2 256 256 K) (up2 256 256 V) (up2 1024 256 D) (up2 1024 128 Ls) (up2 1024 128 Dl) (up2 256 256 P7)) =
      up2 256 256 fun m l => P7 m l + acc (dscore K Q V D Ls Dl) Q 2 m l := by
  simp only [kernelRun0_B.sl.H7_2, kernelRun0_B.sl.v522, k0_pay84, k0_pay87, B_r_14, B_r_18, B_r_22, B_r_26, B_r_31, B_r_36, B_r_38, B_r_43, harg1.read_unread, harg2.read_unread, harg3.read_unread, harg4.read_unread, harg5.read_unread, harg6.read_unread, harg8.read_unread, addf_up2, matmul_two, join_lanes, join_rows, ld_f32, truncf_up2, extf_up2, constant_zero, cast_rows, readCov_ld, View.readAt_eq_ld, canon_pair]
  refine up2_congr fun m _ l hl => ?_
  refine Eq.trans ?_ (acc_right (dscore K Q V D Ls Dl) Q (P7 m l) 0 m l)
  by_cases h : 128 ≤ l
  · obtain ⟨t, rfl⟩ := Nat.exists_eq_add_of_le h
    have ht : t < 128 := by omega
    have e := halves_sum ht (fun h s => dscore K Q V D Ls Dl h m s) (fun s => Q s (128 + t)) 1
    simp only [if_pos h, Nat.add_sub_cancel_left, head_shift, acc_one_high _ _ _ _ h, add_zero, Nat.zero_add, Nat.mul_zero, Nat.reduceMul, Nat.reduceAdd, Nat.add_zero, ← Nat.add_assoc] at e ⊢
    rw [e]
  · have h' : l < 128 := by omega
    have e := halves_sum h' (fun h s => dscore K Q V D Ls Dl h m s) (fun s => Q s l) 0
    simp only [if_neg h, acc_one_low _ _ _ _ h', Nat.zero_add, Nat.mul_zero, Nat.reduceMul, Nat.reduceAdd, Nat.add_zero, ← Nat.add_assoc] at e ⊢
    rw [e]

theorem B_H7_3 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (harg8 : arg8.IsWhole) (arg10 : Memref sig .tc .vmem S8x8x128 .f32) (arg11 : Memref sig .tc .vmem S8x8x128 .f32) (Q K V D Ls Dl P7 : ℕ → ℕ → ℝ) :
    View.canon (kernelRun0_B.sl.H7_3 (F := Ideal) c arg1 harg1 arg2 harg2 arg3 harg3 arg4 harg4 arg5 harg5 arg6 harg6 arg8 harg8 arg10 arg11 (up2 1024 256 Q) (up2 256 256 K) (up2 256 256 V) (up2 1024 256 D) (up2 1024 128 Ls) (up2 1024 128 Dl) (up2 256 256 P7)) =
      up2 256 256 fun m l => P7 m l + acc (dscore K Q V D Ls Dl) Q 3 m l := by
  simp only [kernelRun0_B.sl.H7_3, kernelRun0_B.sl.v656, k0_pay120, B_H7_2, B_r_46, B_r_51, B_r_65, B_r_68, harg1.read_unread, harg2.read_unread, harg3.read_unread, harg4.read_unread, harg5.read_unread, harg6.read_unread, harg8.read_unread, addf_up2, matmul_two, join_lanes, join_rows, ld_f32, truncf_up2, extf_up2, constant_zero, cast_rows, readCov_ld, View.readAt_eq_ld]
  rw [canon_left _ (B_H7_2 c arg1 harg1 arg2 harg2 arg3 harg3 arg4 harg4 arg5 harg5 arg6 harg6 arg8 harg8 arg10 arg11 Q K V D Ls Dl P7)]
  refine up2_congr fun m _ l hl => ?_
  refine Eq.trans ?_ (acc_left (dscore K Q V D Ls Dl) Q (P7 m l) 1 m l)
  by_cases h : l < 128
  · have e := halves_sum h (fun h s => dscore K Q V D Ls Dl h m (256 + s)) (fun s => Q (256 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_H7_4 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (harg8 : arg8.IsWhole) (arg10 : Memref sig .tc .vmem S8x8x128 .f32) (arg11 : Memref sig .tc .vmem S8x8x128 .f32) (Q K V D Ls Dl P7 : ℕ → ℕ → ℝ) :
    View.canon (kernelRun0_B.sl.H7_4 (F := Ideal) c arg1 harg1 arg2 harg2 arg3 harg3 arg4 harg4 arg5 harg5 arg6 harg6 arg8 harg8 arg10 arg11 (up2 1024 256 Q) (up2 256 256 K) (up2 256 256 V) (up2 1024 256 D) (up2 1024 128 Ls) (up2 1024 128 Dl) (up2 256 256 P7)) =
      up2 256 256 fun m l => P7 m l + acc (dscore K Q V D Ls Dl) Q 4 m l := by
  simp only [kernelRun0_B.sl.H7_4, kernelRun0_B.sl.v682, k0_pay123, B_H7_3, B_r_55, B_r_59, B_r_70, B_r_73, harg1.read_unread, harg2.read_unread, harg3.read_unread, harg4.read_unread, harg5.read_unread, harg6.read_unread, harg8.read_unread, addf_up2, matmul_two, join_lanes, join_rows, ld_f32, truncf_up2, extf_up2, constant_zero, cast_rows, readCov_ld, View.readAt_eq_ld]
  rw [canon_right _ (B_H7_3 c arg1 harg1 arg2 harg2 arg3 harg3 arg4 harg4 arg5 harg5 arg6 harg6 arg8 harg8 arg10 arg11 Q K V D Ls Dl P7)]
  refine up2_congr fun m _ l hl => ?_
  refine Eq.trans ?_ (acc_right (dscore K Q V D Ls Dl) Q (P7 m l) 1 m l)
  by_cases h : 128 ≤ l
  · obtain ⟨t, rfl⟩ := Nat.exists_eq_add_of_le h
    have ht : t < 128 := by omega
    have e := halves_sum ht (fun h s => dscore K Q V D Ls Dl h m (256 + s)) (fun s => Q (256 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_H7_5 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (harg8 : arg8.IsWhole) (arg10 : Memref sig .tc .vmem S8x8x128 .f32) (arg11 : Memref sig .tc .vmem S8x8x128 .f32) (Q K V D Ls Dl P7 : ℕ → ℕ → ℝ) :
    View.canon (kernelRun0_B.sl.H7_5 (F := Ideal) c arg1 harg1 arg2 harg2 arg3 harg3 arg4 harg4 arg5 harg5 arg6 harg6 arg8 harg8 arg10 arg11 (up2 1024 256 Q) (up2 256 256 K) (up2 256 256 V) (up2 1024 256 D) (up2 1024 128 Ls) (up2 1024 128 Dl) (up2 256 256 P7)) =
      up2 256 256 fun m l => P7 m l + acc (dscore K Q V D Ls Dl) Q 5 m l := by
  simp only [kernelRun0_B.sl.H7_5, kernelRun0_B.sl.v816, k0_pay159, B_H7_4, B_r_77, B_r_81, B_r_95, B_r_97, harg1.read_unread, harg2.read_unread, harg3.read_unread, harg4.read_unread, harg5.read_unread, harg6.read_unread, harg8.read_unread, addf_up2, matmul_two, join_lanes, join_rows, ld_f32, truncf_up2, extf_up2, constant_zero, cast_rows, readCov_ld, View.readAt_eq_ld]
  rw [canon_left _ (B_H7_4 c arg1 harg1 arg2 harg2 arg3 harg3 arg4 harg4 arg5 harg5 arg6 harg6 arg8 harg8 arg10 arg11 Q K V D Ls Dl P7)]
  refine up2_congr fun m _ l hl => ?_
  refine Eq.trans ?_ (acc_left (dscore K Q V D Ls Dl) Q (P7 m l) 2 m l)
  by_cases h : l < 128
  · have e := halves_sum h (fun h s => dscore K Q V D Ls Dl h m (512 + s)) (fun s => Q (512 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_H7_6 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (harg8 : arg8.IsWhole) (arg10 : Memref sig .tc .vmem S8x8x128 .f32) (arg11 : Memref sig .tc .vmem S8x8x128 .f32) (Q K V D Ls Dl P7 : ℕ → ℕ → ℝ) :
    View.canon (kernelRun0_B.sl.H7_6 (F := Ideal) c arg1 harg1 arg2 harg2 arg3 harg3 arg4 harg4 arg5 harg5 arg6 harg6 arg8 harg8 arg10 arg11 (up2 1024 256 Q) (up2 256 256 K) (up2 256 256 V) (up2 1024 256 D) (up2 1024 128 Ls) (up2 1024 128 Dl) (up2 256 256 P7)) =
      up2 256 256 fun m l => P7 m l + acc (dscore K Q V D Ls Dl) Q 6 m l := by
  simp only [kernelRun0_B.sl.H7_6, kernelRun0_B.sl.r_106, kernelRun0_B.sl.r_107, kernelRun0_B.sl.r_108, kernelRun0_B.sl.v842, k0_pay162, k0_pay163, k0_pay164, k0_pay165, B_H7_5, B_r_100, B_r_102, B_r_85, B_r_89, harg1.read_unread, harg2.read_unread, harg3.read_unread, harg4.read_unread, harg5.read_unread, harg6.read_unread, harg8.read_unread, addf_up2, matmul_two, join_lanes, join_rows, ld_f32, truncf_up2, extf_up2, constant_zero, cast_rows, readCov_ld, View.readAt_eq_ld]
  rw [canon_right _ (B_H7_5 c arg1 harg1 arg2 harg2 arg3 harg3 arg4 harg4 arg5 harg5 arg6 harg6 arg8 harg8 arg10 arg11 Q K V D Ls Dl P7)]
  refine up2_congr fun m _ l hl => ?_
  refine Eq.trans ?_ (acc_right (dscore K Q V D Ls Dl) Q (P7 m l) 2 m l)
  by_cases h : 128 ≤ l
  · obtain ⟨t, rfl⟩ := Nat.exists_eq_add_of_le h
    have ht : t < 128 := by omega
    have e := halves_sum ht (fun h s => dscore K Q V D Ls Dl h m (512 + s)) (fun s => Q (512 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_H7_7 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S256x256 .f32) (harg8 : arg8.IsWhole) (arg10 : Memref sig .tc .vmem S8x8x128 .f32) (arg11 : Memref sig .tc .vmem S8x8x128 .f32) (Q K V D Ls Dl P7 : ℕ → ℕ → ℝ) :
    View.canon (kernelRun0_B.sl.H7_7 (F := Ideal) c arg1 harg1 arg2 harg2 arg3 harg3 arg4 harg4 arg5 harg5 arg6 harg6 arg8 harg8 arg10 arg11 (up2 1024 256 Q) (up2 256 256 K) (up2 256 256 V) (up2 1024 256 D) (up2 1024 128 Ls) (up2 1024 128 Dl) (up2 256 256 P7)) =
      up2 256 256 fun m l => P7 m l + acc (dscore K Q V D Ls Dl) Q 7 m l := by
  simp only [kernelRun0_B.sl.H7_7, kernelRun0_B.sl.v976, k0_pay198, B_H7_6, B_r_109, B_r_113, B_r_127, B_r_129, harg1.read_unread, harg2.read_unread, harg3.read_unread, harg4.read_unread, harg5.read_unread, harg6.read_unread, harg8.read_unread, addf_up2, matmul_two, join_lanes, join_rows, ld_f32, truncf_up2, extf_up2, constant_zero, cast_rows, readCov_ld, View.readAt_eq_ld]
  rw [canon_left _ (B_H7_6 c arg1 harg1 arg2 harg2 arg3 harg3 arg4 harg4 arg5 harg5 arg6 harg6 arg8 harg8 arg10 arg11 Q K V D Ls Dl P7)]
  refine up2_congr fun m _ l hl => ?_
  refine Eq.trans ?_ (acc_left (dscore K Q V D Ls Dl) Q (P7 m l) 3 m l)
  by_cases h : l < 128
  · have e := halves_sum h (fun h s => dscore K Q V D Ls Dl h m (768 + s)) (fun s => Q (768 + s) l) 0
    simp only [if_pos h, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_HS3_8 (c : Dev nD) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg10 : Memref sig .tc .vmem S8x8x128 .f32) (arg11 : Memref sig .tc .vmem S8x8x128 .f32) (arg12 : Memref sig .tc .vmem S2x128x256 .bf16) (harg12 : arg12.IsWhole) (Q K V D Ls Dl : ℕ → ℕ → ℝ) :
    View.canon (kernelRun0_B.sl.HS3_8 (F := Ideal) c arg1 harg1 arg2 harg2 arg3 harg3 arg4 harg4 arg5 harg5 arg6 harg6 arg10 arg11 arg12 harg12 (up2 1024 256 Q) (up2 256 256 K) (up2 256 256 V) (up2 1024 256 D) (up2 1024 128 Ls) (up2 1024 128 Dl) (up3 2 128 256 fun p d m => K m (128 * p + d))) =
      up3 2 128 1024 fun p d s => ∑ m ∈ Finset.range 256, K m (128 * p + d) * dscore K Q V D Ls Dl (2 * p + d / 64) m s := by
  funext y
  have h0 : (y 0).val < 2 := (y 0).isLt
  have h1 : (y 1).val < 128 := (y 1).isLt
  have h2 : (y 2).val < 1024 := (y 2).isLt
  have e00 : ∀ d < 128, ∀ s, (∑ m ∈ Finset.range 256, (if d < 64 then K m (d) else 0) * dscore K Q V D Ls Dl 0 m (s)
      + ∑ m ∈ Finset.range 256, (if 64 ≤ d then K m (d) else 0) * dscore K Q V D Ls Dl 1 m (s))
      = ∑ m ∈ Finset.range 256, K m (d) * dscore K Q V D Ls Dl (0 + d / 64) m (s) := fun d hd s => by
    have e := halves_sum' hd (fun h m => dscore K Q V D Ls Dl h m (s)) (fun m => K m (d)) 0
    simpa only [Nat.zero_add, Nat.mul_zero, Nat.reduceMul, Nat.reduceAdd, Nat.add_zero, ← Nat.add_assoc] using e
  have e01 : ∀ d < 128, ∀ s, (∑ m ∈ Finset.range 256, (if d < 64 then K m (d) else 0) * dscore K Q V D Ls Dl 0 m (256 + s)
      + ∑ m ∈ Finset.range 256, (if 64 ≤ d then K m (d) else 0) * dscore K Q V D Ls Dl 1 m (256 + s))
      = ∑ m ∈ Finset.range 256, K m (d) * dscore K Q V D Ls Dl (0 + d / 64) m (256 + s) := fun d hd s => by
    have e := halves_sum' hd (fun h m => dscore K Q V D Ls Dl h m (256 + s)) (fun m => K m (d)) 0
    simpa only [Nat.zero_add, Nat.mul_zero, Nat.reduceMul, Nat.reduceAdd, Nat.add_zero, ← Nat.add_assoc] using e
  have e02 : ∀ d < 128, ∀ s, (∑ m ∈ Finset.range 256, (if d < 64 then K m (d) else 0) * dscore K Q V D Ls Dl 0 m (512 + s)
      + ∑ m ∈ Finset.range 256, (if 64 ≤ d then K m (d) else 0) * dscore K Q V D Ls Dl 1 m (512 + s))
      = ∑ m ∈ Finset.range 256, K m (d) * dscore K Q V D Ls Dl (0 + d / 64) m (512 + s) := fun d hd s => by
    have e := halves_sum' hd (fun h m => dscore K Q V D Ls Dl h m (512 + s)) (fun m => K m (d)) 0
    simpa only [Nat.zero_add, Nat.mul_zero, Nat.reduceMul, Nat.reduceAdd, Nat.add_zero, ← Nat.add_assoc] using e
  have e03 : ∀ d < 128, ∀ s, (∑ m ∈ Finset.range 256, (if d < 64 then K m (d) else 0) * dscore K Q V D Ls Dl 0 m (768 + s)
      + ∑ m ∈ Finset.range 256, (if 64 ≤ d then K m (d) else 0) * dscore K Q V D Ls Dl 1 m (768 + s))
      = ∑ m ∈ Finset.range 256, K m (d) * dscore K Q V D Ls Dl (0 + d / 64) m (768 + s) := fun d hd s => by
    have e := halves_sum' hd (fun h m => dscore K Q V D Ls Dl h m (768 + s)) (fun m => K m (d)) 0
    simpa only [Nat.zero_add, Nat.mul_zero, Nat.reduceMul, Nat.reduceAdd, Nat.add_zero, ← Nat.add_assoc] using e
  have e10 : ∀ d < 128, ∀ s, (∑ m ∈ Finset.range 256, (if d < 64 then K m (128 + d) else 0) * dscore K Q V D Ls Dl 2 m (s)
      + ∑ m ∈ Finset.range 256, (if 64 ≤ d then K m (128 + d) else 0) * dscore K Q V D Ls Dl 3 m (s))
      = ∑ m ∈ Finset.range 256, K m (128 + d) * dscore K Q V D Ls Dl (2 + d / 64) m (s) := fun d hd s => by
    have e := halves_sum' hd (fun h m => dscore K Q V D Ls Dl h m (s)) (fun m => K m (128 + d)) 1
    simpa only [Nat.zero_add, Nat.mul_zero, Nat.reduceMul, Nat.reduceAdd, Nat.add_zero, ← Nat.add_assoc] using e
  have e11 : ∀ d < 128, ∀ s, (∑ m ∈ Finset.range 256, (if d < 64 then K m (128 + d) else 0) * dscore K Q V D Ls Dl 2 m (256 + s)
      + ∑ m ∈ Finset.range 256, (if 64 ≤ d then K m (128 + d) else 0) * dscore K Q V D Ls Dl 3 m (256 + s))
      = ∑ m ∈ Finset.range 256, K m (128 + d) * dscore K Q V D Ls Dl (2 + d / 64) m (256 + s) := fun d hd s => by
    have e := halves_sum' hd (fun h m => dscore K Q V D Ls Dl h m (256 + s)) (fun m => K m (128 + d)) 1
    simpa only [Nat.zero_add, Nat.mul_zero, Nat.reduceMul, Nat.reduceAdd, Nat.add_zero, ← Nat.add_assoc] using e
  have e12 : ∀ d < 128, ∀ s, (∑ m ∈ Finset.range 256, (if d < 64 then K m (128 + d) else 0) * dscore K Q V D Ls Dl 2 m (512 + s)
      + ∑ m ∈ Finset.range 256, (if 64 ≤ d then K m (128 + d) else 0) * dscore K Q V D Ls Dl 3 m (512 + s))
      = ∑ m ∈ Finset.range 256, K m (128 + d) * dscore K Q V D Ls Dl (2 + d / 64) m (512 + s) := fun d hd s => by
    have e := halves_sum' hd (fun h m => dscore K Q V D Ls Dl h m (512 + s)) (fun m => K m (128 + d)) 1
    simpa only [Nat.zero_add, Nat.mul_zero, Nat.reduceMul, Nat.reduceAdd, Nat.add_zero, ← Nat.add_assoc] using e
  have e13 : ∀ d < 128, ∀ s, (∑ m ∈ Finset.range 256, (if d < 64 then K m (128 + d) else 0) * dscore K Q V D Ls Dl 2 m (768 + s)
      + ∑ m ∈ Finset.range 256, (if 64 ≤ d then K m (128 + d) else 0) * dscore K Q V D Ls Dl 3 m (768 + s))
      = ∑ m ∈ Finset.range 256, K m (128 + d) * dscore K Q V D Ls Dl (2 + d / 64) m (768 + s) := fun d hd s => by
    have e := halves_sum' hd (fun h m => dscore K Q V D Ls Dl h m (768 + s)) (fun m => K m (128 + d)) 1
    simpa only [Nat.zero_add, Nat.mul_zero, Nat.reduceMul, Nat.reduceAdd, Nat.add_zero, ← Nat.add_assoc] using e
  simp only [kernelRun0_B.sl.HS3_8, k0_pay85, k0_pay88, k0_pay121, k0_pay124, k0_pay160, k0_pay166, k0_pay199, k0_pay202, B_r_100, B_r_102, B_r_127, B_r_129, B_r_132, B_r_134, B_r_31, B_r_36, B_r_38, B_r_43, B_r_65, B_r_68, B_r_70, B_r_73, B_r_95, B_r_97, harg1.read_unread, harg12.read_unread, harg2.read_unread, harg3.read_unread, harg4.read_unread, harg5.read_unread, harg6.read_unread, matmul_two_dq, join_lanes_dq, join_rows_dq, transpose_rows, cast_drop, cast_add, keep_rows_low, keep_rows_high, ld3_bf16, ld_bf16, truncf_up2, extf_up2, constant_zero, cast_rows, readCov_ld, View.readAt_eq_ld, canon_part, Nat.zero_add, Nat.mul_zero, Nat.reduceMul, Nat.reduceAdd, Nat.add_zero, ← Nat.add_assoc]
  simp only [e00 _ h1, e01 _ h1, e02 _ h1, e03 _ h1, e10 _ h1, e11 _ h1, e12 _ h1, e13 _ h1, up3]
  exact eight_parts (fun p s => ∑ m ∈ Finset.range 256, K m (128 * p + (y 1).val) * dscore K Q V D Ls Dl (2 * p + (y 1).val / 64) m s) _ h0 h2
    (fun s => ((∑ m ∈ Finset.range 256, K m (y 1).val * dscore K Q V D Ls Dl (0 + (y 1).val / 64) m s : ℝ) : EReal))
    (fun s => ((∑ m ∈ Finset.range 256, K m (128 + (y 1).val) * dscore K Q V D Ls Dl (2 + (y 1).val / 64) m s : ℝ) : EReal))
    (fun s => by simp only [Nat.zero_add, Nat.mul_zero, Nat.reduceMul, Nat.reduceAdd, Nat.add_zero, ← Nat.add_assoc]) (fun s => by simp only [Nat.zero_add, Nat.mul_zero, Nat.reduceMul, Nat.reduceAdd, Nat.add_zero, ← Nat.add_assoc])

theorem B_out0_8 (c : Dev nD) (i : grid0.Coords) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x256 .bf16) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S8x8x128 .f32) (harg11 : arg11.IsWhole) (arg12 : Memref sig .tc .vmem S2x128x256 .bf16) (harg12 : arg12.IsWhole) (arg13 : Memref sig .tc .vmem S2x128x1024 .f32) (harg13 : arg13.IsWhole) (hc0 : ¬cond0_0 i) (Q K V D Ls Dl P7 P8 : ℕ → ℕ → ℝ) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl) (up2 256 256 P7) (up2 256 256 P8) (up3 2 128 256 fun p d m => K m (128 * p + d)) =
      up2 256 256 fun m l => P8 m l + ∑ s ∈ Finset.range 1024, prob K Q Ls (l / 64) m s * D s l := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl) (up2 256 256 P7) (up2 256 256 P8) (up3 2 128 256 fun p d m => K m (128 * p + d)))]
  unfold kernelRun0_B
  dsimp only
  simp only [kernelRun0_B.sl.v995, k0_pay200, B_H8_7, B_r_118, B_r_122, B_r_131, B_r_133, addf_up2, matmul_two, join_lanes, join_rows, ld_f32, truncf_up2, extf_up2, constant_zero, cast_rows, readCov_ld, View.readAt_eq_ld]
  rw [canon_right _ (B_H8_7 c arg1 harg1 arg2 harg2 arg4 harg4 arg5 harg5 arg9 harg9 arg10 Q K D Ls P8)]
  refine up2_congr fun m _ l hl => ?_
  rw [← acc_eight (prob K Q Ls) D m l]
  refine Eq.trans ?_ (acc_right (prob K Q Ls) D (P8 m l) 3 m l)
  by_cases h : 128 ≤ l
  · obtain ⟨t, rfl⟩ := Nat.exists_eq_add_of_le h
    have ht : t < 128 := by omega
    have e := halves_sum ht (fun h s => prob K Q Ls h m (768 + s)) (fun s => D (768 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_out0_7 (c : Dev nD) (i : grid0.Coords) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x256 .bf16) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S8x8x128 .f32) (harg11 : arg11.IsWhole) (arg12 : Memref sig .tc .vmem S2x128x256 .bf16) (harg12 : arg12.IsWhole) (arg13 : Memref sig .tc .vmem S2x128x1024 .f32) (harg13 : arg13.IsWhole) (hc0 : ¬cond0_0 i) (Q K V D Ls Dl P7 P8 : ℕ → ℕ → ℝ) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl) (up2 256 256 P7) (up2 256 256 P8) (up3 2 128 256 fun p d m => K m (128 * p + d)) =
      up2 256 256 fun m l => P7 m l + ∑ s ∈ Finset.range 1024, dscore K Q V D Ls Dl (l / 64) m s * Q s l := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl) (up2 256 256 P7) (up2 256 256 P8) (up3 2 128 256 fun p d m => K m (128 * p + d)))]
  unfold kernelRun0_B
  dsimp only
  simp only [kernelRun0_B.sl.v1002, k0_pay201, B_H7_7, B_r_117, B_r_121, B_r_132, B_r_134, addf_up2, matmul_two, join_lanes, join_rows, ld_f32, truncf_up2, extf_up2, constant_zero, cast_rows, readCov_ld, View.readAt_eq_ld]
  rw [canon_right _ (B_H7_7 c arg1 harg1 arg2 harg2 arg3 harg3 arg4 harg4 arg5 harg5 arg6 harg6 arg8 harg8 arg10 arg11 Q K V D Ls Dl P7)]
  refine up2_congr fun m _ l hl => ?_
  rw [← acc_eight (dscore K Q V D Ls Dl) Q m l]
  refine Eq.trans ?_ (acc_right (dscore K Q V D Ls Dl) Q (P7 m l) 3 m l)
  by_cases h : 128 ≤ l
  · obtain ⟨t, rfl⟩ := Nat.exists_eq_add_of_le h
    have ht : t < 128 := by omega
    have e := halves_sum ht (fun h s => dscore K Q V D Ls Dl h m (768 + s)) (fun s => Q (768 + s) (128 + t)) 1
    simp only [if_pos h, Nat.add_sub_cancel_left, head_shift, Nat.zero_add, Nat.mul_zero, Nat.reduceMul, Nat.reduceAdd, Nat.add_zero, ← Nat.add_assoc] at e ⊢
    rw [e]
  · simp only [if_neg h, Nat.zero_add, Nat.mul_zero, Nat.reduceMul, Nat.reduceAdd, Nat.add_zero, ← Nat.add_assoc]

theorem B_out0_6 (c : Dev nD) (i : grid0.Coords) (arg1 : Memref sig .tc .vmem S1024x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x256 .bf16) (harg7 : arg7.IsWhole) (arg8 : Memref sig .tc .vmem S256x256 .f32) (harg8 : arg8.IsWhole) (arg9 : Memref sig .tc .vmem S256x256 .f32) (harg9 : arg9.IsWhole) (arg10 : Memref sig .tc .vmem S8x8x128 .f32) (harg10 : arg10.IsWhole) (arg11 : Memref sig .tc .vmem S8x8x128 .f32) (harg11 : arg11.IsWhole) (arg12 : Memref sig .tc .vmem S2x128x256 .bf16) (harg12 : arg12.IsWhole) (arg13 : Memref sig .tc .vmem S2x128x1024 .f32) (harg13 : arg13.IsWhole) (hc0 : ¬cond0_0 i) (Q K V D Ls Dl P7 P8 : ℕ → ℕ → ℝ) :
    out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl) (up2 256 256 P7) (up2 256 256 P8) (up3 2 128 256 fun p d m => K m (128 * p + d)) =
      up2 1024 256 fun s l => ∑ m ∈ Finset.range 256, K m l * dscore K Q V D Ls Dl (l / 64) m s := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 arg10 harg10 arg11 harg11 arg12 harg12 arg13 harg13 hc0 (up2 1024 256 Q) (up2 256 256 K) (up2 256 256 V) (up2 1024 256 D) (up2 1024 128 Ls) (up2 1024 128 Dl) (up2 256 256 P7) (up2 256 256 P8) (up3 2 128 256 fun p d m => K m (128 * p + d)))]
  unfold kernelRun0_B
  dsimp only
  funext y
  have h0 : (y 0).val < 1024 := (y 0).isLt
  have h1 : (y 1).val < 256 := (y 1).isLt
  simp only [kernelRun0_B.sl.v1021, kernelRun0_B.sl.v1026, k0_pay203, k0_pay1, B_HS3_8, transpose_wide, cast_drop_wide, ld3_f32, truncf_up2, extf_up2, constant_zero, cast_rows, readCov_ld, View.readAt_eq_ld, canon_lanes, Nat.zero_add, Nat.mul_zero, Nat.reduceMul, Nat.reduceAdd, Nat.add_zero, ← Nat.add_assoc, up2]
  by_cases h : 128 ≤ (y 1).val
  · obtain ⟨t, ht⟩ := Nat.exists_eq_add_of_le h
    rw [if_pos ⟨h, h1⟩]
    simp only [ht, Nat.add_sub_cancel_left, head_shift]
  · rw [if_neg (fun hh => h hh.1), if_pos ⟨Nat.zero_le _, by omega⟩]
    simp only [Nat.sub_zero, Nat.zero_add]

end Cert.MemAttn
-- ==== Proof.Fold.lean ====
/- What the three output arrays hold after the eight points, when the arrays the region reads hold real numbers:
   the sums over all 8192 positions, one block of 1024 positions after another. -/
module

public import proofs.«01_k».proof.Proof.BlockA
public import proofs.«01_k».proof.Proof.BlockB
public import proofs.«01_k».proof.Proof.Gen.KernelIdeal.Value

@[expose] public section

noncomputable section

namespace Cert.MemAttn

open Cert.KernelIdeal Cert.KernelIdeal.Gen Cert.KernelIdeal.Value Idealize.ShloMosaic Idealize.ShloMosaic.TcCoe Idealize.SL.Sem

/-- Rows of a matrix, `1024` at a time: block `n`. -/
def rows (n : ℕ) (X : ℕ → ℕ → ℝ) : ℕ → ℕ → ℝ := fun i j => X (1024 * n + i) j

theorem prob_rows (K Q Ls : ℕ → ℕ → ℝ) (n h m s : ℕ) :
    prob K (rows n Q) (rows n Ls) h m s = prob K Q Ls h m (1024 * n + s) := rfl

theorem dscore_rows (K Q V D Ls Dl : ℕ → ℕ → ℝ) (n h m s : ℕ) :
    dscore K (rows n Q) V (rows n D) (rows n Ls) (rows n Dl) h m s = dscore K Q V D Ls Dl h m (1024 * n + s) := rfl

/-- The place of every window's block at a point: a window over positions moves with the point, the others stay. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

section

variable (m : (ℓ : Loc nD τ sig) → Buf (Elt Ideal) ℓ) (c : Dev nD)

/-- The point's block of the queries. -/
theorem block0 (Q : ℕ → ℕ → ℝ) (hQ : V m c main_arg0 = up2 8192 256 Q) (t : Fin cfg0.N) :
    iblk m c 0 t = up2 1024 256 (rows t.val Q) := by
  funext y
  show V m c main_arg0 (((cfg0.win 0).blk t).view.emb y) = _
  rw [hQ]
  have h0 : (((cfg0.win 0).blk t).view.emb y 0).val = win0_0.index t (0 : Fin 2) * 1024 + 1 * (y 0).val := rfl
  have h1 : (((cfg0.win 0).blk t).view.emb y 1).val = win0_0.index t (1 : Fin 2) * 256 + 1 * (y 1).val := rfl
  show ((Q (((cfg0.win 0).blk t).view.emb y 0).val (((cfg0.win 0).blk t).view.emb y 1).val : ℝ) : EReal) = ((Q (1024 * t.val + (y 0).val) (y 1).val : ℝ) : EReal)
  rw [h0, h1, (places t).1.1, (places t).1.2]
  exact congrArg₂ (fun a b : ℕ => ((Q a b : ℝ) : EReal)) (by omega) (by omega)

/-- The memory's keys, whole at every point. -/
theorem block1 (K : ℕ → ℕ → ℝ) (hK : V m c main_arg1 = up2 256 256 K) (t : Fin cfg0.N) :
    iblk m c 1 t = up2 256 256 K := by
  funext y
  show V m c main_arg1 (((cfg0.win 1).blk t).view.emb y) = _
  rw [hK]
  have h0 : (((cfg0.win 1).blk t).view.emb y 0).val = win0_1.index t (0 : Fin 2) * 256 + 1 * (y 0).val := rfl
  have h1 : (((cfg0.win 1).blk t).view.emb y 1).val = win0_1.index t (1 : Fin 2) * 256 + 1 * (y 1).val := rfl
  show ((K (((cfg0.win 1).blk t).view.emb y 0).val (((cfg0.win 1).blk t).view.emb y 1).val : ℝ) : EReal) = ((K (y 0).val (y 1).val : ℝ) : EReal)
  rw [h0, h1, (places t).2.1.1, (places t).2.1.2]
  congr 2 <;> omega

/-- The memory's values, whole at every point. -/
theorem block2 (W : ℕ → ℕ → ℝ) (hW : V m c main_arg2 = up2 256 256 W) (t : Fin cfg0.N) :
    iblk m c 2 t = up2 256 256 W := by
  funext y
  show V m c main_arg2 (((cfg0.win 2).blk t).view.emb y) = _
  rw [hW]
  have h0 : (((cfg0.win 2).blk t).view.emb y 0).val = win0_2.index t (0 : Fin 2) * 256 + 1 * (y 0).val := rfl
  have h1 : (((cfg0.win 2).blk t).view.emb y 1).val = win0_2.index t (1 : Fin 2) * 256 + 1 * (y 1).val := rfl
  show ((W (((cfg0.win 2).blk t).view.emb y 0).val (((cfg0.win 2).blk t).view.emb y 1).val : ℝ) : EReal) = ((W (y 0).val (y 1).val : ℝ) : EReal)
  rw [h0, h1, (places t).2.2.1.1, (places t).2.2.1.2]
  congr 2 <;> omega

/-- The point's block of the output's gradient. -/
theorem block3 (D : ℕ → ℕ → ℝ) (hD : V m c main_arg3 = up2 8192 256 D) (t : Fin cfg0.N) :
    iblk m c 3 t = up2 1024 256 (rows t.val D) := by
  funext y
  show V m c main_arg3 (((cfg0.win 3).blk t).view.emb y) = _
  rw [hD]
  have h0 : (((cfg0.win 3).blk t).view.emb y 0).val = win0_3.index t (0 : Fin 2) * 1024 + 1 * (y 0).val := rfl
  have h1 : (((cfg0.win 3).blk t).view.emb y 1).val = win0_3.index t (1 : Fin 2) * 256 + 1 * (y 1).val := rfl
  show ((D (((cfg0.win 3).blk t).view.emb y 0).val (((cfg0.win 3).blk t).view.emb y 1).val : ℝ) : EReal) = ((D (1024 * t.val + (y 0).val) (y 1).val : ℝ) : EReal)
  rw [h0, h1, (places t).2.2.2.1.1, (places t).2.2.2.1.2]
  exact congrArg₂ (fun a b : ℕ => ((D a b : ℝ) : EReal)) (by omega) (by omega)

/-- The point's block of the logarithms of the sums. -/
theorem block4 (Ls : ℕ → ℕ → ℝ) (hL : V m c main_v21 = up2 8192 128 Ls) (t : Fin cfg0.N) :
    iblk m c 4 t = up2 1024 128 (rows t.val Ls) := by
  funext y
  show V m c main_v21 (((cfg0.win 4).blk t).view.emb y) = _
  rw [hL]
  have h0 : (((cfg0.win 4).blk t).view.emb y 0).val = win0_4.index t (0 : Fin 2) * 1024 + 1 * (y 0).val := rfl
  have h1 : (((cfg0.win 4).blk t).view.emb y 1).val = win0_4.index t (1 : Fin 2) * 128 + 1 * (y 1).val := rfl
  show ((Ls (((cfg0.win 4).blk t).view.emb y 0).val (((cfg0.win 4).blk t).view.emb y 1).val : ℝ) : EReal) = ((Ls (1024 * t.val + (y 0).val) (y 1).val : ℝ) : EReal)
  rw [h0, h1, (places t).2.2.2.2.1.1, (places t).2.2.2.2.1.2]
  exact congrArg₂ (fun a b : ℕ => ((Ls a b : ℝ) : EReal)) (by omega) (by omega)

/-- The point's block of the sums of gradient times output. -/
theorem block5 (Dl : ℕ → ℕ → ℝ) (hE : V m c main_v26 = up2 8192 128 Dl) (t : Fin cfg0.N) :
    iblk m c 5 t = up2 1024 128 (rows t.val Dl) := by
  funext y
  show V m c main_v26 (((cfg0.win 5).blk t).view.emb y) = _
  rw [hE]
  have h0 : (((cfg0.win 5).blk t).view.emb y 0).val = win0_5.index t (0 : Fin 2) * 1024 + 1 * (y 0).val := rfl
  have h1 : (((cfg0.win 5).blk t).view.emb y 1).val = win0_5.index t (1 : Fin 2) * 128 + 1 * (y 1).val := rfl
  show ((Dl (((cfg0.win 5).blk t).view.emb y 0).val (((cfg0.win 5).blk t).view.emb y 1).val : ℝ) : EReal) = ((Dl (1024 * t.val + (y 0).val) (y 1).val : ℝ) : EReal)
  rw [h0, h1, (places t).2.2.2.2.2.1, (places t).2.2.2.2.2.2]
  exact congrArg₂ (fun a b : ℕ => ((Dl a b : ℝ) : EReal)) (by omega) (by omega)

end

/-- The gradient of the queries: each score's gradient times the memory's key. -/
def gradQ (Q K W D Ls Dl : ℕ → ℕ → ℝ) : ℕ → ℕ → ℝ :=
  fun s l => ∑ j ∈ Finset.range 256, K j l * dscore K Q W D Ls Dl (l / 64) j s

/-- The gradient of the memory's keys, summed over the first `n` positions. -/
def gradK (n : ℕ) (Q K W D Ls Dl : ℕ → ℕ → ℝ) : ℕ → ℕ → ℝ :=
  fun j l => ∑ s ∈ Finset.range n, dscore K Q W D Ls Dl (l / 64) j s * Q s l

/-- The gradient of the memory's values, summed over the first `n` positions. -/
def gradV (n : ℕ) (Q K D Ls : ℕ → ℕ → ℝ) : ℕ → ℕ → ℝ :=
  fun j l => ∑ s ∈ Finset.range n, prob K Q Ls (l / 64) j s * D s l

theorem gradQ_rows (Q K W D Ls Dl : ℕ → ℕ → ℝ) (n : ℕ) :
    (fun s l => ∑ j ∈ Finset.range 256, K j l * dscore K (rows n Q) W (rows n D) (rows n Ls) (rows n Dl) (l / 64) j s)
      = rows n (gradQ Q K W D Ls Dl) := rfl

theorem gradK_step (Q K W D Ls Dl : ℕ → ℕ → ℝ) (n : ℕ) :
    (fun j l => gradK (1024 * n) Q K W D Ls Dl j l + ∑ s ∈ Finset.range 1024,
        dscore K (rows n Q) W (rows n D) (rows n Ls) (rows n Dl) (l / 64) j s * rows n Q s l)
      = gradK (1024 * (n + 1)) Q K W D Ls Dl := by
  funext j l
  unfold gradK
  rw [Nat.mul_succ, Finset.sum_range_add]
  rfl

theorem gradV_step (Q K D Ls : ℕ → ℕ → ℝ) (n : ℕ) :
    (fun j l => gradV (1024 * n) Q K D Ls j l + ∑ s ∈ Finset.range 1024,
        prob K (rows n Q) (rows n Ls) (l / 64) j s * rows n D s l)
      = gradV (1024 * (n + 1)) Q K D Ls := by
  funext j l
  unfold gradV
  rw [Nat.mul_succ, Finset.sum_range_add]
  rfl

/-- The first point's sums start from nothing. -/
theorem gradK_first (Q K W D Ls Dl : ℕ → ℕ → ℝ) :
    (fun j l => 0 + ∑ s ∈ Finset.range 1024,
        dscore K (rows 0 Q) W (rows 0 D) (rows 0 Ls) (rows 0 Dl) (l / 64) j s * rows 0 Q s l)
      = gradK (1024 * (0 + 1)) Q K W D Ls Dl := by
  rw [← gradK_step]
  funext j l
  simp [gradK]

theorem gradV_first (Q K D Ls : ℕ → ℕ → ℝ) :
    (fun j l => 0 + ∑ s ∈ Finset.range 1024,
        prob K (rows 0 Q) (rows 0 Ls) (l / 64) j s * rows 0 D s l)
      = gradV (1024 * (0 + 1)) Q K D Ls := by
  rw [← gradV_step]
  funext j l
  simp [gradV]

section

variable (m : (ℓ : Loc nD τ sig) → Buf (Elt Ideal) ℓ) (c : Dev nD) (Q K W D Ls Dl : ℕ → ℕ → ℝ)
  (hQ : V m c main_arg0 = up2 8192 256 Q) (hK : V m c main_arg1 = up2 256 256 K)
  (hW : V m c main_arg2 = up2 256 256 W) (hD : V m c main_arg3 = up2 8192 256 D)
  (hL : V m c main_v21 = up2 8192 128 Ls) (hE : V m c main_v26 = up2 8192 128 Dl)

include hQ hK hW hD hL hE

/-- What the outputs and the keys' transpose hold after point `n`. -/
theorem after_point : ∀ (n : ℕ) (hn : n < cfg0.N), outsAt0 m c n hn
    = (up2 1024 256 (rows n (gradQ Q K W D Ls Dl)), up2 256 256 (gradK (1024 * (n + 1)) Q K W D Ls Dl),
        up2 256 256 (gradV (1024 * (n + 1)) Q K D Ls), up3 2 128 256 fun p d j => K j (128 * p + d)) := by
  intro n
  induction n with
  | zero =>
    intro hn
    rw [outsAt0_A m c ⟨0, hn⟩ rfl]
    rw [block0 m c Q hQ, block1 m c K hK, block2 m c W hW, block3 m c D hD, block4 m c Ls hL, block5 m c Dl hE]
    rw [A_out0_6, A_out0_7, A_out0_8, A_sout0_2]
    exact congrArg₂ Prod.mk rfl (congrArg₂ Prod.mk (congrArg _ (gradK_first Q K W D Ls Dl))
      (congrArg₂ Prod.mk (congrArg _ (gradV_first Q K D Ls)) rfl))
  | succ n ih =>
    intro hn
    have h0 : ¬(n + 1) % 8 = 0 := by
      have := lt_of_lt_of_eq hn (show cfg0.N = 8 from N_0)
      omega
    rw [outsAt0_B m c ⟨n + 1, hn⟩ h0]
    have e : outsAt0 m c (n + 1 - 1) (Nat.lt_of_le_of_lt (Nat.sub_le _ _) hn) = _ := ih (Nat.lt_of_succ_lt hn)
    simp only [e]
    rw [block0 m c Q hQ, block1 m c K hK, block2 m c W hW, block3 m c D hD, block4 m c Ls hL, block5 m c Dl hE]
    rw [B_out0_6, B_out0_7, B_out0_8]
    exact congrArg₂ Prod.mk rfl (congrArg₂ Prod.mk (congrArg _ (gradK_step Q K W D Ls Dl (n + 1)))
      (congrArg₂ Prod.mk (congrArg _ (gradV_step Q K D Ls (n + 1))) rfl))

/-- The gradient of the queries after the run. -/
theorem final_gradQ : G6 m c = up2 8192 256 (gradQ Q K W D Ls Dl) := by
  funext i
  have h0 : (i 0).val < 8192 := (i 0).isLt
  have h1 : (i 1).val < 256 := (i 1).isLt
  have hp : pt6Of i = (i 0).val / 1024 := by show 1 * ((i 0).val / 1024 - 0) + 1 * ((i 1).val / 256 - 0) = _; omega
  have hlt : pt6Of i < cfg0.N := lt_of_lt_of_eq (by rw [hp]; omega) N_0.symm
  unfold G6
  rw [dif_pos hlt, ← outsAt0_sweep m c (pt6Of i) hlt, after_point m c Q K W D Ls Dl hQ hK hW hD hL hE]
  show ((gradQ Q K W D Ls Dl (1024 * pt6Of i + (i 0).val % 1024) ((i 1).val % 256) : ℝ) : EReal) = ((gradQ Q K W D Ls Dl (i 0).val (i 1).val : ℝ) : EReal)
  rw [hp]
  congr 2 <;> omega

/-- The gradient of the memory's keys after the run. -/
theorem final_gradK : G7 m c = up2 256 256 (gradK 8192 Q K W D Ls Dl) := by
  funext i
  have h0 : (i 0).val < 256 := (i 0).isLt
  have h1 : (i 1).val < 256 := (i 1).isLt
  have hp : pt7Of i = 7 := by show 8 * (1 * ((i 0).val / 256 - 0) + 1 * ((i 1).val / 256 - 0)) + 7 = _; omega
  have hlt : pt7Of i < cfg0.N := lt_of_lt_of_eq (by rw [hp]; omega) N_0.symm
  unfold G7
  rw [dif_pos hlt, ← outsAt0_sweep m c (pt7Of i) hlt, after_point m c Q K W D Ls Dl hQ hK hW hD hL hE]
  show ((gradK (1024 * (pt7Of i + 1)) Q K W D Ls Dl ((i 0).val % 256) ((i 1).val % 256) : ℝ) : EReal) = ((gradK 8192 Q K W D Ls Dl (i 0).val (i 1).val : ℝ) : EReal)
  rw [hp, Nat.mod_eq_of_lt h0, Nat.mod_eq_of_lt h1]

/-- The gradient of the memory's values after the run. -/
theorem final_gradV : G8 m c = up2 256 256 (gradV 8192 Q K D Ls) := by
  funext i
  have h0 : (i 0).val < 256 := (i 0).isLt
  have h1 : (i 1).val < 256 := (i 1).isLt
  have hp : pt8Of i = 7 := by show 8 * (1 * ((i 0).val / 256 - 0) + 1 * ((i 1).val / 256 - 0)) + 7 = _; omega
  have hlt : pt8Of i < cfg0.N := lt_of_lt_of_eq (by rw [hp]; omega) N_0.symm
  unfold G8
  rw [dif_pos hlt, ← outsAt0_sweep m c (pt8Of i) hlt, after_point m c Q K W D Ls Dl hQ hK hW hD hL hE]
  show ((gradV (1024 * (pt8Of i + 1)) Q K D Ls ((i 0).val % 256) ((i 1).val % 256) : ℝ) : EReal) = ((gradV 8192 Q K D Ls (i 0).val (i 1).val : ℝ) : EReal)
  rw [hp, Nat.mod_eq_of_lt h0, Nat.mod_eq_of_lt h1]

end

end Cert.MemAttn

end
-- ==== Proof.HostOps.lean ====
/- The host's operations at arrays of real numbers, at the shapes the kernel's host code and the reference use:
   each gives an array of real numbers again. Heads come as an axis of four, lanes within a head as an axis of 64. -/
module

public import proofs.«01_k».proof.Proof.Spec
public import proofs.«01_k».proof.Proof.Gen.ReferenceIdeal.Read
public import Idealize.ShloMosaic.Lib.Pointwise

@[expose] public section

noncomputable section

namespace Cert.MemAttn

open Cert.ReferenceIdeal Cert.ReferenceIdeal.Gen Idealize.ShloMosaic Idealize.ShloMosaic.TcCoe Idealize.ShloMosaic.ValueIdx

/-! ## Element by element -/

section Elementwise
variable {a b c : ℕ} (f g : ℕ → ℕ → ℝ) (u v : ℕ → ℕ → ℕ → ℝ)

theorem addf_up3 : addf (F := Ideal) (φ := .f32) (up3 a b c u) (up3 a b c v) = up3 a b c fun i j k => u i j k + v i j k := by
  funext y; exact (EReal.coe_add _ _).symm
theorem subf_up3 : subf (F := Ideal) (φ := .f32) (up3 a b c u) (up3 a b c v) = up3 a b c fun i j k => u i j k - v i j k := by
  funext y; exact (EReal.coe_sub _ _).symm
theorem mulf_up3 : mulf (F := Ideal) (φ := .f32) (up3 a b c u) (up3 a b c v) = up3 a b c fun i j k => u i j k * v i j k := by
  funext y; exact (EReal.coe_mul _ _).symm
theorem negf_up3 : Host.negf (F := Ideal) (φ := .f32) (up3 a b c u) = up3 a b c fun i j k => -u i j k := by
  funext y; exact (EReal.coe_neg _).symm
theorem hostExp_up3 : Host.exp (F := Ideal) (φ := .f32) (up3 a b c u) = up3 a b c fun i j k => Real.exp (u i j k) := by
  funext y; pointwise; simp only [up3, Ideal.exp_coe]
theorem hostLog_up2 (hf : ∀ i < a, ∀ j < b, 0 < f i j) :
    Host.log (F := Ideal) (φ := .f32) (up2 a b f) = up2 a b fun i j => Real.log (f i j) := by
  funext y
  pointwise
  simp only [up2, Ideal.log_coe, if_neg (not_le.mpr (hf _ (y 0).isLt _ (y 1).isLt))]
theorem hostDivf_up3 (hv : ∀ i < a, ∀ j < b, ∀ k < c, v i j k ≠ 0) :
    Host.divf (F := Ideal) (φ := .f32) (up3 a b c u) (up3 a b c v) = up3 a b c fun i j k => u i j k / v i j k := by
  funext y
  pointwise
  simp only [up3]
  rw [Ideal.div_coe (hv _ (y 0).isLt _ (y 1).isLt _ (y 2).isLt), ← EReal.coe_mul, mul_one_div]

end Elementwise

/-! ## Shapes -/

theorem split_positions (X : ℕ → ℕ → ℝ) : shapeCast S8192x4x64 (up2 8192 256 X) shapeCasts_S8192x256_S8192x4x64
    = up3 8192 4 64 fun s h d => X s (64 * h + d) := by
  funext y; pointwise; simp only [up2, up3]; exact congrArg (fun l : ℕ => ((X (y 0).val l : ℝ) : EReal)) (by show (y 1).val * 64 + (y 2).val = _; omega)

theorem split_memory (X : ℕ → ℕ → ℝ) : shapeCast S256x4x64 (up2 256 256 X) shapeCasts_S256x256_S256x4x64
    = up3 256 4 64 fun s h d => X s (64 * h + d) := by
  funext y; pointwise; simp only [up2, up3]; exact congrArg (fun l : ℕ => ((X (y 0).val l : ℝ) : EReal)) (by show (y 1).val * 64 + (y 2).val = _; omega)

theorem join_positions (u : ℕ → ℕ → ℕ → ℝ) : shapeCast S8192x256 (up3 8192 4 64 u) shapeCasts_S8192x4x64_S8192x256
    = up2 8192 256 fun s l => u s (l / 64) (l % 64) := by
  funext y; pointwise; simp only [up2, up3]; rfl

theorem join_memory (u : ℕ → ℕ → ℕ → ℝ) : shapeCast S256x256 (up3 256 4 64 u) shapeCasts_S256x4x64_S256x256
    = up2 256 256 fun s l => u s (l / 64) (l % 64) := by
  funext y; pointwise; simp only [up2, up3]; rfl

theorem unit_axis (f : ℕ → ℕ → ℝ) : shapeCast S4x8192x1 (up2 4 8192 f) shapeCasts_S4x8192_S4x8192x1 = up3 4 8192 1 fun h s _ => f h s := by
  funext y; pointwise; simp only [up2, up3]; rfl

theorem spread_unit (f : ℕ → ℕ → ℝ) : broadcastInDim S4x8192x1 ![0, 1] bcast_S4x8192_S4x8192x1_0_1 (up2 4 8192 f)
    = up3 4 8192 1 fun h s _ => f h s := by
  funext y; pointwise; simp only [up2, up3]; rfl

theorem spread (f : ℕ → ℕ → ℝ) :
    broadcastInDim S4x8192x256 ![0, 1, 2] bcast_S4x8192x1_S4x8192x256_0_1_2 (up3 4 8192 1 fun h s _ => f h s)
      = up3 4 8192 256 fun h s _ => f h s := by
  funext y; pointwise; simp only [up2, up3]; rfl

theorem spread_all (f : ℕ → ℕ → ℝ) : broadcastInDim S4x8192x256 ![0, 1] bcast_S4x8192_S4x8192x256_0_1 (up2 4 8192 f)
    = up3 4 8192 256 fun h s _ => f h s := by
  funext y; pointwise; simp only [up2, up3]; rfl

theorem turn_grad (u : ℕ → ℕ → ℕ → ℝ) : transpose S4x64x8192 [1, 2, 0] (up3 8192 4 64 u) transposes_S8192x4x64_S4x64x8192_1_2_0
    = up3 4 64 8192 fun h d s => u s h d := by
  funext y; pointwise; simp only [up3]; rfl
theorem turn_output (u : ℕ → ℕ → ℕ → ℝ) : transpose S8192x4x64 [2, 0, 1] (up3 4 64 8192 u) transposes_S4x64x8192_S8192x4x64_2_0_1
    = up3 8192 4 64 fun s h d => u h d s := by
  funext y; pointwise; simp only [up3]; rfl
theorem turn_values (u : ℕ → ℕ → ℕ → ℝ) : transpose S256x4x64 [2, 0, 1] (up3 4 64 256 u) transposes_S4x64x256_S256x4x64_2_0_1
    = up3 256 4 64 fun j h d => u h d j := by
  funext y; pointwise; simp only [up3]; rfl
theorem turn_keys (u : ℕ → ℕ → ℕ → ℝ) : transpose S256x4x64 [1, 0, 2] (up3 4 256 64 u) transposes_S4x256x64_S256x4x64_1_0_2
    = up3 256 4 64 fun j h d => u h j d := by
  funext y; pointwise; simp only [up3]; rfl
theorem turn_queries (u : ℕ → ℕ → ℕ → ℝ) : transpose S8192x4x64 [1, 0, 2] (up3 4 8192 64 u) transposes_S4x8192x64_S8192x4x64_1_0_2
    = up3 8192 4 64 fun s h d => u h s d := by
  funext y; pointwise; simp only [up3]; rfl

/-! ## Sums -/

section Sums
variable (u v : ℕ → ℕ → ℕ → ℝ)

theorem sum_memory : Host.reduceAdd (F := Ideal) (φ := .f32) (up3 4 8192 256 u) (constant S_ .f32 0x00000000#32) reducesTo_S4x8192x256_S4x8192_d2 h_S_
    = up2 4 8192 fun h s => ∑ j ∈ Finset.range 256, u h s j := by
  funext y; pointwise; simp only [up2, up3]; exact coe_sum_range 256 fun j => u (y 0).val (y 1).val j

theorem sum_unit : Host.reduceAdd (F := Ideal) (φ := .f32) (up3 4 8192 1 u) (constant S_ .f32 0x00000000#32) reducesTo_S4x8192x1_S4x8192_d2 h_S_
    = up2 4 8192 fun h s => u h s 0 := by
  funext y; pointwise; simp only [up2, up3]
  first | rfl | (rw [Fin.sum_univ_one]; rfl)

theorem dot_scores : Host.dotGeneral (F := Ideal) (φ₁ := .f32) (φ₂ := .f32) dot_S8192x4x64_S256x4x64_S4x8192x256_2_2_0_0_1_1 none (up3 8192 4 64 u) (up3 256 4 64 v)
    = up3 4 8192 256 fun h s j => ∑ d ∈ Finset.range 64, u s h d * v j h d := by
  funext y; pointwise; simp only [up3, ← EReal.coe_mul]; exact coe_sum_range 64 fun d => u (y 1).val (y 0).val d * v (y 2).val (y 0).val d

theorem dot_output : Host.dotGeneral (F := Ideal) (φ₁ := .f32) (φ₂ := .f32) dot_S256x4x64_S4x8192x256_S4x64x8192_0_2_2_1_1_0 none (up3 256 4 64 u) (up3 4 8192 256 v)
    = up3 4 64 8192 fun h d s => ∑ j ∈ Finset.range 256, u j h d * v h s j := by
  funext y; pointwise; simp only [up3, ← EReal.coe_mul]; exact coe_sum_range 256 fun j => u j (y 0).val (y 1).val * v (y 0).val (y 2).val j

theorem dot_weights : Host.dotGeneral (F := Ideal) (φ₁ := .f32) (φ₂ := .f32) dot_S4x64x8192_S256x4x64_S4x8192x256_1_2_2_0_0_1 none (up3 4 64 8192 u) (up3 256 4 64 v)
    = up3 4 8192 256 fun h s j => ∑ d ∈ Finset.range 64, u h d s * v j h d := by
  funext y; pointwise; simp only [up3, ← EReal.coe_mul]; exact coe_sum_range 64 fun d => u (y 0).val d (y 1).val * v (y 2).val (y 0).val d

theorem dot_values : Host.dotGeneral (F := Ideal) (φ₁ := .f32) (φ₂ := .f32) dot_S4x64x8192_S4x8192x256_S4x64x256_2_1_1_2_0_0 none (up3 4 64 8192 u) (up3 4 8192 256 v)
    = up3 4 64 256 fun h d j => ∑ s ∈ Finset.range 8192, u h d s * v h s j := by
  funext y; pointwise; simp only [up3, ← EReal.coe_mul]; exact coe_sum_range 8192 fun s => u (y 0).val (y 1).val s * v (y 0).val s (y 2).val

theorem dot_keys : Host.dotGeneral (F := Ideal) (φ₁ := .f32) (φ₂ := .f32) dot_S4x8192x256_S8192x4x64_S4x256x64_1_0_2_2_0_1 none (up3 4 8192 256 u) (up3 8192 4 64 v)
    = up3 4 256 64 fun h j d => ∑ s ∈ Finset.range 8192, u h s j * v s h d := by
  funext y; pointwise; simp only [up3, ← EReal.coe_mul]; exact coe_sum_range 8192 fun s => u (y 0).val s (y 1).val * v s (y 0).val (y 2).val

theorem dot_queries : Host.dotGeneral (F := Ideal) (φ₁ := .f32) (φ₂ := .f32) dot_S4x8192x256_S256x4x64_S4x8192x64_2_0_1_2_0_1 none (up3 4 8192 256 u) (up3 256 4 64 v)
    = up3 4 8192 64 fun h s d => ∑ j ∈ Finset.range 256, u h s j * v j h d := by
  funext y; pointwise; simp only [up3, ← EReal.coe_mul]; exact coe_sum_range 256 fun j => u (y 0).val (y 1).val j * v j (y 0).val (y 2).val

end Sums

/-! ## The maximum: a real number, whichever it is -/

/-- An array none of whose elements is infinite is one of real numbers. -/
theorem exists_up2 {a b : ℕ} (x : (⟨2, ![a, b]⟩ : Shape).Idx → EReal) (hx : ∀ y, ∃ r : ℝ, x y = (r : EReal)) :
    ∃ f : ℕ → ℕ → ℝ, x = up2 a b f := by
  refine ⟨fun i j => if h : i < a ∧ j < b then (x (ValueIdx.ix2 ⟨i, h.1⟩ ⟨j, h.2⟩)).toReal else 0, ?_⟩
  funext y
  have hy : (y 0).val < a ∧ (y 1).val < b := ⟨(y 0).isLt, (y 1).isLt⟩
  have e : (ValueIdx.ix2 ⟨(y 0).val, hy.1⟩ ⟨(y 1).val, hy.2⟩ : (⟨2, ![a, b]⟩ : Shape).Idx) = y := by
    funext k
    match k with
    | ⟨0, _⟩ => rfl
    | ⟨1, _⟩ => rfl
  obtain ⟨r, hr⟩ := hx y
  unfold up2
  dsimp only
  rw [dif_pos hy, e, hr, EReal.toReal_coe]

theorem foldl_max_real {ι : Type} (x : ι → EReal) (hx : ∀ i, ∃ r : ℝ, x i = (r : EReal)) (l : List ι) :
    ∀ e : EReal, (∃ r : ℝ, e = (r : EReal)) → ∃ r : ℝ, l.foldl (fun r n => max r (x n)) e = (r : EReal) := by
  induction l with
  | nil => exact fun e h => h
  | cons i l ih =>
    intro e h
    refine ih _ ?_
    show ∃ r : ℝ, max e (x i) = (r : EReal)
    rcases max_choice e (x i) with h' | h' <;> rw [h']
    exacts [h, hx i]

theorem foldl_max_bot {ι : Type} (x : ι → EReal) (hx : ∀ i, ∃ r : ℝ, x i = (r : EReal)) (l : List ι) (hl : l ≠ []) :
    ∃ r : ℝ, l.foldl (fun r n => max r (x n)) ⊥ = (r : EReal) := by
  cases l with
  | nil => exact absurd rfl hl
  | cons i l =>
    rw [List.foldl_cons, max_eq_right bot_le]
    exact foldl_max_real x hx l _ (hx i)

theorem lowest : FloatOps.ofBits (F := Ideal) .f32 0xFF800000#32 = (⊥ : EReal) := by
  simp [Ideal.ofBits, Ideal.ieee]

theorem one_word : FloatOps.ofBits (F := Ideal) .f32 0x3F800000#32 = ((1 : ℝ) : EReal) := by
  simp [Ideal.ofBits, Ideal.ieee, -EReal.coe_mul]; norm_num

theorem highest : FloatOps.ofBits (F := Ideal) .f32 0x7F800000#32 = (⊤ : EReal) := by
  simp [Ideal.ofBits, Ideal.ieee]

/-- The array of ones. -/
theorem ones : broadcastInDim S4x8192x1 ![] bcast_S_S4x8192x1 (constant (F := Ideal) S_ .f32 0x3F800000#32) = up3 4 8192 1 fun _ _ _ => 1 := by
  funext y
  exact one_word

theorem max_memory (u : ℕ → ℕ → ℕ → ℝ) : ∃ M : ℕ → ℕ → ℝ,
    Host.reduce (α := Ideal .f32) FloatOps.maximumf (up3 4 8192 256 u) (constant (F := Ideal) S_ .f32 0xFF800000#32) reducesTo_S4x8192x256_S4x8192_d2 h_S_ = up2 4 8192 M := by
  refine exists_up2 _ fun y => ?_
  unfold Host.reduce
  have e : constant (F := Ideal) S_ .f32 0xFF800000#32 (Shape.Idx.first h_S_) = (⊥ : EReal) := lowest
  rw [e]
  refine foldl_max_bot (fun n => up3 4 8192 256 u (S4x8192x256.rowMajor.symm n)) (fun n => ⟨_, rfl⟩) _ ?_
  refine List.ne_nil_of_mem (a := S4x8192x256.rowMajor (ValueIdx.ix3 (y 0) (y 1) (0 : Fin 256))) ?_
  rw [List.mem_filter]
  refine ⟨List.mem_finRange _, decide_eq_true ?_⟩
  rw [Equiv.symm_apply_apply]
  funext k
  match k with
  | ⟨0, _⟩ => rfl
  | ⟨1, _⟩ => rfl

/-- The greatest of the lowest value and a real number is the real number. -/
theorem max_lowest (f : ℕ → ℕ → ℝ) : maximumf (F := Ideal) (φ := .f32) (broadcastInDim S4x8192 ![] bcast_S_S4x8192 (constant S_ .f32 0xFF800000#32)) (up2 4 8192 f)
    = up2 4 8192 f := by
  funext y
  show max (FloatOps.ofBits (F := Ideal) .f32 0xFF800000#32 : EReal) _ = _
  rw [lowest]
  exact max_eq_right bot_le

end Cert.MemAttn

end
-- ==== Proof.Reference.lean ====
/- What the reference computes at arrays of real numbers: the softmax of the scores over the memory, its product with the
   memory's values, and the gradients of both, head by head. -/
module

public import proofs.«01_k».proof.Proof.HostOps

@[expose] public section

noncomputable section

namespace Cert.MemAttn

open Cert.ReferenceIdeal Cert.ReferenceIdeal.Gen Cert.ReferenceIdeal.Read Idealize.ShloMosaic Idealize.ShloMosaic.TcCoe

/-! ## On real numbers -/

/-- The exponential of a score less the position's maximum. -/
def expo (Q K M : ℕ → ℕ → ℝ) (h s j : ℕ) : ℝ := Real.exp (dotHead Q K h s j - M h s)

/-- The sum of a position's exponentials. -/
def total (Q K M : ℕ → ℕ → ℝ) (h s : ℕ) : ℝ := ∑ j ∈ Finset.range 256, expo Q K M h s j

theorem total_pos (Q K M : ℕ → ℕ → ℝ) (h s : ℕ) : 0 < total Q K M h s :=
  Finset.sum_pos (fun _ _ => Real.exp_pos _) ⟨0, Finset.mem_range.2 (by norm_num)⟩

/-- The attention's weight. -/
def weight (Q K M : ℕ → ℕ → ℝ) (h s j : ℕ) : ℝ := expo Q K M h s j / total Q K M h s

/-- The gradient of a score, as the reference writes it: through the quotient's numerator and its denominator. -/
def refScore (Q K W D M : ℕ → ℕ → ℝ) (h s j : ℕ) : ℝ :=
  (dotHead D W h s j / total Q K M h s
    + -∑ k ∈ Finset.range 256, dotHead D W h s k * (1 / (total Q K M h s * total Q K M h s)) * expo Q K M h s k)
    * expo Q K M h s j

/-! ## The stages -/

section

variable (Q K W D M : ℕ → ℕ → ℝ)

theorem stage3 : val_main_v3 (F := Ideal) (up2 8192 256 Q) = up3 8192 4 64 fun s h d => Q s (64 * h + d) := split_positions Q
theorem stage4 : val_main_v4 (F := Ideal) (up2 256 256 K) = up3 256 4 64 fun s h d => K s (64 * h + d) := split_memory K
theorem stage5 : val_main_v5 (F := Ideal) (up2 256 256 W) = up3 256 4 64 fun s h d => W s (64 * h + d) := split_memory W

theorem stage6 : val_main_v6 (F := Ideal) (up2 8192 256 Q) (up2 256 256 K) = up3 4 8192 256 fun h s j => dotHead Q K h s j := by
  unfold val_main_v6
  rw [stage3, stage4]
  exact dot_scores _ _

/-- The greatest score of each position is a real number. -/
theorem stage7 : ∃ M : ℕ → ℕ → ℝ, val_main_v7 (F := Ideal) (up2 8192 256 Q) (up2 256 256 K) = up2 4 8192 M := by
  unfold val_main_v7
  rw [stage6]
  exact max_memory _

variable (hM : val_main_v7 (F := Ideal) (up2 8192 256 Q) (up2 256 256 K) = up2 4 8192 M)

include hM

theorem stage14 : val_main_v14 (F := Ideal) (up2 8192 256 Q) (up2 256 256 K) = up2 4 8192 M := by
  unfold val_main_v14
  rw [hM]
  exact max_lowest M

theorem stage27 : val_main_v27 (F := Ideal) (up2 8192 256 Q) (up2 256 256 K) = up3 4 8192 256 (expo Q K M) := by
  unfold val_main_v27 val_main_v26 val_main_v25 val_main_v24
  rw [stage14 Q K M hM, stage6, spread_unit, spread, subf_up3, hostExp_up3]
  rfl

theorem stage28 : val_main_v28 (F := Ideal) (up2 8192 256 Q) (up2 256 256 K) = up2 4 8192 (total Q K M) := by
  unfold val_main_v28
  rw [stage27 Q K M hM]
  exact sum_memory _

theorem stage29 : val_main_v29 (F := Ideal) (up2 8192 256 Q) (up2 256 256 K) = up3 4 8192 1 fun h s _ => total Q K M h s := by
  unfold val_main_v29
  rw [stage28 Q K M hM]
  exact spread_unit _

theorem stage31 : val_main_v31 (F := Ideal) (up2 8192 256 Q) (up2 256 256 K) = up3 4 8192 256 (weight Q K M) := by
  unfold val_main_v31 val_main_v30
  rw [stage27 Q K M hM, stage29 Q K M hM, spread, hostDivf_up3 _ _ fun h _ s _ _ _ => (total_pos Q K M h s).ne']
  rfl

theorem stage44 : val_main_v44 (F := Ideal) (up2 8192 256 Q) (up2 256 256 K)
    = up3 4 8192 256 fun h s _ => 1 / (total Q K M h s * total Q K M h s) := by
  unfold val_main_v44 val_main_v34 val_main_v33 val_main_v32
  rw [stage29 Q K M hM, mulf_up3]
  rw [show broadcastInDim S4x8192x1 ![] bcast_S_S4x8192x1 (val_main_cst_8 (F := Ideal)) = up3 4 8192 1 fun _ _ _ => 1 from ones]
  rw [hostDivf_up3 _ _ fun h _ s _ _ _ => (mul_pos (total_pos Q K M h s) (total_pos Q K M h s)).ne']
  exact spread _

omit hM in
theorem stage40 : val_main_v40 (F := Ideal) (up2 8192 256 D) = up3 4 64 8192 fun h d s => D s (64 * h + d) := by
  unfold val_main_v40
  rw [show val_main_v39 (F := Ideal) (up2 8192 256 D) = up3 8192 4 64 fun s h d => D s (64 * h + d) from split_positions D]
  exact turn_grad _

omit hM in
theorem stage41 : val_main_v41 (F := Ideal) (up2 256 256 W) (up2 8192 256 D) = up3 4 8192 256 fun h s j => dotHead D W h s j := by
  unfold val_main_v41
  rw [stage40, stage5]
  exact dot_weights _ _

theorem stage60 : val_main_v60 (F := Ideal) (up2 8192 256 Q) (up2 256 256 K) (up2 8192 256 D)
    = up2 256 256 fun j l => ∑ s ∈ Finset.range 8192, D s (64 * (l / 64) + l % 64) * weight Q K M (l / 64) s j := by
  unfold val_main_v60 val_main_v43 val_main_v42
  rw [stage40, stage31 Q K M hM, dot_values, turn_values]
  exact join_memory _

theorem stage55 : val_main_v55 (F := Ideal) (up2 8192 256 Q) (up2 256 256 K) (up2 256 256 W) (up2 8192 256 D)
    = up3 4 8192 256 (refScore Q K W D M) := by
  unfold val_main_v55 val_main_v54 val_main_v53 val_main_v52 val_main_v51 val_main_v50 val_main_v49 val_main_v48 val_main_v47 val_main_v46 val_main_v45
  rw [stage41, stage44 Q K M hM, stage27 Q K M hM, stage29 Q K M hM, spread, mulf_up3, mulf_up3, hostDivf_up3 _ _ fun h _ s _ _ _ => (total_pos Q K M h s).ne']
  rw [show val_main_cst_9 (F := Ideal) = constant (F := Ideal) S_ .f32 0x00000000#32 from rfl, show val_main_cst_10 (F := Ideal) = constant (F := Ideal) S_ .f32 0x00000000#32 from rfl]
  rw [sum_memory, unit_axis, negf_up3, sum_unit, spread_all, addf_up3, mulf_up3]
  rfl

theorem stage61 : val_main_v61 (F := Ideal) (up2 8192 256 Q) (up2 256 256 K) (up2 256 256 W) (up2 8192 256 D)
    = up2 256 256 fun j l => ∑ s ∈ Finset.range 8192, refScore Q K W D M (l / 64) s j * Q s (64 * (l / 64) + l % 64) := by
  unfold val_main_v61 val_main_v57 val_main_v56
  rw [stage55 Q K W D M hM, stage3, dot_keys, turn_keys]
  exact join_memory _

theorem stage63 : val_main_v63 (F := Ideal) (up2 8192 256 Q) (up2 256 256 K) (up2 256 256 W) (up2 8192 256 D)
    = up2 8192 256 fun s l => ∑ j ∈ Finset.range 256, refScore Q K W D M (l / 64) s j * K j (64 * (l / 64) + l % 64) := by
  unfold val_main_v63 val_main_v62 val_main_v59 val_main_v58
  rw [stage55 Q K W D M hM, stage4, dot_queries, turn_queries, join_positions]
  rfl

end

end Cert.MemAttn

end
-- ==== Proof.Host.lean ====
/- What the kernel's host code gives the region: the logarithm of each position's sum of exponentials and the product of
   the output with its gradient, in the first four of 128 lanes. -/
module

public import proofs.«01_k».proof.Proof.Reference
public import proofs.«01_k».proof.Proof.Gen.KernelIdeal.Frame
public import Idealize.ShloMosaic.Lib.Pointwise
public import Idealize.ShloMosaic.Lib.StableHlo.ReadAt

@[expose] public section

noncomputable section

namespace Cert.MemAttn

open Cert.KernelIdeal Cert.KernelIdeal.Gen Idealize.ShloMosaic Idealize.ShloMosaic.TcCoe

/-- The queries, keys and values of the array contents. -/
abbrev Rows := (⟨S8192x256, .bf16⟩ : BufTy).Contents (Elt Ideal)
abbrev Mem := (⟨S256x256, .bf16⟩ : BufTy).Contents (Elt Ideal)

/-- The scores, as the host code computes them, and their maxima. -/
def headsOfRows (x : Rows) : FVec Ideal S8192x4x64 .f32 := shapeCast S8192x4x64 (extf .f32 x bitsLt_bf16_f32) shapeCasts_S8192x256_S8192x4x64
def headsOfMem (x : Mem) : FVec Ideal S256x4x64 .f32 := shapeCast S256x4x64 (extf .f32 x bitsLt_bf16_f32) shapeCasts_S256x256_S256x4x64
def hostScores (q : Rows) (k : Mem) : FVec Ideal S4x8192x256 .f32 :=
  Host.dotGeneral (φ₁ := .f32) (φ₂ := .f32) dot_S8192x4x64_S256x4x64_S4x8192x256_2_2_0_0_1_1 none (headsOfRows q) (headsOfMem k)
def hostMax (q : Rows) (k : Mem) : FVec Ideal S4x8192 .f32 :=
  Host.reduce FloatOps.maximumf (hostScores q k) (constant S_ .f32 0xFF800000#32) reducesTo_S4x8192x256_S4x8192_d2 h_S_

/-- The exponentials, their sums and the weights. -/
def hostExp (q : Rows) (k : Mem) : FVec Ideal S4x8192x256 .f32 :=
  Host.exp (subf (hostScores q k) (broadcastInDim S4x8192x256 ![0, 1, 2] bcast_S4x8192x1_S4x8192x256_0_1_2
    (broadcastInDim S4x8192x1 ![0, 1] bcast_S4x8192_S4x8192x1_0_1 (hostMax q k))))
def hostSum (q : Rows) (k : Mem) : FVec Ideal S4x8192 .f32 :=
  Host.reduceAdd (hostExp q k) (constant S_ .f32 0x00000000#32) reducesTo_S4x8192x256_S4x8192_d2 h_S_
def hostWeight (q : Rows) (k : Mem) : FVec Ideal S4x8192x256 .f32 :=
  Host.divf (hostExp q k) (broadcastInDim S4x8192x256 ![0, 1, 2] bcast_S4x8192x1_S4x8192x256_0_1_2
    (broadcastInDim S4x8192x1 ![0, 1] bcast_S4x8192_S4x8192x1_0_1 (hostSum q k)))

/-- The attention's output. -/
def hostOut (q : Rows) (k w : Mem) : FVec Ideal S8192x4x64 .f32 :=
  transpose S8192x4x64 [2, 0, 1] (Host.dotGeneral (φ₁ := .f32) (φ₂ := .f32) dot_S256x4x64_S4x8192x256_S4x64x8192_0_2_2_1_1_0 none
    (headsOfMem w) (hostWeight q k)) transposes_S4x64x8192_S8192x4x64_2_0_1

/-- Four lanes padded to 128 by zeros. -/
def padLanes (x : FVec Ideal S8192x4 .f32) : FVec Ideal S8192x128 .f32 :=
  pad S8192x128 ![0, 0] ![0, 124] ![0, 0] x (sitofp .f32 (constantI S_ 32 0#32)) pads_S8192x4_S8192x128_000_01240 h_S_

def hostLse (q : Rows) (k : Mem) : FVec Ideal S8192x128 .f32 :=
  padLanes (transpose S8192x4 [1, 0] (addf (hostMax q k) (Host.log (hostSum q k))) transposes_S4x8192_S8192x4_1_0)
def hostDelta (q : Rows) (k w : Mem) (d : Rows) : FVec Ideal S8192x128 .f32 :=
  padLanes (Host.reduceAdd (mulf (headsOfRows d) (hostOut q k w))
    (constant S_ .f32 0x00000000#32) reducesTo_S8192x4x64_S8192x4_d2 h_S_)

section

variable (m : (ℓ : Loc nD τ sig) → Buf (Elt Ideal) ℓ) (c : Dev nD)

theorem region_lse : V m c main_v21 = hostLse (m ((c.tc : Thread nD τ).loc main_arg0)) (m ((c.tc : Thread nD τ).loc main_arg1)) := by
  unfold V
  simp only [List.flatten_cons, List.flatten_nil, List.cons_append, List.nil_append]
  after_reads_simp
  simp -implicitDefEqProofs only [StableHlo.TRef.toBuf, StableHlo.TRef.ofBuf, cast_cast, cast_eq]
  clean_types
  unfold hostLse padLanes hostSum hostExp hostMax hostScores headsOfRows headsOfMem
  rfl

theorem region_delta : V m c main_v26 = hostDelta (m ((c.tc : Thread nD τ).loc main_arg0)) (m ((c.tc : Thread nD τ).loc main_arg1))
    (m ((c.tc : Thread nD τ).loc main_arg2)) (m ((c.tc : Thread nD τ).loc main_arg3)) := by
  unfold V
  simp only [List.flatten_cons, List.flatten_nil, List.cons_append, List.nil_append]
  after_reads_simp
  simp -implicitDefEqProofs only [StableHlo.TRef.toBuf, StableHlo.TRef.ofBuf, cast_cast, cast_eq]
  clean_types
  unfold hostDelta padLanes hostOut hostWeight hostSum hostExp hostMax hostScores headsOfRows headsOfMem
  rfl

end

/-! ## At real numbers -/

theorem padLanes_up2 (f : ℕ → ℕ → ℝ) : padLanes (up2 8192 4 f) = up2 8192 128 fun s l => if l < 4 then f s l else 0 := by
  funext y
  unfold padLanes
  pointwise
  simp only [up2]
  split
  · rfl
  · show (((0#32 : BitVec 32).toInt : ℝ) : EReal) = _
    simp

theorem turn_lse (f : ℕ → ℕ → ℝ) : transpose S8192x4 [1, 0] (up2 4 8192 f) transposes_S4x8192_S8192x4_1_0 = up2 8192 4 fun s h => f h s := by
  funext y; pointwise; simp only [up2]; rfl

theorem sum_lanes (u : ℕ → ℕ → ℕ → ℝ) :
    Host.reduceAdd (F := Ideal) (φ := .f32) (up3 8192 4 64 u) (constant S_ .f32 0x00000000#32) reducesTo_S8192x4x64_S8192x4_d2 h_S_
      = up2 8192 4 fun s h => ∑ d ∈ Finset.range 64, u s h d := by
  funext y; pointwise; simp only [up2, up3]; exact coe_sum_range 64 fun d => u (y 0).val (y 1).val d

/-- The logarithm of a position's sum, its maximum put back. -/
def logSum (Q K M : ℕ → ℕ → ℝ) : ℕ → ℕ → ℝ := fun s h => if h < 4 then M h s + Real.log (total Q K M h s) else 0

/-- The output's product with its gradient over a head's lanes. -/
def outGrad (Q K W D M : ℕ → ℕ → ℝ) : ℕ → ℕ → ℝ := fun s h =>
  if h < 4 then ∑ d ∈ Finset.range 64, D s (64 * h + d) * ∑ j ∈ Finset.range 256, W j (64 * h + d) * weight Q K M h s j else 0

section

variable (Q K W D M : ℕ → ℕ → ℝ)
  (hM : Cert.ReferenceIdeal.Read.val_main_v7 (F := Ideal) (up2 8192 256 Q) (up2 256 256 K) = up2 4 8192 M)

include hM

theorem hostExp_real : hostExp (up2 8192 256 Q) (up2 256 256 K) = up3 4 8192 256 (expo Q K M) := by
  unfold hostExp
  rw [show hostMax (up2 8192 256 Q) (up2 256 256 K) = up2 4 8192 M from hM,
    show hostScores (up2 8192 256 Q) (up2 256 256 K) = up3 4 8192 256 fun h s j => dotHead Q K h s j from stage6 Q K]
  refine (congrArg (fun x => Host.exp (F := Ideal) (φ := .f32) (subf (F := Ideal) (φ := .f32) _ x))
    ((congrArg _ (spread_unit M)).trans (spread M))).trans ?_
  exact (congrArg _ (subf_up3 _ _)).trans (hostExp_up3 _)

theorem hostSum_real : hostSum (up2 8192 256 Q) (up2 256 256 K) = up2 4 8192 (total Q K M) := by
  unfold hostSum
  rw [hostExp_real Q K M hM]
  exact sum_memory _

theorem hostWeight_real : hostWeight (up2 8192 256 Q) (up2 256 256 K) = up3 4 8192 256 (weight Q K M) := by
  unfold hostWeight
  rw [hostExp_real Q K M hM, hostSum_real Q K M hM]
  refine (congrArg (fun x => Host.divf (F := Ideal) (φ := .f32) _ x)
    ((congrArg _ (spread_unit (total Q K M))).trans (spread (total Q K M)))).trans ?_
  exact hostDivf_up3 _ _ fun h _ s _ _ _ => (total_pos Q K M h s).ne'

theorem hostOut_real : hostOut (up2 8192 256 Q) (up2 256 256 K) (up2 256 256 W)
    = up3 8192 4 64 fun s h d => ∑ j ∈ Finset.range 256, W j (64 * h + d) * weight Q K M h s j := by
  unfold hostOut
  rw [hostWeight_real Q K M hM,
    show headsOfMem (up2 256 256 W) = up3 256 4 64 fun s h d => W s (64 * h + d) from split_memory W]
  exact (congrArg (fun x => transpose S8192x4x64 [2, 0, 1] x transposes_S4x64x8192_S8192x4x64_2_0_1) (dot_output _ _)).trans (turn_output _)

theorem hostLse_real : hostLse (up2 8192 256 Q) (up2 256 256 K) = up2 8192 128 (logSum Q K M) := by
  unfold hostLse
  rw [show hostMax (up2 8192 256 Q) (up2 256 256 K) = up2 4 8192 M from hM, hostSum_real Q K M hM, hostLog_up2 _ fun h _ s _ => total_pos Q K M h s, addf_up2, turn_lse]
  exact padLanes_up2 _

theorem hostDelta_real : hostDelta (up2 8192 256 Q) (up2 256 256 K) (up2 256 256 W) (up2 8192 256 D) = up2 8192 128 (outGrad Q K W D M) := by
  unfold hostDelta
  rw [hostOut_real Q K W M hM,
    show headsOfRows (up2 8192 256 D) = up3 8192 4 64 fun s h d => D s (64 * h + d) from split_positions D,
    mulf_up3, sum_lanes]
  exact padLanes_up2 _

end

end Cert.MemAttn

end
-- ==== Proof.Equation.lean ====
/- The equation between the two ways: from the saved log-sum and the output's product with its gradient, the kernel's
   weights and score gradients are the reference's, and so are the three gradients. -/
module

public import proofs.«01_k».proof.Proof.Fold
public import proofs.«01_k».proof.Proof.Host

@[expose] public section

noncomputable section

namespace Cert.MemAttn

open Finset

variable (Q K W D M : ℕ → ℕ → ℝ)

theorem dotHead_comm (X Y : ℕ → ℕ → ℝ) (h i j : ℕ) : dotHead X Y h i j = dotHead Y X h j i :=
  sum_congr rfl fun _ _ => mul_comm _ _

/-- Subtracting the log-sum divides by the sum. -/
theorem prob_eq {h : ℕ} (hh : h < 4) (j s : ℕ) : prob K Q (logSum Q K M) h j s = weight Q K M h s j := by
  unfold prob logSum weight expo
  rw [if_pos hh, dotHead_comm K Q, ← sub_sub, Real.exp_sub, Real.exp_log (total_pos Q K M h s)]

/-- The output's product with its gradient is the weighted sum of the weights' gradients. -/
theorem outGrad_eq {h : ℕ} (hh : h < 4) (s : ℕ) :
    outGrad Q K W D M s h = ∑ k ∈ range 256, weight Q K M h s k * dotHead D W h s k := by
  unfold outGrad dotHead
  rw [if_pos hh]
  simp only [mul_sum]
  rw [sum_comm]
  exact sum_congr rfl fun _ _ => sum_congr rfl fun _ _ => by ring

theorem dscore_eq {h : ℕ} (hh : h < 4) (j s : ℕ) :
    dscore K Q W D (logSum Q K M) (outGrad Q K W D M) h j s = refScore Q K W D M h s j := by
  unfold dscore refScore
  rw [prob_eq Q K M hh, outGrad_eq Q K W D M hh, dotHead_comm W D]
  have hL := (total_pos Q K M h s).ne'
  have e : ∑ k ∈ range 256, dotHead D W h s k * (1 / (total Q K M h s * total Q K M h s)) * expo Q K M h s k
      = (∑ k ∈ range 256, weight Q K M h s k * dotHead D W h s k) / total Q K M h s := by
    rw [sum_div]
    refine sum_congr rfl fun k _ => ?_
    unfold weight
    field_simp
  rw [e]
  unfold weight
  field_simp
  ring

theorem own_lane (l : ℕ) : 64 * (l / 64) + l % 64 = l := by omega

theorem gradQ_eq : up2 8192 256 (gradQ Q K W D (logSum Q K M) (outGrad Q K W D M))
    = up2 8192 256 fun s l => ∑ j ∈ range 256, refScore Q K W D M (l / 64) s j * K j (64 * (l / 64) + l % 64) :=
  up2_congr fun s _ l hl => sum_congr rfl fun j _ => by
    rw [dscore_eq Q K W D M (by omega), own_lane, mul_comm]

theorem gradK_eq : up2 256 256 (gradK 8192 Q K W D (logSum Q K M) (outGrad Q K W D M))
    = up2 256 256 fun j l => ∑ s ∈ range 8192, refScore Q K W D M (l / 64) s j * Q s (64 * (l / 64) + l % 64) :=
  up2_congr fun j _ l hl => sum_congr rfl fun s _ => by
    rw [dscore_eq Q K W D M (by omega), own_lane]

theorem gradV_eq : up2 256 256 (gradV 8192 Q K D (logSum Q K M))
    = up2 256 256 fun j l => ∑ s ∈ range 8192, D s (64 * (l / 64) + l % 64) * weight Q K M (l / 64) s j :=
  up2_congr fun j _ l hl => sum_congr rfl fun s _ => by
    rw [prob_eq Q K M (by omega), own_lane, mul_comm]

end Cert.MemAttn

end
-- ==== Proof.Runs.lean ====
/- What the programs' runs give the claims: the reference's arguments and counters after a run, the facts of the
   precondition, and what the precondition says of the arguments. -/
module

public import proofs.«01_k».proof.Defs
public import proofs.«01_k».proof.Proof.Equation
public import proofs.«01_k».proof.Proof.Gen.ReferenceIdeal.Run
public import Idealize.ShloMosaic.Lib.Quiescent

@[expose] public section

noncomputable section

namespace Cert.MemAttn

open Idealize.ShloMosaic Idealize.ShloMosaic.TcCoe

/-- The facts the precondition's operations take. -/
theorem preFacts : Cert.Pre_finite.Facts where
  bitsLt_bf16_f32 := by decide
  bcast_S_S8192x256 := by decide +kernel
  bcast_S_S256x256 := by decide +kernel

/-- The reference leaves its arguments and every counter as it found them. -/
theorem referenceFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2.2.2, sem_eq_zero_of_no_sems rfl _⟩) (Cert.ReferenceIdeal.Value.run m g)

/-- A value below the infinity word in absolute value is a real number. -/
theorem real_of_bit (x : EReal)
    (h : Ideal.cmp .olt (max x (-x)) (FloatOps.ofBits (F := Ideal) .f32 0x7F800000#32) = 1#1) : ∃ r : ℝ, x = (r : EReal) := by
  rw [highest] at h
  induction x with
  | bot => simp [Ideal.cmp] at h
  | top => simp [Ideal.cmp] at h
  | coe r => exact ⟨r, rfl⟩

/-- The precondition says that every argument is an array of real numbers. -/
theorem arguments_real (q : Rows) (k w : Mem) (d : Rows)
    (h : (@Cert.Pre_finite.fn preFacts Ideal _ q k w d).1 = (fun _ => 1#1)
      ∧ (@Cert.Pre_finite.fn preFacts Ideal _ q k w d).2.1 = (fun _ => 1#1)
      ∧ (@Cert.Pre_finite.fn preFacts Ideal _ q k w d).2.2.1 = (fun _ => 1#1)
      ∧ (@Cert.Pre_finite.fn preFacts Ideal _ q k w d).2.2.2 = (fun _ => 1#1)) :
    ∃ Q K W D : ℕ → ℕ → ℝ, q = up2 8192 256 Q ∧ k = up2 256 256 K ∧ w = up2 256 256 W ∧ d = up2 8192 256 D := by
  obtain ⟨h0, h1, h2, h3⟩ := h
  obtain ⟨Q, hQ⟩ := exists_up2 q fun y => real_of_bit (q y) (congrFun h0 y)
  obtain ⟨K, hK⟩ := exists_up2 k fun y => real_of_bit (k y) (congrFun h1 y)
  obtain ⟨W, hW⟩ := exists_up2 w fun y => real_of_bit (w y) (congrFun h2 y)
  obtain ⟨D, hD⟩ := exists_up2 d fun y => real_of_bit (d y) (congrFun h3 y)
  exact ⟨Q, K, W, D, hQ, hK, hW, hD⟩

/-- The three gradients the reference computes are those the kernel's arrays hold after its run. -/
theorem gradients_agree (m : (ℓ : Loc Cert.KernelIdeal.nD Cert.KernelIdeal.τ Cert.KernelIdeal.sig) → Buf (Elt Ideal) ℓ) (c : Dev Cert.KernelIdeal.nD)
    (q : Rows) (k w : Mem) (d : Rows)
    (hq : m ((c.tc : Thread Cert.KernelIdeal.nD Cert.KernelIdeal.τ).loc Cert.KernelIdeal.main_arg0) = q)
    (hk : m ((c.tc : Thread Cert.KernelIdeal.nD Cert.KernelIdeal.τ).loc Cert.KernelIdeal.main_arg1) = k)
    (hw : m ((c.tc : Thread Cert.KernelIdeal.nD Cert.KernelIdeal.τ).loc Cert.KernelIdeal.main_arg2) = w)
    (hd : m ((c.tc : Thread Cert.KernelIdeal.nD Cert.KernelIdeal.τ).loc Cert.KernelIdeal.main_arg3) = d)
    (h : ∃ Q K W D : ℕ → ℕ → ℝ, q = up2 8192 256 Q ∧ k = up2 256 256 K ∧ w = up2 256 256 W ∧ d = up2 8192 256 D) :
    Cert.ReferenceIdeal.Read.val_main_v63 (F := Ideal) q k w d = Cert.KernelIdeal.Value.G6 m c
      ∧ Cert.ReferenceIdeal.Read.val_main_v61 (F := Ideal) q k w d = Cert.KernelIdeal.Value.G7 m c
      ∧ Cert.ReferenceIdeal.Read.val_main_v60 (F := Ideal) q k d = Cert.KernelIdeal.Value.G8 m c := by
  obtain ⟨Q, K, W, D, rfl, rfl, rfl, rfl⟩ := h
  obtain ⟨M, hM⟩ := stage7 Q K
  have a0 := (Cert.KernelIdeal.Gen.V_main_arg0 m c).trans hq
  have a1 := (Cert.KernelIdeal.Gen.V_main_arg1 m c).trans hk
  have a2 := (Cert.KernelIdeal.Gen.V_main_arg2 m c).trans hw
  have a3 := (Cert.KernelIdeal.Gen.V_main_arg3 m c).trans hd
  have a4 := region_lse m c
  rw [hq, hk] at a4
  have a5 := region_delta m c
  rw [hq, hk, hw, hd] at a5
  have b4 := a4.trans (hostLse_real Q K M hM)
  have b5 := a5.trans (hostDelta_real Q K W D M hM)
  refine ⟨?_, ?_, ?_⟩
  · rw [final_gradQ m c Q K W D _ _ a0 a1 a2 a3 b4 b5, gradQ_eq]
    exact stage63 Q K W D M hM
  · rw [final_gradK m c Q K W D _ _ a0 a1 a2 a3 b4 b5, gradK_eq]
    exact stage61 Q K W D M hM
  · rw [final_gradV m c Q K W D _ _ a0 a1 a2 a3 b4 b5, gradV_eq]
    exact stage60 Q K D M hM

/-- From equal finite arguments the kernel and the reference end with equal results. -/
theorem algebraic : @Cert.algebraic_KernelIdeal_ReferenceIdeal_pre_finite Cert.KernelIdeal.Gen.facts Cert.ReferenceIdeal.Gen.facts preFacts := by
  intro m g m' g' hpre hargs
  refine ⟨Cert.KernelIdeal.Value.G6 m, Cert.KernelIdeal.Value.G7 m, Cert.KernelIdeal.Value.G8 m, Cert.KernelIdeal.Value.run m g,
    (θ_run _ _ _).mono (fun r h c => ?_) (Cert.ReferenceIdeal.Value.run m' g')⟩
  obtain ⟨e0, e1, e2, e3⟩ := hargs c
  obtain ⟨r0, r1, r2, rest⟩ := h c
  obtain ⟨k0, k1, k2⟩ := gradients_agree m c _ _ _ _ e0.symm e1.symm e2.symm e3.symm
    (by rw [e0, e1, e2, e3]; exact arguments_real _ _ _ _ (hpre c))
  exact ⟨(r0.trans (Cert.ReferenceIdeal.Read.val_main_v63_eq m' c)).trans k0, (r1.trans (Cert.ReferenceIdeal.Read.val_main_v61_eq m' c)).trans k1,
    (r2.trans (Cert.ReferenceIdeal.Read.val_main_v60_eq _ _ _)).trans k2, rest⟩

end Cert.MemAttn

end
-- ==== Proof.LayerBlock.lean ====
module

public import proofs.«01_k».proof.Proof.Gen.Kernel2Ideal.Skeleton
public import Idealize.ShloMosaic.Lib.Pipeline.Value
public import Idealize.ShloMosaic.Lib.Pointwise

/-! # The projection's gradient: one block of rows

The matrices the body works on, element by element as extended reals, and the body's two stores as functions of them. -/

@[expose] public section

noncomputable section

namespace Cert.Layer

open Cert.Kernel2Ideal Cert.Kernel2Ideal.Gen Idealize.ShloMosaic

/-- The matrix whose element at row `i` and lane `j` is `f i j`. -/
def mat (a b : ℕ) (f : ℕ → ℕ → EReal) : (⟨2, ![a, b]⟩ : Shape).Idx → EReal := fun y => f (y 0).val (y 1).val

/-- The array whose element at `i`, `j`, `k` is `f i j k`. -/
def cube (a b c : ℕ) (f : ℕ → ℕ → ℕ → EReal) : (⟨3, ![a, b, c]⟩ : Shape).Idx → EReal :=
  fun y => f (y 0).val (y 1).val (y 2).val

/-- The gradient of a row of the projection's input: four products over the shards of the weights. -/
def du (P : ℕ → ℕ → EReal) (W : ℕ → ℕ → ℕ → EReal) (r d : ℕ) : EReal :=
  ∑ k : Fin 768, P r k * W 0 d k + ∑ k : Fin 768, P r (768 + k) * W 1 d k
    + ∑ k : Fin 768, P r (1536 + k) * W 2 d k + ∑ k : Fin 768, P r (2304 + k) * W 3 d k

/-- The mean square of a row, with the small constant. -/
def meanSq (X : ℕ → ℕ → EReal) (r : ℕ) : EReal :=
  Ideal.div (∑ k : Fin 1024, X r k * X r k) (Ideal.ofBits .f32 0x44800000#32) + Ideal.ofBits .f32 0x358637BD#32

/-- The normalised row. -/
def xhat (X : ℕ → ℕ → EReal) (r d : ℕ) : EReal := X r d * Ideal.rsqrt (meanSq X r)

/-- The gradient of a row: what comes past the normalisation, and what the normalisation lets through. -/
def gradRow (D X G N : ℕ → ℕ → EReal) (r d : ℕ) : EReal :=
  G r d + Ideal.rsqrt (meanSq X r) * (D r d * N 0 d - xhat X r d
    * Ideal.div (∑ k : Fin 1024, D r k * N 0 k * xhat X r k) (Ideal.ofBits .f32 0x44800000#32))

/-- The reciprocal root of a row's mean square. -/
theorem pay_root (X : ℕ → ℕ → EReal) :
    k0_pay1 (F := Ideal) (k0_pay7 (F := Ideal) (mat 512 1024 X)) = mat 512 1 fun r _ => Ideal.rsqrt (meanSq X r) := by
  funext y
  pointwise [k0_pay1, k0_pay7]
  rfl

/-- The four products and their sum. -/
theorem pay_du (P₀ P₁ P₂ P₃ : ℕ → ℕ → EReal) (W₀ W₁ W₂ W₃ : ℕ → ℕ → ℕ → EReal) :
    k0_pay6 (F := Ideal) (mat 512 768 P₀) (cube 1 1024 768 W₀) (mat 512 768 P₁) (cube 1 1024 768 W₁) (mat 512 768 P₂) (cube 1 1024 768 W₂)
        (mat 512 768 P₃) (cube 1 1024 768 W₃)
      = mat 512 1024 fun r d => ∑ k : Fin 768, P₀ r k * W₀ 0 d k + ∑ k : Fin 768, P₁ r k * W₁ 0 d k
          + ∑ k : Fin 768, P₂ r k * W₂ 0 d k + ∑ k : Fin 768, P₃ r k * W₃ 0 d k := by
  funext y
  pointwise [k0_pay6]
  rfl

/-- The gradient of the scale, a block of rows further. -/
theorem pay_scale (D X G : ℕ → ℕ → EReal) :
    k0_pay3 (F := Ideal) (mat 512 1024 D) (mat 512 1024 X) (k0_pay7 (F := Ideal) (mat 512 1024 X)) (mat 1 1024 G)
      = mat 1 1024 fun r d => G r d + ∑ k : Fin 512, D k d * xhat X k d := by
  funext y
  have h0 : (y 0).val = 0 := by have := (y 0).isLt; simp at this; omega
  pointwise [k0_pay3, k0_pay2]
  rw [pay_root]
  rfl

/-- The gradient of the rows. -/
theorem pay_rows (D X G N : ℕ → ℕ → EReal) :
    k0_pay4 (F := Ideal) (mat 512 1024 D) (mat 512 1024 X) (k0_pay7 (F := Ideal) (mat 512 1024 X)) (mat 1 1024 N) (mat 512 1024 G)
      = mat 512 1024 (gradRow D X G N) := by
  funext y
  pointwise [k0_pay4, k0_pay2]
  rw [pay_root]
  rfl

end Cert.Layer

end
-- ==== Proof.LayerBody.lean ====
module

public import proofs.«01_k».proof.Proof.LayerBlock
public import proofs.«01_k».proof.Proof.Gen.Kernel2Ideal.Frame

/-! # The projection's gradient: the body's outputs at a point -/

@[expose] public section

noncomputable section

namespace Cert.Layer

open Cert.Kernel2Ideal Cert.Kernel2Ideal.Gen Idealize.ShloMosaic

/-! ## What the body reads -/

theorem corner : (![0, 0] : Fin 2 → ℕ) = fun _ => 0 := by decide

theorem read_rows (v : Memref sig .tc .vmem S512x1024 .f32) (hv : v.IsWhole) (X : ℕ → ℕ → EReal) :
    View.readAt (Elt Ideal) v.view (Rect.unit (s := S512x1024) ![0, 0] S512x1024.size inb_S512x1024_S512x1024_0_0).toLoadRect (hv.unread (mat 512 1024 X)) = mat 512 1024 X := by
  rw [View.readAt_eq_ld, hv.read_unread]
  exact View.ld_unit_zero corner _ _

theorem read_lane (v : Memref sig .tc .vmem S1x1024 .f32) (hv : v.IsWhole) (N : ℕ → ℕ → EReal) :
    View.readAt (Elt Ideal) v.view (Rect.unit (s := S1x1024) ![0, 0] S1x1024.size inb_S1x1024_S1x1024_0_0).toLoadRect (hv.unread (mat 1 1024 N)) = mat 1 1024 N := by
  rw [View.readAt_eq_ld, hv.read_unread]
  exact View.ld_unit_zero corner _ _

theorem read_part (v : Memref sig .tc .vmem S512x3072 .bf16) (hv : v.IsWhole) (P : ℕ → ℕ → EReal) (q : ℕ) (inb) :
    View.readAt (Elt Ideal) v.view (Rect.unit (s := S512x3072) ![0, q] S512x768.size inb).toLoadRect (hv.unread (mat 512 3072 P)) = mat 512 768 fun i k => P i (q + k) := by
  rw [View.readAt_eq_ld, hv.read_unread]
  funext y
  have h0 : ((Rect.unit (s := S512x3072) ![0, q] S512x768.size inb).emb y 0).val = 0 + 1 * (y 0).val := rfl
  have h1 : ((Rect.unit (s := S512x3072) ![0, q] S512x768.size inb).emb y 1).val = q + 1 * (y 1).val := rfl
  show P ((Rect.unit (s := S512x3072) ![0, q] S512x768.size inb).emb y 0).val ((Rect.unit (s := S512x3072) ![0, q] S512x768.size inb).emb y 1).val = P (y 0).val (q + (y 1).val)
  rw [h0, h1, Nat.one_mul, Nat.one_mul, Nat.zero_add]

theorem read_shard (v : Memref sig .tc .vmem S4x1024x768 .bf16) (hv : v.IsWhole) (W : ℕ → ℕ → ℕ → EReal) (j : ℕ) (inb) :
    View.readAt (Elt Ideal) v.view (Rect.unit (s := S4x1024x768) ![j, 0, 0] S1x1024x768.size inb).toLoadRect (hv.unread (cube 4 1024 768 W)) = cube 1 1024 768 fun i d k => W (j + i) d k := by
  rw [View.readAt_eq_ld, hv.read_unread]
  funext y
  have h0 : ((Rect.unit (s := S4x1024x768) ![j, 0, 0] S1x1024x768.size inb).emb y 0).val = j + 1 * (y 0).val := rfl
  have h1 : ((Rect.unit (s := S4x1024x768) ![j, 0, 0] S1x1024x768.size inb).emb y 1).val = 0 + 1 * (y 1).val := rfl
  have h2 : ((Rect.unit (s := S4x1024x768) ![j, 0, 0] S1x1024x768.size inb).emb y 2).val = 0 + 1 * (y 2).val := rfl
  show W ((Rect.unit (s := S4x1024x768) ![j, 0, 0] S1x1024x768.size inb).emb y 0).val ((Rect.unit (s := S4x1024x768) ![j, 0, 0] S1x1024x768.size inb).emb y 1).val ((Rect.unit (s := S4x1024x768) ![j, 0, 0] S1x1024x768.size inb).emb y 2).val = W (j + (y 0).val) (y 1).val (y 2).val
  rw [h0, h1, h2, Nat.one_mul, Nat.one_mul, Nat.one_mul, Nat.zero_add, Nat.zero_add]

/-- The four products over what the body reads of the two operands. -/
theorem read_du (a : Memref sig .tc .vmem S512x3072 .bf16) (ha : a.IsWhole) (w : Memref sig .tc .vmem S4x1024x768 .bf16) (hw : w.IsWhole)
    (P : ℕ → ℕ → EReal) (W : ℕ → ℕ → ℕ → EReal) :
    k0_pay6 (F := Ideal)
        (View.readAt (Elt Ideal) a.view (Rect.unit (s := S512x3072) ![0, 0] S512x768.size inb_S512x3072_S512x768_0_0).toLoadRect (ha.unread (mat 512 3072 P)))
        (View.readAt (Elt Ideal) w.view (Rect.unit (s := S4x1024x768) ![0, 0, 0] S1x1024x768.size inb_S4x1024x768_S1x1024x768_0_0_0).toLoadRect (hw.unread (cube 4 1024 768 W)))
        (View.readAt (Elt Ideal) a.view (Rect.unit (s := S512x3072) ![0, 768] S512x768.size inb_S512x3072_S512x768_0_768).toLoadRect (ha.unread (mat 512 3072 P)))
        (View.readAt (Elt Ideal) w.view (Rect.unit (s := S4x1024x768) ![1, 0, 0] S1x1024x768.size inb_S4x1024x768_S1x1024x768_1_0_0).toLoadRect (hw.unread (cube 4 1024 768 W)))
        (View.readAt (Elt Ideal) a.view (Rect.unit (s := S512x3072) ![0, 1536] S512x768.size inb_S512x3072_S512x768_0_1536).toLoadRect (ha.unread (mat 512 3072 P)))
        (View.readAt (Elt Ideal) w.view (Rect.unit (s := S4x1024x768) ![2, 0, 0] S1x1024x768.size inb_S4x1024x768_S1x1024x768_2_0_0).toLoadRect (hw.unread (cube 4 1024 768 W)))
        (View.readAt (Elt Ideal) a.view (Rect.unit (s := S512x3072) ![0, 2304] S512x768.size inb_S512x3072_S512x768_0_2304).toLoadRect (ha.unread (mat 512 3072 P)))
        (View.readAt (Elt Ideal) w.view (Rect.unit (s := S4x1024x768) ![3, 0, 0] S1x1024x768.size inb_S4x1024x768_S1x1024x768_3_0_0).toLoadRect (hw.unread (cube 4 1024 768 W)))
      = mat 512 1024 (du P W) := by
  rw [read_part, read_part, read_part, read_part, read_shard, read_shard, read_shard, read_shard, pay_du]
  simp only [Nat.zero_add, Nat.add_zero]
  rfl

/-- The zeroed row, read back. -/
theorem read_zero (v : View sig .tc .vmem S1x1024 .f32) :
    v.readCov [(⟨Rect.unit (s := S1x1024) ![0, 0] S1x1024.size inb_S1x1024_S1x1024_0_0, k0_pay5 (F := Ideal)⟩ : View.Piece (Elt Ideal) S1x1024 .f32)]
      (Rect.unit (s := S1x1024) ![0, 0] S1x1024.size inb_S1x1024_S1x1024_0_0).toLoadRect = mat 1 1024 fun _ _ => 0 := by
  rw [View.readCov_unit_zero (Val := Elt Ideal) v corner]
  funext y
  pointwise [k0_pay5]
  rfl

/-! ## What the body leaves -/

theorem A0_rows (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x1024x768 .bf16) (harg4 : arg4.IsWhole) (arg5 : Memref sig .tc .vmem S512x3072 .bf16) (harg5 : arg5.IsWhole) (arg7 : Memref sig .tc .vmem S512x1024 .f32) (harg7 : arg7.IsWhole) (arg8 : Memref sig .tc .vmem S1x1024 .f32) (harg8 : arg8.IsWhole) (hc0 : cond0_0 i)
    (X G N P : ℕ → ℕ → EReal) (W : ℕ → ℕ → ℕ → EReal) :
    out0_A_5 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) = mat 512 1024 (gradRow (du P W) X G N) := by
  unfold out0_A_5
  rw [View.read_writes_eq_canon _ _ _ (cover0_A_5 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P))]
  unfold kernelRun0_A
  dsimp only
  sl_unfold_words
  refine (View.canon_cons_unit_zero (Val := Elt Ideal) corner _ _ _).trans ?_
  refine Eq.trans ?_ (pay_rows (du P W) X G N)
  exact congr (congr (congrArg₂ (fun a b => k0_pay4 (F := Ideal) a b (k0_pay7 (F := Ideal) b)) (read_du arg5 harg5 arg4 harg4 P W) (read_rows arg1 harg1 X)) (read_lane arg3 harg3 N)) (read_rows arg2 harg2 G)

theorem A0_scale (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x1024x768 .bf16) (harg4 : arg4.IsWhole) (arg5 : Memref sig .tc .vmem S512x3072 .bf16) (harg5 : arg5.IsWhole) (arg7 : Memref sig .tc .vmem S512x1024 .f32) (harg7 : arg7.IsWhole) (arg8 : Memref sig .tc .vmem S1x1024 .f32) (harg8 : arg8.IsWhole) (hc0 : cond0_0 i)
    (X G N P : ℕ → ℕ → EReal) (W : ℕ → ℕ → ℕ → EReal) :
    out0_A_6 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) = mat 1 1024 fun r d => 0 + ∑ k : Fin 512, du P W k d * xhat X k d := by
  unfold out0_A_6
  rw [View.read_writes_eq_canon _ _ _ (cover0_A_6 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P))]
  unfold kernelRun0_A
  dsimp only
  sl_unfold_words
  refine (View.canon_cons_unit_zero (Val := Elt Ideal) corner _ _ _).trans ?_
  refine Eq.trans ?_ (pay_scale (du P W) X fun _ _ => 0)
  exact congr (congrArg₂ (fun a b => k0_pay3 (F := Ideal) a b (k0_pay7 (F := Ideal) b)) (read_du arg5 harg5 arg4 harg4 P W) (read_rows arg1 harg1 X)) (read_zero arg8.view)

theorem B0_rows (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x1024x768 .bf16) (harg4 : arg4.IsWhole) (arg5 : Memref sig .tc .vmem S512x3072 .bf16) (harg5 : arg5.IsWhole) (arg7 : Memref sig .tc .vmem S512x1024 .f32) (harg7 : arg7.IsWhole) (arg8 : Memref sig .tc .vmem S1x1024 .f32) (harg8 : arg8.IsWhole) (hc0 : ¬cond0_0 i)
    (X G N P S : ℕ → ℕ → EReal) (W : ℕ → ℕ → ℕ → EReal) :
    out0_B_5 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) (mat 1 1024 S) = mat 512 1024 (gradRow (du P W) X G N) := by
  unfold out0_B_5
  rw [View.read_writes_eq_canon _ _ _ (cover0_B_5 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) (mat 1 1024 S))]
  unfold kernelRun0_B
  dsimp only
  sl_unfold_words
  refine (View.canon_cons_unit_zero (Val := Elt Ideal) corner _ _ _).trans ?_
  refine Eq.trans ?_ (pay_rows (du P W) X G N)
  exact congr (congr (congrArg₂ (fun a b => k0_pay4 (F := Ideal) a b (k0_pay7 (F := Ideal) b)) (read_du arg5 harg5 arg4 harg4 P W) (read_rows arg1 harg1 X)) (read_lane arg3 harg3 N)) (read_rows arg2 harg2 G)

theorem B0_scale (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x1024x768 .bf16) (harg4 : arg4.IsWhole) (arg5 : Memref sig .tc .vmem S512x3072 .bf16) (harg5 : arg5.IsWhole) (arg7 : Memref sig .tc .vmem S512x1024 .f32) (harg7 : arg7.IsWhole) (arg8 : Memref sig .tc .vmem S1x1024 .f32) (harg8 : arg8.IsWhole) (hc0 : ¬cond0_0 i)
    (X G N P S : ℕ → ℕ → EReal) (W : ℕ → ℕ → ℕ → EReal) :
    out0_B_6 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) (mat 1 1024 S) = mat 1 1024 fun r d => S r d + ∑ k : Fin 512, du P W k d * xhat X k d := by
  unfold out0_B_6
  rw [View.read_writes_eq_canon _ _ _ (cover0_B_6 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) (mat 1 1024 S))]
  unfold kernelRun0_B
  dsimp only
  sl_unfold_words
  refine (View.canon_cons_unit_zero (Val := Elt Ideal) corner _ _ _).trans ?_
  refine Eq.trans ?_ (pay_scale (du P W) X S)
  exact congr (congrArg₂ (fun a b => k0_pay3 (F := Ideal) a b (k0_pay7 (F := Ideal) b)) (read_du arg5 harg5 arg4 harg4 P W) (read_rows arg1 harg1 X)) (read_lane arg8 harg8 S)

theorem A1_rows (c : Dev nD) (i : grid1.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x1024x768 .bf16) (harg4 : arg4.IsWhole) (arg5 : Memref sig .tc .vmem S512x3072 .bf16) (harg5 : arg5.IsWhole) (arg7 : Memref sig .tc .vmem S512x1024 .f32) (harg7 : arg7.IsWhole) (arg8 : Memref sig .tc .vmem S1x1024 .f32) (harg8 : arg8.IsWhole) (hc0 : cond1_0 i)
    (X G N P : ℕ → ℕ → EReal) (W : ℕ → ℕ → ℕ → EReal) :
    out1_A_5 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) = mat 512 1024 (gradRow (du P W) X G N) := by
  unfold out1_A_5
  rw [View.read_writes_eq_canon _ _ _ (cover1_A_5 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P))]
  unfold kernelRun1_A
  dsimp only
  sl_unfold_words
  refine (View.canon_cons_unit_zero (Val := Elt Ideal) corner _ _ _).trans ?_
  refine Eq.trans ?_ (pay_rows (du P W) X G N)
  exact congr (congr (congrArg₂ (fun a b => k0_pay4 (F := Ideal) a b (k0_pay7 (F := Ideal) b)) (read_du arg5 harg5 arg4 harg4 P W) (read_rows arg1 harg1 X)) (read_lane arg3 harg3 N)) (read_rows arg2 harg2 G)

theorem A1_scale (c : Dev nD) (i : grid1.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x1024x768 .bf16) (harg4 : arg4.IsWhole) (arg5 : Memref sig .tc .vmem S512x3072 .bf16) (harg5 : arg5.IsWhole) (arg7 : Memref sig .tc .vmem S512x1024 .f32) (harg7 : arg7.IsWhole) (arg8 : Memref sig .tc .vmem S1x1024 .f32) (harg8 : arg8.IsWhole) (hc0 : cond1_0 i)
    (X G N P : ℕ → ℕ → EReal) (W : ℕ → ℕ → ℕ → EReal) :
    out1_A_6 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) = mat 1 1024 fun r d => 0 + ∑ k : Fin 512, du P W k d * xhat X k d := by
  unfold out1_A_6
  rw [View.read_writes_eq_canon _ _ _ (cover1_A_6 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P))]
  unfold kernelRun1_A
  dsimp only
  sl_unfold_words
  refine (View.canon_cons_unit_zero (Val := Elt Ideal) corner _ _ _).trans ?_
  refine Eq.trans ?_ (pay_scale (du P W) X fun _ _ => 0)
  exact congr (congrArg₂ (fun a b => k0_pay3 (F := Ideal) a b (k0_pay7 (F := Ideal) b)) (read_du arg5 harg5 arg4 harg4 P W) (read_rows arg1 harg1 X)) (read_zero arg8.view)

theorem B1_rows (c : Dev nD) (i : grid1.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x1024x768 .bf16) (harg4 : arg4.IsWhole) (arg5 : Memref sig .tc .vmem S512x3072 .bf16) (harg5 : arg5.IsWhole) (arg7 : Memref sig .tc .vmem S512x1024 .f32) (harg7 : arg7.IsWhole) (arg8 : Memref sig .tc .vmem S1x1024 .f32) (harg8 : arg8.IsWhole) (hc0 : ¬cond1_0 i)
    (X G N P S : ℕ → ℕ → EReal) (W : ℕ → ℕ → ℕ → EReal) :
    out1_B_5 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) (mat 1 1024 S) = mat 512 1024 (gradRow (du P W) X G N) := by
  unfold out1_B_5
  rw [View.read_writes_eq_canon _ _ _ (cover1_B_5 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) (mat 1 1024 S))]
  unfold kernelRun1_B
  dsimp only
  sl_unfold_words
  refine (View.canon_cons_unit_zero (Val := Elt Ideal) corner _ _ _).trans ?_
  refine Eq.trans ?_ (pay_rows (du P W) X G N)
  exact congr (congr (congrArg₂ (fun a b => k0_pay4 (F := Ideal) a b (k0_pay7 (F := Ideal) b)) (read_du arg5 harg5 arg4 harg4 P W) (read_rows arg1 harg1 X)) (read_lane arg3 harg3 N)) (read_rows arg2 harg2 G)

theorem B1_scale (c : Dev nD) (i : grid1.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x1024x768 .bf16) (harg4 : arg4.IsWhole) (arg5 : Memref sig .tc .vmem S512x3072 .bf16) (harg5 : arg5.IsWhole) (arg7 : Memref sig .tc .vmem S512x1024 .f32) (harg7 : arg7.IsWhole) (arg8 : Memref sig .tc .vmem S1x1024 .f32) (harg8 : arg8.IsWhole) (hc0 : ¬cond1_0 i)
    (X G N P S : ℕ → ℕ → EReal) (W : ℕ → ℕ → ℕ → EReal) :
    out1_B_6 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) (mat 1 1024 S) = mat 1 1024 fun r d => S r d + ∑ k : Fin 512, du P W k d * xhat X k d := by
  unfold out1_B_6
  rw [View.read_writes_eq_canon _ _ _ (cover1_B_6 (F := Ideal) c i arg1 harg1 arg2 harg2 arg3 harg3 arg4 harg4 arg5 harg5 arg7 harg7 arg8 harg8 hc0 (mat 512 1024 X) (mat 512 1024 G) (mat 1 1024 N) (cube 4 1024 768 W) (mat 512 3072 P) (mat 1 1024 S))]
  unfold kernelRun1_B
  dsimp only
  sl_unfold_words
  refine (View.canon_cons_unit_zero (Val := Elt Ideal) corner _ _ _).trans ?_
  refine Eq.trans ?_ (pay_scale (du P W) X S)
  exact congr (congrArg₂ (fun a b => k0_pay3 (F := Ideal) a b (k0_pay7 (F := Ideal) b)) (read_du arg5 harg5 arg4 harg4 P W) (read_rows arg1 harg1 X)) (read_lane arg8 harg8 S)

end Cert.Layer

end
-- ==== Proof.LayerFold.lean ====
module

public import proofs.«01_k».proof.Proof.LayerBody

/-! # The projection's gradient: the arrays after each of the two passes

The first pass runs over the first two blocks of 512 rows, the second over the other fourteen. -/

@[expose] public section

noncomputable section

namespace Cert.Layer

open Cert.Kernel2Ideal Cert.Kernel2Ideal.Gen Idealize.ShloMosaic Idealize.ShloMosaic.TcCoe Idealize.SL.Sem

/-- Rows of a matrix, `512` at a time: block `n`. -/
def rows (n : ℕ) (X : ℕ → ℕ → EReal) : ℕ → ℕ → EReal := fun i j => X (512 * n + i) j

theorem gradRow_rows (P X G N : ℕ → ℕ → EReal) (W : ℕ → ℕ → ℕ → EReal) (n : ℕ) :
    gradRow (du (rows n P) W) (rows n X) (rows n G) N = rows n (gradRow (du P W) X G N) := rfl

/-- The gradient of the scale over `n` blocks of rows from block `o` on. -/
def gradScale (P X : ℕ → ℕ → EReal) (W : ℕ → ℕ → ℕ → EReal) (o n d : ℕ) : EReal :=
  ∑ s ∈ Finset.range n, ∑ k : Fin 512, du P W (512 * (o + s) + k) d * xhat X (512 * (o + s) + k) d

theorem gradScale_step (P X : ℕ → ℕ → EReal) (W : ℕ → ℕ → ℕ → EReal) (o n d : ℕ) :
    gradScale P X W o n d + ∑ k : Fin 512, du (rows (n + o) P) W k d * xhat (rows (n + o) X) k d = gradScale P X W o (n + 1) d := by
  rw [Nat.add_comm n o]
  exact (Finset.sum_range_succ (fun s => ∑ k : Fin 512, du P W (512 * (o + s) + k) d * xhat X (512 * (o + s) + k) d) n).symm

/-! ## Pass 1 -/

/-- The place of every window's block at a point: a window over rows moves with the point, the others stay. -/
theorem places0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

section

variable (V : (c : Dev nD) → (b : Ref sig .tc) → Buf (Elt Ideal) ((c : Thread nD τ).loc b)) (c : Dev nD)

/-- The point's block of the rows. -/
theorem block0_0 (M : ℕ → ℕ → EReal) (h : V c main_arg0 = mat 8192 1024 M) (t : Fin cfg0.N) :
    iblk0 V c 0 t = mat 512 1024 (rows (t.val) M) := by
  funext y
  show V c main_arg0 (((cfg0.win 0).blk t).view.emb y) = _
  rw [h]
  have h0 : (((cfg0.win 0).blk t).view.emb y 0).val = win0_0.index t (0 : Fin 2) * 512 + 1 * (y 0).val := rfl
  have h1 : (((cfg0.win 0).blk t).view.emb y 1).val = win0_0.index t (1 : Fin 2) * 1024 + 1 * (y 1).val := rfl
  show M (((cfg0.win 0).blk t).view.emb y 0).val (((cfg0.win 0).blk t).view.emb y 1).val = M (512 * (t.val) + (y 0).val) (y 1).val
  rw [h0, h1, (places0 t).1.1, (places0 t).1.2]
  exact congrArg₂ M (by omega) (by omega)

/-- The point's block of the gradient past the normalisation. -/
theorem block0_1 (M : ℕ → ℕ → EReal) (h : V c main_arg1 = mat 8192 1024 M) (t : Fin cfg0.N) :
    iblk0 V c 1 t = mat 512 1024 (rows (t.val) M) := by
  funext y
  show V c main_arg1 (((cfg0.win 1).blk t).view.emb y) = _
  rw [h]
  have h0 : (((cfg0.win 1).blk t).view.emb y 0).val = win0_1.index t (0 : Fin 2) * 512 + 1 * (y 0).val := rfl
  have h1 : (((cfg0.win 1).blk t).view.emb y 1).val = win0_1.index t (1 : Fin 2) * 1024 + 1 * (y 1).val := rfl
  show M (((cfg0.win 1).blk t).view.emb y 0).val (((cfg0.win 1).blk t).view.emb y 1).val = M (512 * (t.val) + (y 0).val) (y 1).val
  rw [h0, h1, (places0 t).2.1.1, (places0 t).2.1.2]
  exact congrArg₂ M (by omega) (by omega)

/-- The point's block of the output's gradient. -/
theorem block0_4 (M : ℕ → ℕ → EReal) (h : V c main_arg4 = mat 8192 3072 M) (t : Fin cfg0.N) :
    iblk0 V c 4 t = mat 512 3072 (rows (t.val) M) := by
  funext y
  show V c main_arg4 (((cfg0.win 4).blk t).view.emb y) = _
  rw [h]
  have h0 : (((cfg0.win 4).blk t).view.emb y 0).val = win0_4.index t (0 : Fin 2) * 512 + 1 * (y 0).val := rfl
  have h1 : (((cfg0.win 4).blk t).view.emb y 1).val = win0_4.index t (1 : Fin 2) * 3072 + 1 * (y 1).val := rfl
  show M (((cfg0.win 4).blk t).view.emb y 0).val (((cfg0.win 4).blk t).view.emb y 1).val = M (512 * (t.val) + (y 0).val) (y 1).val
  rw [h0, h1, (places0 t).2.2.2.2.1.1, (places0 t).2.2.2.2.1.2]
  exact congrArg₂ M (by omega) (by omega)

/-- The scale, whole at every point. -/
theorem block0_2 (M : ℕ → ℕ → EReal) (h : V c main_arg2 = mat 1 1024 M) (t : Fin cfg0.N) :
    iblk0 V c 2 t = mat 1 1024 M := by
  funext y
  show V c main_arg2 (((cfg0.win 2).blk t).view.emb y) = _
  rw [h]
  have h0 : (((cfg0.win 2).blk t).view.emb y 0).val = win0_2.index t (0 : Fin 2) * 1 + 1 * (y 0).val := rfl
  have h1 : (((cfg0.win 2).blk t).view.emb y 1).val = win0_2.index t (1 : Fin 2) * 1024 + 1 * (y 1).val := rfl
  show M (((cfg0.win 2).blk t).view.emb y 0).val (((cfg0.win 2).blk t).view.emb y 1).val = M (y 0).val (y 1).val
  rw [h0, h1, (places0 t).2.2.1.1, (places0 t).2.2.1.2]
  exact congrArg₂ M (by omega) (by omega)

/-- The shards of the weights, whole at every point. -/
theorem block0_3 (M : ℕ → ℕ → ℕ → EReal) (h : V c main_arg3 = cube 4 1024 768 M) (t : Fin cfg0.N) :
    iblk0 V c 3 t = cube 4 1024 768 M := by
  funext y
  show V c main_arg3 (((cfg0.win 3).blk t).view.emb y) = _
  rw [h]
  have h0 : (((cfg0.win 3).blk t).view.emb y 0).val = win0_3.index t (0 : Fin 3) * 4 + 1 * (y 0).val := rfl
  have h1 : (((cfg0.win 3).blk t).view.emb y 1).val = win0_3.index t (1 : Fin 3) * 1024 + 1 * (y 1).val := rfl
  have h2 : (((cfg0.win 3).blk t).view.emb y 2).val = win0_3.index t (2 : Fin 3) * 768 + 1 * (y 2).val := rfl
  show M (((cfg0.win 3).blk t).view.emb y 0).val (((cfg0.win 3).blk t).view.emb y 1).val (((cfg0.win 3).blk t).view.emb y 2).val = M (y 0).val (y 1).val (y 2).val
  rw [h0, h1, h2, (places0 t).2.2.2.1.1, (places0 t).2.2.2.1.2.1, (places0 t).2.2.2.1.2.2]
  rw [show 0 * 4 + 1 * (y 0).val = (y 0).val by omega, show 0 * 1024 + 1 * (y 1).val = (y 1).val by omega, show 0 * 768 + 1 * (y 2).val = (y 2).val by omega]

variable (X G N P : ℕ → ℕ → EReal) (W : ℕ → ℕ → ℕ → EReal)
  (hX : V c main_arg0 = mat 8192 1024 X) (hG : V c main_arg1 = mat 8192 1024 G) (hN : V c main_arg2 = mat 1 1024 N)
  (hW : V c main_arg3 = cube 4 1024 768 W) (hP : V c main_arg4 = mat 8192 3072 P)

include hX hG hN hW hP

/-- What the outputs hold after point `n`. -/
theorem after_point0 : ∀ (n : ℕ) (hn : n < cfg0.N), outsAt0 V c n hn
    = (mat 512 1024 (rows (n + 0) (gradRow (du P W) X G N)), mat 1 1024 fun _ d => gradScale P X W 0 (n + 1) d) := by
  intro n
  induction n with
  | zero =>
    intro hn
    rw [outsAt0_A V c ⟨0, hn⟩ rfl]
    rw [block0_0 V c X hX, block0_1 V c G hG, block0_2 V c N hN, block0_3 V c W hW, block0_4 V c P hP]
    rw [A0_rows, A0_scale]
    refine congrArg₂ Prod.mk rfl (congrArg (mat 1 1024) ?_)
    funext i d
    rw [← gradScale_step]
    exact congrArg (· + _) (Finset.sum_range_zero _).symm
  | succ n ih =>
    intro hn
    have h0 : ¬(n + 1) % 2 = 0 := by
      have := lt_of_lt_of_eq hn (show cfg0.N = 2 from N_0)
      omega
    rw [outsAt0_B V c ⟨n + 1, hn⟩ h0]
    have e : outsAt0 V c (n + 1 - 1) (Nat.lt_of_le_of_lt (Nat.sub_le _ _) hn) = _ := ih (Nat.lt_of_succ_lt hn)
    simp only [e]
    rw [block0_0 V c X hX, block0_1 V c G hG, block0_2 V c N hN, block0_3 V c W hW, block0_4 V c P hP]
    rw [B0_rows, B0_scale]
    refine congrArg₂ Prod.mk rfl (congrArg (mat 1 1024) ?_)
    funext i d
    exact gradScale_step P X W 0 (n + 1) d

omit hX hG hN hW hP

theorem apart0_5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne
    ((by decide +kernel : ∀ t t' : Fin grid0.N, win0_5.index t = win0_5.index t' → t = t') t t' h)

/-- Every point writes its block of rows back. -/
theorem flush0_5 : ∀ t : Fin cfg0.N, (cfg0.win 5).flush t = true := (by decide +kernel : ∀ t : Fin grid0.N, win0_5.flush t = true)

/-- Only the last point writes the scale's gradient back. -/
theorem flush0_6 : ∀ t : Fin cfg0.N, (cfg0.win 6).flush t = true ↔ t.val = 1 :=
  (by decide +kernel : ∀ t : Fin grid0.N, win0_6.flush t = true ↔ t.val = 1)

theorem apart0_6 : ∀ t t' : Fin cfg0.N, (cfg0.win 6).flush t = true → (cfg0.win 6).flush t' = true → t ≠ t' →
    Disjoint ((cfg0.win 6).blk t).view.set ((cfg0.win 6).blk t').view.set :=
  fun t t' h h' hne => absurd (Fin.ext (((flush0_6 t).1 h).trans ((flush0_6 t').1 h').symm)) hne

include hX hG hN hW hP

/-- The rows the pass covers, after it. -/
theorem final0_rows (i : S8192x1024.Idx) (hi : 0 ≤ (i 0).val) (hj : (i 0).val < 1024) :
    (dat0 V c).arrAt 5 cfg0.N i = gradRow (du P W) X G N (i 0).val (i 1).val := by
  have h1 : (i 1).val < 1024 := (i 1).isLt
  have hlt : (i 0).val / 512 - 0 < cfg0.N := lt_of_lt_of_eq (by omega) (show 2 = cfg0.N from N_0.symm)
  have e := (dat0 V c).read_blk_arrAt_eq_flushed 5 apart0_5 cfg0.N ⟨_, hlt⟩ hlt (flush0_5 _)
  have f : (dat0 V c).flushed 5 ⟨_, hlt⟩ = mat 512 1024 (rows ((i 0).val / 512 - 0 + 0) (gradRow (du P W) X G N)) := by
    show (cfg0.win 5).cut (grid0.coords ⟨_, hlt⟩) ((dat0 V c).after 5 ⟨_, hlt⟩) = _
    rw [after0_5, after_point0 V c X G N P W hX hG hN hW hP]
    rfl
  rw [f] at e
  have e' := congrFun e (ValueIdx.ix2 (n0 := 512) (n1 := 1024) ⟨(i 0).val % 512, Nat.mod_lt _ (by decide)⟩ ⟨(i 1).val, h1⟩)
  have hi' : ((cfg0.win 5).blk ⟨_, hlt⟩).view.emb (ValueIdx.ix2 (n0 := 512) (n1 := 1024) ⟨(i 0).val % 512, Nat.mod_lt _ (by decide)⟩ ⟨(i 1).val, h1⟩) = i := by
    funext a
    fin_cases a
    · apply Fin.ext
      show win0_5.index ⟨_, hlt⟩ (0 : Fin 2) * 512 + 1 * ((i 0).val % 512) = (i 0).val
      rw [(places0 ⟨_, hlt⟩).2.2.2.2.2.1.1]
      show ((i 0).val / 512 - 0) * 512 + 1 * ((i 0).val % 512) = (i 0).val
      omega
    · apply Fin.ext
      show win0_5.index ⟨_, hlt⟩ (1 : Fin 2) * 1024 + 1 * (i 1).val = (i 1).val
      rw [(places0 ⟨_, hlt⟩).2.2.2.2.2.1.2]
      omega
  have e'' : (dat0 V c).arrAt 5 cfg0.N (((cfg0.win 5).blk ⟨_, hlt⟩).view.emb (ValueIdx.ix2 (n0 := 512) (n1 := 1024) ⟨(i 0).val % 512, Nat.mod_lt _ (by decide)⟩ ⟨(i 1).val, h1⟩))
      = gradRow (du P W) X G N (512 * ((i 0).val / 512 - 0 + 0) + (i 0).val % 512) (i 1).val := e'
  rw [hi'] at e''
  rw [e'']
  exact congrArg (fun n => gradRow (du P W) X G N n (i 1).val) (by omega)

/-- The scale's gradient over the rows the pass covers, after it. -/
theorem final0_scale (i : S1x1024.Idx) :
    (dat0 V c).arrAt 6 cfg0.N i = gradScale P X W 0 2 (i 1).val := by
  have h0 : (i 0).val < 1 := (i 0).isLt
  have hlt : 1 < cfg0.N := lt_of_lt_of_eq (by decide) (show 2 = cfg0.N from N_0.symm)
  have e := (dat0 V c).read_blk_arrAt_eq_flushed 6 apart0_6 cfg0.N ⟨_, hlt⟩ hlt ((flush0_6 _).2 rfl)
  have f : (dat0 V c).flushed 6 ⟨_, hlt⟩ = mat 1 1024 fun _ d => gradScale P X W 0 2 d := by
    show (cfg0.win 6).cut (grid0.coords ⟨_, hlt⟩) ((dat0 V c).after 6 ⟨_, hlt⟩) = _
    rw [after0_6, after_point0 V c X G N P W hX hG hN hW hP]
    rfl
  rw [f] at e
  have hi' : ((cfg0.win 6).blk ⟨_, hlt⟩).view.emb i = i := by
    funext a
    fin_cases a
    · apply Fin.ext
      show win0_6.index ⟨_, hlt⟩ (0 : Fin 2) * 1 + 1 * (i 0).val = (i 0).val
      rw [(places0 ⟨_, hlt⟩).2.2.2.2.2.2.1]
      omega
    · apply Fin.ext
      show win0_6.index ⟨_, hlt⟩ (1 : Fin 2) * 1024 + 1 * (i 1).val = (i 1).val
      rw [(places0 ⟨_, hlt⟩).2.2.2.2.2.2.2]
      omega
  have e' : (dat0 V c).arrAt 6 cfg0.N (((cfg0.win 6).blk ⟨_, hlt⟩).view.emb i) = gradScale P X W 0 2 (i 1).val := congrFun e i
  rw [hi'] at e'
  exact e'

omit hX hG hN hW hP

end

/-! ## Pass 2 -/

/-- The place of every window's block at a point: a window over rows moves with the point, the others stay. -/
theorem places1 : ∀ t : Fin cfg1.N,
    (win1_0.index t (0 : Fin 2) = t.val + 2 ∧ win1_0.index t (1 : Fin 2) = 0)
    ∧ (win1_1.index t (0 : Fin 2) = t.val + 2 ∧ win1_1.index t (1 : Fin 2) = 0)
    ∧ (win1_2.index t (0 : Fin 2) = 0 ∧ win1_2.index t (1 : Fin 2) = 0)
    ∧ (win1_3.index t (0 : Fin 3) = 0 ∧ win1_3.index t (1 : Fin 3) = 0 ∧ win1_3.index t (2 : Fin 3) = 0)
    ∧ (win1_4.index t (0 : Fin 2) = t.val + 2 ∧ win1_4.index t (1 : Fin 2) = 0)
    ∧ (win1_5.index t (0 : Fin 2) = t.val + 2 ∧ win1_5.index t (1 : Fin 2) = 0)
    ∧ (win1_6.index t (0 : Fin 2) = 0 ∧ win1_6.index t (1 : Fin 2) = 0) :=
  (by decide +kernel : ∀ t : Fin grid1.N, _)

section

variable (V : (c : Dev nD) → (b : Ref sig .tc) → Buf (Elt Ideal) ((c : Thread nD τ).loc b)) (c : Dev nD)

/-- The point's block of the rows. -/
theorem block1_0 (M : ℕ → ℕ → EReal) (h : V c main_arg0 = mat 8192 1024 M) (t : Fin cfg1.N) :
    iblk1 V c 0 t = mat 512 1024 (rows (t.val + 2) M) := by
  funext y
  show V c main_arg0 (((cfg1.win 0).blk t).view.emb y) = _
  rw [h]
  have h0 : (((cfg1.win 0).blk t).view.emb y 0).val = win1_0.index t (0 : Fin 2) * 512 + 1 * (y 0).val := rfl
  have h1 : (((cfg1.win 0).blk t).view.emb y 1).val = win1_0.index t (1 : Fin 2) * 1024 + 1 * (y 1).val := rfl
  show M (((cfg1.win 0).blk t).view.emb y 0).val (((cfg1.win 0).blk t).view.emb y 1).val = M (512 * (t.val + 2) + (y 0).val) (y 1).val
  rw [h0, h1, (places1 t).1.1, (places1 t).1.2]
  exact congrArg₂ M (by omega) (by omega)

/-- The point's block of the gradient past the normalisation. -/
theorem block1_1 (M : ℕ → ℕ → EReal) (h : V c main_arg1 = mat 8192 1024 M) (t : Fin cfg1.N) :
    iblk1 V c 1 t = mat 512 1024 (rows (t.val + 2) M) := by
  funext y
  show V c main_arg1 (((cfg1.win 1).blk t).view.emb y) = _
  rw [h]
  have h0 : (((cfg1.win 1).blk t).view.emb y 0).val = win1_1.index t (0 : Fin 2) * 512 + 1 * (y 0).val := rfl
  have h1 : (((cfg1.win 1).blk t).view.emb y 1).val = win1_1.index t (1 : Fin 2) * 1024 + 1 * (y 1).val := rfl
  show M (((cfg1.win 1).blk t).view.emb y 0).val (((cfg1.win 1).blk t).view.emb y 1).val = M (512 * (t.val + 2) + (y 0).val) (y 1).val
  rw [h0, h1, (places1 t).2.1.1, (places1 t).2.1.2]
  exact congrArg₂ M (by omega) (by omega)

/-- The point's block of the output's gradient. -/
theorem block1_4 (M : ℕ → ℕ → EReal) (h : V c main_arg4 = mat 8192 3072 M) (t : Fin cfg1.N) :
    iblk1 V c 4 t = mat 512 3072 (rows (t.val + 2) M) := by
  funext y
  show V c main_arg4 (((cfg1.win 4).blk t).view.emb y) = _
  rw [h]
  have h0 : (((cfg1.win 4).blk t).view.emb y 0).val = win1_4.index t (0 : Fin 2) * 512 + 1 * (y 0).val := rfl
  have h1 : (((cfg1.win 4).blk t).view.emb y 1).val = win1_4.index t (1 : Fin 2) * 3072 + 1 * (y 1).val := rfl
  show M (((cfg1.win 4).blk t).view.emb y 0).val (((cfg1.win 4).blk t).view.emb y 1).val = M (512 * (t.val + 2) + (y 0).val) (y 1).val
  rw [h0, h1, (places1 t).2.2.2.2.1.1, (places1 t).2.2.2.2.1.2]
  exact congrArg₂ M (by omega) (by omega)

/-- The scale, whole at every point. -/
theorem block1_2 (M : ℕ → ℕ → EReal) (h : V c main_arg2 = mat 1 1024 M) (t : Fin cfg1.N) :
    iblk1 V c 2 t = mat 1 1024 M := by
  funext y
  show V c main_arg2 (((cfg1.win 2).blk t).view.emb y) = _
  rw [h]
  have h0 : (((cfg1.win 2).blk t).view.emb y 0).val = win1_2.index t (0 : Fin 2) * 1 + 1 * (y 0).val := rfl
  have h1 : (((cfg1.win 2).blk t).view.emb y 1).val = win1_2.index t (1 : Fin 2) * 1024 + 1 * (y 1).val := rfl
  show M (((cfg1.win 2).blk t).view.emb y 0).val (((cfg1.win 2).blk t).view.emb y 1).val = M (y 0).val (y 1).val
  rw [h0, h1, (places1 t).2.2.1.1, (places1 t).2.2.1.2]
  exact congrArg₂ M (by omega) (by omega)

/-- The shards of the weights, whole at every point. -/
theorem block1_3 (M : ℕ → ℕ → ℕ → EReal) (h : V c main_arg3 = cube 4 1024 768 M) (t : Fin cfg1.N) :
    iblk1 V c 3 t = cube 4 1024 768 M := by
  funext y
  show V c main_arg3 (((cfg1.win 3).blk t).view.emb y) = _
  rw [h]
  have h0 : (((cfg1.win 3).blk t).view.emb y 0).val = win1_3.index t (0 : Fin 3) * 4 + 1 * (y 0).val := rfl
  have h1 : (((cfg1.win 3).blk t).view.emb y 1).val = win1_3.index t (1 : Fin 3) * 1024 + 1 * (y 1).val := rfl
  have h2 : (((cfg1.win 3).blk t).view.emb y 2).val = win1_3.index t (2 : Fin 3) * 768 + 1 * (y 2).val := rfl
  show M (((cfg1.win 3).blk t).view.emb y 0).val (((cfg1.win 3).blk t).view.emb y 1).val (((cfg1.win 3).blk t).view.emb y 2).val = M (y 0).val (y 1).val (y 2).val
  rw [h0, h1, h2, (places1 t).2.2.2.1.1, (places1 t).2.2.2.1.2.1, (places1 t).2.2.2.1.2.2]
  rw [show 0 * 4 + 1 * (y 0).val = (y 0).val by omega, show 0 * 1024 + 1 * (y 1).val = (y 1).val by omega, show 0 * 768 + 1 * (y 2).val = (y 2).val by omega]

variable (X G N P : ℕ → ℕ → EReal) (W : ℕ → ℕ → ℕ → EReal)
  (hX : V c main_arg0 = mat 8192 1024 X) (hG : V c main_arg1 = mat 8192 1024 G) (hN : V c main_arg2 = mat 1 1024 N)
  (hW : V c main_arg3 = cube 4 1024 768 W) (hP : V c main_arg4 = mat 8192 3072 P)

include hX hG hN hW hP

/-- What the outputs hold after point `n`. -/
theorem after_point1 : ∀ (n : ℕ) (hn : n < cfg1.N), outsAt1 V c n hn
    = (mat 512 1024 (rows (n + 2) (gradRow (du P W) X G N)), mat 1 1024 fun _ d => gradScale P X W 2 (n + 1) d) := by
  intro n
  induction n with
  | zero =>
    intro hn
    rw [outsAt1_A V c ⟨0, hn⟩ rfl]
    rw [block1_0 V c X hX, block1_1 V c G hG, block1_2 V c N hN, block1_3 V c W hW, block1_4 V c P hP]
    rw [A1_rows, A1_scale]
    refine congrArg₂ Prod.mk rfl (congrArg (mat 1 1024) ?_)
    funext i d
    rw [← gradScale_step]
    exact congrArg (· + _) (Finset.sum_range_zero _).symm
  | succ n ih =>
    intro hn
    have h0 : ¬(n + 1) % 14 = 0 := by
      have := lt_of_lt_of_eq hn (show cfg1.N = 14 from N_1)
      omega
    rw [outsAt1_B V c ⟨n + 1, hn⟩ h0]
    have e : outsAt1 V c (n + 1 - 1) (Nat.lt_of_le_of_lt (Nat.sub_le _ _) hn) = _ := ih (Nat.lt_of_succ_lt hn)
    simp only [e]
    rw [block1_0 V c X hX, block1_1 V c G hG, block1_2 V c N hN, block1_3 V c W hW, block1_4 V c P hP]
    rw [B1_rows, B1_scale]
    refine congrArg₂ Prod.mk rfl (congrArg (mat 1 1024) ?_)
    funext i d
    exact gradScale_step P X W 2 (n + 1) d

omit hX hG hN hW hP

theorem apart1_5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne
    ((by decide +kernel : ∀ t t' : Fin grid1.N, win1_5.index t = win1_5.index t' → t = t') t t' h)

/-- Every point writes its block of rows back. -/
theorem flush1_5 : ∀ t : Fin cfg1.N, (cfg1.win 5).flush t = true := (by decide +kernel : ∀ t : Fin grid1.N, win1_5.flush t = true)

/-- Only the last point writes the scale's gradient back. -/
theorem flush1_6 : ∀ t : Fin cfg1.N, (cfg1.win 6).flush t = true ↔ t.val = 13 :=
  (by decide +kernel : ∀ t : Fin grid1.N, win1_6.flush t = true ↔ t.val = 13)

theorem apart1_6 : ∀ t t' : Fin cfg1.N, (cfg1.win 6).flush t = true → (cfg1.win 6).flush t' = true → t ≠ t' →
    Disjoint ((cfg1.win 6).blk t).view.set ((cfg1.win 6).blk t').view.set :=
  fun t t' h h' hne => absurd (Fin.ext (((flush1_6 t).1 h).trans ((flush1_6 t').1 h').symm)) hne

include hX hG hN hW hP

/-- The rows the pass covers, after it. -/
theorem final1_rows (i : S8192x1024.Idx) (hi : 1024 ≤ (i 0).val) (hj : (i 0).val < 8192) :
    (dat1 V c).arrAt 5 cfg1.N i = gradRow (du P W) X G N (i 0).val (i 1).val := by
  have h1 : (i 1).val < 1024 := (i 1).isLt
  have hlt : (i 0).val / 512 - 2 < cfg1.N := lt_of_lt_of_eq (by omega) (show 14 = cfg1.N from N_1.symm)
  have e := (dat1 V c).read_blk_arrAt_eq_flushed 5 apart1_5 cfg1.N ⟨_, hlt⟩ hlt (flush1_5 _)
  have f : (dat1 V c).flushed 5 ⟨_, hlt⟩ = mat 512 1024 (rows ((i 0).val / 512 - 2 + 2) (gradRow (du P W) X G N)) := by
    show (cfg1.win 5).cut (grid1.coords ⟨_, hlt⟩) ((dat1 V c).after 5 ⟨_, hlt⟩) = _
    rw [after1_5, after_point1 V c X G N P W hX hG hN hW hP]
    rfl
  rw [f] at e
  have e' := congrFun e (ValueIdx.ix2 (n0 := 512) (n1 := 1024) ⟨(i 0).val % 512, Nat.mod_lt _ (by decide)⟩ ⟨(i 1).val, h1⟩)
  have hi' : ((cfg1.win 5).blk ⟨_, hlt⟩).view.emb (ValueIdx.ix2 (n0 := 512) (n1 := 1024) ⟨(i 0).val % 512, Nat.mod_lt _ (by decide)⟩ ⟨(i 1).val, h1⟩) = i := by
    funext a
    fin_cases a
    · apply Fin.ext
      show win1_5.index ⟨_, hlt⟩ (0 : Fin 2) * 512 + 1 * ((i 0).val % 512) = (i 0).val
      rw [(places1 ⟨_, hlt⟩).2.2.2.2.2.1.1]
      show ((i 0).val / 512 - 2 + 2) * 512 + 1 * ((i 0).val % 512) = (i 0).val
      omega
    · apply Fin.ext
      show win1_5.index ⟨_, hlt⟩ (1 : Fin 2) * 1024 + 1 * (i 1).val = (i 1).val
      rw [(places1 ⟨_, hlt⟩).2.2.2.2.2.1.2]
      omega
  have e'' : (dat1 V c).arrAt 5 cfg1.N (((cfg1.win 5).blk ⟨_, hlt⟩).view.emb (ValueIdx.ix2 (n0 := 512) (n1 := 1024) ⟨(i 0).val % 512, Nat.mod_lt _ (by decide)⟩ ⟨(i 1).val, h1⟩))
      = gradRow (du P W) X G N (512 * ((i 0).val / 512 - 2 + 2) + (i 0).val % 512) (i 1).val := e'
  rw [hi'] at e''
  rw [e'']
  exact congrArg (fun n => gradRow (du P W) X G N n (i 1).val) (by omega)

/-- The scale's gradient over the rows the pass covers, after it. -/
theorem final1_scale (i : S1x1024.Idx) :
    (dat1 V c).arrAt 6 cfg1.N i = gradScale P X W 2 14 (i 1).val := by
  have h0 : (i 0).val < 1 := (i 0).isLt
  have hlt : 13 < cfg1.N := lt_of_lt_of_eq (by decide) (show 14 = cfg1.N from N_1.symm)
  have e := (dat1 V c).read_blk_arrAt_eq_flushed 6 apart1_6 cfg1.N ⟨_, hlt⟩ hlt ((flush1_6 _).2 rfl)
  have f : (dat1 V c).flushed 6 ⟨_, hlt⟩ = mat 1 1024 fun _ d => gradScale P X W 2 14 d := by
    show (cfg1.win 6).cut (grid1.coords ⟨_, hlt⟩) ((dat1 V c).after 6 ⟨_, hlt⟩) = _
    rw [after1_6, after_point1 V c X G N P W hX hG hN hW hP]
    rfl
  rw [f] at e
  have hi' : ((cfg1.win 6).blk ⟨_, hlt⟩).view.emb i = i := by
    funext a
    fin_cases a
    · apply Fin.ext
      show win1_6.index ⟨_, hlt⟩ (0 : Fin 2) * 1 + 1 * (i 0).val = (i 0).val
      rw [(places1 ⟨_, hlt⟩).2.2.2.2.2.2.1]
      omega
    · apply Fin.ext
      show win1_6.index ⟨_, hlt⟩ (1 : Fin 2) * 1024 + 1 * (i 1).val = (i 1).val
      rw [(places1 ⟨_, hlt⟩).2.2.2.2.2.2.2]
      omega
  have e' : (dat1 V c).arrAt 6 cfg1.N (((cfg1.win 6).blk ⟨_, hlt⟩).view.emb i) = gradScale P X W 2 14 (i 1).val := congrFun e i
  rw [hi'] at e'
  exact e'

omit hX hG hN hW hP

/-- The rows before the second pass's stay as they were. -/
theorem final1_before (i : S8192x1024.Idx) (hi : (i 0).val < 1024) :
    (dat1 V c).arrAt 5 cfg1.N i = V c main_v1_0 i := by
  rw [(dat1 V c).arrAt_apply_of_forall_not_mem 5 cfg1.N i (fun t _ _ => ?_), A_eq1]
  intro hm
  obtain ⟨y, -, hy⟩ := Finset.mem_map.1 hm
  have h0 : (((cfg1.win 5).blk t).view.emb y 0).val = win1_5.index t (0 : Fin 2) * 512 + 1 * (y 0).val := rfl
  rw [hy, (places1 t).2.2.2.2.2.1.1] at h0
  omega

end

end Cert.Layer

end
-- ==== Proof.LayerRun.lean ====
/- What a run of the two passes leaves: the gradient of the layer's input, and the gradient of the scale. -/
module

public import proofs.«01_k».proof.Proof.LayerFold
public import proofs.«01_k».proof.Proof.Gen.Kernel2Ideal.Frame
public import Idealize.ShloMosaic.Lib.StableHlo.ReadAt

@[expose] public section

noncomputable section

namespace Cert.Layer

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section
variable (m : (ℓ : Loc nD τ sig) → Buf (Elt Ideal) ℓ) (ρ : Dev nD → PrngReg)

set_option backward.isDefEq.respectTransparency.types false in
/-- A run ends with the results at what the last operation leaves, the arguments as they were. -/
theorem run_results : θ_run defs (onTc (τ := τ) (main (F := Ideal))) ⟨m, fun _ => 0, ρ⟩ (fun r => ∀ c : Dev nD,
       r.2.mem ((c.tc : Thread nD τ).loc main_v1_0) = W4 m ρ c (Proc.devRef .tc main_v1_0)
       ∧ r.2.mem ((c.tc : Thread nD τ).loc main_v2) = W4 m ρ c (Proc.devRef .tc main_v2)
       ∧ r.2.mem ((c.tc : Thread nD τ).loc main_arg0) = m ((c.tc : Thread nD τ).loc main_arg0)
       ∧ r.2.mem ((c.tc : Thread nD τ).loc main_arg1) = m ((c.tc : Thread nD τ).loc main_arg1)
       ∧ r.2.mem ((c.tc : Thread nD τ).loc main_arg2) = m ((c.tc : Thread nD τ).loc main_arg2)
       ∧ r.2.mem ((c.tc : Thread nD τ).loc main_arg3) = m ((c.tc : Thread nD τ).loc main_arg3)
       ∧ r.2.mem ((c.tc : Thread nD τ).loc main_arg4) = m ((c.tc : Thread nD τ).loc main_arg4)
       ∧ r.2.mem ((c.tc : Thread nD τ).loc main_arg5) = m ((c.tc : Thread nD τ).loc main_arg5)
       ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v1_0 (by decide)), h c _ (mem_uc main_v2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-! ## The arrays after the run -/

variable (c : Dev nD) (X G N P : ℕ → ℕ → EReal) (W : ℕ → ℕ → ℕ → EReal)
  (hX : m ((c.tc : Thread nD τ).loc main_arg0) = mat 8192 1024 X)
  (hG : m ((c.tc : Thread nD τ).loc main_arg1) = mat 8192 1024 G)
  (hN : m ((c.tc : Thread nD τ).loc main_arg2) = mat 1 1024 N)
  (hW : m ((c.tc : Thread nD τ).loc main_arg3) = cube 4 1024 768 W)
  (hP : m ((c.tc : Thread nD τ).loc main_arg4) = mat 8192 3072 P)

include hX hG hN hW hP

theorem first_rows (i) (hi : (i 0).val < 1024) :
    V2 m ρ c main_v1_0 i = gradRow (du P W) X G N (i 0).val (i 1).val := by
  have h1 : V2 m ρ c main_v1_0 = W1 m ρ c (Proc.devRef .tc main_v0_0) := by
    show StableHlo.after hostOps1 (W1 m ρ c) (Proc.devRef .tc main_v1_0) = _
    after_reads_simp
    rfl
  have h2 : W1 m ρ c (Proc.devRef .tc main_v0_0) = (dat0 (V0 m ρ) c).arrAt 5 cfg0.N := W1_arr m ρ c 5
  rw [h1, h2]
  exact final0_rows (V0 m ρ) c X G N P W hX hG hN hW hP i (Nat.zero_le _) hi

theorem result_rows : W4 m ρ c (Proc.devRef .tc main_v1_0) = mat 8192 1024 (gradRow (du P W) X G N) := by
  funext i
  rw [W4_of m ρ c main_v1_0 (by decide)]
  have h2 : W3 m ρ c (Proc.devRef .tc main_v1_0) = (dat1 (V2 m ρ) c).arrAt 5 cfg1.N := W3_arr m ρ c 5
  rw [h2]
  by_cases hi : (i 0).val < 1024
  · exact (final1_before (V2 m ρ) c i hi).trans (first_rows m ρ c X G N P W hX hG hN hW hP i hi)
  · exact final1_rows (V2 m ρ) c X G N P W ((W2_args m ρ c main_arg0 (by decide)).trans hX) ((W2_args m ρ c main_arg1 (by decide)).trans hG)
      ((W2_args m ρ c main_arg2 (by decide)).trans hN) ((W2_args m ρ c main_arg3 (by decide)).trans hW)
      ((W2_args m ρ c main_arg4 (by decide)).trans hP) i (not_lt.mp hi) (i 0).isLt

theorem result_scale : W4 m ρ c (Proc.devRef .tc main_v2) = mat 1 1024 fun _ d => gradScale P X W 0 2 d + gradScale P X W 2 14 d := by
  funext i
  have h : W4 m ρ c (Proc.devRef .tc main_v2) = addf (F := Ideal) (φ := .f32) (W3 m ρ c (Proc.devRef .tc main_v0_1)) (W3 m ρ c (Proc.devRef .tc main_v1_1)) := by
    show StableHlo.after hostOps2 (W3 m ρ c) (Proc.devRef .tc main_v2) = _
    after_reads_simp
  have ha : W3 m ρ c (Proc.devRef .tc main_v0_1) = (dat0 (V0 m ρ) c).arrAt 6 cfg0.N :=
    ((W3_of_ne m ρ c main_v0_1 (by decide)).trans (W2_of m ρ c main_v0_1 (by decide))).trans (W1_arr m ρ c 6)
  have hb : W3 m ρ c (Proc.devRef .tc main_v1_1) = (dat1 (V2 m ρ) c).arrAt 6 cfg1.N := W3_arr m ρ c 6
  rw [h, ha, hb]
  exact congrArg₂ (fun x y : EReal => x + y) (final0_scale (V0 m ρ) c X G N P W hX hG hN hW hP i)
    (final1_scale (V2 m ρ) c X G N P W ((W2_args m ρ c main_arg0 (by decide)).trans hX) ((W2_args m ρ c main_arg1 (by decide)).trans hG)
      ((W2_args m ρ c main_arg2 (by decide)).trans hN) ((W2_args m ρ c main_arg3 (by decide)).trans hW)
      ((W2_args m ρ c main_arg4 (by decide)).trans hP) i)

end

end Cert.Layer

end
-- ==== Proof.LayerReference.lean ====
/- What the reference computes of the projection's gradient, element by element. -/
module

public import proofs.«01_k».proof.Proof.LayerBlock
public import proofs.«01_k».proof.Proof.Gen.Reference2Ideal.Read

@[expose] public section

noncomputable section

namespace Cert.Layer

open Cert.Reference2Ideal Cert.Reference2Ideal.Gen Cert.Reference2Ideal.Read Idealize.ShloMosaic Idealize.ShloMosaic.TcCoe

variable (X G N P : ℕ → ℕ → EReal) (W : ℕ → ℕ → ℕ → EReal)

theorem stage2 : val_main_v2 (F := Ideal) (cube 4 1024 768 W) = mat 1024 3072 fun d e => W (e / 768) d (e % 768) := by
  funext y
  pointwise [val_main_v2, val_main_v1, val_main_v0]
  rfl

theorem stage10 : val_main_v10 (F := Ideal) (mat 8192 1024 X) = mat 8192 1 fun r _ => meanSq X r := by
  funext y
  pointwise [val_main_v10, val_main_v9, val_main_v8, val_main_v7, val_main_v6, val_main_v5, val_main_v4, val_main_cst, val_main_cst_0, val_main_cst_1]
  rfl

theorem stage11 : val_main_v11 (F := Ideal) (mat 8192 1024 X) = mat 8192 1 fun r _ => Ideal.rsqrt (meanSq X r) := by
  funext y
  unfold val_main_v11
  rw [stage10]
  pointwise
  rfl

theorem stage22 : val_main_v22 (F := Ideal) (cube 4 1024 768 W) (mat 8192 3072 P) = mat 8192 1024 fun r d => ∑ e : Fin 3072, P r e * W (e / 768) d (e % 768) := by
  funext y
  unfold val_main_v22
  rw [stage2]
  pointwise [val_main_v21]
  rfl

/-- The gradient of a row before the normalisation's scale, as one product. -/
def duRef (r d : ℕ) : EReal := ∑ e : Fin 3072, P r e * W (e / 768) d (e % 768)

theorem stage27 : val_main_v27 (F := Ideal) (mat 1 1024 N) (cube 4 1024 768 W) (mat 8192 3072 P) = mat 8192 1024 fun r d => duRef P W r d * N 0 d := by
  funext y
  unfold val_main_v27
  rw [stage22]
  pointwise [val_main_v26, val_main_v17, val_main_v3]
  rfl

theorem stage16 : val_main_v16 (F := Ideal) (mat 8192 1024 X) = mat 8192 1024 (xhat X) := by
  funext y
  unfold val_main_v16 val_main_v15
  rw [stage11]
  pointwise
  rfl

theorem stage44 : val_main_v44 (F := Ideal) (mat 8192 1024 X) (cube 4 1024 768 W) (mat 8192 3072 P) = mat 1 1024 fun _ d => ∑ r : Fin 8192, xhat X r d * duRef P W r d := by
  funext y
  unfold val_main_v44 val_main_v28 val_main_v25 val_main_v24 val_main_v23
  rw [stage16, stage22]
  pointwise [val_main_cst_3, val_main_cst_4]
  rw [Fin.sum_univ_one]
  rfl

/-- What the mean square of a row hands back to each of the row's elements. -/
def pull (A : ℕ → ℕ → EReal) (r : ℕ) : EReal :=
  Ideal.div ((∑ k : Fin 1024, X r k * A r k) * (Ideal.ofBits .f32 0xBF000000#32 * Ideal.div (Ideal.rsqrt (meanSq X r)) (meanSq X r)))
    (Ideal.ofBits .f32 0x44800000#32)

/-- The gradient of the layer's input in the reference's order. -/
def gradRef (D : ℕ → ℕ → EReal) (r d : ℕ) : EReal :=
  G r d + D r d * N 0 d * Ideal.rsqrt (meanSq X r) + X r d * pull X (fun r d => D r d * N 0 d) r + pull X (fun r d => D r d * N 0 d) r * X r d

theorem stage39 : val_main_v39 (F := Ideal) (mat 8192 1024 X) (mat 1 1024 N) (cube 4 1024 768 W) (mat 8192 3072 P) = mat 8192 1024 fun r _ => pull X (fun r d => duRef P W r d * N 0 d) r := by
  funext y
  unfold val_main_v39 val_main_v38 val_main_v37 val_main_v35 val_main_v31 val_main_v30 val_main_v29 val_main_v14 val_main_v12
  rw [stage27, stage10, stage11]
  pointwise [val_main_cst_5, val_main_cst_6, val_main_cst_7, val_main_v13, val_main_cst_2, val_main_v36]
  rw [Fin.sum_univ_one]
  rfl

theorem stage43 : val_main_v43 (F := Ideal) (mat 8192 1024 X) (mat 8192 1024 G) (mat 1 1024 N) (cube 4 1024 768 W) (mat 8192 3072 P) = mat 8192 1024 (gradRef X G N (duRef P W)) := by
  funext y
  unfold val_main_v43 val_main_v42 val_main_v41 val_main_v40 val_main_v34 val_main_v33 val_main_v32
  rw [stage27, stage11, stage39]
  pointwise
  rfl

end Cert.Layer

end
-- ==== Proof.LayerEquation.lean ====
/- The two orders in which the gradient of a normalised row is computed agree. -/
module

public import proofs.«01_k».proof.Proof.LayerReference
public import proofs.«01_k».proof.Proof.LayerFold

@[expose] public section

noncomputable section

namespace Cert.Layer

open Idealize.ShloMosaic

/-! ### The product with the weights -/

/-- A sum of 3072 terms is four sums of 768. -/
theorem sum_four (f : ℕ → EReal) : ∑ e : Fin 3072, f e = ∑ k : Fin 768, f k + ∑ k : Fin 768, f (768 + k) + ∑ k : Fin 768, f (1536 + k) + ∑ k : Fin 768, f (2304 + k) := by
  simp only [Fin.sum_univ_eq_sum_range f, Fin.sum_univ_eq_sum_range (fun k => f (768 + k)), Fin.sum_univ_eq_sum_range (fun k => f (1536 + k)),
    Fin.sum_univ_eq_sum_range (fun k => f (2304 + k))]
  rw [show (3072 : ℕ) = 2304 + 768 from rfl, Finset.sum_range_add, show (2304 : ℕ) = 1536 + 768 from rfl, Finset.sum_range_add,
    show (1536 : ℕ) = 768 + 768 from rfl, Finset.sum_range_add]

theorem du_eq (P : ℕ → ℕ → EReal) (W : ℕ → ℕ → ℕ → EReal) (r d : ℕ) : duRef P W r d = du P W r d := by
  unfold duRef du
  rw [sum_four (fun e => P r e * W (e / 768) d (e % 768))]
  have h (a b : ℕ) (k : Fin 768) (hb : b = 768 * a) : P r (b + k) * W ((b + k) / 768) d ((b + k) % 768) = P r (b + k) * W a d k := by
    have hk := k.isLt
    rw [show (b + (k : ℕ)) / 768 = a by omega, show (b + (k : ℕ)) % 768 = k by omega]
  have h0 (k : Fin 768) : P r k * W ((k : ℕ) / 768) d ((k : ℕ) % 768) = P r k * W 0 d k := by
    have hk := k.isLt
    rw [show (k : ℕ) / 768 = 0 by omega, show (k : ℕ) % 768 = k by omega]
  simp only [h0, h 1 768 _ rfl, h 2 1536 _ rfl, h 3 2304 _ rfl]

/-! ### The gradient of the scale -/

/-- Tiles of 512 rows, taken one after another, are the rows. -/
theorem sum_tiles (f : ℕ → EReal) (o : ℕ) : ∀ n : ℕ, ∑ s ∈ Finset.range n, ∑ k : Fin 512, f (512 * (o + s) + k) = ∑ r ∈ Finset.range (512 * n), f (512 * o + r)
  | 0 => by simp
  | n + 1 => by
    rw [Finset.sum_range_succ, sum_tiles f o n, Nat.mul_succ, Finset.sum_range_add, Fin.sum_univ_eq_sum_range (fun k => f (512 * (o + n) + k))]
    exact congrArg _ (Finset.sum_congr rfl fun k _ => congrArg f (by ring))

theorem scale_eq (P X : ℕ → ℕ → EReal) (W : ℕ → ℕ → ℕ → EReal) (d : ℕ) :
    gradScale P X W 0 2 d + gradScale P X W 2 14 d = ∑ r : Fin 8192, xhat X r d * duRef P W r d := by
  unfold gradScale
  rw [sum_tiles (fun r => du P W r d * xhat X r d) 0 2, sum_tiles (fun r => du P W r d * xhat X r d) 2 14]
  simp only [Nat.mul_zero, Nat.zero_add, du_eq]
  rw [Fin.sum_univ_eq_sum_range (fun r => xhat X r d * du P W r d), show (8192 : ℕ) = 512 * 2 + 512 * 14 from rfl, Finset.sum_range_add]
  exact congrArg₂ _ (Finset.sum_congr rfl fun r _ => mul_comm _ _) (Finset.sum_congr rfl fun r _ => mul_comm _ _)

/-! ### The mean square -/

theorem word_count : Ideal.ofBits .f32 0x44800000#32 = ((1024 : ℝ) : EReal) := by
  simp [Ideal.ofBits, Ideal.ieee, -EReal.coe_mul]
  norm_num

theorem word_half : Ideal.ofBits .f32 0xBF000000#32 = ((-(1 / 2) : ℝ) : EReal) := by
  simp [Ideal.ofBits, Ideal.ieee, -EReal.coe_mul]
  norm_num

theorem word_eps : ∃ e : ℝ, 0 < e ∧ Ideal.ofBits .f32 0x358637BD#32 = (e : EReal) := by
  refine ⟨_, ?_, by simp [Ideal.ofBits, Ideal.ieee, -EReal.coe_mul]; rfl⟩
  norm_num

theorem square_nonneg : ∀ x : EReal, 0 ≤ x * x
  | ⊥ => by simp
  | ⊤ => by simp
  | (x : ℝ) => by rw [← EReal.coe_mul]; exact_mod_cast mul_self_nonneg x

theorem div_count (x : EReal) : Ideal.div x (Ideal.ofBits .f32 0x44800000#32) = x * ((1 / 1024 : ℝ) : EReal) := by
  rw [word_count, Ideal.div_coe (by norm_num)]

/-- The mean square of a row plus the small constant is a positive real or infinite. -/
theorem meanSq_cases (X : ℕ → ℕ → EReal) (r : ℕ) : meanSq X r = ⊤ ∨ ∃ s : ℝ, 0 < s ∧ meanSq X r = (s : EReal) := by
  obtain ⟨e, he, hw⟩ := word_eps
  unfold meanSq
  rw [div_count, hw]
  have h0 : (0 : EReal) ≤ (∑ k : Fin 1024, X r k * X r k) * ((1 / 1024 : ℝ) : EReal) :=
    mul_nonneg (Finset.sum_nonneg fun k _ => square_nonneg _) (by exact_mod_cast (by norm_num : (0 : ℝ) ≤ 1 / 1024))
  generalize (∑ k : Fin 1024, X r k * X r k) * ((1 / 1024 : ℝ) : EReal) = z at h0 ⊢
  induction z with
  | bot => simp at h0
  | top => left; simp
  | coe z =>
    right
    have hz : (0 : ℝ) ≤ z := by exact_mod_cast h0
    exact ⟨z + e, by linarith, by simp⟩

/-! ### The gradient of the input -/

theorem mul_sum_pos {ι : Type} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- Two halves of a negative multiple. -/
theorem two_halves (c : ℝ) (hc : 0 < c) : ∀ y : EReal, ((-c : ℝ) : EReal) * y + ((-c : ℝ) : EReal) * y = -(((2 * c : ℝ) : EReal) * y)
  | ⊥ => by
    rw [EReal.coe_mul_bot_of_neg (by linarith), EReal.coe_mul_bot_of_pos (by linarith)]; simp
  | ⊤ => by
    rw [EReal.coe_mul_top_of_neg (by linarith), EReal.coe_mul_top_of_pos (by linarith)]; simp
  | (y : ℝ) => by
    simp only [← EReal.coe_mul, ← EReal.coe_add, ← EReal.coe_neg]
    exact congrArg _ (by ring)

/-- The gradient of the input is the same in the kernel's order and in the reference's. -/
theorem grad_eq (X G N D : ℕ → ℕ → EReal) (r d : ℕ) : gradRef X G N D r d = gradRow D X G N r d := by
  unfold gradRef gradRow pull
  rw [div_count, div_count, word_half]
  unfold xhat
  rcases meanSq_cases X r with h | ⟨s, hs, h⟩
  · rw [h, Ideal.rsqrt_top, show Ideal.div 0 ⊤ = 0 by simp [Ideal.div]]
    simp
  · rw [h, Ideal.rsqrt_coe, if_neg (by linarith), if_neg hs.ne', Ideal.div_coe hs.ne']
    have hq : (Real.sqrt s)⁻¹ * (Real.sqrt s)⁻¹ = 1 / s := by
      rw [← mul_inv, Real.mul_self_sqrt hs.le, one_div]
    have hp : 0 < (Real.sqrt s)⁻¹ := inv_pos.mpr (Real.sqrt_pos.mpr hs)
    generalize (Real.sqrt s)⁻¹ = q at hq hp
    have hsum : ∑ k : Fin 1024, D r k * N 0 k * (X r k * (q : EReal)) = (q : EReal) * ∑ k : Fin 1024, X r k * (D r k * N 0 k) := by
      rw [mul_sum_pos q hp.le]
      exact Finset.sum_congr rfl fun k _ => by ac_rfl
    rw [hsum]
    generalize ∑ k : Fin 1024, X r k * (D r k * N 0 k) = S
    generalize D r d * N 0 d = a
    generalize G r d = g
    generalize X r d = x
    rw [← hq, sub_eq_add_neg, EReal.left_distrib_of_nonneg_of_ne_top (by exact_mod_cast hp.le) (EReal.coe_ne_top q), add_assoc, add_assoc]
    refine congrArg _ (congrArg₂ _ (mul_comm _ _) ?_)
    have hx : x * (S * (((-(1 / 2) : ℝ) : EReal) * ((q : EReal) * ((q * q : ℝ) : EReal))) * ((1 / 1024 : ℝ) : EReal))
        = ((-(q * q * q / 2048) : ℝ) : EReal) * (x * S) := by
      rw [show (-(q * q * q / 2048) : ℝ) = -(1 / 2) * (q * (q * q)) * (1 / 1024) by ring]
      simp only [EReal.coe_mul]
      ac_rfl
    rw [mul_comm _ x, hx, two_halves _ (by positivity), mul_neg]
    refine congrArg _ ?_
    rw [show (2 * (q * q * q / 2048) : ℝ) = q * q * q * (1 / 1024) by ring]
    simp only [EReal.coe_mul]
    ac_rfl

end Cert.Layer

end
-- ==== Proof.Layer.lean ====
/- The claims about the projection's gradient: what the reference's run keeps, and the agreement of the results. -/
module

public import proofs.«01_k».proof.Defs
public import proofs.«01_k».proof.Proof.LayerRun
public import proofs.«01_k».proof.Proof.LayerEquation
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import Idealize.ShloMosaic.Lib.Quiescent

@[expose] public section

noncomputable section

namespace Cert.Layer

open Idealize.ShloMosaic Idealize.ShloMosaic.TcCoe

/-- The reference leaves its arguments and every counter as it found them. -/
theorem referenceFrame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
        ∧ r.2.sem = fun _ => 0) :=
  (θ_run _ _ _).mono (fun r h => ⟨fun c => (h c).2.2, sem_eq_zero_of_no_sems rfl _⟩) (Cert.Reference2Ideal.Value.run m g)

/-- A matrix is the values it holds. -/
theorem exists_mat {a b : ℕ} (x : (⟨2, ![a, b]⟩ : Shape).Idx → EReal) : ∃ f : ℕ → ℕ → EReal, x = mat a b f := by
  classical
  refine ⟨fun i j => if h : i < a ∧ j < b then x (ValueIdx.ix2 ⟨i, h.1⟩ ⟨j, h.2⟩) else 0, funext fun y => ?_⟩
  have h : (y 0).val < a ∧ (y 1).val < b := ⟨(y 0).isLt, (y 1).isLt⟩
  unfold mat
  beta_reduce
  rw [dif_pos h]
  refine congrArg x (funext fun d => ?_)
  fin_cases d <;> rfl

/-- An array of three axes is the values it holds. -/
theorem exists_cube {a b c : ℕ} (x : (⟨3, ![a, b, c]⟩ : Shape).Idx → EReal) : ∃ f : ℕ → ℕ → ℕ → EReal, x = cube a b c f := by
  classical
  refine ⟨fun i j k => if h : i < a ∧ j < b ∧ k < c then x (ValueIdx.ix3 ⟨i, h.1⟩ ⟨j, h.2.1⟩ ⟨k, h.2.2⟩) else 0, funext fun y => ?_⟩
  have h : (y 0).val < a ∧ (y 1).val < b ∧ (y 2).val < c := ⟨(y 0).isLt, (y 1).isLt, (y 2).isLt⟩
  unfold cube
  beta_reduce
  rw [dif_pos h]
  refine congrArg x (funext fun d => ?_)
  fin_cases d <;> rfl

/-- The two gradients the reference computes are those the kernel's arrays hold after its run. -/
theorem gradients_agree (m : (ℓ : Loc Cert.Kernel2Ideal.nD Cert.Kernel2Ideal.τ Cert.Kernel2Ideal.sig) → Buf (Elt Ideal) ℓ) (g : Dev Cert.Kernel2Ideal.nD → PrngReg) (c : Dev Cert.Kernel2Ideal.nD) :
    Cert.Reference2Ideal.Read.val_main_v43 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
        = Cert.Kernel2Ideal.Gen.W4 m g c (Proc.devRef .tc Cert.Kernel2Ideal.main_v1_0)
      ∧ Cert.Reference2Ideal.Read.val_main_v44 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        = Cert.Kernel2Ideal.Gen.W4 m g c (Proc.devRef .tc Cert.Kernel2Ideal.main_v2) := by
  obtain ⟨X, hX⟩ := exists_mat (a := 8192) (b := 1024) (m ((c.tc : Thread Cert.Kernel2Ideal.nD Cert.Kernel2Ideal.τ).loc Cert.Kernel2Ideal.main_arg0))
  obtain ⟨G, hG⟩ := exists_mat (a := 8192) (b := 1024) (m ((c.tc : Thread Cert.Kernel2Ideal.nD Cert.Kernel2Ideal.τ).loc Cert.Kernel2Ideal.main_arg1))
  obtain ⟨N, hN⟩ := exists_mat (a := 1) (b := 1024) (m ((c.tc : Thread Cert.Kernel2Ideal.nD Cert.Kernel2Ideal.τ).loc Cert.Kernel2Ideal.main_arg2))
  obtain ⟨W, hW⟩ := exists_cube (a := 4) (b := 1024) (c := 768) (m ((c.tc : Thread Cert.Kernel2Ideal.nD Cert.Kernel2Ideal.τ).loc Cert.Kernel2Ideal.main_arg3))
  obtain ⟨P, hP⟩ := exists_mat (a := 8192) (b := 3072) (m ((c.tc : Thread Cert.Kernel2Ideal.nD Cert.Kernel2Ideal.τ).loc Cert.Kernel2Ideal.main_arg4))
  refine ⟨?_, ?_⟩
  · rw [result_rows m g c X G N P W hX hG hN hW hP, hX, hG, hN, hW, hP]
    refine (stage43 X G N P W).trans (congrArg (mat 8192 1024) (funext fun r => funext fun d => ?_))
    rw [grad_eq, show duRef P W = du P W from funext fun r => funext fun d => du_eq P W r d]
  · rw [result_scale m g c X G N P W hX hG hN hW hP, hX, hW, hP]
    exact (stage44 X P W).trans (congrArg (mat 1 1024) (funext fun _ => funext fun d => (scale_eq P X W d).symm))

/-- From equal arguments the kernel and the reference end with equal results. -/
theorem algebraic : @Cert.algebraic_Kernel2Ideal_Reference2Ideal Cert.Kernel2Ideal.Gen.facts Cert.Reference2Ideal.Gen.facts := by
  intro m g m' g' _ hargs
  refine ⟨fun c => Cert.Kernel2Ideal.Gen.W4 m g c (Proc.devRef .tc Cert.Kernel2Ideal.main_v1_0), fun c => Cert.Kernel2Ideal.Gen.W4 m g c (Proc.devRef .tc Cert.Kernel2Ideal.main_v2),
    run_results m g, (θ_run _ _ _).mono (fun r h c => ?_) (Cert.Reference2Ideal.Value.run m' g')⟩
  obtain ⟨e0, e1, e2, e3, e4, -, -⟩ := hargs c
  obtain ⟨r0, r1, rest⟩ := h c
  obtain ⟨k0, k1⟩ := gradients_agree m g c
  rw [← e0, ← e1, ← e2, ← e3, ← e4] at k0
  rw [← e0, ← e3, ← e4] at k1
  exact ⟨(r0.trans (Cert.Reference2Ideal.Read.val_main_v43_eq m' c)).trans k0, (r1.trans (Cert.Reference2Ideal.Read.val_main_v44_eq _ _ _)).trans k1, rest⟩

end Cert.Layer

end
-- ==== Proof.ProjReference.lean ====
/- What the reference computes of the projection's gradient and of its weight's, element by element. -/
module

public import proofs.«01_k».proof.Proof.LayerBlock
public import proofs.«01_k».proof.Proof.Gen.Reference3Ideal.Read

@[expose] public section

noncomputable section

namespace Cert.Proj

open Cert.Layer Cert.Reference3Ideal Cert.Reference3Ideal.Gen Cert.Reference3Ideal.Read Idealize.ShloMosaic Idealize.ShloMosaic.TcCoe

/-- The number `n`, as the programs make it. -/
def num (n : ℕ) : EReal := FloatOps.sitofp (F := Ideal) .f32 (BitVec.ofNat 32 n)

/-- The frequency of the `j`-th pair of rotated elements. -/
def freq (j : ℕ) : EReal :=
  Ideal.pow (Ideal.ofBits .f32 1223959552#32) (Ideal.div (-(Ideal.ofBits .f32 1073741824#32 * num j)) (Ideal.ofBits .f32 1098907648#32))

/-- The cosine and the sine of the angle of position `t` and pair `j`. -/
def cosT (t j : ℕ) : EReal := Ideal.cos (num t * freq j)
def sinT (t j : ℕ) : EReal := Ideal.sin (num t * freq j)

/-- The scale of the queries, one eighth. -/
def eighth : EReal := Ideal.ofBits .f32 1040187392#32

/-- The gradient before the rotary embedding, from the gradient `X` behind it: lane `c` is element `c % 64` of its head. -/
def unrope (X : ℕ → ℕ → EReal) (t c : ℕ) : EReal :=
  if c % 64 < 8 then X t (c + 8) * sinT t (c % 64) + X t c * cosT t (c % 64)
  else if c % 64 < 16 then X t c * cosT t (c % 64 - 8) + -(X t (c - 8)) * sinT t (c % 64 - 8)
  else X t c

/-- The three parts of a head, each padded to the head's width. -/
theorem unrope_sum (X : ℕ → ℕ → EReal) (t h d : ℕ) (hd : d < 64) :
    ((if _h : 16 ≤ d ∧ d - 16 < 48 then X t (h * 64 + (16 + (d - 16))) else 0)
      + (if _h : 8 ≤ d ∧ d - 8 < 8 then X t (h * 64 + (8 + (d - 8))) * cosT t (d - 8) + -(X t (h * 64 + (d - 8))) * sinT t (d - 8) else 0))
      + (if _h : d < 8 then X t (h * 64 + (8 + d)) * sinT t d + X t (h * 64 + d) * cosT t d else 0) = unrope X t (h * 64 + d) := by
  have e : (h * 64 + d) % 64 = d := by omega
  unfold unrope
  rw [e]
  rcases Nat.lt_or_ge d 8 with h8 | h8
  · rw [dif_neg (by omega), dif_neg (by omega), dif_pos h8, if_pos h8, zero_add, zero_add, show h * 64 + (8 + d) = h * 64 + d + 8 by omega]
  · rcases Nat.lt_or_ge d 16 with h16 | h16
    · rw [dif_neg (by omega), dif_pos (by omega), dif_neg (by omega), if_neg (by omega), if_pos h16, zero_add, add_zero,
        show h * 64 + (8 + (d - 8)) = h * 64 + d by omega, show h * 64 + (d - 8) = h * 64 + d - 8 by omega]
    · rw [dif_pos (by omega), dif_neg (by omega), dif_neg (by omega), if_neg (by omega), if_neg (by omega), add_zero, add_zero,
        show h * 64 + (16 + (d - 16)) = h * 64 + d by omega]

theorem freqs : val_main_v10 (F := Ideal) = fun y => freq (y 0).val := by
  funext y
  pointwise [val_main_v10, val_main_v9, val_main_v8, val_main_v7, val_main_v6, val_main_v5, val_main_v4, val_main_v3, val_main_v2, val_main_v1, val_main_cst_0, val_main_cst_1, val_main_cst_2, val_main_cst_3]
  rfl

theorem angles : val_main_v16 (F := Ideal) = mat 8192 8 fun t j => num t * freq j := by
  funext y
  unfold val_main_v16 val_main_v15 val_main_v13
  rw [freqs]
  pointwise [val_main_v14, val_main_v12, val_main_v11]
  rfl

theorem cosines : val_main_v18 (F := Ideal) = cube 8192 1 8 fun t _ j => cosT t j := by
  funext y
  unfold val_main_v18 val_main_v17
  rw [angles]
  pointwise
  rfl

theorem sines : val_main_v20 (F := Ideal) = cube 8192 1 8 fun t _ j => sinT t j := by
  funext y
  unfold val_main_v20 val_main_v19
  rw [angles]
  pointwise
  rfl

/-- The residue classes of the three dilations, put back in order and summed. -/
def merged (V₁ V₄ V₁₆ : ℕ → ℕ → ℕ → EReal) (t c : ℕ) : EReal := V₁₆ (t % 16) (t / 16) c + V₄ (t % 4) (t / 4) c + V₁ 0 t c

/-- The same, each of them scaled. -/
def mergedScaled (V₁ V₄ V₁₆ : ℕ → ℕ → ℕ → EReal) (t c : ℕ) : EReal :=
  V₁₆ (t % 16) (t / 16) c * eighth + V₄ (t % 4) (t / 4) c * eighth + V₁ 0 t c * eighth

section
variable (V₁ V₄ V₁₆ : ℕ → ℕ → ℕ → EReal)

theorem valuesB : val_main_v146 (F := Ideal) (cube 1 8192 384 V₁) (cube 4 2048 384 V₄) (cube 16 512 384 V₁₆) = mat 8192 384 (merged V₁ V₄ V₁₆) := by
  funext y
  pointwise [val_main_v146, val_main_v145, val_main_v144, val_main_v143, val_main_v142, val_main_v141, val_main_v140, val_main_v139, val_main_v138, val_main_v137, val_main_v136]
  rfl

theorem keysB : val_main_v154 (F := Ideal) (cube 1 8192 384 V₁) (cube 4 2048 384 V₄) (cube 16 512 384 V₁₆) = mat 8192 384 (merged V₁ V₄ V₁₆) := by
  funext y
  pointwise [val_main_v154, val_main_v153, val_main_v152, val_main_v151, val_main_v150, val_main_v149, val_main_v148, val_main_v147, val_main_v135, val_main_v134, val_main_v133]
  rfl

theorem queriesB : val_main_v168 (F := Ideal) (cube 1 8192 384 V₁) (cube 4 2048 384 V₄) (cube 16 512 384 V₁₆) = mat 8192 384 (mergedScaled V₁ V₄ V₁₆) := by
  funext y
  pointwise [val_main_v168, val_main_v167, val_main_v166, val_main_v165, val_main_v164, val_main_v163, val_main_v162, val_main_v161, val_main_v160, val_main_v159, val_main_v158, val_main_v157, val_main_v156, val_main_v155, val_main_v132, val_main_v131, val_main_v130, val_main_cst_9, val_main_cst_10, val_main_cst_11]
  rfl

end

section
variable (V₁ V₄ V₁₆ : ℕ → ℕ → ℕ → EReal) (X : ℕ → ℕ → EReal)

theorem unropedKA : val_main_v190 (F := Ideal) (mat 8192 128 X) = cube 8192 2 64 fun t h d => unrope X t (h * 64 + d) := by
  funext y
  unfold val_main_v190 val_main_v189 val_main_v188 val_main_v187 val_main_v186 val_main_v185 val_main_v184 val_main_v183 val_main_v182 val_main_v181 val_main_v180 val_main_v179 val_main_v178 val_main_v177 val_main_v176 val_main_v175
  rw [cosines, sines]
  pointwise [val_main_v174, val_main_v173, val_main_v172, val_main_v171, val_main_v124, val_main_cst_13, val_main_cst_14, val_main_cst_15]
  exact unrope_sum X (y 0).val (y 1).val (y 2).val (y 2).isLt

theorem unropedKA_rows : val_main_v191 (F := Ideal) (mat 8192 128 X) = mat 8192 128 (unrope X) := by
  funext y
  unfold val_main_v191
  rw [unropedKA]
  pointwise
  exact congrArg (unrope X (y 0).val) (Nat.div_add_mod' (y 1).val 64)

theorem unropedQA : val_main_v213 (F := Ideal) (mat 8192 384 X) = cube 8192 6 64 fun t h d => unrope (fun t c => X t c * eighth) t (h * 64 + d) := by
  funext y
  unfold val_main_v213 val_main_v212 val_main_v211 val_main_v210 val_main_v209 val_main_v208 val_main_v207 val_main_v206 val_main_v205 val_main_v204 val_main_v203 val_main_v202 val_main_v201 val_main_v200 val_main_v199 val_main_v198
  rw [cosines, sines]
  pointwise [val_main_v197, val_main_v196, val_main_v195, val_main_v194, val_main_v193, val_main_v192, val_main_v123, val_main_cst_16, val_main_cst_17, val_main_cst_18, val_main_cst_19]
  exact unrope_sum (fun t c => X t c * eighth) (y 0).val (y 1).val (y 2).val (y 2).isLt

theorem unropedQA_rows : val_main_v214 (F := Ideal) (mat 8192 384 X) = mat 8192 384 (unrope (fun t c => X t c * eighth)) := by
  funext y
  unfold val_main_v214
  rw [unropedQA]
  pointwise
  exact congrArg (unrope (fun t c => X t c * eighth) (y 0).val) (Nat.div_add_mod' (y 1).val 64)

theorem unropedKB : val_main_v234 (F := Ideal) (cube 1 8192 384 V₁) (cube 4 2048 384 V₄) (cube 16 512 384 V₁₆) = cube 8192 6 64 fun t h d => unrope (merged V₁ V₄ V₁₆) t (h * 64 + d) := by
  funext y
  unfold val_main_v234 val_main_v233 val_main_v232 val_main_v231 val_main_v230 val_main_v229 val_main_v228 val_main_v227 val_main_v226 val_main_v225 val_main_v224 val_main_v223 val_main_v222 val_main_v221 val_main_v220 val_main_v219 val_main_v218 val_main_v217 val_main_v216 val_main_v215
  rw [cosines, sines, keysB]
  pointwise [val_main_cst_20, val_main_cst_21, val_main_cst_22]
  exact unrope_sum (merged V₁ V₄ V₁₆) (y 0).val (y 1).val (y 2).val (y 2).isLt

theorem unropedKB_rows : val_main_v235 (F := Ideal) (cube 1 8192 384 V₁) (cube 4 2048 384 V₄) (cube 16 512 384 V₁₆) = mat 8192 384 (unrope (merged V₁ V₄ V₁₆)) := by
  funext y
  unfold val_main_v235
  rw [unropedKB]
  pointwise
  exact congrArg (unrope (merged V₁ V₄ V₁₆) (y 0).val) (Nat.div_add_mod' (y 1).val 64)

theorem unropedQB : val_main_v255 (F := Ideal) (cube 1 8192 384 V₁) (cube 4 2048 384 V₄) (cube 16 512 384 V₁₆) = cube 8192 6 64 fun t h d => unrope (mergedScaled V₁ V₄ V₁₆) t (h * 64 + d) := by
  funext y
  unfold val_main_v255 val_main_v254 val_main_v253 val_main_v252 val_main_v251 val_main_v250 val_main_v249 val_main_v248 val_main_v247 val_main_v246 val_main_v245 val_main_v244 val_main_v243 val_main_v242 val_main_v241 val_main_v240 val_main_v239 val_main_v238 val_main_v237 val_main_v236
  rw [cosines, sines, queriesB]
  pointwise [val_main_cst_23, val_main_cst_24, val_main_cst_25]
  exact unrope_sum (mergedScaled V₁ V₄ V₁₆) (y 0).val (y 1).val (y 2).val (y 2).isLt

theorem unropedQB_rows : val_main_v256 (F := Ideal) (cube 1 8192 384 V₁) (cube 4 2048 384 V₄) (cube 16 512 384 V₁₆) = mat 8192 384 (unrope (mergedScaled V₁ V₄ V₁₆)) := by
  funext y
  unfold val_main_v256
  rw [unropedQB]
  pointwise
  exact congrArg (unrope (mergedScaled V₁ V₄ V₁₆) (y 0).val) (Nat.div_add_mod' (y 1).val 64)

end

section
variable (U QA KA VA GA GB QC GC : ℕ → ℕ → EReal) (QB₁ QB₄ QB₁₆ KB₁ KB₄ KB₁₆ VB₁ VB₄ VB₁₆ : ℕ → ℕ → ℕ → EReal)

/-- The projection's gradient: ten parts side by side. -/
def dproj (t c : ℕ) : EReal :=
  if _h : c < 384 then unrope (fun t c => QA t c * eighth) t c
  else if _h : c - 384 < 128 then unrope KA t (c - 384)
  else if _h : c - 384 - 128 < 128 then VA t (c - 384 - 128)
  else if _h : c - 384 - 128 - 128 < 384 then GA t (c - 384 - 128 - 128)
  else if _h : c - 384 - 128 - 128 - 384 < 384 then unrope (mergedScaled QB₁ QB₄ QB₁₆) t (c - 384 - 128 - 128 - 384)
  else if _h : c - 384 - 128 - 128 - 384 - 384 < 384 then unrope (merged KB₁ KB₄ KB₁₆) t (c - 384 - 128 - 128 - 384 - 384)
  else if _h : c - 384 - 128 - 128 - 384 - 384 - 384 < 384 then merged VB₁ VB₄ VB₁₆ t (c - 384 - 128 - 128 - 384 - 384 - 384)
  else if _h : c - 384 - 128 - 128 - 384 - 384 - 384 - 384 < 384 then GB t (c - 384 - 128 - 128 - 384 - 384 - 384 - 384)
  else if _h : c - 384 - 128 - 128 - 384 - 384 - 384 - 384 - 384 < 256 then QC t (c - 384 - 128 - 128 - 384 - 384 - 384 - 384 - 384) * eighth
  else GC t (c - 384 - 128 - 128 - 384 - 384 - 384 - 384 - 384 - 256)

theorem rows : val_main_v257 (F := Ideal) (mat 8192 384 QA) (mat 8192 128 KA) (mat 8192 128 VA) (mat 8192 384 GA) (mat 8192 384 GB) (mat 8192 256 QC) (mat 8192 256 GC)
      (cube 1 8192 384 QB₁) (cube 4 2048 384 QB₄) (cube 16 512 384 QB₁₆) (cube 1 8192 384 KB₁) (cube 4 2048 384 KB₄) (cube 16 512 384 KB₁₆)
      (cube 1 8192 384 VB₁) (cube 4 2048 384 VB₄) (cube 16 512 384 VB₁₆)
    = mat 8192 3072 (dproj QA KA VA GA GB QC GC QB₁ QB₄ QB₁₆ KB₁ KB₄ KB₁₆ VB₁ VB₄ VB₁₆) := by
  funext y
  unfold val_main_v257
  rw [unropedQA_rows, unropedKA_rows, unropedQB_rows, unropedKB_rows, valuesB]
  pointwise [val_main_v125, val_main_v126, val_main_v127, val_main_v170, val_main_v169, val_main_cst_12, val_main_v128, val_main_v129]
  rfl

theorem weight : val_main_v265 (F := Ideal) (mat 8192 1024 U) (mat 8192 384 QA) (mat 8192 128 KA) (mat 8192 128 VA) (mat 8192 384 GA) (mat 8192 384 GB) (mat 8192 256 QC) (mat 8192 256 GC)
      (cube 1 8192 384 QB₁) (cube 4 2048 384 QB₄) (cube 16 512 384 QB₁₆) (cube 1 8192 384 KB₁) (cube 4 2048 384 KB₄) (cube 16 512 384 KB₁₆)
      (cube 1 8192 384 VB₁) (cube 4 2048 384 VB₄) (cube 16 512 384 VB₁₆)
    = cube 4 1024 768 fun j d e => ∑ t : Fin 8192, dproj QA KA VA GA GB QC GC QB₁ QB₄ QB₁₆ KB₁ KB₄ KB₁₆ VB₁ VB₄ VB₁₆ t (j * 768 + e) * U t d := by
  funext y
  unfold val_main_v265 val_main_v264 val_main_v262 val_main_v261
  rw [rows]
  pointwise [val_main_v259]
  rfl

end

end Cert.Proj

end
-- ==== Proof.ProjHost.lean ====
/- What the projection kernel's host code gives the region: the rotary tables of a block's positions and of the blocks'
   first positions, and the rows of the layer's input turned block by block. -/
module

public import proofs.«01_k».proof.Proof.ProjReference
public import proofs.«01_k».proof.Proof.Gen.Kernel3Ideal.Frame
public import Idealize.ShloMosaic.Lib.StableHlo.ReadAt

@[expose] public section

noncomputable section

namespace Cert.Proj

open Cert.Layer Cert.Kernel3Ideal Cert.Kernel3Ideal.Gen Idealize.ShloMosaic Idealize.ShloMosaic.TcCoe

/-- The frequencies of the pairs of rotated elements, and of the lanes of two heads side by side. -/
def hostFreq : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
      (mulf (broadcastInDim S8 ![] bcast_S_S8 (constant S_ .f32 0x40000000#32)) (sitofp .f32 (iotaInDim S8 32 0)))))
      (broadcastInDim S8 ![] bcast_S_S8 (constant S_ .f32 0x41800000#32)))
def hostHead : FVec Ideal S64 .f32 :=
  concatenate S64 0 [⟨S8, hostFreq⟩, ⟨S8, hostFreq⟩, ⟨S48, broadcastInDim S48 ![] bcast_S_S48 (constant S_ .f32 0x00000000#32)⟩] concatenates_S8_S8_S48_S64_d0
def hostLanes : FVec Ideal S1x128 .f32 :=
  broadcastInDim S1x128 ![1] bcast_S128_S1x128_1 (shapeCast S128 (broadcastInDim S2x64 ![0, 1] bcast_S1x64_S2x64_0_1
    (shapeCast S1x64 hostHead shapeCasts_S64_S1x64)) shapeCasts_S2x64_S128)

/-- The angles of a block's positions, and of the blocks' first positions. -/
def hostLocal : FVec Ideal S512x128 .f32 :=
  mulf (broadcastInDim S512x128 ![0, 1] bcast_S512x1_S512x128_0_1 (broadcastInDim S512x1 ![0] bcast_S512_S512x1_0 (sitofp .f32 (iotaInDim S512 32 0))))
    (broadcastInDim S512x128 ![0, 1] bcast_S1x128_S512x128_0_1 hostLanes)
def hostBase : FVec Ideal S16x128 .f32 :=
  mulf (broadcastInDim S16x128 ![0, 1] bcast_S16x1_S16x128_0_1 (broadcastInDim S16x1 ![0] bcast_S16_S16x1_0
    (mulf (sitofp .f32 (iotaInDim S16 32 0)) (broadcastInDim S16 ![] bcast_S_S16 (constant S_ .f32 0x44000000#32)))))
    (broadcastInDim S16x128 ![0, 1] bcast_S1x128_S16x128_0_1 hostLanes)

def localTable : FVec Ideal S512x256 .f32 :=
  concatenate S512x256 1 [⟨S512x128, Host.cos hostLocal⟩, ⟨S512x128, Host.sin hostLocal⟩] concatenates_S512x128_S512x128_S512x256_d1
def baseTable : FVec Ideal S128x256 .f32 :=
  shapeCast S128x256 (broadcastInDim S16x8x256 ![0, 2] bcast_S16x256_S16x8x256_0_2
    (concatenate S16x256 1 [⟨S16x128, Host.cos hostBase⟩, ⟨S16x128, Host.sin hostBase⟩] concatenates_S16x128_S16x128_S16x256_d1)) shapeCasts_S16x8x256_S128x256

section

variable (m : (ℓ : Loc nD τ sig) → Buf (Elt Ideal) ℓ) (c : Dev nD)

theorem region_local : V m c main_v32 = localTable := by
  unfold V
  after_reads_simp
  try simp -implicitDefEqProofs only [StableHlo.TRef.toBuf, StableHlo.TRef.ofBuf, cast_cast, cast_eq]
  clean_types
  unfold localTable hostLocal hostLanes hostHead hostFreq
  rfl

theorem region_base : V m c main_v37 = baseTable := by
  unfold V
  after_reads_simp
  try simp -implicitDefEqProofs only [StableHlo.TRef.toBuf, StableHlo.TRef.ofBuf, cast_cast, cast_eq]
  clean_types
  unfold baseTable hostBase hostLanes hostHead hostFreq
  rfl

theorem region_rows : V m c main_v1 = transpose S16x1024x512 [0, 2, 1]
    (shapeCast S16x512x1024 (m ((c.tc : Thread nD τ).loc main_arg0) : (⟨S8192x1024, .bf16⟩ : BufTy).Contents (Elt Ideal)) shapeCasts_S8192x1024_S16x512x1024)
    transposes_S16x512x1024_S16x1024x512_0_2_1 := by
  unfold V
  after_reads_simp
  try simp -implicitDefEqProofs only [StableHlo.TRef.toBuf, StableHlo.TRef.ofBuf, cast_cast, cast_eq]
  clean_types
  rfl

end

/-! ## Element by element -/

/-- The frequency of a lane: the sixteen first of a head turn in pairs, the others do not. -/
def laneFreq (l : ℕ) : EReal := if l % 64 < 8 then freq (l % 64) else if l % 64 < 16 then freq (l % 64 - 8) else 0

theorem hostFreq_apply : hostFreq = fun y => freq (y 0).val := by
  funext y
  pointwise [hostFreq]
  rfl

theorem hostHead_apply : hostHead = fun y => laneFreq (y 0).val := by
  funext y
  have y0 : (y 0).val < 64 := (y 0).isLt
  unfold hostHead
  rw [hostFreq_apply]
  pointwise
  unfold laneFreq
  rw [Nat.mod_eq_of_lt y0]
  split
  · rfl
  · split <;> (first | rfl | (rw [if_pos (by omega)]) | (rw [if_neg (by omega)]))

theorem hostLanes_apply : hostLanes = mat 1 128 fun _ l => laneFreq l := by
  funext y
  unfold hostLanes
  rw [hostHead_apply]
  pointwise
  show laneFreq ((y 1).val % 64) = laneFreq (y 1).val
  unfold laneFreq
  rw [Nat.mod_mod]

theorem hostLocal_apply : hostLocal = mat 512 128 fun r l => num r * laneFreq l := by
  funext y
  unfold hostLocal
  rw [hostLanes_apply]
  pointwise
  rfl

theorem hostBase_apply : hostBase = mat 16 128 fun n l => num n * Ideal.ofBits .f32 0x44000000#32 * laneFreq l := by
  funext y
  unfold hostBase
  rw [hostLanes_apply]
  pointwise
  rfl

/-- A table of cosines and sines side by side. -/
def table (A : ℕ → ℕ → EReal) (r l : ℕ) : EReal := if l < 128 then Ideal.cos (A r l) else Ideal.sin (A r (l - 128))

theorem localTable_apply : localTable = mat 512 256 (table fun r l => num r * laneFreq l) := by
  funext y
  unfold localTable
  rw [hostLocal_apply]
  pointwise
  rfl

theorem baseTable_apply : baseTable = mat 128 256 fun r => table (fun n l => num n * Ideal.ofBits .f32 0x44000000#32 * laneFreq l) (r / 8) := by
  funext y
  unfold baseTable
  rw [hostBase_apply]
  pointwise
  rfl

theorem turned_rows (U : ℕ → ℕ → EReal) : transpose S16x1024x512 [0, 2, 1]
    (shapeCast S16x512x1024 (mat 8192 1024 U : (⟨S8192x1024, .bf16⟩ : BufTy).Contents (Elt Ideal)) shapeCasts_S8192x1024_S16x512x1024)
    transposes_S16x512x1024_S16x1024x512_0_2_1 = cube 16 1024 512 fun n d t => U (512 * n + t) d := by
  funext y
  pointwise
  exact congrArg (fun r => U r (y 1).val) (by show (y 0).val * 512 + (y 2).val = _; omega)

end Cert.Proj

end
-- ==== Proof.ProjBlock.lean ====
module

public import proofs.«01_k».proof.Proof.LayerBlock
public import proofs.«01_k».proof.Proof.Gen.Kernel3Ideal.Skeleton
public import Idealize.ShloMosaic.Lib.Pipeline.ValueKit.Tiles

/-! # The gradient of the joint projection: the operations of a block of rows -/

@[expose] public section

noncomputable section

namespace Cert.Proj

open Cert.Layer Cert.Kernel3Ideal Cert.Kernel3Ideal.Gen Idealize.ShloMosaic

theorem mat_congr {a b : ℕ} {f g : ℕ → ℕ → EReal} (h : ∀ i < a, ∀ j < b, f i j = g i j) : mat a b f = mat a b g := by
  funext y; unfold mat; exact h _ (y 0).isLt _ (y 1).isLt

/-! ## Element by element -/

section
variable {a b : ℕ} {φ ψ : FTy} (f g : ℕ → ℕ → EReal)

theorem addf_mat : addf (F := Ideal) (φ := φ) (mat a b f) (mat a b g) = mat a b fun i j => f i j + g i j := rfl
theorem mulf_mat : mulf (F := Ideal) (φ := φ) (mat a b f) (mat a b g) = mat a b fun i j => f i j * g i j := rfl
theorem extf_mat (h : φ.bits < ψ.bits) : extf (F := Ideal) (φ := φ) ψ (mat a b f) h = mat a b f := rfl
theorem truncf_mat (h : ψ.bits < φ.bits) : truncf (F := Ideal) (φ := φ) ψ (mat a b f) h = mat a b f := rfl
theorem broadcast_mat (x : EReal) : broadcast (⟨2, ![a, b]⟩ : Shape) x = mat a b fun _ _ => x := rfl

theorem cast_rows (x : (⟨2, ![a, b]⟩ : Shape).Idx → EReal) (h : (⟨2, ![a, b]⟩ : Shape).ShapeCasts ⟨2, ![a, b]⟩) :
    shapeCast ⟨2, ![a, b]⟩ x h = x := by
  funext y; simp only [shapeCast, Shape.reshapeEquiv_self, Equiv.refl_apply]

end

theorem drop_32 (f : ℕ → ℕ → ℕ → EReal) (h : S1x32x128.ShapeCasts S32x128) :
    shapeCast S32x128 (cube 1 32 128 f) h = mat 32 128 (f 0) := by
  funext y; pointwise; rfl
theorem drop_128 (f : ℕ → ℕ → ℕ → EReal) (h : S1x128x128.ShapeCasts S128x128) :
    shapeCast S128x128 (cube 1 128 128 f) h = mat 128 128 (f 0) := by
  funext y; pointwise; rfl
theorem drop_512 (f : ℕ → ℕ → ℕ → EReal) (h : S1x512x128.ShapeCasts S512x128) :
    shapeCast S512x128 (cube 1 512 128 f) h = mat 512 128 (f 0) := by
  funext y; pointwise; rfl

/-! ## The rotation of the lanes -/

theorem rotate_120 (f : ℕ → ℕ → EReal) :
    dynamicRotate 1 120#32 none (mat 512 128 f) rotates_S512x128_d1 = mat 512 128 fun r l => f r ((l + 8) % 128) := by
  funext y; pointwise; simp [mat]
theorem rotate_8 (f : ℕ → ℕ → EReal) :
    dynamicRotate 1 8#32 none (mat 512 128 f) rotates_S512x128_d1 = mat 512 128 fun r l => f r ((l + 120) % 128) := by
  funext y; pointwise; simp [mat]

/-- The cosine of the sum of two angles, from the tables of both. -/
theorem pay_cos (P Q : ℕ → ℕ → EReal) (p q : ℕ → ℕ → EReal) :
    k0_pay8 (F := Ideal) (mat 512 128 P) (mat 512 128 Q) (mat 1 128 p) (mat 1 128 q) = mat 512 128 fun r l => p 0 l * P r l - q 0 l * Q r l := by
  funext y
  pointwise [k0_pay8, k0_pay4, k0_pay5, k0_pay6, k0_pay7]
  rfl

/-- The sine of the sum of two angles. -/
theorem pay_sin (P Q : ℕ → ℕ → EReal) (p q : ℕ → ℕ → EReal) :
    k0_pay9 (F := Ideal) (mat 512 128 P) (mat 512 128 Q) (mat 1 128 p) (mat 1 128 q) = mat 512 128 fun r l => q 0 l * P r l + p 0 l * Q r l := by
  funext y
  pointwise [k0_pay9, k0_pay4, k0_pay5, k0_pay6, k0_pay7]
  rfl

/-- The lane within its head, as the body works it out from the lane's number. -/
abbrev lane (x : BitVec 32) : BitVec 32 :=
  Scalar.select
    (IntOp.andi
      (IntOp.xori
        (IntOp.cmpi CmpIPredicate.slt
          (IntOp.remsi ArithUnit.vector x (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne
        (IntOp.remsi ArithUnit.vector x (Scalar.select (Scalar.cmpi CmpIPredicate.eq 64#32 0#32) 1#32 64#32)) 0#32))
    (IntOp.addi
      (IntOp.remsi ArithUnit.vector x (Scalar.select (Scalar.cmpi CmpIPredicate.eq 64#32 0#32) 1#32 64#32))
      (Scalar.select (Scalar.cmpi CmpIPredicate.eq 64#32 0#32) 1#32 64#32))
    (IntOp.remsi ArithUnit.vector x (Scalar.select (Scalar.cmpi CmpIPredicate.eq 64#32 0#32) 1#32 64#32))

theorem lanes_up : ∀ l : Fin 128,
    IntOp.cmpi CmpIPredicate.slt (lane (BitVec.ofNat 32 l.val)) 8#32 = if l.val % 64 < 8 then 1#1 else 0#1 := by
  decide +kernel

theorem lanes_down : ∀ l : Fin 128,
    IntOp.andi (IntOp.cmpi CmpIPredicate.sge (lane (BitVec.ofNat 32 l.val)) 8#32)
      (IntOp.cmpi CmpIPredicate.slt (lane (BitVec.ofNat 32 l.val)) 16#32)
      = if 8 ≤ l.val % 64 ∧ l.val % 64 < 16 then 1#1 else 0#1 := by
  decide +kernel

theorem pay_up (S : ℕ → ℕ → EReal) :
    k0_pay12 (F := Ideal) (mat 512 128 S) k0_pay11 (Ideal.ofBits .f32 0x00000000#32)
      = mat 512 128 fun r l => if l % 64 < 8 then S r l else 0 := by
  funext y
  pointwise [k0_pay12, k0_pay11, k0_pay10]
  refine (congrArg (fun b => 0 - Scalar.select b (0 - mat 512 128 S y) 0) (lanes_up (y 1))).trans ?_
  show _ = if (y 1).val % 64 < 8 then S (y 0).val (y 1).val else 0
  split
  · rw [ValueIdx.select_one, sub_eq_add_neg, sub_eq_add_neg, zero_add, zero_add, neg_neg]; rfl
  · rw [ValueIdx.select_zero]; exact sub_zero _

theorem pay_down (S : ℕ → ℕ → EReal) :
    k0_pay13 (F := Ideal) (mat 512 128 S) k0_pay10
      = mat 512 128 fun r l => if 8 ≤ l % 64 ∧ l % 64 < 16 then -S r l else 0 := by
  funext y
  pointwise [k0_pay13, k0_pay10]
  refine (congrArg (fun b => 0 - Scalar.select b (mat 512 128 S y) 0) (lanes_down (y 1))).trans ?_
  show _ = if 8 ≤ (y 1).val % 64 ∧ (y 1).val % 64 < 16 then -S (y 0).val (y 1).val else 0
  split
  · rw [ValueIdx.select_one, sub_eq_add_neg, zero_add]; rfl
  · rw [ValueIdx.select_zero]; exact sub_zero _

/-! ## The payload of a block of lanes -/

/-- A block's lanes turned by the angles, whose cosines and sines are given lane by lane. -/
def turn (C S T P : ℕ → ℕ → EReal) (r l : ℕ) : EReal := P r l * C r l + P r ((l + 8) % 128) * S r l + P r ((l + 120) % 128) * T r l

/-- One eighth. -/
abbrev eighth' : EReal := Ideal.ofBits .f32 1040187392#32

/-- A product over a block of rows, added to what the shard of the weights' gradient holds. -/
theorem pay_shard (W : ℕ → ℕ → ℕ → EReal) (U : ℕ → ℕ → ℕ → EReal) (D : ℕ → ℕ → EReal) :
    k0_pay2 (F := Ideal) (cube 1 1024 768 W) (cube 1 1024 512 U) (mat 512 768 D)
      = cube 1 1024 768 fun _ d e => W 0 d e + ∑ t : Fin 512, U 0 d t * D t e := by
  funext y
  have h0 : (y 0).val = 0 := by have := (y 0).isLt; change (y 0).val < 1 at this; omega
  pointwise [k0_pay2]
  show W (y 0).val (y 1).val (y 2).val + _ = _
  rw [h0]
  rfl

/-! ## Stores of some of the rows -/

/-- The rows of residue `i`: every `d`-th row from row `i` on. -/
abbrev residueRows (d N i : ℕ) (inb : ∀ a, (![N, 128] : Fin 2 → ℕ) a = 0 ∨ (![i, 0] : Fin 2 → ℕ) a + (![d, 1] : Fin 2 → ℕ) a * ((![N, 128] : Fin 2 → ℕ) a - 1) < (![512, 128] : Fin 2 → ℕ) a)
    (pos : ∀ a, 0 < (![d, 1] : Fin 2 → ℕ) a) : Rect S512x128 where
  off := ![i, 0]
  size := ![N, 128]
  stride := ![d, 1]
  inb := inb
  stride_pos := pos

/-- Of a plane's rows, every `d`-th is stored at a time; what the plane holds is read off the stores, newest first, by
their places `3 * (the row's residue) + (the plane)`, which fall by one from store to store. -/
theorem residue_step (d N p i n : ℕ) (X : ℕ → ℕ → ℕ → EReal) {inb inb' pos h₁ h₂ h₃ h₄}
    {w : (⟨2, ![N, 128]⟩ : Shape).Idx → EReal} {L : List (View.Piece (Elt Ideal) S3x512x128 .f32)} (y : S3x512x128.Idx)
    (hw : w = mat N 128 fun a b => X i a (128 * p + b))
    (hL : 3 * ((y 1).val % d) + (y 0).val < n → View.canon L y = cube 3 512 128 (fun p t l => X (t % d) (t / d) (128 * p + l)) y)
    (hy : 3 * ((y 1).val % d) + (y 0).val < n + 1)
    (hi : i < d := by decide) (hd : d * N = 512 := by decide) (hp : p < 3 := by decide) (hn : n = 3 * i + p := by decide) :
    View.canon ((⟨(Rect.unit (s := S3x512x128) ![p, 0, 0] S1x512x128.size inb).within
        ((residueRows d N i inb' pos).consLift
          ![1, 512, 128] h₁ h₂) h₃, Rect.payAlong (r := residueRows d N i inb' pos) h₄ w⟩ : View.Piece (Elt Ideal) S3x512x128 .f32) :: L) y
      = cube 3 512 128 (fun p t l => X (t % d) (t / d) (128 * p + l)) y := by
  have y0 : (y 0).val < 3 := (y 0).isLt
  have y1 : (y 1).val < 512 := (y 1).isLt
  have y2 : (y 2).val < 128 := (y 2).isLt
  by_cases hm : 3 * ((y 1).val % d) + (y 0).val < n
  · refine (View.canon_cons_of_not_mem (Val := Elt Ideal) _ L fun hmem => ?_).trans (hL hm)
    replace hmem := (LoadRect.mem_set _).1 hmem
    obtain ⟨j0, hj0, e0⟩ := hmem 0
    obtain ⟨j1, hj1, e1⟩ := hmem 1
    change j0 < 1 at hj0
    change j1 < N at hj1
    change (y 0).val = p + 0 + 1 * j0 at e0
    change (y 1).val = 0 + i + d * j1 at e1
    rw [Nat.zero_add] at e1
    rw [e1, Nat.add_mul_mod_self_left, Nat.mod_eq_of_lt hi] at hm
    omega
  · have hr : (y 1).val % d < d := Nat.mod_lt _ (by omega)
    have hk : (y 1).val % d = i ∧ (y 0).val = p := by omega
    have hdm : d * ((y 1).val / d) + (y 1).val % d = (y 1).val := Nat.div_add_mod _ _
    have hq : (y 1).val / d < N := Nat.div_lt_of_lt_mul (by rw [hd]; exact y1)
    have e : y = ((Rect.unit (s := S3x512x128) ![p, 0, 0] S1x512x128.size inb).within
        ((residueRows d N i inb' pos).consLift
          ![1, 512, 128] h₁ h₂) h₃).emb (ValueIdx.ix3 (0 : Fin 1) (⟨(y 1).val / d, hq⟩ : Fin N) (⟨(y 2).val, y2⟩ : Fin 128)) := by
      funext a
      apply Fin.ext
      match a with
      | ⟨0, _⟩ => show (y 0).val = p + 0 + 1 * 0; omega
      | ⟨1, _⟩ => show (y 1).val = 0 + i + d * ((y 1).val / d); omega
      | ⟨2, _⟩ => show (y 2).val = 0 + 0 + 1 * (y 2).val; omega
    have hc := View.canon_cons_emb (Val := Elt Ideal) ((Rect.unit (s := S3x512x128) ![p, 0, 0] S1x512x128.size inb).within
        ((residueRows d N i inb' pos).consLift
          ![1, 512, 128] h₁ h₂) h₃) (Rect.payAlong (r := residueRows d N i inb' pos) h₄ w) L (ValueIdx.ix3 (0 : Fin 1) (⟨(y 1).val / d, hq⟩ : Fin N) (⟨(y 2).val, y2⟩ : Fin 128))
    rw [← e] at hc
    refine hc.trans ?_
    refine (Rect.payAlong_consLift (residueRows d N i inb' pos)
          ![1, 512, 128] h₁ h₂ w h₄ _ (ValueIdx.ix2 (⟨(y 1).val / d, hq⟩ : Fin N) (⟨(y 2).val, y2⟩ : Fin 128)) ?_).trans ?_
    · intro a
      match a with
      | ⟨0, _⟩ => rfl
      | ⟨1, _⟩ => rfl
    · rw [hw]
      show X i ((y 1).val / d) (128 * p + (y 2).val) = X ((y 1).val % d) ((y 1).val / d) (128 * (y 0).val + (y 2).val)
      rw [hk.1, hk.2]

/-- A block of 128 lanes, stored. -/
theorem lanes_step (q : ℕ) (G : ℕ → ℕ → ℕ → EReal) (o : ℕ) (inb) (w : S512x128.Idx → EReal) (L : List (View.Piece (Elt Ideal) S512x3072 .bf16))
    (y : S512x3072.Idx) (hw : w = mat 512 128 (G q)) (ho : o = 128 * q)
    (hL : (y 1).val / 128 ≠ q → View.canon L y = mat 512 3072 (fun r c => G (c / 128) r (c % 128)) y) :
    View.canon ((⟨Rect.unit (s := S512x3072) ![0, o] S512x128.size inb, w⟩ : View.Piece (Elt Ideal) S512x3072 .bf16) :: L) y
      = mat 512 3072 (fun r c => G (c / 128) r (c % 128)) y := by
  subst ho
  by_cases hm : (y 1).val / 128 = q
  · have hl : (y 1).val % 128 < 128 := Nat.mod_lt _ (by omega)
    have e : y = (Rect.unit (s := S512x3072) ![0, 128 * q] S512x128.size inb).emb (ValueIdx.ix2 (y 0 : Fin 512) (⟨(y 1).val % 128, hl⟩ : Fin 128)) := by
      funext a
      apply Fin.ext
      match a with
      | ⟨0, _⟩ => show (y 0).val = 0 + 1 * (y 0).val; omega
      | ⟨1, _⟩ => show (y 1).val = 128 * q + 1 * ((y 1).val % 128); omega
    have hc := View.canon_cons_emb (Val := Elt Ideal) (Rect.unit (s := S512x3072) ![0, 128 * q] S512x128.size inb) w L
      (ValueIdx.ix2 (y 0 : Fin 512) (⟨(y 1).val % 128, hl⟩ : Fin 128))
    rw [← e] at hc
    refine hc.trans ?_
    rw [hw]
    show G q (y 0).val ((y 1).val % 128) = G ((y 1).val / 128) (y 0).val ((y 1).val % 128)
    rw [hm]
  · refine (View.canon_cons_of_not_mem (Val := Elt Ideal) _ L fun hmem => ?_).trans (hL hm)
    replace hmem := (LoadRect.mem_set _).1 hmem
    obtain ⟨j1, hj1, e1⟩ := hmem 1
    change j1 < 128 at hj1
    change (y 1).val = 128 * q + 1 * j1 at e1
    omega

/-- A shard of the weights' gradient, stored. -/
theorem shard_step (j : ℕ) (G : ℕ → ℕ → ℕ → EReal) (inb) (w : S1x1024x768.Idx → EReal) (L : List (View.Piece (Elt Ideal) S4x1024x768 .f32))
    (y : S4x1024x768.Idx) (hw : w = cube 1 1024 768 fun _ => G j)
    (hL : (y 0).val ≠ j → View.canon L y = cube 4 1024 768 G y) :
    View.canon ((⟨Rect.unit (s := S4x1024x768) ![j, 0, 0] S1x1024x768.size inb, w⟩ : View.Piece (Elt Ideal) S4x1024x768 .f32) :: L) y
      = cube 4 1024 768 G y := by
  by_cases hm : (y 0).val = j
  · have e : y = (Rect.unit (s := S4x1024x768) ![j, 0, 0] S1x1024x768.size inb).emb (ValueIdx.ix3 (0 : Fin 1) (y 1 : Fin 1024) (y 2 : Fin 768)) := by
      funext a
      apply Fin.ext
      match a with
      | ⟨0, _⟩ => show (y 0).val = j + 1 * 0; omega
      | ⟨1, _⟩ => show (y 1).val = 0 + 1 * (y 1).val; omega
      | ⟨2, _⟩ => show (y 2).val = 0 + 1 * (y 2).val; omega
    have hc := View.canon_cons_emb (Val := Elt Ideal) (Rect.unit (s := S4x1024x768) ![j, 0, 0] S1x1024x768.size inb) w L
      (ValueIdx.ix3 (0 : Fin 1) (y 1 : Fin 1024) (y 2 : Fin 768))
    rw [← e] at hc
    refine hc.trans ?_
    rw [hw]
    show G j (y 1).val (y 2).val = G (y 0).val (y 1).val (y 2).val
    rw [hm]
  · refine (View.canon_cons_of_not_mem (Val := Elt Ideal) _ L fun hmem => ?_).trans (hL hm)
    replace hmem := (LoadRect.mem_set _).1 hmem
    obtain ⟨j0, hj0, e0⟩ := hmem 0
    change j0 < 1 at hj0
    change (y 0).val = j + 1 * j0 at e0
    omega

end Cert.Proj
-- ==== Proof.ProjStage.lean ====
module

public import proofs.«01_k».proof.Proof.ProjBlock
public import proofs.«01_k».proof.Proof.Gen.Kernel3Ideal.Frame.RunA
public import proofs.«01_k».proof.Proof.Gen.Kernel3Ideal.Frame.RunB

/-! # The gradient of the joint projection: the scratch planes

A dilated part comes in residue order: all rows of residue 0, then those of residue 1, and so on. The body stores each
residue's rows at their places among the 512 of the block, in scratch planes of 128 lanes. -/

@[expose] public section

noncomputable section

namespace Cert.Proj

open Cert.Layer Cert.Kernel3Ideal Cert.Kernel3Ideal.Gen Idealize.ShloMosaic

/-- Rows in residue order, put back in their natural order: plane `p` holds lanes `128 * p` to `128 * p + 127`. -/
abbrev spread (d : ℕ) (X : ℕ → ℕ → ℕ → EReal) (p t l : ℕ) : EReal := X (t % d) (t / d) (128 * p + l)

theorem read_residue_4 (v : Memref sig .tc .vmem S4x128x384 .bf16) (hv : v.IsWhole) (X : ℕ → ℕ → ℕ → EReal) (i q : ℕ) (inb) :
    View.readAt (Elt Ideal) v.view (Rect.unit (s := S4x128x384) ![i, 0, q] S1x128x128.size inb).toLoadRect (hv.unread (cube 4 128 384 X))
      = cube 1 128 128 fun j a b => X (i + j) a (q + b) := by
  rw [View.readAt_eq_ld, hv.read_unread]
  funext y
  show X (i + 1 * (y 0).val) (0 + 1 * (y 1).val) (q + 1 * (y 2).val) = X (i + (y 0).val) (y 1).val (q + (y 2).val)
  simp only [Nat.one_mul, Nat.zero_add]

theorem read_residue_16 (v : Memref sig .tc .vmem S16x32x384 .bf16) (hv : v.IsWhole) (X : ℕ → ℕ → ℕ → EReal) (i q : ℕ) (inb) :
    View.readAt (Elt Ideal) v.view (Rect.unit (s := S16x32x384) ![i, 0, q] S1x32x128.size inb).toLoadRect (hv.unread (cube 16 32 384 X))
      = cube 1 32 128 fun j a b => X (i + j) a (q + b) := by
  rw [View.readAt_eq_ld, hv.read_unread]
  funext y
  show X (i + 1 * (y 0).val) (0 + 1 * (y 1).val) (q + 1 * (y 2).val) = X (i + (y 0).val) (y 1).val (q + (y 2).val)
  simp only [Nat.one_mul, Nat.zero_add]

theorem residue_4 {v : Memref sig .tc .vmem S4x128x384 .bf16} {hv : v.IsWhole} (X : ℕ → ℕ → ℕ → EReal) (i q : ℕ) (inb) :
    shapeCast S128x128 (extf (F := Ideal) (φ := .bf16) .f32 (shapeCast S128x128 (View.readAt (Elt Ideal) v.view (Rect.unit (s := S4x128x384) ![i, 0, q] S1x128x128.size inb).toLoadRect
        (hv.unread (cube 4 128 384 X))) shapeCasts_S1x128x128_S128x128) bitsLt_bf16_f32) shapeCasts_S128x128_S128x128
      = mat 128 128 fun a b => X i a (q + b) := by
  rw [read_residue_4, drop_128]
  exact cast_rows _ _

theorem residue_16 {v : Memref sig .tc .vmem S16x32x384 .bf16} {hv : v.IsWhole} (X : ℕ → ℕ → ℕ → EReal) (i q : ℕ) (inb) :
    shapeCast S32x128 (extf (F := Ideal) (φ := .bf16) .f32 (shapeCast S32x128 (View.readAt (Elt Ideal) v.view (Rect.unit (s := S16x32x384) ![i, 0, q] S1x32x128.size inb).toLoadRect
        (hv.unread (cube 16 32 384 X))) shapeCasts_S1x32x128_S32x128) bitsLt_bf16_f32) shapeCasts_S32x128_S32x128
      = mat 32 128 fun a b => X i a (q + b) := by
  rw [read_residue_16, drop_32]
  exact cast_rows _ _

/-- One plane, loaded. -/
theorem read_plane (v : View sig .tc .vmem S3x512x128 .f32) (L : List (View.Piece (Elt Ideal) S3x512x128 .f32)) (X : ℕ → ℕ → ℕ → EReal)
    (h : View.canon L = cube 3 512 128 X) (p : ℕ) (inb) :
    v.readCov L (Rect.unit (s := S3x512x128) ![p, 0, 0] S1x512x128.size inb).toLoadRect = cube 1 512 128 fun j => X (p + j) := by
  rw [View.readCov_eq_canon', h]
  funext y
  show X (p + 1 * (y 0).val) (0 + 1 * (y 1).val) (0 + 1 * (y 2).val) = X (p + (y 0).val) (y 1).val (y 2).val
  simp only [Nat.one_mul, Nat.zero_add]
theorem stage_0 (c : Dev nD) (arg12 : Memref sig .tc .vmem S4x128x384 .bf16) (harg12 : arg12.IsWhole) (X : ℕ → ℕ → ℕ → EReal) :
    View.canon (kernelRun0_A.sl.HS0_12 (F := Ideal) c arg12 harg12 (cube 4 128 384 X)) = cube 3 512 128 (spread 4 X) := by
  funext y
  have y0 : (y 0).val < 3 := (y 0).isLt
  have y1 : (y 1).val % 4 < 4 := Nat.mod_lt _ (by decide)
  have hk : 3 * ((y 1).val % 4) + (y 0).val < 12 := by omega
  simp only [kernelRun0_A.sl.HS0_12]
  refine residue_step 4 128 2 3 11 X y (residue_4 X 3 256 _) (fun hk => ?_) hk
  refine residue_step 4 128 1 3 10 X y (residue_4 X 3 128 _) (fun hk => ?_) hk
  refine residue_step 4 128 0 3 9 X y (residue_4 X 3 0 _) (fun hk => ?_) hk
  refine residue_step 4 128 2 2 8 X y (residue_4 X 2 256 _) (fun hk => ?_) hk
  refine residue_step 4 128 1 2 7 X y (residue_4 X 2 128 _) (fun hk => ?_) hk
  refine residue_step 4 128 0 2 6 X y (residue_4 X 2 0 _) (fun hk => ?_) hk
  refine residue_step 4 128 2 1 5 X y (residue_4 X 1 256 _) (fun hk => ?_) hk
  refine residue_step 4 128 1 1 4 X y (residue_4 X 1 128 _) (fun hk => ?_) hk
  refine residue_step 4 128 0 1 3 X y (residue_4 X 1 0 _) (fun hk => ?_) hk
  refine residue_step 4 128 2 0 2 X y (residue_4 X 0 256 _) (fun hk => ?_) hk
  refine residue_step 4 128 1 0 1 X y (residue_4 X 0 128 _) (fun hk => ?_) hk
  refine residue_step 4 128 0 0 0 X y (residue_4 X 0 0 _) (fun hk => ?_) hk
  exact absurd hk (Nat.not_lt_zero _)
theorem stage_1 (c : Dev nD) (arg13 : Memref sig .tc .vmem S16x32x384 .bf16) (harg13 : arg13.IsWhole) (X : ℕ → ℕ → ℕ → EReal) :
    View.canon (kernelRun0_A.sl.HS1_48 (F := Ideal) c arg13 harg13 (cube 16 32 384 X)) = cube 3 512 128 (spread 16 X) := by
  funext y
  have y0 : (y 0).val < 3 := (y 0).isLt
  have y1 : (y 1).val % 16 < 16 := Nat.mod_lt _ (by decide)
  have hk : 3 * ((y 1).val % 16) + (y 0).val < 48 := by omega
  simp only [kernelRun0_A.sl.HS1_48, kernelRun0_A.sl.HS1_36]
  refine residue_step 16 32 2 15 47 X y (residue_16 X 15 256 _) (fun hk => ?_) hk
  refine residue_step 16 32 1 15 46 X y (residue_16 X 15 128 _) (fun hk => ?_) hk
  refine residue_step 16 32 0 15 45 X y (residue_16 X 15 0 _) (fun hk => ?_) hk
  refine residue_step 16 32 2 14 44 X y (residue_16 X 14 256 _) (fun hk => ?_) hk
  refine residue_step 16 32 1 14 43 X y (residue_16 X 14 128 _) (fun hk => ?_) hk
  refine residue_step 16 32 0 14 42 X y (residue_16 X 14 0 _) (fun hk => ?_) hk
  refine residue_step 16 32 2 13 41 X y (residue_16 X 13 256 _) (fun hk => ?_) hk
  refine residue_step 16 32 1 13 40 X y (residue_16 X 13 128 _) (fun hk => ?_) hk
  refine residue_step 16 32 0 13 39 X y (residue_16 X 13 0 _) (fun hk => ?_) hk
  refine residue_step 16 32 2 12 38 X y (residue_16 X 12 256 _) (fun hk => ?_) hk
  refine residue_step 16 32 1 12 37 X y (residue_16 X 12 128 _) (fun hk => ?_) hk
  refine residue_step 16 32 0 12 36 X y (residue_16 X 12 0 _) (fun hk => ?_) hk
  refine residue_step 16 32 2 11 35 X y (residue_16 X 11 256 _) (fun hk => ?_) hk
  refine residue_step 16 32 1 11 34 X y (residue_16 X 11 128 _) (fun hk => ?_) hk
  refine residue_step 16 32 0 11 33 X y (residue_16 X 11 0 _) (fun hk => ?_) hk
  refine residue_step 16 32 2 10 32 X y (residue_16 X 10 256 _) (fun hk => ?_) hk
  refine residue_step 16 32 1 10 31 X y (residue_16 X 10 128 _) (fun hk => ?_) hk
  refine residue_step 16 32 0 10 30 X y (residue_16 X 10 0 _) (fun hk => ?_) hk
  refine residue_step 16 32 2 9 29 X y (residue_16 X 9 256 _) (fun hk => ?_) hk
  refine residue_step 16 32 1 9 28 X y (residue_16 X 9 128 _) (fun hk => ?_) hk
  refine residue_step 16 32 0 9 27 X y (residue_16 X 9 0 _) (fun hk => ?_) hk
  refine residue_step 16 32 2 8 26 X y (residue_16 X 8 256 _) (fun hk => ?_) hk
  refine residue_step 16 32 1 8 25 X y (residue_16 X 8 128 _) (fun hk => ?_) hk
  refine residue_step 16 32 0 8 24 X y (residue_16 X 8 0 _) (fun hk => ?_) hk
  refine residue_step 16 32 2 7 23 X y (residue_16 X 7 256 _) (fun hk => ?_) hk
  refine residue_step 16 32 1 7 22 X y (residue_16 X 7 128 _) (fun hk => ?_) hk
  refine residue_step 16 32 0 7 21 X y (residue_16 X 7 0 _) (fun hk => ?_) hk
  refine residue_step 16 32 2 6 20 X y (residue_16 X 6 256 _) (fun hk => ?_) hk
  refine residue_step 16 32 1 6 19 X y (residue_16 X 6 128 _) (fun hk => ?_) hk
  refine residue_step 16 32 0 6 18 X y (residue_16 X 6 0 _) (fun hk => ?_) hk
  refine residue_step 16 32 2 5 17 X y (residue_16 X 5 256 _) (fun hk => ?_) hk
  refine residue_step 16 32 1 5 16 X y (residue_16 X 5 128 _) (fun hk => ?_) hk
  refine residue_step 16 32 0 5 15 X y (residue_16 X 5 0 _) (fun hk => ?_) hk
  refine residue_step 16 32 2 4 14 X y (residue_16 X 4 256 _) (fun hk => ?_) hk
  refine residue_step 16 32 1 4 13 X y (residue_16 X 4 128 _) (fun hk => ?_) hk
  refine residue_step 16 32 0 4 12 X y (residue_16 X 4 0 _) (fun hk => ?_) hk
  refine residue_step 16 32 2 3 11 X y (residue_16 X 3 256 _) (fun hk => ?_) hk
  refine residue_step 16 32 1 3 10 X y (residue_16 X 3 128 _) (fun hk => ?_) hk
  refine residue_step 16 32 0 3 9 X y (residue_16 X 3 0 _) (fun hk => ?_) hk
  refine residue_step 16 32 2 2 8 X y (residue_16 X 2 256 _) (fun hk => ?_) hk
  refine residue_step 16 32 1 2 7 X y (residue_16 X 2 128 _) (fun hk => ?_) hk
  refine residue_step 16 32 0 2 6 X y (residue_16 X 2 0 _) (fun hk => ?_) hk
  refine residue_step 16 32 2 1 5 X y (residue_16 X 1 256 _) (fun hk => ?_) hk
  refine residue_step 16 32 1 1 4 X y (residue_16 X 1 128 _) (fun hk => ?_) hk
  refine residue_step 16 32 0 1 3 X y (residue_16 X 1 0 _) (fun hk => ?_) hk
  refine residue_step 16 32 2 0 2 X y (residue_16 X 0 256 _) (fun hk => ?_) hk
  refine residue_step 16 32 1 0 1 X y (residue_16 X 0 128 _) (fun hk => ?_) hk
  refine residue_step 16 32 0 0 0 X y (residue_16 X 0 0 _) (fun hk => ?_) hk
  exact absurd hk (Nat.not_lt_zero _)
theorem stage_2 (c : Dev nD) (arg15 : Memref sig .tc .vmem S4x128x384 .bf16) (harg15 : arg15.IsWhole) (X : ℕ → ℕ → ℕ → EReal) :
    View.canon (kernelRun0_A.sl.HS2_12 (F := Ideal) c arg15 harg15 (cube 4 128 384 X)) = cube 3 512 128 (spread 4 X) := by
  funext y
  have y0 : (y 0).val < 3 := (y 0).isLt
  have y1 : (y 1).val % 4 < 4 := Nat.mod_lt _ (by decide)
  have hk : 3 * ((y 1).val % 4) + (y 0).val < 12 := by omega
  simp only [kernelRun0_A.sl.HS2_12]
  refine residue_step 4 128 2 3 11 X y (residue_4 X 3 256 _) (fun hk => ?_) hk
  refine residue_step 4 128 1 3 10 X y (residue_4 X 3 128 _) (fun hk => ?_) hk
  refine residue_step 4 128 0 3 9 X y (residue_4 X 3 0 _) (fun hk => ?_) hk
  refine residue_step 4 128 2 2 8 X y (residue_4 X 2 256 _) (fun hk => ?_) hk
  refine residue_step 4 128 1 2 7 X y (residue_4 X 2 128 _) (fun hk => ?_) hk
  refine residue_step 4 128 0 2 6 X y (residue_4 X 2 0 _) (fun hk => ?_) hk
  refine residue_step 4 128 2 1 5 X y (residue_4 X 1 256 _) (fun hk => ?_) hk
  refine residue_step 4 128 1 1 4 X y (residue_4 X 1 128 _) (fun hk => ?_) hk
  refine residue_step 4 128 0 1 3 X y (residue_4 X 1 0 _) (fun hk => ?_) hk
  refine residue_step 4 128 2 0 2 X y (residue_4 X 0 256 _) (fun hk => ?_) hk
  refine residue_step 4 128 1 0 1 X y (residue_4 X 0 128 _) (fun hk => ?_) hk
  refine residue_step 4 128 0 0 0 X y (residue_4 X 0 0 _) (fun hk => ?_) hk
  exact absurd hk (Nat.not_lt_zero _)
theorem stage_3 (c : Dev nD) (arg16 : Memref sig .tc .vmem S16x32x384 .bf16) (harg16 : arg16.IsWhole) (X : ℕ → ℕ → ℕ → EReal) :
    View.canon (kernelRun0_A.sl.HS3_48 (F := Ideal) c arg16 harg16 (cube 16 32 384 X)) = cube 3 512 128 (spread 16 X) := by
  funext y
  have y0 : (y 0).val < 3 := (y 0).isLt
  have y1 : (y 1).val % 16 < 16 := Nat.mod_lt _ (by decide)
  have hk : 3 * ((y 1).val % 16) + (y 0).val < 48 := by omega
  simp only [kernelRun0_A.sl.HS3_48, kernelRun0_A.sl.HS3_36]
  refine residue_step 16 32 2 15 47 X y (residue_16 X 15 256 _) (fun hk => ?_) hk
  refine residue_step 16 32 1 15 46 X y (residue_16 X 15 128 _) (fun hk => ?_) hk
  refine residue_step 16 32 0 15 45 X y (residue_16 X 15 0 _) (fun hk => ?_) hk
  refine residue_step 16 32 2 14 44 X y (residue_16 X 14 256 _) (fun hk => ?_) hk
  refine residue_step 16 32 1 14 43 X y (residue_16 X 14 128 _) (fun hk => ?_) hk
  refine residue_step 16 32 0 14 42 X y (residue_16 X 14 0 _) (fun hk => ?_) hk
  refine residue_step 16 32 2 13 41 X y (residue_16 X 13 256 _) (fun hk => ?_) hk
  refine residue_step 16 32 1 13 40 X y (residue_16 X 13 128 _) (fun hk => ?_) hk
  refine residue_step 16 32 0 13 39 X y (residue_16 X 13 0 _) (fun hk => ?_) hk
  refine residue_step 16 32 2 12 38 X y (residue_16 X 12 256 _) (fun hk => ?_) hk
  refine residue_step 16 32 1 12 37 X y (residue_16 X 12 128 _) (fun hk => ?_) hk
  refine residue_step 16 32 0 12 36 X y (residue_16 X 12 0 _) (fun hk => ?_) hk
  refine residue_step 16 32 2 11 35 X y (residue_16 X 11 256 _) (fun hk => ?_) hk
  refine residue_step 16 32 1 11 34 X y (residue_16 X 11 128 _) (fun hk => ?_) hk
  refine residue_step 16 32 0 11 33 X y (residue_16 X 11 0 _) (fun hk => ?_) hk
  refine residue_step 16 32 2 10 32 X y (residue_16 X 10 256 _) (fun hk => ?_) hk
  refine residue_step 16 32 1 10 31 X y (residue_16 X 10 128 _) (fun hk => ?_) hk
  refine residue_step 16 32 0 10 30 X y (residue_16 X 10 0 _) (fun hk => ?_) hk
  refine residue_step 16 32 2 9 29 X y (residue_16 X 9 256 _) (fun hk => ?_) hk
  refine residue_step 16 32 1 9 28 X y (residue_16 X 9 128 _) (fun hk => ?_) hk
  refine residue_step 16 32 0 9 27 X y (residue_16 X 9 0 _) (fun hk => ?_) hk
  refine residue_step 16 32 2 8 26 X y (residue_16 X 8 256 _) (fun hk => ?_) hk
  refine residue_step 16 32 1 8 25 X y (residue_16 X 8 128 _) (fun hk => ?_) hk
  refine residue_step 16 32 0 8 24 X y (residue_16 X 8 0 _) (fun hk => ?_) hk
  refine residue_step 16 32 2 7 23 X y (residue_16 X 7 256 _) (fun hk => ?_) hk
  refine residue_step 16 32 1 7 22 X y (residue_16 X 7 128 _) (fun hk => ?_) hk
  refine residue_step 16 32 0 7 21 X y (residue_16 X 7 0 _) (fun hk => ?_) hk
  refine residue_step 16 32 2 6 20 X y (residue_16 X 6 256 _) (fun hk => ?_) hk
  refine residue_step 16 32 1 6 19 X y (residue_16 X 6 128 _) (fun hk => ?_) hk
  refine residue_step 16 32 0 6 18 X y (residue_16 X 6 0 _) (fun hk => ?_) hk
  refine residue_step 16 32 2 5 17 X y (residue_16 X 5 256 _) (fun hk => ?_) hk
  refine residue_step 16 32 1 5 16 X y (residue_16 X 5 128 _) (fun hk => ?_) hk
  refine residue_step 16 32 0 5 15 X y (residue_16 X 5 0 _) (fun hk => ?_) hk
  refine residue_step 16 32 2 4 14 X y (residue_16 X 4 256 _) (fun hk => ?_) hk
  refine residue_step 16 32 1 4 13 X y (residue_16 X 4 128 _) (fun hk => ?_) hk
  refine residue_step 16 32 0 4 12 X y (residue_16 X 4 0 _) (fun hk => ?_) hk
  refine residue_step 16 32 2 3 11 X y (residue_16 X 3 256 _) (fun hk => ?_) hk
  refine residue_step 16 32 1 3 10 X y (residue_16 X 3 128 _) (fun hk => ?_) hk
  refine residue_step 16 32 0 3 9 X y (residue_16 X 3 0 _) (fun hk => ?_) hk
  refine residue_step 16 32 2 2 8 X y (residue_16 X 2 256 _) (fun hk => ?_) hk
  refine residue_step 16 32 1 2 7 X y (residue_16 X 2 128 _) (fun hk => ?_) hk
  refine residue_step 16 32 0 2 6 X y (residue_16 X 2 0 _) (fun hk => ?_) hk
  refine residue_step 16 32 2 1 5 X y (residue_16 X 1 256 _) (fun hk => ?_) hk
  refine residue_step 16 32 1 1 4 X y (residue_16 X 1 128 _) (fun hk => ?_) hk
  refine residue_step 16 32 0 1 3 X y (residue_16 X 1 0 _) (fun hk => ?_) hk
  refine residue_step 16 32 2 0 2 X y (residue_16 X 0 256 _) (fun hk => ?_) hk
  refine residue_step 16 32 1 0 1 X y (residue_16 X 0 128 _) (fun hk => ?_) hk
  refine residue_step 16 32 0 0 0 X y (residue_16 X 0 0 _) (fun hk => ?_) hk
  exact absurd hk (Nat.not_lt_zero _)
theorem stage_4 (c : Dev nD) (arg18 : Memref sig .tc .vmem S4x128x384 .bf16) (harg18 : arg18.IsWhole) (X : ℕ → ℕ → ℕ → EReal) :
    View.canon (kernelRun0_A.sl.HS4_12 (F := Ideal) c arg18 harg18 (cube 4 128 384 X)) = cube 3 512 128 (spread 4 X) := by
  funext y
  have y0 : (y 0).val < 3 := (y 0).isLt
  have y1 : (y 1).val % 4 < 4 := Nat.mod_lt _ (by decide)
  have hk : 3 * ((y 1).val % 4) + (y 0).val < 12 := by omega
  simp only [kernelRun0_A.sl.HS4_12]
  refine residue_step 4 128 2 3 11 X y (residue_4 X 3 256 _) (fun hk => ?_) hk
  refine residue_step 4 128 1 3 10 X y (residue_4 X 3 128 _) (fun hk => ?_) hk
  refine residue_step 4 128 0 3 9 X y (residue_4 X 3 0 _) (fun hk => ?_) hk
  refine residue_step 4 128 2 2 8 X y (residue_4 X 2 256 _) (fun hk => ?_) hk
  refine residue_step 4 128 1 2 7 X y (residue_4 X 2 128 _) (fun hk => ?_) hk
  refine residue_step 4 128 0 2 6 X y (residue_4 X 2 0 _) (fun hk => ?_) hk
  refine residue_step 4 128 2 1 5 X y (residue_4 X 1 256 _) (fun hk => ?_) hk
  refine residue_step 4 128 1 1 4 X y (residue_4 X 1 128 _) (fun hk => ?_) hk
  refine residue_step 4 128 0 1 3 X y (residue_4 X 1 0 _) (fun hk => ?_) hk
  refine residue_step 4 128 2 0 2 X y (residue_4 X 0 256 _) (fun hk => ?_) hk
  refine residue_step 4 128 1 0 1 X y (residue_4 X 0 128 _) (fun hk => ?_) hk
  refine residue_step 4 128 0 0 0 X y (residue_4 X 0 0 _) (fun hk => ?_) hk
  exact absurd hk (Nat.not_lt_zero _)
theorem stage_5 (c : Dev nD) (arg19 : Memref sig .tc .vmem S16x32x384 .bf16) (harg19 : arg19.IsWhole) (X : ℕ → ℕ → ℕ → EReal) :
    View.canon (kernelRun0_A.sl.HS5_48 (F := Ideal) c arg19 harg19 (cube 16 32 384 X)) = cube 3 512 128 (spread 16 X) := by
  funext y
  have y0 : (y 0).val < 3 := (y 0).isLt
  have y1 : (y 1).val % 16 < 16 := Nat.mod_lt _ (by decide)
  have hk : 3 * ((y 1).val % 16) + (y 0).val < 48 := by omega
  simp only [kernelRun0_A.sl.HS5_48, kernelRun0_A.sl.HS5_36]
  refine residue_step 16 32 2 15 47 X y (residue_16 X 15 256 _) (fun hk => ?_) hk
  refine residue_step 16 32 1 15 46 X y (residue_16 X 15 128 _) (fun hk => ?_) hk
  refine residue_step 16 32 0 15 45 X y (residue_16 X 15 0 _) (fun hk => ?_) hk
  refine residue_step 16 32 2 14 44 X y (residue_16 X 14 256 _) (fun hk => ?_) hk
  refine residue_step 16 32 1 14 43 X y (residue_16 X 14 128 _) (fun hk => ?_) hk
  refine residue_step 16 32 0 14 42 X y (residue_16 X 14 0 _) (fun hk => ?_) hk
  refine residue_step 16 32 2 13 41 X y (residue_16 X 13 256 _) (fun hk => ?_) hk
  refine residue_step 16 32 1 13 40 X y (residue_16 X 13 128 _) (fun hk => ?_) hk
  refine residue_step 16 32 0 13 39 X y (residue_16 X 13 0 _) (fun hk => ?_) hk
  refine residue_step 16 32 2 12 38 X y (residue_16 X 12 256 _) (fun hk => ?_) hk
  refine residue_step 16 32 1 12 37 X y (residue_16 X 12 128 _) (fun hk => ?_) hk
  refine residue_step 16 32 0 12 36 X y (residue_16 X 12 0 _) (fun hk => ?_) hk
  refine residue_step 16 32 2 11 35 X y (residue_16 X 11 256 _) (fun hk => ?_) hk
  refine residue_step 16 32 1 11 34 X y (residue_16 X 11 128 _) (fun hk => ?_) hk
  refine residue_step 16 32 0 11 33 X y (residue_16 X 11 0 _) (fun hk => ?_) hk
  refine residue_step 16 32 2 10 32 X y (residue_16 X 10 256 _) (fun hk => ?_) hk
  refine residue_step 16 32 1 10 31 X y (residue_16 X 10 128 _) (fun hk => ?_) hk
  refine residue_step 16 32 0 10 30 X y (residue_16 X 10 0 _) (fun hk => ?_) hk
  refine residue_step 16 32 2 9 29 X y (residue_16 X 9 256 _) (fun hk => ?_) hk
  refine residue_step 16 32 1 9 28 X y (residue_16 X 9 128 _) (fun hk => ?_) hk
  refine residue_step 16 32 0 9 27 X y (residue_16 X 9 0 _) (fun hk => ?_) hk
  refine residue_step 16 32 2 8 26 X y (residue_16 X 8 256 _) (fun hk => ?_) hk
  refine residue_step 16 32 1 8 25 X y (residue_16 X 8 128 _) (fun hk => ?_) hk
  refine residue_step 16 32 0 8 24 X y (residue_16 X 8 0 _) (fun hk => ?_) hk
  refine residue_step 16 32 2 7 23 X y (residue_16 X 7 256 _) (fun hk => ?_) hk
  refine residue_step 16 32 1 7 22 X y (residue_16 X 7 128 _) (fun hk => ?_) hk
  refine residue_step 16 32 0 7 21 X y (residue_16 X 7 0 _) (fun hk => ?_) hk
  refine residue_step 16 32 2 6 20 X y (residue_16 X 6 256 _) (fun hk => ?_) hk
  refine residue_step 16 32 1 6 19 X y (residue_16 X 6 128 _) (fun hk => ?_) hk
  refine residue_step 16 32 0 6 18 X y (residue_16 X 6 0 _) (fun hk => ?_) hk
  refine residue_step 16 32 2 5 17 X y (residue_16 X 5 256 _) (fun hk => ?_) hk
  refine residue_step 16 32 1 5 16 X y (residue_16 X 5 128 _) (fun hk => ?_) hk
  refine residue_step 16 32 0 5 15 X y (residue_16 X 5 0 _) (fun hk => ?_) hk
  refine residue_step 16 32 2 4 14 X y (residue_16 X 4 256 _) (fun hk => ?_) hk
  refine residue_step 16 32 1 4 13 X y (residue_16 X 4 128 _) (fun hk => ?_) hk
  refine residue_step 16 32 0 4 12 X y (residue_16 X 4 0 _) (fun hk => ?_) hk
  refine residue_step 16 32 2 3 11 X y (residue_16 X 3 256 _) (fun hk => ?_) hk
  refine residue_step 16 32 1 3 10 X y (residue_16 X 3 128 _) (fun hk => ?_) hk
  refine residue_step 16 32 0 3 9 X y (residue_16 X 3 0 _) (fun hk => ?_) hk
  refine residue_step 16 32 2 2 8 X y (residue_16 X 2 256 _) (fun hk => ?_) hk
  refine residue_step 16 32 1 2 7 X y (residue_16 X 2 128 _) (fun hk => ?_) hk
  refine residue_step 16 32 0 2 6 X y (residue_16 X 2 0 _) (fun hk => ?_) hk
  refine residue_step 16 32 2 1 5 X y (residue_16 X 1 256 _) (fun hk => ?_) hk
  refine residue_step 16 32 1 1 4 X y (residue_16 X 1 128 _) (fun hk => ?_) hk
  refine residue_step 16 32 0 1 3 X y (residue_16 X 1 0 _) (fun hk => ?_) hk
  refine residue_step 16 32 2 0 2 X y (residue_16 X 0 256 _) (fun hk => ?_) hk
  refine residue_step 16 32 1 0 1 X y (residue_16 X 0 128 _) (fun hk => ?_) hk
  refine residue_step 16 32 0 0 0 X y (residue_16 X 0 0 _) (fun hk => ?_) hk
  exact absurd hk (Nat.not_lt_zero _)
end Cert.Proj
-- ==== Proof.ProjBody.lean ====
module

public import proofs.«01_k».proof.Proof.ProjStage
public import proofs.«01_k».proof.Proof.Gen.Kernel3Ideal.Frame
public import Idealize.ShloMosaic.Lib.Pipeline.ReadBack

/-! # The gradient of the joint projection: the body's outputs at a point -/

@[expose] public section

noncomputable section

namespace Cert.Proj

open Cert.Layer Cert.Kernel3Ideal Cert.Kernel3Ideal.Gen Idealize.ShloMosaic

/-- The gradients of the parts of the joint projection: the natural parts by row, the dilated ones by residue and row. -/
structure Grads where
  (qa ka va ga gb qc gc : ℕ → ℕ → EReal)
  (qb₁ qb₄ qb₁₆ kb₁ kb₄ kb₁₆ vb₁ vb₄ vb₁₆ : ℕ → ℕ → ℕ → EReal)

/-- The cosines of a block's angles. -/
def kcos (L B : ℕ → ℕ → EReal) (r l : ℕ) : EReal := B 0 (0 + l) * L r (0 + l) - B 0 (128 + l) * L r (128 + l)
/-- The sines of a block's angles. -/
def ksin (L B : ℕ → ℕ → EReal) (r l : ℕ) : EReal := B 0 (128 + l) * L r (0 + l) + B 0 (0 + l) * L r (128 + l)
/-- The sines on the first eight lanes of a head. -/
def kup (L B : ℕ → ℕ → EReal) (r l : ℕ) : EReal := if l % 64 < 8 then ksin L B r l else 0
/-- The sines, negated, on the next eight lanes of a head. -/
def kdown (L B : ℕ → ℕ → EReal) (r l : ℕ) : EReal := if 8 ≤ l % 64 ∧ l % 64 < 16 then -ksin L B r l else 0

/-- The lanes of a matrix from lane `q` on. -/
def part (X : ℕ → ℕ → EReal) (q r l : ℕ) : EReal := X r (q + l)
/-- Plane `p` of the sum of a part's three dilations. -/
def merge (X₁ X₄ X₁₆ : ℕ → ℕ → ℕ → EReal) (p r l : ℕ) : EReal := X₁ 0 r (128 * p + l) + spread 4 X₄ p r l + spread 16 X₁₆ p r l
/-- A block of lanes, turned by the block's angles. -/
def turned (L B : ℕ → ℕ → EReal) (P : ℕ → ℕ → EReal) : ℕ → ℕ → EReal := turn (kcos L B) (kup L B) (kdown L B) P
/-- A block of lanes, an eighth of it. -/
def scaled (P : ℕ → ℕ → EReal) (r l : ℕ) : EReal := P r l * eighth'

/-- What the body stores in block `q` of 128 lanes. -/
def blk (L B : ℕ → ℕ → EReal) (D : Grads) : ℕ → ℕ → ℕ → EReal
  | 0 => scaled (turned L B (part D.qa 0))
  | 1 => scaled (turned L B (part D.qa 128))
  | 2 => scaled (turned L B (part D.qa 256))
  | 3 => turned L B (part D.ka 0)
  | 4 => part D.va 0
  | 5 => part D.ga 0
  | 6 => part D.ga 128
  | 7 => part D.ga 256
  | 8 => scaled (turned L B (merge D.qb₁ D.qb₄ D.qb₁₆ 0))
  | 9 => scaled (turned L B (merge D.qb₁ D.qb₄ D.qb₁₆ 1))
  | 10 => scaled (turned L B (merge D.qb₁ D.qb₄ D.qb₁₆ 2))
  | 11 => turned L B (merge D.kb₁ D.kb₄ D.kb₁₆ 0)
  | 12 => turned L B (merge D.kb₁ D.kb₄ D.kb₁₆ 1)
  | 13 => turned L B (merge D.kb₁ D.kb₄ D.kb₁₆ 2)
  | 14 => merge D.vb₁ D.vb₄ D.vb₁₆ 0
  | 15 => merge D.vb₁ D.vb₄ D.vb₁₆ 1
  | 16 => merge D.vb₁ D.vb₄ D.vb₁₆ 2
  | 17 => part D.gb 0
  | 18 => part D.gb 128
  | 19 => part D.gb 256
  | 20 => scaled (part D.qc 0)
  | 21 => scaled (part D.qc 128)
  | 22 => part D.gc 0
  | 23 => part D.gc 128
  | _ => fun _ _ => 0

/-- What the body stores, all lanes. -/
def dblk (L B : ℕ → ℕ → EReal) (D : Grads) (r c : ℕ) : EReal := blk L B D (c / 128) r (c % 128)

/-! ## What the body reads -/

theorem read_table (v : Memref sig .tc .vmem S512x256 .f32) (hv : v.IsWhole) (X : ℕ → ℕ → EReal) (q : ℕ) (inb) :
    View.readAt (Elt Ideal) v.view (Rect.unit (s := S512x256) ![0, q] ![512, 128] inb).toLoadRect (hv.unread (mat 512 256 X)) = mat 512 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_base (v : Memref sig .tc .vmem S8x256 .f32) (hv : v.IsWhole) (X : ℕ → ℕ → EReal) (q : ℕ) (inb) :
    View.readAt (Elt Ideal) v.view (Rect.unit (s := S8x256) ![0, q] ![1, 128] inb).toLoadRect (hv.unread (mat 8 256 X)) = mat 1 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_384 (v : Memref sig .tc .vmem S512x384 .bf16) (hv : v.IsWhole) (X : ℕ → ℕ → EReal) (q : ℕ) (inb) :
    View.readAt (Elt Ideal) v.view (Rect.unit (s := S512x384) ![0, q] S512x128.size inb).toLoadRect (hv.unread (mat 512 384 X)) = mat 512 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_384_size (v : Memref sig .tc .vmem S512x384 .bf16) (hv : v.IsWhole) (X : ℕ → ℕ → EReal) (q : ℕ) (inb) :
    View.readAt (Elt Ideal) v.view (Rect.unit (s := S512x384) ![0, q] ![512, 128] inb).toLoadRect (hv.unread (mat 512 384 X)) = mat 512 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_128 (v : Memref sig .tc .vmem S512x128 .bf16) (hv : v.IsWhole) (X : ℕ → ℕ → EReal) (q : ℕ) (inb) :
    View.readAt (Elt Ideal) v.view (Rect.unit (s := S512x128) ![0, q] S512x128.size inb).toLoadRect (hv.unread (mat 512 128 X)) = mat 512 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_128_size (v : Memref sig .tc .vmem S512x128 .bf16) (hv : v.IsWhole) (X : ℕ → ℕ → EReal) (q : ℕ) (inb) :
    View.readAt (Elt Ideal) v.view (Rect.unit (s := S512x128) ![0, q] ![512, 128] inb).toLoadRect (hv.unread (mat 512 128 X)) = mat 512 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_256_size (v : Memref sig .tc .vmem S512x256 .bf16) (hv : v.IsWhole) (X : ℕ → ℕ → EReal) (q : ℕ) (inb) :
    View.readAt (Elt Ideal) v.view (Rect.unit (s := S512x256) ![0, q] ![512, 128] inb).toLoadRect (hv.unread (mat 512 256 X)) = mat 512 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_256 (v : Memref sig .tc .vmem S512x256 .bf16) (hv : v.IsWhole) (X : ℕ → ℕ → EReal) (q : ℕ) (inb) :
    View.readAt (Elt Ideal) v.view (Rect.unit (s := S512x256) ![0, q] S512x128.size inb).toLoadRect (hv.unread (mat 512 256 X)) = mat 512 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_first (v : Memref sig .tc .vmem S1x512x384 .bf16) (hv : v.IsWhole) (X : ℕ → ℕ → ℕ → EReal) (q : ℕ) (inb) :
    View.readAt (Elt Ideal) v.view (Rect.unit (s := S1x512x384) ![0, 0, q] S1x512x128.size inb).toLoadRect (hv.unread (cube 1 512 384 X)) = cube 1 512 128 fun j r l => X j r (q + l) := by
  rw [View.readAt_eq_ld, hv.read_unread]
  funext y
  show X (0 + 1 * (y 0).val) (0 + 1 * (y 1).val) (q + 1 * (y 2).val) = X (y 0).val (y 1).val (q + (y 2).val)
  simp only [Nat.one_mul, Nat.zero_add]

theorem read_first_size (v : Memref sig .tc .vmem S1x512x384 .bf16) (hv : v.IsWhole) (X : ℕ → ℕ → ℕ → EReal) (q : ℕ) (inb) :
    View.readAt (Elt Ideal) v.view (Rect.unit (s := S1x512x384) ![0, 0, q] ![1, 512, 128] inb).toLoadRect (hv.unread (cube 1 512 384 X)) = cube 1 512 128 fun j r l => X j r (q + l) := by
  rw [View.readAt_eq_ld, hv.read_unread]
  funext y
  show X (0 + 1 * (y 0).val) (0 + 1 * (y 1).val) (q + 1 * (y 2).val) = X (y 0).val (y 1).val (q + (y 2).val)
  simp only [Nat.one_mul, Nat.zero_add]

theorem read_ut (v : Memref sig .tc .vmem S1x1024x512 .bf16) (hv : v.IsWhole) (X : ℕ → ℕ → ℕ → EReal) (inb) :
    View.readAt (Elt Ideal) v.view (Rect.unit (s := S1x1024x512) ![0, 0, 0] S1x1024x512.size inb).toLoadRect (hv.unread (cube 1 1024 512 X)) = cube 1 1024 512 X := by
  rw [View.readAt_eq_ld, hv.read_unread]
  funext y
  show X (0 + 1 * (y 0).val) (0 + 1 * (y 1).val) (0 + 1 * (y 2).val) = X (y 0).val (y 1).val (y 2).val
  simp only [Nat.one_mul, Nat.zero_add]

theorem read_ut_size (v : Memref sig .tc .vmem S1x1024x512 .bf16) (hv : v.IsWhole) (X : ℕ → ℕ → ℕ → EReal) (inb) :
    View.readAt (Elt Ideal) v.view (Rect.unit (s := S1x1024x512) ![0, 0, 0] ![1, 1024, 512] inb).toLoadRect (hv.unread (cube 1 1024 512 X)) = cube 1 1024 512 X := by
  rw [View.readAt_eq_ld, hv.read_unread]
  funext y
  show X (0 + 1 * (y 0).val) (0 + 1 * (y 1).val) (0 + 1 * (y 2).val) = X (y 0).val (y 1).val (y 2).val
  simp only [Nat.one_mul, Nat.zero_add]

theorem read_shard (v : Memref sig .tc .vmem S4x1024x768 .f32) (hv : v.IsWhole) (X : ℕ → ℕ → ℕ → EReal) (j : ℕ) (inb) :
    View.readAt (Elt Ideal) v.view (Rect.unit (s := S4x1024x768) ![j, 0, 0] S1x1024x768.size inb).toLoadRect (hv.unread (cube 4 1024 768 X)) = cube 1 1024 768 fun i => X (j + i) := by
  rw [View.readAt_eq_ld, hv.read_unread]
  funext y
  show X (j + 1 * (y 0).val) (0 + 1 * (y 1).val) (0 + 1 * (y 2).val) = X (j + (y 0).val) (y 1).val (y 2).val
  simp only [Nat.one_mul, Nat.zero_add]

/-- Stored lanes, loaded. -/
theorem read_stored (v : View sig .tc .vmem S512x3072 .bf16) (L : List (View.Piece (Elt Ideal) S512x3072 .bf16)) (X : ℕ → ℕ → EReal) (q : ℕ) (inb)
    (h : ∀ y : S512x3072.Idx, q ≤ (y 1).val → (y 1).val < q + 768 → View.canon L y = mat 512 3072 X y) :
    v.readCov L (Rect.unit (s := S512x3072) ![0, q] S512x768.size inb).toLoadRect = mat 512 768 fun r e => X r (q + e) := by
  rw [View.readCov_eq_canon']
  funext y
  have y1 : (y 1).val < 768 := (y 1).isLt
  have e : (((Rect.unit (s := S512x3072) ![0, q] S512x768.size inb).toLoadRect.idx y) 1).val = q + 1 * (y 1).val := rfl
  refine (h _ (by rw [e]; omega) (by rw [e]; omega)).trans ?_
  show X (0 + 1 * (y 0).val) (q + 1 * (y 1).val) = X (y 0).val (q + (y 1).val)
  simp only [Nat.one_mul, Nat.zero_add]

/-- The zeroed gradient of the weights, a shard of it loaded. -/
theorem read_zero (v : View sig .tc .vmem S4x1024x768 .f32) (j : ℕ) (inb inb') :
    v.readCov [(⟨Rect.unit (s := S4x1024x768) ![0, 0, 0] S4x1024x768.size inb, k0_pay3 (F := Ideal)⟩ : View.Piece (Elt Ideal) S4x1024x768 .f32)]
      (Rect.unit (s := S4x1024x768) ![j, 0, 0] S1x1024x768.size inb').toLoadRect = cube 1 1024 768 fun _ _ _ => 0 := by
  rw [View.readCov_fill (Val := Elt Ideal) v inb _ [] _ (by decide)]
  funext y
  show k0_pay3 (F := Ideal) _ = 0
  pointwise [k0_pay3]

/-! ## The words of the body -/

theorem word_r (c : Dev nD) (arg1 : Memref sig .tc .vmem S512x256 .f32) (harg1 : arg1.IsWhole) (arg2 : Memref sig .tc .vmem S8x256 .f32) (harg2 : arg2.IsWhole) (L B : ℕ → ℕ → EReal) :
    kernelRun0_A.sl.r (F := Ideal) c arg1 harg1 arg2 harg2 (mat 512 256 L) (mat 8 256 B) = mat 512 128 (kcos L B) := by
  simp only [kernelRun0_A.sl.r, read_table, read_base, pay_cos] <;> rfl

theorem word_r_1 (c : Dev nD) (arg1 : Memref sig .tc .vmem S512x256 .f32) (harg1 : arg1.IsWhole) (arg2 : Memref sig .tc .vmem S8x256 .f32) (harg2 : arg2.IsWhole) (L B : ℕ → ℕ → EReal) :
    kernelRun0_A.sl.r_1 (F := Ideal) c arg1 harg1 arg2 harg2 (mat 512 256 L) (mat 8 256 B) = mat 512 128 (ksin L B) := by
  simp only [kernelRun0_A.sl.r_1, read_table, read_base, pay_sin] <;> rfl

theorem word_r_2 (c : Dev nD) (arg1 : Memref sig .tc .vmem S512x256 .f32) (harg1 : arg1.IsWhole) (arg2 : Memref sig .tc .vmem S8x256 .f32) (harg2 : arg2.IsWhole) (L B : ℕ → ℕ → EReal) :
    kernelRun0_A.sl.r_2 (F := Ideal) c arg1 harg1 arg2 harg2 (mat 512 256 L) (mat 8 256 B) = mat 512 128 (kup L B) := by
  simp only [kernelRun0_A.sl.r_2, word_r_1]
  exact pay_up _

theorem word_r_3 (c : Dev nD) (arg1 : Memref sig .tc .vmem S512x256 .f32) (harg1 : arg1.IsWhole) (arg2 : Memref sig .tc .vmem S8x256 .f32) (harg2 : arg2.IsWhole) (L B : ℕ → ℕ → EReal) :
    kernelRun0_A.sl.r_3 (F := Ideal) c arg1 harg1 arg2 harg2 (mat 512 256 L) (mat 8 256 B) = mat 512 128 (kdown L B) := by
  simp only [kernelRun0_A.sl.r_3, word_r_1]
  exact pay_down _

theorem word_v1618 (c : Dev nD) (arg12 : Memref sig .tc .vmem S4x128x384 .bf16) (harg12 : arg12.IsWhole) (arg22 : Memref sig .tc .vmem S3x512x128 .f32) (D : Grads) :
    kernelRun0_A.sl.v1618 (F := Ideal) c arg12 harg12 arg22 (cube 4 128 384 D.qb₄) = cube 1 512 128 fun j => spread 4 D.qb₄ (0 + j) :=
  read_plane _ _ _ (stage_0 c arg12 harg12 D.qb₄) _ _

theorem word_v1621 (c : Dev nD) (arg13 : Memref sig .tc .vmem S16x32x384 .bf16) (harg13 : arg13.IsWhole) (arg23 : Memref sig .tc .vmem S3x512x128 .f32) (D : Grads) :
    kernelRun0_A.sl.v1621 (F := Ideal) c arg13 harg13 arg23 (cube 16 32 384 D.qb₁₆) = cube 1 512 128 fun j => spread 16 D.qb₁₆ (0 + j) :=
  read_plane _ _ _ (stage_1 c arg13 harg13 D.qb₁₆) _ _

theorem word_v1638 (c : Dev nD) (arg12 : Memref sig .tc .vmem S4x128x384 .bf16) (harg12 : arg12.IsWhole) (arg22 : Memref sig .tc .vmem S3x512x128 .f32) (D : Grads) :
    kernelRun0_A.sl.v1638 (F := Ideal) c arg12 harg12 arg22 (cube 4 128 384 D.qb₄) = cube 1 512 128 fun j => spread 4 D.qb₄ (1 + j) :=
  read_plane _ _ _ (stage_0 c arg12 harg12 D.qb₄) _ _

theorem word_v1641 (c : Dev nD) (arg13 : Memref sig .tc .vmem S16x32x384 .bf16) (harg13 : arg13.IsWhole) (arg23 : Memref sig .tc .vmem S3x512x128 .f32) (D : Grads) :
    kernelRun0_A.sl.v1641 (F := Ideal) c arg13 harg13 arg23 (cube 16 32 384 D.qb₁₆) = cube 1 512 128 fun j => spread 16 D.qb₁₆ (1 + j) :=
  read_plane _ _ _ (stage_1 c arg13 harg13 D.qb₁₆) _ _

theorem word_v1658 (c : Dev nD) (arg12 : Memref sig .tc .vmem S4x128x384 .bf16) (harg12 : arg12.IsWhole) (arg22 : Memref sig .tc .vmem S3x512x128 .f32) (D : Grads) :
    kernelRun0_A.sl.v1658 (F := Ideal) c arg12 harg12 arg22 (cube 4 128 384 D.qb₄) = cube 1 512 128 fun j => spread 4 D.qb₄ (2 + j) :=
  read_plane _ _ _ (stage_0 c arg12 harg12 D.qb₄) _ _

theorem word_v1661 (c : Dev nD) (arg13 : Memref sig .tc .vmem S16x32x384 .bf16) (harg13 : arg13.IsWhole) (arg23 : Memref sig .tc .vmem S3x512x128 .f32) (D : Grads) :
    kernelRun0_A.sl.v1661 (F := Ideal) c arg13 harg13 arg23 (cube 16 32 384 D.qb₁₆) = cube 1 512 128 fun j => spread 16 D.qb₁₆ (2 + j) :=
  read_plane _ _ _ (stage_1 c arg13 harg13 D.qb₁₆) _ _

theorem word_v1678 (c : Dev nD) (arg15 : Memref sig .tc .vmem S4x128x384 .bf16) (harg15 : arg15.IsWhole) (arg24 : Memref sig .tc .vmem S3x512x128 .f32) (D : Grads) :
    kernelRun0_A.sl.v1678 (F := Ideal) c arg15 harg15 arg24 (cube 4 128 384 D.kb₄) = cube 1 512 128 fun j => spread 4 D.kb₄ (0 + j) :=
  read_plane _ _ _ (stage_2 c arg15 harg15 D.kb₄) _ _

theorem word_v1681 (c : Dev nD) (arg16 : Memref sig .tc .vmem S16x32x384 .bf16) (harg16 : arg16.IsWhole) (arg25 : Memref sig .tc .vmem S3x512x128 .f32) (D : Grads) :
    kernelRun0_A.sl.v1681 (F := Ideal) c arg16 harg16 arg25 (cube 16 32 384 D.kb₁₆) = cube 1 512 128 fun j => spread 16 D.kb₁₆ (0 + j) :=
  read_plane _ _ _ (stage_3 c arg16 harg16 D.kb₁₆) _ _

theorem word_v1707 (c : Dev nD) (arg15 : Memref sig .tc .vmem S4x128x384 .bf16) (harg15 : arg15.IsWhole) (arg24 : Memref sig .tc .vmem S3x512x128 .f32) (D : Grads) :
    kernelRun0_A.sl.v1707 (F := Ideal) c arg15 harg15 arg24 (cube 4 128 384 D.kb₄) = cube 1 512 128 fun j => spread 4 D.kb₄ (1 + j) :=
  read_plane _ _ _ (stage_2 c arg15 harg15 D.kb₄) _ _

theorem word_v1710 (c : Dev nD) (arg16 : Memref sig .tc .vmem S16x32x384 .bf16) (harg16 : arg16.IsWhole) (arg25 : Memref sig .tc .vmem S3x512x128 .f32) (D : Grads) :
    kernelRun0_A.sl.v1710 (F := Ideal) c arg16 harg16 arg25 (cube 16 32 384 D.kb₁₆) = cube 1 512 128 fun j => spread 16 D.kb₁₆ (1 + j) :=
  read_plane _ _ _ (stage_3 c arg16 harg16 D.kb₁₆) _ _

theorem word_v1725 (c : Dev nD) (arg15 : Memref sig .tc .vmem S4x128x384 .bf16) (harg15 : arg15.IsWhole) (arg24 : Memref sig .tc .vmem S3x512x128 .f32) (D : Grads) :
    kernelRun0_A.sl.v1725 (F := Ideal) c arg15 harg15 arg24 (cube 4 128 384 D.kb₄) = cube 1 512 128 fun j => spread 4 D.kb₄ (2 + j) :=
  read_plane _ _ _ (stage_2 c arg15 harg15 D.kb₄) _ _

theorem word_v1728 (c : Dev nD) (arg16 : Memref sig .tc .vmem S16x32x384 .bf16) (harg16 : arg16.IsWhole) (arg25 : Memref sig .tc .vmem S3x512x128 .f32) (D : Grads) :
    kernelRun0_A.sl.v1728 (F := Ideal) c arg16 harg16 arg25 (cube 16 32 384 D.kb₁₆) = cube 1 512 128 fun j => spread 16 D.kb₁₆ (2 + j) :=
  read_plane _ _ _ (stage_3 c arg16 harg16 D.kb₁₆) _ _

theorem word_v1743 (c : Dev nD) (arg18 : Memref sig .tc .vmem S4x128x384 .bf16) (harg18 : arg18.IsWhole) (arg26 : Memref sig .tc .vmem S3x512x128 .f32) (D : Grads) :
    kernelRun0_A.sl.v1743 (F := Ideal) c arg18 harg18 arg26 (cube 4 128 384 D.vb₄) = cube 1 512 128 fun j => spread 4 D.vb₄ (0 + j) :=
  read_plane _ _ _ (stage_4 c arg18 harg18 D.vb₄) _ _

theorem word_v1746 (c : Dev nD) (arg19 : Memref sig .tc .vmem S16x32x384 .bf16) (harg19 : arg19.IsWhole) (arg27 : Memref sig .tc .vmem S3x512x128 .f32) (D : Grads) :
    kernelRun0_A.sl.v1746 (F := Ideal) c arg19 harg19 arg27 (cube 16 32 384 D.vb₁₆) = cube 1 512 128 fun j => spread 16 D.vb₁₆ (0 + j) :=
  read_plane _ _ _ (stage_5 c arg19 harg19 D.vb₁₆) _ _

theorem word_v1754 (c : Dev nD) (arg18 : Memref sig .tc .vmem S4x128x384 .bf16) (harg18 : arg18.IsWhole) (arg26 : Memref sig .tc .vmem S3x512x128 .f32) (D : Grads) :
    kernelRun0_A.sl.v1754 (F := Ideal) c arg18 harg18 arg26 (cube 4 128 384 D.vb₄) = cube 1 512 128 fun j => spread 4 D.vb₄ (1 + j) :=
  read_plane _ _ _ (stage_4 c arg18 harg18 D.vb₄) _ _

theorem word_v1757 (c : Dev nD) (arg19 : Memref sig .tc .vmem S16x32x384 .bf16) (harg19 : arg19.IsWhole) (arg27 : Memref sig .tc .vmem S3x512x128 .f32) (D : Grads) :
    kernelRun0_A.sl.v1757 (F := Ideal) c arg19 harg19 arg27 (cube 16 32 384 D.vb₁₆) = cube 1 512 128 fun j => spread 16 D.vb₁₆ (1 + j) :=
  read_plane _ _ _ (stage_5 c arg19 harg19 D.vb₁₆) _ _

theorem word_v1765 (c : Dev nD) (arg18 : Memref sig .tc .vmem S4x128x384 .bf16) (harg18 : arg18.IsWhole) (arg26 : Memref sig .tc .vmem S3x512x128 .f32) (D : Grads) :
    kernelRun0_A.sl.v1765 (F := Ideal) c arg18 harg18 arg26 (cube 4 128 384 D.vb₄) = cube 1 512 128 fun j => spread 4 D.vb₄ (2 + j) :=
  read_plane _ _ _ (stage_4 c arg18 harg18 D.vb₄) _ _

theorem word_v1768 (c : Dev nD) (arg19 : Memref sig .tc .vmem S16x32x384 .bf16) (harg19 : arg19.IsWhole) (arg27 : Memref sig .tc .vmem S3x512x128 .f32) (D : Grads) :
    kernelRun0_A.sl.v1768 (F := Ideal) c arg19 harg19 arg27 (cube 16 32 384 D.vb₁₆) = cube 1 512 128 fun j => spread 16 D.vb₁₆ (2 + j) :=
  read_plane _ _ _ (stage_5 c arg19 harg19 D.vb₁₆) _ _

theorem lanes_H19_6 (c : Dev nD) (arg8 : Memref sig .tc .vmem S512x384 .bf16) (harg8 : arg8.IsWhole) (arg9 : Memref sig .tc .vmem S512x256 .bf16) (harg9 : arg9.IsWhole) (arg10 : Memref sig .tc .vmem S512x256 .bf16) (harg10 : arg10.IsWhole) (L B : ℕ → ℕ → EReal) (D : Grads) (y : S512x3072.Idx) (hq : 18 ≤ (y 1).val / 128) :
    View.canon (kernelRun0_A.sl.H19_6 (F := Ideal) c arg8 harg8 arg9 harg9 arg10 harg10 (mat 512 384 D.gb) (mat 512 256 D.qc) (mat 512 256 D.gc)) y = mat 512 3072 (dblk L B D) y := by
  have y1 : (y 1).val < 3072 := (y 1).isLt
  simp only [kernelRun0_A.sl.H19_6]
  refine lanes_step 23 (blk L B D) 2944 _ _ _ y (by simp only [k0_pay20, read_384, read_384_size, read_128, read_128_size, read_256, read_256_size, read_first, read_first_size, drop_512, extf_mat, truncf_mat, addf_mat, mulf_mat, rotate_120, rotate_8] <;> rfl) rfl (fun h23 => ?_)
  refine lanes_step 22 (blk L B D) 2816 _ _ _ y (by simp only [k0_pay19, read_384, read_384_size, read_128, read_128_size, read_256, read_256_size, read_first, read_first_size, drop_512, extf_mat, truncf_mat, addf_mat, mulf_mat, rotate_120, rotate_8] <;> rfl) rfl (fun h22 => ?_)
  refine lanes_step 21 (blk L B D) 2688 _ _ _ y (by simp only [kernelRun0_A.sl.r_4, kernelRun0_A.sl.cst_27, k0_pay18, k0_pay17, read_384, read_384_size, read_128, read_128_size, read_256, read_256_size, read_first, read_first_size, drop_512, extf_mat, truncf_mat, addf_mat, mulf_mat, rotate_120, rotate_8] <;> rfl) rfl (fun h21 => ?_)
  refine lanes_step 20 (blk L B D) 2560 _ _ _ y (by simp only [k0_pay16, read_384, read_384_size, read_128, read_128_size, read_256, read_256_size, read_first, read_first_size, drop_512, extf_mat, truncf_mat, addf_mat, mulf_mat, rotate_120, rotate_8] <;> rfl) rfl (fun h20 => ?_)
  refine lanes_step 19 (blk L B D) 2432 _ _ _ y (by simp only [k0_pay15, read_384, read_384_size, read_128, read_128_size, read_256, read_256_size, read_first, read_first_size, drop_512, extf_mat, truncf_mat, addf_mat, mulf_mat, rotate_120, rotate_8] <;> rfl) rfl (fun h19 => ?_)
  refine lanes_step 18 (blk L B D) 2304 _ _ _ y (by simp only [k0_pay14, read_384, read_384_size, read_128, read_128_size, read_256, read_256_size, read_first, read_first_size, drop_512, extf_mat, truncf_mat, addf_mat, mulf_mat, rotate_120, rotate_8] <;> rfl) rfl (fun h18 => ?_)
  exfalso; omega

variable (c : Dev nD) (i : grid0.Coords) (arg1 : Memref sig .tc .vmem S512x256 .f32) (harg1 : arg1.IsWhole) (arg2 : Memref sig .tc .vmem S8x256 .f32) (harg2 : arg2.IsWhole) (arg3 : Memref sig .tc .vmem S1x1024x512 .bf16) (harg3 : arg3.IsWhole)
    (arg4 : Memref sig .tc .vmem S512x384 .bf16) (harg4 : arg4.IsWhole) (arg5 : Memref sig .tc .vmem S512x128 .bf16) (harg5 : arg5.IsWhole) (arg6 : Memref sig .tc .vmem S512x128 .bf16) (harg6 : arg6.IsWhole)
    (arg7 : Memref sig .tc .vmem S512x384 .bf16) (harg7 : arg7.IsWhole) (arg8 : Memref sig .tc .vmem S512x384 .bf16) (harg8 : arg8.IsWhole) (arg9 : Memref sig .tc .vmem S512x256 .bf16) (harg9 : arg9.IsWhole)
    (arg10 : Memref sig .tc .vmem S512x256 .bf16) (harg10 : arg10.IsWhole) (arg11 : Memref sig .tc .vmem S1x512x384 .bf16) (harg11 : arg11.IsWhole) (arg12 : Memref sig .tc .vmem S4x128x384 .bf16) (harg12 : arg12.IsWhole)
    (arg13 : Memref sig .tc .vmem S16x32x384 .bf16) (harg13 : arg13.IsWhole) (arg14 : Memref sig .tc .vmem S1x512x384 .bf16) (harg14 : arg14.IsWhole) (arg15 : Memref sig .tc .vmem S4x128x384 .bf16) (harg15 : arg15.IsWhole)
    (arg16 : Memref sig .tc .vmem S16x32x384 .bf16) (harg16 : arg16.IsWhole) (arg17 : Memref sig .tc .vmem S1x512x384 .bf16) (harg17 : arg17.IsWhole) (arg18 : Memref sig .tc .vmem S4x128x384 .bf16) (harg18 : arg18.IsWhole)
    (arg19 : Memref sig .tc .vmem S16x32x384 .bf16) (harg19 : arg19.IsWhole) (arg20 : Memref sig .tc .vmem S512x3072 .bf16) (harg20 : arg20.IsWhole) (arg21 : Memref sig .tc .vmem S4x1024x768 .f32) (harg21 : arg21.IsWhole)
    (arg22 : Memref sig .tc .vmem S3x512x128 .f32) (harg22 : arg22.IsWhole) (arg23 : Memref sig .tc .vmem S3x512x128 .f32) (harg23 : arg23.IsWhole) (arg24 : Memref sig .tc .vmem S3x512x128 .f32) (harg24 : arg24.IsWhole)
    (arg25 : Memref sig .tc .vmem S3x512x128 .f32) (harg25 : arg25.IsWhole) (arg26 : Memref sig .tc .vmem S3x512x128 .f32) (harg26 : arg26.IsWhole) (arg27 : Memref sig .tc .vmem S3x512x128 .f32) (harg27 : arg27.IsWhole)

theorem lanes_H19_12 (L B : ℕ → ℕ → EReal) (D : Grads) (y : S512x3072.Idx) (hq : (y 1).val / 128 < 6 ∨ 18 ≤ (y 1).val / 128) :
    View.canon (kernelRun0_A.sl.H19_12 (F := Ideal) c arg1 harg1 arg2 harg2 arg4 harg4 arg5 harg5 arg6 harg6 arg7 harg7 arg8 harg8 arg9 harg9 arg10 harg10 (mat 512 256 L) (mat 8 256 B) (mat 512 384 D.qa) (mat 512 128 D.ka) (mat 512 128 D.va) (mat 512 384 D.ga) (mat 512 384 D.gb) (mat 512 256 D.qc) (mat 512 256 D.gc)) y = mat 512 3072 (dblk L B D) y := by
  have y1 : (y 1).val < 3072 := (y 1).isLt
  simp only [kernelRun0_A.sl.H19_12]
  refine lanes_step 5 (blk L B D) 640 _ _ _ y (by simp only [k0_pay33, read_384, read_384_size, read_128, read_128_size, read_256, read_256_size, read_first, read_first_size, drop_512, extf_mat, truncf_mat, addf_mat, mulf_mat, rotate_120, rotate_8] <;> rfl) rfl (fun h5 => ?_)
  refine lanes_step 4 (blk L B D) 512 _ _ _ y (by simp only [k0_pay32, read_384, read_384_size, read_128, read_128_size, read_256, read_256_size, read_first, read_first_size, drop_512, extf_mat, truncf_mat, addf_mat, mulf_mat, rotate_120, rotate_8] <;> rfl) rfl (fun h4 => ?_)
  refine lanes_step 3 (blk L B D) 384 _ _ _ y (by simp only [word_r_3, kernelRun0_A.sl.r_7, kernelRun0_A.sl.r_8, kernelRun0_A.sl.r_9, word_r_2, word_r, k0_pay31, k0_pay30, k0_pay28, k0_pay29, read_384, read_384_size, read_128, read_128_size, read_256, read_256_size, read_first, read_first_size, drop_512, extf_mat, truncf_mat, addf_mat, mulf_mat, rotate_120, rotate_8] <;> rfl) rfl (fun h3 => ?_)
  refine lanes_step 2 (blk L B D) 256 _ _ _ y (by simp only [word_r, word_r_2, word_r_3, k0_pay27, read_384, read_384_size, read_128, read_128_size, read_256, read_256_size, read_first, read_first_size, drop_512, extf_mat, truncf_mat, addf_mat, mulf_mat, rotate_120, rotate_8] <;> rfl) rfl (fun h2 => ?_)
  refine lanes_step 1 (blk L B D) 128 _ _ _ y (by simp only [word_r, word_r_2, word_r_3, k0_pay26, read_384, read_384_size, read_128, read_128_size, read_256, read_256_size, read_first, read_first_size, drop_512, extf_mat, truncf_mat, addf_mat, mulf_mat, rotate_120, rotate_8] <;> rfl) rfl (fun h1 => ?_)
  refine lanes_step 0 (blk L B D) 0 _ _ _ y (by simp only [word_r_3, kernelRun0_A.sl.r_5, kernelRun0_A.sl.r_6, word_r, word_r_2, k0_pay25, k0_pay24, k0_pay22, k0_pay23, read_384, read_384_size, read_128, read_128_size, read_256, read_256_size, read_first, read_first_size, drop_512, extf_mat, truncf_mat, addf_mat, mulf_mat, rotate_120, rotate_8] <;> rfl) rfl (fun h0 => ?_)
  exact lanes_H19_6 c arg8 harg8 arg9 harg9 arg10 harg10 L B D y (by omega)

theorem lanes_H19_18 (L B : ℕ → ℕ → EReal) (D : Grads) (y : S512x3072.Idx) (hq : (y 1).val / 128 < 12 ∨ 18 ≤ (y 1).val / 128) :
    View.canon (kernelRun0_A.sl.H19_18 (F := Ideal) c arg1 harg1 arg2 harg2 arg4 harg4 arg5 harg5 arg6 harg6 arg7 harg7 arg8 harg8 arg9 harg9 arg10 harg10 arg11 harg11 arg12 harg12 arg13 harg13 arg14 harg14 arg15 harg15 arg16 harg16 arg22 arg23 arg24 arg25 (mat 512 256 L) (mat 8 256 B) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆)) y = mat 512 3072 (dblk L B D) y := by
  have y1 : (y 1).val < 3072 := (y 1).isLt
  simp only [kernelRun0_A.sl.H19_18]
  refine lanes_step 11 (blk L B D) 1408 _ _ _ y (by simp only [word_r, word_r_2, word_r_3, kernelRun0_A.sl.r_54, word_v1678, word_v1681, k0_pay255, k0_pay254, read_384, read_384_size, read_128, read_128_size, read_256, read_256_size, read_first, read_first_size, drop_512, extf_mat, truncf_mat, addf_mat, mulf_mat, rotate_120, rotate_8] <;> rfl) rfl (fun h11 => ?_)
  refine lanes_step 10 (blk L B D) 1280 _ _ _ y (by simp only [word_r, word_r_2, word_r_3, word_v1658, word_v1661, k0_pay253, read_384, read_384_size, read_128, read_128_size, read_256, read_256_size, read_first, read_first_size, drop_512, extf_mat, truncf_mat, addf_mat, mulf_mat, rotate_120, rotate_8] <;> rfl) rfl (fun h10 => ?_)
  refine lanes_step 9 (blk L B D) 1152 _ _ _ y (by simp only [word_r, word_r_2, word_r_3, kernelRun0_A.sl.r_53, word_v1641, word_v1638, k0_pay252, k0_pay251, read_384, read_384_size, read_128, read_128_size, read_256, read_256_size, read_first, read_first_size, drop_512, extf_mat, truncf_mat, addf_mat, mulf_mat, rotate_120, rotate_8] <;> rfl) rfl (fun h9 => ?_)
  refine lanes_step 8 (blk L B D) 1024 _ _ _ y (by simp only [word_r, word_r_2, word_r_3, word_v1618, word_v1621, k0_pay250, read_384, read_384_size, read_128, read_128_size, read_256, read_256_size, read_first, read_first_size, drop_512, extf_mat, truncf_mat, addf_mat, mulf_mat, rotate_120, rotate_8] <;> rfl) rfl (fun h8 => ?_)
  refine lanes_step 7 (blk L B D) 896 _ _ _ y (by simp only [k0_pay36, read_384, read_384_size, read_128, read_128_size, read_256, read_256_size, read_first, read_first_size, drop_512, extf_mat, truncf_mat, addf_mat, mulf_mat, rotate_120, rotate_8] <;> rfl) rfl (fun h7 => ?_)
  refine lanes_step 6 (blk L B D) 768 _ _ _ y (by simp only [kernelRun0_A.sl.r_10, k0_pay35, read_384, read_384_size, read_128, read_128_size, read_256, read_256_size, read_first, read_first_size, drop_512, extf_mat, truncf_mat, addf_mat, mulf_mat, rotate_120, rotate_8] <;> rfl) rfl (fun h6 => ?_)
  exact lanes_H19_12 c arg1 harg1 arg2 harg2 arg4 harg4 arg5 harg5 arg6 harg6 arg7 harg7 arg8 harg8 arg9 harg9 arg10 harg10 L B D y (by omega)

theorem lanes_H19_24 (L B : ℕ → ℕ → EReal) (D : Grads) (y : S512x3072.Idx) :
    View.canon (kernelRun0_A.sl.H19_24 (F := Ideal) c arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 arg23 arg24 arg25 arg26 arg27 (mat 512 256 L) (mat 8 256 B) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) (cube 1 512 384 D.vb₁) (cube 4 128 384 D.vb₄) (cube 16 32 384 D.vb₁₆)) y = mat 512 3072 (dblk L B D) y := by
  have y1 : (y 1).val < 3072 := (y 1).isLt
  simp only [kernelRun0_A.sl.H19_24]
  refine lanes_step 17 (blk L B D) 2176 _ _ _ y (by simp only [k0_pay1, read_384, read_384_size, read_128, read_128_size, read_256, read_256_size, read_first, read_first_size, drop_512, extf_mat, truncf_mat, addf_mat, mulf_mat, rotate_120, rotate_8] <;> rfl) rfl (fun h17 => ?_)
  refine lanes_step 16 (blk L B D) 2048 _ _ _ y (by simp only [kernelRun0_A.sl.r_57, word_v1765, word_v1768, k0_pay263, read_384, read_384_size, read_128, read_128_size, read_256, read_256_size, read_first, read_first_size, drop_512, extf_mat, truncf_mat, addf_mat, mulf_mat, rotate_120, rotate_8] <;> rfl) rfl (fun h16 => ?_)
  refine lanes_step 15 (blk L B D) 1920 _ _ _ y (by simp only [word_v1754, word_v1757, k0_pay262, read_384, read_384_size, read_128, read_128_size, read_256, read_256_size, read_first, read_first_size, drop_512, extf_mat, truncf_mat, addf_mat, mulf_mat, rotate_120, rotate_8] <;> rfl) rfl (fun h15 => ?_)
  refine lanes_step 14 (blk L B D) 1792 _ _ _ y (by simp only [kernelRun0_A.sl.r_56, word_v1743, word_v1746, k0_pay261, k0_pay260, read_384, read_384_size, read_128, read_128_size, read_256, read_256_size, read_first, read_first_size, drop_512, extf_mat, truncf_mat, addf_mat, mulf_mat, rotate_120, rotate_8] <;> rfl) rfl (fun h14 => ?_)
  refine lanes_step 13 (blk L B D) 1664 _ _ _ y (by simp only [word_r, word_r_2, word_r_3, word_v1725, word_v1728, k0_pay259, read_384, read_384_size, read_128, read_128_size, read_256, read_256_size, read_first, read_first_size, drop_512, extf_mat, truncf_mat, addf_mat, mulf_mat, rotate_120, rotate_8] <;> rfl) rfl (fun h13 => ?_)
  refine lanes_step 12 (blk L B D) 1536 _ _ _ y (by simp only [word_r, word_r_2, word_r_3, kernelRun0_A.sl.r_55, word_v1707, word_v1710, k0_pay258, k0_pay257, read_384, read_384_size, read_128, read_128_size, read_256, read_256_size, read_first, read_first_size, drop_512, extf_mat, truncf_mat, addf_mat, mulf_mat, rotate_120, rotate_8] <;> rfl) rfl (fun h12 => ?_)
  exact lanes_H19_18 c arg1 harg1 arg2 harg2 arg4 harg4 arg5 harg5 arg6 harg6 arg7 harg7 arg8 harg8 arg9 harg9 arg10 harg10 arg11 harg11 arg12 harg12 arg13 harg13 arg14 harg14 arg15 harg15 arg16 harg16 arg22 arg23 arg24 arg25 L B D y (by omega)

/-! ## The dot products -/

/-- A block of rows more in a shard of the weights' gradient. -/
def grow (W U : ℕ → ℕ → ℕ → EReal) (X : ℕ → ℕ → EReal) (j d e : ℕ) : EReal := W j d e + ∑ t : Fin 512, U 0 d t * X t (768 * j + e)

theorem word_v91 (L B : ℕ → ℕ → EReal) (D : Grads) :
    kernelRun0_A.sl.v91 (F := Ideal) c arg8 harg8 arg9 harg9 arg10 harg10 arg20 (mat 512 384 D.gb) (mat 512 256 D.qc) (mat 512 256 D.gc) = mat 512 768 fun r e => dblk L B D r (2304 + e) :=
  read_stored _ _ (dblk L B D) 2304 _ fun y h h' => lanes_H19_6 c arg8 harg8 arg9 harg9 arg10 harg10 L B D y (by omega)

theorem word_v160 (L B : ℕ → ℕ → EReal) (D : Grads) :
    kernelRun0_A.sl.v160 (F := Ideal) c arg1 harg1 arg2 harg2 arg4 harg4 arg5 harg5 arg6 harg6 arg7 harg7 arg8 harg8 arg9 harg9 arg10 harg10 arg20 (mat 512 256 L) (mat 8 256 B) (mat 512 384 D.qa) (mat 512 128 D.ka) (mat 512 128 D.va) (mat 512 384 D.ga) (mat 512 384 D.gb) (mat 512 256 D.qc) (mat 512 256 D.gc) = mat 512 768 fun r e => dblk L B D r (0 + e) :=
  read_stored _ _ (dblk L B D) 0 _ fun y h h' => lanes_H19_12 c arg1 harg1 arg2 harg2 arg4 harg4 arg5 harg5 arg6 harg6 arg7 harg7 arg8 harg8 arg9 harg9 arg10 harg10 L B D y (by omega)

theorem word_v1697 (L B : ℕ → ℕ → EReal) (D : Grads) :
    kernelRun0_A.sl.v1697 (F := Ideal) c arg1 harg1 arg2 harg2 arg4 harg4 arg5 harg5 arg6 harg6 arg7 harg7 arg8 harg8 arg9 harg9 arg10 harg10 arg11 harg11 arg12 harg12 arg13 harg13 arg14 harg14 arg15 harg15 arg16 harg16 arg20 arg22 arg23 arg24 arg25 (mat 512 256 L) (mat 8 256 B) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) = mat 512 768 fun r e => dblk L B D r (768 + e) :=
  read_stored _ _ (dblk L B D) 768 _ fun y h h' => lanes_H19_18 c arg1 harg1 arg2 harg2 arg4 harg4 arg5 harg5 arg6 harg6 arg7 harg7 arg8 harg8 arg9 harg9 arg10 harg10 arg11 harg11 arg12 harg12 arg13 harg13 arg14 harg14 arg15 harg15 arg16 harg16 arg22 arg23 arg24 arg25 L B D y (by omega)

theorem word_v1781 (L B : ℕ → ℕ → EReal) (D : Grads) :
    kernelRun0_A.sl.v1781 (F := Ideal) c arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg22 arg23 arg24 arg25 arg26 arg27 (mat 512 256 L) (mat 8 256 B) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) (cube 1 512 384 D.vb₁) (cube 4 128 384 D.vb₄) (cube 16 32 384 D.vb₁₆) = mat 512 768 fun r e => dblk L B D r (1536 + e) :=
  read_stored _ _ (dblk L B D) 1536 _ fun y h h' => lanes_H19_24 c arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 arg23 arg24 arg25 arg26 arg27 L B D y

theorem word_v87 (L B : ℕ → ℕ → EReal) (U : ℕ → ℕ → ℕ → EReal) (D : Grads) :
    kernelRun0_A.sl.v87 (F := Ideal) c arg21 = cube 1 1024 768 fun _ _ _ => 0 := by
  simp only [kernelRun0_A.sl.v87, kernelRun0_A.sl.H20_1]
  exact read_zero _ _ _ _

theorem word_v156 (L B : ℕ → ℕ → EReal) (U : ℕ → ℕ → ℕ → EReal) (D : Grads) :
    kernelRun0_A.sl.v156 (F := Ideal) c arg3 harg3 arg8 harg8 arg9 harg9 arg10 harg10 arg20 arg21 (cube 1 1024 512 U) (mat 512 384 D.gb) (mat 512 256 D.qc) (mat 512 256 D.gc) = cube 1 1024 768 fun _ _ _ => 0 := by
  simp only [kernelRun0_A.sl.v156, kernelRun0_A.sl.H20_1, kernelRun0_A.sl.H20_2]
  rw [View.readCov_skip (Val := Elt Ideal) _ _ _ _ _ (by decide)]
  exact read_zero _ _ _ _

theorem word_v1693 (L B : ℕ → ℕ → EReal) (U : ℕ → ℕ → ℕ → EReal) (D : Grads) :
    kernelRun0_A.sl.v1693 (F := Ideal) c arg1 harg1 arg2 harg2 arg3 harg3 arg4 harg4 arg5 harg5 arg6 harg6 arg7 harg7 arg8 harg8 arg9 harg9 arg10 harg10 arg20 arg21 (mat 512 256 L) (mat 8 256 B) (cube 1 1024 512 U) (mat 512 384 D.qa) (mat 512 128 D.ka) (mat 512 128 D.va) (mat 512 384 D.ga) (mat 512 384 D.gb) (mat 512 256 D.qc) (mat 512 256 D.gc) = cube 1 1024 768 fun _ _ _ => 0 := by
  simp only [kernelRun0_A.sl.v1693, kernelRun0_A.sl.H20_1, kernelRun0_A.sl.H20_2, kernelRun0_A.sl.H20_3]
  rw [View.readCov_skip (Val := Elt Ideal) _ _ _ _ _ (by decide), View.readCov_skip (Val := Elt Ideal) _ _ _ _ _ (by decide)]
  exact read_zero _ _ _ _

theorem word_v1777 (L B : ℕ → ℕ → EReal) (U : ℕ → ℕ → ℕ → EReal) (D : Grads) :
    kernelRun0_A.sl.v1777 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg20 arg21 arg22 arg23 arg24 arg25 (mat 512 256 L) (mat 8 256 B) (cube 1 1024 512 U) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) = cube 1 1024 768 fun _ _ _ => 0 := by
  simp only [kernelRun0_A.sl.v1777, kernelRun0_A.sl.H20_1, kernelRun0_A.sl.H20_2, kernelRun0_A.sl.H20_3, kernelRun0_A.sl.H20_4]
  rw [View.readCov_skip (Val := Elt Ideal) _ _ _ _ _ (by decide), View.readCov_skip (Val := Elt Ideal) _ _ _ _ _ (by decide), View.readCov_skip (Val := Elt Ideal) _ _ _ _ _ (by decide)]
  exact read_zero _ _ _ _

theorem A_rows (hc0 : cond0_0 i) (L B : ℕ → ℕ → EReal) (U : ℕ → ℕ → ℕ → EReal) (D : Grads) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (mat 512 256 L) (mat 8 256 B) (cube 1 1024 512 U) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) (cube 1 512 384 D.vb₁) (cube 4 128 384 D.vb₄) (cube 16 32 384 D.vb₁₆) = mat 512 3072 (dblk L B D) := by
  unfold out0_A_19
  rw [View.read_writes_eq_canon _ _ _ (cover0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (mat 512 256 L) (mat 8 256 B) (cube 1 1024 512 U) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) (cube 1 512 384 D.vb₁) (cube 4 128 384 D.vb₄) (cube 16 32 384 D.vb₁₆))]
  funext y
  exact lanes_H19_24 c arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 arg23 arg24 arg25 arg26 arg27 L B D y

theorem A_weight (hc0 : cond0_0 i) (L B : ℕ → ℕ → EReal) (U : ℕ → ℕ → ℕ → EReal) (D : Grads) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (mat 512 256 L) (mat 8 256 B) (cube 1 1024 512 U) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) (cube 1 512 384 D.vb₁) (cube 4 128 384 D.vb₄) (cube 16 32 384 D.vb₁₆) = cube 4 1024 768 (grow (fun _ _ _ => 0) U (dblk L B D)) := by
  unfold out0_A_20
  rw [View.read_writes_eq_canon _ _ _ (cover0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (mat 512 256 L) (mat 8 256 B) (cube 1 1024 512 U) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) (cube 1 512 384 D.vb₁) (cube 4 128 384 D.vb₄) (cube 16 32 384 D.vb₁₆))]
  funext y
  have y0 : (y 0).val < 4 := (y 0).isLt
  have y1 : (y 1).val < 1024 := (y 1).isLt
  unfold kernelRun0_A
  dsimp only
  simp only [kernelRun0_A.sl.H20_4, kernelRun0_A.sl.H20_3, kernelRun0_A.sl.H20_2]
  refine shard_step 2 (grow (fun _ _ _ => 0) U (dblk L B D)) _ _ _ y (?_ : _ = cube 1 1024 768 fun _ => grow (fun _ _ _ => 0) U (dblk L B D) 2) (fun h2 => ?_)
  · exact Eq.trans (congr (congrArg₂ (k0_pay2 (F := Ideal)) (word_v1777 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg20 arg21 arg22 arg23 arg24 arg25 L B U D) (read_ut arg3 harg3 U _)) (word_v1781 c arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg22 arg23 arg24 arg25 arg26 arg27 L B D)) (pay_shard _ _ _)
  refine shard_step 1 (grow (fun _ _ _ => 0) U (dblk L B D)) _ _ _ y (?_ : _ = cube 1 1024 768 fun _ => grow (fun _ _ _ => 0) U (dblk L B D) 1) (fun h1 => ?_)
  · exact Eq.trans (congr (congrArg₂ (k0_pay2 (F := Ideal)) (word_v1693 c arg1 harg1 arg2 harg2 arg3 harg3 arg4 harg4 arg5 harg5 arg6 harg6 arg7 harg7 arg8 harg8 arg9 harg9 arg10 harg10 arg20 arg21 L B U D) (read_ut arg3 harg3 U _)) (word_v1697 c arg1 harg1 arg2 harg2 arg4 harg4 arg5 harg5 arg6 harg6 arg7 harg7 arg8 harg8 arg9 harg9 arg10 harg10 arg11 harg11 arg12 harg12 arg13 harg13 arg14 harg14 arg15 harg15 arg16 harg16 arg20 arg22 arg23 arg24 arg25 L B D)) (pay_shard _ _ _)
  refine shard_step 0 (grow (fun _ _ _ => 0) U (dblk L B D)) _ _ _ y (?_ : _ = cube 1 1024 768 fun _ => grow (fun _ _ _ => 0) U (dblk L B D) 0) (fun h0 => ?_)
  · exact Eq.trans (congr (congrArg₂ (k0_pay2 (F := Ideal)) (word_v156 c arg3 harg3 arg8 harg8 arg9 harg9 arg10 harg10 arg20 arg21 L B U D) (read_ut arg3 harg3 U _)) (word_v160 c arg1 harg1 arg2 harg2 arg4 harg4 arg5 harg5 arg6 harg6 arg7 harg7 arg8 harg8 arg9 harg9 arg10 harg10 arg20 L B D)) (pay_shard _ _ _)
  refine shard_step 3 (grow (fun _ _ _ => 0) U (dblk L B D)) _ _ _ y (?_ : _ = cube 1 1024 768 fun _ => grow (fun _ _ _ => 0) U (dblk L B D) 3) (fun h3 => ?_)
  · exact Eq.trans (congr (congrArg₂ (k0_pay2 (F := Ideal)) (word_v87 c arg21 L B U D) (read_ut arg3 harg3 U _)) (word_v91 c arg8 harg8 arg9 harg9 arg10 harg10 arg20 L B D)) (pay_shard _ _ _)
  exfalso; omega

theorem B_rows (hc0 : ¬cond0_0 i) (L B : ℕ → ℕ → EReal) (U : ℕ → ℕ → ℕ → EReal) (D : Grads) (W : ℕ → ℕ → ℕ → EReal) :
    out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (mat 512 256 L) (mat 8 256 B) (cube 1 1024 512 U) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) (cube 1 512 384 D.vb₁) (cube 4 128 384 D.vb₄) (cube 16 32 384 D.vb₁₆) (cube 4 1024 768 W) = mat 512 3072 (dblk L B D) := by
  unfold out0_B_19
  rw [View.read_writes_eq_canon _ _ _ (cover0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (mat 512 256 L) (mat 8 256 B) (cube 1 1024 512 U) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) (cube 1 512 384 D.vb₁) (cube 4 128 384 D.vb₄) (cube 16 32 384 D.vb₁₆) (cube 4 1024 768 W))]
  funext y
  exact lanes_H19_24 c arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 arg23 arg24 arg25 arg26 arg27 L B D y

theorem B_weight (hc0 : ¬cond0_0 i) (L B : ℕ → ℕ → EReal) (U : ℕ → ℕ → ℕ → EReal) (D : Grads) (W : ℕ → ℕ → ℕ → EReal) :
    out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (mat 512 256 L) (mat 8 256 B) (cube 1 1024 512 U) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) (cube 1 512 384 D.vb₁) (cube 4 128 384 D.vb₄) (cube 16 32 384 D.vb₁₆) (cube 4 1024 768 W) = cube 4 1024 768 (grow W U (dblk L B D)) := by
  unfold out0_B_20
  rw [View.read_writes_eq_canon _ _ _ (cover0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (mat 512 256 L) (mat 8 256 B) (cube 1 1024 512 U) (mat 512 384 D.qa) (mat 512 128 D.ka) (mat 512 128 D.va) (mat 512 384 D.ga) (mat 512 384 D.gb) (mat 512 256 D.qc) (mat 512 256 D.gc) (cube 1 512 384 D.qb₁) (cube 4 128 384 D.qb₄) (cube 16 32 384 D.qb₁₆) (cube 1 512 384 D.kb₁) (cube 4 128 384 D.kb₄) (cube 16 32 384 D.kb₁₆) (cube 1 512 384 D.vb₁) (cube 4 128 384 D.vb₄) (cube 16 32 384 D.vb₁₆) (cube 4 1024 768 W))]
  funext y
  have y0 : (y 0).val < 4 := (y 0).isLt
  have y1 : (y 1).val < 1024 := (y 1).isLt
  unfold kernelRun0_B
  dsimp only
  refine shard_step 2 (grow W U (dblk L B D)) _ _ _ y (?_ : _ = cube 1 1024 768 fun _ => grow W U (dblk L B D) 2) (fun h2 => ?_)
  · exact Eq.trans (congr (congrArg₂ (k0_pay2 (F := Ideal)) (read_shard arg21 harg21 W 2 _) (read_ut arg3 harg3 U _)) (word_v1781 c arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg22 arg23 arg24 arg25 arg26 arg27 L B D)) (pay_shard _ _ _)
  refine shard_step 1 (grow W U (dblk L B D)) _ _ _ y (?_ : _ = cube 1 1024 768 fun _ => grow W U (dblk L B D) 1) (fun h1 => ?_)
  · exact Eq.trans (congr (congrArg₂ (k0_pay2 (F := Ideal)) (read_shard arg21 harg21 W 1 _) (read_ut arg3 harg3 U _)) (word_v1697 c arg1 harg1 arg2 harg2 arg4 harg4 arg5 harg5 arg6 harg6 arg7 harg7 arg8 harg8 arg9 harg9 arg10 harg10 arg11 harg11 arg12 harg12 arg13 harg13 arg14 harg14 arg15 harg15 arg16 harg16 arg20 arg22 arg23 arg24 arg25 L B D)) (pay_shard _ _ _)
  refine shard_step 0 (grow W U (dblk L B D)) _ _ _ y (?_ : _ = cube 1 1024 768 fun _ => grow W U (dblk L B D) 0) (fun h0 => ?_)
  · exact Eq.trans (congr (congrArg₂ (k0_pay2 (F := Ideal)) (read_shard arg21 harg21 W 0 _) (read_ut arg3 harg3 U _)) (word_v160 c arg1 harg1 arg2 harg2 arg4 harg4 arg5 harg5 arg6 harg6 arg7 harg7 arg8 harg8 arg9 harg9 arg10 harg10 arg20 L B D)) (pay_shard _ _ _)
  refine shard_step 3 (grow W U (dblk L B D)) _ _ _ y (?_ : _ = cube 1 1024 768 fun _ => grow W U (dblk L B D) 3) (fun h3 => ?_)
  · exact Eq.trans (congr (congrArg₂ (k0_pay2 (F := Ideal)) (read_shard arg21 harg21 W 3 _) (read_ut arg3 harg3 U _)) (word_v91 c arg8 harg8 arg9 harg9 arg10 harg10 arg20 L B D)) (pay_shard _ _ _)
  exfalso; omega

end Cert.Proj
-- ==== Proof.ProjFold.lean ====
module

public import proofs.«01_k».proof.Proof.ProjHost
public import proofs.«01_k».proof.Proof.ProjBody
public import proofs.«01_k».proof.Proof.Gen.Kernel3Ideal.Value

/-! # The gradient of the joint projection: the arrays after the sixteen blocks of 512 rows -/

@[expose] public section

noncomputable section

namespace Cert.Proj

open Cert.Layer Cert.Kernel3Ideal Cert.Kernel3Ideal.Gen Idealize.ShloMosaic Idealize.ShloMosaic.TcCoe Idealize.SL.Sem

/-- Rows of a matrix, `512` at a time: block `n`. -/
def tile (n : ℕ) (X : ℕ → ℕ → EReal) : ℕ → ℕ → EReal := fun i j => X (512 * n + i) j
/-- Rows of every residue class, `k` at a time: block `n`. -/
def slab (k n : ℕ) (X : ℕ → ℕ → ℕ → EReal) : ℕ → ℕ → ℕ → EReal := fun j i l => X j (k * n + i) l
/-- The gradients of block `n`. -/
def Grads.block (D : Grads) (n : ℕ) : Grads where
  qa := tile n D.qa
  ka := tile n D.ka
  va := tile n D.va
  ga := tile n D.ga
  gb := tile n D.gb
  qc := tile n D.qc
  gc := tile n D.gc
  qb₁ := slab 512 n D.qb₁
  qb₄ := slab 128 n D.qb₄
  qb₁₆ := slab 32 n D.qb₁₆
  kb₁ := slab 512 n D.kb₁
  kb₄ := slab 128 n D.kb₄
  kb₁₆ := slab 32 n D.kb₁₆
  vb₁ := slab 512 n D.vb₁
  vb₄ := slab 128 n D.vb₄
  vb₁₆ := slab 32 n D.vb₁₆

/-- The table of a block's positions, and block `n`'s first position. -/
def localT : ℕ → ℕ → EReal := table fun r l => num r * laneFreq l
def baseT (n : ℕ) : ℕ → ℕ → EReal := fun r => table (fun n l => num n * Ideal.ofBits .f32 0x44000000#32 * laneFreq l) ((8 * n + r) / 8)
/-- The layer's input, block `n` turned. -/
def turnedT (U : ℕ → ℕ → EReal) (n : ℕ) : ℕ → ℕ → ℕ → EReal := fun j d t => U (512 * (n + j) + t) d

/-- What block `n` stores. -/
def stored (D : Grads) (n : ℕ) : ℕ → ℕ → EReal := dblk localT (baseT n) (D.block n)

/-- The gradient of the weights over the first `n` blocks. -/
def gradWeight (U : ℕ → ℕ → EReal) (D : Grads) (n j d e : ℕ) : EReal :=
  ∑ s ∈ Finset.range n, ∑ t : Fin 512, U (512 * s + t) d * stored D s t (768 * j + e)

theorem grow_step (U : ℕ → ℕ → EReal) (D : Grads) (n : ℕ) :
    grow (gradWeight U D n) (turnedT U n) (stored D n) = gradWeight U D (n + 1) := by
  funext j d e
  exact (Finset.sum_range_succ (fun s => ∑ t : Fin 512, U (512 * s + t) d * stored D s t (768 * j + e)) n).symm

theorem grow_zero (U : ℕ → ℕ → EReal) (D : Grads) :
    grow (fun _ _ _ => 0) (turnedT U 0) (stored D 0) = gradWeight U D 1 := by
  rw [← grow_step]
  refine congrArg (fun W => grow W (turnedT U 0) (stored D 0)) ?_
  funext j d e
  exact (Finset.sum_range_zero fun s => ∑ t : Fin 512, U (512 * s + t) d * stored D s t (768 * j + e)).symm

/-! ## The blocks the body reads -/

section

variable (m : (ℓ : Loc nD τ sig) → Buf (Elt Ideal) ℓ) (c : Dev nD)

theorem place_0 : ∀ t : Fin cfg0.N, win0_0.index t (0 : Fin 2) = 0 ∧ win0_0.index t (1 : Fin 2) = 0 :=
  (by decide +kernel : ∀ t : Fin grid0.N, _)

theorem block_0 (M : ℕ → ℕ → EReal) (h : V m c main_v32 = mat 512 256 M) (t : Fin cfg0.N) :
    iblk m c 0 t = mat 512 256 (fun i j => M i j) := by
  funext y
  show V m c main_v32 (((cfg0.win 0).blk t).view.emb y) = _
  rw [h]
  have h0 : (((cfg0.win 0).blk t).view.emb y 0).val = win0_0.index t (0 : Fin 2) * 512 + 1 * (y 0).val := rfl
  have h1 : (((cfg0.win 0).blk t).view.emb y 1).val = win0_0.index t (1 : Fin 2) * 256 + 1 * (y 1).val := rfl
  show M (((cfg0.win 0).blk t).view.emb y 0).val (((cfg0.win 0).blk t).view.emb y 1).val = M (y 0).val (y 1).val
  rw [h0, h1, (place_0 t).1, (place_0 t).2]
  rw [show 0 * 512 + 1 * (y 0).val = (y 0).val by omega, show 0 * 256 + 1 * (y 1).val = (y 1).val by omega]

theorem place_1 : ∀ t : Fin cfg0.N, win0_1.index t (0 : Fin 2) = t.val ∧ win0_1.index t (1 : Fin 2) = 0 :=
  (by decide +kernel : ∀ t : Fin grid0.N, _)

theorem block_1 (M : ℕ → ℕ → EReal) (h : V m c main_v37 = mat 128 256 M) (t : Fin cfg0.N) :
    iblk m c 1 t = mat 8 256 (fun i j => M (8 * t.val + i) j) := by
  funext y
  show V m c main_v37 (((cfg0.win 1).blk t).view.emb y) = _
  rw [h]
  have h0 : (((cfg0.win 1).blk t).view.emb y 0).val = win0_1.index t (0 : Fin 2) * 8 + 1 * (y 0).val := rfl
  have h1 : (((cfg0.win 1).blk t).view.emb y 1).val = win0_1.index t (1 : Fin 2) * 256 + 1 * (y 1).val := rfl
  show M (((cfg0.win 1).blk t).view.emb y 0).val (((cfg0.win 1).blk t).view.emb y 1).val = M (8 * t.val + (y 0).val) (y 1).val
  rw [h0, h1, (place_1 t).1, (place_1 t).2]
  rw [show t.val * 8 + 1 * (y 0).val = 8 * t.val + (y 0).val by omega, show 0 * 256 + 1 * (y 1).val = (y 1).val by omega]

theorem place_2 : ∀ t : Fin cfg0.N, win0_2.index t (0 : Fin 3) = t.val ∧ win0_2.index t (1 : Fin 3) = 0 ∧ win0_2.index t (2 : Fin 3) = 0 :=
  (by decide +kernel : ∀ t : Fin grid0.N, _)

theorem block_2 (M : ℕ → ℕ → ℕ → EReal) (h : V m c main_v1 = cube 16 1024 512 M) (t : Fin cfg0.N) :
    iblk m c 2 t = cube 1 1024 512 (fun h i j => M (1 * t.val + h) i j) := by
  funext y
  show V m c main_v1 (((cfg0.win 2).blk t).view.emb y) = _
  rw [h]
  have h0 : (((cfg0.win 2).blk t).view.emb y 0).val = win0_2.index t (0 : Fin 3) * 1 + 1 * (y 0).val := rfl
  have h1 : (((cfg0.win 2).blk t).view.emb y 1).val = win0_2.index t (1 : Fin 3) * 1024 + 1 * (y 1).val := rfl
  have h2 : (((cfg0.win 2).blk t).view.emb y 2).val = win0_2.index t (2 : Fin 3) * 512 + 1 * (y 2).val := rfl
  show M (((cfg0.win 2).blk t).view.emb y 0).val (((cfg0.win 2).blk t).view.emb y 1).val (((cfg0.win 2).blk t).view.emb y 2).val = M (1 * t.val + (y 0).val) (y 1).val (y 2).val
  rw [h0, h1, h2, (place_2 t).1, (place_2 t).2.1, (place_2 t).2.2]
  rw [show t.val * 1 + 1 * (y 0).val = 1 * t.val + (y 0).val by omega, show 0 * 1024 + 1 * (y 1).val = (y 1).val by omega, show 0 * 512 + 1 * (y 2).val = (y 2).val by omega]

theorem place_3 : ∀ t : Fin cfg0.N, win0_3.index t (0 : Fin 2) = t.val ∧ win0_3.index t (1 : Fin 2) = 0 :=
  (by decide +kernel : ∀ t : Fin grid0.N, _)

theorem block_3 (M : ℕ → ℕ → EReal) (h : V m c main_arg1 = mat 8192 384 M) (t : Fin cfg0.N) :
    iblk m c 3 t = mat 512 384 (fun i j => M (512 * t.val + i) j) := by
  funext y
  show V m c main_arg1 (((cfg0.win 3).blk t).view.emb y) = _
  rw [h]
  have h0 : (((cfg0.win 3).blk t).view.emb y 0).val = win0_3.index t (0 : Fin 2) * 512 + 1 * (y 0).val := rfl
  have h1 : (((cfg0.win 3).blk t).view.emb y 1).val = win0_3.index t (1 : Fin 2) * 384 + 1 * (y 1).val := rfl
  show M (((cfg0.win 3).blk t).view.emb y 0).val (((cfg0.win 3).blk t).view.emb y 1).val = M (512 * t.val + (y 0).val) (y 1).val
  rw [h0, h1, (place_3 t).1, (place_3 t).2]
  rw [show t.val * 512 + 1 * (y 0).val = 512 * t.val + (y 0).val by omega, show 0 * 384 + 1 * (y 1).val = (y 1).val by omega]

theorem place_4 : ∀ t : Fin cfg0.N, win0_4.index t (0 : Fin 2) = t.val ∧ win0_4.index t (1 : Fin 2) = 0 :=
  (by decide +kernel : ∀ t : Fin grid0.N, _)

theorem block_4 (M : ℕ → ℕ → EReal) (h : V m c main_arg2 = mat 8192 128 M) (t : Fin cfg0.N) :
    iblk m c 4 t = mat 512 128 (fun i j => M (512 * t.val + i) j) := by
  funext y
  show V m c main_arg2 (((cfg0.win 4).blk t).view.emb y) = _
  rw [h]
  have h0 : (((cfg0.win 4).blk t).view.emb y 0).val = win0_4.index t (0 : Fin 2) * 512 + 1 * (y 0).val := rfl
  have h1 : (((cfg0.win 4).blk t).view.emb y 1).val = win0_4.index t (1 : Fin 2) * 128 + 1 * (y 1).val := rfl
  show M (((cfg0.win 4).blk t).view.emb y 0).val (((cfg0.win 4).blk t).view.emb y 1).val = M (512 * t.val + (y 0).val) (y 1).val
  rw [h0, h1, (place_4 t).1, (place_4 t).2]
  rw [show t.val * 512 + 1 * (y 0).val = 512 * t.val + (y 0).val by omega, show 0 * 128 + 1 * (y 1).val = (y 1).val by omega]

theorem place_5 : ∀ t : Fin cfg0.N, win0_5.index t (0 : Fin 2) = t.val ∧ win0_5.index t (1 : Fin 2) = 0 :=
  (by decide +kernel : ∀ t : Fin grid0.N, _)

theorem block_5 (M : ℕ → ℕ → EReal) (h : V m c main_arg3 = mat 8192 128 M) (t : Fin cfg0.N) :
    iblk m c 5 t = mat 512 128 (fun i j => M (512 * t.val + i) j) := by
  funext y
  show V m c main_arg3 (((cfg0.win 5).blk t).view.emb y) = _
  rw [h]
  have h0 : (((cfg0.win 5).blk t).view.emb y 0).val = win0_5.index t (0 : Fin 2) * 512 + 1 * (y 0).val := rfl
  have h1 : (((cfg0.win 5).blk t).view.emb y 1).val = win0_5.index t (1 : Fin 2) * 128 + 1 * (y 1).val := rfl
  show M (((cfg0.win 5).blk t).view.emb y 0).val (((cfg0.win 5).blk t).view.emb y 1).val = M (512 * t.val + (y 0).val) (y 1).val
  rw [h0, h1, (place_5 t).1, (place_5 t).2]
  rw [show t.val * 512 + 1 * (y 0).val = 512 * t.val + (y 0).val by omega, show 0 * 128 + 1 * (y 1).val = (y 1).val by omega]

theorem place_6 : ∀ t : Fin cfg0.N, win0_6.index t (0 : Fin 2) = t.val ∧ win0_6.index t (1 : Fin 2) = 0 :=
  (by decide +kernel : ∀ t : Fin grid0.N, _)

theorem block_6 (M : ℕ → ℕ → EReal) (h : V m c main_arg4 = mat 8192 384 M) (t : Fin cfg0.N) :
    iblk m c 6 t = mat 512 384 (fun i j => M (512 * t.val + i) j) := by
  funext y
  show V m c main_arg4 (((cfg0.win 6).blk t).view.emb y) = _
  rw [h]
  have h0 : (((cfg0.win 6).blk t).view.emb y 0).val = win0_6.index t (0 : Fin 2) * 512 + 1 * (y 0).val := rfl
  have h1 : (((cfg0.win 6).blk t).view.emb y 1).val = win0_6.index t (1 : Fin 2) * 384 + 1 * (y 1).val := rfl
  show M (((cfg0.win 6).blk t).view.emb y 0).val (((cfg0.win 6).blk t).view.emb y 1).val = M (512 * t.val + (y 0).val) (y 1).val
  rw [h0, h1, (place_6 t).1, (place_6 t).2]
  rw [show t.val * 512 + 1 * (y 0).val = 512 * t.val + (y 0).val by omega, show 0 * 384 + 1 * (y 1).val = (y 1).val by omega]

theorem place_7 : ∀ t : Fin cfg0.N, win0_7.index t (0 : Fin 2) = t.val ∧ win0_7.index t (1 : Fin 2) = 0 :=
  (by decide +kernel : ∀ t : Fin grid0.N, _)

theorem block_7 (M : ℕ → ℕ → EReal) (h : V m c main_arg5 = mat 8192 384 M) (t : Fin cfg0.N) :
    iblk m c 7 t = mat 512 384 (fun i j => M (512 * t.val + i) j) := by
  funext y
  show V m c main_arg5 (((cfg0.win 7).blk t).view.emb y) = _
  rw [h]
  have h0 : (((cfg0.win 7).blk t).view.emb y 0).val = win0_7.index t (0 : Fin 2) * 512 + 1 * (y 0).val := rfl
  have h1 : (((cfg0.win 7).blk t).view.emb y 1).val = win0_7.index t (1 : Fin 2) * 384 + 1 * (y 1).val := rfl
  show M (((cfg0.win 7).blk t).view.emb y 0).val (((cfg0.win 7).blk t).view.emb y 1).val = M (512 * t.val + (y 0).val) (y 1).val
  rw [h0, h1, (place_7 t).1, (place_7 t).2]
  rw [show t.val * 512 + 1 * (y 0).val = 512 * t.val + (y 0).val by omega, show 0 * 384 + 1 * (y 1).val = (y 1).val by omega]

theorem place_8 : ∀ t : Fin cfg0.N, win0_8.index t (0 : Fin 2) = t.val ∧ win0_8.index t (1 : Fin 2) = 0 :=
  (by decide +kernel : ∀ t : Fin grid0.N, _)

theorem block_8 (M : ℕ → ℕ → EReal) (h : V m c main_arg6 = mat 8192 256 M) (t : Fin cfg0.N) :
    iblk m c 8 t = mat 512 256 (fun i j => M (512 * t.val + i) j) := by
  funext y
  show V m c main_arg6 (((cfg0.win 8).blk t).view.emb y) = _
  rw [h]
  have h0 : (((cfg0.win 8).blk t).view.emb y 0).val = win0_8.index t (0 : Fin 2) * 512 + 1 * (y 0).val := rfl
  have h1 : (((cfg0.win 8).blk t).view.emb y 1).val = win0_8.index t (1 : Fin 2) * 256 + 1 * (y 1).val := rfl
  show M (((cfg0.win 8).blk t).view.emb y 0).val (((cfg0.win 8).blk t).view.emb y 1).val = M (512 * t.val + (y 0).val) (y 1).val
  rw [h0, h1, (place_8 t).1, (place_8 t).2]
  rw [show t.val * 512 + 1 * (y 0).val = 512 * t.val + (y 0).val by omega, show 0 * 256 + 1 * (y 1).val = (y 1).val by omega]

theorem place_9 : ∀ t : Fin cfg0.N, win0_9.index t (0 : Fin 2) = t.val ∧ win0_9.index t (1 : Fin 2) = 0 :=
  (by decide +kernel : ∀ t : Fin grid0.N, _)

theorem block_9 (M : ℕ → ℕ → EReal) (h : V m c main_arg7 = mat 8192 256 M) (t : Fin cfg0.N) :
    iblk m c 9 t = mat 512 256 (fun i j => M (512 * t.val + i) j) := by
  funext y
  show V m c main_arg7 (((cfg0.win 9).blk t).view.emb y) = _
  rw [h]
  have h0 : (((cfg0.win 9).blk t).view.emb y 0).val = win0_9.index t (0 : Fin 2) * 512 + 1 * (y 0).val := rfl
  have h1 : (((cfg0.win 9).blk t).view.emb y 1).val = win0_9.index t (1 : Fin 2) * 256 + 1 * (y 1).val := rfl
  show M (((cfg0.win 9).blk t).view.emb y 0).val (((cfg0.win 9).blk t).view.emb y 1).val = M (512 * t.val + (y 0).val) (y 1).val
  rw [h0, h1, (place_9 t).1, (place_9 t).2]
  rw [show t.val * 512 + 1 * (y 0).val = 512 * t.val + (y 0).val by omega, show 0 * 256 + 1 * (y 1).val = (y 1).val by omega]

theorem place_10 : ∀ t : Fin cfg0.N, win0_10.index t (0 : Fin 3) = 0 ∧ win0_10.index t (1 : Fin 3) = t.val ∧ win0_10.index t (2 : Fin 3) = 0 :=
  (by decide +kernel : ∀ t : Fin grid0.N, _)

theorem block_10 (M : ℕ → ℕ → ℕ → EReal) (h : V m c main_arg8 = cube 1 8192 384 M) (t : Fin cfg0.N) :
    iblk m c 10 t = cube 1 512 384 (fun h i j => M h (512 * t.val + i) j) := by
  funext y
  show V m c main_arg8 (((cfg0.win 10).blk t).view.emb y) = _
  rw [h]
  have h0 : (((cfg0.win 10).blk t).view.emb y 0).val = win0_10.index t (0 : Fin 3) * 1 + 1 * (y 0).val := rfl
  have h1 : (((cfg0.win 10).blk t).view.emb y 1).val = win0_10.index t (1 : Fin 3) * 512 + 1 * (y 1).val := rfl
  have h2 : (((cfg0.win 10).blk t).view.emb y 2).val = win0_10.index t (2 : Fin 3) * 384 + 1 * (y 2).val := rfl
  show M (((cfg0.win 10).blk t).view.emb y 0).val (((cfg0.win 10).blk t).view.emb y 1).val (((cfg0.win 10).blk t).view.emb y 2).val = M (y 0).val (512 * t.val + (y 1).val) (y 2).val
  rw [h0, h1, h2, (place_10 t).1, (place_10 t).2.1, (place_10 t).2.2]
  rw [show 0 * 1 + 1 * (y 0).val = (y 0).val by omega, show t.val * 512 + 1 * (y 1).val = 512 * t.val + (y 1).val by omega, show 0 * 384 + 1 * (y 2).val = (y 2).val by omega]

theorem place_11 : ∀ t : Fin cfg0.N, win0_11.index t (0 : Fin 3) = 0 ∧ win0_11.index t (1 : Fin 3) = t.val ∧ win0_11.index t (2 : Fin 3) = 0 :=
  (by decide +kernel : ∀ t : Fin grid0.N, _)

theorem block_11 (M : ℕ → ℕ → ℕ → EReal) (h : V m c main_arg9 = cube 4 2048 384 M) (t : Fin cfg0.N) :
    iblk m c 11 t = cube 4 128 384 (fun h i j => M h (128 * t.val + i) j) := by
  funext y
  show V m c main_arg9 (((cfg0.win 11).blk t).view.emb y) = _
  rw [h]
  have h0 : (((cfg0.win 11).blk t).view.emb y 0).val = win0_11.index t (0 : Fin 3) * 4 + 1 * (y 0).val := rfl
  have h1 : (((cfg0.win 11).blk t).view.emb y 1).val = win0_11.index t (1 : Fin 3) * 128 + 1 * (y 1).val := rfl
  have h2 : (((cfg0.win 11).blk t).view.emb y 2).val = win0_11.index t (2 : Fin 3) * 384 + 1 * (y 2).val := rfl
  show M (((cfg0.win 11).blk t).view.emb y 0).val (((cfg0.win 11).blk t).view.emb y 1).val (((cfg0.win 11).blk t).view.emb y 2).val = M (y 0).val (128 * t.val + (y 1).val) (y 2).val
  rw [h0, h1, h2, (place_11 t).1, (place_11 t).2.1, (place_11 t).2.2]
  rw [show 0 * 4 + 1 * (y 0).val = (y 0).val by omega, show t.val * 128 + 1 * (y 1).val = 128 * t.val + (y 1).val by omega, show 0 * 384 + 1 * (y 2).val = (y 2).val by omega]

theorem place_12 : ∀ t : Fin cfg0.N, win0_12.index t (0 : Fin 3) = 0 ∧ win0_12.index t (1 : Fin 3) = t.val ∧ win0_12.index t (2 : Fin 3) = 0 :=
  (by decide +kernel : ∀ t : Fin grid0.N, _)

theorem block_12 (M : ℕ → ℕ → ℕ → EReal) (h : V m c main_arg10 = cube 16 512 384 M) (t : Fin cfg0.N) :
    iblk m c 12 t = cube 16 32 384 (fun h i j => M h (32 * t.val + i) j) := by
  funext y
  show V m c main_arg10 (((cfg0.win 12).blk t).view.emb y) = _
  rw [h]
  have h0 : (((cfg0.win 12).blk t).view.emb y 0).val = win0_12.index t (0 : Fin 3) * 16 + 1 * (y 0).val := rfl
  have h1 : (((cfg0.win 12).blk t).view.emb y 1).val = win0_12.index t (1 : Fin 3) * 32 + 1 * (y 1).val := rfl
  have h2 : (((cfg0.win 12).blk t).view.emb y 2).val = win0_12.index t (2 : Fin 3) * 384 + 1 * (y 2).val := rfl
  show M (((cfg0.win 12).blk t).view.emb y 0).val (((cfg0.win 12).blk t).view.emb y 1).val (((cfg0.win 12).blk t).view.emb y 2).val = M (y 0).val (32 * t.val + (y 1).val) (y 2).val
  rw [h0, h1, h2, (place_12 t).1, (place_12 t).2.1, (place_12 t).2.2]
  rw [show 0 * 16 + 1 * (y 0).val = (y 0).val by omega, show t.val * 32 + 1 * (y 1).val = 32 * t.val + (y 1).val by omega, show 0 * 384 + 1 * (y 2).val = (y 2).val by omega]

theorem place_13 : ∀ t : Fin cfg0.N, win0_13.index t (0 : Fin 3) = 0 ∧ win0_13.index t (1 : Fin 3) = t.val ∧ win0_13.index t (2 : Fin 3) = 0 :=
  (by decide +kernel : ∀ t : Fin grid0.N, _)

theorem block_13 (M : ℕ → ℕ → ℕ → EReal) (h : V m c main_arg11 = cube 1 8192 384 M) (t : Fin cfg0.N) :
    iblk m c 13 t = cube 1 512 384 (fun h i j => M h (512 * t.val + i) j) := by
  funext y
  show V m c main_arg11 (((cfg0.win 13).blk t).view.emb y) = _
  rw [h]
  have h0 : (((cfg0.win 13).blk t).view.emb y 0).val = win0_13.index t (0 : Fin 3) * 1 + 1 * (y 0).val := rfl
  have h1 : (((cfg0.win 13).blk t).view.emb y 1).val = win0_13.index t (1 : Fin 3) * 512 + 1 * (y 1).val := rfl
  have h2 : (((cfg0.win 13).blk t).view.emb y 2).val = win0_13.index t (2 : Fin 3) * 384 + 1 * (y 2).val := rfl
  show M (((cfg0.win 13).blk t).view.emb y 0).val (((cfg0.win 13).blk t).view.emb y 1).val (((cfg0.win 13).blk t).view.emb y 2).val = M (y 0).val (512 * t.val + (y 1).val) (y 2).val
  rw [h0, h1, h2, (place_13 t).1, (place_13 t).2.1, (place_13 t).2.2]
  rw [show 0 * 1 + 1 * (y 0).val = (y 0).val by omega, show t.val * 512 + 1 * (y 1).val = 512 * t.val + (y 1).val by omega, show 0 * 384 + 1 * (y 2).val = (y 2).val by omega]

theorem place_14 : ∀ t : Fin cfg0.N, win0_14.index t (0 : Fin 3) = 0 ∧ win0_14.index t (1 : Fin 3) = t.val ∧ win0_14.index t (2 : Fin 3) = 0 :=
  (by decide +kernel : ∀ t : Fin grid0.N, _)

theorem block_14 (M : ℕ → ℕ → ℕ → EReal) (h : V m c main_arg12 = cube 4 2048 384 M) (t : Fin cfg0.N) :
    iblk m c 14 t = cube 4 128 384 (fun h i j => M h (128 * t.val + i) j) := by
  funext y
  show V m c main_arg12 (((cfg0.win 14).blk t).view.emb y) = _
  rw [h]
  have h0 : (((cfg0.win 14).blk t).view.emb y 0).val = win0_14.index t (0 : Fin 3) * 4 + 1 * (y 0).val := rfl
  have h1 : (((cfg0.win 14).blk t).view.emb y 1).val = win0_14.index t (1 : Fin 3) * 128 + 1 * (y 1).val := rfl
  have h2 : (((cfg0.win 14).blk t).view.emb y 2).val = win0_14.index t (2 : Fin 3) * 384 + 1 * (y 2).val := rfl
  show M (((cfg0.win 14).blk t).view.emb y 0).val (((cfg0.win 14).blk t).view.emb y 1).val (((cfg0.win 14).blk t).view.emb y 2).val = M (y 0).val (128 * t.val + (y 1).val) (y 2).val
  rw [h0, h1, h2, (place_14 t).1, (place_14 t).2.1, (place_14 t).2.2]
  rw [show 0 * 4 + 1 * (y 0).val = (y 0).val by omega, show t.val * 128 + 1 * (y 1).val = 128 * t.val + (y 1).val by omega, show 0 * 384 + 1 * (y 2).val = (y 2).val by omega]

theorem place_15 : ∀ t : Fin cfg0.N, win0_15.index t (0 : Fin 3) = 0 ∧ win0_15.index t (1 : Fin 3) = t.val ∧ win0_15.index t (2 : Fin 3) = 0 :=
  (by decide +kernel : ∀ t : Fin grid0.N, _)

theorem block_15 (M : ℕ → ℕ → ℕ → EReal) (h : V m c main_arg13 = cube 16 512 384 M) (t : Fin cfg0.N) :
    iblk m c 15 t = cube 16 32 384 (fun h i j => M h (32 * t.val + i) j) := by
  funext y
  show V m c main_arg13 (((cfg0.win 15).blk t).view.emb y) = _
  rw [h]
  have h0 : (((cfg0.win 15).blk t).view.emb y 0).val = win0_15.index t (0 : Fin 3) * 16 + 1 * (y 0).val := rfl
  have h1 : (((cfg0.win 15).blk t).view.emb y 1).val = win0_15.index t (1 : Fin 3) * 32 + 1 * (y 1).val := rfl
  have h2 : (((cfg0.win 15).blk t).view.emb y 2).val = win0_15.index t (2 : Fin 3) * 384 + 1 * (y 2).val := rfl
  show M (((cfg0.win 15).blk t).view.emb y 0).val (((cfg0.win 15).blk t).view.emb y 1).val (((cfg0.win 15).blk t).view.emb y 2).val = M (y 0).val (32 * t.val + (y 1).val) (y 2).val
  rw [h0, h1, h2, (place_15 t).1, (place_15 t).2.1, (place_15 t).2.2]
  rw [show 0 * 16 + 1 * (y 0).val = (y 0).val by omega, show t.val * 32 + 1 * (y 1).val = 32 * t.val + (y 1).val by omega, show 0 * 384 + 1 * (y 2).val = (y 2).val by omega]

theorem place_16 : ∀ t : Fin cfg0.N, win0_16.index t (0 : Fin 3) = 0 ∧ win0_16.index t (1 : Fin 3) = t.val ∧ win0_16.index t (2 : Fin 3) = 0 :=
  (by decide +kernel : ∀ t : Fin grid0.N, _)

theorem block_16 (M : ℕ → ℕ → ℕ → EReal) (h : V m c main_arg14 = cube 1 8192 384 M) (t : Fin cfg0.N) :
    iblk m c 16 t = cube 1 512 384 (fun h i j => M h (512 * t.val + i) j) := by
  funext y
  show V m c main_arg14 (((cfg0.win 16).blk t).view.emb y) = _
  rw [h]
  have h0 : (((cfg0.win 16).blk t).view.emb y 0).val = win0_16.index t (0 : Fin 3) * 1 + 1 * (y 0).val := rfl
  have h1 : (((cfg0.win 16).blk t).view.emb y 1).val = win0_16.index t (1 : Fin 3) * 512 + 1 * (y 1).val := rfl
  have h2 : (((cfg0.win 16).blk t).view.emb y 2).val = win0_16.index t (2 : Fin 3) * 384 + 1 * (y 2).val := rfl
  show M (((cfg0.win 16).blk t).view.emb y 0).val (((cfg0.win 16).blk t).view.emb y 1).val (((cfg0.win 16).blk t).view.emb y 2).val = M (y 0).val (512 * t.val + (y 1).val) (y 2).val
  rw [h0, h1, h2, (place_16 t).1, (place_16 t).2.1, (place_16 t).2.2]
  rw [show 0 * 1 + 1 * (y 0).val = (y 0).val by omega, show t.val * 512 + 1 * (y 1).val = 512 * t.val + (y 1).val by omega, show 0 * 384 + 1 * (y 2).val = (y 2).val by omega]

theorem place_17 : ∀ t : Fin cfg0.N, win0_17.index t (0 : Fin 3) = 0 ∧ win0_17.index t (1 : Fin 3) = t.val ∧ win0_17.index t (2 : Fin 3) = 0 :=
  (by decide +kernel : ∀ t : Fin grid0.N, _)

theorem block_17 (M : ℕ → ℕ → ℕ → EReal) (h : V m c main_arg15 = cube 4 2048 384 M) (t : Fin cfg0.N) :
    iblk m c 17 t = cube 4 128 384 (fun h i j => M h (128 * t.val + i) j) := by
  funext y
  show V m c main_arg15 (((cfg0.win 17).blk t).view.emb y) = _
  rw [h]
  have h0 : (((cfg0.win 17).blk t).view.emb y 0).val = win0_17.index t (0 : Fin 3) * 4 + 1 * (y 0).val := rfl
  have h1 : (((cfg0.win 17).blk t).view.emb y 1).val = win0_17.index t (1 : Fin 3) * 128 + 1 * (y 1).val := rfl
  have h2 : (((cfg0.win 17).blk t).view.emb y 2).val = win0_17.index t (2 : Fin 3) * 384 + 1 * (y 2).val := rfl
  show M (((cfg0.win 17).blk t).view.emb y 0).val (((cfg0.win 17).blk t).view.emb y 1).val (((cfg0.win 17).blk t).view.emb y 2).val = M (y 0).val (128 * t.val + (y 1).val) (y 2).val
  rw [h0, h1, h2, (place_17 t).1, (place_17 t).2.1, (place_17 t).2.2]
  rw [show 0 * 4 + 1 * (y 0).val = (y 0).val by omega, show t.val * 128 + 1 * (y 1).val = 128 * t.val + (y 1).val by omega, show 0 * 384 + 1 * (y 2).val = (y 2).val by omega]

theorem place_18 : ∀ t : Fin cfg0.N, win0_18.index t (0 : Fin 3) = 0 ∧ win0_18.index t (1 : Fin 3) = t.val ∧ win0_18.index t (2 : Fin 3) = 0 :=
  (by decide +kernel : ∀ t : Fin grid0.N, _)

theorem block_18 (M : ℕ → ℕ → ℕ → EReal) (h : V m c main_arg16 = cube 16 512 384 M) (t : Fin cfg0.N) :
    iblk m c 18 t = cube 16 32 384 (fun h i j => M h (32 * t.val + i) j) := by
  funext y
  show V m c main_arg16 (((cfg0.win 18).blk t).view.emb y) = _
  rw [h]
  have h0 : (((cfg0.win 18).blk t).view.emb y 0).val = win0_18.index t (0 : Fin 3) * 16 + 1 * (y 0).val := rfl
  have h1 : (((cfg0.win 18).blk t).view.emb y 1).val = win0_18.index t (1 : Fin 3) * 32 + 1 * (y 1).val := rfl
  have h2 : (((cfg0.win 18).blk t).view.emb y 2).val = win0_18.index t (2 : Fin 3) * 384 + 1 * (y 2).val := rfl
  show M (((cfg0.win 18).blk t).view.emb y 0).val (((cfg0.win 18).blk t).view.emb y 1).val (((cfg0.win 18).blk t).view.emb y 2).val = M (y 0).val (32 * t.val + (y 1).val) (y 2).val
  rw [h0, h1, h2, (place_18 t).1, (place_18 t).2.1, (place_18 t).2.2]
  rw [show 0 * 16 + 1 * (y 0).val = (y 0).val by omega, show t.val * 32 + 1 * (y 1).val = 32 * t.val + (y 1).val by omega, show 0 * 384 + 1 * (y 2).val = (y 2).val by omega]

theorem place_19 : ∀ t : Fin cfg0.N, win0_19.index t (0 : Fin 2) = t.val ∧ win0_19.index t (1 : Fin 2) = 0 :=
  (by decide +kernel : ∀ t : Fin grid0.N, _)

theorem place_20 : ∀ t : Fin cfg0.N, win0_20.index t (0 : Fin 3) = 0 ∧ win0_20.index t (1 : Fin 3) = 0 ∧ win0_20.index t (2 : Fin 3) = 0 :=
  (by decide +kernel : ∀ t : Fin grid0.N, _)

variable (U : ℕ → ℕ → EReal) (D : Grads)
  (h0 : m ((c.tc : Thread nD τ).loc main_arg0) = mat 8192 1024 U)
  (h1 : m ((c.tc : Thread nD τ).loc main_arg1) = mat 8192 384 D.qa)
  (h2 : m ((c.tc : Thread nD τ).loc main_arg2) = mat 8192 128 D.ka)
  (h3 : m ((c.tc : Thread nD τ).loc main_arg3) = mat 8192 128 D.va)
  (h4 : m ((c.tc : Thread nD τ).loc main_arg4) = mat 8192 384 D.ga)
  (h5 : m ((c.tc : Thread nD τ).loc main_arg5) = mat 8192 384 D.gb)
  (h6 : m ((c.tc : Thread nD τ).loc main_arg6) = mat 8192 256 D.qc)
  (h7 : m ((c.tc : Thread nD τ).loc main_arg7) = mat 8192 256 D.gc)
  (h8 : m ((c.tc : Thread nD τ).loc main_arg8) = cube 1 8192 384 D.qb₁)
  (h9 : m ((c.tc : Thread nD τ).loc main_arg9) = cube 4 2048 384 D.qb₄)
  (h10 : m ((c.tc : Thread nD τ).loc main_arg10) = cube 16 512 384 D.qb₁₆)
  (h11 : m ((c.tc : Thread nD τ).loc main_arg11) = cube 1 8192 384 D.kb₁)
  (h12 : m ((c.tc : Thread nD τ).loc main_arg12) = cube 4 2048 384 D.kb₄)
  (h13 : m ((c.tc : Thread nD τ).loc main_arg13) = cube 16 512 384 D.kb₁₆)
  (h14 : m ((c.tc : Thread nD τ).loc main_arg14) = cube 1 8192 384 D.vb₁)
  (h15 : m ((c.tc : Thread nD τ).loc main_arg15) = cube 4 2048 384 D.vb₄)
  (h16 : m ((c.tc : Thread nD τ).loc main_arg16) = cube 16 512 384 D.vb₁₆)

include h0 h1 h2 h3 h4 h5 h6 h7 h8 h9 h10 h11 h12 h13 h14 h15 h16

theorem block_rows (t : Fin cfg0.N) : iblk m c 2 t = cube 1 1024 512 (turnedT U t.val) := by
  refine (block_2 m c (fun n d t => U (512 * n + t) d) ?_ t).trans ?_
  · rw [region_rows, h0]
    exact turned_rows U
  · funext y
    have y0 : (y 0).val < 1 := (y 0).isLt
    show U (512 * (1 * t.val + (y 0).val) + (y 2).val) (y 1).val = U (512 * (t.val + (y 0).val) + (y 2).val) (y 1).val
    rw [Nat.one_mul]

/-- What the outputs hold after point `n`. -/
theorem after_point : ∀ (n : ℕ) (hn : n < cfg0.N), outsAt0 m c n hn
    = (mat 512 3072 (stored D n), cube 4 1024 768 (gradWeight U D (n + 1))) := by
  have b0 : ∀ t : Fin cfg0.N, iblk m c 0 t = mat 512 256 localT := block_0 m c _ ((region_local m c).trans localTable_apply)
  have b1 : ∀ t : Fin cfg0.N, iblk m c 1 t = mat 8 256 (baseT t.val) := block_1 m c _ ((region_base m c).trans baseTable_apply)
  have b2 : ∀ t : Fin cfg0.N, iblk m c 2 t = cube 1 1024 512 (turnedT U t.val) := block_rows m c U D h0 h1 h2 h3 h4 h5 h6 h7 h8 h9 h10 h11 h12 h13 h14 h15 h16
  have b3 : ∀ t : Fin cfg0.N, iblk m c 3 t = mat 512 384 (D.block t.val).qa := block_3 m c _ ((V_main_arg1 m c).trans h1)
  have b4 : ∀ t : Fin cfg0.N, iblk m c 4 t = mat 512 128 (D.block t.val).ka := block_4 m c _ ((V_main_arg2 m c).trans h2)
  have b5 : ∀ t : Fin cfg0.N, iblk m c 5 t = mat 512 128 (D.block t.val).va := block_5 m c _ ((V_main_arg3 m c).trans h3)
  have b6 : ∀ t : Fin cfg0.N, iblk m c 6 t = mat 512 384 (D.block t.val).ga := block_6 m c _ ((V_main_arg4 m c).trans h4)
  have b7 : ∀ t : Fin cfg0.N, iblk m c 7 t = mat 512 384 (D.block t.val).gb := block_7 m c _ ((V_main_arg5 m c).trans h5)
  have b8 : ∀ t : Fin cfg0.N, iblk m c 8 t = mat 512 256 (D.block t.val).qc := block_8 m c _ ((V_main_arg6 m c).trans h6)
  have b9 : ∀ t : Fin cfg0.N, iblk m c 9 t = mat 512 256 (D.block t.val).gc := block_9 m c _ ((V_main_arg7 m c).trans h7)
  have b10 : ∀ t : Fin cfg0.N, iblk m c 10 t = cube 1 512 384 (D.block t.val).qb₁ := block_10 m c _ ((V_main_arg8 m c).trans h8)
  have b11 : ∀ t : Fin cfg0.N, iblk m c 11 t = cube 4 128 384 (D.block t.val).qb₄ := block_11 m c _ ((V_main_arg9 m c).trans h9)
  have b12 : ∀ t : Fin cfg0.N, iblk m c 12 t = cube 16 32 384 (D.block t.val).qb₁₆ := block_12 m c _ ((V_main_arg10 m c).trans h10)
  have b13 : ∀ t : Fin cfg0.N, iblk m c 13 t = cube 1 512 384 (D.block t.val).kb₁ := block_13 m c _ ((V_main_arg11 m c).trans h11)
  have b14 : ∀ t : Fin cfg0.N, iblk m c 14 t = cube 4 128 384 (D.block t.val).kb₄ := block_14 m c _ ((V_main_arg12 m c).trans h12)
  have b15 : ∀ t : Fin cfg0.N, iblk m c 15 t = cube 16 32 384 (D.block t.val).kb₁₆ := block_15 m c _ ((V_main_arg13 m c).trans h13)
  have b16 : ∀ t : Fin cfg0.N, iblk m c 16 t = cube 1 512 384 (D.block t.val).vb₁ := block_16 m c _ ((V_main_arg14 m c).trans h14)
  have b17 : ∀ t : Fin cfg0.N, iblk m c 17 t = cube 4 128 384 (D.block t.val).vb₄ := block_17 m c _ ((V_main_arg15 m c).trans h15)
  have b18 : ∀ t : Fin cfg0.N, iblk m c 18 t = cube 16 32 384 (D.block t.val).vb₁₆ := block_18 m c _ ((V_main_arg16 m c).trans h16)
  intro n
  induction n with
  | zero =>
    intro hn
    rw [outsAt0_A m c ⟨0, hn⟩ rfl]
    rw [b0, b1, b2, b3, b4, b5, b6, b7, b8, b9, b10, b11, b12, b13, b14, b15, b16, b17, b18]
    refine congrArg₂ Prod.mk (A_rows _ _ _ _ _ _ _ _ _ _ _ _ _ _ _ _ _ _ _ _ _ _ _ _ _ _ _ _ _ _ _ _ _ _ _ _ _ _ _ _ _ _ _ _ _ _ _ _ _ _ _ _ _ _ _ _ _ _ _ _ _)
      ((A_weight _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg (cube 4 1024 768) ?_))
    exact grow_zero U D
  | succ n ih =>
    intro hn
    have hc : ¬(n + 1) % 16 = 0 := by
      have := lt_of_lt_of_eq hn (show cfg0.N = 16 from N_0)
      omega
    rw [outsAt0_B m c ⟨n + 1, hn⟩ hc]
    have e : outsAt0 m c (n + 1 - 1) (Nat.lt_of_le_of_lt (Nat.sub_le _ _) hn) = _ := ih (Nat.lt_of_succ_lt hn)
    simp only [e]
    rw [b0, b1, b2, b3, b4, b5, b6, b7, b8, b9, b10, b11, b12, b13, b14, b15, b16, b17, b18]
    refine congrArg₂ Prod.mk (B_rows _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      ((B_weight _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg (cube 4 1024 768) ?_))
    exact grow_step U D (n + 1)

/-- The projection's gradient after the run. -/
theorem final_rows : (dats m 0 c).arrAt 19 cfg0.N = mat 8192 3072 fun r l => stored D (r / 512) (r % 512) l := by
  funext i
  have i0 : (i 0).val < 8192 := (i 0).isLt
  have i1 : (i 1).val < 3072 := (i 1).isLt
  have hlt : (i 0).val / 512 < cfg0.N := lt_of_lt_of_eq (by omega) (show 16 = cfg0.N from N_0.symm)
  have e := Cert.Kernel3Ideal.Value.blocks19 m c ⟨_, hlt⟩ ((by decide +kernel : ∀ t : Fin grid0.N, win0_19.flush t = true) _)
  have f : (dats m 0 c).flushed 19 ⟨_, hlt⟩ = mat 512 3072 (stored D ((i 0).val / 512)) := by
    rw [Cert.Kernel3Ideal.Value.flushed19, after_point m c U D h0 h1 h2 h3 h4 h5 h6 h7 h8 h9 h10 h11 h12 h13 h14 h15 h16]
    rfl
  rw [f] at e
  have e' := congrFun e (ValueIdx.ix2 (n0 := 512) (n1 := 3072) ⟨(i 0).val % 512, Nat.mod_lt _ (by decide)⟩ ⟨(i 1).val, i1⟩)
  have hi' : ((cfg0.win 19).blk ⟨_, hlt⟩).view.emb (ValueIdx.ix2 (n0 := 512) (n1 := 3072) ⟨(i 0).val % 512, Nat.mod_lt _ (by decide)⟩ ⟨(i 1).val, i1⟩) = i := by
    funext a
    fin_cases a
    · apply Fin.ext
      show win0_19.index ⟨_, hlt⟩ (0 : Fin 2) * 512 + 1 * ((i 0).val % 512) = (i 0).val
      rw [(place_19 ⟨_, hlt⟩).1]
      show (i 0).val / 512 * 512 + 1 * ((i 0).val % 512) = (i 0).val
      omega
    · apply Fin.ext
      show win0_19.index ⟨_, hlt⟩ (1 : Fin 2) * 3072 + 1 * (i 1).val = (i 1).val
      rw [(place_19 ⟨_, hlt⟩).2]
      omega
  have e'' : (dats m 0 c).arrAt 19 cfg0.N (((cfg0.win 19).blk ⟨_, hlt⟩).view.emb (ValueIdx.ix2 (n0 := 512) (n1 := 3072) ⟨(i 0).val % 512, Nat.mod_lt _ (by decide)⟩ ⟨(i 1).val, i1⟩))
      = stored D ((i 0).val / 512) ((i 0).val % 512) (i 1).val := e'
  rw [hi'] at e''
  exact e''

omit h0 h1 h2 h3 h4 h5 h6 h7 h8 h9 h10 h11 h12 h13 h14 h15 h16

/-- Only the last point writes the weights' gradient back. -/
theorem flush_20 : ∀ t : Fin cfg0.N, (cfg0.win 20).flush t = true ↔ t.val = 15 :=
  (by decide +kernel : ∀ t : Fin grid0.N, win0_20.flush t = true ↔ t.val = 15)

theorem apart_20 : ∀ t t' : Fin cfg0.N, (cfg0.win 20).flush t = true → (cfg0.win 20).flush t' = true → t ≠ t' →
    Disjoint ((cfg0.win 20).blk t).view.set ((cfg0.win 20).blk t').view.set :=
  fun t t' h h' hne => absurd (Fin.ext (((flush_20 t).1 h).trans ((flush_20 t').1 h').symm)) hne

include h0 h1 h2 h3 h4 h5 h6 h7 h8 h9 h10 h11 h12 h13 h14 h15 h16

/-- The gradient of the weights after the run. -/
theorem final_weight : (dats m 0 c).arrAt 20 cfg0.N = cube 4 1024 768 (gradWeight U D 16) := by
  funext i
  have hlt : 15 < cfg0.N := lt_of_lt_of_eq (by decide) (show 16 = cfg0.N from N_0.symm)
  have e := (dats m 0 c).read_blk_arrAt_eq_flushed 20 apart_20 cfg0.N ⟨_, hlt⟩ hlt ((flush_20 _).2 rfl)
  have f : (dats m 0 c).flushed 20 ⟨_, hlt⟩ = cube 4 1024 768 (gradWeight U D 16) := by
    rw [Cert.Kernel3Ideal.Value.flushed20, after_point m c U D h0 h1 h2 h3 h4 h5 h6 h7 h8 h9 h10 h11 h12 h13 h14 h15 h16]
    rfl
  rw [f] at e
  have hi' : ((cfg0.win 20).blk ⟨_, hlt⟩).view.emb i = i := by
    funext a
    fin_cases a
    · apply Fin.ext
      show win0_20.index ⟨_, hlt⟩ (0 : Fin 3) * 4 + 1 * (i 0).val = (i 0).val
      rw [(place_20 ⟨_, hlt⟩).1]
      omega
    · apply Fin.ext
      show win0_20.index ⟨_, hlt⟩ (1 : Fin 3) * 1024 + 1 * (i 1).val = (i 1).val
      rw [(place_20 ⟨_, hlt⟩).2.1]
      omega
    · apply Fin.ext
      show win0_20.index ⟨_, hlt⟩ (2 : Fin 3) * 768 + 1 * (i 2).val = (i 2).val
      rw [(place_20 ⟨_, hlt⟩).2.2]
      omega
  have e' : (dats m 0 c).arrAt 20 cfg0.N (((cfg0.win 20).blk ⟨_, hlt⟩).view.emb i) = cube 4 1024 768 (gradWeight U D 16) i := congrFun e i
  rw [hi'] at e'
  exact e'

end

end Cert.Proj
-- ==== Proof.ProjEquation.lean ====
/- The kernel's blocks are the rows of the reference's gradient: the angles of a block's positions and of its first
   position add up to the position's angle. -/
module

public import proofs.«01_k».proof.Proof.ProjFold
public import proofs.«01_k».proof.Proof.LayerEquation

@[expose] public section

noncomputable section

namespace Cert.Proj

open Cert.Layer Idealize.ShloMosaic

/-! ## The angles -/

theorem num_coe (n : ℕ) (h : n < 8192) : num n = ((n : ℝ) : EReal) := by
  have e : (BitVec.ofNat 32 n).toInt = (n : ℤ) := by
    rw [BitVec.toInt_eq_toNat_of_lt (by rw [BitVec.toNat_ofNat]; omega), BitVec.toNat_ofNat]
    omega
  show (((BitVec.ofNat 32 n).toInt : ℝ) : EReal) = _
  rw [e]
  norm_cast

theorem word_base : Ideal.ofBits .f32 0x44000000#32 = ((512 : ℝ) : EReal) := by
  simp [Ideal.ofBits, Ideal.ieee, -EReal.coe_mul]
  norm_num
theorem word_two : Ideal.ofBits .f32 1073741824#32 = ((2 : ℝ) : EReal) := by
  simp [Ideal.ofBits, Ideal.ieee, -EReal.coe_mul]
  norm_num
theorem word_dim : Ideal.ofBits .f32 1098907648#32 = ((16 : ℝ) : EReal) := by
  simp [Ideal.ofBits, Ideal.ieee, -EReal.coe_mul]
  norm_num
theorem word_theta : ∃ x : ℝ, Ideal.ofBits .f32 1223959552#32 = (x : EReal) :=
  ⟨_, by simp [Ideal.ofBits, Ideal.ieee, -EReal.coe_mul]; rfl⟩
theorem word_eighth : eighth = ((1 / 8 : ℝ) : EReal) := by
  unfold eighth
  simp [Ideal.ofBits, Ideal.ieee, -EReal.coe_mul]
  norm_num

/-- The frequencies are real numbers. -/
theorem freq_coe (j : ℕ) (h : j < 8192) : ∃ f : ℝ, freq j = (f : EReal) := by
  obtain ⟨x, hx⟩ := word_theta
  refine ⟨Real.rpow x (-(2 * j) * (1 / 16)), ?_⟩
  unfold freq
  rw [hx, word_two, word_dim, num_coe j h, Ideal.div_coe (by norm_num), ← EReal.coe_mul, ← EReal.coe_neg, ← EReal.coe_mul]
  rfl

theorem laneFreq_coe (l : ℕ) : ∃ f : ℝ, laneFreq l = (f : EReal) := by
  unfold laneFreq
  split
  · exact freq_coe _ (by omega)
  · split
    · exact freq_coe _ (by omega)
    · exact ⟨0, rfl⟩

section
variable (n r l : ℕ) (hn : n < 16) (hr : r < 512) (hl : l < 128)
include hl

theorem local_cos : localT r (0 + l) = Ideal.cos (num r * laneFreq l) := by
  unfold localT table
  rw [if_pos (by omega), Nat.zero_add]
theorem local_sin : localT r (128 + l) = Ideal.sin (num r * laneFreq l) := by
  unfold localT table
  rw [if_neg (by omega), Nat.add_sub_cancel_left]
theorem base_cos : baseT n 0 (0 + l) = Ideal.cos (num n * Ideal.ofBits .f32 0x44000000#32 * laneFreq l) := by
  unfold baseT table
  rw [if_pos (by omega), Nat.zero_add, show (8 * n + 0) / 8 = n by omega]
theorem base_sin : baseT n 0 (128 + l) = Ideal.sin (num n * Ideal.ofBits .f32 0x44000000#32 * laneFreq l) := by
  unfold baseT table
  rw [if_neg (by omega), Nat.add_sub_cancel_left, show (8 * n + 0) / 8 = n by omega]

include hn hr

theorem kcos_eq : kcos localT (baseT n) r l = Ideal.cos (num (512 * n + r) * laneFreq l) := by
  obtain ⟨f, hf⟩ := laneFreq_coe l
  unfold kcos
  rw [local_cos r l hl, local_sin r l hl, base_cos n l hl, base_sin n l hl, hf, word_base, num_coe n (by omega), num_coe r (by omega), num_coe (512 * n + r) (by omega)]
  simp only [← EReal.coe_mul]
  show ((Real.cos (n * 512 * f) : ℝ) : EReal) * ((Real.cos (r * f) : ℝ) : EReal) - ((Real.sin (n * 512 * f) : ℝ) : EReal) * ((Real.sin (r * f) : ℝ) : EReal)
    = ((Real.cos ((512 * n + r : ℕ) * f) : ℝ) : EReal)
  simp only [← EReal.coe_mul, ← EReal.coe_sub]
  rw [← Real.cos_add]
  push_cast
  exact congrArg (fun x : ℝ => ((Real.cos x : ℝ) : EReal)) (by ring)

theorem ksin_eq : ksin localT (baseT n) r l = Ideal.sin (num (512 * n + r) * laneFreq l) := by
  obtain ⟨f, hf⟩ := laneFreq_coe l
  unfold ksin
  rw [local_cos r l hl, local_sin r l hl, base_cos n l hl, base_sin n l hl, hf, word_base, num_coe n (by omega), num_coe r (by omega), num_coe (512 * n + r) (by omega)]
  simp only [← EReal.coe_mul]
  show ((Real.sin (n * 512 * f) : ℝ) : EReal) * ((Real.cos (r * f) : ℝ) : EReal) + ((Real.cos (n * 512 * f) : ℝ) : EReal) * ((Real.sin (r * f) : ℝ) : EReal)
    = ((Real.sin ((512 * n + r : ℕ) * f) : ℝ) : EReal)
  simp only [← EReal.coe_mul, ← EReal.coe_add]
  rw [← Real.sin_add]
  push_cast
  exact congrArg (fun x : ℝ => ((Real.sin x : ℝ) : EReal)) (by ring)

/-- A block of lanes turned by the kernel is the reference's. -/
theorem turned_eq (P X : ℕ → ℕ → EReal) (q : ℕ) (h : ∀ l < 128, P r l = X (512 * n + r) (128 * q + l)) :
    turned localT (baseT n) P r l = unrope X (512 * n + r) (128 * q + l) := by
  have e : (128 * q + l) % 64 = l % 64 := by omega
  unfold turned turn kup kdown unrope
  rw [e, kcos_eq n r l hn hr hl, ksin_eq n r l hn hr hl, h l hl]
  unfold laneFreq
  rcases Nat.lt_or_ge (l % 64) 8 with h8 | h8
  · simp only [if_pos h8, if_neg (show ¬(8 ≤ l % 64 ∧ l % 64 < 16) by omega)]
    rw [show (l + 8) % 128 = l + 8 by omega, h (l + 8) (by omega), mul_zero, add_zero, add_comm]
    rfl
  · rcases Nat.lt_or_ge (l % 64) 16 with h16 | h16
    · simp only [if_neg (show ¬l % 64 < 8 by omega), if_pos h16, if_pos (show 8 ≤ l % 64 ∧ l % 64 < 16 by omega)]
      rw [show (l + 120) % 128 = l - 8 by omega, h (l - 8) (by omega), mul_zero, add_zero, show 128 * q + (l - 8) = 128 * q + l - 8 by omega,
        mul_neg, EReal.neg_mul]
      rfl
    · simp only [if_neg (show ¬l % 64 < 8 by omega), if_neg (show ¬l % 64 < 16 by omega), if_neg (show ¬(8 ≤ l % 64 ∧ l % 64 < 16) by omega)]
      rw [mul_zero, mul_zero, mul_zero, add_zero, add_zero]
      have hc : Ideal.cos (0 : EReal) = 1 := by
        show ((Real.cos 0 : ℝ) : EReal) = 1
        rw [Real.cos_zero]
        rfl
      rw [hc, mul_one]

end

/-! ## The scale -/

theorem add_eighth (x y : EReal) : (x + y) * eighth = x * eighth + y * eighth := by
  rw [word_eighth]
  exact EReal.right_distrib_of_nonneg_of_ne_top (by exact_mod_cast (by norm_num : (0 : ℝ) ≤ 1 / 8)) (EReal.coe_ne_top _) x y

/-- The gradient before the rotary embedding, an eighth of it. -/
theorem unrope_eighth (X : ℕ → ℕ → EReal) (t c : ℕ) : unrope (fun t c => X t c * eighth) t c = unrope X t c * eighth := by
  unfold unrope
  split
  · rw [add_eighth, mul_right_comm, mul_right_comm (X t c)]
  · split
    · rw [add_eighth, mul_right_comm, ← EReal.neg_mul (X t (c - 8)) eighth, mul_right_comm (-X t (c - 8))]
    · rfl

theorem merged_eighth (V₁ V₄ V₁₆ : ℕ → ℕ → ℕ → EReal) : mergedScaled V₁ V₄ V₁₆ = fun t c => merged V₁ V₄ V₁₆ t c * eighth := by
  funext t c
  unfold merged
  rw [add_eighth, add_eighth]
  rfl

/-- The kernel's sum of a part's three dilations is the reference's. -/
theorem merge_eq (V₁ V₄ V₁₆ : ℕ → ℕ → ℕ → EReal) (n p r l : ℕ) :
    merge (slab 512 n V₁) (slab 128 n V₄) (slab 32 n V₁₆) p r l = merged V₁ V₄ V₁₆ (512 * n + r) (128 * p + l) := by
  show V₁ 0 (512 * n + r) (128 * p + l) + V₄ (r % 4) (128 * n + r / 4) (128 * p + l) + V₁₆ (r % 16) (32 * n + r / 16) (128 * p + l) = _
  unfold merged
  rw [show (512 * n + r) % 16 = r % 16 by omega, show (512 * n + r) / 16 = 32 * n + r / 16 by omega, show (512 * n + r) % 4 = r % 4 by omega,
    show (512 * n + r) / 4 = 128 * n + r / 4 by omega, add_comm (V₁ 0 _ _), add_comm, add_assoc]

/-! ## The parts -/

/-- The reference's gradient of the projection. -/
abbrev Grads.all (D : Grads) : ℕ → ℕ → EReal :=
  dproj D.qa D.ka D.va D.ga D.gb D.qc D.gc D.qb₁ D.qb₄ D.qb₁₆ D.kb₁ D.kb₄ D.kb₁₆ D.vb₁ D.vb₄ D.vb₁₆

section
variable (D : Grads) (n r l : ℕ) (hn : n < 16) (hr : r < 512) (hl : l < 128)
include hn hr hl

theorem part_0 : blk localT (baseT n) (D.block n) 0 r l = D.all (512 * n + r) (128 * 0 + l) := by
  unfold Grads.all dproj
  rw [dif_pos (by omega)]
  rw [unrope_eighth]
  exact congrArg (· * eighth) (turned_eq n r l hn hr hl _ D.qa 0 fun _ _ => rfl)

theorem part_1 : blk localT (baseT n) (D.block n) 1 r l = D.all (512 * n + r) (128 * 1 + l) := by
  unfold Grads.all dproj
  rw [dif_pos (by omega)]
  rw [unrope_eighth]
  exact congrArg (· * eighth) (turned_eq n r l hn hr hl _ D.qa 1 fun _ _ => rfl)

theorem part_2 : blk localT (baseT n) (D.block n) 2 r l = D.all (512 * n + r) (128 * 2 + l) := by
  unfold Grads.all dproj
  rw [dif_pos (by omega)]
  rw [unrope_eighth]
  exact congrArg (· * eighth) (turned_eq n r l hn hr hl _ D.qa 2 fun _ _ => rfl)

theorem part_3 : blk localT (baseT n) (D.block n) 3 r l = D.all (512 * n + r) (128 * 3 + l) := by
  unfold Grads.all dproj
  rw [dif_neg (by omega), dif_pos (by omega), show 128 * 3 + l - 384 = 128 * 0 + l by omega]
  exact turned_eq n r l hn hr hl _ D.ka 0 fun _ _ => rfl

theorem part_4 : blk localT (baseT n) (D.block n) 4 r l = D.all (512 * n + r) (128 * 4 + l) := by
  unfold Grads.all dproj
  rw [dif_neg (by omega), dif_neg (by omega), dif_pos (by omega), show 128 * 4 + l - 384 - 128 = 128 * 0 + l by omega]
  rfl

theorem part_5 : blk localT (baseT n) (D.block n) 5 r l = D.all (512 * n + r) (128 * 5 + l) := by
  unfold Grads.all dproj
  rw [dif_neg (by omega), dif_neg (by omega), dif_neg (by omega), dif_pos (by omega), show 128 * 5 + l - 384 - 128 - 128 = 128 * 0 + l by omega]
  rfl

theorem part_6 : blk localT (baseT n) (D.block n) 6 r l = D.all (512 * n + r) (128 * 6 + l) := by
  unfold Grads.all dproj
  rw [dif_neg (by omega), dif_neg (by omega), dif_neg (by omega), dif_pos (by omega), show 128 * 6 + l - 384 - 128 - 128 = 128 * 1 + l by omega]
  rfl

theorem part_7 : blk localT (baseT n) (D.block n) 7 r l = D.all (512 * n + r) (128 * 7 + l) := by
  unfold Grads.all dproj
  rw [dif_neg (by omega), dif_neg (by omega), dif_neg (by omega), dif_pos (by omega), show 128 * 7 + l - 384 - 128 - 128 = 128 * 2 + l by omega]
  rfl

theorem part_8 : blk localT (baseT n) (D.block n) 8 r l = D.all (512 * n + r) (128 * 8 + l) := by
  unfold Grads.all dproj
  rw [dif_neg (by omega), dif_neg (by omega), dif_neg (by omega), dif_neg (by omega), dif_pos (by omega), show 128 * 8 + l - 384 - 128 - 128 - 384 = 128 * 0 + l by omega]
  rw [merged_eighth, unrope_eighth]
  exact congrArg (· * eighth) (turned_eq n r l hn hr hl _ (merged D.qb₁ D.qb₄ D.qb₁₆) 0 fun l _ => merge_eq D.qb₁ D.qb₄ D.qb₁₆ n 0 r l)

theorem part_9 : blk localT (baseT n) (D.block n) 9 r l = D.all (512 * n + r) (128 * 9 + l) := by
  unfold Grads.all dproj
  rw [dif_neg (by omega), dif_neg (by omega), dif_neg (by omega), dif_neg (by omega), dif_pos (by omega), show 128 * 9 + l - 384 - 128 - 128 - 384 = 128 * 1 + l by omega]
  rw [merged_eighth, unrope_eighth]
  exact congrArg (· * eighth) (turned_eq n r l hn hr hl _ (merged D.qb₁ D.qb₄ D.qb₁₆) 1 fun l _ => merge_eq D.qb₁ D.qb₄ D.qb₁₆ n 1 r l)

theorem part_10 : blk localT (baseT n) (D.block n) 10 r l = D.all (512 * n + r) (128 * 10 + l) := by
  unfold Grads.all dproj
  rw [dif_neg (by omega), dif_neg (by omega), dif_neg (by omega), dif_neg (by omega), dif_pos (by omega), show 128 * 10 + l - 384 - 128 - 128 - 384 = 128 * 2 + l by omega]
  rw [merged_eighth, unrope_eighth]
  exact congrArg (· * eighth) (turned_eq n r l hn hr hl _ (merged D.qb₁ D.qb₄ D.qb₁₆) 2 fun l _ => merge_eq D.qb₁ D.qb₄ D.qb₁₆ n 2 r l)

theorem part_11 : blk localT (baseT n) (D.block n) 11 r l = D.all (512 * n + r) (128 * 11 + l) := by
  unfold Grads.all dproj
  rw [dif_neg (by omega), dif_neg (by omega), dif_neg (by omega), dif_neg (by omega), dif_neg (by omega), dif_pos (by omega), show 128 * 11 + l - 384 - 128 - 128 - 384 - 384 = 128 * 0 + l by omega]
  exact turned_eq n r l hn hr hl _ (merged D.kb₁ D.kb₄ D.kb₁₆) 0 fun l _ => merge_eq D.kb₁ D.kb₄ D.kb₁₆ n 0 r l

theorem part_12 : blk localT (baseT n) (D.block n) 12 r l = D.all (512 * n + r) (128 * 12 + l) := by
  unfold Grads.all dproj
  rw [dif_neg (by omega), dif_neg (by omega), dif_neg (by omega), dif_neg (by omega), dif_neg (by omega), dif_pos (by omega), show 128 * 12 + l - 384 - 128 - 128 - 384 - 384 = 128 * 1 + l by omega]
  exact turned_eq n r l hn hr hl _ (merged D.kb₁ D.kb₄ D.kb₁₆) 1 fun l _ => merge_eq D.kb₁ D.kb₄ D.kb₁₆ n 1 r l

theorem part_13 : blk localT (baseT n) (D.block n) 13 r l = D.all (512 * n + r) (128 * 13 + l) := by
  unfold Grads.all dproj
  rw [dif_neg (by omega), dif_neg (by omega), dif_neg (by omega), dif_neg (by omega), dif_neg (by omega), dif_pos (by omega), show 128 * 13 + l - 384 - 128 - 128 - 384 - 384 = 128 * 2 + l by omega]
  exact turned_eq n r l hn hr hl _ (merged D.kb₁ D.kb₄ D.kb₁₆) 2 fun l _ => merge_eq D.kb₁ D.kb₄ D.kb₁₆ n 2 r l

theorem part_14 : blk localT (baseT n) (D.block n) 14 r l = D.all (512 * n + r) (128 * 14 + l) := by
  unfold Grads.all dproj
  rw [dif_neg (by omega), dif_neg (by omega), dif_neg (by omega), dif_neg (by omega), dif_neg (by omega), dif_neg (by omega), dif_pos (by omega), show 128 * 14 + l - 384 - 128 - 128 - 384 - 384 - 384 = 128 * 0 + l by omega]
  exact merge_eq D.vb₁ D.vb₄ D.vb₁₆ n 0 r l

theorem part_15 : blk localT (baseT n) (D.block n) 15 r l = D.all (512 * n + r) (128 * 15 + l) := by
  unfold Grads.all dproj
  rw [dif_neg (by omega), dif_neg (by omega), dif_neg (by omega), dif_neg (by omega), dif_neg (by omega), dif_neg (by omega), dif_pos (by omega), show 128 * 15 + l - 384 - 128 - 128 - 384 - 384 - 384 = 128 * 1 + l by omega]
  exact merge_eq D.vb₁ D.vb₄ D.vb₁₆ n 1 r l

theorem part_16 : blk localT (baseT n) (D.block n) 16 r l = D.all (512 * n + r) (128 * 16 + l) := by
  unfold Grads.all dproj
  rw [dif_neg (by omega), dif_neg (by omega), dif_neg (by omega), dif_neg (by omega), dif_neg (by omega), dif_neg (by omega), dif_pos (by omega), show 128 * 16 + l - 384 - 128 - 128 - 384 - 384 - 384 = 128 * 2 + l by omega]
  exact merge_eq D.vb₁ D.vb₄ D.vb₁₆ n 2 r l

theorem part_17 : blk localT (baseT n) (D.block n) 17 r l = D.all (512 * n + r) (128 * 17 + l) := by
  unfold Grads.all dproj
  rw [dif_neg (by omega), dif_neg (by omega), dif_neg (by omega), dif_neg (by omega), dif_neg (by omega), dif_neg (by omega), dif_neg (by omega), dif_pos (by omega), show 128 * 17 + l - 384 - 128 - 128 - 384 - 384 - 384 - 384 = 128 * 0 + l by omega]
  rfl

theorem part_18 : blk localT (baseT n) (D.block n) 18 r l = D.all (512 * n + r) (128 * 18 + l) := by
  unfold Grads.all dproj
  rw [dif_neg (by omega), dif_neg (by omega), dif_neg (by omega), dif_neg (by omega), dif_neg (by omega), dif_neg (by omega), dif_neg (by omega), dif_pos (by omega), show 128 * 18 + l - 384 - 128 - 128 - 384 - 384 - 384 - 384 = 128 * 1 + l by omega]
  rfl

theorem part_19 : blk localT (baseT n) (D.block n) 19 r l = D.all (512 * n + r) (128 * 19 + l) := by
  unfold Grads.all dproj
  rw [dif_neg (by omega), dif_neg (by omega), dif_neg (by omega), dif_neg (by omega), dif_neg (by omega), dif_neg (by omega), dif_neg (by omega), dif_pos (by omega), show 128 * 19 + l - 384 - 128 - 128 - 384 - 384 - 384 - 384 = 128 * 2 + l by omega]
  rfl

theorem part_20 : blk localT (baseT n) (D.block n) 20 r l = D.all (512 * n + r) (128 * 20 + l) := by
  unfold Grads.all dproj
  rw [dif_neg (by omega), dif_neg (by omega), dif_neg (by omega), dif_neg (by omega), dif_neg (by omega), dif_neg (by omega), dif_neg (by omega), dif_neg (by omega), dif_pos (by omega), show 128 * 20 + l - 384 - 128 - 128 - 384 - 384 - 384 - 384 - 384 = 128 * 0 + l by omega]
  rfl

theorem part_21 : blk localT (baseT n) (D.block n) 21 r l = D.all (512 * n + r) (128 * 21 + l) := by
  unfold Grads.all dproj
  rw [dif_neg (by omega), dif_neg (by omega), dif_neg (by omega), dif_neg (by omega), dif_neg (by omega), dif_neg (by omega), dif_neg (by omega), dif_neg (by omega), dif_pos (by omega), show 128 * 21 + l - 384 - 128 - 128 - 384 - 384 - 384 - 384 - 384 = 128 * 1 + l by omega]
  rfl

theorem part_22 : blk localT (baseT n) (D.block n) 22 r l = D.all (512 * n + r) (128 * 22 + l) := by
  unfold Grads.all dproj
  rw [dif_neg (by omega), dif_neg (by omega), dif_neg (by omega), dif_neg (by omega), dif_neg (by omega), dif_neg (by omega), dif_neg (by omega), dif_neg (by omega), dif_neg (by omega), show 128 * 22 + l - 384 - 128 - 128 - 384 - 384 - 384 - 384 - 384 - 256 = 128 * 0 + l by omega]
  rfl

theorem part_23 : blk localT (baseT n) (D.block n) 23 r l = D.all (512 * n + r) (128 * 23 + l) := by
  unfold Grads.all dproj
  rw [dif_neg (by omega), dif_neg (by omega), dif_neg (by omega), dif_neg (by omega), dif_neg (by omega), dif_neg (by omega), dif_neg (by omega), dif_neg (by omega), dif_neg (by omega), show 128 * 23 + l - 384 - 128 - 128 - 384 - 384 - 384 - 384 - 384 - 256 = 128 * 1 + l by omega]
  rfl

end

/-- What block `n` stores is the reference's rows from `512 * n` on. -/
theorem stored_eq (D : Grads) (n r c : ℕ) (hn : n < 16) (hr : r < 512) (hc : c < 3072) : stored D n r c = D.all (512 * n + r) c := by
  obtain ⟨q, l, hl, rfl⟩ : ∃ q l, l < 128 ∧ c = 128 * q + l := ⟨c / 128, c % 128, Nat.mod_lt _ (by decide), (Nat.div_add_mod c 128).symm⟩
  unfold stored dblk
  rw [show (128 * q + l) / 128 = q by omega, show (128 * q + l) % 128 = l by omega]
  have hq : q = 0 ∨ q = 1 ∨ q = 2 ∨ q = 3 ∨ q = 4 ∨ q = 5 ∨ q = 6 ∨ q = 7 ∨ q = 8 ∨ q = 9 ∨ q = 10 ∨ q = 11 ∨ q = 12 ∨ q = 13 ∨ q = 14 ∨ q = 15 ∨ q = 16 ∨ q = 17 ∨ q = 18 ∨ q = 19 ∨ q = 20 ∨ q = 21 ∨ q = 22 ∨ q = 23 := by omega
  rcases hq with rfl | rfl | rfl | rfl | rfl | rfl | rfl | rfl | rfl | rfl | rfl | rfl | rfl | rfl | rfl | rfl | rfl | rfl | rfl | rfl | rfl | rfl | rfl | rfl
  · exact part_0 D n r l hn hr hl
  · exact part_1 D n r l hn hr hl
  · exact part_2 D n r l hn hr hl
  · exact part_3 D n r l hn hr hl
  · exact part_4 D n r l hn hr hl
  · exact part_5 D n r l hn hr hl
  · exact part_6 D n r l hn hr hl
  · exact part_7 D n r l hn hr hl
  · exact part_8 D n r l hn hr hl
  · exact part_9 D n r l hn hr hl
  · exact part_10 D n r l hn hr hl
  · exact part_11 D n r l hn hr hl
  · exact part_12 D n r l hn hr hl
  · exact part_13 D n r l hn hr hl
  · exact part_14 D n r l hn hr hl
  · exact part_15 D n r l hn hr hl
  · exact part_16 D n r l hn hr hl
  · exact part_17 D n r l hn hr hl
  · exact part_18 D n r l hn hr hl
  · exact part_19 D n r l hn hr hl
  · exact part_20 D n r l hn hr hl
  · exact part_21 D n r l hn hr hl
  · exact part_22 D n r l hn hr hl
  · exact part_23 D n r l hn hr hl

/-- The projection's gradient, block by block, is the reference's. -/
theorem rows_agree (D : Grads) : (mat 8192 3072 fun r l => stored D (r / 512) (r % 512) l) = mat 8192 3072 D.all := by
  funext y
  have y0 : (y 0).val < 8192 := (y 0).isLt
  refine (stored_eq D _ _ _ (by omega) (Nat.mod_lt _ (by decide)) (y 1).isLt).trans ?_
  exact congrArg (fun t => D.all t (y 1).val) (Nat.div_add_mod (y 0).val 512)

/-- The weights' gradient, block by block, is the reference's. -/
theorem weight_agree (U : ℕ → ℕ → EReal) (D : Grads) :
    cube 4 1024 768 (gradWeight U D 16) = cube 4 1024 768 fun j d e => ∑ t : Fin 8192, D.all t (j * 768 + e) * U t d := by
  funext y
  have y0 : (y 0).val < 4 := (y 0).isLt
  have y2 : (y 2).val < 768 := (y 2).isLt
  show gradWeight U D 16 (y 0).val (y 1).val (y 2).val = ∑ t : Fin 8192, D.all t ((y 0).val * 768 + (y 2).val) * U t (y 1).val
  generalize (y 0).val = j at y0 ⊢
  generalize (y 2).val = e at y2 ⊢
  generalize (y 1).val = d
  have h := sum_tiles (fun r => D.all r (j * 768 + e) * U r d) 0 16
  simp only [Nat.zero_add, Nat.mul_zero] at h
  rw [Fin.sum_univ_eq_sum_range (fun r => D.all r (j * 768 + e) * U r d), show (8192 : ℕ) = 512 * 16 from rfl, ← h]
  unfold gradWeight
  refine Finset.sum_congr rfl fun s hs => Finset.sum_congr rfl fun t _ => ?_
  rw [stored_eq D s t (768 * j + e) (Finset.mem_range.mp hs) t.isLt (by omega), mul_comm, Nat.mul_comm 768 j]

end Cert.Proj

end
-- ==== Proof.Proj.lean ====
/- The claims about the projection weights' gradient: what the reference's run keeps, and the agreement of the results. -/
module

public import proofs.«01_k».proof.Defs
public import proofs.«01_k».proof.Proof.Layer
public import proofs.«01_k».proof.Proof.ProjReference
public import proofs.«01_k».proof.Proof.ProjEquation
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent

@[expose] public section

noncomputable section

namespace Cert.Proj

open Cert.Layer Idealize.ShloMosaic Idealize.ShloMosaic.TcCoe

/-- The reference leaves its arguments and every counter as it found them. -/
theorem referenceFrame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
        ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
        ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
        ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
        ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
        ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
        ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
        ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
        ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
        ∧ r.2.sem = fun _ => 0) :=
  (θ_run _ _ _).mono (fun r h => ⟨fun c => (h c).2.2, sem_eq_zero_of_no_sems rfl _⟩) (Cert.Reference3Ideal.Value.run m g)

/-- The gradient of the projection that the reference computes. -/
theorem rows_of (x0 : (⟨2, ![8192, 1024]⟩ : Shape).Idx → EReal)
    (x1 : (⟨2, ![8192, 384]⟩ : Shape).Idx → EReal)
    (x2 : (⟨2, ![8192, 128]⟩ : Shape).Idx → EReal)
    (x3 : (⟨2, ![8192, 128]⟩ : Shape).Idx → EReal)
    (x4 : (⟨2, ![8192, 384]⟩ : Shape).Idx → EReal)
    (x5 : (⟨2, ![8192, 384]⟩ : Shape).Idx → EReal)
    (x6 : (⟨2, ![8192, 256]⟩ : Shape).Idx → EReal)
    (x7 : (⟨2, ![8192, 256]⟩ : Shape).Idx → EReal)
    (x8 : (⟨3, ![1, 8192, 384]⟩ : Shape).Idx → EReal)
    (x9 : (⟨3, ![4, 2048, 384]⟩ : Shape).Idx → EReal)
    (x10 : (⟨3, ![16, 512, 384]⟩ : Shape).Idx → EReal)
    (x11 : (⟨3, ![1, 8192, 384]⟩ : Shape).Idx → EReal)
    (x12 : (⟨3, ![4, 2048, 384]⟩ : Shape).Idx → EReal)
    (x13 : (⟨3, ![16, 512, 384]⟩ : Shape).Idx → EReal)
    (x14 : (⟨3, ![1, 8192, 384]⟩ : Shape).Idx → EReal)
    (x15 : (⟨3, ![4, 2048, 384]⟩ : Shape).Idx → EReal)
    (x16 : (⟨3, ![16, 512, 384]⟩ : Shape).Idx → EReal)
    (U QA KA VA GA GB QC GC : ℕ → ℕ → EReal) (QB₁ QB₄ QB₁₆ KB₁ KB₄ KB₁₆ VB₁ VB₄ VB₁₆ : ℕ → ℕ → ℕ → EReal) (h : x0 = mat 8192 1024 U ∧ x1 = mat 8192 384 QA ∧ x2 = mat 8192 128 KA ∧ x3 = mat 8192 128 VA ∧ x4 = mat 8192 384 GA ∧ x5 = mat 8192 384 GB ∧ x6 = mat 8192 256 QC ∧ x7 = mat 8192 256 GC ∧ x8 = cube 1 8192 384 QB₁ ∧ x9 = cube 4 2048 384 QB₄ ∧ x10 = cube 16 512 384 QB₁₆ ∧ x11 = cube 1 8192 384 KB₁ ∧ x12 = cube 4 2048 384 KB₄ ∧ x13 = cube 16 512 384 KB₁₆ ∧ x14 = cube 1 8192 384 VB₁ ∧ x15 = cube 4 2048 384 VB₄ ∧ x16 = cube 16 512 384 VB₁₆) :
    Cert.Reference3Ideal.Read.val_main_v263 (F := Ideal) x1 x2 x3 x4 x5 x6 x7 x8 x9 x10 x11 x12 x13 x14 x15 x16 = mat 8192 3072 (Grads.all ⟨QA, KA, VA, GA, GB, QC, GC, QB₁, QB₄, QB₁₆, KB₁, KB₄, KB₁₆, VB₁, VB₄, VB₁₆⟩) := by
  obtain ⟨rfl, rfl, rfl, rfl, rfl, rfl, rfl, rfl, rfl, rfl, rfl, rfl, rfl, rfl, rfl, rfl, rfl⟩ := h
  exact rows QA KA VA GA GB QC GC QB₁ QB₄ QB₁₆ KB₁ KB₄ KB₁₆ VB₁ VB₄ VB₁₆

/-- The gradient of the weights that the reference computes. -/
theorem weight_of (x0 : (⟨2, ![8192, 1024]⟩ : Shape).Idx → EReal)
    (x1 : (⟨2, ![8192, 384]⟩ : Shape).Idx → EReal)
    (x2 : (⟨2, ![8192, 128]⟩ : Shape).Idx → EReal)
    (x3 : (⟨2, ![8192, 128]⟩ : Shape).Idx → EReal)
    (x4 : (⟨2, ![8192, 384]⟩ : Shape).Idx → EReal)
    (x5 : (⟨2, ![8192, 384]⟩ : Shape).Idx → EReal)
    (x6 : (⟨2, ![8192, 256]⟩ : Shape).Idx → EReal)
    (x7 : (⟨2, ![8192, 256]⟩ : Shape).Idx → EReal)
    (x8 : (⟨3, ![1, 8192, 384]⟩ : Shape).Idx → EReal)
    (x9 : (⟨3, ![4, 2048, 384]⟩ : Shape).Idx → EReal)
    (x10 : (⟨3, ![16, 512, 384]⟩ : Shape).Idx → EReal)
    (x11 : (⟨3, ![1, 8192, 384]⟩ : Shape).Idx → EReal)
    (x12 : (⟨3, ![4, 2048, 384]⟩ : Shape).Idx → EReal)
    (x13 : (⟨3, ![16, 512, 384]⟩ : Shape).Idx → EReal)
    (x14 : (⟨3, ![1, 8192, 384]⟩ : Shape).Idx → EReal)
    (x15 : (⟨3, ![4, 2048, 384]⟩ : Shape).Idx → EReal)
    (x16 : (⟨3, ![16, 512, 384]⟩ : Shape).Idx → EReal)
    (U QA KA VA GA GB QC GC : ℕ → ℕ → EReal) (QB₁ QB₄ QB₁₆ KB₁ KB₄ KB₁₆ VB₁ VB₄ VB₁₆ : ℕ → ℕ → ℕ → EReal) (h : x0 = mat 8192 1024 U ∧ x1 = mat 8192 384 QA ∧ x2 = mat 8192 128 KA ∧ x3 = mat 8192 128 VA ∧ x4 = mat 8192 384 GA ∧ x5 = mat 8192 384 GB ∧ x6 = mat 8192 256 QC ∧ x7 = mat 8192 256 GC ∧ x8 = cube 1 8192 384 QB₁ ∧ x9 = cube 4 2048 384 QB₄ ∧ x10 = cube 16 512 384 QB₁₆ ∧ x11 = cube 1 8192 384 KB₁ ∧ x12 = cube 4 2048 384 KB₄ ∧ x13 = cube 16 512 384 KB₁₆ ∧ x14 = cube 1 8192 384 VB₁ ∧ x15 = cube 4 2048 384 VB₄ ∧ x16 = cube 16 512 384 VB₁₆) :
    Cert.Reference3Ideal.Read.val_main_v265 (F := Ideal) x0 x1 x2 x3 x4 x5 x6 x7 x8 x9 x10 x11 x12 x13 x14 x15 x16 = cube 4 1024 768 fun j d e => ∑ t : Fin 8192, Grads.all ⟨QA, KA, VA, GA, GB, QC, GC, QB₁, QB₄, QB₁₆, KB₁, KB₄, KB₁₆, VB₁, VB₄, VB₁₆⟩ t (j * 768 + e) * U t d := by
  obtain ⟨rfl, rfl, rfl, rfl, rfl, rfl, rfl, rfl, rfl, rfl, rfl, rfl, rfl, rfl, rfl, rfl, rfl⟩ := h
  exact weight U QA KA VA GA GB QC GC QB₁ QB₄ QB₁₆ KB₁ KB₄ KB₁₆ VB₁ VB₄ VB₁₆

section

variable (m : (ℓ : Loc Cert.Kernel3Ideal.nD Cert.Kernel3Ideal.τ Cert.Kernel3Ideal.sig) → Buf (Elt Ideal) ℓ) (c : Dev Cert.Kernel3Ideal.nD)

/-- The arguments are the values they hold. -/
theorem exists_values : ∃ (U QA KA VA GA GB QC GC : ℕ → ℕ → EReal) (QB₁ QB₄ QB₁₆ KB₁ KB₄ KB₁₆ VB₁ VB₄ VB₁₆ : ℕ → ℕ → ℕ → EReal),
    m ((c.tc : Thread Cert.Kernel3Ideal.nD Cert.Kernel3Ideal.τ).loc Cert.Kernel3Ideal.main_arg0) = mat 8192 1024 U
    ∧ m ((c.tc : Thread Cert.Kernel3Ideal.nD Cert.Kernel3Ideal.τ).loc Cert.Kernel3Ideal.main_arg1) = mat 8192 384 QA
    ∧ m ((c.tc : Thread Cert.Kernel3Ideal.nD Cert.Kernel3Ideal.τ).loc Cert.Kernel3Ideal.main_arg2) = mat 8192 128 KA
    ∧ m ((c.tc : Thread Cert.Kernel3Ideal.nD Cert.Kernel3Ideal.τ).loc Cert.Kernel3Ideal.main_arg3) = mat 8192 128 VA
    ∧ m ((c.tc : Thread Cert.Kernel3Ideal.nD Cert.Kernel3Ideal.τ).loc Cert.Kernel3Ideal.main_arg4) = mat 8192 384 GA
    ∧ m ((c.tc : Thread Cert.Kernel3Ideal.nD Cert.Kernel3Ideal.τ).loc Cert.Kernel3Ideal.main_arg5) = mat 8192 384 GB
    ∧ m ((c.tc : Thread Cert.Kernel3Ideal.nD Cert.Kernel3Ideal.τ).loc Cert.Kernel3Ideal.main_arg6) = mat 8192 256 QC
    ∧ m ((c.tc : Thread Cert.Kernel3Ideal.nD Cert.Kernel3Ideal.τ).loc Cert.Kernel3Ideal.main_arg7) = mat 8192 256 GC
    ∧ m ((c.tc : Thread Cert.Kernel3Ideal.nD Cert.Kernel3Ideal.τ).loc Cert.Kernel3Ideal.main_arg8) = cube 1 8192 384 QB₁
    ∧ m ((c.tc : Thread Cert.Kernel3Ideal.nD Cert.Kernel3Ideal.τ).loc Cert.Kernel3Ideal.main_arg9) = cube 4 2048 384 QB₄
    ∧ m ((c.tc : Thread Cert.Kernel3Ideal.nD Cert.Kernel3Ideal.τ).loc Cert.Kernel3Ideal.main_arg10) = cube 16 512 384 QB₁₆
    ∧ m ((c.tc : Thread Cert.Kernel3Ideal.nD Cert.Kernel3Ideal.τ).loc Cert.Kernel3Ideal.main_arg11) = cube 1 8192 384 KB₁
    ∧ m ((c.tc : Thread Cert.Kernel3Ideal.nD Cert.Kernel3Ideal.τ).loc Cert.Kernel3Ideal.main_arg12) = cube 4 2048 384 KB₄
    ∧ m ((c.tc : Thread Cert.Kernel3Ideal.nD Cert.Kernel3Ideal.τ).loc Cert.Kernel3Ideal.main_arg13) = cube 16 512 384 KB₁₆
    ∧ m ((c.tc : Thread Cert.Kernel3Ideal.nD Cert.Kernel3Ideal.τ).loc Cert.Kernel3Ideal.main_arg14) = cube 1 8192 384 VB₁
    ∧ m ((c.tc : Thread Cert.Kernel3Ideal.nD Cert.Kernel3Ideal.τ).loc Cert.Kernel3Ideal.main_arg15) = cube 4 2048 384 VB₄
    ∧ m ((c.tc : Thread Cert.Kernel3Ideal.nD Cert.Kernel3Ideal.τ).loc Cert.Kernel3Ideal.main_arg16) = cube 16 512 384 VB₁₆ :=
  have ⟨U, h0⟩ := exists_mat _
  have ⟨QA, h1⟩ := exists_mat _
  have ⟨KA, h2⟩ := exists_mat _
  have ⟨VA, h3⟩ := exists_mat _
  have ⟨GA, h4⟩ := exists_mat _
  have ⟨GB, h5⟩ := exists_mat _
  have ⟨QC, h6⟩ := exists_mat _
  have ⟨GC, h7⟩ := exists_mat _
  have ⟨QB₁, h8⟩ := exists_cube _
  have ⟨QB₄, h9⟩ := exists_cube _
  have ⟨QB₁₆, h10⟩ := exists_cube _
  have ⟨KB₁, h11⟩ := exists_cube _
  have ⟨KB₄, h12⟩ := exists_cube _
  have ⟨KB₁₆, h13⟩ := exists_cube _
  have ⟨VB₁, h14⟩ := exists_cube _
  have ⟨VB₄, h15⟩ := exists_cube _
  have ⟨VB₁₆, h16⟩ := exists_cube _
  ⟨U, QA, KA, VA, GA, GB, QC, GC, QB₁, QB₄, QB₁₆, KB₁, KB₄, KB₁₆, VB₁, VB₄, VB₁₆, h0, h1, h2, h3, h4, h5, h6, h7, h8, h9, h10, h11, h12, h13, h14, h15, h16⟩

/-- The two gradients the reference computes are those the kernel's arrays hold after its run. -/
theorem gradients_agree :
    Cert.Reference3Ideal.Read.val_main_v263 (F := Ideal) (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
        (m ((c.tc : Thread Cert.Kernel3Ideal.nD Cert.Kernel3Ideal.τ).loc Cert.Kernel3Ideal.main_arg4))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))
        (m ((c.tc : Thread Cert.Kernel3Ideal.nD Cert.Kernel3Ideal.τ).loc Cert.Kernel3Ideal.main_arg7))
        (m ((c.tc : Thread Cert.Kernel3Ideal.nD Cert.Kernel3Ideal.τ).loc Cert.Kernel3Ideal.main_arg8))
        (m ((c.tc : Thread Cert.Kernel3Ideal.nD Cert.Kernel3Ideal.τ).loc Cert.Kernel3Ideal.main_arg9))
        (m ((c.tc : Thread Cert.Kernel3Ideal.nD Cert.Kernel3Ideal.τ).loc Cert.Kernel3Ideal.main_arg10))
        (m ((c.tc : Thread Cert.Kernel3Ideal.nD Cert.Kernel3Ideal.τ).loc Cert.Kernel3Ideal.main_arg11))
        (m ((c.tc : Thread Cert.Kernel3Ideal.nD Cert.Kernel3Ideal.τ).loc Cert.Kernel3Ideal.main_arg12))
        (m ((c.tc : Thread Cert.Kernel3Ideal.nD Cert.Kernel3Ideal.τ).loc Cert.Kernel3Ideal.main_arg13))
        (m ((c.tc : Thread Cert.Kernel3Ideal.nD Cert.Kernel3Ideal.τ).loc Cert.Kernel3Ideal.main_arg14))
        (m ((c.tc : Thread Cert.Kernel3Ideal.nD Cert.Kernel3Ideal.τ).loc Cert.Kernel3Ideal.main_arg15))
        (m ((c.tc : Thread Cert.Kernel3Ideal.nD Cert.Kernel3Ideal.τ).loc Cert.Kernel3Ideal.main_arg16))
        = (Cert.Kernel3Ideal.Gen.dats m 0 c).arrAt 19 Cert.Kernel3Ideal.cfg0.N
      ∧ Cert.Reference3Ideal.Read.val_main_v265 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
        (m ((c.tc : Thread Cert.Kernel3Ideal.nD Cert.Kernel3Ideal.τ).loc Cert.Kernel3Ideal.main_arg4))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))
        (m ((c.tc : Thread Cert.Kernel3Ideal.nD Cert.Kernel3Ideal.τ).loc Cert.Kernel3Ideal.main_arg7))
        (m ((c.tc : Thread Cert.Kernel3Ideal.nD Cert.Kernel3Ideal.τ).loc Cert.Kernel3Ideal.main_arg8))
        (m ((c.tc : Thread Cert.Kernel3Ideal.nD Cert.Kernel3Ideal.τ).loc Cert.Kernel3Ideal.main_arg9))
        (m ((c.tc : Thread Cert.Kernel3Ideal.nD Cert.Kernel3Ideal.τ).loc Cert.Kernel3Ideal.main_arg10))
        (m ((c.tc : Thread Cert.Kernel3Ideal.nD Cert.Kernel3Ideal.τ).loc Cert.Kernel3Ideal.main_arg11))
        (m ((c.tc : Thread Cert.Kernel3Ideal.nD Cert.Kernel3Ideal.τ).loc Cert.Kernel3Ideal.main_arg12))
        (m ((c.tc : Thread Cert.Kernel3Ideal.nD Cert.Kernel3Ideal.τ).loc Cert.Kernel3Ideal.main_arg13))
        (m ((c.tc : Thread Cert.Kernel3Ideal.nD Cert.Kernel3Ideal.τ).loc Cert.Kernel3Ideal.main_arg14))
        (m ((c.tc : Thread Cert.Kernel3Ideal.nD Cert.Kernel3Ideal.τ).loc Cert.Kernel3Ideal.main_arg15))
        (m ((c.tc : Thread Cert.Kernel3Ideal.nD Cert.Kernel3Ideal.τ).loc Cert.Kernel3Ideal.main_arg16))
        = (Cert.Kernel3Ideal.Gen.dats m 0 c).arrAt 20 Cert.Kernel3Ideal.cfg0.N := by
  obtain ⟨U, QA, KA, VA, GA, GB, QC, GC, QB₁, QB₄, QB₁₆, KB₁, KB₄, KB₁₆, VB₁, VB₄, VB₁₆, h⟩ := exists_values m c
  have k := h
  obtain ⟨h0, h1, h2, h3, h4, h5, h6, h7, h8, h9, h10, h11, h12, h13, h14, h15, h16⟩ := h
  exact ⟨(rows_of _ _ _ _ _ _ _ _ _ _ _ _ _ _ _ _ _ U QA KA VA GA GB QC GC QB₁ QB₄ QB₁₆ KB₁ KB₄ KB₁₆ VB₁ VB₄ VB₁₆ k).trans ((rows_agree _).symm.trans (final_rows m c U ⟨QA, KA, VA, GA, GB, QC, GC, QB₁, QB₄, QB₁₆, KB₁, KB₄, KB₁₆, VB₁, VB₄, VB₁₆⟩ h0 h1 h2 h3 h4 h5 h6 h7 h8 h9 h10 h11 h12 h13 h14 h15 h16).symm),
    (weight_of _ _ _ _ _ _ _ _ _ _ _ _ _ _ _ _ _ U QA KA VA GA GB QC GC QB₁ QB₄ QB₁₆ KB₁ KB₄ KB₁₆ VB₁ VB₄ VB₁₆ k).trans ((weight_agree U _).symm.trans (final_weight m c U ⟨QA, KA, VA, GA, GB, QC, GC, QB₁, QB₄, QB₁₆, KB₁, KB₄, KB₁₆, VB₁, VB₄, VB₁₆⟩ h0 h1 h2 h3 h4 h5 h6 h7 h8 h9 h10 h11 h12 h13 h14 h15 h16).symm)⟩

end

set_option maxHeartbeats 4000000 in
/-- From equal arguments the kernel and the reference end with equal results. -/
theorem algebraic : @Cert.algebraic_Kernel3Ideal_Reference3Ideal Cert.Kernel3Ideal.Gen.facts Cert.Reference3Ideal.Gen.facts := by
  intro m g m' g' _ hargs
  refine ⟨fun c => (Cert.Kernel3Ideal.Gen.dats m 0 c).arrAt 19 Cert.Kernel3Ideal.cfg0.N, fun c => (Cert.Kernel3Ideal.Gen.dats m 0 c).arrAt 20 Cert.Kernel3Ideal.cfg0.N,
    Cert.Kernel3Ideal.Value.run_blocks m g, (θ_run _ _ _).mono (fun r h c => ?_) (Cert.Reference3Ideal.Value.run m' g')⟩
  obtain ⟨e0, e1, e2, e3, e4, e5, e6, e7, e8, e9, e10, e11, e12, e13, e14, e15, e16⟩ := hargs c
  obtain ⟨r0, r1, rest⟩ := h c
  obtain ⟨k0, k1⟩ := gradients_agree m c
  rw [← e1, ← e2, ← e3, ← e4, ← e5, ← e6, ← e7, ← e8, ← e9, ← e10, ← e11, ← e12, ← e13, ← e14, ← e15, ← e16] at k0
  rw [← e0, ← e1, ← e2, ← e3, ← e4, ← e5, ← e6, ← e7, ← e8, ← e9, ← e10, ← e11, ← e12, ← e13, ← e14, ← e15, ← e16] at k1
  exact ⟨(r0.trans (Cert.Reference3Ideal.Read.val_main_v263_eq _)).trans k0, (r1.trans (Cert.Reference3Ideal.Read.val_main_v265_eq _)).trans k1, rest⟩

end Cert.Proj

end
-- ==== Proof.PreReference.lean ====
/- What the reference computes of the projection's parts, element by element. -/
module

public import proofs.«01_k».proof.Proof.ProjReference
public import proofs.«01_k».proof.Proof.Gen.Reference4Ideal.Read

@[expose] public section

noncomputable section

namespace Cert.PreProj

open Cert.Layer Cert.Proj Cert.Reference4Ideal Cert.Reference4Ideal.Gen Cert.Reference4Ideal.Read Idealize.ShloMosaic Idealize.ShloMosaic.TcCoe

/-- The joint projection: lane `c` lies in shard `c / 768` of the weights. -/
def joint (U : ℕ → ℕ → EReal) (W : ℕ → ℕ → ℕ → EReal) (t c : ℕ) : EReal := ∑ d : Fin 1024, U t d * W (c / 768) d (c % 768)

/-- The part of the projection that begins at lane `o`. -/
abbrev from' (o : ℕ) (X : ℕ → ℕ → EReal) : ℕ → ℕ → EReal := fun t c => X t (o + c)

/-- The rotary embedding of `X`: lane `c` is element `c % 64` of its head. -/
def rope (X : ℕ → ℕ → EReal) (t c : ℕ) : EReal :=
  if c % 64 < 8 then X t c * cosT t (c % 64) - X t (c + 8) * sinT t (c % 64)
  else if c % 64 < 16 then X t c * cosT t (c % 64 - 8) + X t (c - 8) * sinT t (c % 64 - 8)
  else X t c

/-- The same, scaled. -/
def ropeScaled (X : ℕ → ℕ → EReal) (t c : ℕ) : EReal := rope X t c * eighth

/-- The rows of every residue class of `d`, in order. -/
def classes (d : ℕ) (X : ℕ → ℕ → EReal) : ℕ → ℕ → ℕ → EReal := fun r a c => X (a * d + r) c

/-- The three parts of a head side by side. -/
theorem rope_parts (X : ℕ → ℕ → EReal) (t h d : ℕ) (hd : d < 64) :
    (if _h : d < 8 then X t (h * 64 + d) * cosT t d - X t (h * 64 + (8 + d)) * sinT t d
      else if _h : d - 8 < 8 then X t (h * 64 + (8 + (d - 8))) * cosT t (d - 8) + X t (h * 64 + (d - 8)) * sinT t (d - 8)
      else X t (h * 64 + (16 + (d - 8 - 8)))) = rope X t (h * 64 + d) := by
  have e : (h * 64 + d) % 64 = d := by omega
  unfold rope
  rw [e]
  rcases Nat.lt_or_ge d 8 with h8 | h8
  · rw [dif_pos h8, if_pos h8, show h * 64 + (8 + d) = h * 64 + d + 8 by omega]
  · rcases Nat.lt_or_ge d 16 with h16 | h16
    · rw [dif_neg (by omega), dif_pos (by omega), if_neg (by omega), if_pos h16,
        show h * 64 + (8 + (d - 8)) = h * 64 + d by omega, show h * 64 + (d - 8) = h * 64 + d - 8 by omega]
    · rw [dif_neg (by omega), dif_neg (by omega), if_neg (by omega), if_neg (by omega),
        show h * 64 + (16 + (d - 8 - 8)) = h * 64 + d by omega]

theorem freqs : val_main_v14 (F := Ideal) = fun y => freq (y 0).val := by
  funext y
  pointwise [val_main_v14, val_main_v13, val_main_v12, val_main_v11, val_main_v10, val_main_v9, val_main_v8, val_main_v7, val_main_v6, val_main_v5, val_main_cst, val_main_cst_0, val_main_cst_1, val_main_cst_2]
  rfl

theorem angles : val_main_v20 (F := Ideal) = mat 8192 8 fun t j => num t * freq j := by
  funext y
  unfold val_main_v20 val_main_v19 val_main_v17
  rw [freqs]
  pointwise [val_main_v18, val_main_v16, val_main_v15]
  rfl

theorem cosines : val_main_v22 (F := Ideal) = cube 8192 1 8 fun t _ j => cosT t j := by
  funext y
  unfold val_main_v22 val_main_v21
  rw [angles]
  pointwise
  rfl

theorem sines : val_main_v24 (F := Ideal) = cube 8192 1 8 fun t _ j => sinT t j := by
  funext y
  unfold val_main_v24 val_main_v23
  rw [angles]
  pointwise
  rfl

section
variable (U : ℕ → ℕ → EReal) (W : ℕ → ℕ → ℕ → EReal)

theorem product : val_main_v4 (F := Ideal) (mat 8192 1024 U) (cube 4 1024 768 W) = mat 8192 3072 (joint U W) := by
  funext y
  pointwise [val_main_v4, val_main_v3, val_main_v2, val_main_v1, val_main_v0]
  rfl

theorem part_qa : val_main_v25 (F := Ideal) (mat 8192 1024 U) (cube 4 1024 768 W) = mat 8192 384 (from' 0 (joint U W)) := by
  funext y
  unfold val_main_v25
  rw [product]
  pointwise
  exact congrArg (joint U W (y 0).val) (Nat.zero_add _).symm

theorem part_ka : val_main_v26 (F := Ideal) (mat 8192 1024 U) (cube 4 1024 768 W) = mat 8192 128 (from' 384 (joint U W)) := by
  funext y
  unfold val_main_v26
  rw [product]
  pointwise
  rfl

theorem part_va : val_main_v27 (F := Ideal) (mat 8192 1024 U) (cube 4 1024 768 W) = mat 8192 128 (from' 512 (joint U W)) := by
  funext y
  unfold val_main_v27
  rw [product]
  pointwise
  rfl

theorem part_ga : val_main_v28 (F := Ideal) (mat 8192 1024 U) (cube 4 1024 768 W) = mat 8192 384 (from' 640 (joint U W)) := by
  funext y
  unfold val_main_v28
  rw [product]
  pointwise
  rfl

theorem part_qb : val_main_v29 (F := Ideal) (mat 8192 1024 U) (cube 4 1024 768 W) = mat 8192 384 (from' 1024 (joint U W)) := by
  funext y
  unfold val_main_v29
  rw [product]
  pointwise
  rfl

theorem part_kb : val_main_v30 (F := Ideal) (mat 8192 1024 U) (cube 4 1024 768 W) = mat 8192 384 (from' 1408 (joint U W)) := by
  funext y
  unfold val_main_v30
  rw [product]
  pointwise
  rfl

theorem part_vb : val_main_v31 (F := Ideal) (mat 8192 1024 U) (cube 4 1024 768 W) = mat 8192 384 (from' 1792 (joint U W)) := by
  funext y
  unfold val_main_v31
  rw [product]
  pointwise
  rfl

theorem part_gb : val_main_v32 (F := Ideal) (mat 8192 1024 U) (cube 4 1024 768 W) = mat 8192 384 (from' 2176 (joint U W)) := by
  funext y
  unfold val_main_v32
  rw [product]
  pointwise
  rfl

theorem part_qc : val_main_v33 (F := Ideal) (mat 8192 1024 U) (cube 4 1024 768 W) = mat 8192 256 (from' 2560 (joint U W)) := by
  funext y
  unfold val_main_v33
  rw [product]
  pointwise
  rfl

theorem part_gc : val_main_v34 (F := Ideal) (mat 8192 1024 U) (cube 4 1024 768 W) = mat 8192 256 (from' 2816 (joint U W)) := by
  funext y
  unfold val_main_v34
  rw [product]
  pointwise
  rfl

theorem heads_qb : val_main_v49 (F := Ideal) (mat 8192 1024 U) (cube 4 1024 768 W) = cube 8192 6 64 fun t h d => rope (from' 1024 (joint U W)) t (h * 64 + d) := by
  funext y
  unfold val_main_v49 val_main_v48 val_main_v47 val_main_v46 val_main_v45 val_main_v44 val_main_v43 val_main_v42 val_main_v41 val_main_v40 val_main_v39 val_main_v38 val_main_v37 val_main_v36 val_main_v35
  rw [cosines, sines, part_qb]
  pointwise
  exact rope_parts (from' 1024 (joint U W)) (y 0).val (y 1).val (y 2).val (y 2).isLt

theorem roped_qb : val_main_v50 (F := Ideal) (mat 8192 1024 U) (cube 4 1024 768 W) = mat 8192 384 (rope (from' 1024 (joint U W))) := by
  funext y
  unfold val_main_v50
  rw [heads_qb]
  pointwise
  exact congrArg (rope (from' 1024 (joint U W)) (y 0).val) (Nat.div_add_mod' (y 1).val 64)

theorem heads_kb : val_main_v65 (F := Ideal) (mat 8192 1024 U) (cube 4 1024 768 W) = cube 8192 6 64 fun t h d => rope (from' 1408 (joint U W)) t (h * 64 + d) := by
  funext y
  unfold val_main_v65 val_main_v64 val_main_v63 val_main_v62 val_main_v61 val_main_v60 val_main_v59 val_main_v58 val_main_v57 val_main_v56 val_main_v55 val_main_v54 val_main_v53 val_main_v52 val_main_v51
  rw [cosines, sines, part_kb]
  pointwise
  exact rope_parts (from' 1408 (joint U W)) (y 0).val (y 1).val (y 2).val (y 2).isLt

theorem roped_kb : val_main_v66 (F := Ideal) (mat 8192 1024 U) (cube 4 1024 768 W) = mat 8192 384 (rope (from' 1408 (joint U W))) := by
  funext y
  unfold val_main_v66
  rw [heads_kb]
  pointwise
  exact congrArg (rope (from' 1408 (joint U W)) (y 0).val) (Nat.div_add_mod' (y 1).val 64)

theorem heads_qa : val_main_v81 (F := Ideal) (mat 8192 1024 U) (cube 4 1024 768 W) = cube 8192 6 64 fun t h d => rope (from' 0 (joint U W)) t (h * 64 + d) := by
  funext y
  unfold val_main_v81 val_main_v80 val_main_v79 val_main_v78 val_main_v77 val_main_v76 val_main_v75 val_main_v74 val_main_v73 val_main_v72 val_main_v71 val_main_v70 val_main_v69 val_main_v68 val_main_v67
  rw [cosines, sines, part_qa]
  pointwise
  exact rope_parts (from' 0 (joint U W)) (y 0).val (y 1).val (y 2).val (y 2).isLt

theorem roped_qa : val_main_v82 (F := Ideal) (mat 8192 1024 U) (cube 4 1024 768 W) = mat 8192 384 (rope (from' 0 (joint U W))) := by
  funext y
  unfold val_main_v82
  rw [heads_qa]
  pointwise
  exact congrArg (rope (from' 0 (joint U W)) (y 0).val) (Nat.div_add_mod' (y 1).val 64)

theorem heads_ka : val_main_v99 (F := Ideal) (mat 8192 1024 U) (cube 4 1024 768 W) = cube 8192 2 64 fun t h d => rope (from' 384 (joint U W)) t (h * 64 + d) := by
  funext y
  unfold val_main_v99 val_main_v98 val_main_v97 val_main_v96 val_main_v95 val_main_v94 val_main_v93 val_main_v92 val_main_v91 val_main_v90 val_main_v89 val_main_v88 val_main_v87 val_main_v86 val_main_v85
  rw [cosines, sines, part_ka]
  pointwise
  exact rope_parts (from' 384 (joint U W)) (y 0).val (y 1).val (y 2).val (y 2).isLt

theorem roped_ka : val_main_v100 (F := Ideal) (mat 8192 1024 U) (cube 4 1024 768 W) = mat 8192 128 (rope (from' 384 (joint U W))) := by
  funext y
  unfold val_main_v100
  rw [heads_ka]
  pointwise
  exact congrArg (rope (from' 384 (joint U W)) (y 0).val) (Nat.div_add_mod' (y 1).val 64)

theorem ref_qa : val_main_v127 (F := Ideal) (mat 8192 1024 U) (cube 4 1024 768 W) = mat 8192 384 (ropeScaled (from' 0 (joint U W))) := by
  funext y
  unfold val_main_v127 val_main_v84
  rw [roped_qa]
  pointwise [val_main_v83, val_main_cst_3]
  rfl

theorem ref_ka : val_main_v128 (F := Ideal) (mat 8192 1024 U) (cube 4 1024 768 W) = mat 8192 128 (rope (from' 384 (joint U W))) := by
  funext y
  unfold val_main_v128
  rw [roped_ka]
  pointwise

theorem ref_va : val_main_v129 (F := Ideal) (mat 8192 1024 U) (cube 4 1024 768 W) = mat 8192 128 (from' 512 (joint U W)) := by
  funext y
  unfold val_main_v129
  rw [part_va]
  pointwise

theorem ref_ga : val_main_v130 (F := Ideal) (mat 8192 1024 U) (cube 4 1024 768 W) = mat 8192 384 (from' 640 (joint U W)) := by
  funext y
  unfold val_main_v130
  rw [part_ga]
  pointwise

theorem ref_gb : val_main_v131 (F := Ideal) (mat 8192 1024 U) (cube 4 1024 768 W) = mat 8192 384 (from' 2176 (joint U W)) := by
  funext y
  unfold val_main_v131
  rw [part_gb]
  pointwise

theorem ref_qc : val_main_v132 (F := Ideal) (mat 8192 1024 U) (cube 4 1024 768 W) = mat 8192 256 fun t c => (from' 2560 (joint U W)) t c * eighth := by
  funext y
  unfold val_main_v132 val_main_v102
  rw [part_qc]
  pointwise [val_main_v101, val_main_cst_4]
  rfl

theorem ref_gc : val_main_v133 (F := Ideal) (mat 8192 1024 U) (cube 4 1024 768 W) = mat 8192 256 (from' 2816 (joint U W)) := by
  funext y
  unfold val_main_v133
  rw [part_gc]
  pointwise

theorem ref_qb_1 : val_main_v134 (F := Ideal) (mat 8192 1024 U) (cube 4 1024 768 W) = cube 1 8192 384 (classes 1 (ropeScaled (from' 1024 (joint U W)))) := by
  funext y
  unfold val_main_v134 val_main_v106 val_main_v105 val_main_v104
  rw [roped_qb]
  pointwise [val_main_v103, val_main_cst_5]
  have h0 : (y 0).val = 0 := by have := (y 0).isLt; change (y 0).val < 1 at this; omega
  show ropeScaled (from' 1024 (joint U W)) (y 1).val (y 2).val = ropeScaled (from' 1024 (joint U W)) ((y 1).val * 1 + (y 0).val) (y 2).val
  rw [h0, Nat.mul_one, Nat.add_zero]

theorem ref_qb_4 : val_main_v135 (F := Ideal) (mat 8192 1024 U) (cube 4 1024 768 W) = cube 4 2048 384 (classes 4 (ropeScaled (from' 1024 (joint U W)))) := by
  funext y
  unfold val_main_v135 val_main_v110 val_main_v109 val_main_v108
  rw [roped_qb]
  pointwise [val_main_v107, val_main_cst_6]
  rfl

theorem ref_qb_16 : val_main_v136 (F := Ideal) (mat 8192 1024 U) (cube 4 1024 768 W) = cube 16 512 384 (classes 16 (ropeScaled (from' 1024 (joint U W)))) := by
  funext y
  unfold val_main_v136 val_main_v114 val_main_v113 val_main_v112
  rw [roped_qb]
  pointwise [val_main_v111, val_main_cst_7]
  rfl

theorem ref_kb_1 : val_main_v137 (F := Ideal) (mat 8192 1024 U) (cube 4 1024 768 W) = cube 1 8192 384 (classes 1 (rope (from' 1408 (joint U W)))) := by
  funext y
  unfold val_main_v137 val_main_v116 val_main_v115
  rw [roped_kb]
  pointwise
  have h0 : (y 0).val = 0 := by have := (y 0).isLt; change (y 0).val < 1 at this; omega
  show rope (from' 1408 (joint U W)) (y 1).val (y 2).val = rope (from' 1408 (joint U W)) ((y 1).val * 1 + (y 0).val) (y 2).val
  rw [h0, Nat.mul_one, Nat.add_zero]

theorem ref_kb_4 : val_main_v138 (F := Ideal) (mat 8192 1024 U) (cube 4 1024 768 W) = cube 4 2048 384 (classes 4 (rope (from' 1408 (joint U W)))) := by
  funext y
  unfold val_main_v138 val_main_v118 val_main_v117
  rw [roped_kb]
  pointwise
  rfl

theorem ref_kb_16 : val_main_v139 (F := Ideal) (mat 8192 1024 U) (cube 4 1024 768 W) = cube 16 512 384 (classes 16 (rope (from' 1408 (joint U W)))) := by
  funext y
  unfold val_main_v139 val_main_v120 val_main_v119
  rw [roped_kb]
  pointwise
  rfl

theorem ref_vb_1 : val_main_v140 (F := Ideal) (mat 8192 1024 U) (cube 4 1024 768 W) = cube 1 8192 384 (classes 1 (from' 1792 (joint U W))) := by
  funext y
  unfold val_main_v140 val_main_v122 val_main_v121
  rw [part_vb]
  pointwise
  have h0 : (y 0).val = 0 := by have := (y 0).isLt; change (y 0).val < 1 at this; omega
  show from' 1792 (joint U W) (y 1).val (y 2).val = from' 1792 (joint U W) ((y 1).val * 1 + (y 0).val) (y 2).val
  rw [h0, Nat.mul_one, Nat.add_zero]

theorem ref_vb_4 : val_main_v141 (F := Ideal) (mat 8192 1024 U) (cube 4 1024 768 W) = cube 4 2048 384 (classes 4 (from' 1792 (joint U W))) := by
  funext y
  unfold val_main_v141 val_main_v124 val_main_v123
  rw [part_vb]
  pointwise
  rfl

theorem ref_vb_16 : val_main_v142 (F := Ideal) (mat 8192 1024 U) (cube 4 1024 768 W) = cube 16 512 384 (classes 16 (from' 1792 (joint U W))) := by
  funext y
  unfold val_main_v142 val_main_v126 val_main_v125
  rw [part_vb]
  pointwise
  rfl

end

end Cert.PreProj

end
-- ==== Proof.PreBlock.lean ====
module

public import proofs.«01_k».proof.Proof.ProjBlock
public import proofs.«01_k».proof.Proof.PreReference
public import proofs.«01_k».proof.Proof.Gen.Kernel4Ideal.Skeleton

/-! # The joint projection: the operations of a block of rows -/

@[expose] public section

noncomputable section

namespace Cert.PreProj

open Cert.Layer Cert.Kernel4Ideal Cert.Kernel4Ideal.Gen Idealize.ShloMosaic
open Cert.Proj (turn eighth' addf_mat mulf_mat truncf_mat broadcast_mat lanes_up lanes_down)

/-! ## Element by element -/

theorem add_512 (f : ℕ → ℕ → EReal) (h : S512x128.ShapeCasts S1x512x128) :
    shapeCast S1x512x128 (mat 512 128 f) h = cube 1 512 128 fun _ => f := by
  funext y; pointwise; rfl
theorem add_128 (f : ℕ → ℕ → EReal) (h : S128x128.ShapeCasts S1x128x128) :
    shapeCast S1x128x128 (mat 128 128 f) h = cube 1 128 128 fun _ => f := by
  funext y; pointwise; rfl
theorem add_32 (f : ℕ → ℕ → EReal) (h : S32x128.ShapeCasts S1x32x128) :
    shapeCast S1x32x128 (mat 32 128 f) h = cube 1 32 128 fun _ => f := by
  funext y; pointwise; rfl

theorem slice_lanes (P : ℕ → ℕ → EReal) (o : ℕ) (h : S512x768.Slices ![0, o] S512x128) :
    extractStridedSlice S512x128 ![0, o] (mat 512 768 P) h = mat 512 128 fun r l => P r (o + l) := by
  funext y
  refine (extractStridedSlice_apply ![0, o] (mat 512 768 P) h y (ValueIdx.ix2 (y 0 : Fin 512) (⟨o + (y 1).val, by
    have h1 := h.2 1; have y1 : (y 1).val < 128 := (y 1).isLt; change o + 128 ≤ 768 at h1; omega⟩ : Fin 768)) ?_).trans rfl
  intro a
  match a with
  | ⟨0, _⟩ => exact (Nat.zero_add _).symm
  | ⟨1, _⟩ => rfl

theorem rotate_120 (f : ℕ → ℕ → EReal) :
    dynamicRotate 1 120#32 none (mat 512 128 f) rotates_S512x128_d1 = mat 512 128 fun r l => f r ((l + 8) % 128) := by
  funext y; pointwise; simp [mat]
theorem rotate_8 (f : ℕ → ℕ → EReal) :
    dynamicRotate 1 8#32 none (mat 512 128 f) rotates_S512x128_d1 = mat 512 128 fun r l => f r ((l + 120) % 128) := by
  funext y; pointwise; simp [mat]

/-- The cosine and the sine of the sum of two angles, from the tables of both. -/
theorem pay_cos (P Q : ℕ → ℕ → EReal) (p q : ℕ → ℕ → EReal) :
    k0_pay8 (F := Ideal) (mat 512 128 P) (mat 512 128 Q) (mat 1 128 p) (mat 1 128 q) = mat 512 128 fun r l => p 0 l * P r l - q 0 l * Q r l := by
  funext y
  pointwise [k0_pay8, k0_pay4, k0_pay5, k0_pay6, k0_pay7]
  rfl
theorem pay_sin (P Q : ℕ → ℕ → EReal) (p q : ℕ → ℕ → EReal) :
    k0_pay9 (F := Ideal) (mat 512 128 P) (mat 512 128 Q) (mat 1 128 p) (mat 1 128 q) = mat 512 128 fun r l => q 0 l * P r l + p 0 l * Q r l := by
  funext y
  pointwise [k0_pay9, k0_pay4, k0_pay5, k0_pay6, k0_pay7]
  rfl
theorem pay_neg (P Q : ℕ → ℕ → EReal) (p q : ℕ → ℕ → EReal) :
    k0_pay12 (F := Ideal) (mat 512 128 P) (mat 512 128 Q) (mat 1 128 p) (mat 1 128 q) = mat 512 128 fun r l => -(q 0 l * P r l + p 0 l * Q r l) := by
  unfold k0_pay12
  rw [pay_sin]
  funext y
  pointwise
  exact (sub_eq_add_neg _ _).trans (zero_add _)

theorem pay_up (S : ℕ → ℕ → EReal) :
    k0_pay13 (F := Ideal) k0_pay11 (mat 512 128 S) (FloatOps.ofBits .f32 0#32)
      = mat 512 128 fun r l => if l % 64 < 8 then S r l else 0 := by
  funext y
  pointwise [k0_pay13, k0_pay11, k0_pay10]
  refine (congrArg (fun b => Scalar.select b (mat 512 128 S y) 0) (lanes_up (y 1))).trans ?_
  show _ = if (y 1).val % 64 < 8 then S (y 0).val (y 1).val else 0
  split
  · rw [ValueIdx.select_one]; rfl
  · rw [ValueIdx.select_zero]

theorem pay_down (S : ℕ → ℕ → EReal) :
    k0_pay14 (F := Ideal) (mat 512 128 S) k0_pay10
      = mat 512 128 fun r l => if 8 ≤ l % 64 ∧ l % 64 < 16 then S r l else 0 := by
  funext y
  pointwise [k0_pay14, k0_pay10]
  refine (congrArg (fun b => Scalar.select b (mat 512 128 S y) 0) (lanes_down (y 1))).trans ?_
  show _ = if 8 ≤ (y 1).val % 64 ∧ (y 1).val % 64 < 16 then S (y 0).val (y 1).val else 0
  split
  · rw [ValueIdx.select_one]; rfl
  · rw [ValueIdx.select_zero]

/-! ## The products and their pieces -/

/-- A block of rows times one shard of the weights. -/
def shard (U : ℕ → ℕ → EReal) (W : ℕ → ℕ → ℕ → EReal) (j r e : ℕ) : EReal := ∑ d : Fin 1024, U r d * W j d e

section
variable (U : ℕ → ℕ → EReal) (W : ℕ → ℕ → ℕ → EReal) (j : ℕ)

theorem pay_15 : k0_pay15 (F := Ideal) (mat 512 1024 U) (cube 1 1024 768 fun i => W (j + i)) = mat 512 768 (shard U W j) := by
  funext y
  pointwise [k0_pay15]
  rfl
theorem pay_23 : k0_pay23 (F := Ideal) (mat 512 1024 U) (cube 1 1024 768 fun i => W (j + i)) = mat 512 768 (shard U W j) := pay_15 U W j
theorem pay_31 : k0_pay31 (F := Ideal) (mat 512 1024 U) (cube 1 1024 768 fun i => W (j + i)) = mat 512 768 (shard U W j) := pay_15 U W j
theorem pay_38 : k0_pay38 (F := Ideal) (mat 512 1024 U) (cube 1 1024 768 fun i => W (j + i)) = mat 512 768 (shard U W j) := pay_15 U W j

end

/-! ## Stores -/

/-- A block of 128 lanes, stored: lanes are stored in order, and read off the stores, newest first. -/
theorem lanes_step (m q : ℕ) (G : ℕ → ℕ → EReal) {o : ℕ} {inb} {w : S512x128.Idx → EReal} {L : List (View.Piece (Elt Ideal) (⟨2, ![512, m]⟩ : Shape) .bf16)}
    (y : (⟨2, ![512, m]⟩ : Shape).Idx) (hw : w = mat 512 128 fun r l => G r (128 * q + l))
    (hL : (y 1).val / 128 < q → View.canon L y = mat 512 m G y)
    (hy : (y 1).val / 128 < q + 1) (ho : o = 128 * q := by decide) :
    View.canon ((⟨Rect.unit (s := (⟨2, ![512, m]⟩ : Shape)) ![0, o] S512x128.size inb, w⟩ : View.Piece (Elt Ideal) (⟨2, ![512, m]⟩ : Shape) .bf16) :: L) y
      = mat 512 m G y := by
  subst ho
  by_cases hm : (y 1).val / 128 < q
  · refine (View.canon_cons_of_not_mem (Val := Elt Ideal) _ L fun hmem => ?_).trans (hL hm)
    obtain ⟨j1, hj1, e1⟩ := (LoadRect.mem_set _).1 hmem 1
    change j1 < 128 at hj1
    change (y 1).val = 128 * q + 1 * j1 at e1
    omega
  · have hl : (y 1).val % 128 < 128 := Nat.mod_lt _ (by omega)
    have e : y = (Rect.unit (s := (⟨2, ![512, m]⟩ : Shape)) ![0, 128 * q] S512x128.size inb).emb (ValueIdx.ix2 (y 0 : Fin 512) (⟨(y 1).val % 128, hl⟩ : Fin 128)) := by
      funext a
      apply Fin.ext
      match a with
      | ⟨0, _⟩ => show (y 0).val = 0 + 1 * (y 0).val; omega
      | ⟨1, _⟩ => show (y 1).val = 128 * q + 1 * ((y 1).val % 128); omega
    have hc := View.canon_cons_emb (Val := Elt Ideal) (Rect.unit (s := (⟨2, ![512, m]⟩ : Shape)) ![0, 128 * q] S512x128.size inb) w L
      (ValueIdx.ix2 (y 0 : Fin 512) (⟨(y 1).val % 128, hl⟩ : Fin 128))
    rw [← e] at hc
    refine hc.trans ?_
    rw [hw]
    show G (y 0).val (128 * q + (y 1).val % 128) = G (y 0).val (y 1).val
    rw [show 128 * q + (y 1).val % 128 = (y 1).val by omega]

/-- A residue class's block of 128 lanes, stored: its place `3 * (the class) + (the block)` falls by one from store to store. -/
theorem class_step (d N p i : ℕ) (X : ℕ → ℕ → EReal) {n o : ℕ} {inb} {w : (⟨3, ![1, N, 128]⟩ : Shape).Idx → EReal}
    {L : List (View.Piece (Elt Ideal) (⟨3, ![d, N, 384]⟩ : Shape) .bf16)} (y : (⟨3, ![d, N, 384]⟩ : Shape).Idx)
    (hw : w = cube 1 N 128 fun _ a l => X (a * d + i) (128 * p + l))
    (hL : 3 * (y 0).val + (y 2).val / 128 < n → View.canon L y = cube d N 384 (classes d X) y)
    (hy : 3 * (y 0).val + (y 2).val / 128 < n + 1)
    (hp : p < 3 := by decide) (hn : n = 3 * i + p := by decide) (ho : o = 128 * p := by decide) :
    View.canon ((⟨Rect.unit (s := (⟨3, ![d, N, 384]⟩ : Shape)) ![i, 0, o] ![1, N, 128] inb, w⟩ : View.Piece (Elt Ideal) (⟨3, ![d, N, 384]⟩ : Shape) .bf16) :: L) y
      = cube d N 384 (classes d X) y := by
  subst ho
  have y2 : (y 2).val < 384 := (y 2).isLt
  by_cases hm : 3 * (y 0).val + (y 2).val / 128 < n
  · refine (View.canon_cons_of_not_mem (Val := Elt Ideal) _ L fun hmem => ?_).trans (hL hm)
    replace hmem := (LoadRect.mem_set _).1 hmem
    obtain ⟨j0, hj0, e0⟩ := hmem 0
    obtain ⟨j2, hj2, e2⟩ := hmem 2
    change j0 < 1 at hj0
    change j2 < 128 at hj2
    change (y 0).val = i + 1 * j0 at e0
    change (y 2).val = 128 * p + 1 * j2 at e2
    omega
  · have hl : (y 2).val % 128 < 128 := Nat.mod_lt _ (by omega)
    have hk : (y 0).val = i ∧ (y 2).val / 128 = p := by omega
    have e : y = (Rect.unit (s := (⟨3, ![d, N, 384]⟩ : Shape)) ![i, 0, 128 * p] ![1, N, 128] inb).emb
        (ValueIdx.ix3 (0 : Fin 1) (y 1 : Fin N) (⟨(y 2).val % 128, hl⟩ : Fin 128)) := by
      funext a
      apply Fin.ext
      match a with
      | ⟨0, _⟩ => show (y 0).val = i + 1 * 0; omega
      | ⟨1, _⟩ => show (y 1).val = 0 + 1 * (y 1).val; omega
      | ⟨2, _⟩ => show (y 2).val = 128 * p + 1 * ((y 2).val % 128); omega
    have hc := View.canon_cons_emb (Val := Elt Ideal) (Rect.unit (s := (⟨3, ![d, N, 384]⟩ : Shape)) ![i, 0, 128 * p] ![1, N, 128] inb) w L
      (ValueIdx.ix3 (0 : Fin 1) (y 1 : Fin N) (⟨(y 2).val % 128, hl⟩ : Fin 128))
    rw [← e] at hc
    refine hc.trans ?_
    rw [hw]
    show X ((y 1).val * d + i) (128 * p + (y 2).val % 128) = X ((y 1).val * d + (y 0).val) (y 2).val
    rw [hk.1, show 128 * p + (y 2).val % 128 = (y 2).val by omega]

/-- A plane of 512 rows and 128 lanes, stored. -/
theorem plane_step (p : ℕ) (X : ℕ → ℕ → EReal) {inb} {w : S1x512x128.Idx → EReal} {L : List (View.Piece (Elt Ideal) S3x512x128 .f32)}
    (y : S3x512x128.Idx) (hw : w = cube 1 512 128 fun _ t l => X t (128 * p + l))
    (hL : (y 0).val < p → View.canon L y = cube 3 512 128 (fun p t l => X t (128 * p + l)) y) (hy : (y 0).val < p + 1) :
    View.canon ((⟨Rect.unit (s := S3x512x128) ![p, 0, 0] S1x512x128.size inb, w⟩ : View.Piece (Elt Ideal) S3x512x128 .f32) :: L) y
      = cube 3 512 128 (fun p t l => X t (128 * p + l)) y := by
  by_cases hm : (y 0).val < p
  · refine (View.canon_cons_of_not_mem (Val := Elt Ideal) _ L fun hmem => ?_).trans (hL hm)
    obtain ⟨j0, hj0, e0⟩ := (LoadRect.mem_set _).1 hmem 0
    change j0 < 1 at hj0
    change (y 0).val = p + 1 * j0 at e0
    omega
  · have e : y = (Rect.unit (s := S3x512x128) ![p, 0, 0] S1x512x128.size inb).emb (ValueIdx.ix3 (0 : Fin 1) (y 1 : Fin 512) (y 2 : Fin 128)) := by
      funext a
      apply Fin.ext
      match a with
      | ⟨0, _⟩ => show (y 0).val = p + 1 * 0; omega
      | ⟨1, _⟩ => show (y 1).val = 0 + 1 * (y 1).val; omega
      | ⟨2, _⟩ => show (y 2).val = 0 + 1 * (y 2).val; omega
    have hc := View.canon_cons_emb (Val := Elt Ideal) (Rect.unit (s := S3x512x128) ![p, 0, 0] S1x512x128.size inb) w L
      (ValueIdx.ix3 (0 : Fin 1) (y 1 : Fin 512) (y 2 : Fin 128))
    rw [← e] at hc
    refine hc.trans ?_
    rw [hw]
    show X (y 1).val (128 * p + (y 2).val) = X (y 1).val (128 * (y 0).val + (y 2).val)
    rw [show (y 0).val = p by omega]

/-! ## Loads of some of the rows -/

/-- Every `d`-th row of a plane, from row `i` on. -/
theorem load_rows (d N p i : ℕ) (X : ℕ → ℕ → EReal) {v : View sig .tc .vmem S3x512x128 .f32} {L : List (View.Piece (Elt Ideal) S3x512x128 .f32)}
    (hS : View.canon L = cube 3 512 128 fun p t l => X t (128 * p + l)) {inb inb' h₁ h₂ h₃ h₄} :
    LoadRect.valAlong (lr := (⟨![i, 0], ![N, 128], ![d, 1], inb'⟩ : LoadRect S512x128)) h₄ (v.readCov L ((Rect.unit (s := S3x512x128) ![p, 0, 0] S1x512x128.size inb).withinL
        ((⟨![i, 0], ![N, 128], ![d, 1], inb'⟩ : LoadRect S512x128).consLift ![1, 512, 128] h₁ h₂) h₃))
      = mat N 128 fun a l => X (a * d + i) (128 * p + l) := by
  rw [View.readCov_eq_canon', hS]
  funext x
  have hx : Shape.reshapeEquiv h₄ x = Fin.cons ⟨0, Nat.one_pos⟩ x := Shape.reshapeEquiv_cons_one (d := ![N, 128]) _ _
  show cube 3 512 128 _ (LoadRect.idx _ (Shape.reshapeEquiv h₄ x)) = _
  rw [hx]
  show X (0 + i + d * (x 0).val) (128 * (p + 0 + 1 * 0) + (0 + 0 + 1 * (x 1).val)) = X ((x 0).val * d + i) (128 * p + (x 1).val)
  rw [show 0 + i + d * (x 0).val = (x 0).val * d + i by rw [Nat.mul_comm]; omega, show 128 * (p + 0 + 1 * 0) + (0 + 0 + 1 * (x 1).val) = 128 * p + (x 1).val by omega]

/-- All rows of a plane. -/
theorem load_all (p : ℕ) (X : ℕ → ℕ → EReal) {v : View sig .tc .vmem S3x512x128 .f32} {L : List (View.Piece (Elt Ideal) S3x512x128 .f32)}
    (hS : View.canon L = cube 3 512 128 fun p t l => X t (128 * p + l)) {inb inb' h₁ h₂ h₃ h₄} :
    LoadRect.valAlong (lr := (Rect.unit (s := S512x128) ![0, 0] S512x128.size inb').toLoadRect) h₄ (v.readCov L ((Rect.unit (s := S3x512x128) ![p, 0, 0] S1x512x128.size inb).withinL
        ((Rect.unit (s := S512x128) ![0, 0] S512x128.size inb').toLoadRect.consLift ![1, 512, 128] h₁ h₂) h₃))
      = mat 512 128 fun a l => X (a * 1 + 0) (128 * p + l) := by
  rw [View.readCov_eq_canon', hS]
  funext x
  have hx : Shape.reshapeEquiv h₄ x = Fin.cons ⟨0, Nat.one_pos⟩ x := Shape.reshapeEquiv_cons_one (d := ![512, 128]) _ _
  show cube 3 512 128 _ (LoadRect.idx _ (Shape.reshapeEquiv h₄ x)) = _
  rw [hx]
  show X (0 + 0 + 1 * (x 0).val) (128 * (p + 0 + 1 * 0) + (0 + 0 + 1 * (x 1).val)) = X ((x 0).val * 1 + 0) (128 * p + (x 1).val)
  rw [show 0 + 0 + 1 * (x 0).val = (x 0).val * 1 + 0 by omega, show 128 * (p + 0 + 1 * 0) + (0 + 0 + 1 * (x 1).val) = 128 * p + (x 1).val by omega]

end Cert.PreProj

end
-- ==== Proof.PreBody.lean ====
module

public import proofs.«01_k».proof.Proof.PreBlock
public import proofs.«01_k».proof.Proof.ProjBody
public import proofs.«01_k».proof.Proof.Gen.Kernel4Ideal.Frame

/-! # The joint projection: the body's outputs at a point -/

@[expose] public section

noncomputable section

namespace Cert.PreProj

open Cert.Layer Cert.Kernel4Ideal Cert.Kernel4Ideal.Gen Idealize.ShloMosaic
open Cert.Proj (turn kcos ksin eighth' addf_mat mulf_mat truncf_mat)

/-- The sines, negated, on the first eight lanes of a head. -/
def upB (L B : ℕ → ℕ → EReal) (r l : ℕ) : EReal := if l % 64 < 8 then -ksin L B r l else 0
/-- The sines on the next eight lanes of a head. -/
def downB (L B : ℕ → ℕ → EReal) (r l : ℕ) : EReal := if 8 ≤ l % 64 ∧ l % 64 < 16 then ksin L B r l else 0
/-- Lanes turned by the block's angles, 128 at a time. -/
def turnB (L B : ℕ → ℕ → EReal) (X : ℕ → ℕ → EReal) (r c : ℕ) : EReal :=
  turn (kcos L B) (upB L B) (downB L B) (fun r l => X r (128 * (c / 128) + l)) r (c % 128)

theorem mat_congr {a b : ℕ} {f g : ℕ → ℕ → EReal} (h : ∀ r l, l < b → f r l = g r l) : mat a b f = mat a b g := by
  funext y
  exact h _ _ (y 1).isLt

theorem turn_at (L B X : ℕ → ℕ → EReal) (p : ℕ) :
    mat 512 128 (turn (kcos L B) (upB L B) (downB L B) fun r l => X r (128 * p + l)) = mat 512 128 fun r l => turnB L B X r (128 * p + l) :=
  mat_congr fun r l hl => by
    unfold turnB
    rw [show (128 * p + l) / 128 = p by omega, show (128 * p + l) % 128 = l by omega]

theorem turn_at' (L B X : ℕ → ℕ → EReal) (p : ℕ) :
    mat 512 128 (fun r l => turn (kcos L B) (upB L B) (downB L B) (fun r l => X r (128 * p + l)) r l * eighth') = mat 512 128 fun r l => turnB L B X r (128 * p + l) * eighth' :=
  mat_congr fun r l hl => by
    unfold turnB
    rw [show (128 * p + l) / 128 = p by omega, show (128 * p + l) % 128 = l by omega]

/-- Lanes of a product, as lanes of the joint projection. -/
theorem slice_from (U : ℕ → ℕ → EReal) (W : ℕ → ℕ → ℕ → EReal) (j s o p : ℕ) (hs : 768 * j + s = o + 128 * p) (h : S512x768.Slices ![0, s] S512x128) :
    extractStridedSlice S512x128 ![0, s] (mat 512 768 (shard U W j)) h = mat 512 128 fun r l => from' o (joint U W) r (128 * p + l) := by
  rw [slice_lanes]
  have h1 : s + 128 ≤ 768 := h.2 1
  refine mat_congr fun r l hl => ?_
  show shard U W j r (s + l) = joint U W r (o + (128 * p + l))
  unfold shard joint
  rw [show (o + (128 * p + l)) / 768 = j by omega, show (o + (128 * p + l)) % 768 = s + l by omega]

/-! ## What the body reads -/

theorem read_table (v : Memref sig .tc .vmem S512x256 .f32) (hv : v.IsWhole) (X : ℕ → ℕ → EReal) (q : ℕ) (inb) :
    View.readAt (Elt Ideal) v.view (Rect.unit (s := S512x256) ![0, q] S512x128.size inb).toLoadRect (hv.unread (mat 512 256 X)) = mat 512 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_base (v : Memref sig .tc .vmem S8x256 .f32) (hv : v.IsWhole) (X : ℕ → ℕ → EReal) (q : ℕ) (inb) :
    View.readAt (Elt Ideal) v.view (Rect.unit (s := S8x256) ![0, q] S1x128.size inb).toLoadRect (hv.unread (mat 8 256 X)) = mat 1 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_table_size (v : Memref sig .tc .vmem S512x256 .f32) (hv : v.IsWhole) (X : ℕ → ℕ → EReal) (q : ℕ) (inb) :
    View.readAt (Elt Ideal) v.view (Rect.unit (s := S512x256) ![0, q] ![512, 128] inb).toLoadRect (hv.unread (mat 512 256 X)) = mat 512 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_base_size (v : Memref sig .tc .vmem S8x256 .f32) (hv : v.IsWhole) (X : ℕ → ℕ → EReal) (q : ℕ) (inb) :
    View.readAt (Elt Ideal) v.view (Rect.unit (s := S8x256) ![0, q] ![1, 128] inb).toLoadRect (hv.unread (mat 8 256 X)) = mat 1 128 fun r l => X r (q + l) := by
  rw [View.readAt_eq_ld, hv.read_unread]
  funext y
  show X (0 + 1 * (y 0).val) (q + 1 * (y 1).val) = X (y 0).val (q + (y 1).val)
  simp only [Nat.one_mul, Nat.zero_add]

theorem read_rows (v : Memref sig .tc .vmem S512x1024 .bf16) (hv : v.IsWhole) (X : ℕ → ℕ → EReal) (inb) :
    View.readAt (Elt Ideal) v.view (Rect.unit (s := S512x1024) ![0, 0] S512x1024.size inb).toLoadRect (hv.unread (mat 512 1024 X)) = mat 512 1024 X := by
  rw [View.readAt_eq_ld, hv.read_unread]
  funext y
  show X (0 + 1 * (y 0).val) (0 + 1 * (y 1).val) = X (y 0).val (y 1).val
  simp only [Nat.one_mul, Nat.zero_add]

theorem read_shard (v : Memref sig .tc .vmem S4x1024x768 .bf16) (hv : v.IsWhole) (X : ℕ → ℕ → ℕ → EReal) (j : ℕ) (inb) :
    View.readAt (Elt Ideal) v.view (Rect.unit (s := S4x1024x768) ![j, 0, 0] S1x1024x768.size inb).toLoadRect (hv.unread (cube 4 1024 768 X)) = cube 1 1024 768 fun i => X (j + i) := by
  rw [View.readAt_eq_ld, hv.read_unread]
  funext y
  show X (j + 1 * (y 0).val) (0 + 1 * (y 1).val) (0 + 1 * (y 2).val) = X (j + (y 0).val) (y 1).val (y 2).val
  simp only [Nat.one_mul, Nat.zero_add]

theorem read_shard_size (v : Memref sig .tc .vmem S4x1024x768 .bf16) (hv : v.IsWhole) (X : ℕ → ℕ → ℕ → EReal) (j : ℕ) (inb) :
    View.readAt (Elt Ideal) v.view (Rect.unit (s := S4x1024x768) ![j, 0, 0] ![1, 1024, 768] inb).toLoadRect (hv.unread (cube 4 1024 768 X)) = cube 1 1024 768 fun i => X (j + i) := by
  rw [View.readAt_eq_ld, hv.read_unread]
  funext y
  show X (j + 1 * (y 0).val) (0 + 1 * (y 1).val) (0 + 1 * (y 2).val) = X (j + (y 0).val) (y 1).val (y 2).val
  simp only [Nat.one_mul, Nat.zero_add]

/-! ## The words of the body -/

variable (U : ℕ → ℕ → EReal) (W : ℕ → ℕ → ℕ → EReal) (L B : ℕ → ℕ → EReal) (c : Dev nD) (i : grid0.Coords)
    (arg1 : Memref sig .tc .vmem S512x1024 .bf16) (harg1 : arg1.IsWhole) (arg2 : Memref sig .tc .vmem S4x1024x768 .bf16) (harg2 : arg2.IsWhole) (arg3 : Memref sig .tc .vmem S512x256 .f32) (harg3 : arg3.IsWhole) (arg4 : Memref sig .tc .vmem S8x256 .f32) (harg4 : arg4.IsWhole) (arg5 : Memref sig .tc .vmem S512x384 .bf16) (harg5 : arg5.IsWhole) (arg6 : Memref sig .tc .vmem S512x128 .bf16) (harg6 : arg6.IsWhole) (arg7 : Memref sig .tc .vmem S512x128 .bf16) (harg7 : arg7.IsWhole)
    (arg8 : Memref sig .tc .vmem S512x384 .bf16) (harg8 : arg8.IsWhole) (arg9 : Memref sig .tc .vmem S512x384 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S1x512x384 .bf16) (harg12 : arg12.IsWhole) (arg13 : Memref sig .tc .vmem S4x128x384 .bf16) (harg13 : arg13.IsWhole) (arg14 : Memref sig .tc .vmem S16x32x384 .bf16) (harg14 : arg14.IsWhole)
    (arg15 : Memref sig .tc .vmem S1x512x384 .bf16) (harg15 : arg15.IsWhole) (arg16 : Memref sig .tc .vmem S4x128x384 .bf16) (harg16 : arg16.IsWhole) (arg17 : Memref sig .tc .vmem S16x32x384 .bf16) (harg17 : arg17.IsWhole) (arg18 : Memref sig .tc .vmem S1x512x384 .bf16) (harg18 : arg18.IsWhole) (arg19 : Memref sig .tc .vmem S4x128x384 .bf16) (harg19 : arg19.IsWhole) (arg20 : Memref sig .tc .vmem S16x32x384 .bf16) (harg20 : arg20.IsWhole) (arg21 : Memref sig .tc .vmem S3x512x128 .f32) (harg21 : arg21.IsWhole) (arg22 : Memref sig .tc .vmem S3x512x128 .f32) (harg22 : arg22.IsWhole) (arg23 : Memref sig .tc .vmem S3x512x128 .f32) (harg23 : arg23.IsWhole)

theorem word_r :
    kernelRun0_A.sl.r (F := Ideal) c arg1 harg1 (mat 512 1024 U) = mat 512 1024 U := by
  exact read_rows _ _ _ _

theorem word_r_1 :
    kernelRun0_A.sl.r_1 (F := Ideal) c arg3 harg3 arg4 harg4 (mat 512 256 L) (mat 8 256 B) = mat 512 128 (kcos L B) := by
  simp only [kernelRun0_A.sl.r_1, read_table, read_table_size, read_base, read_base_size, pay_cos] <;> rfl

theorem word_r_2 :
    kernelRun0_A.sl.r_2 (F := Ideal) c arg3 harg3 arg4 harg4 (mat 512 256 L) (mat 8 256 B) = mat 512 128 (ksin L B) := by
  simp only [kernelRun0_A.sl.r_2, read_table, read_table_size, read_base, read_base_size, pay_sin] <;> rfl

theorem word_r_3 :
    kernelRun0_A.sl.r_3 (F := Ideal) c arg3 harg3 arg4 harg4 (mat 512 256 L) (mat 8 256 B) = mat 512 128 fun r l => -ksin L B r l := by
  simp only [kernelRun0_A.sl.r_3, read_table, read_table_size, read_base, read_base_size, pay_neg] <;> rfl

theorem word_r_4 :
    kernelRun0_A.sl.r_4 (F := Ideal) c arg3 harg3 arg4 harg4 (mat 512 256 L) (mat 8 256 B) = mat 512 128 (upB L B) := by
  simp only [kernelRun0_A.sl.r_4, word_r_3]
  exact pay_up _

theorem word_r_5 :
    kernelRun0_A.sl.r_5 (F := Ideal) c arg3 harg3 arg4 harg4 (mat 512 256 L) (mat 8 256 B) = mat 512 128 (downB L B) := by
  simp only [kernelRun0_A.sl.r_5, word_r_2]
  exact pay_down _

theorem word_r_6 :
    kernelRun0_A.sl.r_6 (F := Ideal) c arg1 harg1 arg2 harg2 (mat 512 1024 U) (cube 4 1024 768 W) = mat 512 768 (shard U W 0) := by
  simp only [kernelRun0_A.sl.r_6, word_r, read_shard, read_shard_size, pay_15]

theorem word_r_8 :
    kernelRun0_A.sl.r_8 (F := Ideal) c arg1 harg1 arg2 harg2 (mat 512 1024 U) (cube 4 1024 768 W) = mat 512 768 (shard U W 1) := by
  simp only [kernelRun0_A.sl.r_8, word_r, read_shard, read_shard_size, pay_23]

theorem word_r_11 :
    kernelRun0_A.sl.r_11 (F := Ideal) c arg1 harg1 arg2 harg2 (mat 512 1024 U) (cube 4 1024 768 W) = mat 512 768 (shard U W 2) := by
  simp only [kernelRun0_A.sl.r_11, word_r, read_shard, read_shard_size, pay_31]

theorem word_r_13 :
    kernelRun0_A.sl.r_13 (F := Ideal) c arg1 harg1 arg2 harg2 (mat 512 1024 U) (cube 4 1024 768 W) = mat 512 768 (shard U W 3) := by
  simp only [kernelRun0_A.sl.r_13, word_r, read_shard, read_shard_size, pay_38]

theorem plane_HS0_3 :
    View.canon (kernelRun0_A.sl.HS0_3 (F := Ideal) c arg1 harg1 arg2 harg2 arg3 harg3 arg4 harg4 (mat 512 1024 U) (cube 4 1024 768 W) (mat 512 256 L) (mat 8 256 B)) = cube 3 512 128 fun p t l => (fun t c => turnB L B (from' 1024 (joint U W)) t c * eighth') t (128 * p + l) := by
  funext y
  have y0 : (y 0).val < 3 := (y 0).isLt
  simp only [kernelRun0_A.sl.HS0_3]
  refine plane_step 2 (fun t c => turnB L B (from' 1024 (joint U W)) t c * eighth') y (Eq.trans (congrArg (fun x => shapeCast S1x512x128 x shapeCasts_S512x128_S1x512x128) (?_ : _ = mat 512 128 fun t l => (fun t c => turnB L B (from' 1024 (joint U W)) t c * eighth') t (128 * 2 + l))) (add_512 _ _)) (fun h2 => ?_) (by omega)
  · refine Eq.trans ?_ (turn_at' L B (from' 1024 (joint U W)) 2)
    simp only [kernelRun0_A.sl.r_10, k0_pay28, slice_from U W 1 512 1024 2 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine plane_step 1 (fun t c => turnB L B (from' 1024 (joint U W)) t c * eighth') y (Eq.trans (congrArg (fun x => shapeCast S1x512x128 x shapeCasts_S512x128_S1x512x128) (?_ : _ = mat 512 128 fun t l => (fun t c => turnB L B (from' 1024 (joint U W)) t c * eighth') t (128 * 1 + l))) (add_512 _ _)) (fun h1 => ?_) (by omega)
  · refine Eq.trans ?_ (turn_at' L B (from' 1024 (joint U W)) 1)
    simp only [slice_from U W 1 384 1024 1 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine plane_step 0 (fun t c => turnB L B (from' 1024 (joint U W)) t c * eighth') y (Eq.trans (congrArg (fun x => shapeCast S1x512x128 x shapeCasts_S512x128_S1x512x128) (?_ : _ = mat 512 128 fun t l => (fun t c => turnB L B (from' 1024 (joint U W)) t c * eighth') t (128 * 0 + l))) (add_512 _ _)) (fun h0 => ?_) (by omega)
  · refine Eq.trans ?_ (turn_at' L B (from' 1024 (joint U W)) 0)
    simp only [slice_from U W 1 256 1024 0 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  omega

theorem plane_HS1_3 :
    View.canon (kernelRun0_A.sl.HS1_3 (F := Ideal) c arg1 harg1 arg2 harg2 arg3 harg3 arg4 harg4 (mat 512 1024 U) (cube 4 1024 768 W) (mat 512 256 L) (mat 8 256 B)) = cube 3 512 128 fun p t l => (turnB L B (from' 1408 (joint U W))) t (128 * p + l) := by
  funext y
  have y0 : (y 0).val < 3 := (y 0).isLt
  simp only [kernelRun0_A.sl.HS1_3, kernelRun0_A.sl.r_12, k0_pay33]
  refine plane_step 2 (turnB L B (from' 1408 (joint U W))) y (Eq.trans (congrArg (fun x => shapeCast S1x512x128 x shapeCasts_S512x128_S1x512x128) (?_ : _ = mat 512 128 fun t l => (turnB L B (from' 1408 (joint U W))) t (128 * 2 + l))) (add_512 _ _)) (fun h2 => ?_) (by omega)
  · refine Eq.trans ?_ (turn_at L B (from' 1408 (joint U W)) 2)
    simp only [slice_from U W 2 128 1408 2 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine plane_step 1 (turnB L B (from' 1408 (joint U W))) y (Eq.trans (congrArg (fun x => shapeCast S1x512x128 x shapeCasts_S512x128_S1x512x128) (?_ : _ = mat 512 128 fun t l => (turnB L B (from' 1408 (joint U W))) t (128 * 1 + l))) (add_512 _ _)) (fun h1 => ?_) (by omega)
  · refine Eq.trans ?_ (turn_at L B (from' 1408 (joint U W)) 1)
    simp only [slice_from U W 2 0 1408 1 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine plane_step 0 (turnB L B (from' 1408 (joint U W))) y (Eq.trans (congrArg (fun x => shapeCast S1x512x128 x shapeCasts_S512x128_S1x512x128) (?_ : _ = mat 512 128 fun t l => (turnB L B (from' 1408 (joint U W))) t (128 * 0 + l))) (add_512 _ _)) (fun h0 => ?_) (by omega)
  · refine Eq.trans ?_ (turn_at L B (from' 1408 (joint U W)) 0)
    simp only [slice_from U W 1 640 1408 0 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  omega

theorem plane_HS2_3 :
    View.canon (kernelRun0_A.sl.HS2_3 (F := Ideal) c arg1 harg1 arg2 harg2 (mat 512 1024 U) (cube 4 1024 768 W)) = cube 3 512 128 fun p t l => (from' 1792 (joint U W)) t (128 * p + l) := by
  funext y
  have y0 : (y 0).val < 3 := (y 0).isLt
  simp only [kernelRun0_A.sl.HS2_3]
  refine plane_step 2 (from' 1792 (joint U W)) y (Eq.trans (congrArg (fun x => shapeCast S1x512x128 x shapeCasts_S512x128_S1x512x128) (?_ : _ = mat 512 128 fun t l => (from' 1792 (joint U W)) t (128 * 2 + l))) (add_512 _ _)) (fun h2 => ?_) (by omega)
  · simp only [slice_from U W 2 512 1792 2 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine plane_step 1 (from' 1792 (joint U W)) y (Eq.trans (congrArg (fun x => shapeCast S1x512x128 x shapeCasts_S512x128_S1x512x128) (?_ : _ = mat 512 128 fun t l => (from' 1792 (joint U W)) t (128 * 1 + l))) (add_512 _ _)) (fun h1 => ?_) (by omega)
  · simp only [slice_from U W 2 384 1792 1 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine plane_step 0 (from' 1792 (joint U W)) y (Eq.trans (congrArg (fun x => shapeCast S1x512x128 x shapeCasts_S512x128_S1x512x128) (?_ : _ = mat 512 128 fun t l => (from' 1792 (joint U W)) t (128 * 0 + l))) (add_512 _ _)) (fun h0 => ?_) (by omega)
  · simp only [slice_from U W 2 256 1792 0 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  omega

/-! ## The outputs of the natural rows -/

theorem A_4 :
    out0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = mat 512 384 (fun r c => turnB L B (from' 0 (joint U W)) r c * eighth') := by
  unfold out0_A_4
  rw [View.read_writes_eq_canon _ _ _ (cover0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have y1 : (y 1).val < 384 := (y 1).isLt
  unfold kernelRun0_A
  dsimp only
  refine lanes_step 384 2 (fun r c => turnB L B (from' 0 (joint U W)) r c * eighth') y ?_ (fun h2 => ?_) (by omega)
  · refine Eq.trans ?_ (turn_at' L B (from' 0 (joint U W)) 2)
    simp only [kernelRun0_A.sl.r_7, k0_pay19, k0_pay18, slice_from U W 0 256 0 2 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine lanes_step 384 1 (fun r c => turnB L B (from' 0 (joint U W)) r c * eighth') y ?_ (fun h1 => ?_) (by omega)
  · refine Eq.trans ?_ (turn_at' L B (from' 0 (joint U W)) 1)
    simp only [kernelRun0_A.sl.cst_11, k0_pay17, slice_from U W 0 128 0 1 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine lanes_step 384 0 (fun r c => turnB L B (from' 0 (joint U W)) r c * eighth') y ?_ (fun h0 => ?_) (by omega)
  · refine Eq.trans ?_ (turn_at' L B (from' 0 (joint U W)) 0)
    simp only [kernelRun0_A.sl.cst_11, k0_pay16, slice_from U W 0 0 0 0 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  omega

theorem A_5 :
    out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = mat 512 128 (turnB L B (from' 384 (joint U W))) := by
  unfold out0_A_5
  rw [View.read_writes_eq_canon _ _ _ (cover0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have y1 : (y 1).val < 128 := (y 1).isLt
  unfold kernelRun0_A
  dsimp only
  refine lanes_step 128 0 (turnB L B (from' 384 (joint U W))) y ?_ (fun h0 => ?_) (by omega)
  · refine Eq.trans ?_ (turn_at L B (from' 384 (joint U W)) 0)
    simp only [k0_pay20, slice_from U W 0 384 384 0 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  omega

theorem A_6 :
    out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = mat 512 128 (from' 512 (joint U W)) := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have y1 : (y 1).val < 128 := (y 1).isLt
  unfold kernelRun0_A
  dsimp only
  refine lanes_step 128 0 (from' 512 (joint U W)) y ?_ (fun h0 => ?_) (by omega)
  · simp only [k0_pay21, slice_from U W 0 512 512 0 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  omega

theorem A_7 :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = mat 512 384 (from' 640 (joint U W)) := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have y1 : (y 1).val < 384 := (y 1).isLt
  unfold kernelRun0_A
  dsimp only
  refine lanes_step 384 2 (from' 640 (joint U W)) y ?_ (fun h2 => ?_) (by omega)
  · simp only [kernelRun0_A.sl.r_9, k0_pay25, slice_from U W 1 128 640 2 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine lanes_step 384 1 (from' 640 (joint U W)) y ?_ (fun h1 => ?_) (by omega)
  · simp only [k0_pay24, slice_from U W 1 0 640 1 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine lanes_step 384 0 (from' 640 (joint U W)) y ?_ (fun h0 => ?_) (by omega)
  · simp only [k0_pay22, slice_from U W 0 640 640 0 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  omega

theorem A_8 :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = mat 512 384 (from' 2176 (joint U W)) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have y1 : (y 1).val < 384 := (y 1).isLt
  unfold kernelRun0_A
  dsimp only
  refine lanes_step 384 2 (from' 2176 (joint U W)) y ?_ (fun h2 => ?_) (by omega)
  · simp only [k0_pay40, slice_from U W 3 128 2176 2 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine lanes_step 384 1 (from' 2176 (joint U W)) y ?_ (fun h1 => ?_) (by omega)
  · simp only [k0_pay39, slice_from U W 3 0 2176 1 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine lanes_step 384 0 (from' 2176 (joint U W)) y ?_ (fun h0 => ?_) (by omega)
  · simp only [k0_pay37, slice_from U W 2 640 2176 0 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  omega

theorem A_9 :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = mat 512 256 (fun r c => from' 2560 (joint U W) r c * eighth') := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have y1 : (y 1).val < 256 := (y 1).isLt
  unfold kernelRun0_A
  dsimp only
  refine lanes_step 256 1 (fun r c => from' 2560 (joint U W) r c * eighth') y ?_ (fun h1 => ?_) (by omega)
  · simp only [kernelRun0_A.sl.r_14, k0_pay43, k0_pay42, slice_from U W 3 384 2560 1 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine lanes_step 256 0 (fun r c => from' 2560 (joint U W) r c * eighth') y ?_ (fun h0 => ?_) (by omega)
  · simp only [k0_pay41, slice_from U W 3 256 2560 0 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  omega

theorem A_10 :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = mat 512 256 (from' 2816 (joint U W)) := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have y1 : (y 1).val < 256 := (y 1).isLt
  unfold kernelRun0_A
  dsimp only
  refine lanes_step 256 1 (from' 2816 (joint U W)) y ?_ (fun h1 => ?_) (by omega)
  · simp only [k0_pay45, slice_from U W 3 640 2816 1 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  refine lanes_step 256 0 (from' 2816 (joint U W)) y ?_ (fun h0 => ?_) (by omega)
  · simp only [k0_pay44, slice_from U W 3 512 2816 0 rfl, word_r, word_r_1, word_r_2, word_r_3, word_r_4, word_r_5, word_r_6, word_r_8, word_r_11, word_r_13, read_shard, read_shard_size, pay_15, pay_23, pay_31, pay_38, pay_up, pay_down, rotate_120, rotate_8, mulf_mat, addf_mat, truncf_mat] <;> rfl
  omega

end Cert.PreProj

end
-- ==== Proof.PreClass.lean ====
module

public import proofs.«01_k».proof.Proof.PreBody

/-! # The joint projection: the body's outputs by residue class -/

@[expose] public section

noncomputable section

namespace Cert.PreProj

open Cert.Layer Cert.Kernel4Ideal Cert.Kernel4Ideal.Gen Idealize.ShloMosaic
open Cert.Proj (eighth')

theorem class_1 (X : ℕ → ℕ → EReal) {v : View sig .tc .vmem S3x512x128 .f32} {LS : List (View.Piece (Elt Ideal) S3x512x128 .f32)}
    (hS : View.canon LS = cube 3 512 128 fun p t l => X t (128 * p + l)) (y : (⟨3, ![1, 512, 384]⟩ : Shape).Idx)
    {p n q : ℕ} {inb inb₁ inb₂ h₁ h₂ h₃ h₄ hb hc} {L : List (View.Piece (Elt Ideal) (⟨3, ![1, 512, 384]⟩ : Shape) .bf16)}
    (hL : 3 * (y 0).val + (y 2).val / 128 < n → View.canon L y = cube 1 512 384 (classes 1 X) y)
    (hp : p < 3 := by decide) (hn : n = 3 * 0 + p := by decide) (hq : q = 128 * p := by decide) :
    3 * (y 0).val + (y 2).val / 128 < n + 1 →
    View.canon ((⟨Rect.unit (s := (⟨3, ![1, 512, 384]⟩ : Shape)) ![0, 0, q] ![1, 512, 128] inb,
      shapeCast S1x512x128 (truncf (F := Ideal) (φ := .f32) .bf16 (LoadRect.valAlong (lr := (Rect.unit (s := S512x128) ![0, 0] S512x128.size inb₂).toLoadRect) h₄
        (v.readCov LS ((Rect.unit (s := S3x512x128) ![p, 0, 0] S1x512x128.size inb₁).withinL (LoadRect.consLift (Rect.unit (s := S512x128) ![0, 0] S512x128.size inb₂).toLoadRect ![1, 512, 128] h₁ h₂) h₃))) hb) hc⟩
        : View.Piece (Elt Ideal) (⟨3, ![1, 512, 384]⟩ : Shape) .bf16) :: L) y = cube 1 512 384 (classes 1 X) y := fun hy =>
  class_step 1 512 p 0 X y (Eq.trans (congrArg (fun x : S512x128.Idx → EReal => shapeCast S1x512x128 x hc) (load_all p X hS)) (add_512 _ _)) hL hy hp hn hq

theorem class_4 (X : ℕ → ℕ → EReal) {v : View sig .tc .vmem S3x512x128 .f32} {LS : List (View.Piece (Elt Ideal) S3x512x128 .f32)}
    (hS : View.canon LS = cube 3 512 128 fun p t l => X t (128 * p + l)) (y : (⟨3, ![4, 128, 384]⟩ : Shape).Idx)
    {p i n q : ℕ} {inb inb₁ inb₂ h₁ h₂ h₃ h₄ hb hc} {L : List (View.Piece (Elt Ideal) (⟨3, ![4, 128, 384]⟩ : Shape) .bf16)}
    (hL : 3 * (y 0).val + (y 2).val / 128 < n → View.canon L y = cube 4 128 384 (classes 4 X) y)
    (hp : p < 3 := by decide) (hn : n = 3 * i + p := by decide) (hq : q = 128 * p := by decide) :
    3 * (y 0).val + (y 2).val / 128 < n + 1 →
    View.canon ((⟨Rect.unit (s := (⟨3, ![4, 128, 384]⟩ : Shape)) ![i, 0, q] ![1, 128, 128] inb,
      shapeCast S1x128x128 (truncf (F := Ideal) (φ := .f32) .bf16 (LoadRect.valAlong (lr := (⟨![i, 0], ![128, 128], ![4, 1], inb₂⟩ : LoadRect S512x128)) h₄
        (v.readCov LS ((Rect.unit (s := S3x512x128) ![p, 0, 0] S1x512x128.size inb₁).withinL (LoadRect.consLift (⟨![i, 0], ![128, 128], ![4, 1], inb₂⟩ : LoadRect S512x128) ![1, 512, 128] h₁ h₂) h₃))) hb) hc⟩
        : View.Piece (Elt Ideal) (⟨3, ![4, 128, 384]⟩ : Shape) .bf16) :: L) y = cube 4 128 384 (classes 4 X) y := fun hy =>
  class_step 4 128 p i X y (Eq.trans (congrArg (fun x : S128x128.Idx → EReal => shapeCast S1x128x128 x hc) (load_rows 4 128 p i X hS)) (add_128 _ _)) hL hy hp hn hq

theorem class_16 (X : ℕ → ℕ → EReal) {v : View sig .tc .vmem S3x512x128 .f32} {LS : List (View.Piece (Elt Ideal) S3x512x128 .f32)}
    (hS : View.canon LS = cube 3 512 128 fun p t l => X t (128 * p + l)) (y : (⟨3, ![16, 32, 384]⟩ : Shape).Idx)
    {p i n q : ℕ} {inb inb₁ inb₂ h₁ h₂ h₃ h₄ hb hc} {L : List (View.Piece (Elt Ideal) (⟨3, ![16, 32, 384]⟩ : Shape) .bf16)}
    (hL : 3 * (y 0).val + (y 2).val / 128 < n → View.canon L y = cube 16 32 384 (classes 16 X) y)
    (hp : p < 3 := by decide) (hn : n = 3 * i + p := by decide) (hq : q = 128 * p := by decide) :
    3 * (y 0).val + (y 2).val / 128 < n + 1 →
    View.canon ((⟨Rect.unit (s := (⟨3, ![16, 32, 384]⟩ : Shape)) ![i, 0, q] ![1, 32, 128] inb,
      shapeCast S1x32x128 (truncf (F := Ideal) (φ := .f32) .bf16 (LoadRect.valAlong (lr := (⟨![i, 0], ![32, 128], ![16, 1], inb₂⟩ : LoadRect S512x128)) h₄
        (v.readCov LS ((Rect.unit (s := S3x512x128) ![p, 0, 0] S1x512x128.size inb₁).withinL (LoadRect.consLift (⟨![i, 0], ![32, 128], ![16, 1], inb₂⟩ : LoadRect S512x128) ![1, 512, 128] h₁ h₂) h₃))) hb) hc⟩
        : View.Piece (Elt Ideal) (⟨3, ![16, 32, 384]⟩ : Shape) .bf16) :: L) y = cube 16 32 384 (classes 16 X) y := fun hy =>
  class_step 16 32 p i X y (Eq.trans (congrArg (fun x : S32x128.Idx → EReal => shapeCast S1x32x128 x hc) (load_rows 16 32 p i X hS)) (add_32 _ _)) hL hy hp hn hq

variable (U : ℕ → ℕ → EReal) (W : ℕ → ℕ → ℕ → EReal) (L B : ℕ → ℕ → EReal) (c : Dev nD) (i : grid0.Coords)
    (arg1 : Memref sig .tc .vmem S512x1024 .bf16) (harg1 : arg1.IsWhole) (arg2 : Memref sig .tc .vmem S4x1024x768 .bf16) (harg2 : arg2.IsWhole) (arg3 : Memref sig .tc .vmem S512x256 .f32) (harg3 : arg3.IsWhole) (arg4 : Memref sig .tc .vmem S8x256 .f32) (harg4 : arg4.IsWhole) (arg5 : Memref sig .tc .vmem S512x384 .bf16) (harg5 : arg5.IsWhole) (arg6 : Memref sig .tc .vmem S512x128 .bf16) (harg6 : arg6.IsWhole) (arg7 : Memref sig .tc .vmem S512x128 .bf16) (harg7 : arg7.IsWhole)
    (arg8 : Memref sig .tc .vmem S512x384 .bf16) (harg8 : arg8.IsWhole) (arg9 : Memref sig .tc .vmem S512x384 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S1x512x384 .bf16) (harg12 : arg12.IsWhole) (arg13 : Memref sig .tc .vmem S4x128x384 .bf16) (harg13 : arg13.IsWhole) (arg14 : Memref sig .tc .vmem S16x32x384 .bf16) (harg14 : arg14.IsWhole)
    (arg15 : Memref sig .tc .vmem S1x512x384 .bf16) (harg15 : arg15.IsWhole) (arg16 : Memref sig .tc .vmem S4x128x384 .bf16) (harg16 : arg16.IsWhole) (arg17 : Memref sig .tc .vmem S16x32x384 .bf16) (harg17 : arg17.IsWhole) (arg18 : Memref sig .tc .vmem S1x512x384 .bf16) (harg18 : arg18.IsWhole) (arg19 : Memref sig .tc .vmem S4x128x384 .bf16) (harg19 : arg19.IsWhole) (arg20 : Memref sig .tc .vmem S16x32x384 .bf16) (harg20 : arg20.IsWhole) (arg21 : Memref sig .tc .vmem S3x512x128 .f32) (harg21 : arg21.IsWhole) (arg22 : Memref sig .tc .vmem S3x512x128 .f32) (harg22 : arg22.IsWhole) (arg23 : Memref sig .tc .vmem S3x512x128 .f32) (harg23 : arg23.IsWhole)

theorem A_11 :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = cube 1 512 384 (classes 1 (fun t c => turnB L B (from' 1024 (joint U W)) t c * eighth')) := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have hy : 3 * (y 0).val + (y 2).val / 128 < 3 := by
    have y0 : (y 0).val < 1 := (y 0).isLt
    have y2 : (y 2).val < 384 := (y 2).isLt
    omega
  revert hy
  iterate 3 refine class_1 (fun t c => turnB L B (from' 1024 (joint U W)) t c * eighth') (plane_HS0_3 U W L B c arg1 harg1 arg2 harg2 arg3 harg3 arg4 harg4) y ?_
  exact fun h => absurd h (Nat.not_lt_zero _)

theorem A_12 :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = cube 4 128 384 (classes 4 (fun t c => turnB L B (from' 1024 (joint U W)) t c * eighth')) := by
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have hy : 3 * (y 0).val + (y 2).val / 128 < 12 := by
    have y0 : (y 0).val < 4 := (y 0).isLt
    have y2 : (y 2).val < 384 := (y 2).isLt
    omega
  revert hy
  iterate 12 refine class_4 (fun t c => turnB L B (from' 1024 (joint U W)) t c * eighth') (plane_HS0_3 U W L B c arg1 harg1 arg2 harg2 arg3 harg3 arg4 harg4) y ?_
  exact fun h => absurd h (Nat.not_lt_zero _)

theorem A_13 :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = cube 16 32 384 (classes 16 (fun t c => turnB L B (from' 1024 (joint U W)) t c * eighth')) := by
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have hy : 3 * (y 0).val + (y 2).val / 128 < 48 := by
    have y0 : (y 0).val < 16 := (y 0).isLt
    have y2 : (y 2).val < 384 := (y 2).isLt
    omega
  revert hy
  iterate 48 refine class_16 (fun t c => turnB L B (from' 1024 (joint U W)) t c * eighth') (plane_HS0_3 U W L B c arg1 harg1 arg2 harg2 arg3 harg3 arg4 harg4) y ?_
  exact fun h => absurd h (Nat.not_lt_zero _)

theorem A_14 :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = cube 1 512 384 (classes 1 (turnB L B (from' 1408 (joint U W)))) := by
  unfold out0_A_14
  rw [View.read_writes_eq_canon _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have hy : 3 * (y 0).val + (y 2).val / 128 < 3 := by
    have y0 : (y 0).val < 1 := (y 0).isLt
    have y2 : (y 2).val < 384 := (y 2).isLt
    omega
  revert hy
  iterate 3 refine class_1 (turnB L B (from' 1408 (joint U W))) (plane_HS1_3 U W L B c arg1 harg1 arg2 harg2 arg3 harg3 arg4 harg4) y ?_
  exact fun h => absurd h (Nat.not_lt_zero _)

theorem A_15 :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = cube 4 128 384 (classes 4 (turnB L B (from' 1408 (joint U W)))) := by
  unfold out0_A_15
  rw [View.read_writes_eq_canon _ _ _ (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have hy : 3 * (y 0).val + (y 2).val / 128 < 12 := by
    have y0 : (y 0).val < 4 := (y 0).isLt
    have y2 : (y 2).val < 384 := (y 2).isLt
    omega
  revert hy
  iterate 12 refine class_4 (turnB L B (from' 1408 (joint U W))) (plane_HS1_3 U W L B c arg1 harg1 arg2 harg2 arg3 harg3 arg4 harg4) y ?_
  exact fun h => absurd h (Nat.not_lt_zero _)

theorem A_16 :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = cube 16 32 384 (classes 16 (turnB L B (from' 1408 (joint U W)))) := by
  unfold out0_A_16
  rw [View.read_writes_eq_canon _ _ _ (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have hy : 3 * (y 0).val + (y 2).val / 128 < 48 := by
    have y0 : (y 0).val < 16 := (y 0).isLt
    have y2 : (y 2).val < 384 := (y 2).isLt
    omega
  revert hy
  iterate 48 refine class_16 (turnB L B (from' 1408 (joint U W))) (plane_HS1_3 U W L B c arg1 harg1 arg2 harg2 arg3 harg3 arg4 harg4) y ?_
  exact fun h => absurd h (Nat.not_lt_zero _)

theorem A_17 :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = cube 1 512 384 (classes 1 (from' 1792 (joint U W))) := by
  unfold out0_A_17
  rw [View.read_writes_eq_canon _ _ _ (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have hy : 3 * (y 0).val + (y 2).val / 128 < 3 := by
    have y0 : (y 0).val < 1 := (y 0).isLt
    have y2 : (y 2).val < 384 := (y 2).isLt
    omega
  revert hy
  iterate 3 refine class_1 (from' 1792 (joint U W)) (plane_HS2_3 U W c arg1 harg1 arg2 harg2) y ?_
  exact fun h => absurd h (Nat.not_lt_zero _)

theorem A_18 :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = cube 4 128 384 (classes 4 (from' 1792 (joint U W))) := by
  unfold out0_A_18
  rw [View.read_writes_eq_canon _ _ _ (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have hy : 3 * (y 0).val + (y 2).val / 128 < 12 := by
    have y0 : (y 0).val < 4 := (y 0).isLt
    have y2 : (y 2).val < 384 := (y 2).isLt
    omega
  revert hy
  iterate 12 refine class_4 (from' 1792 (joint U W)) (plane_HS2_3 U W c arg1 harg1 arg2 harg2) y ?_
  exact fun h => absurd h (Nat.not_lt_zero _)

theorem A_19 :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B)
      = cube 16 32 384 (classes 16 (from' 1792 (joint U W))) := by
  unfold out0_A_19
  rw [View.read_writes_eq_canon _ _ _ (cover0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (mat 512 1024 U) (cube 4 1024 768 W) (mat 512 256 L) (mat 8 256 B))]
  funext y
  have hy : 3 * (y 0).val + (y 2).val / 128 < 48 := by
    have y0 : (y 0).val < 16 := (y 0).isLt
    have y2 : (y 2).val < 384 := (y 2).isLt
    omega
  revert hy
  iterate 48 refine class_16 (from' 1792 (joint U W)) (plane_HS2_3 U W c arg1 harg1 arg2 harg2) y ?_
  exact fun h => absurd h (Nat.not_lt_zero _)

end Cert.PreProj

end
-- ==== Proof.PreFold.lean ====
module

public import proofs.«01_k».proof.Proof.PreClass
public import proofs.«01_k».proof.Proof.ProjEquation
public import proofs.«01_k».proof.Proof.Gen.Kernel4Ideal.Value

/-! # The joint projection: the arrays after the sixteen blocks of 512 rows -/

@[expose] public section

noncomputable section

namespace Cert.PreProj

open Cert.Layer Cert.Kernel4Ideal Cert.Kernel4Ideal.Gen Idealize.ShloMosaic Idealize.ShloMosaic.TcCoe Idealize.SL.Sem
open Cert.Proj (tile localT baseT table laneFreq num freq eighth eighth' kcos_eq ksin_eq localTable baseTable localTable_apply baseTable_apply hostLocal hostBase hostLanes hostHead hostFreq cosT sinT turn)

/-! ## The angles -/

/-- Lanes turned by block `n`'s angles are the reference's. -/
theorem turnB_eq (X Y : ℕ → ℕ → EReal) (n r c : ℕ) (hn : n < 16) (hr : r < 512) (h : ∀ c, X r c = Y (512 * n + r) c) :
    turnB localT (baseT n) X r c = rope Y (512 * n + r) c := by
  obtain ⟨q, l, hl, rfl⟩ : ∃ q l, l < 128 ∧ c = 128 * q + l := ⟨c / 128, c % 128, Nat.mod_lt _ (by omega), (Nat.div_add_mod c 128).symm⟩
  have e : (128 * q + l) % 64 = l % 64 := by omega
  unfold turnB turn upB downB rope
  rw [show (128 * q + l) / 128 = q by omega, show (128 * q + l) % 128 = l by omega, e, kcos_eq n r l hn hr hl, ksin_eq n r l hn hr hl]
  dsimp only
  simp only [h]
  unfold laneFreq
  rcases Nat.lt_or_ge (l % 64) 8 with h8 | h8
  · simp only [if_pos h8, if_neg (show ¬(8 ≤ l % 64 ∧ l % 64 < 16) by omega)]
    rw [show (l + 8) % 128 = l + 8 by omega, mul_zero, add_zero, mul_neg, ← sub_eq_add_neg]
    rfl
  · rcases Nat.lt_or_ge (l % 64) 16 with h16 | h16
    · simp only [if_neg (show ¬l % 64 < 8 by omega), if_pos h16, if_pos (show 8 ≤ l % 64 ∧ l % 64 < 16 by omega)]
      rw [show (l + 120) % 128 = l - 8 by omega, mul_zero, add_zero, show 128 * q + (l - 8) = 128 * q + l - 8 by omega]
      rfl
    · simp only [if_neg (show ¬l % 64 < 8 by omega), if_neg (show ¬l % 64 < 16 by omega), if_neg (show ¬(8 ≤ l % 64 ∧ l % 64 < 16) by omega)]
      rw [mul_zero, mul_zero, mul_zero, add_zero, add_zero]
      have hc : Ideal.cos (0 : EReal) = 1 := by
        show ((Real.cos 0 : ℝ) : EReal) = 1
        rw [Real.cos_zero]
        rfl
      rw [hc, mul_one]

/-! ## What the body reads -/

section

variable (m : (ℓ : Loc nD τ sig) → Buf (Elt Ideal) ℓ) (c : Dev nD)

theorem region_local : V m c main_v30 = localTable := by
  unfold V
  after_reads_simp
  try simp -implicitDefEqProofs only [StableHlo.TRef.toBuf, StableHlo.TRef.ofBuf, cast_cast, cast_eq]
  clean_types
  unfold localTable hostLocal hostLanes hostHead hostFreq
  rfl

theorem region_base : V m c main_v35 = baseTable := by
  unfold V
  after_reads_simp
  try simp -implicitDefEqProofs only [StableHlo.TRef.toBuf, StableHlo.TRef.ofBuf, cast_cast, cast_eq]
  clean_types
  unfold baseTable hostBase hostLanes hostHead hostFreq
  rfl

theorem place_0 : ∀ t : Fin cfg0.N, win0_0.index t (0 : Fin 2) = t.val ∧ win0_0.index t (1 : Fin 2) = 0 :=
  (by decide +kernel : ∀ t : Fin grid0.N, _)

theorem block_0 (M : ℕ → ℕ → EReal) (h : V m c main_arg0 = mat 8192 1024 M) (t : Fin cfg0.N) :
    iblk m c 0 t = mat 512 1024 (tile t.val M) := by
  funext y
  show V m c main_arg0 (((cfg0.win 0).blk t).view.emb y) = _
  rw [h]
  have h0 : (((cfg0.win 0).blk t).view.emb y 0).val = win0_0.index t (0 : Fin 2) * 512 + 1 * (y 0).val := rfl
  have h1 : (((cfg0.win 0).blk t).view.emb y 1).val = win0_0.index t (1 : Fin 2) * 1024 + 1 * (y 1).val := rfl
  show M (((cfg0.win 0).blk t).view.emb y 0).val (((cfg0.win 0).blk t).view.emb y 1).val = M (512 * t.val + (y 0).val) (y 1).val
  rw [h0, h1, (place_0 t).1, (place_0 t).2]
  rw [show t.val * 512 + 1 * (y 0).val = 512 * t.val + (y 0).val by omega, show 0 * 1024 + 1 * (y 1).val = (y 1).val by omega]

theorem place_1 : ∀ t : Fin cfg0.N, win0_1.index t (0 : Fin 3) = 0 ∧ win0_1.index t (1 : Fin 3) = 0 ∧ win0_1.index t (2 : Fin 3) = 0 :=
  (by decide +kernel : ∀ t : Fin grid0.N, _)

theorem block_1 (M : ℕ → ℕ → ℕ → EReal) (h : V m c main_arg1 = cube 4 1024 768 M) (t : Fin cfg0.N) :
    iblk m c 1 t = cube 4 1024 768 M := by
  funext y
  show V m c main_arg1 (((cfg0.win 1).blk t).view.emb y) = _
  rw [h]
  have h0 : (((cfg0.win 1).blk t).view.emb y 0).val = win0_1.index t (0 : Fin 3) * 4 + 1 * (y 0).val := rfl
  have h1 : (((cfg0.win 1).blk t).view.emb y 1).val = win0_1.index t (1 : Fin 3) * 1024 + 1 * (y 1).val := rfl
  have h2 : (((cfg0.win 1).blk t).view.emb y 2).val = win0_1.index t (2 : Fin 3) * 768 + 1 * (y 2).val := rfl
  show M (((cfg0.win 1).blk t).view.emb y 0).val (((cfg0.win 1).blk t).view.emb y 1).val (((cfg0.win 1).blk t).view.emb y 2).val = M (y 0).val (y 1).val (y 2).val
  rw [h0, h1, h2, (place_1 t).1, (place_1 t).2.1, (place_1 t).2.2]
  rw [show 0 * 4 + 1 * (y 0).val = (y 0).val by omega, show 0 * 1024 + 1 * (y 1).val = (y 1).val by omega, show 0 * 768 + 1 * (y 2).val = (y 2).val by omega]

theorem place_2 : ∀ t : Fin cfg0.N, win0_2.index t (0 : Fin 2) = 0 ∧ win0_2.index t (1 : Fin 2) = 0 :=
  (by decide +kernel : ∀ t : Fin grid0.N, _)

theorem block_2 (M : ℕ → ℕ → EReal) (h : V m c main_v30 = mat 512 256 M) (t : Fin cfg0.N) :
    iblk m c 2 t = mat 512 256 M := by
  funext y
  show V m c main_v30 (((cfg0.win 2).blk t).view.emb y) = _
  rw [h]
  have h0 : (((cfg0.win 2).blk t).view.emb y 0).val = win0_2.index t (0 : Fin 2) * 512 + 1 * (y 0).val := rfl
  have h1 : (((cfg0.win 2).blk t).view.emb y 1).val = win0_2.index t (1 : Fin 2) * 256 + 1 * (y 1).val := rfl
  show M (((cfg0.win 2).blk t).view.emb y 0).val (((cfg0.win 2).blk t).view.emb y 1).val = M (y 0).val (y 1).val
  rw [h0, h1, (place_2 t).1, (place_2 t).2]
  rw [show 0 * 512 + 1 * (y 0).val = (y 0).val by omega, show 0 * 256 + 1 * (y 1).val = (y 1).val by omega]

theorem place_3 : ∀ t : Fin cfg0.N, win0_3.index t (0 : Fin 2) = t.val ∧ win0_3.index t (1 : Fin 2) = 0 :=
  (by decide +kernel : ∀ t : Fin grid0.N, _)

theorem block_3 (M : ℕ → ℕ → EReal) (h : V m c main_v35 = mat 128 256 M) (t : Fin cfg0.N) :
    iblk m c 3 t = mat 8 256 (fun i j => M (8 * t.val + i) j) := by
  funext y
  show V m c main_v35 (((cfg0.win 3).blk t).view.emb y) = _
  rw [h]
  have h0 : (((cfg0.win 3).blk t).view.emb y 0).val = win0_3.index t (0 : Fin 2) * 8 + 1 * (y 0).val := rfl
  have h1 : (((cfg0.win 3).blk t).view.emb y 1).val = win0_3.index t (1 : Fin 2) * 256 + 1 * (y 1).val := rfl
  show M (((cfg0.win 3).blk t).view.emb y 0).val (((cfg0.win 3).blk t).view.emb y 1).val = M (8 * t.val + (y 0).val) (y 1).val
  rw [h0, h1, (place_3 t).1, (place_3 t).2]
  rw [show t.val * 8 + 1 * (y 0).val = 8 * t.val + (y 0).val by omega, show 0 * 256 + 1 * (y 1).val = (y 1).val by omega]

theorem place_4 : ∀ t : Fin cfg0.N, win0_4.index t (0 : Fin 2) = t.val ∧ win0_4.index t (1 : Fin 2) = 0 :=
  (by decide +kernel : ∀ t : Fin grid0.N, _)

theorem place_5 : ∀ t : Fin cfg0.N, win0_5.index t (0 : Fin 2) = t.val ∧ win0_5.index t (1 : Fin 2) = 0 :=
  (by decide +kernel : ∀ t : Fin grid0.N, _)

theorem place_6 : ∀ t : Fin cfg0.N, win0_6.index t (0 : Fin 2) = t.val ∧ win0_6.index t (1 : Fin 2) = 0 :=
  (by decide +kernel : ∀ t : Fin grid0.N, _)

theorem place_7 : ∀ t : Fin cfg0.N, win0_7.index t (0 : Fin 2) = t.val ∧ win0_7.index t (1 : Fin 2) = 0 :=
  (by decide +kernel : ∀ t : Fin grid0.N, _)

theorem place_8 : ∀ t : Fin cfg0.N, win0_8.index t (0 : Fin 2) = t.val ∧ win0_8.index t (1 : Fin 2) = 0 :=
  (by decide +kernel : ∀ t : Fin grid0.N, _)

theorem place_9 : ∀ t : Fin cfg0.N, win0_9.index t (0 : Fin 2) = t.val ∧ win0_9.index t (1 : Fin 2) = 0 :=
  (by decide +kernel : ∀ t : Fin grid0.N, _)

theorem place_10 : ∀ t : Fin cfg0.N, win0_10.index t (0 : Fin 2) = t.val ∧ win0_10.index t (1 : Fin 2) = 0 :=
  (by decide +kernel : ∀ t : Fin grid0.N, _)

theorem place_11 : ∀ t : Fin cfg0.N, win0_11.index t (0 : Fin 3) = 0 ∧ win0_11.index t (1 : Fin 3) = t.val ∧ win0_11.index t (2 : Fin 3) = 0 :=
  (by decide +kernel : ∀ t : Fin grid0.N, _)

theorem place_12 : ∀ t : Fin cfg0.N, win0_12.index t (0 : Fin 3) = 0 ∧ win0_12.index t (1 : Fin 3) = t.val ∧ win0_12.index t (2 : Fin 3) = 0 :=
  (by decide +kernel : ∀ t : Fin grid0.N, _)

theorem place_13 : ∀ t : Fin cfg0.N, win0_13.index t (0 : Fin 3) = 0 ∧ win0_13.index t (1 : Fin 3) = t.val ∧ win0_13.index t (2 : Fin 3) = 0 :=
  (by decide +kernel : ∀ t : Fin grid0.N, _)

theorem place_14 : ∀ t : Fin cfg0.N, win0_14.index t (0 : Fin 3) = 0 ∧ win0_14.index t (1 : Fin 3) = t.val ∧ win0_14.index t (2 : Fin 3) = 0 :=
  (by decide +kernel : ∀ t : Fin grid0.N, _)

theorem place_15 : ∀ t : Fin cfg0.N, win0_15.index t (0 : Fin 3) = 0 ∧ win0_15.index t (1 : Fin 3) = t.val ∧ win0_15.index t (2 : Fin 3) = 0 :=
  (by decide +kernel : ∀ t : Fin grid0.N, _)

theorem place_16 : ∀ t : Fin cfg0.N, win0_16.index t (0 : Fin 3) = 0 ∧ win0_16.index t (1 : Fin 3) = t.val ∧ win0_16.index t (2 : Fin 3) = 0 :=
  (by decide +kernel : ∀ t : Fin grid0.N, _)

theorem place_17 : ∀ t : Fin cfg0.N, win0_17.index t (0 : Fin 3) = 0 ∧ win0_17.index t (1 : Fin 3) = t.val ∧ win0_17.index t (2 : Fin 3) = 0 :=
  (by decide +kernel : ∀ t : Fin grid0.N, _)

theorem place_18 : ∀ t : Fin cfg0.N, win0_18.index t (0 : Fin 3) = 0 ∧ win0_18.index t (1 : Fin 3) = t.val ∧ win0_18.index t (2 : Fin 3) = 0 :=
  (by decide +kernel : ∀ t : Fin grid0.N, _)

theorem place_19 : ∀ t : Fin cfg0.N, win0_19.index t (0 : Fin 3) = 0 ∧ win0_19.index t (1 : Fin 3) = t.val ∧ win0_19.index t (2 : Fin 3) = 0 :=
  (by decide +kernel : ∀ t : Fin grid0.N, _)

variable (U : ℕ → ℕ → EReal) (W : ℕ → ℕ → ℕ → EReal) (hU : m ((c.tc : Thread nD τ).loc main_arg0) = mat 8192 1024 U) (hW : m ((c.tc : Thread nD τ).loc main_arg1) = cube 4 1024 768 W)
include hU hW

/-- The body's four blocks at a point. -/
theorem blocks_at (t : Fin cfg0.N) : iblk m c 0 t = mat 512 1024 (tile t.val U) ∧ iblk m c 1 t = cube 4 1024 768 W ∧ iblk m c 2 t = mat 512 256 localT ∧ iblk m c 3 t = mat 8 256 (baseT t.val) :=
  ⟨block_0 m c U ((V_main_arg0 m c).trans hU) t, block_1 m c W ((V_main_arg1 m c).trans hW) t,
    block_2 m c _ ((region_local m c).trans localTable_apply) t, block_3 m c _ ((region_base m c).trans baseTable_apply) t⟩

end

end Cert.PreProj

end
-- ==== Proof.PreNatural.lean ====
module

public import proofs.«01_k».proof.Proof.PreFold

/-! # The joint projection: the arrays in the natural rows -/

@[expose] public section

noncomputable section

namespace Cert.PreProj

open Cert.Layer Cert.Kernel4Ideal Cert.Kernel4Ideal.Gen Idealize.ShloMosaic Idealize.ShloMosaic.TcCoe Idealize.SL.Sem
open Cert.Proj (tile localT baseT eighth)

section

variable (m : (ℓ : Loc nD τ sig) → Buf (Elt Ideal) ℓ) (c : Dev nD)
variable (U : ℕ → ℕ → EReal) (W : ℕ → ℕ → ℕ → EReal) (hU : m ((c.tc : Thread nD τ).loc main_arg0) = mat 8192 1024 U) (hW : m ((c.tc : Thread nD τ).loc main_arg1) = cube 4 1024 768 W)
include hU hW

theorem final_4 : (dats m 0 c).arrAt 4 cfg0.N = mat 8192 384 (ropeScaled (from' 0 (joint U W))) := by
  funext i
  have i0 : (i 0).val < 8192 := (i 0).isLt
  have i1 : (i 1).val < 384 := (i 1).isLt
  obtain ⟨n, hn, hi⟩ : ∃ n, n < 16 ∧ (i 0).val / 512 = n := ⟨_, by omega, rfl⟩
  have hlt : n < cfg0.N := lt_of_lt_of_eq hn (show 16 = cfg0.N from N_0.symm)
  have e := Cert.Kernel4Ideal.Value.blocks4 m c ⟨n, hlt⟩ ((by decide +kernel : ∀ t : Fin grid0.N, win0_4.flush t = true) _)
  obtain ⟨b0, b1, b2, b3⟩ := blocks_at m c U W hU hW ⟨n, hlt⟩
  have f : (dats m 0 c).flushed 4 ⟨n, hlt⟩ = mat 512 384 fun r l => (ropeScaled (from' 0 (joint U W))) (512 * n + r) l := by
    rw [Cert.Kernel4Ideal.Value.flushed4_A, b0, b1, b2, b3, A_4]
    funext y
    exact congrArg (· * eighth) (turnB_eq _ _ n _ _ hn (y 0).isLt fun _ => rfl)
  rw [f] at e
  have e' := congrFun e (ValueIdx.ix2 (n0 := 512) (n1 := 384) ⟨(i 0).val % 512, Nat.mod_lt _ (by decide)⟩ ⟨(i 1).val, i1⟩)
  have hi' : ((cfg0.win 4).blk ⟨n, hlt⟩).view.emb (ValueIdx.ix2 (n0 := 512) (n1 := 384) ⟨(i 0).val % 512, Nat.mod_lt _ (by decide)⟩ ⟨(i 1).val, i1⟩) = i := by
    funext a
    apply Fin.ext
    fin_cases a
    · show win0_4.index ⟨n, hlt⟩ (0 : Fin 2) * 512 + 1 * ((i 0).val % 512) = (i 0).val
      rw [(place_4 ⟨n, hlt⟩).1]
      show n * 512 + 1 * ((i 0).val % 512) = (i 0).val
      omega
    · show win0_4.index ⟨n, hlt⟩ (1 : Fin 2) * 384 + 1 * (i 1).val = (i 1).val
      rw [(place_4 ⟨n, hlt⟩).2]
      omega
  have e'' : (dats m 0 c).arrAt 4 cfg0.N (((cfg0.win 4).blk ⟨n, hlt⟩).view.emb (ValueIdx.ix2 (n0 := 512) (n1 := 384) ⟨(i 0).val % 512, Nat.mod_lt _ (by decide)⟩ ⟨(i 1).val, i1⟩))
      = (ropeScaled (from' 0 (joint U W))) (512 * n + (i 0).val % 512) (i 1).val := e'
  rw [hi', show 512 * n + (i 0).val % 512 = (i 0).val by omega] at e''
  exact e''

theorem final_5 : (dats m 0 c).arrAt 5 cfg0.N = mat 8192 128 (rope (from' 384 (joint U W))) := by
  funext i
  have i0 : (i 0).val < 8192 := (i 0).isLt
  have i1 : (i 1).val < 128 := (i 1).isLt
  obtain ⟨n, hn, hi⟩ : ∃ n, n < 16 ∧ (i 0).val / 512 = n := ⟨_, by omega, rfl⟩
  have hlt : n < cfg0.N := lt_of_lt_of_eq hn (show 16 = cfg0.N from N_0.symm)
  have e := Cert.Kernel4Ideal.Value.blocks5 m c ⟨n, hlt⟩ ((by decide +kernel : ∀ t : Fin grid0.N, win0_5.flush t = true) _)
  obtain ⟨b0, b1, b2, b3⟩ := blocks_at m c U W hU hW ⟨n, hlt⟩
  have f : (dats m 0 c).flushed 5 ⟨n, hlt⟩ = mat 512 128 fun r l => (rope (from' 384 (joint U W))) (512 * n + r) l := by
    rw [Cert.Kernel4Ideal.Value.flushed5_A, b0, b1, b2, b3, A_5]
    funext y
    exact turnB_eq _ _ n _ _ hn (y 0).isLt fun _ => rfl
  rw [f] at e
  have e' := congrFun e (ValueIdx.ix2 (n0 := 512) (n1 := 128) ⟨(i 0).val % 512, Nat.mod_lt _ (by decide)⟩ ⟨(i 1).val, i1⟩)
  have hi' : ((cfg0.win 5).blk ⟨n, hlt⟩).view.emb (ValueIdx.ix2 (n0 := 512) (n1 := 128) ⟨(i 0).val % 512, Nat.mod_lt _ (by decide)⟩ ⟨(i 1).val, i1⟩) = i := by
    funext a
    apply Fin.ext
    fin_cases a
    · show win0_5.index ⟨n, hlt⟩ (0 : Fin 2) * 512 + 1 * ((i 0).val % 512) = (i 0).val
      rw [(place_5 ⟨n, hlt⟩).1]
      show n * 512 + 1 * ((i 0).val % 512) = (i 0).val
      omega
    · show win0_5.index ⟨n, hlt⟩ (1 : Fin 2) * 128 + 1 * (i 1).val = (i 1).val
      rw [(place_5 ⟨n, hlt⟩).2]
      omega
  have e'' : (dats m 0 c).arrAt 5 cfg0.N (((cfg0.win 5).blk ⟨n, hlt⟩).view.emb (ValueIdx.ix2 (n0 := 512) (n1 := 128) ⟨(i 0).val % 512, Nat.mod_lt _ (by decide)⟩ ⟨(i 1).val, i1⟩))
      = (rope (from' 384 (joint U W))) (512 * n + (i 0).val % 512) (i 1).val := e'
  rw [hi', show 512 * n + (i 0).val % 512 = (i 0).val by omega] at e''
  exact e''

theorem final_6 : (dats m 0 c).arrAt 6 cfg0.N = mat 8192 128 (from' 512 (joint U W)) := by
  funext i
  have i0 : (i 0).val < 8192 := (i 0).isLt
  have i1 : (i 1).val < 128 := (i 1).isLt
  obtain ⟨n, hn, hi⟩ : ∃ n, n < 16 ∧ (i 0).val / 512 = n := ⟨_, by omega, rfl⟩
  have hlt : n < cfg0.N := lt_of_lt_of_eq hn (show 16 = cfg0.N from N_0.symm)
  have e := Cert.Kernel4Ideal.Value.blocks6 m c ⟨n, hlt⟩ ((by decide +kernel : ∀ t : Fin grid0.N, win0_6.flush t = true) _)
  obtain ⟨b0, b1, b2, b3⟩ := blocks_at m c U W hU hW ⟨n, hlt⟩
  have f : (dats m 0 c).flushed 6 ⟨n, hlt⟩ = mat 512 128 fun r l => (from' 512 (joint U W)) (512 * n + r) l := by
    rw [Cert.Kernel4Ideal.Value.flushed6_A, b0, b1, b2, b3, A_6]
    funext y
    exact rfl
  rw [f] at e
  have e' := congrFun e (ValueIdx.ix2 (n0 := 512) (n1 := 128) ⟨(i 0).val % 512, Nat.mod_lt _ (by decide)⟩ ⟨(i 1).val, i1⟩)
  have hi' : ((cfg0.win 6).blk ⟨n, hlt⟩).view.emb (ValueIdx.ix2 (n0 := 512) (n1 := 128) ⟨(i 0).val % 512, Nat.mod_lt _ (by decide)⟩ ⟨(i 1).val, i1⟩) = i := by
    funext a
    apply Fin.ext
    fin_cases a
    · show win0_6.index ⟨n, hlt⟩ (0 : Fin 2) * 512 + 1 * ((i 0).val % 512) = (i 0).val
      rw [(place_6 ⟨n, hlt⟩).1]
      show n * 512 + 1 * ((i 0).val % 512) = (i 0).val
      omega
    · show win0_6.index ⟨n, hlt⟩ (1 : Fin 2) * 128 + 1 * (i 1).val = (i 1).val
      rw [(place_6 ⟨n, hlt⟩).2]
      omega
  have e'' : (dats m 0 c).arrAt 6 cfg0.N (((cfg0.win 6).blk ⟨n, hlt⟩).view.emb (ValueIdx.ix2 (n0 := 512) (n1 := 128) ⟨(i 0).val % 512, Nat.mod_lt _ (by decide)⟩ ⟨(i 1).val, i1⟩))
      = (from' 512 (joint U W)) (512 * n + (i 0).val % 512) (i 1).val := e'
  rw [hi', show 512 * n + (i 0).val % 512 = (i 0).val by omega] at e''
  exact e''

theorem final_7 : (dats m 0 c).arrAt 7 cfg0.N = mat 8192 384 (from' 640 (joint U W)) := by
  funext i
  have i0 : (i 0).val < 8192 := (i 0).isLt
  have i1 : (i 1).val < 384 := (i 1).isLt
  obtain ⟨n, hn, hi⟩ : ∃ n, n < 16 ∧ (i 0).val / 512 = n := ⟨_, by omega, rfl⟩
  have hlt : n < cfg0.N := lt_of_lt_of_eq hn (show 16 = cfg0.N from N_0.symm)
  have e := Cert.Kernel4Ideal.Value.blocks7 m c ⟨n, hlt⟩ ((by decide +kernel : ∀ t : Fin grid0.N, win0_7.flush t = true) _)
  obtain ⟨b0, b1, b2, b3⟩ := blocks_at m c U W hU hW ⟨n, hlt⟩
  have f : (dats m 0 c).flushed 7 ⟨n, hlt⟩ = mat 512 384 fun r l => (from' 640 (joint U W)) (512 * n + r) l := by
    rw [Cert.Kernel4Ideal.Value.flushed7_A, b0, b1, b2, b3, A_7]
    funext y
    exact rfl
  rw [f] at e
  have e' := congrFun e (ValueIdx.ix2 (n0 := 512) (n1 := 384) ⟨(i 0).val % 512, Nat.mod_lt _ (by decide)⟩ ⟨(i 1).val, i1⟩)
  have hi' : ((cfg0.win 7).blk ⟨n, hlt⟩).view.emb (ValueIdx.ix2 (n0 := 512) (n1 := 384) ⟨(i 0).val % 512, Nat.mod_lt _ (by decide)⟩ ⟨(i 1).val, i1⟩) = i := by
    funext a
    apply Fin.ext
    fin_cases a
    · show win0_7.index ⟨n, hlt⟩ (0 : Fin 2) * 512 + 1 * ((i 0).val % 512) = (i 0).val
      rw [(place_7 ⟨n, hlt⟩).1]
      show n * 512 + 1 * ((i 0).val % 512) = (i 0).val
      omega
    · show win0_7.index ⟨n, hlt⟩ (1 : Fin 2) * 384 + 1 * (i 1).val = (i 1).val
      rw [(place_7 ⟨n, hlt⟩).2]
      omega
  have e'' : (dats m 0 c).arrAt 7 cfg0.N (((cfg0.win 7).blk ⟨n, hlt⟩).view.emb (ValueIdx.ix2 (n0 := 512) (n1 := 384) ⟨(i 0).val % 512, Nat.mod_lt _ (by decide)⟩ ⟨(i 1).val, i1⟩))
      = (from' 640 (joint U W)) (512 * n + (i 0).val % 512) (i 1).val := e'
  rw [hi', show 512 * n + (i 0).val % 512 = (i 0).val by omega] at e''
  exact e''

theorem final_8 : (dats m 0 c).arrAt 8 cfg0.N = mat 8192 384 (from' 2176 (joint U W)) := by
  funext i
  have i0 : (i 0).val < 8192 := (i 0).isLt
  have i1 : (i 1).val < 384 := (i 1).isLt
  obtain ⟨n, hn, hi⟩ : ∃ n, n < 16 ∧ (i 0).val / 512 = n := ⟨_, by omega, rfl⟩
  have hlt : n < cfg0.N := lt_of_lt_of_eq hn (show 16 = cfg0.N from N_0.symm)
  have e := Cert.Kernel4Ideal.Value.blocks8 m c ⟨n, hlt⟩ ((by decide +kernel : ∀ t : Fin grid0.N, win0_8.flush t = true) _)
  obtain ⟨b0, b1, b2, b3⟩ := blocks_at m c U W hU hW ⟨n, hlt⟩
  have f : (dats m 0 c).flushed 8 ⟨n, hlt⟩ = mat 512 384 fun r l => (from' 2176 (joint U W)) (512 * n + r) l := by
    rw [Cert.Kernel4Ideal.Value.flushed8_A, b0, b1, b2, b3, A_8]
    funext y
    exact rfl
  rw [f] at e
  have e' := congrFun e (ValueIdx.ix2 (n0 := 512) (n1 := 384) ⟨(i 0).val % 512, Nat.mod_lt _ (by decide)⟩ ⟨(i 1).val, i1⟩)
  have hi' : ((cfg0.win 8).blk ⟨n, hlt⟩).view.emb (ValueIdx.ix2 (n0 := 512) (n1 := 384) ⟨(i 0).val % 512, Nat.mod_lt _ (by decide)⟩ ⟨(i 1).val, i1⟩) = i := by
    funext a
    apply Fin.ext
    fin_cases a
    · show win0_8.index ⟨n, hlt⟩ (0 : Fin 2) * 512 + 1 * ((i 0).val % 512) = (i 0).val
      rw [(place_8 ⟨n, hlt⟩).1]
      show n * 512 + 1 * ((i 0).val % 512) = (i 0).val
      omega
    · show win0_8.index ⟨n, hlt⟩ (1 : Fin 2) * 384 + 1 * (i 1).val = (i 1).val
      rw [(place_8 ⟨n, hlt⟩).2]
      omega
  have e'' : (dats m 0 c).arrAt 8 cfg0.N (((cfg0.win 8).blk ⟨n, hlt⟩).view.emb (ValueIdx.ix2 (n0 := 512) (n1 := 384) ⟨(i 0).val % 512, Nat.mod_lt _ (by decide)⟩ ⟨(i 1).val, i1⟩))
      = (from' 2176 (joint U W)) (512 * n + (i 0).val % 512) (i 1).val := e'
  rw [hi', show 512 * n + (i 0).val % 512 = (i 0).val by omega] at e''
  exact e''

theorem final_9 : (dats m 0 c).arrAt 9 cfg0.N = mat 8192 256 (fun t c => from' 2560 (joint U W) t c * eighth) := by
  funext i
  have i0 : (i 0).val < 8192 := (i 0).isLt
  have i1 : (i 1).val < 256 := (i 1).isLt
  obtain ⟨n, hn, hi⟩ : ∃ n, n < 16 ∧ (i 0).val / 512 = n := ⟨_, by omega, rfl⟩
  have hlt : n < cfg0.N := lt_of_lt_of_eq hn (show 16 = cfg0.N from N_0.symm)
  have e := Cert.Kernel4Ideal.Value.blocks9 m c ⟨n, hlt⟩ ((by decide +kernel : ∀ t : Fin grid0.N, win0_9.flush t = true) _)
  obtain ⟨b0, b1, b2, b3⟩ := blocks_at m c U W hU hW ⟨n, hlt⟩
  have f : (dats m 0 c).flushed 9 ⟨n, hlt⟩ = mat 512 256 fun r l => (fun t c => from' 2560 (joint U W) t c * eighth) (512 * n + r) l := by
    rw [Cert.Kernel4Ideal.Value.flushed9_A, b0, b1, b2, b3, A_9]
    funext y
    exact rfl
  rw [f] at e
  have e' := congrFun e (ValueIdx.ix2 (n0 := 512) (n1 := 256) ⟨(i 0).val % 512, Nat.mod_lt _ (by decide)⟩ ⟨(i 1).val, i1⟩)
  have hi' : ((cfg0.win 9).blk ⟨n, hlt⟩).view.emb (ValueIdx.ix2 (n0 := 512) (n1 := 256) ⟨(i 0).val % 512, Nat.mod_lt _ (by decide)⟩ ⟨(i 1).val, i1⟩) = i := by
    funext a
    apply Fin.ext
    fin_cases a
    · show win0_9.index ⟨n, hlt⟩ (0 : Fin 2) * 512 + 1 * ((i 0).val % 512) = (i 0).val
      rw [(place_9 ⟨n, hlt⟩).1]
      show n * 512 + 1 * ((i 0).val % 512) = (i 0).val
      omega
    · show win0_9.index ⟨n, hlt⟩ (1 : Fin 2) * 256 + 1 * (i 1).val = (i 1).val
      rw [(place_9 ⟨n, hlt⟩).2]
      omega
  have e'' : (dats m 0 c).arrAt 9 cfg0.N (((cfg0.win 9).blk ⟨n, hlt⟩).view.emb (ValueIdx.ix2 (n0 := 512) (n1 := 256) ⟨(i 0).val % 512, Nat.mod_lt _ (by decide)⟩ ⟨(i 1).val, i1⟩))
      = (fun t c => from' 2560 (joint U W) t c * eighth) (512 * n + (i 0).val % 512) (i 1).val := e'
  rw [hi', show 512 * n + (i 0).val % 512 = (i 0).val by omega] at e''
  exact e''

theorem final_10 : (dats m 0 c).arrAt 10 cfg0.N = mat 8192 256 (from' 2816 (joint U W)) := by
  funext i
  have i0 : (i 0).val < 8192 := (i 0).isLt
  have i1 : (i 1).val < 256 := (i 1).isLt
  obtain ⟨n, hn, hi⟩ : ∃ n, n < 16 ∧ (i 0).val / 512 = n := ⟨_, by omega, rfl⟩
  have hlt : n < cfg0.N := lt_of_lt_of_eq hn (show 16 = cfg0.N from N_0.symm)
  have e := Cert.Kernel4Ideal.Value.blocks10 m c ⟨n, hlt⟩ ((by decide +kernel : ∀ t : Fin grid0.N, win0_10.flush t = true) _)
  obtain ⟨b0, b1, b2, b3⟩ := blocks_at m c U W hU hW ⟨n, hlt⟩
  have f : (dats m 0 c).flushed 10 ⟨n, hlt⟩ = mat 512 256 fun r l => (from' 2816 (joint U W)) (512 * n + r) l := by
    rw [Cert.Kernel4Ideal.Value.flushed10_A, b0, b1, b2, b3, A_10]
    funext y
    exact rfl
  rw [f] at e
  have e' := congrFun e (ValueIdx.ix2 (n0 := 512) (n1 := 256) ⟨(i 0).val % 512, Nat.mod_lt _ (by decide)⟩ ⟨(i 1).val, i1⟩)
  have hi' : ((cfg0.win 10).blk ⟨n, hlt⟩).view.emb (ValueIdx.ix2 (n0 := 512) (n1 := 256) ⟨(i 0).val % 512, Nat.mod_lt _ (by decide)⟩ ⟨(i 1).val, i1⟩) = i := by
    funext a
    apply Fin.ext
    fin_cases a
    · show win0_10.index ⟨n, hlt⟩ (0 : Fin 2) * 512 + 1 * ((i 0).val % 512) = (i 0).val
      rw [(place_10 ⟨n, hlt⟩).1]
      show n * 512 + 1 * ((i 0).val % 512) = (i 0).val
      omega
    · show win0_10.index ⟨n, hlt⟩ (1 : Fin 2) * 256 + 1 * (i 1).val = (i 1).val
      rw [(place_10 ⟨n, hlt⟩).2]
      omega
  have e'' : (dats m 0 c).arrAt 10 cfg0.N (((cfg0.win 10).blk ⟨n, hlt⟩).view.emb (ValueIdx.ix2 (n0 := 512) (n1 := 256) ⟨(i 0).val % 512, Nat.mod_lt _ (by decide)⟩ ⟨(i 1).val, i1⟩))
      = (from' 2816 (joint U W)) (512 * n + (i 0).val % 512) (i 1).val := e'
  rw [hi', show 512 * n + (i 0).val % 512 = (i 0).val by omega] at e''
  exact e''

end

end Cert.PreProj

end
-- ==== Proof.PreQueries.lean ====
module

public import proofs.«01_k».proof.Proof.PreFold

/-! # The joint projection: the arrays of the dilated queries -/

@[expose] public section

noncomputable section

namespace Cert.PreProj

open Cert.Layer Cert.Kernel4Ideal Cert.Kernel4Ideal.Gen Idealize.ShloMosaic Idealize.ShloMosaic.TcCoe Idealize.SL.Sem
open Cert.Proj (tile localT baseT eighth)

section

variable (m : (ℓ : Loc nD τ sig) → Buf (Elt Ideal) ℓ) (c : Dev nD)
variable (U : ℕ → ℕ → EReal) (W : ℕ → ℕ → ℕ → EReal) (hU : m ((c.tc : Thread nD τ).loc main_arg0) = mat 8192 1024 U) (hW : m ((c.tc : Thread nD τ).loc main_arg1) = cube 4 1024 768 W)
include hU hW

theorem final_11 : (dats m 0 c).arrAt 11 cfg0.N = cube 1 8192 384 (classes 1 (ropeScaled (from' 1024 (joint U W)))) := by
  funext i
  have i0 : (i 0).val < 1 := (i 0).isLt
  have i1 : (i 1).val < 8192 := (i 1).isLt
  have i2 : (i 2).val < 384 := (i 2).isLt
  have h512 : ∀ a r : ℕ, a < 512 → r < 1 → a * 1 + r < 512 := fun a r ha hr => by omega
  obtain ⟨n, hn, hi⟩ : ∃ n, n < 16 ∧ (i 1).val / 512 = n := ⟨_, by omega, rfl⟩
  have hlt : n < cfg0.N := lt_of_lt_of_eq hn (show 16 = cfg0.N from N_0.symm)
  have e := Cert.Kernel4Ideal.Value.blocks11 m c ⟨n, hlt⟩ ((by decide +kernel : ∀ t : Fin grid0.N, win0_11.flush t = true) _)
  obtain ⟨b0, b1, b2, b3⟩ := blocks_at m c U W hU hW ⟨n, hlt⟩
  have f : (dats m 0 c).flushed 11 ⟨n, hlt⟩ = cube 1 512 384 fun r a l => (ropeScaled (from' 1024 (joint U W))) (512 * n + (a * 1 + r)) l := by
    rw [Cert.Kernel4Ideal.Value.flushed11_A, b0, b1, b2, b3, A_11]
    funext y
    exact congrArg (· * eighth) (turnB_eq _ _ n _ _ hn (h512 _ _ (y 1).isLt (y 0).isLt) fun _ => rfl)
  rw [f] at e
  have e' := congrFun e (ValueIdx.ix3 (n0 := 1) (n1 := 512) (n2 := 384) ⟨(i 0).val, i0⟩ ⟨(i 1).val % 512, Nat.mod_lt _ (by decide)⟩ ⟨(i 2).val, i2⟩)
  have hi' : ((cfg0.win 11).blk ⟨n, hlt⟩).view.emb (ValueIdx.ix3 (n0 := 1) (n1 := 512) (n2 := 384) ⟨(i 0).val, i0⟩ ⟨(i 1).val % 512, Nat.mod_lt _ (by decide)⟩ ⟨(i 2).val, i2⟩) = i := by
    funext a
    apply Fin.ext
    fin_cases a
    · show win0_11.index ⟨n, hlt⟩ (0 : Fin 3) * 1 + 1 * (i 0).val = (i 0).val
      rw [(place_11 ⟨n, hlt⟩).1]
      omega
    · show win0_11.index ⟨n, hlt⟩ (1 : Fin 3) * 512 + 1 * ((i 1).val % 512) = (i 1).val
      rw [(place_11 ⟨n, hlt⟩).2.1]
      show n * 512 + 1 * ((i 1).val % 512) = (i 1).val
      omega
    · show win0_11.index ⟨n, hlt⟩ (2 : Fin 3) * 384 + 1 * (i 2).val = (i 2).val
      rw [(place_11 ⟨n, hlt⟩).2.2]
      omega
  have e'' : (dats m 0 c).arrAt 11 cfg0.N (((cfg0.win 11).blk ⟨n, hlt⟩).view.emb (ValueIdx.ix3 (n0 := 1) (n1 := 512) (n2 := 384) ⟨(i 0).val, i0⟩ ⟨(i 1).val % 512, Nat.mod_lt _ (by decide)⟩ ⟨(i 2).val, i2⟩))
      = (ropeScaled (from' 1024 (joint U W))) (512 * n + ((i 1).val % 512 * 1 + (i 0).val)) (i 2).val := e'
  rw [hi', show 512 * n + ((i 1).val % 512 * 1 + (i 0).val) = (i 1).val * 1 + (i 0).val by omega] at e''
  exact e''

theorem final_12 : (dats m 0 c).arrAt 12 cfg0.N = cube 4 2048 384 (classes 4 (ropeScaled (from' 1024 (joint U W)))) := by
  funext i
  have i0 : (i 0).val < 4 := (i 0).isLt
  have i1 : (i 1).val < 2048 := (i 1).isLt
  have i2 : (i 2).val < 384 := (i 2).isLt
  have h512 : ∀ a r : ℕ, a < 128 → r < 4 → a * 4 + r < 512 := fun a r ha hr => by omega
  obtain ⟨n, hn, hi⟩ : ∃ n, n < 16 ∧ (i 1).val / 128 = n := ⟨_, by omega, rfl⟩
  have hlt : n < cfg0.N := lt_of_lt_of_eq hn (show 16 = cfg0.N from N_0.symm)
  have e := Cert.Kernel4Ideal.Value.blocks12 m c ⟨n, hlt⟩ ((by decide +kernel : ∀ t : Fin grid0.N, win0_12.flush t = true) _)
  obtain ⟨b0, b1, b2, b3⟩ := blocks_at m c U W hU hW ⟨n, hlt⟩
  have f : (dats m 0 c).flushed 12 ⟨n, hlt⟩ = cube 4 128 384 fun r a l => (ropeScaled (from' 1024 (joint U W))) (512 * n + (a * 4 + r)) l := by
    rw [Cert.Kernel4Ideal.Value.flushed12_A, b0, b1, b2, b3, A_12]
    funext y
    exact congrArg (· * eighth) (turnB_eq _ _ n _ _ hn (h512 _ _ (y 1).isLt (y 0).isLt) fun _ => rfl)
  rw [f] at e
  have e' := congrFun e (ValueIdx.ix3 (n0 := 4) (n1 := 128) (n2 := 384) ⟨(i 0).val, i0⟩ ⟨(i 1).val % 128, Nat.mod_lt _ (by decide)⟩ ⟨(i 2).val, i2⟩)
  have hi' : ((cfg0.win 12).blk ⟨n, hlt⟩).view.emb (ValueIdx.ix3 (n0 := 4) (n1 := 128) (n2 := 384) ⟨(i 0).val, i0⟩ ⟨(i 1).val % 128, Nat.mod_lt _ (by decide)⟩ ⟨(i 2).val, i2⟩) = i := by
    funext a
    apply Fin.ext
    fin_cases a
    · show win0_12.index ⟨n, hlt⟩ (0 : Fin 3) * 4 + 1 * (i 0).val = (i 0).val
      rw [(place_12 ⟨n, hlt⟩).1]
      omega
    · show win0_12.index ⟨n, hlt⟩ (1 : Fin 3) * 128 + 1 * ((i 1).val % 128) = (i 1).val
      rw [(place_12 ⟨n, hlt⟩).2.1]
      show n * 128 + 1 * ((i 1).val % 128) = (i 1).val
      omega
    · show win0_12.index ⟨n, hlt⟩ (2 : Fin 3) * 384 + 1 * (i 2).val = (i 2).val
      rw [(place_12 ⟨n, hlt⟩).2.2]
      omega
  have e'' : (dats m 0 c).arrAt 12 cfg0.N (((cfg0.win 12).blk ⟨n, hlt⟩).view.emb (ValueIdx.ix3 (n0 := 4) (n1 := 128) (n2 := 384) ⟨(i 0).val, i0⟩ ⟨(i 1).val % 128, Nat.mod_lt _ (by decide)⟩ ⟨(i 2).val, i2⟩))
      = (ropeScaled (from' 1024 (joint U W))) (512 * n + ((i 1).val % 128 * 4 + (i 0).val)) (i 2).val := e'
  rw [hi', show 512 * n + ((i 1).val % 128 * 4 + (i 0).val) = (i 1).val * 4 + (i 0).val by omega] at e''
  exact e''

theorem final_13 : (dats m 0 c).arrAt 13 cfg0.N = cube 16 512 384 (classes 16 (ropeScaled (from' 1024 (joint U W)))) := by
  funext i
  have i0 : (i 0).val < 16 := (i 0).isLt
  have i1 : (i 1).val < 512 := (i 1).isLt
  have i2 : (i 2).val < 384 := (i 2).isLt
  have h512 : ∀ a r : ℕ, a < 32 → r < 16 → a * 16 + r < 512 := fun a r ha hr => by omega
  obtain ⟨n, hn, hi⟩ : ∃ n, n < 16 ∧ (i 1).val / 32 = n := ⟨_, by omega, rfl⟩
  have hlt : n < cfg0.N := lt_of_lt_of_eq hn (show 16 = cfg0.N from N_0.symm)
  have e := Cert.Kernel4Ideal.Value.blocks13 m c ⟨n, hlt⟩ ((by decide +kernel : ∀ t : Fin grid0.N, win0_13.flush t = true) _)
  obtain ⟨b0, b1, b2, b3⟩ := blocks_at m c U W hU hW ⟨n, hlt⟩
  have f : (dats m 0 c).flushed 13 ⟨n, hlt⟩ = cube 16 32 384 fun r a l => (ropeScaled (from' 1024 (joint U W))) (512 * n + (a * 16 + r)) l := by
    rw [Cert.Kernel4Ideal.Value.flushed13_A, b0, b1, b2, b3, A_13]
    funext y
    exact congrArg (· * eighth) (turnB_eq _ _ n _ _ hn (h512 _ _ (y 1).isLt (y 0).isLt) fun _ => rfl)
  rw [f] at e
  have e' := congrFun e (ValueIdx.ix3 (n0 := 16) (n1 := 32) (n2 := 384) ⟨(i 0).val, i0⟩ ⟨(i 1).val % 32, Nat.mod_lt _ (by decide)⟩ ⟨(i 2).val, i2⟩)
  have hi' : ((cfg0.win 13).blk ⟨n, hlt⟩).view.emb (ValueIdx.ix3 (n0 := 16) (n1 := 32) (n2 := 384) ⟨(i 0).val, i0⟩ ⟨(i 1).val % 32, Nat.mod_lt _ (by decide)⟩ ⟨(i 2).val, i2⟩) = i := by
    funext a
    apply Fin.ext
    fin_cases a
    · show win0_13.index ⟨n, hlt⟩ (0 : Fin 3) * 16 + 1 * (i 0).val = (i 0).val
      rw [(place_13 ⟨n, hlt⟩).1]
      omega
    · show win0_13.index ⟨n, hlt⟩ (1 : Fin 3) * 32 + 1 * ((i 1).val % 32) = (i 1).val
      rw [(place_13 ⟨n, hlt⟩).2.1]
      show n * 32 + 1 * ((i 1).val % 32) = (i 1).val
      omega
    · show win0_13.index ⟨n, hlt⟩ (2 : Fin 3) * 384 + 1 * (i 2).val = (i 2).val
      rw [(place_13 ⟨n, hlt⟩).2.2]
      omega
  have e'' : (dats m 0 c).arrAt 13 cfg0.N (((cfg0.win 13).blk ⟨n, hlt⟩).view.emb (ValueIdx.ix3 (n0 := 16) (n1 := 32) (n2 := 384) ⟨(i 0).val, i0⟩ ⟨(i 1).val % 32, Nat.mod_lt _ (by decide)⟩ ⟨(i 2).val, i2⟩))
      = (ropeScaled (from' 1024 (joint U W))) (512 * n + ((i 1).val % 32 * 16 + (i 0).val)) (i 2).val := e'
  rw [hi', show 512 * n + ((i 1).val % 32 * 16 + (i 0).val) = (i 1).val * 16 + (i 0).val by omega] at e''
  exact e''

end

end Cert.PreProj

end
-- ==== Proof.PreKeys.lean ====
module

public import proofs.«01_k».proof.Proof.PreFold

/-! # The joint projection: the arrays of the dilated keys -/

@[expose] public section

noncomputable section

namespace Cert.PreProj

open Cert.Layer Cert.Kernel4Ideal Cert.Kernel4Ideal.Gen Idealize.ShloMosaic Idealize.ShloMosaic.TcCoe Idealize.SL.Sem
open Cert.Proj (tile localT baseT eighth)

section

variable (m : (ℓ : Loc nD τ sig) → Buf (Elt Ideal) ℓ) (c : Dev nD)
variable (U : ℕ → ℕ → EReal) (W : ℕ → ℕ → ℕ → EReal) (hU : m ((c.tc : Thread nD τ).loc main_arg0) = mat 8192 1024 U) (hW : m ((c.tc : Thread nD τ).loc main_arg1) = cube 4 1024 768 W)
include hU hW

theorem final_14 : (dats m 0 c).arrAt 14 cfg0.N = cube 1 8192 384 (classes 1 (rope (from' 1408 (joint U W)))) := by
  funext i
  have i0 : (i 0).val < 1 := (i 0).isLt
  have i1 : (i 1).val < 8192 := (i 1).isLt
  have i2 : (i 2).val < 384 := (i 2).isLt
  have h512 : ∀ a r : ℕ, a < 512 → r < 1 → a * 1 + r < 512 := fun a r ha hr => by omega
  obtain ⟨n, hn, hi⟩ : ∃ n, n < 16 ∧ (i 1).val / 512 = n := ⟨_, by omega, rfl⟩
  have hlt : n < cfg0.N := lt_of_lt_of_eq hn (show 16 = cfg0.N from N_0.symm)
  have e := Cert.Kernel4Ideal.Value.blocks14 m c ⟨n, hlt⟩ ((by decide +kernel : ∀ t : Fin grid0.N, win0_14.flush t = true) _)
  obtain ⟨b0, b1, b2, b3⟩ := blocks_at m c U W hU hW ⟨n, hlt⟩
  have f : (dats m 0 c).flushed 14 ⟨n, hlt⟩ = cube 1 512 384 fun r a l => (rope (from' 1408 (joint U W))) (512 * n + (a * 1 + r)) l := by
    rw [Cert.Kernel4Ideal.Value.flushed14_A, b0, b1, b2, b3, A_14]
    funext y
    exact turnB_eq _ _ n _ _ hn (h512 _ _ (y 1).isLt (y 0).isLt) fun _ => rfl
  rw [f] at e
  have e' := congrFun e (ValueIdx.ix3 (n0 := 1) (n1 := 512) (n2 := 384) ⟨(i 0).val, i0⟩ ⟨(i 1).val % 512, Nat.mod_lt _ (by decide)⟩ ⟨(i 2).val, i2⟩)
  have hi' : ((cfg0.win 14).blk ⟨n, hlt⟩).view.emb (ValueIdx.ix3 (n0 := 1) (n1 := 512) (n2 := 384) ⟨(i 0).val, i0⟩ ⟨(i 1).val % 512, Nat.mod_lt _ (by decide)⟩ ⟨(i 2).val, i2⟩) = i := by
    funext a
    apply Fin.ext
    fin_cases a
    · show win0_14.index ⟨n, hlt⟩ (0 : Fin 3) * 1 + 1 * (i 0).val = (i 0).val
      rw [(place_14 ⟨n, hlt⟩).1]
      omega
    · show win0_14.index ⟨n, hlt⟩ (1 : Fin 3) * 512 + 1 * ((i 1).val % 512) = (i 1).val
      rw [(place_14 ⟨n, hlt⟩).2.1]
      show n * 512 + 1 * ((i 1).val % 512) = (i 1).val
      omega
    · show win0_14.index ⟨n, hlt⟩ (2 : Fin 3) * 384 + 1 * (i 2).val = (i 2).val
      rw [(place_14 ⟨n, hlt⟩).2.2]
      omega
  have e'' : (dats m 0 c).arrAt 14 cfg0.N (((cfg0.win 14).blk ⟨n, hlt⟩).view.emb (ValueIdx.ix3 (n0 := 1) (n1 := 512) (n2 := 384) ⟨(i 0).val, i0⟩ ⟨(i 1).val % 512, Nat.mod_lt _ (by decide)⟩ ⟨(i 2).val, i2⟩))
      = (rope (from' 1408 (joint U W))) (512 * n + ((i 1).val % 512 * 1 + (i 0).val)) (i 2).val := e'
  rw [hi', show 512 * n + ((i 1).val % 512 * 1 + (i 0).val) = (i 1).val * 1 + (i 0).val by omega] at e''
  exact e''

theorem final_15 : (dats m 0 c).arrAt 15 cfg0.N = cube 4 2048 384 (classes 4 (rope (from' 1408 (joint U W)))) := by
  funext i
  have i0 : (i 0).val < 4 := (i 0).isLt
  have i1 : (i 1).val < 2048 := (i 1).isLt
  have i2 : (i 2).val < 384 := (i 2).isLt
  have h512 : ∀ a r : ℕ, a < 128 → r < 4 → a * 4 + r < 512 := fun a r ha hr => by omega
  obtain ⟨n, hn, hi⟩ : ∃ n, n < 16 ∧ (i 1).val / 128 = n := ⟨_, by omega, rfl⟩
  have hlt : n < cfg0.N := lt_of_lt_of_eq hn (show 16 = cfg0.N from N_0.symm)
  have e := Cert.Kernel4Ideal.Value.blocks15 m c ⟨n, hlt⟩ ((by decide +kernel : ∀ t : Fin grid0.N, win0_15.flush t = true) _)
  obtain ⟨b0, b1, b2, b3⟩ := blocks_at m c U W hU hW ⟨n, hlt⟩
  have f : (dats m 0 c).flushed 15 ⟨n, hlt⟩ = cube 4 128 384 fun r a l => (rope (from' 1408 (joint U W))) (512 * n + (a * 4 + r)) l := by
    rw [Cert.Kernel4Ideal.Value.flushed15_A, b0, b1, b2, b3, A_15]
    funext y
    exact turnB_eq _ _ n _ _ hn (h512 _ _ (y 1).isLt (y 0).isLt) fun _ => rfl
  rw [f] at e
  have e' := congrFun e (ValueIdx.ix3 (n0 := 4) (n1 := 128) (n2 := 384) ⟨(i 0).val, i0⟩ ⟨(i 1).val % 128, Nat.mod_lt _ (by decide)⟩ ⟨(i 2).val, i2⟩)
  have hi' : ((cfg0.win 15).blk ⟨n, hlt⟩).view.emb (ValueIdx.ix3 (n0 := 4) (n1 := 128) (n2 := 384) ⟨(i 0).val, i0⟩ ⟨(i 1).val % 128, Nat.mod_lt _ (by decide)⟩ ⟨(i 2).val, i2⟩) = i := by
    funext a
    apply Fin.ext
    fin_cases a
    · show win0_15.index ⟨n, hlt⟩ (0 : Fin 3) * 4 + 1 * (i 0).val = (i 0).val
      rw [(place_15 ⟨n, hlt⟩).1]
      omega
    · show win0_15.index ⟨n, hlt⟩ (1 : Fin 3) * 128 + 1 * ((i 1).val % 128) = (i 1).val
      rw [(place_15 ⟨n, hlt⟩).2.1]
      show n * 128 + 1 * ((i 1).val % 128) = (i 1).val
      omega
    · show win0_15.index ⟨n, hlt⟩ (2 : Fin 3) * 384 + 1 * (i 2).val = (i 2).val
      rw [(place_15 ⟨n, hlt⟩).2.2]
      omega
  have e'' : (dats m 0 c).arrAt 15 cfg0.N (((cfg0.win 15).blk ⟨n, hlt⟩).view.emb (ValueIdx.ix3 (n0 := 4) (n1 := 128) (n2 := 384) ⟨(i 0).val, i0⟩ ⟨(i 1).val % 128, Nat.mod_lt _ (by decide)⟩ ⟨(i 2).val, i2⟩))
      = (rope (from' 1408 (joint U W))) (512 * n + ((i 1).val % 128 * 4 + (i 0).val)) (i 2).val := e'
  rw [hi', show 512 * n + ((i 1).val % 128 * 4 + (i 0).val) = (i 1).val * 4 + (i 0).val by omega] at e''
  exact e''

theorem final_16 : (dats m 0 c).arrAt 16 cfg0.N = cube 16 512 384 (classes 16 (rope (from' 1408 (joint U W)))) := by
  funext i
  have i0 : (i 0).val < 16 := (i 0).isLt
  have i1 : (i 1).val < 512 := (i 1).isLt
  have i2 : (i 2).val < 384 := (i 2).isLt
  have h512 : ∀ a r : ℕ, a < 32 → r < 16 → a * 16 + r < 512 := fun a r ha hr => by omega
  obtain ⟨n, hn, hi⟩ : ∃ n, n < 16 ∧ (i 1).val / 32 = n := ⟨_, by omega, rfl⟩
  have hlt : n < cfg0.N := lt_of_lt_of_eq hn (show 16 = cfg0.N from N_0.symm)
  have e := Cert.Kernel4Ideal.Value.blocks16 m c ⟨n, hlt⟩ ((by decide +kernel : ∀ t : Fin grid0.N, win0_16.flush t = true) _)
  obtain ⟨b0, b1, b2, b3⟩ := blocks_at m c U W hU hW ⟨n, hlt⟩
  have f : (dats m 0 c).flushed 16 ⟨n, hlt⟩ = cube 16 32 384 fun r a l => (rope (from' 1408 (joint U W))) (512 * n + (a * 16 + r)) l := by
    rw [Cert.Kernel4Ideal.Value.flushed16_A, b0, b1, b2, b3, A_16]
    funext y
    exact turnB_eq _ _ n _ _ hn (h512 _ _ (y 1).isLt (y 0).isLt) fun _ => rfl
  rw [f] at e
  have e' := congrFun e (ValueIdx.ix3 (n0 := 16) (n1 := 32) (n2 := 384) ⟨(i 0).val, i0⟩ ⟨(i 1).val % 32, Nat.mod_lt _ (by decide)⟩ ⟨(i 2).val, i2⟩)
  have hi' : ((cfg0.win 16).blk ⟨n, hlt⟩).view.emb (ValueIdx.ix3 (n0 := 16) (n1 := 32) (n2 := 384) ⟨(i 0).val, i0⟩ ⟨(i 1).val % 32, Nat.mod_lt _ (by decide)⟩ ⟨(i 2).val, i2⟩) = i := by
    funext a
    apply Fin.ext
    fin_cases a
    · show win0_16.index ⟨n, hlt⟩ (0 : Fin 3) * 16 + 1 * (i 0).val = (i 0).val
      rw [(place_16 ⟨n, hlt⟩).1]
      omega
    · show win0_16.index ⟨n, hlt⟩ (1 : Fin 3) * 32 + 1 * ((i 1).val % 32) = (i 1).val
      rw [(place_16 ⟨n, hlt⟩).2.1]
      show n * 32 + 1 * ((i 1).val % 32) = (i 1).val
      omega
    · show win0_16.index ⟨n, hlt⟩ (2 : Fin 3) * 384 + 1 * (i 2).val = (i 2).val
      rw [(place_16 ⟨n, hlt⟩).2.2]
      omega
  have e'' : (dats m 0 c).arrAt 16 cfg0.N (((cfg0.win 16).blk ⟨n, hlt⟩).view.emb (ValueIdx.ix3 (n0 := 16) (n1 := 32) (n2 := 384) ⟨(i 0).val, i0⟩ ⟨(i 1).val % 32, Nat.mod_lt _ (by decide)⟩ ⟨(i 2).val, i2⟩))
      = (rope (from' 1408 (joint U W))) (512 * n + ((i 1).val % 32 * 16 + (i 0).val)) (i 2).val := e'
  rw [hi', show 512 * n + ((i 1).val % 32 * 16 + (i 0).val) = (i 1).val * 16 + (i 0).val by omega] at e''
  exact e''

end

end Cert.PreProj

end
-- ==== Proof.PreValues.lean ====
module

public import proofs.«01_k».proof.Proof.PreFold

/-! # The joint projection: the arrays of the dilated values -/

@[expose] public section

noncomputable section

namespace Cert.PreProj

open Cert.Layer Cert.Kernel4Ideal Cert.Kernel4Ideal.Gen Idealize.ShloMosaic Idealize.ShloMosaic.TcCoe Idealize.SL.Sem
open Cert.Proj (tile localT baseT eighth)

section

variable (m : (ℓ : Loc nD τ sig) → Buf (Elt Ideal) ℓ) (c : Dev nD)
variable (U : ℕ → ℕ → EReal) (W : ℕ → ℕ → ℕ → EReal) (hU : m ((c.tc : Thread nD τ).loc main_arg0) = mat 8192 1024 U) (hW : m ((c.tc : Thread nD τ).loc main_arg1) = cube 4 1024 768 W)
include hU hW

theorem final_17 : (dats m 0 c).arrAt 17 cfg0.N = cube 1 8192 384 (classes 1 (from' 1792 (joint U W))) := by
  funext i
  have i0 : (i 0).val < 1 := (i 0).isLt
  have i1 : (i 1).val < 8192 := (i 1).isLt
  have i2 : (i 2).val < 384 := (i 2).isLt
  have h512 : ∀ a r : ℕ, a < 512 → r < 1 → a * 1 + r < 512 := fun a r ha hr => by omega
  obtain ⟨n, hn, hi⟩ : ∃ n, n < 16 ∧ (i 1).val / 512 = n := ⟨_, by omega, rfl⟩
  have hlt : n < cfg0.N := lt_of_lt_of_eq hn (show 16 = cfg0.N from N_0.symm)
  have e := Cert.Kernel4Ideal.Value.blocks17 m c ⟨n, hlt⟩ ((by decide +kernel : ∀ t : Fin grid0.N, win0_17.flush t = true) _)
  obtain ⟨b0, b1, b2, b3⟩ := blocks_at m c U W hU hW ⟨n, hlt⟩
  have f : (dats m 0 c).flushed 17 ⟨n, hlt⟩ = cube 1 512 384 fun r a l => (from' 1792 (joint U W)) (512 * n + (a * 1 + r)) l := by
    rw [Cert.Kernel4Ideal.Value.flushed17_A, b0, b1, b2, b3, A_17]
    funext y
    exact rfl
  rw [f] at e
  have e' := congrFun e (ValueIdx.ix3 (n0 := 1) (n1 := 512) (n2 := 384) ⟨(i 0).val, i0⟩ ⟨(i 1).val % 512, Nat.mod_lt _ (by decide)⟩ ⟨(i 2).val, i2⟩)
  have hi' : ((cfg0.win 17).blk ⟨n, hlt⟩).view.emb (ValueIdx.ix3 (n0 := 1) (n1 := 512) (n2 := 384) ⟨(i 0).val, i0⟩ ⟨(i 1).val % 512, Nat.mod_lt _ (by decide)⟩ ⟨(i 2).val, i2⟩) = i := by
    funext a
    apply Fin.ext
    fin_cases a
    · show win0_17.index ⟨n, hlt⟩ (0 : Fin 3) * 1 + 1 * (i 0).val = (i 0).val
      rw [(place_17 ⟨n, hlt⟩).1]
      omega
    · show win0_17.index ⟨n, hlt⟩ (1 : Fin 3) * 512 + 1 * ((i 1).val % 512) = (i 1).val
      rw [(place_17 ⟨n, hlt⟩).2.1]
      show n * 512 + 1 * ((i 1).val % 512) = (i 1).val
      omega
    · show win0_17.index ⟨n, hlt⟩ (2 : Fin 3) * 384 + 1 * (i 2).val = (i 2).val
      rw [(place_17 ⟨n, hlt⟩).2.2]
      omega
  have e'' : (dats m 0 c).arrAt 17 cfg0.N (((cfg0.win 17).blk ⟨n, hlt⟩).view.emb (ValueIdx.ix3 (n0 := 1) (n1 := 512) (n2 := 384) ⟨(i 0).val, i0⟩ ⟨(i 1).val % 512, Nat.mod_lt _ (by decide)⟩ ⟨(i 2).val, i2⟩))
      = (from' 1792 (joint U W)) (512 * n + ((i 1).val % 512 * 1 + (i 0).val)) (i 2).val := e'
  rw [hi', show 512 * n + ((i 1).val % 512 * 1 + (i 0).val) = (i 1).val * 1 + (i 0).val by omega] at e''
  exact e''

theorem final_18 : (dats m 0 c).arrAt 18 cfg0.N = cube 4 2048 384 (classes 4 (from' 1792 (joint U W))) := by
  funext i
  have i0 : (i 0).val < 4 := (i 0).isLt
  have i1 : (i 1).val < 2048 := (i 1).isLt
  have i2 : (i 2).val < 384 := (i 2).isLt
  have h512 : ∀ a r : ℕ, a < 128 → r < 4 → a * 4 + r < 512 := fun a r ha hr => by omega
  obtain ⟨n, hn, hi⟩ : ∃ n, n < 16 ∧ (i 1).val / 128 = n := ⟨_, by omega, rfl⟩
  have hlt : n < cfg0.N := lt_of_lt_of_eq hn (show 16 = cfg0.N from N_0.symm)
  have e := Cert.Kernel4Ideal.Value.blocks18 m c ⟨n, hlt⟩ ((by decide +kernel : ∀ t : Fin grid0.N, win0_18.flush t = true) _)
  obtain ⟨b0, b1, b2, b3⟩ := blocks_at m c U W hU hW ⟨n, hlt⟩
  have f : (dats m 0 c).flushed 18 ⟨n, hlt⟩ = cube 4 128 384 fun r a l => (from' 1792 (joint U W)) (512 * n + (a * 4 + r)) l := by
    rw [Cert.Kernel4Ideal.Value.flushed18_A, b0, b1, b2, b3, A_18]
    funext y
    exact rfl
  rw [f] at e
  have e' := congrFun e (ValueIdx.ix3 (n0 := 4) (n1 := 128) (n2 := 384) ⟨(i 0).val, i0⟩ ⟨(i 1).val % 128, Nat.mod_lt _ (by decide)⟩ ⟨(i 2).val, i2⟩)
  have hi' : ((cfg0.win 18).blk ⟨n, hlt⟩).view.emb (ValueIdx.ix3 (n0 := 4) (n1 := 128) (n2 := 384) ⟨(i 0).val, i0⟩ ⟨(i 1).val % 128, Nat.mod_lt _ (by decide)⟩ ⟨(i 2).val, i2⟩) = i := by
    funext a
    apply Fin.ext
    fin_cases a
    · show win0_18.index ⟨n, hlt⟩ (0 : Fin 3) * 4 + 1 * (i 0).val = (i 0).val
      rw [(place_18 ⟨n, hlt⟩).1]
      omega
    · show win0_18.index ⟨n, hlt⟩ (1 : Fin 3) * 128 + 1 * ((i 1).val % 128) = (i 1).val
      rw [(place_18 ⟨n, hlt⟩).2.1]
      show n * 128 + 1 * ((i 1).val % 128) = (i 1).val
      omega
    · show win0_18.index ⟨n, hlt⟩ (2 : Fin 3) * 384 + 1 * (i 2).val = (i 2).val
      rw [(place_18 ⟨n, hlt⟩).2.2]
      omega
  have e'' : (dats m 0 c).arrAt 18 cfg0.N (((cfg0.win 18).blk ⟨n, hlt⟩).view.emb (ValueIdx.ix3 (n0 := 4) (n1 := 128) (n2 := 384) ⟨(i 0).val, i0⟩ ⟨(i 1).val % 128, Nat.mod_lt _ (by decide)⟩ ⟨(i 2).val, i2⟩))
      = (from' 1792 (joint U W)) (512 * n + ((i 1).val % 128 * 4 + (i 0).val)) (i 2).val := e'
  rw [hi', show 512 * n + ((i 1).val % 128 * 4 + (i 0).val) = (i 1).val * 4 + (i 0).val by omega] at e''
  exact e''

theorem final_19 : (dats m 0 c).arrAt 19 cfg0.N = cube 16 512 384 (classes 16 (from' 1792 (joint U W))) := by
  funext i
  have i0 : (i 0).val < 16 := (i 0).isLt
  have i1 : (i 1).val < 512 := (i 1).isLt
  have i2 : (i 2).val < 384 := (i 2).isLt
  have h512 : ∀ a r : ℕ, a < 32 → r < 16 → a * 16 + r < 512 := fun a r ha hr => by omega
  obtain ⟨n, hn, hi⟩ : ∃ n, n < 16 ∧ (i 1).val / 32 = n := ⟨_, by omega, rfl⟩
  have hlt : n < cfg0.N := lt_of_lt_of_eq hn (show 16 = cfg0.N from N_0.symm)
  have e := Cert.Kernel4Ideal.Value.blocks19 m c ⟨n, hlt⟩ ((by decide +kernel : ∀ t : Fin grid0.N, win0_19.flush t = true) _)
  obtain ⟨b0, b1, b2, b3⟩ := blocks_at m c U W hU hW ⟨n, hlt⟩
  have f : (dats m 0 c).flushed 19 ⟨n, hlt⟩ = cube 16 32 384 fun r a l => (from' 1792 (joint U W)) (512 * n + (a * 16 + r)) l := by
    rw [Cert.Kernel4Ideal.Value.flushed19_A, b0, b1, b2, b3, A_19]
    funext y
    exact rfl
  rw [f] at e
  have e' := congrFun e (ValueIdx.ix3 (n0 := 16) (n1 := 32) (n2 := 384) ⟨(i 0).val, i0⟩ ⟨(i 1).val % 32, Nat.mod_lt _ (by decide)⟩ ⟨(i 2).val, i2⟩)
  have hi' : ((cfg0.win 19).blk ⟨n, hlt⟩).view.emb (ValueIdx.ix3 (n0 := 16) (n1 := 32) (n2 := 384) ⟨(i 0).val, i0⟩ ⟨(i 1).val % 32, Nat.mod_lt _ (by decide)⟩ ⟨(i 2).val, i2⟩) = i := by
    funext a
    apply Fin.ext
    fin_cases a
    · show win0_19.index ⟨n, hlt⟩ (0 : Fin 3) * 16 + 1 * (i 0).val = (i 0).val
      rw [(place_19 ⟨n, hlt⟩).1]
      omega
    · show win0_19.index ⟨n, hlt⟩ (1 : Fin 3) * 32 + 1 * ((i 1).val % 32) = (i 1).val
      rw [(place_19 ⟨n, hlt⟩).2.1]
      show n * 32 + 1 * ((i 1).val % 32) = (i 1).val
      omega
    · show win0_19.index ⟨n, hlt⟩ (2 : Fin 3) * 384 + 1 * (i 2).val = (i 2).val
      rw [(place_19 ⟨n, hlt⟩).2.2]
      omega
  have e'' : (dats m 0 c).arrAt 19 cfg0.N (((cfg0.win 19).blk ⟨n, hlt⟩).view.emb (ValueIdx.ix3 (n0 := 16) (n1 := 32) (n2 := 384) ⟨(i 0).val, i0⟩ ⟨(i 1).val % 32, Nat.mod_lt _ (by decide)⟩ ⟨(i 2).val, i2⟩))
      = (from' 1792 (joint U W)) (512 * n + ((i 1).val % 32 * 16 + (i 0).val)) (i 2).val := e'
  rw [hi', show 512 * n + ((i 1).val % 32 * 16 + (i 0).val) = (i 1).val * 16 + (i 0).val by omega] at e''
  exact e''

end

end Cert.PreProj

end
-- ==== Proof.PreProj.lean ====
/- The claims about the joint projection: what the reference's run keeps, and the agreement of the sixteen results. -/
module

public import proofs.«01_k».proof.Defs
public import proofs.«01_k».proof.Proof.Layer
public import proofs.«01_k».proof.Proof.PreReference
public import proofs.«01_k».proof.Proof.PreNatural
public import proofs.«01_k».proof.Proof.PreQueries
public import proofs.«01_k».proof.Proof.PreKeys
public import proofs.«01_k».proof.Proof.PreValues
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent

@[expose] public section

noncomputable section

namespace Cert.PreProj

open Cert.Layer Idealize.ShloMosaic Idealize.ShloMosaic.TcCoe

/-- The reference leaves its arguments and every counter as it found them. -/
theorem referenceFrame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run _ _ _).mono (fun r h => ⟨fun c => (h c).2.2.2.2.2.2.2.2.2.2.2.2.2.2.2.2, sem_eq_zero_of_no_sems rfl _⟩) (Cert.Reference4Ideal.Value.run m g)

/-! ## The results -/

section

variable (x0 : (⟨2, ![8192, 1024]⟩ : Shape).Idx → EReal) (x1 : (⟨3, ![4, 1024, 768]⟩ : Shape).Idx → EReal)
variable (m : (ℓ : Loc Cert.Kernel4Ideal.nD Cert.Kernel4Ideal.τ Cert.Kernel4Ideal.sig) → Buf (Elt Ideal) ℓ) (c : Dev Cert.Kernel4Ideal.nD)
variable (U : ℕ → ℕ → EReal) (W : ℕ → ℕ → ℕ → EReal)
variable (h0 : x0 = mat 8192 1024 U) (h1 : x1 = cube 4 1024 768 W)
variable (hU : m ((c.tc : Thread Cert.Kernel4Ideal.nD Cert.Kernel4Ideal.τ).loc Cert.Kernel4Ideal.main_arg0) = mat 8192 1024 U) (hW : m ((c.tc : Thread Cert.Kernel4Ideal.nD Cert.Kernel4Ideal.τ).loc Cert.Kernel4Ideal.main_arg1) = cube 4 1024 768 W)
include h0 h1 hU hW

theorem agree_qa : Cert.Reference4Ideal.Read.val_main_v127 (F := Ideal) x0 x1 = (Cert.Kernel4Ideal.Gen.dats m 0 c).arrAt 4 Cert.Kernel4Ideal.cfg0.N := by
  subst h0 h1
  exact (ref_qa U W).trans (final_4 m c U W hU hW).symm

theorem agree_ka : Cert.Reference4Ideal.Read.val_main_v128 (F := Ideal) x0 x1 = (Cert.Kernel4Ideal.Gen.dats m 0 c).arrAt 5 Cert.Kernel4Ideal.cfg0.N := by
  subst h0 h1
  exact (ref_ka U W).trans (final_5 m c U W hU hW).symm

theorem agree_va : Cert.Reference4Ideal.Read.val_main_v129 (F := Ideal) x0 x1 = (Cert.Kernel4Ideal.Gen.dats m 0 c).arrAt 6 Cert.Kernel4Ideal.cfg0.N := by
  subst h0 h1
  exact (ref_va U W).trans (final_6 m c U W hU hW).symm

theorem agree_ga : Cert.Reference4Ideal.Read.val_main_v130 (F := Ideal) x0 x1 = (Cert.Kernel4Ideal.Gen.dats m 0 c).arrAt 7 Cert.Kernel4Ideal.cfg0.N := by
  subst h0 h1
  exact (ref_ga U W).trans (final_7 m c U W hU hW).symm

theorem agree_gb : Cert.Reference4Ideal.Read.val_main_v131 (F := Ideal) x0 x1 = (Cert.Kernel4Ideal.Gen.dats m 0 c).arrAt 8 Cert.Kernel4Ideal.cfg0.N := by
  subst h0 h1
  exact (ref_gb U W).trans (final_8 m c U W hU hW).symm

theorem agree_qc : Cert.Reference4Ideal.Read.val_main_v132 (F := Ideal) x0 x1 = (Cert.Kernel4Ideal.Gen.dats m 0 c).arrAt 9 Cert.Kernel4Ideal.cfg0.N := by
  subst h0 h1
  exact (ref_qc U W).trans (final_9 m c U W hU hW).symm

theorem agree_gc : Cert.Reference4Ideal.Read.val_main_v133 (F := Ideal) x0 x1 = (Cert.Kernel4Ideal.Gen.dats m 0 c).arrAt 10 Cert.Kernel4Ideal.cfg0.N := by
  subst h0 h1
  exact (ref_gc U W).trans (final_10 m c U W hU hW).symm

theorem agree_qb_1 : Cert.Reference4Ideal.Read.val_main_v134 (F := Ideal) x0 x1 = (Cert.Kernel4Ideal.Gen.dats m 0 c).arrAt 11 Cert.Kernel4Ideal.cfg0.N := by
  subst h0 h1
  exact (ref_qb_1 U W).trans (final_11 m c U W hU hW).symm

theorem agree_qb_4 : Cert.Reference4Ideal.Read.val_main_v135 (F := Ideal) x0 x1 = (Cert.Kernel4Ideal.Gen.dats m 0 c).arrAt 12 Cert.Kernel4Ideal.cfg0.N := by
  subst h0 h1
  exact (ref_qb_4 U W).trans (final_12 m c U W hU hW).symm

theorem agree_qb_16 : Cert.Reference4Ideal.Read.val_main_v136 (F := Ideal) x0 x1 = (Cert.Kernel4Ideal.Gen.dats m 0 c).arrAt 13 Cert.Kernel4Ideal.cfg0.N := by
  subst h0 h1
  exact (ref_qb_16 U W).trans (final_13 m c U W hU hW).symm

theorem agree_kb_1 : Cert.Reference4Ideal.Read.val_main_v137 (F := Ideal) x0 x1 = (Cert.Kernel4Ideal.Gen.dats m 0 c).arrAt 14 Cert.Kernel4Ideal.cfg0.N := by
  subst h0 h1
  exact (ref_kb_1 U W).trans (final_14 m c U W hU hW).symm

theorem agree_kb_4 : Cert.Reference4Ideal.Read.val_main_v138 (F := Ideal) x0 x1 = (Cert.Kernel4Ideal.Gen.dats m 0 c).arrAt 15 Cert.Kernel4Ideal.cfg0.N := by
  subst h0 h1
  exact (ref_kb_4 U W).trans (final_15 m c U W hU hW).symm

theorem agree_kb_16 : Cert.Reference4Ideal.Read.val_main_v139 (F := Ideal) x0 x1 = (Cert.Kernel4Ideal.Gen.dats m 0 c).arrAt 16 Cert.Kernel4Ideal.cfg0.N := by
  subst h0 h1
  exact (ref_kb_16 U W).trans (final_16 m c U W hU hW).symm

theorem agree_vb_1 : Cert.Reference4Ideal.Read.val_main_v140 (F := Ideal) x0 x1 = (Cert.Kernel4Ideal.Gen.dats m 0 c).arrAt 17 Cert.Kernel4Ideal.cfg0.N := by
  subst h0 h1
  exact (ref_vb_1 U W).trans (final_17 m c U W hU hW).symm

theorem agree_vb_4 : Cert.Reference4Ideal.Read.val_main_v141 (F := Ideal) x0 x1 = (Cert.Kernel4Ideal.Gen.dats m 0 c).arrAt 18 Cert.Kernel4Ideal.cfg0.N := by
  subst h0 h1
  exact (ref_vb_4 U W).trans (final_18 m c U W hU hW).symm

theorem agree_vb_16 : Cert.Reference4Ideal.Read.val_main_v142 (F := Ideal) x0 x1 = (Cert.Kernel4Ideal.Gen.dats m 0 c).arrAt 19 Cert.Kernel4Ideal.cfg0.N := by
  subst h0 h1
  exact (ref_vb_16 U W).trans (final_19 m c U W hU hW).symm

end

set_option maxHeartbeats 4000000 in
/-- From equal arguments the kernel and the reference end with equal results. -/
theorem algebraic : @Cert.algebraic_Kernel4Ideal_Reference4Ideal Cert.Kernel4Ideal.Gen.facts Cert.Reference4Ideal.Gen.facts := by
  intro m g m' g' _ hargs
  refine ⟨fun c => (Cert.Kernel4Ideal.Gen.dats m 0 c).arrAt 4 Cert.Kernel4Ideal.cfg0.N,
    fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    fun c => (Cert.Kernel4Ideal.Gen.dats m 0 c).arrAt 17 Cert.Kernel4Ideal.cfg0.N,
    fun c => (Cert.Kernel4Ideal.Gen.dats m 0 c).arrAt 18 Cert.Kernel4Ideal.cfg0.N,
    fun c => (Cert.Kernel4Ideal.Gen.dats m 0 c).arrAt 19 Cert.Kernel4Ideal.cfg0.N,
    Cert.Kernel4Ideal.Value.run_blocks m g, (θ_run _ _ _).mono (fun r h c => ?_) (Cert.Reference4Ideal.Value.run m' g')⟩
  obtain ⟨e0, e1⟩ := hargs c
  obtain ⟨U, hU⟩ := exists_mat (a := 8192) (b := 1024) (m ((c.tc : Thread Cert.Kernel4Ideal.nD Cert.Kernel4Ideal.τ).loc Cert.Kernel4Ideal.main_arg0))
  obtain ⟨W, hW⟩ := exists_cube (a := 4) (b := 1024) (c := 768) (m ((c.tc : Thread Cert.Kernel4Ideal.nD Cert.Kernel4Ideal.τ).loc Cert.Kernel4Ideal.main_arg1))
  obtain ⟨r4, r5, r6, r7, r8, r9, r10, r11, r12, r13, r14, r15, r16, r17, r18, r19, rest⟩ := h c
  exact ⟨(r4.trans (Cert.Reference4Ideal.Read.val_main_v127_eq _ _)).trans (agree_qa _ _ m c U W (e0.trans hU) (e1.trans hW) hU hW),
    (r5.trans (Cert.Reference4Ideal.Read.val_main_v128_eq _ _)).trans (agree_ka _ _ m c U W (e0.trans hU) (e1.trans hW) hU hW),
    (r6.trans (Cert.Reference4Ideal.Read.val_main_v129_eq _ _)).trans (agree_va _ _ m c U W (e0.trans hU) (e1.trans hW) hU hW),
    (r7.trans (Cert.Reference4Ideal.Read.val_main_v130_eq _ _)).trans (agree_ga _ _ m c U W (e0.trans hU) (e1.trans hW) hU hW),
    (r8.trans (Cert.Reference4Ideal.Read.val_main_v131_eq _ _)).trans (agree_gb _ _ m c U W (e0.trans hU) (e1.trans hW) hU hW),
    (r9.trans (Cert.Reference4Ideal.Read.val_main_v132_eq _ _)).trans (agree_qc _ _ m c U W (e0.trans hU) (e1.trans hW) hU hW),
    (r10.trans (Cert.Reference4Ideal.Read.val_main_v133_eq _ _)).trans (agree_gc _ _ m c U W (e0.trans hU) (e1.trans hW) hU hW),
    (r11.trans (Cert.Reference4Ideal.Read.val_main_v134_eq _ _)).trans (agree_qb_1 _ _ m c U W (e0.trans hU) (e1.trans hW) hU hW),
    (r12.trans (Cert.Reference4Ideal.Read.val_main_v135_eq _ _)).trans (agree_qb_4 _ _ m c U W (e0.trans hU) (e1.trans hW) hU hW),
    (r13.trans (Cert.Reference4Ideal.Read.val_main_v136_eq _ _)).trans (agree_qb_16 _ _ m c U W (e0.trans hU) (e1.trans hW) hU hW),
    (r14.trans (Cert.Reference4Ideal.Read.val_main_v137_eq _ _)).trans (agree_kb_1 _ _ m c U W (e0.trans hU) (e1.trans hW) hU hW),
    (r15.trans (Cert.Reference4Ideal.Read.val_main_v138_eq _ _)).trans (agree_kb_4 _ _ m c U W (e0.trans hU) (e1.trans hW) hU hW),
    (r16.trans (Cert.Reference4Ideal.Read.val_main_v139_eq _ _)).trans (agree_kb_16 _ _ m c U W (e0.trans hU) (e1.trans hW) hU hW),
    (r17.trans (Cert.Reference4Ideal.Read.val_main_v140_eq _ _)).trans (agree_vb_1 _ _ m c U W (e0.trans hU) (e1.trans hW) hU hW),
    (r18.trans (Cert.Reference4Ideal.Read.val_main_v141_eq _ _)).trans (agree_vb_4 _ _ m c U W (e0.trans hU) (e1.trans hW) hU hW),
    (r19.trans (Cert.Reference4Ideal.Read.val_main_v142_eq _ _)).trans (agree_vb_16 _ _ m c U W (e0.trans hU) (e1.trans hW) hU hW),
    rest⟩

end Cert.PreProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Runs
public import proofs.«01_k».proof.Proof.Layer
public import proofs.«01_k».proof.Proof.Proj
public import proofs.«01_k».proof.Proof.PreProj
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.MemAttn.preFacts,
    fun m ρ _ => Cert.Kernel.Gen.frame m ρ, fun m ρ _ => Cert.KernelIdeal.Gen.frame m ρ, fun m ρ _ => Cert.KernelIdeal.Gen.frame m ρ,
    fun m ρ _ => Cert.MemAttn.referenceFrame m ρ, fun m ρ _ => Cert.MemAttn.referenceFrame m ρ,
    fun m ρ _ => Cert.Kernel2.Gen.frame m ρ, fun m ρ _ => Cert.Kernel2Ideal.Gen.frame m ρ, fun m ρ _ => Cert.Layer.referenceFrame m ρ,
    fun m ρ _ => Cert.Kernel3.Gen.frame m ρ, fun m ρ _ => Cert.Kernel3Ideal.Gen.frame m ρ, fun m ρ _ => Cert.Proj.referenceFrame m ρ,
    fun m ρ _ => Cert.Kernel4.Gen.frame m ρ, fun m ρ _ => Cert.Kernel4Ideal.Gen.frame m ρ, fun m ρ _ => Cert.PreProj.referenceFrame m ρ,
    trivial, Cert.MemAttn.algebraic, trivial, Cert.Layer.algebraic, trivial, Cert.Proj.algebraic, trivial, Cert.PreProj.algebraic⟩

end Cert.Proof

end
